-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attention_finite [hPre_attention_finite : Cert.Pre_attention_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attention_finite [hPre_attention_finite : Cert.Pre_attention_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attention_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_ORefIdeal (m : (ℓ : Loc Cert.ORefIdeal.nD Cert.ORefIdeal.τ Cert.ORefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_feed_forward_finite [hPre_feed_forward_finite : Cert.Pre_feed_forward_finite.Facts] (m : (ℓ : Loc Cert.FfnIdeal.nD Cert.FfnIdeal.τ Cert.FfnIdeal.sig) → Buf (Elt Ideal) ℓ) : Prop :=
  ∀ c : Dev Cert.FfnIdeal.nD,
    (Cert.Pre_feed_forward_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_feed_forward_finite [hPre_feed_forward_finite : Cert.Pre_feed_forward_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_feed_forward_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8))) = (fun _ => 1#1)

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_OFwd (m : (ℓ : Loc Cert.OFwd.nD Cert.OFwd.τ Cert.OFwd.sig) → Buf (Elt Bits) ℓ) : Prop :=
  True

def Pre_OFwdIdeal (m : (ℓ : Loc Cert.OFwdIdeal.nD Cert.OFwdIdeal.τ Cert.OFwdIdeal.sig) → Buf (Elt Ideal) ℓ) : Prop :=
  True

def Pre_OFwdRefIdeal (m : (ℓ : Loc Cert.OFwdRefIdeal.nD Cert.OFwdRefIdeal.τ Cert.OFwdRefIdeal.sig) → Buf (Elt Ideal) ℓ) : Prop :=
  True

def Pre_GFwd (m : (ℓ : Loc Cert.GFwd.nD Cert.GFwd.τ Cert.GFwd.sig) → Buf (Elt Bits) ℓ) : Prop :=
  True

def Pre_GFwdIdeal (m : (ℓ : Loc Cert.GFwdIdeal.nD Cert.GFwdIdeal.τ Cert.GFwdIdeal.sig) → Buf (Elt Ideal) ℓ) : Prop :=
  True

def Pre_GFwdRefIdeal (m : (ℓ : Loc Cert.GFwdRefIdeal.nD Cert.GFwdRefIdeal.τ Cert.GFwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attention_finite [hAttnIdeal : Cert.AttnIdeal.Facts] [hPre_attention_finite : Cert.Pre_attention_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attention_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attention_finite [hAttnRefIdeal : Cert.AttnRefIdeal.Facts] [hPre_attention_finite : Cert.Pre_attention_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attention_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1)
      ∧ r.2.mem ((c.tc : Thread Cert.O.nD Cert.O.τ).loc Cert.O.main_arg2) = m ((c.tc : Thread Cert.O.nD Cert.O.τ).loc Cert.O.main_arg2)
      ∧ r.2.mem ((c.tc : Thread Cert.O.nD Cert.O.τ).loc Cert.O.main_arg3) = m ((c.tc : Thread Cert.O.nD Cert.O.τ).loc Cert.O.main_arg3)
      ∧ r.2.mem ((c.tc : Thread Cert.O.nD Cert.O.τ).loc Cert.O.main_arg4) = m ((c.tc : Thread Cert.O.nD Cert.O.τ).loc Cert.O.main_arg4))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1)
      ∧ r.2.mem ((c.tc : Thread Cert.OIdeal.nD Cert.OIdeal.τ).loc Cert.OIdeal.main_arg2) = m ((c.tc : Thread Cert.OIdeal.nD Cert.OIdeal.τ).loc Cert.OIdeal.main_arg2)
      ∧ r.2.mem ((c.tc : Thread Cert.OIdeal.nD Cert.OIdeal.τ).loc Cert.OIdeal.main_arg3) = m ((c.tc : Thread Cert.OIdeal.nD Cert.OIdeal.τ).loc Cert.OIdeal.main_arg3)
      ∧ r.2.mem ((c.tc : Thread Cert.OIdeal.nD Cert.OIdeal.τ).loc Cert.OIdeal.main_arg4) = m ((c.tc : Thread Cert.OIdeal.nD Cert.OIdeal.τ).loc Cert.OIdeal.main_arg4))
      ∧ r.2.sem = fun _ => 0)

def quiescent_ORefIdeal [hORefIdeal : Cert.ORefIdeal.Facts] : Prop :=
  ∀ (m : (ℓ : Loc Cert.ORefIdeal.nD Cert.ORefIdeal.τ Cert.ORefIdeal.sig) → Buf (Elt Ideal) ℓ) (g : Dev Cert.ORefIdeal.nD → PrngReg), Pre_ORefIdeal m →
    θ_run (Cert.ORefIdeal.defs (F := Ideal)) (onTc (τ := Cert.ORefIdeal.τ) (Cert.ORefIdeal.main (F := Ideal))) ⟨m, fun _ => 0, g⟩ (fun r => (∀ c : Dev Cert.ORefIdeal.nD,
      r.2.mem ((c.tc : Thread Cert.ORefIdeal.nD Cert.ORefIdeal.τ).loc Cert.ORefIdeal.main_arg0) = m ((c.tc : Thread Cert.ORefIdeal.nD Cert.ORefIdeal.τ).loc Cert.ORefIdeal.main_arg0)
      ∧ r.2.mem ((c.tc : Thread Cert.ORefIdeal.nD Cert.ORefIdeal.τ).loc Cert.ORefIdeal.main_arg1) = m ((c.tc : Thread Cert.ORefIdeal.nD Cert.ORefIdeal.τ).loc Cert.ORefIdeal.main_arg1)
      ∧ r.2.mem ((c.tc : Thread Cert.ORefIdeal.nD Cert.ORefIdeal.τ).loc Cert.ORefIdeal.main_arg2) = m ((c.tc : Thread Cert.ORefIdeal.nD Cert.ORefIdeal.τ).loc Cert.ORefIdeal.main_arg2)
      ∧ r.2.mem ((c.tc : Thread Cert.ORefIdeal.nD Cert.ORefIdeal.τ).loc Cert.ORefIdeal.main_arg3) = m ((c.tc : Thread Cert.ORefIdeal.nD Cert.ORefIdeal.τ).loc Cert.ORefIdeal.main_arg3)
      ∧ r.2.mem ((c.tc : Thread Cert.ORefIdeal.nD Cert.ORefIdeal.τ).loc Cert.ORefIdeal.main_arg4) = m ((c.tc : Thread Cert.ORefIdeal.nD Cert.ORefIdeal.τ).loc Cert.ORefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnIdeal_pre_feed_forward_finite [hFfnIdeal : Cert.FfnIdeal.Facts] [hPre_feed_forward_finite : Cert.Pre_feed_forward_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_feed_forward_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_FfnRefIdeal_pre_feed_forward_finite [hFfnRefIdeal : Cert.FfnRefIdeal.Facts] [hPre_feed_forward_finite : Cert.Pre_feed_forward_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_feed_forward_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2)
      ∧ r.2.mem ((c.tc : Thread Cert.Q.nD Cert.Q.τ).loc Cert.Q.main_arg3) = m ((c.tc : Thread Cert.Q.nD Cert.Q.τ).loc Cert.Q.main_arg3)
      ∧ r.2.mem ((c.tc : Thread Cert.Q.nD Cert.Q.τ).loc Cert.Q.main_arg4) = m ((c.tc : Thread Cert.Q.nD Cert.Q.τ).loc Cert.Q.main_arg4)
      ∧ r.2.mem ((c.tc : Thread Cert.Q.nD Cert.Q.τ).loc Cert.Q.main_arg5) = m ((c.tc : Thread Cert.Q.nD Cert.Q.τ).loc Cert.Q.main_arg5)
      ∧ r.2.mem ((c.tc : Thread Cert.Q.nD Cert.Q.τ).loc Cert.Q.main_arg6) = m ((c.tc : Thread Cert.Q.nD Cert.Q.τ).loc Cert.Q.main_arg6)
      ∧ r.2.mem ((c.tc : Thread Cert.Q.nD Cert.Q.τ).loc Cert.Q.main_arg7) = m ((c.tc : Thread Cert.Q.nD Cert.Q.τ).loc Cert.Q.main_arg7)
      ∧ r.2.mem ((c.tc : Thread Cert.Q.nD Cert.Q.τ).loc Cert.Q.main_arg8) = m ((c.tc : Thread Cert.Q.nD Cert.Q.τ).loc Cert.Q.main_arg8)
      ∧ r.2.mem ((c.tc : Thread Cert.Q.nD Cert.Q.τ).loc Cert.Q.main_arg9) = m ((c.tc : Thread Cert.Q.nD Cert.Q.τ).loc Cert.Q.main_arg9)
      ∧ r.2.mem ((c.tc : Thread Cert.Q.nD Cert.Q.τ).loc Cert.Q.main_arg10) = m ((c.tc : Thread Cert.Q.nD Cert.Q.τ).loc Cert.Q.main_arg10)
      ∧ r.2.mem ((c.tc : Thread Cert.Q.nD Cert.Q.τ).loc Cert.Q.main_arg11) = m ((c.tc : Thread Cert.Q.nD Cert.Q.τ).loc Cert.Q.main_arg11)
      ∧ r.2.mem ((c.tc : Thread Cert.Q.nD Cert.Q.τ).loc Cert.Q.main_arg12) = m ((c.tc : Thread Cert.Q.nD Cert.Q.τ).loc Cert.Q.main_arg12)
      ∧ r.2.mem ((c.tc : Thread Cert.Q.nD Cert.Q.τ).loc Cert.Q.main_arg13) = m ((c.tc : Thread Cert.Q.nD Cert.Q.τ).loc Cert.Q.main_arg13))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2)
      ∧ r.2.mem ((c.tc : Thread Cert.QIdeal.nD Cert.QIdeal.τ).loc Cert.QIdeal.main_arg3) = m ((c.tc : Thread Cert.QIdeal.nD Cert.QIdeal.τ).loc Cert.QIdeal.main_arg3)
      ∧ r.2.mem ((c.tc : Thread Cert.QIdeal.nD Cert.QIdeal.τ).loc Cert.QIdeal.main_arg4) = m ((c.tc : Thread Cert.QIdeal.nD Cert.QIdeal.τ).loc Cert.QIdeal.main_arg4)
      ∧ r.2.mem ((c.tc : Thread Cert.QIdeal.nD Cert.QIdeal.τ).loc Cert.QIdeal.main_arg5) = m ((c.tc : Thread Cert.QIdeal.nD Cert.QIdeal.τ).loc Cert.QIdeal.main_arg5)
      ∧ r.2.mem ((c.tc : Thread Cert.QIdeal.nD Cert.QIdeal.τ).loc Cert.QIdeal.main_arg6) = m ((c.tc : Thread Cert.QIdeal.nD Cert.QIdeal.τ).loc Cert.QIdeal.main_arg6)
      ∧ r.2.mem ((c.tc : Thread Cert.QIdeal.nD Cert.QIdeal.τ).loc Cert.QIdeal.main_arg7) = m ((c.tc : Thread Cert.QIdeal.nD Cert.QIdeal.τ).loc Cert.QIdeal.main_arg7)
      ∧ r.2.mem ((c.tc : Thread Cert.QIdeal.nD Cert.QIdeal.τ).loc Cert.QIdeal.main_arg8) = m ((c.tc : Thread Cert.QIdeal.nD Cert.QIdeal.τ).loc Cert.QIdeal.main_arg8)
      ∧ r.2.mem ((c.tc : Thread Cert.QIdeal.nD Cert.QIdeal.τ).loc Cert.QIdeal.main_arg9) = m ((c.tc : Thread Cert.QIdeal.nD Cert.QIdeal.τ).loc Cert.QIdeal.main_arg9)
      ∧ r.2.mem ((c.tc : Thread Cert.QIdeal.nD Cert.QIdeal.τ).loc Cert.QIdeal.main_arg10) = m ((c.tc : Thread Cert.QIdeal.nD Cert.QIdeal.τ).loc Cert.QIdeal.main_arg10)
      ∧ r.2.mem ((c.tc : Thread Cert.QIdeal.nD Cert.QIdeal.τ).loc Cert.QIdeal.main_arg11) = m ((c.tc : Thread Cert.QIdeal.nD Cert.QIdeal.τ).loc Cert.QIdeal.main_arg11)
      ∧ r.2.mem ((c.tc : Thread Cert.QIdeal.nD Cert.QIdeal.τ).loc Cert.QIdeal.main_arg12) = m ((c.tc : Thread Cert.QIdeal.nD Cert.QIdeal.τ).loc Cert.QIdeal.main_arg12)
      ∧ r.2.mem ((c.tc : Thread Cert.QIdeal.nD Cert.QIdeal.τ).loc Cert.QIdeal.main_arg13) = m ((c.tc : Thread Cert.QIdeal.nD Cert.QIdeal.τ).loc Cert.QIdeal.main_arg13))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2)
      ∧ r.2.mem ((c.tc : Thread Cert.QRefIdeal.nD Cert.QRefIdeal.τ).loc Cert.QRefIdeal.main_arg3) = m ((c.tc : Thread Cert.QRefIdeal.nD Cert.QRefIdeal.τ).loc Cert.QRefIdeal.main_arg3)
      ∧ r.2.mem ((c.tc : Thread Cert.QRefIdeal.nD Cert.QRefIdeal.τ).loc Cert.QRefIdeal.main_arg4) = m ((c.tc : Thread Cert.QRefIdeal.nD Cert.QRefIdeal.τ).loc Cert.QRefIdeal.main_arg4)
      ∧ r.2.mem ((c.tc : Thread Cert.QRefIdeal.nD Cert.QRefIdeal.τ).loc Cert.QRefIdeal.main_arg5) = m ((c.tc : Thread Cert.QRefIdeal.nD Cert.QRefIdeal.τ).loc Cert.QRefIdeal.main_arg5)
      ∧ r.2.mem ((c.tc : Thread Cert.QRefIdeal.nD Cert.QRefIdeal.τ).loc Cert.QRefIdeal.main_arg6) = m ((c.tc : Thread Cert.QRefIdeal.nD Cert.QRefIdeal.τ).loc Cert.QRefIdeal.main_arg6)
      ∧ r.2.mem ((c.tc : Thread Cert.QRefIdeal.nD Cert.QRefIdeal.τ).loc Cert.QRefIdeal.main_arg7) = m ((c.tc : Thread Cert.QRefIdeal.nD Cert.QRefIdeal.τ).loc Cert.QRefIdeal.main_arg7)
      ∧ r.2.mem ((c.tc : Thread Cert.QRefIdeal.nD Cert.QRefIdeal.τ).loc Cert.QRefIdeal.main_arg8) = m ((c.tc : Thread Cert.QRefIdeal.nD Cert.QRefIdeal.τ).loc Cert.QRefIdeal.main_arg8)
      ∧ r.2.mem ((c.tc : Thread Cert.QRefIdeal.nD Cert.QRefIdeal.τ).loc Cert.QRefIdeal.main_arg9) = m ((c.tc : Thread Cert.QRefIdeal.nD Cert.QRefIdeal.τ).loc Cert.QRefIdeal.main_arg9)
      ∧ r.2.mem ((c.tc : Thread Cert.QRefIdeal.nD Cert.QRefIdeal.τ).loc Cert.QRefIdeal.main_arg10) = m ((c.tc : Thread Cert.QRefIdeal.nD Cert.QRefIdeal.τ).loc Cert.QRefIdeal.main_arg10)
      ∧ r.2.mem ((c.tc : Thread Cert.QRefIdeal.nD Cert.QRefIdeal.τ).loc Cert.QRefIdeal.main_arg11) = m ((c.tc : Thread Cert.QRefIdeal.nD Cert.QRefIdeal.τ).loc Cert.QRefIdeal.main_arg11)
      ∧ r.2.mem ((c.tc : Thread Cert.QRefIdeal.nD Cert.QRefIdeal.τ).loc Cert.QRefIdeal.main_arg12) = m ((c.tc : Thread Cert.QRefIdeal.nD Cert.QRefIdeal.τ).loc Cert.QRefIdeal.main_arg12)
      ∧ r.2.mem ((c.tc : Thread Cert.QRefIdeal.nD Cert.QRefIdeal.τ).loc Cert.QRefIdeal.main_arg13) = m ((c.tc : Thread Cert.QRefIdeal.nD Cert.QRefIdeal.τ).loc Cert.QRefIdeal.main_arg13))
      ∧ r.2.sem = fun _ => 0)

def quiescent_OFwd [hOFwd : Cert.OFwd.Facts] : Prop :=
  ∀ (m : (ℓ : Loc Cert.OFwd.nD Cert.OFwd.τ Cert.OFwd.sig) → Buf (Elt Bits) ℓ) (g : Dev Cert.OFwd.nD → PrngReg), Pre_OFwd m →
    θ_run (Cert.OFwd.defs (F := Bits)) (onTc (τ := Cert.OFwd.τ) (Cert.OFwd.main (F := Bits))) ⟨m, fun _ => 0, g⟩ (fun r => (∀ c : Dev Cert.OFwd.nD,
      r.2.mem ((c.tc : Thread Cert.OFwd.nD Cert.OFwd.τ).loc Cert.OFwd.main_arg0) = m ((c.tc : Thread Cert.OFwd.nD Cert.OFwd.τ).loc Cert.OFwd.main_arg0)
      ∧ r.2.mem ((c.tc : Thread Cert.OFwd.nD Cert.OFwd.τ).loc Cert.OFwd.main_arg1) = m ((c.tc : Thread Cert.OFwd.nD Cert.OFwd.τ).loc Cert.OFwd.main_arg1)
      ∧ r.2.mem ((c.tc : Thread Cert.OFwd.nD Cert.OFwd.τ).loc Cert.OFwd.main_arg2) = m ((c.tc : Thread Cert.OFwd.nD Cert.OFwd.τ).loc Cert.OFwd.main_arg2)
      ∧ r.2.mem ((c.tc : Thread Cert.OFwd.nD Cert.OFwd.τ).loc Cert.OFwd.main_arg3) = m ((c.tc : Thread Cert.OFwd.nD Cert.OFwd.τ).loc Cert.OFwd.main_arg3))
      ∧ r.2.sem = fun _ => 0)

def quiescent_OFwdIdeal [hOFwdIdeal : Cert.OFwdIdeal.Facts] : Prop :=
  ∀ (m : (ℓ : Loc Cert.OFwdIdeal.nD Cert.OFwdIdeal.τ Cert.OFwdIdeal.sig) → Buf (Elt Ideal) ℓ) (g : Dev Cert.OFwdIdeal.nD → PrngReg), Pre_OFwdIdeal m →
    θ_run (Cert.OFwdIdeal.defs (F := Ideal)) (onTc (τ := Cert.OFwdIdeal.τ) (Cert.OFwdIdeal.main (F := Ideal))) ⟨m, fun _ => 0, g⟩ (fun r => (∀ c : Dev Cert.OFwdIdeal.nD,
      r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
      ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1)
      ∧ r.2.mem ((c.tc : Thread Cert.OFwdIdeal.nD Cert.OFwdIdeal.τ).loc Cert.OFwdIdeal.main_arg2) = m ((c.tc : Thread Cert.OFwdIdeal.nD Cert.OFwdIdeal.τ).loc Cert.OFwdIdeal.main_arg2)
      ∧ r.2.mem ((c.tc : Thread Cert.OFwdIdeal.nD Cert.OFwdIdeal.τ).loc Cert.OFwdIdeal.main_arg3) = m ((c.tc : Thread Cert.OFwdIdeal.nD Cert.OFwdIdeal.τ).loc Cert.OFwdIdeal.main_arg3))
      ∧ r.2.sem = fun _ => 0)

def quiescent_OFwdRefIdeal [hOFwdRefIdeal : Cert.OFwdRefIdeal.Facts] : Prop :=
  ∀ (m : (ℓ : Loc Cert.OFwdRefIdeal.nD Cert.OFwdRefIdeal.τ Cert.OFwdRefIdeal.sig) → Buf (Elt Ideal) ℓ) (g : Dev Cert.OFwdRefIdeal.nD → PrngReg), Pre_OFwdRefIdeal m →
    θ_run (Cert.OFwdRefIdeal.defs (F := Ideal)) (onTc (τ := Cert.OFwdRefIdeal.τ) (Cert.OFwdRefIdeal.main (F := Ideal))) ⟨m, fun _ => 0, g⟩ (fun r => (∀ c : Dev Cert.OFwdRefIdeal.nD,
      r.2.mem ((c.tc : Thread Cert.OFwdRefIdeal.nD Cert.OFwdRefIdeal.τ).loc Cert.OFwdRefIdeal.main_arg0) = m ((c.tc : Thread Cert.OFwdRefIdeal.nD Cert.OFwdRefIdeal.τ).loc Cert.OFwdRefIdeal.main_arg0)
      ∧ r.2.mem ((c.tc : Thread Cert.OFwdRefIdeal.nD Cert.OFwdRefIdeal.τ).loc Cert.OFwdRefIdeal.main_arg1) = m ((c.tc : Thread Cert.OFwdRefIdeal.nD Cert.OFwdRefIdeal.τ).loc Cert.OFwdRefIdeal.main_arg1)
      ∧ r.2.mem ((c.tc : Thread Cert.OFwdRefIdeal.nD Cert.OFwdRefIdeal.τ).loc Cert.OFwdRefIdeal.main_arg2) = m ((c.tc : Thread Cert.OFwdRefIdeal.nD Cert.OFwdRefIdeal.τ).loc Cert.OFwdRefIdeal.main_arg2)
      ∧ r.2.mem ((c.tc : Thread Cert.OFwdRefIdeal.nD Cert.OFwdRefIdeal.τ).loc Cert.OFwdRefIdeal.main_arg3) = m ((c.tc : Thread Cert.OFwdRefIdeal.nD Cert.OFwdRefIdeal.τ).loc Cert.OFwdRefIdeal.main_arg3))
      ∧ r.2.sem = fun _ => 0)

def quiescent_GFwd [hGFwd : Cert.GFwd.Facts] : Prop :=
  ∀ (m : (ℓ : Loc Cert.GFwd.nD Cert.GFwd.τ Cert.GFwd.sig) → Buf (Elt Bits) ℓ) (g : Dev Cert.GFwd.nD → PrngReg), Pre_GFwd m →
    θ_run (Cert.GFwd.defs (F := Bits)) (onTc (τ := Cert.GFwd.τ) (Cert.GFwd.main (F := Bits))) ⟨m, fun _ => 0, g⟩ (fun r => (∀ c : Dev Cert.GFwd.nD,
      r.2.mem ((c.tc : Thread Cert.GFwd.nD Cert.GFwd.τ).loc Cert.GFwd.main_arg0) = m ((c.tc : Thread Cert.GFwd.nD Cert.GFwd.τ).loc Cert.GFwd.main_arg0)
      ∧ r.2.mem ((c.tc : Thread Cert.GFwd.nD Cert.GFwd.τ).loc Cert.GFwd.main_arg1) = m ((c.tc : Thread Cert.GFwd.nD Cert.GFwd.τ).loc Cert.GFwd.main_arg1)
      ∧ r.2.mem ((c.tc : Thread Cert.GFwd.nD Cert.GFwd.τ).loc Cert.GFwd.main_arg2) = m ((c.tc : Thread Cert.GFwd.nD Cert.GFwd.τ).loc Cert.GFwd.main_arg2)
      ∧ r.2.mem ((c.tc : Thread Cert.GFwd.nD Cert.GFwd.τ).loc Cert.GFwd.main_arg3) = m ((c.tc : Thread Cert.GFwd.nD Cert.GFwd.τ).loc Cert.GFwd.main_arg3)
      ∧ r.2.mem ((c.tc : Thread Cert.GFwd.nD Cert.GFwd.τ).loc Cert.GFwd.main_arg4) = m ((c.tc : Thread Cert.GFwd.nD Cert.GFwd.τ).loc Cert.GFwd.main_arg4))
      ∧ r.2.sem = fun _ => 0)

def quiescent_GFwdIdeal [hGFwdIdeal : Cert.GFwdIdeal.Facts] : Prop :=
  ∀ (m : (ℓ : Loc Cert.GFwdIdeal.nD Cert.GFwdIdeal.τ Cert.GFwdIdeal.sig) → Buf (Elt Ideal) ℓ) (g : Dev Cert.GFwdIdeal.nD → PrngReg), Pre_GFwdIdeal m →
    θ_run (Cert.GFwdIdeal.defs (F := Ideal)) (onTc (τ := Cert.GFwdIdeal.τ) (Cert.GFwdIdeal.main (F := Ideal))) ⟨m, fun _ => 0, g⟩ (fun r => (∀ c : Dev Cert.GFwdIdeal.nD,
      r.2.mem ((c.tc : Thread Cert.GFwdIdeal.nD Cert.GFwdIdeal.τ).loc Cert.GFwdIdeal.main_arg0) = m ((c.tc : Thread Cert.GFwdIdeal.nD Cert.GFwdIdeal.τ).loc Cert.GFwdIdeal.main_arg0)
      ∧ r.2.mem ((c.tc : Thread Cert.GFwdIdeal.nD Cert.GFwdIdeal.τ).loc Cert.GFwdIdeal.main_arg1) = m ((c.tc : Thread Cert.GFwdIdeal.nD Cert.GFwdIdeal.τ).loc Cert.GFwdIdeal.main_arg1)
      ∧ r.2.mem ((c.tc : Thread Cert.GFwdIdeal.nD Cert.GFwdIdeal.τ).loc Cert.GFwdIdeal.main_arg2) = m ((c.tc : Thread Cert.GFwdIdeal.nD Cert.GFwdIdeal.τ).loc Cert.GFwdIdeal.main_arg2)
      ∧ r.2.mem ((c.tc : Thread Cert.GFwdIdeal.nD Cert.GFwdIdeal.τ).loc Cert.GFwdIdeal.main_arg3) = m ((c.tc : Thread Cert.GFwdIdeal.nD Cert.GFwdIdeal.τ).loc Cert.GFwdIdeal.main_arg3)
      ∧ r.2.mem ((c.tc : Thread Cert.GFwdIdeal.nD Cert.GFwdIdeal.τ).loc Cert.GFwdIdeal.main_arg4) = m ((c.tc : Thread Cert.GFwdIdeal.nD Cert.GFwdIdeal.τ).loc Cert.GFwdIdeal.main_arg4))
      ∧ r.2.sem = fun _ => 0)

def quiescent_GFwdRefIdeal [hGFwdRefIdeal : Cert.GFwdRefIdeal.Facts] : Prop :=
  ∀ (m : (ℓ : Loc Cert.GFwdRefIdeal.nD Cert.GFwdRefIdeal.τ Cert.GFwdRefIdeal.sig) → Buf (Elt Ideal) ℓ) (g : Dev Cert.GFwdRefIdeal.nD → PrngReg), Pre_GFwdRefIdeal m →
    θ_run (Cert.GFwdRefIdeal.defs (F := Ideal)) (onTc (τ := Cert.GFwdRefIdeal.τ) (Cert.GFwdRefIdeal.main (F := Ideal))) ⟨m, fun _ => 0, g⟩ (fun r => (∀ c : Dev Cert.GFwdRefIdeal.nD,
      r.2.mem ((c.tc : Thread Cert.GFwdRefIdeal.nD Cert.GFwdRefIdeal.τ).loc Cert.GFwdRefIdeal.main_arg0) = m ((c.tc : Thread Cert.GFwdRefIdeal.nD Cert.GFwdRefIdeal.τ).loc Cert.GFwdRefIdeal.main_arg0)
      ∧ r.2.mem ((c.tc : Thread Cert.GFwdRefIdeal.nD Cert.GFwdRefIdeal.τ).loc Cert.GFwdRefIdeal.main_arg1) = m ((c.tc : Thread Cert.GFwdRefIdeal.nD Cert.GFwdRefIdeal.τ).loc Cert.GFwdRefIdeal.main_arg1)
      ∧ r.2.mem ((c.tc : Thread Cert.GFwdRefIdeal.nD Cert.GFwdRefIdeal.τ).loc Cert.GFwdRefIdeal.main_arg2) = m ((c.tc : Thread Cert.GFwdRefIdeal.nD Cert.GFwdRefIdeal.τ).loc Cert.GFwdRefIdeal.main_arg2)
      ∧ r.2.mem ((c.tc : Thread Cert.GFwdRefIdeal.nD Cert.GFwdRefIdeal.τ).loc Cert.GFwdRefIdeal.main_arg3) = m ((c.tc : Thread Cert.GFwdRefIdeal.nD Cert.GFwdRefIdeal.τ).loc Cert.GFwdRefIdeal.main_arg3)
      ∧ r.2.mem ((c.tc : Thread Cert.GFwdRefIdeal.nD Cert.GFwdRefIdeal.τ).loc Cert.GFwdRefIdeal.main_arg4) = m ((c.tc : Thread Cert.GFwdRefIdeal.nD Cert.GFwdRefIdeal.τ).loc Cert.GFwdRefIdeal.main_arg4))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Attn_AttnIdeal : Prop :=
  IdealRules.named_const.Statement Cert.AttnIdeal.κ "mask" .f32 0xF149F2CA#32 ⊥
  ∧ IdealRules.named_const.Statement Cert.AttnIdeal.κ "exp2_scale" .f32 0x3E16C740#32 (((Real.sqrt 96)⁻¹ * (Real.log 2)⁻¹ : ℝ) : EReal)
  ∧ IdealRules.named_const.Statement Cert.AttnIdeal.κ "scale" .f32 0x3DD105EC#32 (((Real.sqrt 96)⁻¹ : ℝ) : EReal)
  ∧ IdealRules.named_const.Statement Cert.AttnIdeal.κ "log2e" .f32 0x3FB8AA3B#32 (((Real.log 2)⁻¹ : ℝ) : EReal)

def algebraic_AttnIdeal_AttnRefIdeal_pre_attention_finite [hAttnIdeal : Cert.AttnIdeal.Facts] [hAttnRefIdeal : Cert.AttnRefIdeal.Facts] [hPre_attention_finite : Cert.Pre_attention_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attention_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v12_0)) (v1 : (c : Dev Cert.AttnIdeal.nD) → Buf (Elt Ideal) ((c.tc : Thread Cert.AttnIdeal.nD Cert.AttnIdeal.τ).loc Cert.AttnIdeal.main_v12_1)) (v2 : (c : Dev Cert.AttnIdeal.nD) → Buf (Elt Ideal) ((c.tc : Thread Cert.AttnIdeal.nD Cert.AttnIdeal.τ).loc Cert.AttnIdeal.main_v14_0)) (v3 : (c : Dev Cert.AttnIdeal.nD) → Buf (Elt Ideal) ((c.tc : Thread Cert.AttnIdeal.nD Cert.AttnIdeal.τ).loc Cert.AttnIdeal.main_v14_1)) (v4 : (c : Dev Cert.AttnIdeal.nD) → Buf (Elt Ideal) ((c.tc : Thread Cert.AttnIdeal.nD Cert.AttnIdeal.τ).loc Cert.AttnIdeal.main_v14_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v12_0) = v0 c
          ∧ r.2.mem ((c.tc : Thread Cert.AttnIdeal.nD Cert.AttnIdeal.τ).loc Cert.AttnIdeal.main_v12_1) = v1 c
          ∧ r.2.mem ((c.tc : Thread Cert.AttnIdeal.nD Cert.AttnIdeal.τ).loc Cert.AttnIdeal.main_v14_0) = v2 c
          ∧ r.2.mem ((c.tc : Thread Cert.AttnIdeal.nD Cert.AttnIdeal.τ).loc Cert.AttnIdeal.main_v14_1) = v3 c
          ∧ r.2.mem ((c.tc : Thread Cert.AttnIdeal.nD Cert.AttnIdeal.τ).loc Cert.AttnIdeal.main_v14_2) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v84) = v0 c
          ∧ r.2.mem ((c.tc : Thread Cert.AttnRefIdeal.nD Cert.AttnRefIdeal.τ).loc Cert.AttnRefIdeal.main_v85) = v1 c
          ∧ r.2.mem ((c.tc : Thread Cert.AttnRefIdeal.nD Cert.AttnRefIdeal.τ).loc Cert.AttnRefIdeal.main_v81) = v2 c
          ∧ r.2.mem ((c.tc : Thread Cert.AttnRefIdeal.nD Cert.AttnRefIdeal.τ).loc Cert.AttnRefIdeal.main_v83) = v3 c
          ∧ r.2.mem ((c.tc : Thread Cert.AttnRefIdeal.nD Cert.AttnRefIdeal.τ).loc Cert.AttnRefIdeal.main_v86) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_O_OIdeal : Prop :=
  True

def algebraic_OIdeal_ORefIdeal [hOIdeal : Cert.OIdeal.Facts] [hORefIdeal : Cert.ORefIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.ORefIdeal.nD Cert.ORefIdeal.τ Cert.ORefIdeal.sig) → Buf (Elt Ideal) ℓ) (g' : Dev Cert.ORefIdeal.nD → PrngReg), Pre_OIdeal m →
    (∀ c : Dev Cert.OIdeal.nD,
      m' ((c.tc : Thread Cert.ORefIdeal.nD Cert.ORefIdeal.τ).loc Cert.ORefIdeal.main_arg0) = m ((c.tc : Thread Cert.OIdeal.nD Cert.OIdeal.τ).loc Cert.OIdeal.main_arg0)
      ∧ m' ((c.tc : Thread Cert.ORefIdeal.nD Cert.ORefIdeal.τ).loc Cert.ORefIdeal.main_arg1) = m ((c.tc : Thread Cert.OIdeal.nD Cert.OIdeal.τ).loc Cert.OIdeal.main_arg1)
      ∧ m' ((c.tc : Thread Cert.ORefIdeal.nD Cert.ORefIdeal.τ).loc Cert.ORefIdeal.main_arg2) = m ((c.tc : Thread Cert.OIdeal.nD Cert.OIdeal.τ).loc Cert.OIdeal.main_arg2)
      ∧ m' ((c.tc : Thread Cert.ORefIdeal.nD Cert.ORefIdeal.τ).loc Cert.ORefIdeal.main_arg3) = m ((c.tc : Thread Cert.OIdeal.nD Cert.OIdeal.τ).loc Cert.OIdeal.main_arg3)
      ∧ m' ((c.tc : Thread Cert.ORefIdeal.nD Cert.ORefIdeal.τ).loc Cert.ORefIdeal.main_arg4) = m ((c.tc : Thread Cert.OIdeal.nD Cert.OIdeal.τ).loc Cert.OIdeal.main_arg4)) →
    ∃ (v0 : (c : Dev Cert.OIdeal.nD) → Buf (Elt Ideal) ((c.tc : Thread Cert.OIdeal.nD Cert.OIdeal.τ).loc Cert.OIdeal.main_v1_0)) (v1 : (c : Dev Cert.OIdeal.nD) → Buf (Elt Ideal) ((c.tc : Thread Cert.OIdeal.nD Cert.OIdeal.τ).loc Cert.OIdeal.main_v1_1)) (v2 : (c : Dev Cert.OIdeal.nD) → Buf (Elt Ideal) ((c.tc : Thread Cert.OIdeal.nD Cert.OIdeal.τ).loc Cert.OIdeal.main_v1_2)) (v3 : (c : Dev Cert.OIdeal.nD) → Buf (Elt Ideal) ((c.tc : Thread Cert.OIdeal.nD Cert.OIdeal.τ).loc Cert.OIdeal.main_v1_3)) (v4 : (c : Dev Cert.OIdeal.nD) → Buf (Elt Ideal) ((c.tc : Thread Cert.OIdeal.nD Cert.OIdeal.τ).loc Cert.OIdeal.main_v1_4)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v1_0) = v0 c
          ∧ r.2.mem ((c.tc : Thread Cert.OIdeal.nD Cert.OIdeal.τ).loc Cert.OIdeal.main_v1_1) = v1 c
          ∧ r.2.mem ((c.tc : Thread Cert.OIdeal.nD Cert.OIdeal.τ).loc Cert.OIdeal.main_v1_2) = v2 c
          ∧ r.2.mem ((c.tc : Thread Cert.OIdeal.nD Cert.OIdeal.τ).loc Cert.OIdeal.main_v1_3) = v3 c
          ∧ r.2.mem ((c.tc : Thread Cert.OIdeal.nD Cert.OIdeal.τ).loc Cert.OIdeal.main_v1_4) = v4 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1)
          ∧ r.2.mem ((c.tc : Thread Cert.OIdeal.nD Cert.OIdeal.τ).loc Cert.OIdeal.main_arg2) = m ((c.tc : Thread Cert.OIdeal.nD Cert.OIdeal.τ).loc Cert.OIdeal.main_arg2)
          ∧ r.2.mem ((c.tc : Thread Cert.OIdeal.nD Cert.OIdeal.τ).loc Cert.OIdeal.main_arg3) = m ((c.tc : Thread Cert.OIdeal.nD Cert.OIdeal.τ).loc Cert.OIdeal.main_arg3)
          ∧ r.2.mem ((c.tc : Thread Cert.OIdeal.nD Cert.OIdeal.τ).loc Cert.OIdeal.main_arg4) = m ((c.tc : Thread Cert.OIdeal.nD Cert.OIdeal.τ).loc Cert.OIdeal.main_arg4))
      ∧ θ_run (Cert.ORefIdeal.defs (F := Ideal)) (onTc (τ := Cert.ORefIdeal.τ) (Cert.ORefIdeal.main (F := Ideal))) ⟨m', fun _ => 0, g'⟩ (fun r => ∀ c : Dev Cert.ORefIdeal.nD,
          r.2.mem ((c.tc : Thread Cert.ORefIdeal.nD Cert.ORefIdeal.τ).loc Cert.ORefIdeal.main_arg4) = v0 c
          ∧ r.2.mem ((c.tc : Thread Cert.ORefIdeal.nD Cert.ORefIdeal.τ).loc Cert.ORefIdeal.main_v11) = v1 c
          ∧ r.2.mem ((c.tc : Thread Cert.ORefIdeal.nD Cert.ORefIdeal.τ).loc Cert.ORefIdeal.main_v12) = v2 c
          ∧ r.2.mem ((c.tc : Thread Cert.ORefIdeal.nD Cert.ORefIdeal.τ).loc Cert.ORefIdeal.main_v13) = v3 c
          ∧ r.2.mem ((c.tc : Thread Cert.ORefIdeal.nD Cert.ORefIdeal.τ).loc Cert.ORefIdeal.main_v9) = v4 c
          ∧ r.2.mem ((c.tc : Thread Cert.ORefIdeal.nD Cert.ORefIdeal.τ).loc Cert.ORefIdeal.main_arg0) = m' ((c.tc : Thread Cert.ORefIdeal.nD Cert.ORefIdeal.τ).loc Cert.ORefIdeal.main_arg0)
          ∧ r.2.mem ((c.tc : Thread Cert.ORefIdeal.nD Cert.ORefIdeal.τ).loc Cert.ORefIdeal.main_arg1) = m' ((c.tc : Thread Cert.ORefIdeal.nD Cert.ORefIdeal.τ).loc Cert.ORefIdeal.main_arg1)
          ∧ r.2.mem ((c.tc : Thread Cert.ORefIdeal.nD Cert.ORefIdeal.τ).loc Cert.ORefIdeal.main_arg2) = m' ((c.tc : Thread Cert.ORefIdeal.nD Cert.ORefIdeal.τ).loc Cert.ORefIdeal.main_arg2)
          ∧ r.2.mem ((c.tc : Thread Cert.ORefIdeal.nD Cert.ORefIdeal.τ).loc Cert.ORefIdeal.main_arg3) = m' ((c.tc : Thread Cert.ORefIdeal.nD Cert.ORefIdeal.τ).loc Cert.ORefIdeal.main_arg3)
          ∧ r.2.mem ((c.tc : Thread Cert.ORefIdeal.nD Cert.ORefIdeal.τ).loc Cert.ORefIdeal.main_arg4) = m' ((c.tc : Thread Cert.ORefIdeal.nD Cert.ORefIdeal.τ).loc Cert.ORefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)
      ∧ m' ((c.tc : Thread Cert.GluRefIdeal.nD Cert.GluRefIdeal.τ).loc Cert.GluRefIdeal.main_arg5) = m ((c.tc : Thread Cert.GluIdeal.nD Cert.GluIdeal.τ).loc Cert.GluIdeal.main_arg5)) →
    ∃ (v0 : (c : Dev Cert.GluIdeal.nD) → Buf (Elt Ideal) ((c.tc : Thread Cert.GluIdeal.nD Cert.GluIdeal.τ).loc Cert.GluIdeal.main_v2_0)) (v1 : (c : Dev Cert.GluIdeal.nD) → Buf (Elt Ideal) ((c.tc : Thread Cert.GluIdeal.nD Cert.GluIdeal.τ).loc Cert.GluIdeal.main_v2_1)) (v2 : (c : Dev Cert.GluIdeal.nD) → Buf (Elt Ideal) ((c.tc : Thread Cert.GluIdeal.nD Cert.GluIdeal.τ).loc Cert.GluIdeal.main_v2_2)) (v3 : (c : Dev Cert.GluIdeal.nD) → Buf (Elt Ideal) ((c.tc : Thread Cert.GluIdeal.nD Cert.GluIdeal.τ).loc Cert.GluIdeal.main_v2_3)) (v4 : (c : Dev Cert.GluIdeal.nD) → Buf (Elt Ideal) ((c.tc : Thread Cert.GluIdeal.nD Cert.GluIdeal.τ).loc Cert.GluIdeal.main_v2_4)) (v5 : (c : Dev Cert.GluIdeal.nD) → Buf (Elt Ideal) ((c.tc : Thread Cert.GluIdeal.nD Cert.GluIdeal.τ).loc Cert.GluIdeal.main_v2_5)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2_0) = v0 c
          ∧ r.2.mem ((c.tc : Thread Cert.GluIdeal.nD Cert.GluIdeal.τ).loc Cert.GluIdeal.main_v2_1) = v1 c
          ∧ r.2.mem ((c.tc : Thread Cert.GluIdeal.nD Cert.GluIdeal.τ).loc Cert.GluIdeal.main_v2_2) = v2 c
          ∧ r.2.mem ((c.tc : Thread Cert.GluIdeal.nD Cert.GluIdeal.τ).loc Cert.GluIdeal.main_v2_3) = v3 c
          ∧ r.2.mem ((c.tc : Thread Cert.GluIdeal.nD Cert.GluIdeal.τ).loc Cert.GluIdeal.main_v2_4) = v4 c
          ∧ r.2.mem ((c.tc : Thread Cert.GluIdeal.nD Cert.GluIdeal.τ).loc Cert.GluIdeal.main_v2_5) = v5 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_arg5) = v0 c
          ∧ r.2.mem ((c.tc : Thread Cert.GluRefIdeal.nD Cert.GluRefIdeal.τ).loc Cert.GluRefIdeal.main_v61) = v1 c
          ∧ r.2.mem ((c.tc : Thread Cert.GluRefIdeal.nD Cert.GluRefIdeal.τ).loc Cert.GluRefIdeal.main_v69) = v2 c
          ∧ r.2.mem ((c.tc : Thread Cert.GluRefIdeal.nD Cert.GluRefIdeal.τ).loc Cert.GluRefIdeal.main_v70) = v3 c
          ∧ r.2.mem ((c.tc : Thread Cert.GluRefIdeal.nD Cert.GluRefIdeal.τ).loc Cert.GluRefIdeal.main_v43) = v4 c
          ∧ r.2.mem ((c.tc : Thread Cert.GluRefIdeal.nD Cert.GluRefIdeal.τ).loc Cert.GluRefIdeal.main_v71) = v5 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4)
          ∧ r.2.mem ((c.tc : Thread Cert.GluRefIdeal.nD Cert.GluRefIdeal.τ).loc Cert.GluRefIdeal.main_arg5) = m' ((c.tc : Thread Cert.GluRefIdeal.nD Cert.GluRefIdeal.τ).loc Cert.GluRefIdeal.main_arg5))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v18_0)) (v1 : (c : Dev Cert.PrepIdeal.nD) → Buf (Elt Ideal) ((c.tc : Thread Cert.PrepIdeal.nD Cert.PrepIdeal.τ).loc Cert.PrepIdeal.main_v18_1)) (v2 : (c : Dev Cert.PrepIdeal.nD) → Buf (Elt Ideal) ((c.tc : Thread Cert.PrepIdeal.nD Cert.PrepIdeal.τ).loc Cert.PrepIdeal.main_v18_2)) (v3 : (c : Dev Cert.PrepIdeal.nD) → Buf (Elt Ideal) ((c.tc : Thread Cert.PrepIdeal.nD Cert.PrepIdeal.τ).loc Cert.PrepIdeal.main_v18_3)) (v4 : (c : Dev Cert.PrepIdeal.nD) → Buf (Elt Ideal) ((c.tc : Thread Cert.PrepIdeal.nD Cert.PrepIdeal.τ).loc Cert.PrepIdeal.main_v18_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v18_0) = v0 c
          ∧ r.2.mem ((c.tc : Thread Cert.PrepIdeal.nD Cert.PrepIdeal.τ).loc Cert.PrepIdeal.main_v18_1) = v1 c
          ∧ r.2.mem ((c.tc : Thread Cert.PrepIdeal.nD Cert.PrepIdeal.τ).loc Cert.PrepIdeal.main_v18_2) = v2 c
          ∧ r.2.mem ((c.tc : Thread Cert.PrepIdeal.nD Cert.PrepIdeal.τ).loc Cert.PrepIdeal.main_v18_3) = v3 c
          ∧ r.2.mem ((c.tc : Thread Cert.PrepIdeal.nD Cert.PrepIdeal.τ).loc Cert.PrepIdeal.main_v18_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v143) = v0 c
          ∧ r.2.mem ((c.tc : Thread Cert.PrepRefIdeal.nD Cert.PrepRefIdeal.τ).loc Cert.PrepRefIdeal.main_v144) = v1 c
          ∧ r.2.mem ((c.tc : Thread Cert.PrepRefIdeal.nD Cert.PrepRefIdeal.τ).loc Cert.PrepRefIdeal.main_v145) = v2 c
          ∧ r.2.mem ((c.tc : Thread Cert.PrepRefIdeal.nD Cert.PrepRefIdeal.τ).loc Cert.PrepRefIdeal.main_v147) = v3 c
          ∧ r.2.mem ((c.tc : Thread Cert.PrepRefIdeal.nD Cert.PrepRefIdeal.τ).loc Cert.PrepRefIdeal.main_v149) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_Ffn_FfnIdeal : Prop :=
  True

def algebraic_FfnIdeal_FfnRefIdeal_pre_feed_forward_finite [hFfnIdeal : Cert.FfnIdeal.Facts] [hFfnRefIdeal : Cert.FfnRefIdeal.Facts] [hPre_feed_forward_finite : Cert.Pre_feed_forward_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_feed_forward_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v13_0)) (v1 : (c : Dev Cert.FfnIdeal.nD) → Buf (Elt Ideal) ((c.tc : Thread Cert.FfnIdeal.nD Cert.FfnIdeal.τ).loc Cert.FfnIdeal.main_v14_0)) (v2 : (c : Dev Cert.FfnIdeal.nD) → Buf (Elt Ideal) ((c.tc : Thread Cert.FfnIdeal.nD Cert.FfnIdeal.τ).loc Cert.FfnIdeal.main_v17)) (v3 : (c : Dev Cert.FfnIdeal.nD) → Buf (Elt Ideal) ((c.tc : Thread Cert.FfnIdeal.nD Cert.FfnIdeal.τ).loc Cert.FfnIdeal.main_v20)) (v4 : (c : Dev Cert.FfnIdeal.nD) → Buf (Elt Ideal) ((c.tc : Thread Cert.FfnIdeal.nD Cert.FfnIdeal.τ).loc Cert.FfnIdeal.main_v14_3)) (v5 : (c : Dev Cert.FfnIdeal.nD) → Buf (Elt Ideal) ((c.tc : Thread Cert.FfnIdeal.nD Cert.FfnIdeal.τ).loc Cert.FfnIdeal.main_v14_4)) (v6 : (c : Dev Cert.FfnIdeal.nD) → Buf (Elt Ideal) ((c.tc : Thread Cert.FfnIdeal.nD Cert.FfnIdeal.τ).loc Cert.FfnIdeal.main_v23)) (v7 : (c : Dev Cert.FfnIdeal.nD) → Buf (Elt Ideal) ((c.tc : Thread Cert.FfnIdeal.nD Cert.FfnIdeal.τ).loc Cert.FfnIdeal.main_v14_6)) (v8 : (c : Dev Cert.FfnIdeal.nD) → Buf (Elt Ideal) ((c.tc : Thread Cert.FfnIdeal.nD Cert.FfnIdeal.τ).loc Cert.FfnIdeal.main_v14_7)) (v9 : (c : Dev Cert.FfnIdeal.nD) → Buf (Elt Ideal) ((c.tc : Thread Cert.FfnIdeal.nD Cert.FfnIdeal.τ).loc Cert.FfnIdeal.main_v14_8)) (v10 : (c : Dev Cert.FfnIdeal.nD) → Buf (Elt Ideal) ((c.tc : Thread Cert.FfnIdeal.nD Cert.FfnIdeal.τ).loc Cert.FfnIdeal.main_v14_9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13_0) = v0 c
          ∧ r.2.mem ((c.tc : Thread Cert.FfnIdeal.nD Cert.FfnIdeal.τ).loc Cert.FfnIdeal.main_v14_0) = v1 c
          ∧ r.2.mem ((c.tc : Thread Cert.FfnIdeal.nD Cert.FfnIdeal.τ).loc Cert.FfnIdeal.main_v17) = v2 c
          ∧ r.2.mem ((c.tc : Thread Cert.FfnIdeal.nD Cert.FfnIdeal.τ).loc Cert.FfnIdeal.main_v20) = v3 c
          ∧ r.2.mem ((c.tc : Thread Cert.FfnIdeal.nD Cert.FfnIdeal.τ).loc Cert.FfnIdeal.main_v14_3) = v4 c
          ∧ r.2.mem ((c.tc : Thread Cert.FfnIdeal.nD Cert.FfnIdeal.τ).loc Cert.FfnIdeal.main_v14_4) = v5 c
          ∧ r.2.mem ((c.tc : Thread Cert.FfnIdeal.nD Cert.FfnIdeal.τ).loc Cert.FfnIdeal.main_v23) = v6 c
          ∧ r.2.mem ((c.tc : Thread Cert.FfnIdeal.nD Cert.FfnIdeal.τ).loc Cert.FfnIdeal.main_v14_6) = v7 c
          ∧ r.2.mem ((c.tc : Thread Cert.FfnIdeal.nD Cert.FfnIdeal.τ).loc Cert.FfnIdeal.main_v14_7) = v8 c
          ∧ r.2.mem ((c.tc : Thread Cert.FfnIdeal.nD Cert.FfnIdeal.τ).loc Cert.FfnIdeal.main_v14_8) = v9 c
          ∧ r.2.mem ((c.tc : Thread Cert.FfnIdeal.nD Cert.FfnIdeal.τ).loc Cert.FfnIdeal.main_v14_9) = v10 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_v73) = v1 c
          ∧ r.2.mem ((c.tc : Thread Cert.FfnRefIdeal.nD Cert.FfnRefIdeal.τ).loc Cert.FfnRefIdeal.main_v74) = v2 c
          ∧ r.2.mem ((c.tc : Thread Cert.FfnRefIdeal.nD Cert.FfnRefIdeal.τ).loc Cert.FfnRefIdeal.main_v75) = v3 c
          ∧ r.2.mem ((c.tc : Thread Cert.FfnRefIdeal.nD Cert.FfnRefIdeal.τ).loc Cert.FfnRefIdeal.main_v76) = v4 c
          ∧ r.2.mem ((c.tc : Thread Cert.FfnRefIdeal.nD Cert.FfnRefIdeal.τ).loc Cert.FfnRefIdeal.main_v77) = v5 c
          ∧ r.2.mem ((c.tc : Thread Cert.FfnRefIdeal.nD Cert.FfnRefIdeal.τ).loc Cert.FfnRefIdeal.main_v78) = v6 c
          ∧ r.2.mem ((c.tc : Thread Cert.FfnRefIdeal.nD Cert.FfnRefIdeal.τ).loc Cert.FfnRefIdeal.main_v79) = v7 c
          ∧ r.2.mem ((c.tc : Thread Cert.FfnRefIdeal.nD Cert.FfnRefIdeal.τ).loc Cert.FfnRefIdeal.main_v47) = v8 c
          ∧ r.2.mem ((c.tc : Thread Cert.FfnRefIdeal.nD Cert.FfnRefIdeal.τ).loc Cert.FfnRefIdeal.main_v50) = v9 c
          ∧ r.2.mem ((c.tc : Thread Cert.FfnRefIdeal.nD Cert.FfnRefIdeal.τ).loc Cert.FfnRefIdeal.main_v35) = v10 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)
      ∧ m' ((c.tc : Thread Cert.QRefIdeal.nD Cert.QRefIdeal.τ).loc Cert.QRefIdeal.main_arg2) = m ((c.tc : Thread Cert.QIdeal.nD Cert.QIdeal.τ).loc Cert.QIdeal.main_arg2)
      ∧ m' ((c.tc : Thread Cert.QRefIdeal.nD Cert.QRefIdeal.τ).loc Cert.QRefIdeal.main_arg3) = m ((c.tc : Thread Cert.QIdeal.nD Cert.QIdeal.τ).loc Cert.QIdeal.main_arg3)
      ∧ m' ((c.tc : Thread Cert.QRefIdeal.nD Cert.QRefIdeal.τ).loc Cert.QRefIdeal.main_arg4) = m ((c.tc : Thread Cert.QIdeal.nD Cert.QIdeal.τ).loc Cert.QIdeal.main_arg4)
      ∧ m' ((c.tc : Thread Cert.QRefIdeal.nD Cert.QRefIdeal.τ).loc Cert.QRefIdeal.main_arg5) = m ((c.tc : Thread Cert.QIdeal.nD Cert.QIdeal.τ).loc Cert.QIdeal.main_arg5)
      ∧ m' ((c.tc : Thread Cert.QRefIdeal.nD Cert.QRefIdeal.τ).loc Cert.QRefIdeal.main_arg6) = m ((c.tc : Thread Cert.QIdeal.nD Cert.QIdeal.τ).loc Cert.QIdeal.main_arg6)
      ∧ m' ((c.tc : Thread Cert.QRefIdeal.nD Cert.QRefIdeal.τ).loc Cert.QRefIdeal.main_arg7) = m ((c.tc : Thread Cert.QIdeal.nD Cert.QIdeal.τ).loc Cert.QIdeal.main_arg7)
      ∧ m' ((c.tc : Thread Cert.QRefIdeal.nD Cert.QRefIdeal.τ).loc Cert.QRefIdeal.main_arg8) = m ((c.tc : Thread Cert.QIdeal.nD Cert.QIdeal.τ).loc Cert.QIdeal.main_arg8)
      ∧ m' ((c.tc : Thread Cert.QRefIdeal.nD Cert.QRefIdeal.τ).loc Cert.QRefIdeal.main_arg9) = m ((c.tc : Thread Cert.QIdeal.nD Cert.QIdeal.τ).loc Cert.QIdeal.main_arg9)
      ∧ m' ((c.tc : Thread Cert.QRefIdeal.nD Cert.QRefIdeal.τ).loc Cert.QRefIdeal.main_arg10) = m ((c.tc : Thread Cert.QIdeal.nD Cert.QIdeal.τ).loc Cert.QIdeal.main_arg10)
      ∧ m' ((c.tc : Thread Cert.QRefIdeal.nD Cert.QRefIdeal.τ).loc Cert.QRefIdeal.main_arg11) = m ((c.tc : Thread Cert.QIdeal.nD Cert.QIdeal.τ).loc Cert.QIdeal.main_arg11)
      ∧ m' ((c.tc : Thread Cert.QRefIdeal.nD Cert.QRefIdeal.τ).loc Cert.QRefIdeal.main_arg12) = m ((c.tc : Thread Cert.QIdeal.nD Cert.QIdeal.τ).loc Cert.QIdeal.main_arg12)
      ∧ m' ((c.tc : Thread Cert.QRefIdeal.nD Cert.QRefIdeal.τ).loc Cert.QRefIdeal.main_arg13) = m ((c.tc : Thread Cert.QIdeal.nD Cert.QIdeal.τ).loc Cert.QIdeal.main_arg13)) →
    ∃ (v0 : (c : Dev Cert.QIdeal.nD) → Buf (Elt Ideal) ((c.tc : Thread Cert.QIdeal.nD Cert.QIdeal.τ).loc Cert.QIdeal.main_v19_0)) (v1 : (c : Dev Cert.QIdeal.nD) → Buf (Elt Ideal) ((c.tc : Thread Cert.QIdeal.nD Cert.QIdeal.τ).loc Cert.QIdeal.main_v19_1)) (v2 : (c : Dev Cert.QIdeal.nD) → Buf (Elt Ideal) ((c.tc : Thread Cert.QIdeal.nD Cert.QIdeal.τ).loc Cert.QIdeal.main_v19_2)) (v3 : (c : Dev Cert.QIdeal.nD) → Buf (Elt Ideal) ((c.tc : Thread Cert.QIdeal.nD Cert.QIdeal.τ).loc Cert.QIdeal.main_v19_3)) (v4 : (c : Dev Cert.QIdeal.nD) → Buf (Elt Ideal) ((c.tc : Thread Cert.QIdeal.nD Cert.QIdeal.τ).loc Cert.QIdeal.main_v19_4)) (v5 : (c : Dev Cert.QIdeal.nD) → Buf (Elt Ideal) ((c.tc : Thread Cert.QIdeal.nD Cert.QIdeal.τ).loc Cert.QIdeal.main_v19_5)) (v6 : (c : Dev Cert.QIdeal.nD) → Buf (Elt Ideal) ((c.tc : Thread Cert.QIdeal.nD Cert.QIdeal.τ).loc Cert.QIdeal.main_v19_6)) (v7 : (c : Dev Cert.QIdeal.nD) → Buf (Elt Ideal) ((c.tc : Thread Cert.QIdeal.nD Cert.QIdeal.τ).loc Cert.QIdeal.main_v19_7)) (v8 : (c : Dev Cert.QIdeal.nD) → Buf (Elt Ideal) ((c.tc : Thread Cert.QIdeal.nD Cert.QIdeal.τ).loc Cert.QIdeal.main_v19_8)) (v9 : (c : Dev Cert.QIdeal.nD) → Buf (Elt Ideal) ((c.tc : Thread Cert.QIdeal.nD Cert.QIdeal.τ).loc Cert.QIdeal.main_v19_9)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v19_0) = v0 c
          ∧ r.2.mem ((c.tc : Thread Cert.QIdeal.nD Cert.QIdeal.τ).loc Cert.QIdeal.main_v19_1) = v1 c
          ∧ r.2.mem ((c.tc : Thread Cert.QIdeal.nD Cert.QIdeal.τ).loc Cert.QIdeal.main_v19_2) = v2 c
          ∧ r.2.mem ((c.tc : Thread Cert.QIdeal.nD Cert.QIdeal.τ).loc Cert.QIdeal.main_v19_3) = v3 c
          ∧ r.2.mem ((c.tc : Thread Cert.QIdeal.nD Cert.QIdeal.τ).loc Cert.QIdeal.main_v19_4) = v4 c
          ∧ r.2.mem ((c.tc : Thread Cert.QIdeal.nD Cert.QIdeal.τ).loc Cert.QIdeal.main_v19_5) = v5 c
          ∧ r.2.mem ((c.tc : Thread Cert.QIdeal.nD Cert.QIdeal.τ).loc Cert.QIdeal.main_v19_6) = v6 c
          ∧ r.2.mem ((c.tc : Thread Cert.QIdeal.nD Cert.QIdeal.τ).loc Cert.QIdeal.main_v19_7) = v7 c
          ∧ r.2.mem ((c.tc : Thread Cert.QIdeal.nD Cert.QIdeal.τ).loc Cert.QIdeal.main_v19_8) = v8 c
          ∧ r.2.mem ((c.tc : Thread Cert.QIdeal.nD Cert.QIdeal.τ).loc Cert.QIdeal.main_v19_9) = v9 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2)
          ∧ r.2.mem ((c.tc : Thread Cert.QIdeal.nD Cert.QIdeal.τ).loc Cert.QIdeal.main_arg3) = m ((c.tc : Thread Cert.QIdeal.nD Cert.QIdeal.τ).loc Cert.QIdeal.main_arg3)
          ∧ r.2.mem ((c.tc : Thread Cert.QIdeal.nD Cert.QIdeal.τ).loc Cert.QIdeal.main_arg4) = m ((c.tc : Thread Cert.QIdeal.nD Cert.QIdeal.τ).loc Cert.QIdeal.main_arg4)
          ∧ r.2.mem ((c.tc : Thread Cert.QIdeal.nD Cert.QIdeal.τ).loc Cert.QIdeal.main_arg5) = m ((c.tc : Thread Cert.QIdeal.nD Cert.QIdeal.τ).loc Cert.QIdeal.main_arg5)
          ∧ r.2.mem ((c.tc : Thread Cert.QIdeal.nD Cert.QIdeal.τ).loc Cert.QIdeal.main_arg6) = m ((c.tc : Thread Cert.QIdeal.nD Cert.QIdeal.τ).loc Cert.QIdeal.main_arg6)
          ∧ r.2.mem ((c.tc : Thread Cert.QIdeal.nD Cert.QIdeal.τ).loc Cert.QIdeal.main_arg7) = m ((c.tc : Thread Cert.QIdeal.nD Cert.QIdeal.τ).loc Cert.QIdeal.main_arg7)
          ∧ r.2.mem ((c.tc : Thread Cert.QIdeal.nD Cert.QIdeal.τ).loc Cert.QIdeal.main_arg8) = m ((c.tc : Thread Cert.QIdeal.nD Cert.QIdeal.τ).loc Cert.QIdeal.main_arg8)
          ∧ r.2.mem ((c.tc : Thread Cert.QIdeal.nD Cert.QIdeal.τ).loc Cert.QIdeal.main_arg9) = m ((c.tc : Thread Cert.QIdeal.nD Cert.QIdeal.τ).loc Cert.QIdeal.main_arg9)
          ∧ r.2.mem ((c.tc : Thread Cert.QIdeal.nD Cert.QIdeal.τ).loc Cert.QIdeal.main_arg10) = m ((c.tc : Thread Cert.QIdeal.nD Cert.QIdeal.τ).loc Cert.QIdeal.main_arg10)
          ∧ r.2.mem ((c.tc : Thread Cert.QIdeal.nD Cert.QIdeal.τ).loc Cert.QIdeal.main_arg11) = m ((c.tc : Thread Cert.QIdeal.nD Cert.QIdeal.τ).loc Cert.QIdeal.main_arg11)
          ∧ r.2.mem ((c.tc : Thread Cert.QIdeal.nD Cert.QIdeal.τ).loc Cert.QIdeal.main_arg12) = m ((c.tc : Thread Cert.QIdeal.nD Cert.QIdeal.τ).loc Cert.QIdeal.main_arg12)
          ∧ r.2.mem ((c.tc : Thread Cert.QIdeal.nD Cert.QIdeal.τ).loc Cert.QIdeal.main_arg13) = m ((c.tc : Thread Cert.QIdeal.nD Cert.QIdeal.τ).loc Cert.QIdeal.main_arg13))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v203) = v0 c
          ∧ r.2.mem ((c.tc : Thread Cert.QRefIdeal.nD Cert.QRefIdeal.τ).loc Cert.QRefIdeal.main_v204) = v1 c
          ∧ r.2.mem ((c.tc : Thread Cert.QRefIdeal.nD Cert.QRefIdeal.τ).loc Cert.QRefIdeal.main_v205) = v2 c
          ∧ r.2.mem ((c.tc : Thread Cert.QRefIdeal.nD Cert.QRefIdeal.τ).loc Cert.QRefIdeal.main_v206) = v3 c
          ∧ r.2.mem ((c.tc : Thread Cert.QRefIdeal.nD Cert.QRefIdeal.τ).loc Cert.QRefIdeal.main_v207) = v4 c
          ∧ r.2.mem ((c.tc : Thread Cert.QRefIdeal.nD Cert.QRefIdeal.τ).loc Cert.QRefIdeal.main_v208) = v5 c
          ∧ r.2.mem ((c.tc : Thread Cert.QRefIdeal.nD Cert.QRefIdeal.τ).loc Cert.QRefIdeal.main_v171) = v6 c
          ∧ r.2.mem ((c.tc : Thread Cert.QRefIdeal.nD Cert.QRefIdeal.τ).loc Cert.QRefIdeal.main_v174) = v7 c
          ∧ r.2.mem ((c.tc : Thread Cert.QRefIdeal.nD Cert.QRefIdeal.τ).loc Cert.QRefIdeal.main_v209) = v8 c
          ∧ r.2.mem ((c.tc : Thread Cert.QRefIdeal.nD Cert.QRefIdeal.τ).loc Cert.QRefIdeal.main_v202) = v9 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1)
          ∧ r.2.mem ((c.tc : Thread Cert.QRefIdeal.nD Cert.QRefIdeal.τ).loc Cert.QRefIdeal.main_arg2) = m' ((c.tc : Thread Cert.QRefIdeal.nD Cert.QRefIdeal.τ).loc Cert.QRefIdeal.main_arg2)
          ∧ r.2.mem ((c.tc : Thread Cert.QRefIdeal.nD Cert.QRefIdeal.τ).loc Cert.QRefIdeal.main_arg3) = m' ((c.tc : Thread Cert.QRefIdeal.nD Cert.QRefIdeal.τ).loc Cert.QRefIdeal.main_arg3)
          ∧ r.2.mem ((c.tc : Thread Cert.QRefIdeal.nD Cert.QRefIdeal.τ).loc Cert.QRefIdeal.main_arg4) = m' ((c.tc : Thread Cert.QRefIdeal.nD Cert.QRefIdeal.τ).loc Cert.QRefIdeal.main_arg4)
          ∧ r.2.mem ((c.tc : Thread Cert.QRefIdeal.nD Cert.QRefIdeal.τ).loc Cert.QRefIdeal.main_arg5) = m' ((c.tc : Thread Cert.QRefIdeal.nD Cert.QRefIdeal.τ).loc Cert.QRefIdeal.main_arg5)
          ∧ r.2.mem ((c.tc : Thread Cert.QRefIdeal.nD Cert.QRefIdeal.τ).loc Cert.QRefIdeal.main_arg6) = m' ((c.tc : Thread Cert.QRefIdeal.nD Cert.QRefIdeal.τ).loc Cert.QRefIdeal.main_arg6)
          ∧ r.2.mem ((c.tc : Thread Cert.QRefIdeal.nD Cert.QRefIdeal.τ).loc Cert.QRefIdeal.main_arg7) = m' ((c.tc : Thread Cert.QRefIdeal.nD Cert.QRefIdeal.τ).loc Cert.QRefIdeal.main_arg7)
          ∧ r.2.mem ((c.tc : Thread Cert.QRefIdeal.nD Cert.QRefIdeal.τ).loc Cert.QRefIdeal.main_arg8) = m' ((c.tc : Thread Cert.QRefIdeal.nD Cert.QRefIdeal.τ).loc Cert.QRefIdeal.main_arg8)
          ∧ r.2.mem ((c.tc : Thread Cert.QRefIdeal.nD Cert.QRefIdeal.τ).loc Cert.QRefIdeal.main_arg9) = m' ((c.tc : Thread Cert.QRefIdeal.nD Cert.QRefIdeal.τ).loc Cert.QRefIdeal.main_arg9)
          ∧ r.2.mem ((c.tc : Thread Cert.QRefIdeal.nD Cert.QRefIdeal.τ).loc Cert.QRefIdeal.main_arg10) = m' ((c.tc : Thread Cert.QRefIdeal.nD Cert.QRefIdeal.τ).loc Cert.QRefIdeal.main_arg10)
          ∧ r.2.mem ((c.tc : Thread Cert.QRefIdeal.nD Cert.QRefIdeal.τ).loc Cert.QRefIdeal.main_arg11) = m' ((c.tc : Thread Cert.QRefIdeal.nD Cert.QRefIdeal.τ).loc Cert.QRefIdeal.main_arg11)
          ∧ r.2.mem ((c.tc : Thread Cert.QRefIdeal.nD Cert.QRefIdeal.τ).loc Cert.QRefIdeal.main_arg12) = m' ((c.tc : Thread Cert.QRefIdeal.nD Cert.QRefIdeal.τ).loc Cert.QRefIdeal.main_arg12)
          ∧ r.2.mem ((c.tc : Thread Cert.QRefIdeal.nD Cert.QRefIdeal.τ).loc Cert.QRefIdeal.main_arg13) = m' ((c.tc : Thread Cert.QRefIdeal.nD Cert.QRefIdeal.τ).loc Cert.QRefIdeal.main_arg13))

def preserves_OFwd_OFwdIdeal : Prop :=
  True

def algebraic_OFwdIdeal_OFwdRefIdeal [hOFwdIdeal : Cert.OFwdIdeal.Facts] [hOFwdRefIdeal : Cert.OFwdRefIdeal.Facts] : Prop :=
  ∀ (m : (ℓ : Loc Cert.OFwdIdeal.nD Cert.OFwdIdeal.τ Cert.OFwdIdeal.sig) → Buf (Elt Ideal) ℓ) (g : Dev Cert.OFwdIdeal.nD → PrngReg)
    (m' : (ℓ : Loc Cert.OFwdRefIdeal.nD Cert.OFwdRefIdeal.τ Cert.OFwdRefIdeal.sig) → Buf (Elt Ideal) ℓ) (g' : Dev Cert.OFwdRefIdeal.nD → PrngReg), Pre_OFwdIdeal m →
    (∀ c : Dev Cert.OFwdIdeal.nD,
      m' ((c.tc : Thread Cert.OFwdRefIdeal.nD Cert.OFwdRefIdeal.τ).loc Cert.OFwdRefIdeal.main_arg0) = m ((c.tc : Thread Cert.OFwdIdeal.nD Cert.OFwdIdeal.τ).loc Cert.OFwdIdeal.main_arg0)
      ∧ m' ((c.tc : Thread Cert.OFwdRefIdeal.nD Cert.OFwdRefIdeal.τ).loc Cert.OFwdRefIdeal.main_arg1) = m ((c.tc : Thread Cert.OFwdIdeal.nD Cert.OFwdIdeal.τ).loc Cert.OFwdIdeal.main_arg1)
      ∧ m' ((c.tc : Thread Cert.OFwdRefIdeal.nD Cert.OFwdRefIdeal.τ).loc Cert.OFwdRefIdeal.main_arg2) = m ((c.tc : Thread Cert.OFwdIdeal.nD Cert.OFwdIdeal.τ).loc Cert.OFwdIdeal.main_arg2)
      ∧ m' ((c.tc : Thread Cert.OFwdRefIdeal.nD Cert.OFwdRefIdeal.τ).loc Cert.OFwdRefIdeal.main_arg3) = m ((c.tc : Thread Cert.OFwdIdeal.nD Cert.OFwdIdeal.τ).loc Cert.OFwdIdeal.main_arg3)) →
    ∃ (v0 : (c : Dev Cert.OFwdIdeal.nD) → Buf (Elt Ideal) ((c.tc : Thread Cert.OFwdIdeal.nD Cert.OFwdIdeal.τ).loc Cert.OFwdIdeal.main_v1)),
      θ_run (Cert.OFwdIdeal.defs (F := Ideal)) (onTc (τ := Cert.OFwdIdeal.τ) (Cert.OFwdIdeal.main (F := Ideal))) ⟨m, fun _ => 0, g⟩ (fun r => ∀ c : Dev Cert.OFwdIdeal.nD,
          r.2.mem ((c.tc : Thread Cert.OFwdIdeal.nD Cert.OFwdIdeal.τ).loc Cert.OFwdIdeal.main_v1) = v0 c
          ∧ r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
          ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1)
          ∧ r.2.mem ((c.tc : Thread Cert.OFwdIdeal.nD Cert.OFwdIdeal.τ).loc Cert.OFwdIdeal.main_arg2) = m ((c.tc : Thread Cert.OFwdIdeal.nD Cert.OFwdIdeal.τ).loc Cert.OFwdIdeal.main_arg2)
          ∧ r.2.mem ((c.tc : Thread Cert.OFwdIdeal.nD Cert.OFwdIdeal.τ).loc Cert.OFwdIdeal.main_arg3) = m ((c.tc : Thread Cert.OFwdIdeal.nD Cert.OFwdIdeal.τ).loc Cert.OFwdIdeal.main_arg3))
      ∧ θ_run (Cert.OFwdRefIdeal.defs (F := Ideal)) (onTc (τ := Cert.OFwdRefIdeal.τ) (Cert.OFwdRefIdeal.main (F := Ideal))) ⟨m', fun _ => 0, g'⟩ (fun r => ∀ c : Dev Cert.OFwdRefIdeal.nD,
          r.2.mem ((c.tc : Thread Cert.OFwdRefIdeal.nD Cert.OFwdRefIdeal.τ).loc Cert.OFwdRefIdeal.main_v3) = v0 c
          ∧ r.2.mem ((c.tc : Thread Cert.OFwdRefIdeal.nD Cert.OFwdRefIdeal.τ).loc Cert.OFwdRefIdeal.main_arg0) = m' ((c.tc : Thread Cert.OFwdRefIdeal.nD Cert.OFwdRefIdeal.τ).loc Cert.OFwdRefIdeal.main_arg0)
          ∧ r.2.mem ((c.tc : Thread Cert.OFwdRefIdeal.nD Cert.OFwdRefIdeal.τ).loc Cert.OFwdRefIdeal.main_arg1) = m' ((c.tc : Thread Cert.OFwdRefIdeal.nD Cert.OFwdRefIdeal.τ).loc Cert.OFwdRefIdeal.main_arg1)
          ∧ r.2.mem ((c.tc : Thread Cert.OFwdRefIdeal.nD Cert.OFwdRefIdeal.τ).loc Cert.OFwdRefIdeal.main_arg2) = m' ((c.tc : Thread Cert.OFwdRefIdeal.nD Cert.OFwdRefIdeal.τ).loc Cert.OFwdRefIdeal.main_arg2)
          ∧ r.2.mem ((c.tc : Thread Cert.OFwdRefIdeal.nD Cert.OFwdRefIdeal.τ).loc Cert.OFwdRefIdeal.main_arg3) = m' ((c.tc : Thread Cert.OFwdRefIdeal.nD Cert.OFwdRefIdeal.τ).loc Cert.OFwdRefIdeal.main_arg3))

def preserves_GFwd_GFwdIdeal : Prop :=
  True

def algebraic_GFwdIdeal_GFwdRefIdeal [hGFwdIdeal : Cert.GFwdIdeal.Facts] [hGFwdRefIdeal : Cert.GFwdRefIdeal.Facts] : Prop :=
  ∀ (m : (ℓ : Loc Cert.GFwdIdeal.nD Cert.GFwdIdeal.τ Cert.GFwdIdeal.sig) → Buf (Elt Ideal) ℓ) (g : Dev Cert.GFwdIdeal.nD → PrngReg)
    (m' : (ℓ : Loc Cert.GFwdRefIdeal.nD Cert.GFwdRefIdeal.τ Cert.GFwdRefIdeal.sig) → Buf (Elt Ideal) ℓ) (g' : Dev Cert.GFwdRefIdeal.nD → PrngReg), Pre_GFwdIdeal m →
    (∀ c : Dev Cert.GFwdIdeal.nD,
      m' ((c.tc : Thread Cert.GFwdRefIdeal.nD Cert.GFwdRefIdeal.τ).loc Cert.GFwdRefIdeal.main_arg0) = m ((c.tc : Thread Cert.GFwdIdeal.nD Cert.GFwdIdeal.τ).loc Cert.GFwdIdeal.main_arg0)
      ∧ m' ((c.tc : Thread Cert.GFwdRefIdeal.nD Cert.GFwdRefIdeal.τ).loc Cert.GFwdRefIdeal.main_arg1) = m ((c.tc : Thread Cert.GFwdIdeal.nD Cert.GFwdIdeal.τ).loc Cert.GFwdIdeal.main_arg1)
      ∧ m' ((c.tc : Thread Cert.GFwdRefIdeal.nD Cert.GFwdRefIdeal.τ).loc Cert.GFwdRefIdeal.main_arg2) = m ((c.tc : Thread Cert.GFwdIdeal.nD Cert.GFwdIdeal.τ).loc Cert.GFwdIdeal.main_arg2)
      ∧ m' ((c.tc : Thread Cert.GFwdRefIdeal.nD Cert.GFwdRefIdeal.τ).loc Cert.GFwdRefIdeal.main_arg3) = m ((c.tc : Thread Cert.GFwdIdeal.nD Cert.GFwdIdeal.τ).loc Cert.GFwdIdeal.main_arg3)
      ∧ m' ((c.tc : Thread Cert.GFwdRefIdeal.nD Cert.GFwdRefIdeal.τ).loc Cert.GFwdRefIdeal.main_arg4) = m ((c.tc : Thread Cert.GFwdIdeal.nD Cert.GFwdIdeal.τ).loc Cert.GFwdIdeal.main_arg4)) →
    ∃ (v0 : (c : Dev Cert.GFwdIdeal.nD) → Buf (Elt Ideal) ((c.tc : Thread Cert.GFwdIdeal.nD Cert.GFwdIdeal.τ).loc Cert.GFwdIdeal.main_v2)),
      θ_run (Cert.GFwdIdeal.defs (F := Ideal)) (onTc (τ := Cert.GFwdIdeal.τ) (Cert.GFwdIdeal.main (F := Ideal))) ⟨m, fun _ => 0, g⟩ (fun r => ∀ c : Dev Cert.GFwdIdeal.nD,
          r.2.mem ((c.tc : Thread Cert.GFwdIdeal.nD Cert.GFwdIdeal.τ).loc Cert.GFwdIdeal.main_v2) = v0 c
          ∧ r.2.mem ((c.tc : Thread Cert.GFwdIdeal.nD Cert.GFwdIdeal.τ).loc Cert.GFwdIdeal.main_arg0) = m ((c.tc : Thread Cert.GFwdIdeal.nD Cert.GFwdIdeal.τ).loc Cert.GFwdIdeal.main_arg0)
          ∧ r.2.mem ((c.tc : Thread Cert.GFwdIdeal.nD Cert.GFwdIdeal.τ).loc Cert.GFwdIdeal.main_arg1) = m ((c.tc : Thread Cert.GFwdIdeal.nD Cert.GFwdIdeal.τ).loc Cert.GFwdIdeal.main_arg1)
          ∧ r.2.mem ((c.tc : Thread Cert.GFwdIdeal.nD Cert.GFwdIdeal.τ).loc Cert.GFwdIdeal.main_arg2) = m ((c.tc : Thread Cert.GFwdIdeal.nD Cert.GFwdIdeal.τ).loc Cert.GFwdIdeal.main_arg2)
          ∧ r.2.mem ((c.tc : Thread Cert.GFwdIdeal.nD Cert.GFwdIdeal.τ).loc Cert.GFwdIdeal.main_arg3) = m ((c.tc : Thread Cert.GFwdIdeal.nD Cert.GFwdIdeal.τ).loc Cert.GFwdIdeal.main_arg3)
          ∧ r.2.mem ((c.tc : Thread Cert.GFwdIdeal.nD Cert.GFwdIdeal.τ).loc Cert.GFwdIdeal.main_arg4) = m ((c.tc : Thread Cert.GFwdIdeal.nD Cert.GFwdIdeal.τ).loc Cert.GFwdIdeal.main_arg4))
      ∧ θ_run (Cert.GFwdRefIdeal.defs (F := Ideal)) (onTc (τ := Cert.GFwdRefIdeal.τ) (Cert.GFwdRefIdeal.main (F := Ideal))) ⟨m', fun _ => 0, g'⟩ (fun r => ∀ c : Dev Cert.GFwdRefIdeal.nD,
          r.2.mem ((c.tc : Thread Cert.GFwdRefIdeal.nD Cert.GFwdRefIdeal.τ).loc Cert.GFwdRefIdeal.main_v26) = v0 c
          ∧ r.2.mem ((c.tc : Thread Cert.GFwdRefIdeal.nD Cert.GFwdRefIdeal.τ).loc Cert.GFwdRefIdeal.main_arg0) = m' ((c.tc : Thread Cert.GFwdRefIdeal.nD Cert.GFwdRefIdeal.τ).loc Cert.GFwdRefIdeal.main_arg0)
          ∧ r.2.mem ((c.tc : Thread Cert.GFwdRefIdeal.nD Cert.GFwdRefIdeal.τ).loc Cert.GFwdRefIdeal.main_arg1) = m' ((c.tc : Thread Cert.GFwdRefIdeal.nD Cert.GFwdRefIdeal.τ).loc Cert.GFwdRefIdeal.main_arg1)
          ∧ r.2.mem ((c.tc : Thread Cert.GFwdRefIdeal.nD Cert.GFwdRefIdeal.τ).loc Cert.GFwdRefIdeal.main_arg2) = m' ((c.tc : Thread Cert.GFwdRefIdeal.nD Cert.GFwdRefIdeal.τ).loc Cert.GFwdRefIdeal.main_arg2)
          ∧ r.2.mem ((c.tc : Thread Cert.GFwdRefIdeal.nD Cert.GFwdRefIdeal.τ).loc Cert.GFwdRefIdeal.main_arg3) = m' ((c.tc : Thread Cert.GFwdRefIdeal.nD Cert.GFwdRefIdeal.τ).loc Cert.GFwdRefIdeal.main_arg3)
          ∧ r.2.mem ((c.tc : Thread Cert.GFwdRefIdeal.nD Cert.GFwdRefIdeal.τ).loc Cert.GFwdRefIdeal.main_arg4) = m' ((c.tc : Thread Cert.GFwdRefIdeal.nD Cert.GFwdRefIdeal.τ).loc Cert.GFwdRefIdeal.main_arg4))

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hO : Cert.O.Facts) (hOIdeal : Cert.OIdeal.Facts) (hORefIdeal : Cert.ORefIdeal.Facts) (hGlu : Cert.Glu.Facts) (hGluIdeal : Cert.GluIdeal.Facts) (hGluRefIdeal : Cert.GluRefIdeal.Facts) (hPrep : Cert.Prep.Facts) (hPrepIdeal : Cert.PrepIdeal.Facts) (hPrepRefIdeal : Cert.PrepRefIdeal.Facts) (hFfn : Cert.Ffn.Facts) (hFfnIdeal : Cert.FfnIdeal.Facts) (hFfnRefIdeal : Cert.FfnRefIdeal.Facts) (hQ : Cert.Q.Facts) (hQIdeal : Cert.QIdeal.Facts) (hQRefIdeal : Cert.QRefIdeal.Facts) (hOFwd : Cert.OFwd.Facts) (hOFwdIdeal : Cert.OFwdIdeal.Facts) (hOFwdRefIdeal : Cert.OFwdRefIdeal.Facts) (hGFwd : Cert.GFwd.Facts) (hGFwdIdeal : Cert.GFwdIdeal.Facts) (hGFwdRefIdeal : Cert.GFwdRefIdeal.Facts) (hPre_attention_finite : Cert.Pre_attention_finite.Facts) (hPre_feed_forward_finite : Cert.Pre_feed_forward_finite.Facts),
    quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnIdeal_pre_attention_finite (hAttnIdeal := hAttnIdeal) (hPre_attention_finite := hPre_attention_finite)
    ∧ quiescent_AttnRefIdeal (hAttnRefIdeal := hAttnRefIdeal)
    ∧ quiescent_AttnRefIdeal_pre_attention_finite (hAttnRefIdeal := hAttnRefIdeal) (hPre_attention_finite := hPre_attention_finite)
    ∧ quiescent_O (hO := hO)
    ∧ quiescent_OIdeal (hOIdeal := hOIdeal)
    ∧ quiescent_ORefIdeal (hORefIdeal := hORefIdeal)
    ∧ quiescent_Glu (hGlu := hGlu)
    ∧ quiescent_GluIdeal (hGluIdeal := hGluIdeal)
    ∧ quiescent_GluRefIdeal (hGluRefIdeal := hGluRefIdeal)
    ∧ quiescent_Prep (hPrep := hPrep)
    ∧ quiescent_PrepIdeal (hPrepIdeal := hPrepIdeal)
    ∧ quiescent_PrepRefIdeal (hPrepRefIdeal := hPrepRefIdeal)
    ∧ quiescent_Ffn (hFfn := hFfn)
    ∧ quiescent_FfnIdeal (hFfnIdeal := hFfnIdeal)
    ∧ quiescent_FfnIdeal_pre_feed_forward_finite (hFfnIdeal := hFfnIdeal) (hPre_feed_forward_finite := hPre_feed_forward_finite)
    ∧ quiescent_FfnRefIdeal (hFfnRefIdeal := hFfnRefIdeal)
    ∧ quiescent_FfnRefIdeal_pre_feed_forward_finite (hFfnRefIdeal := hFfnRefIdeal) (hPre_feed_forward_finite := hPre_feed_forward_finite)
    ∧ quiescent_Q (hQ := hQ)
    ∧ quiescent_QIdeal (hQIdeal := hQIdeal)
    ∧ quiescent_QRefIdeal (hQRefIdeal := hQRefIdeal)
    ∧ quiescent_OFwd (hOFwd := hOFwd)
    ∧ quiescent_OFwdIdeal (hOFwdIdeal := hOFwdIdeal)
    ∧ quiescent_OFwdRefIdeal (hOFwdRefIdeal := hOFwdRefIdeal)
    ∧ quiescent_GFwd (hGFwd := hGFwd)
    ∧ quiescent_GFwdIdeal (hGFwdIdeal := hGFwdIdeal)
    ∧ quiescent_GFwdRefIdeal (hGFwdRefIdeal := hGFwdRefIdeal)
    ∧ preserves_Loss_LossIdeal
    ∧ algebraic_LossIdeal_LossRefIdeal (hLossIdeal := hLossIdeal) (hLossRefIdeal := hLossRefIdeal)
    ∧ preserves_Attn_AttnIdeal
    ∧ algebraic_AttnIdeal_AttnRefIdeal_pre_attention_finite (hAttnIdeal := hAttnIdeal) (hAttnRefIdeal := hAttnRefIdeal) (hPre_attention_finite := hPre_attention_finite)
    ∧ preserves_O_OIdeal
    ∧ algebraic_OIdeal_ORefIdeal (hOIdeal := hOIdeal) (hORefIdeal := hORefIdeal)
    ∧ preserves_Glu_GluIdeal
    ∧ algebraic_GluIdeal_GluRefIdeal (hGluIdeal := hGluIdeal) (hGluRefIdeal := hGluRefIdeal)
    ∧ preserves_Prep_PrepIdeal
    ∧ algebraic_PrepIdeal_PrepRefIdeal (hPrepIdeal := hPrepIdeal) (hPrepRefIdeal := hPrepRefIdeal)
    ∧ preserves_Ffn_FfnIdeal
    ∧ algebraic_FfnIdeal_FfnRefIdeal_pre_feed_forward_finite (hFfnIdeal := hFfnIdeal) (hFfnRefIdeal := hFfnRefIdeal) (hPre_feed_forward_finite := hPre_feed_forward_finite)
    ∧ preserves_Q_QIdeal
    ∧ algebraic_QIdeal_QRefIdeal (hQIdeal := hQIdeal) (hQRefIdeal := hQRefIdeal)
    ∧ preserves_OFwd_OFwdIdeal
    ∧ algebraic_OFwdIdeal_OFwdRefIdeal (hOFwdIdeal := hOFwdIdeal) (hOFwdRefIdeal := hOFwdRefIdeal)
    ∧ preserves_GFwd_GFwdIdeal
    ∧ algebraic_GFwdIdeal_GFwdRefIdeal (hGFwdIdeal := hGFwdIdeal) (hGFwdRefIdeal := hGFwdRefIdeal)
-- ==== Pre_attention_finite.lean ====
abbrev S4096x16x64 : Shape := ⟨3, ![4096, 16, 64]⟩
abbrev S4096x16x32 : Shape := ⟨3, ![4096, 16, 32]⟩
abbrev S4096x32 : Shape := ⟨2, ![4096, 32]⟩
abbrev S_ : Shape := ⟨0, ![]⟩

class Facts : Prop where
  bcast_S_S4096x16x64 : S_.BroadcastsInDim S4096x16x64 (![] : Fin 0 → Fin S4096x16x64.rank)
  reducesTo_S4096x16x64_S_d0_1_2 : S4096x16x64.ReducesTo [0, 1, 2] S_
  h_S_ : 0 < S_.numel
  bcast_S_S4096x16x32 : S_.BroadcastsInDim S4096x16x32 (![] : Fin 0 → Fin S4096x16x32.rank)
  reducesTo_S4096x16x32_S_d0_1_2 : S4096x16x32.ReducesTo [0, 1, 2] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x16x64 .f32) (main_arg5 : FVec F S4096x16x64 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x16x64 .f32 := Host.absf main_arg4
  let main_cst_6 : FVec F S_ .f32 := constant S_ .f32 0x7F800000#32
  let main_v20 : FVec F S4096x16x64 .f32 := broadcastInDim S4096x16x64 ![] bcast_S_S4096x16x64 main_cst_6
  let main_v21 : IVec S4096x16x64 1 := cmpf .olt main_v19 main_v20
  let main_c_7 : IVec S_ 1 := constantI S_ 1 1#1
  let main_v22 : IVec S_ 1 := (fun x v => Host.reduce IntOp.andi x v reducesTo_S4096x16x64_S_d0_1_2 h_S_) main_v21 main_c_7
  let main_v23 : IVec S_ 1 := andi main_v18 main_v22
  let main_v24 : FVec F S4096x16x64 .f32 := Host.absf main_arg5
  let main_cst_8 : FVec F S_ .f32 := constant S_ .f32 0x7F800000#32
  let main_v25 : FVec F S4096x16x64 .f32 := broadcastInDim S4096x16x64 ![] bcast_S_S4096x16x64 main_cst_8
  let main_v26 : IVec S4096x16x64 1 := cmpf .olt main_v24 main_v25
  let main_c_9 : IVec S_ 1 := constantI S_ 1 1#1
  let main_v27 : IVec S_ 1 := (fun x v => Host.reduce IntOp.andi x v reducesTo_S4096x16x64_S_d0_1_2 h_S_) main_v26 main_c_9
  let main_v28 : IVec S_ 1 := andi main_v23 main_v27
  main_v28

def fn {F : FTy → Type} [FloatOps F] (main_arg0 : FVec F S4096x16x64 .f32) (main_arg1 : FVec F S4096x16x32 .f32) (main_arg2 : FVec F S4096x16x64 .f32) (main_arg3 : FVec F S4096x32 .f32) (main_arg4 : FVec F S4096x16x64 .f32) (main_arg5 : FVec F S4096x16x64 .f32) : IVec S_ 1 :=
  let main_v0 : FVec F S4096x16x64 .f32 := Host.absf main_arg0
  let main_cst : FVec F S_ .f32 := constant S_ .f32 0x7F800000#32
  let main_v1 : FVec F S4096x16x64 .f32 := broadcastInDim S4096x16x64 ![] bcast_S_S4096x16x64 main_cst
  let main_v2 : IVec S4096x16x64 1 := cmpf .olt main_v0 main_v1
  let main_c : IVec S_ 1 := constantI S_ 1 1#1
  let main_v3 : IVec S_ 1 := (fun x v => Host.reduce IntOp.andi x v reducesTo_S4096x16x64_S_d0_1_2 h_S_) main_v2 main_c
  let main_v4 : FVec F S4096x16x32 .f32 := Host.absf main_arg1
  let main_cst_0 : FVec F S_ .f32 := constant S_ .f32 0x7F800000#32
  let main_v5 : FVec F S4096x16x32 .f32 := broadcastInDim S4096x16x32 ![] bcast_S_S4096x16x32 main_cst_0
  let main_v6 : IVec S4096x16x32 1 := cmpf .olt main_v4 main_v5
  let main_c_1 : IVec S_ 1 := constantI S_ 1 1#1
  let main_v7 : IVec S_ 1 := (fun x v => Host.reduce IntOp.andi x v reducesTo_S4096x16x32_S_d0_1_2 h_S_) main_v6 main_c_1
  let main_v8 : IVec S_ 1 := andi main_v3 main_v7
  let main_v9 : FVec F S4096x16x64 .f32 := Host.absf main_arg2
  let main_cst_2 : FVec F S_ .f32 := constant S_ .f32 0x7F800000#32
  let main_v10 : FVec F S4096x16x64 .f32 := broadcastInDim S4096x16x64 ![] bcast_S_S4096x16x64 main_cst_2
  let main_v11 : IVec S4096x16x64 1 := cmpf .olt main_v9 main_v10
  let main_c_3 : IVec S_ 1 := constantI S_ 1 1#1
  let main_v12 : IVec S_ 1 := (fun x v => Host.reduce IntOp.andi x v reducesTo_S4096x16x64_S_d0_1_2 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_arg5 main_v13 main_v16
-- ==== Pre_feed_forward_finite.lean ====
abbrev S4096x1024 : Shape := ⟨2, ![4096, 1024]⟩
abbrev S1024 : Shape := ⟨1, ![1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg8 : FVec F S4096x1024 .f32) (main_v33 : IVec S_ 1) : IVec S_ 1 :=
  let main_v34 : FVec F S4096x1024 .f32 := Host.absf main_arg8
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  main_v38

def fn_part1 {F : FTy → Type} [FloatOps F] (main_arg4 : FVec F S1x1024 .f32) (main_arg6 : FVec F S1024x2816 .f32) (main_arg7 : FVec F S2816x1024 .f32) (main_arg8 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x2816 .f32 := Host.absf main_arg6
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2816x1024 .f32 := Host.absf main_arg7
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg8 main_v33

def fn {F : FTy → Type} [FloatOps F] (main_arg0 : FVec F S4096x1024 .f32) (main_arg1 : FVec F S1024 .f32) (main_arg2 : FVec F S1x1024 .f32) (main_arg3 : FVec F S1x1024 .f32) (main_arg4 : FVec F S1x1024 .f32) (main_arg5 : FVec F S1024x2816 .f32) (main_arg6 : FVec F S1024x2816 .f32) (main_arg7 : FVec F S2816x1024 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg6 main_arg7 main_arg8 main_v13 main_v16
-- ==== Loss.lean ====
abbrev S4096x1024 : Shape := ⟨2, ![4096, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Attn.lean ====
abbrev S4096x16x64 : Shape := ⟨3, ![4096, 16, 64]⟩
abbrev S4096x16x32 : Shape := ⟨3, ![4096, 16, 32]⟩
abbrev S4096x32 : Shape := ⟨2, ![4096, 32]⟩
abbrev S4096x1x32 : Shape := ⟨3, ![4096, 1, 32]⟩
abbrev S_ : Shape := ⟨0, ![]⟩
abbrev S4096x16x128 : Shape := ⟨3, ![4096, 16, 128]⟩
abbrev S4096x2048 : Shape := ⟨2, ![4096, 2048]⟩
abbrev S4096x1024 : Shape := ⟨2, ![4096, 1024]⟩
abbrev S8x2x4096x1 : Shape := ⟨4, ![8, 2, 4096, 1]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S1x2x512x1 : Shape := ⟨4, ![1, 2, 512, 1]⟩
abbrev S512x1 : Shape := ⟨2, ![512, 1]⟩
abbrev S512x512 : Shape := ⟨2, ![512, 512]⟩
abbrev S512 : Shape := ⟨1, ![512]⟩
abbrev S1x1x512x1 : Shape := ⟨4, ![1, 1, 512, 1]⟩
abbrev S1x128 : Shape := ⟨2, ![1, 128]⟩

abbrev nBuf : Space → Nat
  | .hbm => 26
  | .vmem => 28
  | .smem => 0
  | _ => 0

abbrev bufTy : (tb : Table) → Fin (tcTables nBuf tb) → BufTy
  | .hbm, ⟨0, _⟩ => ⟨S4096x16x64, .f32⟩
  | .hbm, ⟨1, _⟩ => ⟨S4096x16x32, .f32⟩
  | .hbm, ⟨2, _⟩ => ⟨S4096x16x64, .f32⟩
  | .hbm, ⟨3, _⟩ => ⟨S4096x32, .f32⟩
  | .hbm, ⟨4, _⟩ => ⟨S4096x16x64, .f32⟩
  | .hbm, ⟨5, _⟩ => ⟨S4096x16x64, .f32⟩
  | .hbm, ⟨6, _⟩ => ⟨S4096x1x32, .f32⟩
  | .hbm, ⟨7, _⟩ => ⟨S4096x16x32, .f32⟩
  | .hbm, ⟨8, _⟩ => ⟨S_, .f32⟩
  | .hbm, ⟨9, _⟩ => ⟨S4096x16x32, .f32⟩
  | .hbm, ⟨10, _⟩ => ⟨S4096x16x128, .f32⟩
  | .hbm, ⟨11, _⟩ => ⟨S4096x2048, .f32⟩
  | .hbm, ⟨12, _⟩ => ⟨S4096x2048, .bf16⟩
  | .hbm, ⟨13, _⟩ => ⟨S_, .f32⟩
  | .hbm, ⟨14, _⟩ => ⟨S4096x16x32, .f32⟩
  | .hbm, ⟨15, _⟩ => ⟨S4096x16x128, .f32⟩
  | .hbm, ⟨16, _⟩ => ⟨S4096x2048, .f32⟩
  | .hbm, ⟨17, _⟩ => ⟨S4096x2048, .bf16⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S8x2x4096x1, .f32⟩
  | .hbm, ⟨22, _⟩ => ⟨S4096x1024, .f32⟩
  | .hbm, ⟨23, _⟩ => ⟨S4096x2048, .f32⟩
  | .hbm, ⟨24, _⟩ => ⟨S4096x2048, .f32⟩
  | .hbm, ⟨25, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S1x2x512x1, .f32⟩
  | .local _ .vmem, ⟨9, _⟩ => ⟨S1x2x512x1, .f32⟩
  | .local _ .vmem, ⟨10, _⟩ => ⟨S512x256, .bf16⟩
  | .local _ .vmem, ⟨11, _⟩ => ⟨S512x256, .bf16⟩
  | .local _ .vmem, ⟨12, _⟩ => ⟨S4096x256, .bf16⟩
  | .local _ .vmem, ⟨13, _⟩ => ⟨S4096x256, .bf16⟩
  | .local _ .vmem, ⟨14, _⟩ => ⟨S4096x128, .bf16⟩
  | .local _ .vmem, ⟨15, _⟩ => ⟨S4096x128, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S1x2x512x1, .f32⟩
  | .local _ .vmem, ⟨21, _⟩ => ⟨S1x2x512x1, .f32⟩
  | .local _ .vmem, ⟨22, _⟩ => ⟨S512x256, .f32⟩
  | .local _ .vmem, ⟨23, _⟩ => ⟨S512x256, .f32⟩
  | .local _ .vmem, ⟨24, _⟩ => ⟨S4096x256, .f32⟩
  | .local _ .vmem, ⟨25, _⟩ => ⟨S4096x256, .f32⟩
  | .local _ .vmem, ⟨26, _⟩ => ⟨S4096x128, .f32⟩
  | .local _ .vmem, ⟨27, _⟩ => ⟨S4096x128, .f32⟩
  | _, _ => ⟨S4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let c1_i32_8 : BitVec 32 := 1#32
  ⟨c0_i32, v15, c1_i32_8⟩
def k0_mult1 (i : grid0.Coords) (k0_t1 : Fin (k0_t1_loop i).trips) : BitVec 32 :=
  let c0_i32 : BitVec 32 := 0#32
  let c1_i32_8 : BitVec 32 := 1#32
  let arg7 : BitVec 32 := Scf.iv c0_i32 c1_i32_8 k0_t1
  let c512_i32_56 : BitVec 32 := 512#32
  let v161 : BitVec 32 := Scalar.muli arg7 c512_i32_56
  v161
def k0_off1 (i : grid0.Coords) (k0_t1 : Fin (k0_t1_loop i).trips) : Fin 2 → Nat :=
  let c0_i32 : BitVec 32 := 0#32
  let c1_i32_8 : BitVec 32 := 1#32
  let arg7 : BitVec 32 := Scf.iv c0_i32 c1_i32_8 k0_t1
  let c512_i32_56 : BitVec 32 := 512#32
  let v161 : BitVec 32 := Scalar.muli arg7 c512_i32_56
  let v162 : BitVec 32 := v161
  let v163 : Index := Scalar.indexCast v162
  let c0_57 : Index := 0#32
  ![v163.toNat, 0]
def k0_off2 (i : grid0.Coords) (k0_t1 : Fin (k0_t1_loop i).trips) : Fin 2 → Nat :=
  let c0_i32 : BitVec 32 := 0#32
  let c1_i32_8 : BitVec 32 := 1#32
  let arg7 : BitVec 32 := Scf.iv c0_i32 c1_i32_8 k0_t1
  let c512_i32_56 : BitVec 32 := 512#32
  let v161 : BitVec 32 := Scalar.muli arg7 c512_i32_56
  let v162 : BitVec 32 := v161
  let v166 : Index := Scalar.indexCast v162
  let c0_58 : Index := 0#32
  ![v166.toNat, 0]
def k0_off3 (i : grid0.Coords) (k0_t1 : Fin (k0_t1_loop i).trips) : Fin 2 → Nat :=
  let c0_i32 : BitVec 32 := 0#32
  let c1_i32_8 : BitVec 32 := 1#32
  let arg7 : BitVec 32 := Scf.iv c0_i32 c1_i32_8 k0_t1
  let c512_i32_56 : BitVec 32 := 512#32
  let v161 : BitVec 32 := Scalar.muli arg7 c512_i32_56
  let v162 : BitVec 32 := v161
  let v170 : Index := Scalar.indexCast v162
  let c128_60 : Index := 128#32
  ![v170.toNat, 128]
@[reducible] def k0_t2_loop (i : grid0.Coords) : Scf.Loop 32 :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let v12 : BitVec 32 := Scalar.addi c0_i32 v11
  let c1_i32_9 : BitVec 32 := 1#32
  ⟨v15, v12, c1_i32_9⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let c1_i32_9 : BitVec 32 := 1#32
  let arg7 : BitVec 32 := Scf.iv v15 c1_i32_9 k0_t2
  let c512_i32_56 : BitVec 32 := 512#32
  let v161 : BitVec 32 := Scalar.muli arg7 c512_i32_56
  v161
def k0_off4 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let c1_i32_9 : BitVec 32 := 1#32
  let arg7 : BitVec 32 := Scf.iv v15 c1_i32_9 k0_t2
  let c512_i32_56 : BitVec 32 := 512#32
  let v161 : BitVec 32 := Scalar.muli arg7 c512_i32_56
  let v162 : BitVec 32 := v161
  let v163 : Index := Scalar.indexCast v162
  let c0_57 : Index := 0#32
  ![v163.toNat, 0]
def k0_off5 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let c1_i32_9 : BitVec 32 := 1#32
  let arg7 : BitVec 32 := Scf.iv v15 c1_i32_9 k0_t2
  let c512_i32_56 : BitVec 32 := 512#32
  let v161 : BitVec 32 := Scalar.muli arg7 c512_i32_56
  let v162 : BitVec 32 := v161
  let v166 : Index := Scalar.indexCast v162
  let c0_58 : Index := 0#32
  ![v166.toNat, 0]
def k0_off6 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v10 : BitVec 32 := Scalar.muli arg1 c1_i32
  let v11 : BitVec 32 := Scalar.subi v10 c0_i32
  let c1_i32_7 : BitVec 32 := 1#32
  let v13 : BitVec 32 := Scalar.divsi v11 c1_i32_7
  let v14 : BitVec 32 := Scalar.muli v13 c1_i32_7
  let v15 : BitVec 32 := Scalar.addi c0_i32 v14
  let c1_i32_9 : BitVec 32 := 1#32
  let arg7 : BitVec 32 := Scf.iv v15 c1_i32_9 k0_t2
  let c512_i32_56 : BitVec 32 := 512#32
  let v161 : BitVec 32 := Scalar.muli arg7 c512_i32_56
  let v162 : BitVec 32 := v161
  let v170 : Index := Scalar.indexCast v162
  let c128_60 : Index := 128#32
  ![v170.toNat, 128]
def k0_mult3 (i : grid0.Coords) : BitVec 32 :=
  let arg1 : BitVec 32 := BitVec.ofNat 32 (i 1).val
  let c512_i32 : BitVec 32 := 512#32
  let v18 : BitVec 32 := Scalar.muli arg1 c512_i32
  let c0_i32_10 : BitVec 32 := 0#32
  let v19 : BitVec 32 := Scalar.addi v18 c0_i32_10
  v19
def k0_off7 (i : grid0.Coords) : Fin 2 → Nat :=
  let arg1 : BitVec 32 := BitVec.ofNat 32 (i 1).val
  let c512_i32 : BitVec 32 := 512#32
  let v18 : BitVec 32 := Scalar.muli arg1 c512_i32
  let c0_i32_10 : BitVec 32 := 0#32
  let v19 : BitVec 32 := Scalar.addi v18 c0_i32_10
  let v20 : BitVec 32 := v19
  let v76 : Index := Scalar.indexCast v20
  let c0_26 : Index := 0#32
  ![v76.toNat, 0]
def k0_off8 (i : grid0.Coords) : Fin 2 → Nat :=
  let arg1 : BitVec 32 := BitVec.ofNat 32 (i 1).val
  let c512_i32 : BitVec 32 := 512#32
  let v18 : BitVec 32 := Scalar.muli arg1 c512_i32
  let c0_i32_10 : BitVec 32 := 0#32
  let v19 : BitVec 32 := Scalar.addi v18 c0_i32_10
  let v20 : BitVec 32 := v19
  let v79 : Index := Scalar.indexCast v20
  let c0_27 : Index := 0#32
  ![v79.toNat, 0]
def k0_off9 (i : grid0.Coords) : Fin 2 → Nat :=
  let arg1 : BitVec 32 := BitVec.ofNat 32 (i 1).val
  let c512_i32 : BitVec 32 := 512#32
  let v18 : BitVec 32 := Scalar.muli arg1 c512_i32
  let c0_i32_10 : BitVec 32 := 0#32
  let v19 : BitVec 32 := Scalar.addi v18 c0_i32_10
  let v20 : BitVec 32 := v19
  let v83 : Index := Scalar.indexCast v20
  let c128_29 : Index := 128#32
  ![v83.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

@[reducible] def k1_t1_loop (i : grid1.Coords) : Scf.Loop 32 :=
  let c0_i32_27 : BitVec 32 := 0#32
  let arg1 : BitVec 32 := BitVec.ofNat 32 (i 1).val
  let v53 : BitVec 32 := Scalar.subi arg1 c0_i32_27
  let c1_i32 : BitVec 32 := 1#32
  let v55 : BitVec 32 := Scalar.divsi v53 c1_i32
  let v56 : BitVec 32 := Scalar.muli v55 c1_i32
  let v57 : BitVec 32 := Scalar.addi c0_i32_27 v56
  let c1_i32_28 : BitVec 32 := 1#32
  ⟨c0_i32_27, v57, c1_i32_28⟩
def k1_mult1 (i : grid1.Coords) (k1_t1 : Fin (k1_t1_loop i).trips) : BitVec 32 :=
  let c0_i32_27 : BitVec 32 := 0#32
  let c1_i32_28 : BitVec 32 := 1#32
  let arg11 : BitVec 32 := Scf.iv c0_i32_27 c1_i32_28 k1_t1
  let c512_i32_92 : BitVec 32 := 512#32
  let v245 : BitVec 32 := Scalar.muli arg11 c512_i32_92
  v245
def k1_off1 (i : grid1.Coords) (k1_t1 : Fin (k1_t1_loop i).trips) : Fin 2 → Nat :=
  let c0_i32_27 : BitVec 32 := 0#32
  let c1_i32_28 : BitVec 32 := 1#32
  let arg11 : BitVec 32 := Scf.iv c0_i32_27 c1_i32_28 k1_t1
  let c512_i32_92 : BitVec 32 := 512#32
  let v245 : BitVec 32 := Scalar.muli arg11 c512_i32_92
  let v246 : BitVec 32 := v245
  let v247 : Index := Scalar.indexCast v246
  let c0_93 : Index := 0#32
  ![v247.toNat, 0]
def k1_off2 (i : grid1.Coords) (k1_t1 : Fin (k1_t1_loop i).trips) : Fin 2 → Nat :=
  let c0_i32_27 : BitVec 32 := 0#32
  let c1_i32_28 : BitVec 32 := 1#32
  let arg11 : BitVec 32 := Scf.iv c0_i32_27 c1_i32_28 k1_t1
  let c512_i32_92 : BitVec 32 := 512#32
  let v245 : BitVec 32 := Scalar.muli arg11 c512_i32_92
  let v246 : BitVec 32 := v245
  let v250 : Index := Scalar.indexCast v246
  let c0_94 : Index := 0#32
  ![v250.toNat, 0]
def k1_off3 (i : grid1.Coords) (k1_t1 : Fin (k1_t1_loop i).trips) : Fin 2 → Nat :=
  let c0_i32_27 : BitVec 32 := 0#32
  let c1_i32_28 : BitVec 32 := 1#32
  let arg11 : BitVec 32 := Scf.iv c0_i32_27 c1_i32_28 k1_t1
  let c512_i32_92 : BitVec 32 := 512#32
  let v245 : BitVec 32 := Scalar.muli arg11 c512_i32_92
  let v246 : BitVec 32 := v245
  let v253 : Index := Scalar.indexCast v246
  let c128_95 : Index := 128#32
  ![v253.toNat, 128]
@[reducible] def k1_t2_loop (i : grid1.Coords) : Scf.Loop 32 :=
  let c0_i32_27 : BitVec 32 := 0#32
  let arg1 : BitVec 32 := BitVec.ofNat 32 (i 1).val
  let v53 : BitVec 32 := Scalar.subi arg1 c0_i32_27
  let c1_i32 : BitVec 32 := 1#32
  let v55 : BitVec 32 := Scalar.divsi v53 c1_i32
  let v56 : BitVec 32 := Scalar.muli v55 c1_i32
  let v57 : BitVec 32 := Scalar.addi c0_i32_27 v56
  let v54 : BitVec 32 := Scalar.addi c0_i32_27 v53
  let c1_i32_29 : BitVec 32 := 1#32
  ⟨v57, v54, c1_i32_29⟩
def k1_mult2 (i : grid1.Coords) (k1_t2 : Fin (k1_t2_loop i).trips) : BitVec 32 :=
  let c0_i32_27 : BitVec 32 := 0#32
  let arg1 : BitVec 32 := BitVec.ofNat 32 (i 1).val
  let v53 : BitVec 32 := Scalar.subi arg1 c0_i32_27
  let c1_i32 : BitVec 32 := 1#32
  let v55 : BitVec 32 := Scalar.divsi v53 c1_i32
  let v56 : BitVec 32 := Scalar.muli v55 c1_i32
  let v57 : BitVec 32 := Scalar.addi c0_i32_27 v56
  let c1_i32_29 : BitVec 32 := 1#32
  let arg11 : BitVec 32 := Scf.iv v57 c1_i32_29 k1_t2
  let c512_i32_92 : BitVec 32 := 512#32
  let v245 : BitVec 32 := Scalar.muli arg11 c512_i32_92
  v245
def k1_off4 (i : grid1.Coords) (k1_t2 : Fin (k1_t2_loop i).trips) : Fin 2 → Nat :=
  let c0_i32_27 : BitVec 32 := 0#32
  let arg1 : BitVec 32 := BitVec.ofNat 32 (i 1).val
  let v53 : BitVec 32 := Scalar.subi arg1 c0_i32_27
  let c1_i32 : BitVec 32 := 1#32
  let v55 : BitVec 32 := Scalar.divsi v53 c1_i32
  let v56 : BitVec 32 := Scalar.muli v55 c1_i32
  let v57 : BitVec 32 := Scalar.addi c0_i32_27 v56
  let c1_i32_29 : BitVec 32 := 1#32
  let arg11 : BitVec 32 := Scf.iv v57 c1_i32_29 k1_t2
  let c512_i32_92 : BitVec 32 := 512#32
  let v245 : BitVec 32 := Scalar.muli arg11 c512_i32_92
  let v246 : BitVec 32 := v245
  let v247 : Index := Scalar.indexCast v246
  let c0_93 : Index := 0#32
  ![v247.toNat, 0]
def k1_off5 (i : grid1.Coords) (k1_t2 : Fin (k1_t2_loop i).trips) : Fin 2 → Nat :=
  let c0_i32_27 : BitVec 32 := 0#32
  let arg1 : BitVec 32 := BitVec.ofNat 32 (i 1).val
  let v53 : BitVec 32 := Scalar.subi arg1 c0_i32_27
  let c1_i32 : BitVec 32 := 1#32
  let v55 : BitVec 32 := Scalar.divsi v53 c1_i32
  let v56 : BitVec 32 := Scalar.muli v55 c1_i32
  let v57 : BitVec 32 := Scalar.addi c0_i32_27 v56
  let c1_i32_29 : BitVec 32 := 1#32
  let arg11 : BitVec 32 := Scf.iv v57 c1_i32_29 k1_t2
  let c512_i32_92 : BitVec 32 := 512#32
  let v245 : BitVec 32 := Scalar.muli arg11 c512_i32_92
  let v246 : BitVec 32 := v245
  let v250 : Index := Scalar.indexCast v246
  let c0_94 : Index := 0#32
  ![v250.toNat, 0]
def k1_off6 (i : grid1.Coords) (k1_t2 : Fin (k1_t2_loop i).trips) : Fin 2 → Nat :=
  let c0_i32_27 : BitVec 32 := 0#32
  let arg1 : BitVec 32 := BitVec.ofNat 32 (i 1).val
  let v53 : BitVec 32 := Scalar.subi arg1 c0_i32_27
  let c1_i32 : BitVec 32 := 1#32
  let v55 : BitVec 32 := Scalar.divsi v53 c1_i32
  let v56 : BitVec 32 := Scalar.muli v55 c1_i32
  let v57 : BitVec 32 := Scalar.addi c0_i32_27 v56
  let c1_i32_29 : BitVec 32 := 1#32
  let arg11 : BitVec 32 := Scf.iv v57 c1_i32_29 k1_t2
  let c512_i32_92 : BitVec 32 := 512#32
  let v245 : BitVec 32 := Scalar.muli arg11 c512_i32_92
  let v246 : BitVec 32 := v245
  let v253 : Index := Scalar.indexCast v246
  let c128_95 : Index := 128#32
  ![v253.toNat, 128]
def k1_mult3 (i : grid1.Coords) : BitVec 32 :=
  let arg1 : BitVec 32 := BitVec.ofNat 32 (i 1).val
  let c512_i32 : BitVec 32 := 512#32
  let v60 : BitVec 32 := Scalar.muli arg1 c512_i32
  v60
def k1_off7 (i : grid1.Coords) : Fin 2 → Nat :=
  let arg1 : BitVec 32 := BitVec.ofNat 32 (i 1).val
  let c512_i32 : BitVec 32 := 512#32
  let v60 : BitVec 32 := Scalar.muli arg1 c512_i32
  let v61 : BitVec 32 := v60
  let v62 : Index := Scalar.indexCast v61
  let c0_30 : Index := 0#32
  ![v62.toNat, 0]
def k1_off8 (i : grid1.Coords) : Fin 2 → Nat :=
  let arg1 : BitVec 32 := BitVec.ofNat 32 (i 1).val
  let c512_i32 : BitVec 32 := 512#32
  let v60 : BitVec 32 := Scalar.muli arg1 c512_i32
  let v61 : BitVec 32 := v60
  let v65 : Index := Scalar.indexCast v61
  let c0_31 : Index := 0#32
  ![v65.toNat, 0]
def k1_off9 (i : grid1.Coords) : Fin 2 → Nat :=
  let arg1 : BitVec 32 := BitVec.ofNat 32 (i 1).val
  let c512_i32 : BitVec 32 := 512#32
  let v60 : BitVec 32 := Scalar.muli arg1 c512_i32
  let v61 : BitVec 32 := v60
  let v68 : Index := Scalar.indexCast v61
  let c128_32 : Index := 128#32
  ![v68.toNat, 128]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2x512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4096x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== AttnIdeal.lean ====
variable {F : FTy → Type} [FloatOps F] [Named F]
def κ : String → Option EReal := fun
  | "exp2_scale" => some (((Real.sqrt 96)⁻¹ * (Real.log 2)⁻¹ : ℝ) : EReal)
  | "log2e" => some (((Real.log 2)⁻¹ : ℝ) : EReal)
  | "mask" => some ⊥
  | "scale" => some (((Real.sqrt 96)⁻¹ : ℝ) : EReal)
  | _ => none
-- ==== AttnRefIdeal.lean ====
abbrev S4096x16x64 : Shape := ⟨3, ![4096, 16, 64]⟩
abbrev S4096x16x32 : Shape := ⟨3, ![4096, 16, 32]⟩
abbrev S4096x32 : Shape := ⟨2, ![4096, 32]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4096x1x32 : Shape := ⟨3, ![4096, 1, 32]⟩
abbrev S16x4096x4096 : Shape := ⟨3, ![16, 4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S16x64x4096 : Shape := ⟨3, ![16, 64, 4096]⟩
abbrev S16x4096x32 : Shape := ⟨3, ![16, 4096, 32]⟩
abbrev S16x4096x64 : Shape := ⟨3, ![16, 4096, 64]⟩
abbrev S4096x16x128 : Shape := ⟨3, ![4096, 16, 128]⟩
abbrev S4096x2048 : Shape := ⟨2, ![4096, 2048]⟩
abbrev S4096x1024 : Shape := ⟨2, ![4096, 1024]⟩
abbrev S8x2x4096x1 : Shape := ⟨4, ![8, 2, 4096, 1]⟩

abbrev nBuf : Space → Nat
  | .hbm => 118
  | .vmem => 0
  | .smem => 0
  | _ => 0

abbrev bufTy : (tb : Table) → Fin (tcTables nBuf tb) → BufTy
  | .hbm, ⟨0, _⟩ => ⟨S4096x16x64, .f32⟩
  | .hbm, ⟨1, _⟩ => ⟨S4096x16x32, .f32⟩
  | .hbm, ⟨2, _⟩ => ⟨S4096x16x64, .f32⟩
  | .hbm, ⟨3, _⟩ => ⟨S4096x32, .f32⟩
  | .hbm, ⟨4, _⟩ => ⟨S4096x16x64, .f32⟩
  | .hbm, ⟨5, _⟩ => ⟨S4096x16x64, .f32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x1x32, .f32⟩
  | .hbm, ⟨20, _⟩ => ⟨S4096x16x32, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S1x4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .i1⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S_, .f32⟩
  | .hbm, ⟨46, _⟩ => ⟨S16x4096, .f32⟩
  | .hbm, ⟨47, _⟩ => ⟨S16x4096, .i1⟩
  | .hbm, ⟨48, _⟩ => ⟨S_, .f32⟩
  | .hbm, ⟨49, _⟩ => ⟨S16x4096, .f32⟩
  | .hbm, ⟨50, _⟩ => ⟨S16x4096, .i1⟩
  | .hbm, ⟨51, _⟩ => ⟨S_, .f32⟩
  | .hbm, ⟨52, _⟩ => ⟨S16x4096, .f32⟩
  | .hbm, ⟨53, _⟩ => ⟨S_, .f32⟩
  | .hbm, ⟨54, _⟩ => ⟨S16x4096, .f32⟩
  | .hbm, ⟨55, _⟩ => ⟨S_, .f32⟩
  | .hbm, ⟨56, _⟩ => ⟨S16x4096, .f32⟩
  | .hbm, ⟨57, _⟩ => ⟨S16x4096, .f32⟩
  | .hbm, ⟨58, _⟩ => ⟨S16x4096, .f32⟩
  | .hbm, ⟨59, _⟩ => ⟨S16x4096x1, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S16x4096x4096, .f32⟩
  | .hbm, ⟨67, _⟩ => ⟨S16x4096x4096, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x64x4096, .f32⟩
  | .hbm, ⟨73, _⟩ => ⟨S4096x16x64, .f32⟩
  | .hbm, ⟨74, _⟩ => ⟨S16x64x4096, .f32⟩
  | .hbm, ⟨75, _⟩ => ⟨S16x4096x4096, .f32⟩
  | .hbm, ⟨76, _⟩ => ⟨S16x64x4096, .f32⟩
  | .hbm, ⟨77, _⟩ => ⟨S4096x16x64, .f32⟩
  | .hbm, ⟨78, _⟩ => ⟨S16x4096x4096, .f32⟩
  | .hbm, ⟨79, _⟩ => ⟨S16x4096x4096, .f32⟩
  | .hbm, ⟨80, _⟩ => ⟨S16x4096x4096, .f32⟩
  | .hbm, ⟨81, _⟩ => ⟨S_, .f32⟩
  | .hbm, ⟨82, _⟩ => ⟨S16x4096, .f32⟩
  | .hbm, ⟨83, _⟩ => ⟨S16x4096x1, .f32⟩
  | .hbm, ⟨84, _⟩ => ⟨S16x4096x1, .f32⟩
  | .hbm, ⟨85, _⟩ => ⟨S16x4096x4096, .f32⟩
  | .hbm, ⟨86, _⟩ => ⟨S16x4096x4096, .f32⟩
  | .hbm, ⟨87, _⟩ => ⟨S_, .f32⟩
  | .hbm, ⟨88, _⟩ => ⟨S16x4096, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096x4096, .f32⟩
  | .hbm, ⟨94, _⟩ => ⟨S16x4096x4096, .f32⟩
  | .hbm, ⟨95, _⟩ => ⟨S16x4096x4096, .f32⟩
  | .hbm, ⟨96, _⟩ => ⟨S16x4096x4096, .f32⟩
  | .hbm, ⟨97, _⟩ => ⟨S16x4096x32, .f32⟩
  | .hbm, ⟨98, _⟩ => ⟨S4096x16x32, .f32⟩
  | .hbm, ⟨99, _⟩ => ⟨S16x4096x32, .f32⟩
  | .hbm, ⟨100, _⟩ => ⟨S4096x16x32, .f32⟩
  | .hbm, ⟨101, _⟩ => ⟨S16x4096x64, .f32⟩
  | .hbm, ⟨102, _⟩ => ⟨S4096x16x64, .f32⟩
  | .hbm, ⟨103, _⟩ => ⟨S16x4096x64, .f32⟩
  | .hbm, ⟨104, _⟩ => ⟨S4096x16x64, .f32⟩
  | .hbm, ⟨105, _⟩ => ⟨S16x4096x4096, .f32⟩
  | .hbm, ⟨106, _⟩ => ⟨S_, .f32⟩
  | .hbm, ⟨107, _⟩ => ⟨S16x4096, .f32⟩
  | .hbm, ⟨108, _⟩ => ⟨S16x4096, .f32⟩
  | .hbm, ⟨109, _⟩ => ⟨S_, .f32⟩
  | .hbm, ⟨110, _⟩ => ⟨S4096x16x32, .f32⟩
  | .hbm, ⟨111, _⟩ => ⟨S4096x16x128, .f32⟩
  | .hbm, ⟨112, _⟩ => ⟨S4096x2048, .f32⟩
  | .hbm, ⟨113, _⟩ => ⟨S4096x16x128, .f32⟩
  | .hbm, ⟨114, _⟩ => ⟨S4096x2048, .f32⟩
  | .hbm, ⟨115, _⟩ => ⟨S4096x1024, .f32⟩
  | .hbm, ⟨116, _⟩ => ⟨S8x2x4096x1, .f32⟩
  | .hbm, ⟨117, _⟩ => ⟨S4096x1024, .f32⟩
  | _, _ => ⟨S4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_call0_v0 : Ref sig .tc := ⟨.hbm, 28, rfl⟩
abbrev main_v18_1 : Ref sig .tc := ⟨.hbm, 29, rfl⟩
abbrev main_call0_v2 : Ref sig .tc := ⟨.hbm, 30, rfl⟩
abbrev main_v18_0 : Ref sig .tc := ⟨.hbm, 31, rfl⟩
abbrev main_call0_cst : Ref sig .tc := ⟨.hbm, 32, rfl⟩
abbrev main_v18_2 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call1_cst : Ref sig .tc := ⟨.hbm, 92, rfl⟩
abbrev main_call1_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== O.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S1024x1024, .bf16⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ORefIdeal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Glu.lean ====
abbrev S4096x1024 : Shape := ⟨2, ![4096, 1024]⟩
abbrev S1x1024 : Shape := ⟨2, ![1, 1024]⟩
abbrev S1024 : Shape := ⟨1, ![1024]⟩
abbrev S1024x1024 : Shape := ⟨2, ![1024, 1024]⟩
abbrev S256x1024 : Shape := ⟨2, ![256, 1024]⟩

abbrev nBuf : Space → Nat
  | .hbm => 14
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S1x1024, .f32⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GluRefIdeal.lean ====
abbrev S4096x1024 : Shape := ⟨2, ![4096, 1024]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S_, .f32⟩
  | .hbm, ⟨90, _⟩ => ⟨S1024, .f32⟩
  | .hbm, ⟨91, _⟩ => ⟨S4096x1024, .bf16⟩
  | .hbm, ⟨92, _⟩ => ⟨S4096x1024, .bf16⟩
  | .hbm, ⟨93, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Prep.lean ====
abbrev S64x64 : Shape := ⟨2, ![64, 64]⟩
abbrev S64 : Shape := ⟨1, ![64]⟩
abbrev S64x64x16 : Shape := ⟨3, ![64, 64, 16]⟩
abbrev S64x64x64 : Shape := ⟨3, ![64, 64, 64]⟩
abbrev S_ : Shape := ⟨0, ![]⟩
abbrev S64x4096 : Shape := ⟨2, ![64, 4096]⟩
abbrev S1x4096 : Shape := ⟨2, ![1, 4096]⟩
abbrev S1x64 : Shape := ⟨2, ![1, 64]⟩
abbrev S16x64x64 : Shape := ⟨3, ![16, 64, 64]⟩
abbrev S16x4096 : Shape := ⟨2, ![16, 4096]⟩
abbrev S4096 : Shape := ⟨1, ![4096]⟩

abbrev nBuf : Space → Nat
  | .hbm => 36
  | .vmem => 15
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x64x64, .i32⟩
  | .hbm, ⟨10, _⟩ => ⟨S64x64x64, .i32⟩
  | .hbm, ⟨11, _⟩ => ⟨S64x64x64, .i1⟩
  | .hbm, ⟨12, _⟩ => ⟨S_, .f32⟩
  | .hbm, ⟨13, _⟩ => ⟨S_, .f32⟩
  | .hbm, ⟨14, _⟩ => ⟨S64x64x64, .f32⟩
  | .hbm, ⟨15, _⟩ => ⟨S64x64x64, .f32⟩
  | .hbm, ⟨16, _⟩ => ⟨S64x64x64, .f32⟩
  | .hbm, ⟨17, _⟩ => ⟨S64x4096, .f32⟩
  | .hbm, ⟨18, _⟩ => ⟨S1x4096, .f32⟩
  | .hbm, ⟨19, _⟩ => ⟨S1x4096, .f32⟩
  | .hbm, ⟨20, _⟩ => ⟨S1x64, .f32⟩
  | .hbm, ⟨21, _⟩ => ⟨S16x64x64, .f32⟩
  | .hbm, ⟨22, _⟩ => ⟨S16x4096, .f32⟩
  | .hbm, ⟨23, _⟩ => ⟨S16x64x64, .f32⟩
  | .hbm, ⟨24, _⟩ => ⟨S16x4096, .f32⟩
  | .hbm, ⟨25, _⟩ => ⟨S1x4096, .f32⟩
  | .hbm, ⟨26, _⟩ => ⟨S1x4096, .f32⟩
  | .hbm, ⟨27, _⟩ => ⟨S16x64x64, .f32⟩
  | .hbm, ⟨28, _⟩ => ⟨S16x4096, .f32⟩
  | .hbm, ⟨29, _⟩ => ⟨S16x64x64, .f32⟩
  | .hbm, ⟨30, _⟩ => ⟨S16x4096, .f32⟩
  | .hbm, ⟨31, _⟩ => ⟨S1x4096, .f32⟩
  | .hbm, ⟨32, _⟩ => ⟨S1x4096, .f32⟩
  | .hbm, ⟨33, _⟩ => ⟨S1x64, .f32⟩
  | .hbm, ⟨34, _⟩ => ⟨S16x4096, .f32⟩
  | .hbm, ⟨35, _⟩ => ⟨S16x4096, .f32⟩
  | .local _ .vmem, ⟨0, _⟩ => ⟨S1x4096, .f32⟩
  | .local _ .vmem, ⟨1, _⟩ => ⟨S1x4096, .f32⟩
  | .local _ .vmem, ⟨2, _⟩ => ⟨S1x64, .f32⟩
  | .local _ .vmem, ⟨3, _⟩ => ⟨S16x4096, .f32⟩
  | .local _ .vmem, ⟨4, _⟩ => ⟨S16x4096, .f32⟩
  | .local _ .vmem, ⟨5, _⟩ => ⟨S64x4096, .f32⟩
  | .local _ .vmem, ⟨6, _⟩ => ⟨S1x4096, .f32⟩
  | .local _ .vmem, ⟨7, _⟩ => ⟨S1x4096, .f32⟩
  | .local _ .vmem, ⟨8, _⟩ => ⟨S16x4096, .f32⟩
  | .local _ .vmem, ⟨9, _⟩ => ⟨S16x4096, .f32⟩
  | .local _ .vmem, ⟨10, _⟩ => ⟨S1x4096, .f32⟩
  | .local _ .vmem, ⟨11, _⟩ => ⟨S1x4096, .f32⟩
  | .local _ .vmem, ⟨12, _⟩ => ⟨S1x64, .f32⟩
  | .local _ .vmem, ⟨13, _⟩ => ⟨S16x4096, .f32⟩
  | .local _ .vmem, ⟨14, _⟩ => ⟨S16x4096, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== PrepRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S1x4096 : Shape := ⟨2, ![1, 4096]⟩
abbrev S1x64 : Shape := ⟨2, ![1, 64]⟩
abbrev S16x64x64 : Shape := ⟨3, ![16, 64, 64]⟩
abbrev S16x4096 : Shape := ⟨2, ![16, 4096]⟩

abbrev nBuf : Space → Nat
  | .hbm => 174
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S_, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64x1, .f32⟩
  | 47 => ⟨S64x64x16, .f32⟩
  | 48 => ⟨S64x64x16, .f32⟩
  | 49 => ⟨S64x64x1, .f32⟩
  | 50 => ⟨S64x64x16, .f32⟩
  | 51 => ⟨S64x64x16, .f32⟩
  | 52 => ⟨S64x64x16, .f32⟩
  | 53 => ⟨S64x64x1, .f32⟩
  | 54 => ⟨S64x64x16, .f32⟩
  | 55 => ⟨S64x64x16, .f32⟩
  | 56 => ⟨S64x64x1, .f32⟩
  | 57 => ⟨S64x64x16, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S64x64x16, .f32⟩
  | 64 => ⟨S64x64x16, .f32⟩
  | 65 => ⟨S_, .f32⟩
  | 66 => ⟨S64x64, .f32⟩
  | 67 => ⟨S64x64x1, .f32⟩
  | 68 => ⟨S_, .f32⟩
  | 69 => ⟨S64x64, .f32⟩
  | 70 => ⟨S64x64x16, .f32⟩
  | 71 => ⟨S64x64x16, .f32⟩
  | 72 => ⟨S64x64x16, .f32⟩
  | 73 => ⟨S_, .f32⟩
  | 74 => ⟨S64x64, .f32⟩
  | 75 => ⟨S64x64x1, .f32⟩
  | 76 => ⟨S_, .f32⟩
  | 77 => ⟨S64x64, .f32⟩
  | 78 => ⟨S64x64x16, .f32⟩
  | 79 => ⟨S64x64x16, .f32⟩
  | 80 => ⟨S64x64x16, .f32⟩
  | 81 => ⟨S64x64x16, .f32⟩
  | 82 => ⟨S64x64x16, .f32⟩
  | 83 => ⟨S64x64x16, .f32⟩
  | 84 => ⟨S_, .f32⟩
  | 85 => ⟨S64x64, .f32⟩
  | 86 => ⟨S64x64x1, .f32⟩
  | 87 => ⟨S_, .f32⟩
  | 88 => ⟨S64x64, .f32⟩
  | 89 => ⟨S64x64, .f32⟩
  | 90 => ⟨S64x64x16, .f32⟩
  | 91 => ⟨S64x64x16, .f32⟩
  | 92 => ⟨S64x64x16, .f32⟩
  | 93 => ⟨S64x64x16, .f32⟩
  | 94 => ⟨S_, .f32⟩
  | 95 => ⟨S64x64, .f32⟩
  | 96 => ⟨S64x64x1, .f32⟩
  | 97 => ⟨S_, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S_, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S_, .f32⟩
  | 21 => ⟨S64, .f32⟩
  | 22 => ⟨S64x1, .f32⟩
  | 23 => ⟨S64x1, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S_, .f32⟩
  | 30 => ⟨S64, .f32⟩
  | 31 => ⟨S64x1, .f32⟩
  | 32 => ⟨S64x1, .f32⟩
  | 33 => ⟨S64x64, .f32⟩
  | 34 => ⟨S64x64, .f32⟩
  | 35 => ⟨S64x64, .f32⟩
  | 36 => ⟨S_, .f32⟩
  | 37 => ⟨S64, .f32⟩
  | 38 => ⟨S64, .f32⟩
  | 39 => ⟨S1x4096, .f32⟩
  | 40 => ⟨S1x4096, .f32⟩
  | 41 => ⟨S1x64, .f32⟩
  | 42 => ⟨S16x64x64, .f32⟩
  | 43 => ⟨S16x4096, .f32⟩
  | 44 => ⟨S16x64x64, .f32⟩
  | 45 => ⟨S16x4096, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_8 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_10 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_11 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_12 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_cst_13 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩

abbrev nD : Nat := 1
abbrev τ : Topo := Topo.v7x

variable {F : FTy → Type} [FloatOps F]
-- ==== Ffn.lean ====
abbrev S4096x1024 : Shape := ⟨2, ![4096, 1024]⟩
abbrev S1024 : Shape := ⟨1, ![1024]⟩
abbrev S1x1024 : Shape := ⟨2, ![1, 1024]⟩
abbrev S1024x2816 : Shape := ⟨2, ![1024, 2816]⟩
abbrev S2816x1024 : Shape := ⟨2, ![2816, 1024]⟩
abbrev S1024x8x352 : Shape := ⟨3, ![1024, 8, 352]⟩
abbrev S_ : Shape := ⟨0, ![]⟩
abbrev S1024x8x384 : Shape := ⟨3, ![1024, 8, 384]⟩
abbrev S1024x3072 : Shape := ⟨2, ![1024, 3072]⟩
abbrev S8x352x1024 : Shape := ⟨3, ![8, 352, 1024]⟩
abbrev S8x384x1024 : Shape := ⟨3, ![8, 384, 1024]⟩
abbrev S3072x1024 : Shape := ⟨2, ![3072, 1024]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S256x768 : Shape := ⟨2, ![256, 768]⟩
abbrev S4096x8x384 : Shape := ⟨3, ![4096, 8, 384]⟩
abbrev S4096x8x352 : Shape := ⟨3, ![4096, 8, 352]⟩
abbrev S4096x2816 : Shape := ⟨2, ![4096, 2816]⟩

abbrev nBuf : Space → Nat
  | .hbm => 50
  | .vmem => 46
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4096x1024, .f32⟩
  | .hbm, ⟨9, _⟩ => ⟨S1x1024, .f32⟩
  | .hbm, ⟨10, _⟩ => ⟨S1024x8x352, .f32⟩
  | .hbm, ⟨11, _⟩ => ⟨S1024x8x352, .bf16⟩
  | .hbm, ⟨12, _⟩ => ⟨S_, .i32⟩
  | .hbm, ⟨13, _⟩ => ⟨S_, .bf16⟩
  | .hbm, ⟨14, _⟩ => ⟨S1024x8x384, .bf16⟩
  | .hbm, ⟨15, _⟩ => ⟨S1024x3072, .bf16⟩
  | .hbm, ⟨16, _⟩ => ⟨S1024x8x352, .f32⟩
  | .hbm, ⟨17, _⟩ => ⟨S1024x8x352, .bf16⟩
  | .hbm, ⟨18, _⟩ => ⟨S_, .i32⟩
  | .hbm, ⟨19, _⟩ => ⟨S_, .bf16⟩
  | .hbm, ⟨20, _⟩ => ⟨S1024x8x384, .bf16⟩
  | .hbm, ⟨21, _⟩ => ⟨S1024x3072, .bf16⟩
  | .hbm, ⟨22, _⟩ => ⟨S8x352x1024, .f32⟩
  | .hbm, ⟨23, _⟩ => ⟨S8x352x1024, .bf16⟩
  | .hbm, ⟨24, _⟩ => ⟨S_, .i32⟩
  | .hbm, ⟨25, _⟩ => ⟨S_, .bf16⟩
  | .hbm, ⟨26, _⟩ => ⟨S8x384x1024, .bf16⟩
  | .hbm, ⟨27, _⟩ => ⟨S3072x1024, .bf16⟩
  | .hbm, ⟨28, _⟩ => ⟨S4096x1024, .f32⟩
  | .hbm, ⟨29, _⟩ => ⟨S4096x3072, .bf16⟩
  | .hbm, ⟨30, _⟩ => ⟨S4096x3072, .bf16⟩
  | .hbm, ⟨31, _⟩ => ⟨S4096x1024, .f32⟩
  | .hbm, ⟨32, _⟩ => ⟨S4096x3072, .bf16⟩
  | .hbm, ⟨33, _⟩ => ⟨S4096x3072, .bf16⟩
  | .hbm, ⟨34, _⟩ => ⟨S4096x1024, .bf16⟩
  | .hbm, ⟨35, _⟩ => ⟨S4096x1024, .bf16⟩
  | .hbm, ⟨36, _⟩ => ⟨S4096x3072, .bf16⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S4096x8x384, .bf16⟩
  | .hbm, ⟨42, _⟩ => ⟨S4096x8x352, .bf16⟩
  | .hbm, ⟨43, _⟩ => ⟨S4096x2816, .bf16⟩
  | .hbm, ⟨44, _⟩ => ⟨S4096x8x384, .bf16⟩
  | .hbm, ⟨45, _⟩ => ⟨S4096x8x352, .bf16⟩
  | .hbm, ⟨46, _⟩ => ⟨S4096x2816, .bf16⟩
  | .hbm, ⟨47, _⟩ => ⟨S4096x8x384, .bf16⟩
  | .hbm, ⟨48, _⟩ => ⟨S4096x8x352, .bf16⟩
  | .hbm, ⟨49, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x3072, .bf16⟩
  | .local _ .vmem, ⟨7, _⟩ => ⟨S1024x3072, .bf16⟩
  | .local _ .vmem, ⟨8, _⟩ => ⟨S3072x1024, .bf16⟩
  | .local _ .vmem, ⟨9, _⟩ => ⟨S512x1024, .f32⟩
  | .local _ .vmem, ⟨10, _⟩ => ⟨S512x1024, .f32⟩
  | .local _ .vmem, ⟨11, _⟩ => ⟨S512x3072, .bf16⟩
  | .local _ .vmem, ⟨12, _⟩ => ⟨S512x3072, .bf16⟩
  | .local _ .vmem, ⟨13, _⟩ => ⟨S512x3072, .bf16⟩
  | .local _ .vmem, ⟨14, _⟩ => ⟨S512x3072, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x3072, .bf16⟩
  | .local _ .vmem, ⟨20, _⟩ => ⟨S256x3072, .bf16⟩
  | .local _ .vmem, ⟨21, _⟩ => ⟨S256x3072, .bf16⟩
  | .local _ .vmem, ⟨22, _⟩ => ⟨S256x3072, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1024x3072, .bf16⟩
  | .local _ .vmem, ⟨28, _⟩ => ⟨S1024x3072, .bf16⟩
  | .local _ .vmem, ⟨29, _⟩ => ⟨S3072x1024, .bf16⟩
  | .local _ .vmem, ⟨30, _⟩ => ⟨S256x1024, .f32⟩
  | .local _ .vmem, ⟨31, _⟩ => ⟨S256x1024, .f32⟩
  | .local _ .vmem, ⟨32, _⟩ => ⟨S256x3072, .bf16⟩
  | .local _ .vmem, ⟨33, _⟩ => ⟨S256x3072, .bf16⟩
  | .local _ .vmem, ⟨34, _⟩ => ⟨S256x3072, .bf16⟩
  | .local _ .vmem, ⟨35, _⟩ => ⟨S256x3072, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x3072, .bf16⟩
  | .local _ .vmem, ⟨41, _⟩ => ⟨S256x3072, .bf16⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_call2_v0 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev main_v14_5 : Ref sig .tc := ⟨.hbm, 36, rfl⟩
abbrev main_v14_6 : Ref sig .tc := ⟨.hbm, 37, rfl⟩
abbrev main_v14_7 : Ref sig .tc := ⟨.hbm, 38, rfl⟩
abbrev main_v14_8 : Ref sig .tc := ⟨.hbm, 39, rfl⟩
abbrev main_v14_9 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg15_0 : Ref sig .tc := ⟨.vmem, 38, rfl⟩
abbrev cc1_stg15_1 : Ref sig .tc := ⟨.vmem, 39, rfl⟩
abbrev cc1_stg16_0 : Ref sig .tc := ⟨.vmem, 40, rfl⟩
abbrev cc1_stg16_1 : Ref sig .tc := ⟨.vmem, 41, rfl⟩
abbrev cc1_stg17_0 : Ref sig .tc := ⟨.vmem, 42, rfl⟩
abbrev cc1_stg18_0 : Ref sig .tc := ⟨.vmem, 43, rfl⟩
abbrev cc1_stg19_0 : Ref sig .tc := ⟨.vmem, 44, rfl⟩
abbrev cc1_stg20_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34
abbrev cc1_sem13_1 : DmaSem sig := 35
abbrev cc1_sem14_0 : DmaSem sig := 36
abbrev cc1_sem14_1 : DmaSem sig := 37
abbrev cc1_sem15_0 : DmaSem sig := 38
abbrev cc1_sem15_1 : DmaSem sig := 39
abbrev cc1_sem16_0 : DmaSem sig := 40
abbrev cc1_sem16_1 : DmaSem sig := 41
abbrev cc1_sem17_0 : DmaSem sig := 42
abbrev cc1_sem18_0 : DmaSem sig := 43
abbrev cc1_sem19_0 : DmaSem sig := 44
abbrev cc1_sem20_0 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x3072 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x3072 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x3072 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x3072 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3072x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x3072 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x3072 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S256x3072 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x1024 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]
-- ==== FfnRefIdeal.lean ====
abbrev S4096x1024 : Shape := ⟨2, ![4096, 1024]⟩
abbrev S1024 : Shape := ⟨1, ![1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S1024x2816, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S4096x2816, .f32⟩
  | .hbm, ⟨71, _⟩ => ⟨S2816x1024, .f32⟩
  | .hbm, ⟨72, _⟩ => ⟨S4096x1024, .f32⟩
  | .hbm, ⟨73, _⟩ => ⟨S2816x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S1024, .f32⟩
  | .hbm, ⟨93, _⟩ => ⟨S4096x1024, .f32⟩
  | .hbm, ⟨94, _⟩ => ⟨S_, .f32⟩
  | .hbm, ⟨95, _⟩ => ⟨S4096, .f32⟩
  | .hbm, ⟨96, _⟩ => ⟨S4096x1, .f32⟩
  | .hbm, ⟨97, _⟩ => ⟨S4096x1024, .f32⟩
  | .hbm, ⟨98, _⟩ => ⟨S4096x1024, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S_, .f32⟩
  | .hbm, ⟨104, _⟩ => ⟨S4096, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x2816, .bf16⟩
  | .hbm, ⟨112, _⟩ => ⟨S4096x2816, .bf16⟩
  | .hbm, ⟨113, _⟩ => ⟨S4096x1024, .bf16⟩
  | .hbm, ⟨114, _⟩ => ⟨S4096x1024, .bf16⟩
  | .hbm, ⟨115, _⟩ => ⟨S4096x2816, .bf16⟩
  | .hbm, ⟨116, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v24_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v24_1 : Ref sig .tc := ⟨.hbm, 49, rfl⟩
abbrev main_v24_0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_5 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_7 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_10 : Ref sig .tc := ⟨.hbm, 100, rfl⟩
abbrev main_v65 : Ref sig .tc := ⟨.hbm, 101, rfl⟩
abbrev main_v66 : Ref sig .tc := ⟨.hbm, 102, rfl⟩
abbrev main_cst_11 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩

abbrev nD : Nat := 1
abbrev τ : Topo := Topo.v7x

variable {F : FTy → Type} [FloatOps F]
-- ==== Q.lean ====
abbrev S4096x1024 : Shape := ⟨2, ![4096, 1024]⟩
abbrev S1024 : Shape := ⟨1, ![1024]⟩
abbrev S1x1024 : Shape := ⟨2, ![1, 1024]⟩
abbrev S256 : Shape := ⟨1, ![256]⟩
abbrev S64 : Shape := ⟨1, ![64]⟩
abbrev S32 : Shape := ⟨1, ![32]⟩
abbrev S1024x256 : Shape := ⟨2, ![1024, 256]⟩
abbrev S256x1536 : Shape := ⟨2, ![256, 1536]⟩
abbrev S4096x16 : Shape := ⟨2, ![4096, 16]⟩
abbrev S4096x16x64 : Shape := ⟨3, ![4096, 16, 64]⟩
abbrev S4096x16x32 : Shape := ⟨3, ![4096, 16, 32]⟩
abbrev S_ : Shape := ⟨0, ![]⟩
abbrev S128 : Shape := ⟨1, ![128]⟩
abbrev S1x128 : Shape := ⟨2, ![1, 128]⟩
abbrev S256x16x96 : Shape := ⟨3, ![256, 16, 96]⟩
abbrev S256x16x128 : Shape := ⟨3, ![256, 16, 128]⟩
abbrev S256x2048 : Shape := ⟨2, ![256, 2048]⟩
abbrev S4096x16x96 : Shape := ⟨3, ![4096, 16, 96]⟩
abbrev S4096x16x128 : Shape := ⟨3, ![4096, 16, 128]⟩
abbrev S4096x2048 : Shape := ⟨2, ![4096, 2048]⟩
abbrev S1x256 : Shape := ⟨2, ![1, 256]⟩
abbrev S4096x64 : Shape := ⟨2, ![4096, 64]⟩
abbrev S4096x32 : Shape := ⟨2, ![4096, 32]⟩
abbrev S4096x128 : Shape := ⟨2, ![4096, 128]⟩
abbrev S4096x256 : Shape := ⟨2, ![4096, 256]⟩
abbrev S256x1024 : Shape := ⟨2, ![256, 1024]⟩
abbrev S256x128 : Shape := ⟨2, ![256, 128]⟩
abbrev S256x256 : Shape := ⟨2, ![256, 256]⟩
abbrev S256x1 : Shape := ⟨2, ![256, 1]⟩
abbrev S128x128 : Shape := ⟨2, ![128, 128]⟩
abbrev S256x1920 : Shape := ⟨2, ![256, 1920]⟩
abbrev S256x1792 : Shape := ⟨2, ![256, 1792]⟩
abbrev S256x1664 : Shape := ⟨2, ![256, 1664]⟩
abbrev S256x384 : Shape := ⟨2, ![256, 384]⟩
abbrev S256x1408 : Shape := ⟨2, ![256, 1408]⟩
abbrev S256x512 : Shape := ⟨2, ![256, 512]⟩
abbrev S256x1280 : Shape := ⟨2, ![256, 1280]⟩
abbrev S256x640 : Shape := ⟨2, ![256, 640]⟩
abbrev S256x1152 : Shape := ⟨2, ![256, 1152]⟩
abbrev S256x768 : Shape := ⟨2, ![256, 768]⟩
abbrev S256x896 : Shape := ⟨2, ![256, 896]⟩

abbrev nBuf : Space → Nat
  | .hbm => 52
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S1x1024, .f32⟩
  | .hbm, ⟨4, _⟩ => ⟨S256, .f32⟩
  | .hbm, ⟨5, _⟩ => ⟨S64, .f32⟩
  | .hbm, ⟨6, _⟩ => ⟨S32, .f32⟩
  | .hbm, ⟨7, _⟩ => ⟨S1024x256, .f32⟩
  | .hbm, ⟨8, _⟩ => ⟨S256x1536, .f32⟩
  | .hbm, ⟨9, _⟩ => ⟨S4096x16, .f32⟩
  | .hbm, ⟨10, _⟩ => ⟨S4096x16, .f32⟩
  | .hbm, ⟨11, _⟩ => ⟨S4096x16x64, .f32⟩
  | .hbm, ⟨12, _⟩ => ⟨S4096x16x32, .f32⟩
  | .hbm, ⟨13, _⟩ => ⟨S4096x1024, .f32⟩
  | .hbm, ⟨14, _⟩ => ⟨S_, .f32⟩
  | .hbm, ⟨15, _⟩ => ⟨S32, .f32⟩
  | .hbm, ⟨16, _⟩ => ⟨S128, .f32⟩
  | .hbm, ⟨17, _⟩ => ⟨S1x128, .f32⟩
  | .hbm, ⟨18, _⟩ => ⟨S256x16x96, .f32⟩
  | .hbm, ⟨19, _⟩ => ⟨S_, .i32⟩
  | .hbm, ⟨20, _⟩ => ⟨S_, .f32⟩
  | .hbm, ⟨21, _⟩ => ⟨S256x16x128, .f32⟩
  | .hbm, ⟨22, _⟩ => ⟨S256x2048, .f32⟩
  | .hbm, ⟨23, _⟩ => ⟨S4096x16x96, .f32⟩
  | .hbm, ⟨24, _⟩ => ⟨S_, .i32⟩
  | .hbm, ⟨25, _⟩ => ⟨S_, .f32⟩
  | .hbm, ⟨26, _⟩ => ⟨S4096x16x128, .f32⟩
  | .hbm, ⟨27, _⟩ => ⟨S4096x2048, .f32⟩
  | .hbm, ⟨28, _⟩ => ⟨S1x1024, .f32⟩
  | .hbm, ⟨29, _⟩ => ⟨S1x256, .f32⟩
  | .hbm, ⟨30, _⟩ => ⟨S_, .f32⟩
  | .hbm, ⟨31, _⟩ => ⟨S4096x64, .f32⟩
  | .hbm, ⟨32, _⟩ => ⟨S_, .f32⟩
  | .hbm, ⟨33, _⟩ => ⟨S4096x32, .f32⟩
  | .hbm, ⟨34, _⟩ => ⟨S4096x128, .f32⟩
  | .hbm, ⟨35, _⟩ => ⟨S_, .f32⟩
  | .hbm, ⟨36, _⟩ => ⟨S4096x64, .f32⟩
  | .hbm, ⟨37, _⟩ => ⟨S_, .f32⟩
  | .hbm, ⟨38, _⟩ => ⟨S4096x32, .f32⟩
  | .hbm, ⟨39, _⟩ => ⟨S4096x128, .f32⟩
  | .hbm, ⟨40, _⟩ => ⟨S1024x256, .bf16⟩
  | .hbm, ⟨41, _⟩ => ⟨S256x2048, .bf16⟩
  | .hbm, ⟨42, _⟩ => ⟨S4096x1024, .f32⟩
  | .hbm, ⟨43, _⟩ => ⟨S4096x256, .bf16⟩
  | .hbm, ⟨44, _⟩ => ⟨S4096x2048, .bf16⟩
  | .hbm, ⟨45, _⟩ => ⟨S4096x1024, .bf16⟩
  | .hbm, ⟨46, _⟩ => ⟨S4096x256, .bf16⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x256, .f32⟩
  | .hbm, ⟨51, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x2048, .f32⟩
  | .local _ .vmem, ⟨7, _⟩ => ⟨S256x2048, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x256, .f32⟩
  | .local _ .vmem, ⟨14, _⟩ => ⟨S1x128, .f32⟩
  | .local _ .vmem, ⟨15, _⟩ => ⟨S1024x256, .bf16⟩
  | .local _ .vmem, ⟨16, _⟩ => ⟨S256x2048, .bf16⟩
  | .local _ .vmem, ⟨17, _⟩ => ⟨S256x1024, .f32⟩
  | .local _ .vmem, ⟨18, _⟩ => ⟨S256x1024, .f32⟩
  | .local _ .vmem, ⟨19, _⟩ => ⟨S256x256, .bf16⟩
  | .local _ .vmem, ⟨20, _⟩ => ⟨S256x256, .bf16⟩
  | .local _ .vmem, ⟨21, _⟩ => ⟨S256x2048, .bf16⟩
  | .local _ .vmem, ⟨22, _⟩ => ⟨S256x2048, .bf16⟩
  | .local _ .vmem, ⟨23, _⟩ => ⟨S256x1024, .bf16⟩
  | .local _ .vmem, ⟨24, _⟩ => ⟨S256x1024, .bf16⟩
  | .local _ .vmem, ⟨25, _⟩ => ⟨S256x256, .bf16⟩
  | .local _ .vmem, ⟨26, _⟩ => ⟨S256x256, .bf16⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x256, .f32⟩
  | .local _ .vmem, ⟨31, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_call1_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_v19_2 : Ref sig .tc := ⟨.hbm, 44, rfl⟩
abbrev main_v19_3 : Ref sig .tc := ⟨.hbm, 45, rfl⟩
abbrev main_v19_4 : Ref sig .tc := ⟨.hbm, 46, rfl⟩
abbrev main_v19_5 : Ref sig .tc := ⟨.hbm, 47, rfl⟩
abbrev main_v19_6 : Ref sig .tc := ⟨.hbm, 48, rfl⟩
abbrev main_v19_7 : Ref sig .tc := ⟨.hbm, 49, rfl⟩
abbrev main_v19_8 : Ref sig .tc := ⟨.hbm, 50, rfl⟩
abbrev main_v19_9 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== QRefIdeal.lean ====
abbrev S4096x1024 : Shape := ⟨2, ![4096, 1024]⟩
abbrev S1024 : Shape := ⟨1, ![1024]⟩
abbrev S1x1024 : Shape := ⟨2, ![1, 1024]⟩
abbrev S256 : Shape := ⟨1, ![256]⟩
abbrev S64 : Shape := ⟨1, ![64]⟩
abbrev S32 : Shape := ⟨1, ![32]⟩
abbrev S1024x256 : Shape := ⟨2, ![1024, 256]⟩
abbrev S256x1536 : Shape := ⟨2, ![256, 1536]⟩
abbrev S4096x16 : Shape := ⟨2, ![4096, 16]⟩
abbrev S4096x16x64 : Shape := ⟨3, ![4096, 16, 64]⟩
abbrev S4096x16x32 : Shape := ⟨3, ![4096, 16, 32]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S1x256 : Shape := ⟨2, ![1, 256]⟩
abbrev S4096x1536 : Shape := ⟨2, ![4096, 1536]⟩
abbrev S4096x16x96 : Shape := ⟨3, ![4096, 16, 96]⟩
abbrev S4096x16x1 : Shape := ⟨3, ![4096, 16, 1]⟩
abbrev S1x1x64 : Shape := ⟨3, ![1, 1, 64]⟩
abbrev S1x1x32 : Shape := ⟨3, ![1, 1, 32]⟩
abbrev S4096x16x16 : Shape := ⟨3, ![4096, 16, 16]⟩
abbrev S4096x1x16 : Shape := ⟨3, ![4096, 1, 16]⟩
abbrev S1536x256 : Shape := ⟨2, ![1536, 256]⟩
abbrev S256x1024 : Shape := ⟨2, ![256, 1024]⟩
abbrev S4096x16x128 : Shape := ⟨3, ![4096, 16, 128]⟩
abbrev S4096x2048 : Shape := ⟨2, ![4096, 2048]⟩
abbrev S96 : Shape := ⟨1, ![96]⟩
abbrev S128 : Shape := ⟨1, ![128]⟩
abbrev S1x128 : Shape := ⟨2, ![1, 128]⟩

abbrev nBuf : Space → Nat
  | .hbm => 267
  | .vmem => 0
  | .smem => 0
  | _ => 0

abbrev hbmTy0_0 (i : Nat) : BufTy := match i % 128 with
  | 0 => ⟨S4096x1024, .f32⟩
  | 1 => ⟨S1024, .f32⟩
  | 2 => ⟨S1x1024, .f32⟩
  | 3 => ⟨S1x1024, .f32⟩
  | 4 => ⟨S256, .f32⟩
  | 5 => ⟨S64, .f32⟩
  | 6 => ⟨S32, .f32⟩
  | 7 => ⟨S1024x256, .f32⟩
  | 8 => ⟨S256x1536, .f32⟩
  | 9 => ⟨S4096x16, .f32⟩
  | 10 => ⟨S4096x16, .f32⟩
  | 11 => ⟨S4096x16x64, .f32⟩
  | 12 => ⟨S4096x16x32, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S1x1024, .f32⟩
  | 32 => ⟨S4096x1024, .f32⟩
  | 33 => ⟨S4096x1024, .f32⟩
  | 34 => ⟨S_, .f32⟩
  | 35 => ⟨S1x1024, .f32⟩
  | 36 => ⟨S1x1024, .f32⟩
  | 37 => ⟨S4096x1024, .f32⟩
  | 38 => ⟨S4096x1024, .f32⟩
  | 39 => ⟨S4096x1024, .f32⟩
  | 40 => ⟨S4096x1024, .f32⟩
  | 41 => ⟨S4096x256, .f32⟩
  | 42 => ⟨S4096x256, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x256, .f32⟩
  | 58 => ⟨S4096x256, .f32⟩
  | 59 => ⟨S1x256, .f32⟩
  | 60 => ⟨S4096x256, .f32⟩
  | 61 => ⟨S4096x256, .f32⟩
  | 62 => ⟨S4096x1536, .f32⟩
  | 63 => ⟨S4096x16x96, .f32⟩
  | 64 => ⟨S4096x16x64, .f32⟩
  | 65 => ⟨S4096x16x32, .f32⟩
  | 66 => ⟨S4096x16x64, .f32⟩
  | 67 => ⟨S_, .f32⟩
  | 68 => ⟨S4096x16, .f32⟩
  | 69 => ⟨S4096x16x1, .f32⟩
  | 70 => ⟨S_, .f32⟩
  | 71 => ⟨S4096x16x1, .f32⟩
  | 72 => ⟨S4096x16x1, .f32⟩
  | 73 => ⟨S_, .f32⟩
  | 74 => ⟨S4096x16x1, .f32⟩
  | 75 => ⟨S4096x16x1, .f32⟩
  | 76 => ⟨S4096x16x1, .f32⟩
  | 77 => ⟨S4096x16x1, .f32⟩
  | 78 => ⟨S_, .f32⟩
  | 79 => ⟨S4096x16x1, .f32⟩
  | 80 => ⟨S4096x16x1, .f32⟩
  | 81 => ⟨S4096x16x64, .f32⟩
  | 82 => ⟨S4096x16x64, .f32⟩
  | 83 => ⟨S1x1x64, .f32⟩
  | 84 => ⟨S4096x16x64, .f32⟩
  | 85 => ⟨S4096x16x64, .f32⟩
  | 86 => ⟨S4096x16x32, .f32⟩
  | 87 => ⟨S_, .f32⟩
  | 88 => ⟨S4096x16, .f32⟩
  | 89 => ⟨S4096x16x1, .f32⟩
  | 90 => ⟨S_, .f32⟩
  | 91 => ⟨S4096x16x1, .f32⟩
  | 92 => ⟨S4096x16x1, .f32⟩
  | 93 => ⟨S_, .f32⟩
  | 94 => ⟨S4096x16x1, .f32⟩
  | 95 => ⟨S4096x16x1, .f32⟩
  | 96 => ⟨S4096x16x1, .f32⟩
  | 97 => ⟨S4096x16x1, .f32⟩
  | 98 => ⟨S_, .f32⟩
  | 99 => ⟨S4096x16x1, .f32⟩
  | 100 => ⟨S4096x16x1, .f32⟩
  | 101 => ⟨S4096x16x32, .f32⟩
  | 102 => ⟨S4096x16x32, .f32⟩
  | 103 => ⟨S1x1x32, .f32⟩
  | 104 => ⟨S4096x16x32, .f32⟩
  | 105 => ⟨S4096x16x32, .f32⟩
  | 106 => ⟨S4096x16x16, .f32⟩
  | 107 => ⟨S4096x16x16, .f32⟩
  | 108 => ⟨S4096x1x16, .f32⟩
  | 109 => ⟨S4096x1x16, .f32⟩
  | 110 => ⟨S4096x16x16, .f32⟩
  | 111 => ⟨S4096x16x16, .f32⟩
  | 112 => ⟨S4096x16x16, .f32⟩
  | 113 => ⟨S4096x16x16, .f32⟩
  | 114 => ⟨S4096x16x16, .f32⟩
  | 115 => ⟨S4096x16x16, .f32⟩
  | 116 => ⟨S4096x16x16, .f32⟩
  | 117 => ⟨S4096x16x16, .f32⟩
  | 118 => ⟨S4096x16x16, .f32⟩
  | 119 => ⟨S4096x16x16, .f32⟩
  | 120 => ⟨S4096x16x32, .f32⟩
  | 121 => ⟨S4096x16x16, .f32⟩
  | 122 => ⟨S4096x16x16, .f32⟩
  | 123 => ⟨S4096x16x16, .f32⟩
  | 124 => ⟨S4096x16x16, .f32⟩
  | 125 => ⟨S4096x16x16, .f32⟩
  | 126 => ⟨S4096x16x16, .f32⟩
  | 127 => ⟨S4096x16x16, .f32⟩
  | _ => ⟨S4096x1024, .f32⟩

abbrev hbmTy0_1 (i : Nat) : BufTy := match i % 128 with
  | 0 => ⟨S4096x16x16, .f32⟩
  | 1 => ⟨S4096x16x16, .f32⟩
  | 2 => ⟨S4096x16x16, .f32⟩
  | 3 => ⟨S4096x16x16, .f32⟩
  | 4 => ⟨S4096x16x16, .f32⟩
  | 5 => ⟨S4096x16x16, .f32⟩
  | 6 => ⟨S4096x16x32, .f32⟩
  | 7 => ⟨S4096x16x32, .f32⟩
  | 8 => ⟨S_, .f32⟩
  | 9 => ⟨S32, .f32⟩
  | 10 => ⟨S1x1x32, .f32⟩
  | 11 => ⟨S4096x16x32, .f32⟩
  | 12 => ⟨S4096x16x32, .f32⟩
  | 13 => ⟨S_, .f32⟩
  | 14 => ⟨S32, .f32⟩
  | 15 => ⟨S4096x16x32, .f32⟩
  | 16 => ⟨S_, .f32⟩
  | 17 => ⟨S4096x16, .f32⟩
  | 18 => ⟨S4096x16x1, .f32⟩
  | 19 => ⟨S4096x16x32, .f32⟩
  | 20 => ⟨S4096x16x32, .f32⟩
  | 21 => ⟨S4096x16x1, .f32⟩
  | 22 => ⟨S_, .f32⟩
  | 23 => ⟨S4096x16x1, .f32⟩
  | 24 => ⟨S4096x16x1, .f32⟩
  | 25 => ⟨S_, .f32⟩
  | 26 => ⟨S4096x16, .f32⟩
  | 27 => ⟨S4096x16x32, .f32⟩
  | 28 => ⟨S4096x16x32, .f32⟩
  | 29 => ⟨S4096x16x32, .f32⟩
  | 30 => ⟨S4096x16x32, .f32⟩
  | 31 => ⟨S4096x16x32, .f32⟩
  | 32 => ⟨S4096x16x64, .f32⟩
  | 33 => ⟨S_, .f32⟩
  | 34 => ⟨S64, .f32⟩
  | 35 => ⟨S1x1x64, .f32⟩
  | 36 => ⟨S4096x16x64, .f32⟩
  | 37 => ⟨S4096x16x64, .f32⟩
  | 38 => ⟨S_, .f32⟩
  | 39 => ⟨S64, .f32⟩
  | 40 => ⟨S4096x16x64, .f32⟩
  | 41 => ⟨S_, .f32⟩
  | 42 => ⟨S4096x16, .f32⟩
  | 43 => ⟨S4096x16x1, .f32⟩
  | 44 => ⟨S4096x16x64, .f32⟩
  | 45 => ⟨S4096x16x64, .f32⟩
  | 46 => ⟨S4096x16x1, .f32⟩
  | 47 => ⟨S_, .f32⟩
  | 48 => ⟨S4096x16x1, .f32⟩
  | 49 => ⟨S4096x16x1, .f32⟩
  | 50 => ⟨S_, .f32⟩
  | 51 => ⟨S4096x16, .f32⟩
  | 52 => ⟨S4096x16x64, .f32⟩
  | 53 => ⟨S4096x16x64, .f32⟩
  | 54 => ⟨S4096x16x64, .f32⟩
  | 55 => ⟨S4096x16x64, .f32⟩
  | 56 => ⟨S4096x16x64, .f32⟩
  | 57 => ⟨S4096x16x96, .f32⟩
  | 58 => ⟨S4096x1536, .f32⟩
  | 59 => ⟨S1536x256, .f32⟩
  | 60 => ⟨S4096x256, .f32⟩
  | 61 => ⟨S4096x256, .f32⟩
  | 62 => ⟨S_, .f32⟩
  | 63 => ⟨S256, .f32⟩
  | 64 => ⟨S1x256, .f32⟩
  | 65 => ⟨S4096x256, .f32⟩
  | 66 => ⟨S4096x256, .f32⟩
  | 67 => ⟨S_, .f32⟩
  | 68 => ⟨S256, .f32⟩
  | 69 => ⟨S4096x256, .f32⟩
  | 70 => ⟨S_, .f32⟩
  | 71 => ⟨S4096, .f32⟩
  | 72 => ⟨S4096x1, .f32⟩
  | 73 => ⟨S4096x256, .f32⟩
  | 74 => ⟨S4096x256, .f32⟩
  | 75 => ⟨S4096x1, .f32⟩
  | 76 => ⟨S_, .f32⟩
  | 77 => ⟨S4096x1, .f32⟩
  | 78 => ⟨S4096x1, .f32⟩
  | 79 => ⟨S_, .f32⟩
  | 80 => ⟨S4096, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S256x1024, .f32⟩
  | 87 => ⟨S4096x1024, .f32⟩
  | 88 => ⟨S_, .f32⟩
  | 89 => ⟨S1024, .f32⟩
  | 90 => ⟨S1x1024, .f32⟩
  | 91 => ⟨S4096x1024, .f32⟩
  | 92 => ⟨S_, .f32⟩
  | 93 => ⟨S1024, .f32⟩
  | 94 => ⟨S1x1024, .f32⟩
  | 95 => ⟨S4096x1024, .f32⟩
  | 96 => ⟨S4096x1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S4096x1024, .f32⟩
  | 103 => ⟨S_, .f32⟩
  | 104 => ⟨S1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1024, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x16x96, .f32⟩
  | 123 => ⟨S_, .i32⟩
  | 124 => ⟨S_, .f32⟩
  | 125 => ⟨S4096x16x128, .f32⟩
  | 126 => ⟨S4096x2048, .f32⟩
  | 127 => ⟨S96, .f32⟩
  | _ => ⟨S4096x1024, .f32⟩

abbrev hbmTy0_2 (i : Nat) : BufTy := match i % 128 with
  | 0 => ⟨S_, .i32⟩
  | 1 => ⟨S_, .f32⟩
  | 2 => ⟨S128, .f32⟩
  | 3 => ⟨S1x128, .f32⟩
  | 4 => ⟨S4096x1024, .f32⟩
  | 5 => ⟨S4096x256, .bf16⟩
  | 6 => ⟨S4096x2048, .bf16⟩
  | 7 => ⟨S4096x1024, .bf16⟩
  | 8 => ⟨S4096x256, .bf16⟩
  | 9 => ⟨S1x1024, .f32⟩
  | 10 => ⟨S1x256, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_16 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_17 : Ref sig .tc := ⟨.hbm, 141, rfl⟩
abbrev main_v109 : Ref sig .tc := ⟨.hbm, 142, rfl⟩
abbrev main_v110 : Ref sig .tc := ⟨.hbm, 143, rfl⟩
abbrev main_cst_18 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_19 : Ref sig .tc := ⟨.hbm, 150, rfl⟩
abbrev main_v116 : Ref sig .tc := ⟨.hbm, 151, rfl⟩
abbrev main_v117 : Ref sig .tc := ⟨.hbm, 152, rfl⟩
abbrev main_cst_20 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_21 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_22 : Ref sig .tc := ⟨.hbm, 166, rfl⟩
abbrev main_v129 : Ref sig .tc := ⟨.hbm, 167, rfl⟩
abbrev main_v130 : Ref sig .tc := ⟨.hbm, 168, rfl⟩
abbrev main_cst_23 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_cst_24 : Ref sig .tc := ⟨.hbm, 175, rfl⟩
abbrev main_v136 : Ref sig .tc := ⟨.hbm, 176, rfl⟩
abbrev main_v137 : Ref sig .tc := ⟨.hbm, 177, rfl⟩
abbrev main_cst_25 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_26 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_27 : Ref sig .tc := ⟨.hbm, 195, rfl⟩
abbrev main_v153 : Ref sig .tc := ⟨.hbm, 196, rfl⟩
abbrev main_v154 : Ref sig .tc := ⟨.hbm, 197, rfl⟩
abbrev main_cst_28 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_29 : Ref sig .tc := ⟨.hbm, 204, rfl⟩
abbrev main_v160 : Ref sig .tc := ⟨.hbm, 205, rfl⟩
abbrev main_v161 : Ref sig .tc := ⟨.hbm, 206, rfl⟩
abbrev main_cst_30 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_31 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_32 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_cst_33 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_cst_34 : Ref sig .tc := ⟨.hbm, 231, rfl⟩
abbrev main_v182 : Ref sig .tc := ⟨.hbm, 232, rfl⟩
abbrev main_v183 : Ref sig .tc := ⟨.hbm, 233, rfl⟩
abbrev main_cst_35 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_36 : Ref sig .tc := ⟨.hbm, 240, rfl⟩
abbrev main_v189 : Ref sig .tc := ⟨.hbm, 241, rfl⟩
abbrev main_v190 : Ref sig .tc := ⟨.hbm, 242, rfl⟩
abbrev main_cst_37 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_c : Ref sig .tc := ⟨.hbm, 251, rfl⟩
abbrev main_call0_v0 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_c_38 : Ref sig .tc := ⟨.hbm, 256, rfl⟩
abbrev main_call1_v0 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩

abbrev nD : Nat := 1
abbrev τ : Topo := Topo.v7x

variable {F : FTy → Type} [FloatOps F]
-- ==== OFwd.lean ====
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S1024x1024, .bf16⟩
  | .hbm, ⟨5, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OFwdRefIdeal.lean ====
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GFwd.lean ====
abbrev S4096x1024 : Shape := ⟨2, ![4096, 1024]⟩
abbrev S1x1024 : Shape := ⟨2, ![1, 1024]⟩
abbrev S1024 : Shape := ⟨1, ![1024]⟩
abbrev S1024x1024 : Shape := ⟨2, ![1024, 1024]⟩
abbrev S256x1024 : Shape := ⟨2, ![256, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GFwdRefIdeal.lean ====
abbrev S4096x1024 : Shape := ⟨2, ![4096, 1024]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Literals.lean ====
/-
  The numbers that the programs spell as float words, read as extended reals, and two laws of sums of extended reals.
-/
module

public import Idealize.ShloMosaic.PureOps.Ideal.Laws
public import Idealize.ShloMosaic.Lib.Pointwise

@[expose] public section

noncomputable section

namespace Cert.Lit

open Idealize.ShloMosaic

theorem f32_half : Ideal.ofBits .f32 0x3F000000#32 = ((1 / 2 : ℝ) : EReal) := by
  simp [Ideal.ofBits, Ideal.ieee, -EReal.coe_mul]; norm_num
theorem f32_two : Ideal.ofBits .f32 0x40000000#32 = ((2 : ℝ) : EReal) := by
  simp [Ideal.ofBits, Ideal.ieee, -EReal.coe_mul]; norm_num
theorem f32_1024 : Ideal.ofBits .f32 0x44800000#32 = ((1024 : ℝ) : EReal) := by
  simp [Ideal.ofBits, Ideal.ieee, -EReal.coe_mul]; norm_num
theorem f32_inv1024 : Ideal.ofBits .f32 0x3A800000#32 = ((1 / 1024 : ℝ) : EReal) := by
  simp [Ideal.ofBits, Ideal.ieee, -EReal.coe_mul]; norm_num

/-- A finite factor that is not negative goes into a sum, whatever the terms are. -/
theorem mul_sum {ι : Type} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- A sum over `T * R` rows is the sum over the `T` tiles of the sums over each tile's `R` rows. -/
theorem sum_tiles {M : Type} [AddCommMonoid M] (T R N : ℕ) (h : N = T * R) (f : Fin N → M) :
    ∑ i, f i = ∑ t : Fin T, ∑ r : Fin R, f ⟨t.val * R + r.val, by
      subst h; have := t.isLt; have := r.isLt
      calc t.val * R + r.val < t.val * R + R := by omega
        _ = (t.val + 1) * R := by ring
        _ ≤ T * R := Nat.mul_le_mul_right _ (by omega)⟩ := by
  subst h
  rw [← Fintype.sum_prod_type', ← finProdFinEquiv.sum_comp]
  refine Finset.sum_congr rfl fun p _ => congrArg f (Fin.ext ?_)
  simp [finProdFinEquiv]; ring

end Cert.Lit

end
-- ==== Proof.LossValue.lean ====
/-
  What the loss kernel leaves in its two result arrays, over the extended reals: the gradient `(y - target) / 1024`
  entry by entry, and in every lane of the other array the sum over the 16 row tiles of half the tile's summed row means
  of `(y - target)²`.
-/
module

public import proofs.«01_k».proof.Defs
public import proofs.«01_k».proof.Proof.Gen.LossIdeal.Value
public import proofs.«01_k».proof.Proof.Literals
public import Idealize.ShloMosaic.Lib.Tactic
public import Idealize.ShloMosaic.Lib.Pointwise

@[expose] public section

set_option maxRecDepth 16384

noncomputable section

namespace Cert.LossIdeal.Result

open Cert.LossIdeal Cert.LossIdeal.Gen Idealize.ShloMosaic Idealize.ShloMosaic.TcCoe Idealize.SL.Sem
open Idealize.ShloMosaic.Pipeline (Dat)

section AnyFloat

variable {F : FTy → Type} [FloatOps F]
variable (m : (ℓ : Loc nD τ sig) → Buf (Elt F) ℓ)

theorem hz : (![0, 0] : Fin 2 → Nat) = fun _ => 0 := funext fun a => by fin_cases a <;> rfl

/-! The two cases of the body: the gradient's block, and the running loss with and without its reset. -/

theorem grad_A (c : Dev nD) (i : grid0.Coords) (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S1x128 .f32) (h4 : a4.IsWhole) (hc : cond0_0 i) (x0 x1 : Vec F S256x1024 .f32) :
    out0_A_2 c i a1 h1 a2 h2 a3 h3 a4 h4 hc x0 x1 = k0_pay2 x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz]
  simp only [View.readAt_eq_ld, h1.read_unread, h2.read_unread, View.ld_unit_zero (S := S256x1024) hz]

theorem grad_B (c : Dev nD) (i : grid0.Coords) (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S1x128 .f32) (h4 : a4.IsWhole) (hc : ¬cond0_0 i) (x0 x1 : Vec F S256x1024 .f32) (xo : Vec F S1x128 .f32) :
    out0_B_2 c i a1 h1 a2 h2 a3 h3 a4 h4 hc x0 x1 xo = k0_pay2 x0 x1 := by
  unfold out0_B_2
  rw [View.read_writes_eq_canon _ _ _ (cover0_B_2 c i a1 h1 a2 h2 a3 h3 a4 h4 hc x0 x1 xo)]
  unfold kernelRun0_B
  dsimp only
  sl_unfold_words
  rw [View.canon_unit_zero hz]
  simp only [View.readAt_eq_ld, h1.read_unread, h2.read_unread, View.ld_unit_zero (S := S256x1024) hz]

theorem loss_A (c : Dev nD) (i : grid0.Coords) (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S1x128 .f32) (h4 : a4.IsWhole) (hc : cond0_0 i) (x0 x1 : Vec F S256x1024 .f32) :
    out0_A_3 c i a1 h1 a2 h2 a3 h3 a4 h4 hc x0 x1 = k0_pay4 x0 x1 (k0_pay3 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x128) hz, View.readCov_unit_zero (S := S1x128) _ hz]
  simp only [View.readAt_eq_ld, h1.read_unread, h2.read_unread, View.ld_unit_zero (S := S256x1024) hz]

theorem loss_B (c : Dev nD) (i : grid0.Coords) (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S1x128 .f32) (h4 : a4.IsWhole) (hc : ¬cond0_0 i) (x0 x1 : Vec F S256x1024 .f32) (xo : Vec F S1x128 .f32) :
    out0_B_3 c i a1 h1 a2 h2 a3 h3 a4 h4 hc x0 x1 xo = k0_pay4 x0 x1 xo := by
  unfold out0_B_3
  rw [View.read_writes_eq_canon _ _ _ (cover0_B_3 c i a1 h1 a2 h2 a3 h3 a4 h4 hc x0 x1 xo)]
  unfold kernelRun0_B
  dsimp only
  sl_unfold_words
  rw [View.canon_unit_zero hz]
  simp only [View.readAt_eq_ld, h1.read_unread, h2.read_unread, h4.read_unread, View.ld_unit_zero (S := S256x1024) hz, View.ld_unit_zero (S := S1x128) hz]

/-- Row `r` of tile `t` is row `256 t + r` of the whole array. -/
theorem iblk0_apply (c : Dev nD) (t : Fin cfg0.N) (r : Fin 256) (l : Fin 1024) (h : t.val * 256 + r.val < 4096) :
    (iblk m c 0 t : Vec F S256x1024 .f32) (ix2 r l) = m ((c : Thread nD τ).loc main_arg0) (ix2 ⟨t.val * 256 + r.val, h⟩ l) := by
  have hi : ∀ t : Fin cfg0.N, win0_0.index t 0 = t.val ∧ win0_0.index t 1 = 0 :=
    (by decide +kernel : ∀ t : Fin grid0.N, win0_0.index t 0 = t.val ∧ win0_0.index t 1 = 0)
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [(hi t).1]; omega
  | ⟨1, _⟩ => show win0_0.index t 1 * 1024 + 1 * l.val = l.val; rw [(hi t).2]; omega

theorem iblk1_apply (c : Dev nD) (t : Fin cfg0.N) (r : Fin 256) (l : Fin 1024) (h : t.val * 256 + r.val < 4096) :
    (iblk m c 1 t : Vec F S256x1024 .f32) (ix2 r l) = m ((c : Thread nD τ).loc main_arg1) (ix2 ⟨t.val * 256 + r.val, h⟩ l) := by
  have hi : ∀ t : Fin cfg0.N, win0_1.index t 0 = t.val ∧ win0_1.index t 1 = 0 :=
    (by decide +kernel : ∀ t : Fin grid0.N, win0_1.index t 0 = t.val ∧ win0_1.index t 1 = 0)
  unfold iblk
  rw [View.read_apply]
  show V m c main_arg1 _ = _
  rw [V_main_arg1]
  congr 1
  funext a
  apply Fin.ext
  match a with
  | ⟨0, _⟩ => show win0_1.index t 0 * 256 + 1 * r.val = t.val * 256 + r.val; rw [(hi t).1]; omega
  | ⟨1, _⟩ => show win0_1.index t 1 * 1024 + 1 * l.val = l.val; rw [(hi t).2]; omega

/-- What grid point `t` leaves in the gradient's block. -/
theorem outs_grad (c : Dev nD) (t : Fin cfg0.N) :
    (outsAt0 m c t.val t.isLt).1 = k0_pay2 (F := F) (iblk m c 0 t : Vec F S256x1024 .f32) (iblk m c 1 t : Vec F S256x1024 .f32) := by
  by_cases h0 : t.val % 16 = 0
  · rw [outsAt0_A m c t h0]; dsimp only; rw [grad_A]
  · rw [outsAt0_B m c t h0]; dsimp only; rw [grad_B]

/-- What grid point `t` leaves in the loss's block: at the first point over zero, -/
theorem outs_loss_A (c : Dev nD) (t : Fin cfg0.N) (h0 : t.val % 16 = 0) :
    (outsAt0 m c t.val t.isLt).2 = k0_pay4 (F := F) (iblk m c 0 t : Vec F S256x1024 .f32) (iblk m c 1 t : Vec F S256x1024 .f32) k0_pay3 := by
  rw [outsAt0_A m c t h0]; dsimp only; rw [loss_A]

/-- at a later one over what the point before left. -/
theorem outs_loss_B (c : Dev nD) (t : Fin cfg0.N) (h0 : ¬t.val % 16 = 0) :
    (outsAt0 m c t.val t.isLt).2 = k0_pay4 (F := F) (iblk m c 0 t : Vec F S256x1024 .f32) (iblk m c 1 t : Vec F S256x1024 .f32)
      (outsAt0 m c (t.val - 1) (Nat.lt_of_le_of_lt (Nat.sub_le _ _) t.isLt)).2 := by
  rw [outsAt0_B m c t h0]; dsimp only; rw [loss_B]

end AnyFloat

variable (m : (ℓ : Loc nD τ sig) → Buf (Elt Ideal) ℓ) (ρ : Dev nD → PrngReg)

/-- Half the summed row means of the squared error over tile `t`. -/
def part (y g : S4096x1024.Idx → EReal) (t : Fin 16) : EReal :=
  ((1 / 2 : ℝ) : EReal) * ∑ r : Fin 256, Ideal.div (∑ l : Fin 1024,
    (y (ix2 ⟨t.val * 256 + r.val, by omega⟩ l) - g (ix2 ⟨t.val * 256 + r.val, by omega⟩ l))
      * (y (ix2 ⟨t.val * 256 + r.val, by omega⟩ l) - g (ix2 ⟨t.val * 256 + r.val, by omega⟩ l))) ((1024 : ℝ) : EReal)

theorem pay2_apply (x0 x1 : Vec Ideal S256x1024 .f32) (j : S256x1024.Idx) :
    k0_pay2 x0 x1 j = (x0 j - x1 j) * ((1 / 1024 : ℝ) : EReal) := by
  unfold_payloads
  pointwise
  rw [← Lit.f32_inv1024]

theorem pay4_apply (x0 x1 : Vec Ideal S256x1024 .f32) (xo : Vec Ideal S1x128 .f32) (j : S1x128.Idx) :
    k0_pay4 x0 x1 xo j = xo j + ((1 / 2 : ℝ) : EReal) * ∑ r : Fin 256, Ideal.div (∑ l : Fin 1024,
      (x0 (ix2 r l) - x1 (ix2 r l)) * (x0 (ix2 r l) - x1 (ix2 r l))) ((1024 : ℝ) : EReal) := by
  rw [← Lit.f32_half, ← Lit.f32_1024]
  unfold_payloads
  pointwise

theorem pay3_apply (j : S1x128.Idx) : k0_pay3 (F := Ideal) j = 0 := by
  unfold_payloads
  pointwise

/-- The body's addend at grid point `t` is that tile's part. -/
theorem pay4_part (c : Dev nD) (t : Fin cfg0.N) (ht : t.val < 16) (xo : Vec Ideal S1x128 .f32) (j : S1x128.Idx) :
    k0_pay4 (F := Ideal) (iblk m c 0 t : Vec Ideal S256x1024 .f32) (iblk m c 1 t : Vec Ideal S256x1024 .f32) xo j
      = xo j + part (m ((c : Thread nD τ).loc main_arg0)) (m ((c : Thread nD τ).loc main_arg1)) ⟨t.val, ht⟩ := by
  rw [pay4_apply]
  unfold part
  refine congrArg (fun z => xo j + ((1 / 2 : ℝ) : EReal) * z) (Finset.sum_congr rfl fun r _ => congrArg (Ideal.div · _) (Finset.sum_congr rfl fun l _ => ?_))
  rw [iblk0_apply m c t r l (by have := r.isLt; omega), iblk1_apply m c t r l (by have := r.isLt; omega)]

/-- The loss's block after grid point `n`: the parts of the tiles up to `n`, in every lane. -/
theorem outs_loss (c : Dev nD) (n : ℕ) : ∀ (h : n < cfg0.N) (h' : n < 16) (j : S1x128.Idx),
    (outsAt0 m c n h).2 j = ∑ t : Fin (n + 1), part (m ((c : Thread nD τ).loc main_arg0)) (m ((c : Thread nD τ).loc main_arg1))
      ⟨t.val, by have := t.isLt; omega⟩ := by
  induction n with
  | zero =>
    intro h h' j
    rw [Fin.sum_univ_one]
    refine (congrFun (outs_loss_A m c ⟨0, h⟩ rfl) j).trans ?_
    rw [pay4_part m c ⟨0, h⟩ h', pay3_apply, zero_add]
    rfl
  | succ n ih =>
    intro h h' j
    have hB : ¬(⟨n + 1, h⟩ : Fin cfg0.N).val % 16 = 0 := by dsimp only; omega
    rw [Fin.sum_univ_castSucc]
    refine (congrFun (outs_loss_B m c ⟨n + 1, h⟩ hB) j).trans ?_
    rw [pay4_part m c ⟨n + 1, h⟩ h']
    exact congrArg (· + _) (ih (Nat.lt_of_succ_lt h) (Nat.lt_of_succ_lt h') j)

/-- The gradient's array after the run. -/
def grad (y g : S4096x1024.Idx → EReal) : S4096x1024.Idx → EReal := fun i => (y i - g i) * ((1 / 1024 : ℝ) : EReal)

/-- The loss's array after the run. -/
def loss (y g : S4096x1024.Idx → EReal) : S1x128.Idx → EReal := fun _ => ∑ t : Fin 16, part y g t

theorem idx2 : ∀ t : Fin cfg0.N, win0_2.index t 0 = t.val ∧ win0_2.index t 1 = 0 :=
  (by decide +kernel : ∀ t : Fin grid0.N, win0_2.index t 0 = t.val ∧ win0_2.index t 1 = 0)

theorem final_grad (c : Dev nD) : (dats m 0 c).arrAt 2 cfg0.N
    = grad (m ((c : Thread nD τ).loc main_arg0)) (m ((c : Thread nD τ).loc main_arg1)) := by
  refine (dats m 0 c).arrAt_eq_of_cover 2 _ (fun t _ => ?_) fun i => ?_
  · rw [Value.flushed2, outs_grad]
    have hN : cfg0.N = 16 := N_0
    have ht : t.val < 16 := hN ▸ t.isLt
    funext j
    have e : ∀ (r : Fin 256) (l : Fin 1024), (k0_pay2 (F := Ideal) (iblk m c 0 t : Vec Ideal S256x1024 .f32) (iblk m c 1 t : Vec Ideal S256x1024 .f32)) (ix2 r l)
        = grad (m ((c : Thread nD τ).loc main_arg0)) (m ((c : Thread nD τ).loc main_arg1)) (ix2 ⟨t.val * 256 + r.val, by have := r.isLt; omega⟩ l) := by
      intro r l
      rw [pay2_apply, iblk0_apply, iblk1_apply]
      rfl
    obtain ⟨r, l, rfl⟩ : ∃ (r : Fin 256) (l : Fin 1024), j = ix2 r l := ⟨j 0, j 1, eq_ix2 j⟩
    refine (e r l).trans ?_
    rw [View.read_apply]
    congr 1
    funext a
    apply Fin.ext
    match a with
    | ⟨0, _⟩ => show t.val * 256 + r.val = win0_2.index t 0 * 256 + 1 * r.val; rw [(idx2 t).1]; omega
    | ⟨1, _⟩ => show l.val = win0_2.index t 1 * 1024 + 1 * l.val; rw [(idx2 t).2]; omega
  · have hN : cfg0.N = 16 := N_0
    have h0 : (i 0 : Nat) < 4096 := (i 0).isLt
    have h1 : (i 1 : Nat) < 1024 := (i 1).isLt
    have ht : (i 0 : Nat) / 256 < cfg0.N := by omega
    refine ⟨⟨(i 0 : Nat) / 256, ht⟩, flush0_2 _, ?_⟩
    generalize hT : (⟨(i 0 : Nat) / 256, ht⟩ : Fin cfg0.N) = T
    have hv : T.val = (i 0 : Nat) / 256 := by rw [← hT]
    show i ∈ ((View.whole main_v0_0).slice (win0_2.rect T)).set
    rw [View.set_slice_whole, Rect.mem_set_unit]
    intro a
    match a with
    | ⟨0, _⟩ => show win0_2.index T 0 * 256 ≤ (i 0 : Nat) ∧ (i 0 : Nat) < win0_2.index T 0 * 256 + 256
                rw [(idx2 T).1]; omega
    | ⟨1, _⟩ => show win0_2.index T 1 * 1024 ≤ (i 1 : Nat) ∧ (i 1 : Nat) < win0_2.index T 1 * 1024 + 1024
                rw [(idx2 T).2]; omega

theorem idx3 : ∀ t : Fin cfg0.N, win0_3.index t 0 = 0 ∧ win0_3.index t 1 = 0 :=
  (by decide +kernel : ∀ t : Fin grid0.N, win0_3.index t 0 = 0 ∧ win0_3.index t 1 = 0)

theorem final_loss (c : Dev nD) : (dats m 0 c).arrAt 3 cfg0.N
    = loss (m ((c : Thread nD τ).loc main_arg0)) (m ((c : Thread nD τ).loc main_arg1)) := by
  refine (dats m 0 c).arrAt_eq_of_cover 3 _ (fun t hf => ?_) fun i => ?_
  · have hN : cfg0.N = 16 := N_0
    have h3 : t.val = 15 := by have := (flush0_3 t).mp hf; have := t.isLt; omega
    obtain rfl : t = t0_15 := Fin.ext h3
    rw [Value.flushed3]
    funext j
    exact outs_loss m c 15 t0_15.isLt (by decide) j
  · have h0 : (i 0 : Nat) < 1 := (i 0).isLt
    have h1 : (i 1 : Nat) < 128 := (i 1).isLt
    refine ⟨t0_15, (flush0_3 _).mpr rfl, ?_⟩
    show i ∈ ((View.whole main_v0_1).slice (win0_3.rect t0_15)).set
    rw [View.set_slice_whole, Rect.mem_set_unit]
    intro a
    match a with
    | ⟨0, _⟩ => show win0_3.index t0_15 0 * 1 ≤ (i 0 : Nat) ∧ (i 0 : Nat) < win0_3.index t0_15 0 * 1 + 1
                rw [(idx3 t0_15).1]; omega
    | ⟨1, _⟩ => show win0_3.index t0_15 1 * 128 ≤ (i 1 : Nat) ∧ (i 1 : Nat) < win0_3.index t0_15 1 * 128 + 128
                rw [(idx3 t0_15).2]; omega

/-- Every run ends with the two result arrays at these values, the arguments unchanged. -/
theorem run : θ_run defs (onTc (τ := τ) (main (F := Ideal))) ⟨m, fun _ => 0, ρ⟩ fun r => ∀ c : Dev nD,
      r.2.mem ((c : Thread nD τ).loc main_v0_0) = grad (m ((c : Thread nD τ).loc main_arg0)) (m ((c : Thread nD τ).loc main_arg1))
      ∧ r.2.mem ((c : Thread nD τ).loc main_v0_1) = loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_grad m c), (h c).2.1.trans (final_loss m c), (h c).2.2⟩) (Value.run_blocks m ρ)

end Cert.LossIdeal.Result

end
-- ==== Proof.Loss.lean ====
/-
  The loss and its gradient: the kernel's two result arrays are those of the derivative of
  `0.5 * sum(mean((y - target)², axis=-1))`, over the extended reals, for every argument.
-/
module

public import proofs.«01_k».proof.Proof.LossValue
public import proofs.«01_k».proof.Proof.Gen.LossRefIdeal.Read

@[expose] public section

set_option maxRecDepth 16384

noncomputable section

namespace Cert.LossProof

open Idealize.ShloMosaic Idealize.ShloMosaic.TcCoe Idealize.SL.Sem
open Cert.LossRefIdeal.Read

/-- The derivative by the chain rule, `(0.5 / 1024) * (2 * (y - target))`, is `(y - target) / 1024`. -/
theorem grad_eq (y g : Cert.LossIdeal.S4096x1024.Idx → EReal) :
    val_main_v14 (F := Ideal) y g = Cert.LossIdeal.Result.grad y g := by
  funext i
  simp only [val_main_v14_apply, val_main_v13_apply, val_main_v12_apply, val_main_v11_apply, val_main_v10_apply, val_main_v9_apply,
    val_main_v3_apply, val_main_v2_apply, val_main_v0_apply, val_main_cst_apply, val_main_cst_4_apply, val_main_cst_5_apply, val_main_cst_6_apply]
  simp only [Ideal.mulf_def, Ideal.subf_def, Ideal.hostDivf_def, Ideal.ofBits_def]
  rw [Lit.f32_two, Lit.f32_half, Lit.f32_1024, Ideal.ofBits_one_f32, mul_one, Ideal.div_coe (by norm_num : (1024 : ℝ) ≠ 0), ← mul_assoc,
    mul_comm]
  unfold Cert.LossIdeal.Result.grad
  refine congrArg ((y i - g i) * ·) ?_
  norm_cast
  norm_num

/-- Half the sum over all rows is the sum over the tiles of half the sum over the tile's rows. -/
theorem loss_eq (y g : Cert.LossIdeal.S4096x1024.Idx → EReal) :
    val_main_v15 (F := Ideal) y g = Cert.LossIdeal.Result.loss y g := by
  funext i
  simp only [val_main_v15_apply, val_main_v8_apply, val_main_v7_apply, val_main_cst_3_apply, val_main_cst_2_apply]
  simp only [Ideal.mulf_def, Ideal.ofBits_def]
  rw [Lit.f32_half, Ideal.ofBits_zero_f32, zero_add]
  unfold Cert.LossIdeal.Result.loss Cert.LossIdeal.Result.part
  rw [← Lit.mul_sum _ _ (by norm_num : (0 : ℝ) ≤ 1 / 2)]
  refine congrArg (((1 / 2 : ℝ) : EReal) * ·) ?_
  rw [sum_idx1, Lit.sum_tiles 16 256 4096 rfl]
  refine Finset.sum_congr rfl fun t _ => Finset.sum_congr rfl fun r _ => ?_
  simp only [val_main_v6_apply, val_main_v5_apply, val_main_v4_apply, val_main_v1_apply, val_main_v0_apply, val_main_cst_1_apply, val_main_cst_0_apply]
  simp only [Ideal.mulf_def, Ideal.subf_def, Ideal.hostDivf_def, Ideal.ofBits_def]
  rw [Lit.f32_1024, Ideal.ofBits_zero_f32, zero_add]
  refine congrArg (Ideal.div · _) (Finset.sum_congr rfl fun l _ => ?_)
  have e : idx_main_v4 (ix1 ⟨t.val * 256 + r.val, by omega⟩) l = ix2 ⟨t.val * 256 + r.val, by omega⟩ l := by
    funext a; match a with | ⟨0, _⟩ => rfl | ⟨1, _⟩ => rfl
  rw [e]

/-- The kernel and the derivative end with equal results. -/
theorem algebraic : Cert.algebraic_LossIdeal_LossRefIdeal := by
  pair_intro
  · run_from Cert.LossIdeal.Result.run m g
  · run_from Cert.LossRefIdeal.Value.run m' g'
    · exact grad_eq _ _
    · exact loss_eq _ _

end Cert.LossProof

end
-- ==== Proof.Softmax.lean ====
/-
  The running softmax over the reals: a row that has seen its first `n` keys carries a real pivot `M`, the sum of
  `exp ((s k - M) c)` and the same sum weighted by the keys' values; a block of further keys keeps that form. The extended
  reals enter only as the start (`⊥`, no key seen) and as the score `⊥` of a key that the mask hides.
-/
module

public import Idealize.ShloMosaic.PureOps.Ideal.Laws
public import Idealize.ShloMosaic.Lib.Pointwise

@[expose] public section

noncomputable section

namespace Cert.Softmax

open Idealize.ShloMosaic

/-- The scale `1/√96`, and `1 / ln 2`. -/
def c : ℝ := (Real.sqrt 96)⁻¹
def e2 : ℝ := (Real.log 2)⁻¹

theorem c_pos : 0 < c := inv_pos.mpr (Real.sqrt_pos.mpr (by norm_num))

theorem e2_pos : 0 < e2 := inv_pos.mpr (Real.log_pos (by norm_num))

/-- `2` to the power `x / ln 2` is `exp x`. -/
theorem exp2_e2 (x : ℝ) : Ideal.exp2 ((x * e2 : ℝ) : EReal) = ((Real.exp x : ℝ) : EReal) := by
  rw [Ideal.exp2_coe]
  congr 1
  show (2 : ℝ) ^ (x * e2) = _
  rw [Real.rpow_def_of_pos (by norm_num)]
  congr 1
  have h2 : Real.log 2 ≠ 0 := (Real.log_pos (by norm_num)).ne'
  unfold e2
  field_simp

/-- The kernels' exponential of a score's distance to a pivot: the factor is `c / ln 2`. -/
theorem exp2_real (s M : ℝ) : Ideal.exp2 (((s : EReal) - (M : EReal)) * ((c * e2 : ℝ) : EReal)) = ((Real.exp ((s - M) * c) : ℝ) : EReal) := by
  rw [← EReal.coe_sub, ← EReal.coe_mul, ← exp2_e2, mul_assoc]

theorem exp2_bot (M : ℝ) : Ideal.exp2 (((⊥ : EReal) - (M : EReal)) * ((c * e2 : ℝ) : EReal)) = 0 := by
  rw [EReal.bot_sub, EReal.bot_mul_coe_of_pos (mul_pos c_pos e2_pos), Ideal.exp2_bot]

/-- The gradient's exponential: the score times `c / ln 2` less the row's log-sum over `ln 2`. -/
theorem exp2_grad (s L : ℝ) : Ideal.exp2 ((s : EReal) * ((c * e2 : ℝ) : EReal) - (L : EReal) * (e2 : EReal)) = ((Real.exp (s * c - L) : ℝ) : EReal) := by
  rw [← EReal.coe_mul, ← EReal.coe_mul, ← EReal.coe_sub, ← exp2_e2]
  congr 2; ring

theorem exp2_grad_bot (L : ℝ) : Ideal.exp2 ((⊥ : EReal) * ((c * e2 : ℝ) : EReal) - (L : EReal) * (e2 : EReal)) = 0 := by
  rw [EReal.bot_mul_coe_of_pos (mul_pos c_pos e2_pos), ← EReal.coe_mul, EReal.bot_sub, Ideal.exp2_bot]

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of a block's scores, hidden ones at `⊥`, over a pivot that is `⊥` or real: a real. -/
theorem fold_max_real {ι : Type} (t : Finset ι) (f : ι → EReal) (b : EReal) (hb : b = ⊥ ∨ ∃ r : ℝ, b = r)
    (hf : ∀ j, f j = ⊥ ∨ ∃ r : ℝ, f j = r) : t.fold max b f = ⊥ ∨ ∃ r : ℝ, t.fold max b f = r := by
  classical
  induction t using Finset.induction_on with
  | empty => simpa using hb
  | insert a t ha ih =>
    rw [Finset.fold_insert ha]
    rcases max_choice (f a) (t.fold max b f) with h | h <;> rw [h]
    · exact hf a
    · exact ih

/-- What a row carries after its first `n` keys: nothing, or a real pivot and the two sums. -/
def Seen (s : ℕ → ℝ) (v : ℕ → ℕ → ℝ) (n : ℕ) (m l : EReal) (acc : ℕ → EReal) : Prop :=
  (n = 0 ∧ m = ⊥ ∧ l = 0 ∧ ∀ d < 128, acc d = 0) ∨
  ∃ M : ℝ, m = M ∧ l = ((∑ k ∈ Finset.range n, Real.exp ((s k - M) * c) : ℝ) : EReal) ∧
    ∀ d < 128, acc d = ((∑ k ∈ Finset.range n, Real.exp ((s k - M) * c) * v k d : ℝ) : EReal)

theorem range_block (n L : ℕ) (hL' : L ≤ 512) (f : ℕ → ℝ) :
    ∑ k ∈ Finset.range (n + L), f k = ∑ k ∈ Finset.range n, f k + ∑ j : Fin 512, if j.val < L then f (n + j.val) else 0 := by
  rw [Finset.sum_range_add, Fin.sum_univ_eq_sum_range (fun j => if j < L then f (n + j) else 0) 512,
    ← Finset.sum_filter]
  congr 1
  refine Finset.sum_congr ?_ fun _ _ => rfl
  ext j; simp; omega

/-- One block of 512 keys, of which the first `L` are seen. -/
theorem seen_step (s : ℕ → ℝ) (v : ℕ → ℕ → ℝ) (n L : ℕ) (hL : 0 < L) (hL' : L ≤ 512) (m l : EReal) (acc : ℕ → EReal)
    (h : Seen s v n m l acc) (sb : Fin 512 → EReal) (hsb : ∀ j : Fin 512, sb j = if j.val < L then ((s (n + j.val) : ℝ) : EReal) else ⊥)
    (m' : EReal) (hm' : m' = max m ((Finset.univ : Finset (Fin 512)).fold max ⊥ sb))
    (l' : EReal) (hl' : l' = Ideal.exp2 ((m - m') * ((c * e2 : ℝ) : EReal)) * l + ∑ j : Fin 512, Ideal.exp2 ((sb j - m') * ((c * e2 : ℝ) : EReal)))
    (acc' : ℕ → EReal) (hacc' : ∀ d < 128, acc' d = Ideal.exp2 ((m - m') * ((c * e2 : ℝ) : EReal)) * acc d
        + ∑ j : Fin 512, Ideal.exp2 ((sb j - m') * ((c * e2 : ℝ) : EReal)) * ((v (n + j.val) d : ℝ) : EReal)) :
    Seen s v (n + L) m' l' acc' := by
  classical
  have hreal : ∃ M' : ℝ, m' = M' := by
    have h1 : ∀ j, sb j = ⊥ ∨ ∃ r : ℝ, sb j = r := fun j => by
      rw [hsb]; split
      · exact .inr ⟨_, rfl⟩
      · exact .inl rfl
    have h2 : (Finset.univ : Finset (Fin 512)).fold max ⊥ sb = ⊥ ∨ ∃ r : ℝ, (Finset.univ : Finset (Fin 512)).fold max ⊥ sb = r :=
      fold_max_real _ _ _ (.inl rfl) h1
    have h3 : ((s n : ℝ) : EReal) ≤ (Finset.univ : Finset (Fin 512)).fold max ⊥ sb := by
      rw [Finset.le_fold_max]
      refine .inr ⟨⟨0, by omega⟩, Finset.mem_univ _, ?_⟩
      rw [hsb]; simp [hL]
    obtain h2 | ⟨r, h2⟩ := h2
    · rw [h2, le_bot_iff] at h3; exact absurd h3 (EReal.coe_ne_bot _)
    · rw [hm', h2]
      obtain ⟨_, hm, _⟩ | ⟨M, hm, _⟩ := h
      · exact ⟨r, by rw [hm]; exact max_eq_right bot_le⟩
      · exact ⟨max M r, by rw [hm]; exact (EReal.coe_strictMono.monotone.map_max (a := M) (b := r)).symm⟩
  obtain ⟨M', hM⟩ := hreal
  have hp : ∀ j, Ideal.exp2 ((sb j - m') * ((c * e2 : ℝ) : EReal))
      = ((if j.val < L then Real.exp ((s (n + j.val) - M') * c) else 0 : ℝ) : EReal) := fun j => by
    rw [hsb, hM]; split
    · exact exp2_real _ _
    · exact exp2_bot _
  refine .inr ⟨M', hM, ?_, fun d hd => ?_⟩
  · rw [hl', Finset.sum_congr rfl fun j _ => hp j, ← coe_sum, range_block n L hL']
    obtain ⟨rfl, hm, hl, _⟩ | ⟨M, hm, hl, _⟩ := h
    · rw [hl, mul_zero, zero_add]; simp
    · rw [hl, hm, hM, exp2_real, ← EReal.coe_mul, ← EReal.coe_add, Finset.mul_sum]
      refine congrArg (fun z : ℝ => ((z + _ : ℝ) : EReal)) (Finset.sum_congr rfl fun k _ => ?_)
      rw [← Real.exp_add]; congr 1; ring
  · rw [hacc' d hd, Finset.sum_congr rfl fun j _ => (by rw [hp j, ← EReal.coe_mul, ite_mul, zero_mul] :
      Ideal.exp2 ((sb j - m') * ((c * e2 : ℝ) : EReal)) * ((v (n + j.val) d : ℝ) : EReal)
        = ((if j.val < L then Real.exp ((s (n + j.val) - M') * c) * v (n + j.val) d else 0 : ℝ) : EReal)), ← coe_sum,
      range_block n L hL']
    obtain ⟨rfl, hm, _, ha⟩ | ⟨M, hm, _, ha⟩ := h
    · rw [ha d hd, mul_zero, zero_add]; simp
    · rw [ha d hd, hm, hM, exp2_real, ← EReal.coe_mul, ← EReal.coe_add, Finset.mul_sum]
      refine congrArg (fun z : ℝ => ((z + _ : ℝ) : EReal)) (Finset.sum_congr rfl fun k _ => ?_)
      rw [← mul_assoc, ← Real.exp_add]; congr 2; ring

/-- The sum of the weights of a row that sees `n` keys. -/
def Z (s : ℕ → ℝ) (n : ℕ) : ℝ := ∑ k ∈ Finset.range n, Real.exp (s k * c)

theorem Z_pos (s : ℕ → ℝ) (n : ℕ) (hn : 0 < n) : 0 < Z s n :=
  Finset.sum_pos (fun _ _ => Real.exp_pos _) ⟨0, Finset.mem_range.mpr hn⟩

/-- The row's output and log-sum from what it carries at the end. -/
theorem seen_end (s : ℕ → ℝ) (v : ℕ → ℕ → ℝ) (n : ℕ) (hn : 0 < n) (m l : EReal) (acc : ℕ → EReal) (h : Seen s v n m l acc) :
    m * ((c : ℝ) : EReal) + Ideal.log l = ((Real.log (Z s n) : ℝ) : EReal)
    ∧ ∀ d < 128, Ideal.div (acc d) l = (((∑ k ∈ Finset.range n, Real.exp (s k * c) * v k d) / Z s n : ℝ) : EReal) := by
  obtain ⟨h0, _⟩ | ⟨M, hm, hl, ha⟩ := h
  · omega
  have hex : ∀ k, Real.exp ((s k - M) * c) = Real.exp (-(M * c)) * Real.exp (s k * c) := fun k => by
    rw [← Real.exp_add]; congr 1; ring
  have hZ : ∑ k ∈ Finset.range n, Real.exp ((s k - M) * c) = Real.exp (-(M * c)) * Z s n := by
    unfold Z; rw [Finset.mul_sum]; exact Finset.sum_congr rfl fun k _ => hex k
  have hA : ∀ d, ∑ k ∈ Finset.range n, Real.exp ((s k - M) * c) * v k d
      = Real.exp (-(M * c)) * ∑ k ∈ Finset.range n, Real.exp (s k * c) * v k d := fun d => by
    rw [Finset.mul_sum]; exact Finset.sum_congr rfl fun k _ => by rw [hex, mul_assoc]
  have hp : 0 < Real.exp (-(M * c)) * Z s n := mul_pos (Real.exp_pos _) (Z_pos s n hn)
  rw [hm, hl, hZ]
  constructor
  · show (M : EReal) * (c : EReal) + (if _ then _ else _) = _
    rw [if_neg (not_le.mpr hp), ← EReal.coe_mul, ← EReal.coe_add, Real.log_mul (Real.exp_pos _).ne' (Z_pos s n hn).ne', Real.log_exp]
    congr 1; ring
  · intro d hd
    rw [ha d hd, hA, Ideal.div_coe hp.ne', ← EReal.coe_mul, mul_one_div, mul_div_mul_left _ _ (Real.exp_pos _).ne']

end Cert.Softmax

end
-- ==== Proof.AttnReads.lean ====
/-
  The forward attention's body read entry by entry over the extended reals: the scores of a block of keys, the running
  maximum, the weights, the running sum and the weighted sum of the values, the mask of the diagonal block, and the two
  results.
-/
module

public import proofs.«01_k».proof.Defs
public import proofs.«01_k».proof.Proof.Gen.AttnIdeal.Frame
public import proofs.«01_k».proof.Proof.Softmax
public import Idealize.ShloMosaic.Lib.Tactic
public import Idealize.ShloMosaic.Lib.Pointwise

@[expose] public section

set_option maxRecDepth 16384

noncomputable section

namespace Cert.AttnIdeal.Result

open Cert.AttnIdeal Cert.AttnIdeal.Gen Idealize.ShloMosaic Idealize.ShloMosaic.TcCoe Idealize.SL.Sem
open Cert.Softmax (c e2)

/-! The named constants. -/

theorem scale_ideal : Named.named (F := Ideal) (φ := .f32) κ "scale" 0x3DD105EC#32 = ((c : ℝ) : EReal) :=
  IdealRules.named_const.ideal_named_scalar _ _ _ _ rfl
theorem exp2_ideal : Named.named (F := Ideal) (φ := .f32) κ "exp2_scale" 0x3E16C740#32 = ((c * e2 : ℝ) : EReal) :=
  IdealRules.named_const.ideal_named_scalar _ _ _ _ rfl
theorem log2e_ideal : Named.named (F := Ideal) (φ := .f32) κ "log2e" 0x3FB8AA3B#32 = ((e2 : ℝ) : EReal) :=
  IdealRules.named_const.ideal_named_scalar _ _ _ _ rfl
theorem mask_ideal : Named.named (F := Ideal) (φ := .f32) κ "mask" 0xF149F2CA#32 = ⊥ :=
  IdealRules.named_const.ideal_named_scalar _ _ _ _ rfl
theorem neg_inf : Ideal.ofBits .f32 0xFF800000#32 = ⊥ := by simp [Ideal.ofBits, Ideal.ieee]

/-! Blocks of reals. -/

/-- A block of `a` rows and `b` columns whose entries are the reals `f`. -/
def Is {a b : ℕ} (x : (⟨2, ![a, b]⟩ : Shape).Idx → EReal) (f : ℕ → ℕ → ℝ) : Prop :=
  ∀ (r : Fin a) (d : Fin b), x (ix2 r d) = ((f r.val d.val : ℝ) : EReal)

/-- Row `r` of a block, read at any column number. -/
def row (x : S512x128.Idx → EReal) (r : Fin 512) (d : ℕ) : EReal := if h : d < 128 then x (ix2 r ⟨d, h⟩) else 0

/-- A load of a unit-stride rectangle reads the entries from its corner on. -/
theorem ld_apply {a b a' b' : ℕ} {φ : EltTy} (x : Vec Ideal ⟨2, ![a, b]⟩ φ) (off : Fin 2 → ℕ) (inb) (n col : ℕ) (h0 : off 0 = n) (h1 : off 1 = col)
    (r : Fin a') (d : Fin b') (hr : n + r.val < a) (hd : col + d.val < b) :
    View.ld x (Rect.unit (s := ⟨2, ![a, b]⟩) off ![a', b'] inb) (ix2 r d) = x (ix2 ⟨n + r.val, hr⟩ ⟨col + d.val, hd⟩) := by
  unfold View.ld
  show x _ = x _
  congr 1
  funext k
  apply Fin.ext
  match k with
  | ⟨0, _⟩ => show off 0 + 1 * r.val = n + r.val; rw [h0]; omega
  | ⟨1, _⟩ => show off 1 + 1 * d.val = col + d.val; rw [h1]; omega

theorem ld_is {a b a' b' : ℕ} (x : Vec Ideal ⟨2, ![a, b]⟩ .bf16) (f : ℕ → ℕ → ℝ) (hx : Is x f) (off : Fin 2 → ℕ) (inb) (n col : ℕ) (h0 : off 0 = n) (h1 : off 1 = col)
    (hr : n + a' ≤ a) (hd : col + b' ≤ b) :
    Is (a := a') (b := b') (View.ld x (Rect.unit (s := ⟨2, ![a, b]⟩) off ![a', b'] inb)) (fun r d => f (n + r) (col + d)) := by
  intro r d
  rw [ld_apply x off inb n col h0 h1 r d (by omega) (by omega), hx]

theorem ld_is32 {a b a' b' : ℕ} (x : Vec Ideal ⟨2, ![a, b]⟩ .f32) (f : ℕ → ℕ → ℝ) (hx : Is x f) (off : Fin 2 → ℕ) (inb) (n col : ℕ) (h0 : off 0 = n) (h1 : off 1 = col)
    (hr : n + a' ≤ a) (hd : col + b' ≤ b) :
    Is (a := a') (b := b') (View.ld x (Rect.unit (s := ⟨2, ![a, b]⟩) off ![a', b'] inb)) (fun r d => f (n + r) (col + d)) := by
  intro r d
  rw [ld_apply x off inb n col h0 h1 r d (by omega) (by omega), hx]

/-- The product of a block with the transpose of another, and the plain product, of reals. -/
theorem sum_nt {a b : ℕ} (x : (⟨2, ![a, 128]⟩ : Shape).Idx → EReal) (y : (⟨2, ![b, 128]⟩ : Shape).Idx → EReal) (f g : ℕ → ℕ → ℝ) (hx : Is x f) (hy : Is y g) (r : Fin a) (j : Fin b) :
    ∑ d : Fin 128, x (ix2 r d) * y (ix2 j d) = ((∑ d ∈ Finset.range 128, f r.val d * g j.val d : ℝ) : EReal) := by
  rw [← Fin.sum_univ_eq_sum_range (fun d => f r.val d * g j.val d), Softmax.coe_sum]
  refine Finset.sum_congr rfl fun d _ => ?_
  rw [hx, hy, EReal.coe_mul]

/-! The forward body. -/

theorem pay6_apply (q k : Vec Ideal S512x128 .bf16) (r j : Fin 512) :
    k0_pay6 (F := Ideal) q k (ix2 r j) = ∑ d : Fin 128, q (ix2 r d) * k (ix2 j d) := by
  unfold k0_pay6; pointwise

theorem pay8_apply (q k : Vec Ideal S512x128 .bf16) (m : Vec Ideal S512x1 .f32) (r : Fin 512) :
    k0_pay8 (F := Ideal) q m k (ix2 r 0) = max (m (ix2 r 0)) ((Finset.univ : Finset (Fin 512)).fold max ⊥ fun j => k0_pay6 (F := Ideal) q k (ix2 r j)) := by
  unfold k0_pay8; pointwise; rw [neg_inf]

theorem pay10_apply (q k : Vec Ideal S512x128 .bf16) (m : Vec Ideal S512x1 .f32) (r j : Fin 512) :
    k0_pay10 (F := Ideal) q m k (ix2 r j) = Ideal.exp2 ((k0_pay6 (F := Ideal) q k (ix2 r j) - k0_pay8 (F := Ideal) q m k (ix2 r 0)) * ((c * e2 : ℝ) : EReal)) := by
  unfold k0_pay10; pointwise; rw [exp2_ideal]; rfl

theorem pay12_apply (q k : Vec Ideal S512x128 .bf16) (m : Vec Ideal S512x1 .f32) (r : Fin 512) :
    k0_pay12 (F := Ideal) q m k (ix2 r 0) = Ideal.exp2 ((m (ix2 r 0) - k0_pay8 (F := Ideal) q m k (ix2 r 0)) * ((c * e2 : ℝ) : EReal)) := by
  unfold k0_pay12; pointwise; rw [exp2_ideal]; rfl

theorem pay39_apply (q k : Vec Ideal S512x128 .bf16) (m l : Vec Ideal S512x1 .f32) (r : Fin 512) :
    k0_pay39 (F := Ideal) (k0_pay16 q m l k) (k0_pay17 q m k) (ix2 r 0) = k0_pay12 (F := Ideal) q m k (ix2 r 0) * l (ix2 r 0) + ∑ j : Fin 512, k0_pay10 (F := Ideal) q m k (ix2 r j) := by
  unfold k0_pay39 k0_pay16 k0_pay17; pointwise

theorem pay40_apply (q k v : Vec Ideal S512x128 .bf16) (m : Vec Ideal S512x1 .f32) (acc : Vec Ideal S512x128 .f32) (r : Fin 512) (d : Fin 128) :
    k0_pay40 (F := Ideal) acc (k0_pay12 q m k) (k0_pay14 q m v k) (ix2 r d) = k0_pay12 (F := Ideal) q m k (ix2 r 0) * acc (ix2 r d)
      + ∑ j : Fin 512, k0_pay10 (F := Ideal) q m k (ix2 r j) * v (ix2 j d) := by
  unfold k0_pay40 k0_pay14 k0_pay5; pointwise

/-- What a head carries from one block of keys to the next. -/
abbrev St := Vec Ideal S512x1 .f32 × Vec Ideal S512x1 .f32 × Vec Ideal S512x128 .f32

/-- One block of keys below the diagonal, for one head. -/
def head (q k v : Vec Ideal S512x128 .bf16) (s : St) : St :=
  (k0_pay8 (F := Ideal) q s.1 k, k0_pay39 (F := Ideal) (k0_pay16 q s.1 s.2.1 k) (k0_pay17 q s.1 k), k0_pay40 (F := Ideal) s.2.2 (k0_pay12 q s.1 k) (k0_pay14 q s.1 v k))

/-- A head's carry at row `r` after `n` keys. -/
def Carry (Q K V : ℕ → ℕ → ℝ) (n : ℕ) (s : St) (r : Fin 512) : Prop :=
  Softmax.Seen (fun k => ∑ d ∈ Finset.range 128, Q r.val d * K k d) V n (s.1 (ix2 r 0)) (s.2.1 (ix2 r 0)) (row s.2.2 r)

theorem head_carry (q k v : Vec Ideal S512x128 .bf16) (Q K V : ℕ → ℕ → ℝ) (n : ℕ) (hq : Is q Q) (hk : Is k fun j => K (n + j)) (hv : Is v fun j => V (n + j))
    (s : St) (r : Fin 512) (h : Carry Q K V n s r) : Carry Q K V (n + 512) (head q k v s) r := by
  have h6 : ∀ j : Fin 512, k0_pay6 (F := Ideal) q k (ix2 r j) = ((∑ d ∈ Finset.range 128, Q r.val d * K (n + j.val) d : ℝ) : EReal) := fun j => by
    rw [pay6_apply, sum_nt q k Q _ hq hk]
  refine Softmax.seen_step _ V n 512 (by norm_num) le_rfl _ _ _ h (fun j => k0_pay6 (F := Ideal) q k (ix2 r j)) (fun j => ?_) _ (pay8_apply q k s.1 r) _ ?_ _ ?_
  · rw [if_pos j.isLt]; exact h6 j
  · refine (pay39_apply q k s.1 s.2.1 r).trans ?_
    rw [pay12_apply, Finset.sum_congr rfl fun j _ => pay10_apply q k s.1 r j]
  · intro d hd
    unfold row
    rw [dif_pos hd, dif_pos hd]
    refine (pay40_apply q k v s.1 s.2.2 r ⟨d, hd⟩).trans ?_
    rw [pay12_apply, Finset.sum_congr rfl fun j _ => (by rw [pay10_apply, hv] : k0_pay10 (F := Ideal) q s.1 k (ix2 r j) * v (ix2 j ⟨d, hd⟩) = _)]

/-! The diagonal block. -/

/-- A number's quotient by 64 as the kernels compute it: the truncated quotient, less one where the signs differ and the division is not exact. -/
def div64 (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

theorem div64_eq (r : Fin 512) : div64 (IntOp.addi (0#32) (BitVec.ofNat 32 r.val)) = BitVec.ofNat 32 (r.val / 64) :=
  (by decide +kernel : ∀ r : Fin 512, div64 (IntOp.addi (0#32) (BitVec.ofNat 32 r.val)) = BitVec.ofNat 32 (r.val / 64)) r

theorem sge_eq (a b : Fin 8) : IntOp.cmpi .sge (BitVec.ofNat 32 a.val) (BitVec.ofNat 32 b.val) = if b.val ≤ a.val then 1#1 else 0#1 :=
  (by decide : ∀ a b : Fin 8, IntOp.cmpi .sge (BitVec.ofNat 32 a.val) (BitVec.ofNat 32 b.val) = if b.val ≤ a.val then 1#1 else 0#1) a b

theorem mask_eq (r j : Fin 512) : IntOp.cmpi .sge (div64 (IntOp.addi (0#32) (BitVec.ofNat 32 r.val))) (div64 (IntOp.addi (0#32) (BitVec.ofNat 32 j.val)))
    = if j.val < 64 * (r.val / 64 + 1) then 1#1 else 0#1 := by
  rw [div64_eq, div64_eq]
  refine (sge_eq ⟨r.val / 64, by omega⟩ ⟨j.val / 64, by omega⟩).trans ?_
  by_cases h : j.val < 64 * (r.val / 64 + 1)
  · rw [if_pos h, if_pos (by dsimp only; omega)]
  · rw [if_neg h, if_neg (by dsimp only; omega)]

/-- The mask of the diagonal block: of a row's 512 keys the first `64 (r / 64 + 1)`. -/
def mask0 : IVec S512x512 1 := k0_pay50 k0_pay47 64#32 k0_pay48 k0_pay49 (Scalar.extui (Scalar.cmpi .sgt 64#32 0#32)) 0#32

theorem mask0_apply (r j : Fin 512) : mask0 (ix2 r j) = if j.val < 64 * (r.val / 64 + 1) then 1#1 else 0#1 := by
  rw [← mask_eq]
  unfold mask0 k0_pay50 k0_pay48 k0_pay49 k0_pay47; pointwise; rfl

theorem pay54_apply (q k : Vec Ideal S512x128 .bf16) (w : IVec S512x512 1) (r j : Fin 512) :
    k0_pay54 (F := Ideal) q w k (ix2 r j) = if w (ix2 r j) = 1#1 then ∑ d : Fin 128, q (ix2 r d) * k (ix2 j d) else ⊥ := by
  unfold k0_pay54; pointwise; rw [mask_ideal]; rfl

theorem pay56_apply (q k : Vec Ideal S512x128 .bf16) (w : IVec S512x512 1) (m : Vec Ideal S512x1 .f32) (r : Fin 512) :
    k0_pay56 (F := Ideal) q m w k (ix2 r 0) = max (m (ix2 r 0)) ((Finset.univ : Finset (Fin 512)).fold max ⊥ fun j => k0_pay54 (F := Ideal) q w k (ix2 r j)) := by
  unfold k0_pay56; pointwise; rw [neg_inf]

theorem pay58_apply (q k : Vec Ideal S512x128 .bf16) (w : IVec S512x512 1) (m : Vec Ideal S512x1 .f32) (r j : Fin 512) :
    k0_pay58 (F := Ideal) q m w k (ix2 r j) = Ideal.exp2 ((k0_pay54 (F := Ideal) q w k (ix2 r j) - k0_pay56 (F := Ideal) q m w k (ix2 r 0)) * ((c * e2 : ℝ) : EReal)) := by
  unfold k0_pay58; pointwise; rw [exp2_ideal]; rfl

theorem pay60_apply (q k : Vec Ideal S512x128 .bf16) (w : IVec S512x512 1) (m : Vec Ideal S512x1 .f32) (r : Fin 512) :
    k0_pay60 (F := Ideal) q m w k (ix2 r 0) = Ideal.exp2 ((m (ix2 r 0) - k0_pay56 (F := Ideal) q m w k (ix2 r 0)) * ((c * e2 : ℝ) : EReal)) := by
  unfold k0_pay60; pointwise; rw [exp2_ideal]; rfl

theorem pay1_apply (q k : Vec Ideal S512x128 .bf16) (w : IVec S512x512 1) (m l : Vec Ideal S512x1 .f32) (r : Fin 512) :
    k0_pay1 (F := Ideal) (k0_pay64 q m l w k) (k0_pay65 q m w k) (ix2 r 0) = k0_pay60 (F := Ideal) q m w k (ix2 r 0) * l (ix2 r 0) + ∑ j : Fin 512, k0_pay58 (F := Ideal) q m w k (ix2 r j) := by
  unfold k0_pay1 k0_pay64 k0_pay65; pointwise

/-- The weighted sum of the values after the diagonal block. -/
def accD (q k v : Vec Ideal S512x128 .bf16) (w : IVec S512x512 1) (m : Vec Ideal S512x1 .f32) (acc : Vec Ideal S512x128 .f32) : Vec Ideal S512x128 .f32 :=
  k0_pay40 (F := Ideal) acc (k0_pay60 q m w k) (k0_pay61 q m w (k0_pay51 v) k)

theorem accD_apply (q k v : Vec Ideal S512x128 .bf16) (w : IVec S512x512 1) (m : Vec Ideal S512x1 .f32) (acc : Vec Ideal S512x128 .f32) (r : Fin 512) (d : Fin 128) :
    accD q k v w m acc (ix2 r d) = k0_pay60 (F := Ideal) q m w k (ix2 r 0) * acc (ix2 r d) + ∑ j : Fin 512, k0_pay58 (F := Ideal) q m w k (ix2 r j) * v (ix2 j d) := by
  unfold accD k0_pay40 k0_pay61 k0_pay51; pointwise

/-! The first head's diagonal block is printed with its own names. -/

theorem pay32_eq (q : Vec Ideal S512x128 .bf16) : k0_pay32 (F := Ideal) q = k0_pay31 q := rfl
theorem pay55_eq (q k : Vec Ideal S512x128 .bf16) (w : IVec S512x512 1) (m : Vec Ideal S512x1 .f32) :
    k0_pay55 (F := Ideal) q m w (k0_pay52 k) (constant S512x512 .f32 0x00000000#32) = k0_pay56 q m w k := rfl
theorem pay62_eq (q k : Vec Ideal S512x128 .bf16) (w : IVec S512x512 1) (m l : Vec Ideal S512x1 .f32) :
    k0_pay62 (F := Ideal) q m l w (k0_pay52 k) (constant S512x512 .f32 0x00000000#32) = k0_pay1 (k0_pay64 q m l w k) (k0_pay65 q m w k) := rfl
theorem pay63_eq (q k v : Vec Ideal S512x128 .bf16) (w : IVec S512x512 1) (m : Vec Ideal S512x1 .f32) (acc : Vec Ideal S512x128 .f32) :
    k0_pay63 (F := Ideal) q m acc w (k0_pay51 v) (k0_pay52 k) (constant S512x512 .f32 0x00000000#32) = accD q k v w m acc := rfl

/-- The diagonal block of keys, for one head. -/
def headD (q k v : Vec Ideal S512x128 .bf16) (s : St) : St :=
  (k0_pay56 (F := Ideal) q s.1 mask0 k, k0_pay1 (F := Ideal) (k0_pay64 q s.1 s.2.1 mask0 k) (k0_pay65 q s.1 mask0 k), accD q k v mask0 s.1 s.2.2)

theorem headD_carry (q k v : Vec Ideal S512x128 .bf16) (Q K V : ℕ → ℕ → ℝ) (n : ℕ) (hq : Is q Q) (hk : Is k fun j => K (n + j)) (hv : Is v fun j => V (n + j))
    (s : St) (r : Fin 512) (h : Carry Q K V n s r) : Carry Q K V (n + 64 * (r.val / 64 + 1)) (headD q k v s) r := by
  have h6 : ∀ j : Fin 512, k0_pay54 (F := Ideal) q mask0 k (ix2 r j)
      = if j.val < 64 * (r.val / 64 + 1) then ((∑ d ∈ Finset.range 128, Q r.val d * K (n + j.val) d : ℝ) : EReal) else ⊥ := fun j => by
    rw [pay54_apply, sum_nt q k Q _ hq hk, mask0_apply]
    by_cases hj : j.val < 64 * (r.val / 64 + 1)
    · rw [if_pos hj, if_pos rfl, if_pos hj]
    · rw [if_neg hj, if_neg (by decide), if_neg hj]
  refine Softmax.seen_step _ V n (64 * (r.val / 64 + 1)) (by omega) (by omega) _ _ _ h (fun j => k0_pay54 (F := Ideal) q mask0 k (ix2 r j)) h6 _ (pay56_apply q k mask0 s.1 r) _ ?_ _ ?_
  · refine (pay1_apply q k mask0 s.1 s.2.1 r).trans ?_
    rw [pay60_apply, Finset.sum_congr rfl fun j _ => pay58_apply q k mask0 s.1 r j]
  · intro d hd
    unfold row
    rw [dif_pos hd, dif_pos hd]
    refine (accD_apply q k v mask0 s.1 s.2.2 r ⟨d, hd⟩).trans ?_
    rw [pay60_apply, Finset.sum_congr rfl fun j _ => (by rw [pay58_apply, hv] : k0_pay58 (F := Ideal) q s.1 mask0 k (ix2 r j) * v (ix2 j ⟨d, hd⟩) = _)]

/-! The start and the results. -/

/-- Nothing seen. -/
def start : St := (k0_pay33 (F := Ideal), k0_pay34 (F := Ideal), k0_pay35 (F := Ideal))

theorem start_carry (Q K V : ℕ → ℕ → ℝ) (r : Fin 512) : Carry Q K V 0 start r := by
  refine .inl ⟨rfl, ?_, ?_, fun d hd => ?_⟩
  · show k0_pay33 (F := Ideal) (ix2 r 0) = ⊥
    unfold k0_pay33; pointwise; exact mask_ideal
  · show k0_pay34 (F := Ideal) (ix2 r 0) = 0
    unfold k0_pay34; pointwise
  · unfold row; rw [dif_pos hd]
    show k0_pay35 (F := Ideal) (ix2 r ⟨d, hd⟩) = 0
    unfold k0_pay35; pointwise

/-- The row's log-sum and its output, from the carry. -/
theorem lse_apply (m l : Vec Ideal S512x1 .f32) (a b : Fin 1) (r : Fin 512) (d : Fin 1) :
    k0_pay2 (F := Ideal) m l (ix4 a b r d) = m (ix2 r 0) * ((c : ℝ) : EReal) + Ideal.log (l (ix2 r 0)) := by
  rw [← scale_ideal]
  unfold k0_pay2; pointwise

end Cert.AttnIdeal.Result

end
-- ==== Proof.AttnFwd.lean ====
/-
  The forward attention's body at a tile of 512 query rows: after the blocks of keys below the diagonal and the diagonal
  block, every row's output is the softmax-weighted mean of the values it sees and its log-sum is the logarithm of the
  weights' sum.
-/
module

public import proofs.«01_k».proof.Proof.AttnReads
public import Idealize.ShloMosaic.Lib.WritesUnit

@[expose] public section

set_option maxRecDepth 16384

noncomputable section

namespace Cert.AttnIdeal.Result

open Cert.AttnIdeal Cert.AttnIdeal.Gen Idealize.ShloMosaic Idealize.ShloMosaic.TcCoe Idealize.SL.Sem
open Cert.Softmax (c e2)

theorem hz : (![0, 0] : Fin 2 → Nat) = fun _ => 0 := funext fun a => by fin_cases a <;> rfl

/-! The loops' trip counts and the corners of the blocks they load. -/

theorem trips1 (i : grid0.Coords) : (k0_t1_loop i).trips = (i 1).val :=
  (by decide +kernel : ∀ x : Fin 8, Scf.trips 0#32 (Scalar.addi 0#32 (Scalar.muli (Scalar.divsi (Scalar.subi (Scalar.muli (BitVec.ofNat 32 x.val) 1#32) 0#32) 1#32) 1#32)) 1#32 = x.val) (i 1)
theorem trips2 (i : grid0.Coords) : (k0_t2_loop i).trips = 0 :=
  (by decide +kernel : ∀ x : Fin 8, Scf.trips (Scalar.addi 0#32 (Scalar.muli (Scalar.divsi (Scalar.subi (Scalar.muli (BitVec.ofNat 32 x.val) 1#32) 0#32) 1#32) 1#32))
    (Scalar.addi 0#32 (Scalar.subi (Scalar.muli (BitVec.ofNat 32 x.val) 1#32) 0#32)) 1#32 = 0) (i 1)
theorem block_eq (k : ℕ) (h : k < 8) : (Scalar.indexCast (Scalar.muli (Scf.iv 0#32 1#32 k) 512#32)).toNat = 512 * k :=
  (by decide +kernel : ∀ k : Fin 8, (Scalar.indexCast (Scalar.muli (Scf.iv 0#32 1#32 k.val) 512#32)).toNat = 512 * k.val) ⟨k, h⟩
theorem diag_eq (k : ℕ) (h : k < 8) : (Scalar.indexCast (Scalar.addi (Scalar.muli (BitVec.ofNat 32 k) 512#32) 0#32)).toNat = 512 * k :=
  (by decide +kernel : ∀ k : Fin 8, (Scalar.indexCast (Scalar.addi (Scalar.muli (BitVec.ofNat 32 k.val) 512#32) 0#32)).toNat = 512 * k.val) ⟨k, h⟩

section Body

variable (cc : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S1x2x512x1 .f32) (harg6 : arg6.IsWhole)
    (x0 : Vec Ideal S512x256 .bf16) (x1 : Vec Ideal S4096x256 .bf16) (x2 : Vec Ideal S4096x128 .bf16)

/-- The two heads' queries, and a block's keys and values. -/
def qA : Vec Ideal S512x128 .bf16 := View.ld x0 (Rect.unit ![0, 0] S512x128.size inb_S512x256_S512x128_0_0)
def qB : Vec Ideal S512x128 .bf16 := View.ld x0 (Rect.unit ![0, 128] S512x128.size inb_S512x256_S512x128_0_128)

/-- A trip of the loop is a block of keys for either head. -/
theorem trip_eq (k : Fin (k0_t1_loop i).trips) (a b : St) :
    tripR_k0_t1 Variants.none cc none i arg2 harg2 arg3 harg3 arg4 harg4 arg5 harg5 arg6 harg6 (qA x0) (qB x0) (harg3.unread x1) (harg4.unread x2) k
      (a.1, a.2.1, a.2.2, b.1, b.2.1, b.2.2)
    = ((head (k0_pay31 (F := Ideal) (qA x0)) (View.ld x1 (Rect.unit (k0_off2 i k) S512x128.size (k0_off2_inb i k))) (View.ld x2 (Rect.unit (k0_off1 i k) S512x128.size (k0_off1_inb i k))) a).1,
       (head (k0_pay31 (F := Ideal) (qA x0)) (View.ld x1 (Rect.unit (k0_off2 i k) S512x128.size (k0_off2_inb i k))) (View.ld x2 (Rect.unit (k0_off1 i k) S512x128.size (k0_off1_inb i k))) a).2.1,
       (head (k0_pay31 (F := Ideal) (qA x0)) (View.ld x1 (Rect.unit (k0_off2 i k) S512x128.size (k0_off2_inb i k))) (View.ld x2 (Rect.unit (k0_off1 i k) S512x128.size (k0_off1_inb i k))) a).2.2,
       (head (k0_pay31 (F := Ideal) (qB x0)) (View.ld x1 (Rect.unit (k0_off3 i k) S512x128.size (k0_off3_inb i k))) (View.ld x2 (Rect.unit (k0_off1 i k) S512x128.size (k0_off1_inb i k))) b).1,
       (head (k0_pay31 (F := Ideal) (qB x0)) (View.ld x1 (Rect.unit (k0_off3 i k) S512x128.size (k0_off3_inb i k))) (View.ld x2 (Rect.unit (k0_off1 i k) S512x128.size (k0_off1_inb i k))) b).2.1,
       (head (k0_pay31 (F := Ideal) (qB x0)) (View.ld x1 (Rect.unit (k0_off3 i k) S512x128.size (k0_off3_inb i k))) (View.ld x2 (Rect.unit (k0_off1 i k) S512x128.size (k0_off1_inb i k))) b).2.2) := by
  unfold tripR_k0_t1 trip_k0_t1; dsimp only; sl_unfold_words
  simp only [View.readAt_eq_ld, harg3.read_unread, harg4.read_unread]
  rfl

/-- What the loop carries before trip `n`. -/
def carried (n : ℕ) := st_k0_t1 Variants.none cc none i arg2 harg2 arg3 harg3 arg4 harg4 arg5 harg5 arg6 harg6 (qA x0) (qB x0) (harg3.unread x1) (harg4.unread x2)
  (k0_pay33 (F := Ideal), k0_pay34, k0_pay35, k0_pay36, k0_pay37, k0_pay38) n

/-- The two heads' carries before the diagonal block. -/
def endA : St := ((carried cc i arg2 harg2 arg3 harg3 arg4 harg4 arg5 harg5 arg6 harg6 x0 x1 x2 (i 1).val).1, (carried cc i arg2 harg2 arg3 harg3 arg4 harg4 arg5 harg5 arg6 harg6 x0 x1 x2 (i 1).val).2.1,
  (carried cc i arg2 harg2 arg3 harg3 arg4 harg4 arg5 harg5 arg6 harg6 x0 x1 x2 (i 1).val).2.2.1)
def endB : St := (carried cc i arg2 harg2 arg3 harg3 arg4 harg4 arg5 harg5 arg6 harg6 x0 x1 x2 (i 1).val).2.2.2

/-- Their carries after it. -/
def lastA : St := headD (k0_pay31 (F := Ideal) (qA x0)) (View.ld x1 (Rect.unit (k0_off8 i) S512x128.size (k0_off8_inb i))) (View.ld x2 (Rect.unit (k0_off7 i) S512x128.size (k0_off7_inb i)))
  (endA cc i arg2 harg2 arg3 harg3 arg4 harg4 arg5 harg5 arg6 harg6 x0 x1 x2)
def lastB : St := headD (k0_pay31 (F := Ideal) (qB x0)) (View.ld x1 (Rect.unit (k0_off9 i) S512x128.size (k0_off9_inb i))) (View.ld x2 (Rect.unit (k0_off7 i) S512x128.size (k0_off7_inb i)))
  (endB cc i arg2 harg2 arg3 harg3 arg4 harg4 arg5 harg5 arg6 harg6 x0 x1 x2)

/-- The second loop has no trip, so what it leaves is what the first carried. -/
def after2 := st_k0_t2 Variants.none cc none i arg2 harg2 arg3 harg3 arg4 harg4 arg5 harg5 arg6 harg6 (qA x0) (qB x0)
    (Scalar.addi 0#32 (Scalar.muli (Scalar.divsi (Scalar.subi (Scalar.muli (BitVec.ofNat 32 (i 1).val) 1#32) 0#32) 1#32) 1#32)) (harg3.unread x1) (harg4.unread x2)
    (carried cc i arg2 harg2 arg3 harg3 arg4 harg4 arg5 harg5 arg6 harg6 x0 x1 x2 (k0_t1_loop i).trips) (k0_t2_loop i).trips

theorem after2_eq : after2 cc i arg2 harg2 arg3 harg3 arg4 harg4 arg5 harg5 arg6 harg6 x0 x1 x2 = carried cc i arg2 harg2 arg3 harg3 arg4 harg4 arg5 harg5 arg6 harg6 x0 x1 x2 (i 1).val := by
  unfold after2
  rw [trips2, trips1]
  rfl

/-! The values that the body holds after the loops, by the names its run gives them. -/

theorem r2_eq : kernelRun0_A.sl.r_2 cc i arg2 harg2 arg3 harg3 arg4 harg4 arg5 harg5 arg6 harg6 x0 x1 x2 = (carried cc i arg2 harg2 arg3 harg3 arg4 harg4 arg5 harg5 arg6 harg6 x0 x1 x2 (i 1).val).1 := by
  rw [← after2_eq]
  unfold kernelRun0_A.sl.r_2
  simp only [View.readAt_eq_ld, harg2.read_unread]
  rfl
theorem r3_eq : kernelRun0_A.sl.r_3 cc i arg2 harg2 arg3 harg3 arg4 harg4 arg5 harg5 arg6 harg6 x0 x1 x2 = (carried cc i arg2 harg2 arg3 harg3 arg4 harg4 arg5 harg5 arg6 harg6 x0 x1 x2 (i 1).val).2.1 := by
  rw [← after2_eq]
  unfold kernelRun0_A.sl.r_3
  simp only [View.readAt_eq_ld, harg2.read_unread]
  rfl
theorem r4_eq : kernelRun0_A.sl.r_4 cc i arg2 harg2 arg3 harg3 arg4 harg4 arg5 harg5 arg6 harg6 x0 x1 x2 = (carried cc i arg2 harg2 arg3 harg3 arg4 harg4 arg5 harg5 arg6 harg6 x0 x1 x2 (i 1).val).2.2.1 := by
  rw [← after2_eq]
  unfold kernelRun0_A.sl.r_4
  simp only [View.readAt_eq_ld, harg2.read_unread]
  rfl
theorem r5_eq : kernelRun0_A.sl.r_5 cc i arg2 harg2 arg3 harg3 arg4 harg4 arg5 harg5 arg6 harg6 x0 x1 x2 = (carried cc i arg2 harg2 arg3 harg3 arg4 harg4 arg5 harg5 arg6 harg6 x0 x1 x2 (i 1).val).2.2.2.1 := by
  rw [← after2_eq]
  unfold kernelRun0_A.sl.r_5
  simp only [View.readAt_eq_ld, harg2.read_unread]
  rfl
theorem r6_eq : kernelRun0_A.sl.r_6 cc i arg2 harg2 arg3 harg3 arg4 harg4 arg5 harg5 arg6 harg6 x0 x1 x2 = (carried cc i arg2 harg2 arg3 harg3 arg4 harg4 arg5 harg5 arg6 harg6 x0 x1 x2 (i 1).val).2.2.2.2.1 := by
  rw [← after2_eq]
  unfold kernelRun0_A.sl.r_6
  simp only [View.readAt_eq_ld, harg2.read_unread]
  rfl
theorem r7_eq : kernelRun0_A.sl.r_7 cc i arg2 harg2 arg3 harg3 arg4 harg4 arg5 harg5 arg6 harg6 x0 x1 x2 = (carried cc i arg2 harg2 arg3 harg3 arg4 harg4 arg5 harg5 arg6 harg6 x0 x1 x2 (i 1).val).2.2.2.2.2 := by
  rw [← after2_eq]
  unfold kernelRun0_A.sl.r_7
  simp only [View.readAt_eq_ld, harg2.read_unread]
  rfl

/-- The output's block from a carry: the first head's lanes and the second's. -/
def outBlk (i : grid0.Coords) (s : Vec Ideal S512x1 .f32 × Vec Ideal S512x1 .f32 × Vec Ideal S512x128 .f32 × Vec Ideal S512x1 .f32 × Vec Ideal S512x1 .f32 × Vec Ideal S512x128 .f32)
    (x0 : Vec Ideal S512x256 .bf16) (x1 : Vec Ideal S4096x256 .bf16) (x2 : Vec Ideal S4096x128 .bf16) : Vec Ideal S512x128 .f32 :=
  k0_pay4 (F := Ideal) s.2.2.2.2.2
    (k0_pay60 (k0_pay31 (F := Ideal) (qB x0)) s.2.2.2.1 mask0 (View.ld x1 (Rect.unit (k0_off9 i) S512x128.size (k0_off9_inb i))))
    (k0_pay61 (k0_pay31 (F := Ideal) (qB x0)) s.2.2.2.1 mask0 (k0_pay51 (F := Ideal) (View.ld x2 (Rect.unit (k0_off7 i) S512x128.size (k0_off7_inb i)))) (View.ld x1 (Rect.unit (k0_off9 i) S512x128.size (k0_off9_inb i))))
    (headD (k0_pay31 (F := Ideal) (qA x0)) (View.ld x1 (Rect.unit (k0_off8 i) S512x128.size (k0_off8_inb i))) (View.ld x2 (Rect.unit (k0_off7 i) S512x128.size (k0_off7_inb i))) (s.1, s.2.1, s.2.2.1)).2.1
    (headD (k0_pay31 (F := Ideal) (qA x0)) (View.ld x1 (Rect.unit (k0_off8 i) S512x128.size (k0_off8_inb i))) (View.ld x2 (Rect.unit (k0_off7 i) S512x128.size (k0_off7_inb i))) (s.1, s.2.1, s.2.2.1)).2.2
    (k0_pay64 (k0_pay31 (F := Ideal) (qB x0)) s.2.2.2.1 s.2.2.2.2.1 mask0 (View.ld x1 (Rect.unit (k0_off9 i) S512x128.size (k0_off9_inb i))))
    (k0_pay65 (k0_pay31 (F := Ideal) (qB x0)) s.2.2.2.1 mask0 (View.ld x1 (Rect.unit (k0_off9 i) S512x128.size (k0_off9_inb i))))

theorem out3_eq : out0_A_3 cc i arg2 harg2 arg3 harg3 arg4 harg4 arg5 harg5 arg6 harg6 x0 x1 x2
    = outBlk i (carried cc i arg2 harg2 arg3 harg3 arg4 harg4 arg5 harg5 arg6 harg6 x0 x1 x2 (i 1).val) x0 x1 x2 := by
  unfold out0_A_3
  rw [View.read_writes_eq_canon _ _ _ (cover0_A_3 cc i arg2 harg2 arg3 harg3 arg4 harg4 arg5 harg5 arg6 harg6 x0 x1 x2)]
  unfold kernelRun0_A
  dsimp only
  rw [View.canon_unit_zero (S := S512x128) hz]
  unfold kernelRun0_A.sl.r_13 kernelRun0_A.sl.r_14 kernelRun0_A.sl.r_15 kernelRun0_A.sl.r_16 kernelRun0_A.sl.r_17 kernelRun0_A.sl.r_18 kernelRun0_A.sl.cst_28
  rw [r2_eq, r3_eq, r4_eq, r5_eq, r6_eq, r7_eq]
  unfold kernelRun0_A.sl.r kernelRun0_A.sl.r_1 kernelRun0_A.sl.r_8 kernelRun0_A.sl.r_9 kernelRun0_A.sl.r_10
  simp only [View.readAt_eq_ld, harg2.read_unread, harg3.read_unread, harg4.read_unread, pay32_eq, pay62_eq, pay63_eq]
  rfl

theorem out4_eq (h : Fin 2) (r : Fin 512) : out0_A_4 cc i arg2 harg2 arg3 harg3 arg4 harg4 arg5 harg5 arg6 harg6 x0 x1 x2 (ix4 0 h r 0)
    = if h.val = 0 then k0_pay2 (F := Ideal) (lastA cc i arg2 harg2 arg3 harg3 arg4 harg4 arg5 harg5 arg6 harg6 x0 x1 x2).1 (lastA cc i arg2 harg2 arg3 harg3 arg4 harg4 arg5 harg5 arg6 harg6 x0 x1 x2).2.1 (ix4 0 0 r 0)
      else k0_pay2 (F := Ideal) (lastB cc i arg2 harg2 arg3 harg3 arg4 harg4 arg5 harg5 arg6 harg6 x0 x1 x2).1 (lastB cc i arg2 harg2 arg3 harg3 arg4 harg4 arg5 harg5 arg6 harg6 x0 x1 x2).2.1 (ix4 0 0 r 0) := by
  unfold lastA lastB endA endB
  unfold out0_A_4
  unfold kernelRun0_A
  dsimp only
  match h with
  | ⟨0, _⟩ =>
    rw [if_pos rfl]
    refine (View.read_writes_cons_unit_of_not_mem VO0_4 _ _ _ _ _ rfl (1 : Fin 4) (.inl (by simp [ix4]))).trans ?_
    refine (View.read_writes_cons_unit_of_mem VO0_4 _ _ _ _ _ (ix4 0 0 r 0) rfl (fun a => by fin_cases a <;> simp [ix4])).trans ?_
    unfold kernelRun0_A.sl.r_11 kernelRun0_A.sl.r_15 kernelRun0_A.sl.cst_28
    rw [r2_eq, r3_eq]
    unfold kernelRun0_A.sl.r kernelRun0_A.sl.r_8 kernelRun0_A.sl.r_10
    simp only [View.readAt_eq_ld, harg2.read_unread, harg3.read_unread, harg4.read_unread, pay32_eq, pay55_eq, pay62_eq]
    rfl
  | ⟨1, _⟩ =>
    rw [if_neg (by simp)]
    refine (View.read_writes_cons_unit_of_mem VO0_4 _ _ _ _ _ (ix4 0 0 r 0) rfl (fun a => by fin_cases a <;> simp [ix4])).trans ?_
    unfold kernelRun0_A.sl.r_12 kernelRun0_A.sl.r_17 kernelRun0_A.sl.r_18
    rw [r5_eq, r6_eq]
    unfold kernelRun0_A.sl.r_1 kernelRun0_A.sl.r_8
    simp only [View.readAt_eq_ld, harg2.read_unread, harg3.read_unread, harg4.read_unread, pay32_eq, pay55_eq, pay62_eq]
    rfl

/-! The carries. -/

variable (Q K V : ℕ → ℕ → ℝ) (hq : Is x0 Q) (hk : Is x1 K) (hv : Is x2 V)

theorem qA_is (hq : Is x0 Q) : Is (k0_pay31 (F := Ideal) (qA x0)) Q := by
  intro r d
  have e : k0_pay31 (F := Ideal) (qA x0) (ix2 r d) = qA x0 (ix2 r d) := by unfold k0_pay31; pointwise
  rw [e]
  refine (ld_is x0 Q hq ![0, 0] _ 0 0 rfl rfl (by norm_num) (by norm_num) r d).trans ?_
  simp only [Nat.zero_add]
theorem qB_is (hq : Is x0 Q) : Is (k0_pay31 (F := Ideal) (qB x0)) (fun r d => Q r (128 + d)) := by
  intro r d
  have e : k0_pay31 (F := Ideal) (qB x0) (ix2 r d) = qB x0 (ix2 r d) := by unfold k0_pay31; pointwise
  rw [e]
  refine (ld_is x0 Q hq ![0, 128] _ 0 128 rfl rfl (by norm_num) (by norm_num) r d).trans ?_
  simp only [Nat.zero_add]

theorem carried_zero : carried cc i arg2 harg2 arg3 harg3 arg4 harg4 arg5 harg5 arg6 harg6 x0 x1 x2 0
    = (start.1, start.2.1, start.2.2, start.1, start.2.1, start.2.2) := rfl

theorem carried_succ (k : Fin (k0_t1_loop i).trips) : carried cc i arg2 harg2 arg3 harg3 arg4 harg4 arg5 harg5 arg6 harg6 x0 x1 x2 (k.val + 1)
    = tripR_k0_t1 Variants.none cc none i arg2 harg2 arg3 harg3 arg4 harg4 arg5 harg5 arg6 harg6 (qA x0) (qB x0) (harg3.unread x1) (harg4.unread x2) k
      (carried cc i arg2 harg2 arg3 harg3 arg4 harg4 arg5 harg5 arg6 harg6 x0 x1 x2 k.val) := st_k0_t1_succ ..

include hq hk hv in
theorem carried_carry (r : Fin 512) (n : ℕ) : n ≤ (i 1).val →
    Carry Q K V (512 * n) ((carried cc i arg2 harg2 arg3 harg3 arg4 harg4 arg5 harg5 arg6 harg6 x0 x1 x2 n).1, (carried cc i arg2 harg2 arg3 harg3 arg4 harg4 arg5 harg5 arg6 harg6 x0 x1 x2 n).2.1,
      (carried cc i arg2 harg2 arg3 harg3 arg4 harg4 arg5 harg5 arg6 harg6 x0 x1 x2 n).2.2.1) r
    ∧ Carry (fun r d => Q r (128 + d)) (fun k d => K k (128 + d)) V (512 * n) (carried cc i arg2 harg2 arg3 harg3 arg4 harg4 arg5 harg5 arg6 harg6 x0 x1 x2 n).2.2.2 r := by
  have hi : (i 1).val < 8 := (i 1).isLt
  induction n with
  | zero =>
    intro _
    rw [carried_zero]
    exact ⟨start_carry _ _ _ r, start_carry _ _ _ r⟩
  | succ n ih =>
    intro hn
    obtain ⟨ha, hb⟩ := ih (by omega)
    have ht : n < (k0_t1_loop i).trips := by rw [trips1]; omega
    rw [show n + 1 = (⟨n, ht⟩ : Fin (k0_t1_loop i).trips).val + 1 from rfl, carried_succ]
    generalize carried cc i arg2 harg2 arg3 harg3 arg4 harg4 arg5 harg5 arg6 harg6 x0 x1 x2 n = s at ha hb
    have e := trip_eq cc i arg2 harg2 arg3 harg3 arg4 harg4 arg5 harg5 arg6 harg6 x0 x1 x2 ⟨n, ht⟩ (s.1, s.2.1, s.2.2.1) s.2.2.2
    have hv' := ld_is x2 V hv (k0_off1 i ⟨n, ht⟩) (k0_off1_inb i ⟨n, ht⟩) (512 * n) 0 (block_eq n (by omega)) rfl (by omega) (by norm_num)
    have hkA := ld_is x1 K hk (k0_off2 i ⟨n, ht⟩) (k0_off2_inb i ⟨n, ht⟩) (512 * n) 0 (block_eq n (by omega)) rfl (by omega) (by norm_num)
    have hkB := ld_is x1 K hk (k0_off3 i ⟨n, ht⟩) (k0_off3_inb i ⟨n, ht⟩) (512 * n) 128 (block_eq n (by omega)) rfl (by omega) (by norm_num)
    simp only [Nat.zero_add] at hv' hkA
    have eA := head_carry _ _ _ Q K V (512 * n) (qA_is x0 Q hq) hkA hv' _ r ha
    have eB := head_carry _ _ _ (fun r d => Q r (128 + d)) (fun k d => K k (128 + d)) V (512 * n) (qB_is x0 Q hq) hkB hv' _ r hb
    refine ⟨?_, ?_⟩
    · exact (congrArg (fun z => Carry Q K V (512 * (n + 1)) (z.1, z.2.1, z.2.2.1) r) e).mpr eA
    · exact (congrArg (fun z => Carry (fun r d => Q r (128 + d)) (fun k d => K k (128 + d)) V (512 * (n + 1)) z.2.2.2 r) e).mpr eB

/-- The number of keys that row `r` of the tile sees. -/
def seen (i : grid0.Coords) (r : Fin 512) : ℕ := 512 * (i 1).val + 64 * (r.val / 64 + 1)

include hq hk hv in
theorem last_carry (r : Fin 512) :
    Carry Q K V (seen i r) (lastA cc i arg2 harg2 arg3 harg3 arg4 harg4 arg5 harg5 arg6 harg6 x0 x1 x2) r
    ∧ Carry (fun r d => Q r (128 + d)) (fun k d => K k (128 + d)) V (seen i r) (lastB cc i arg2 harg2 arg3 harg3 arg4 harg4 arg5 harg5 arg6 harg6 x0 x1 x2) r := by
  have hi : (i 1).val < 8 := (i 1).isLt
  obtain ⟨ha, hb⟩ := carried_carry cc i arg2 harg2 arg3 harg3 arg4 harg4 arg5 harg5 arg6 harg6 x0 x1 x2 Q K V hq hk hv r (i 1).val le_rfl
  have hv' := ld_is x2 V hv (k0_off7 i) (k0_off7_inb i) (512 * (i 1).val) 0 (diag_eq _ hi) rfl (by omega) (by norm_num)
  have hkA := ld_is x1 K hk (k0_off8 i) (k0_off8_inb i) (512 * (i 1).val) 0 (diag_eq _ hi) rfl (by omega) (by norm_num)
  have hkB := ld_is x1 K hk (k0_off9 i) (k0_off9_inb i) (512 * (i 1).val) 128 (diag_eq _ hi) rfl (by omega) (by norm_num)
  simp only [Nat.zero_add] at hv' hkA
  exact ⟨headD_carry _ _ _ Q K V _ (qA_is x0 Q hq) hkA hv' _ r ha,
    headD_carry _ _ _ (fun r d => Q r (128 + d)) (fun k d => K k (128 + d)) V _ (qB_is x0 Q hq) hkB hv' _ r hb⟩

/-- A row's score with a key, a head's 128 lanes from column `128 h` on. -/
def score (Q K : ℕ → ℕ → ℝ) (h r k : ℕ) : ℝ := ∑ d ∈ Finset.range 128, Q r (128 * h + d) * K k (128 * h + d)

include hq hk hv in
/-- The log-sums of a tile. -/
theorem lse_value (h : Fin 2) (r : Fin 512) : out0_A_4 cc i arg2 harg2 arg3 harg3 arg4 harg4 arg5 harg5 arg6 harg6 x0 x1 x2 (ix4 0 h r 0)
    = ((Real.log (Softmax.Z (score Q K h.val r.val) (seen i r)) : ℝ) : EReal) := by
  obtain ⟨ha, hb⟩ := last_carry cc i arg2 harg2 arg3 harg3 arg4 harg4 arg5 harg5 arg6 harg6 x0 x1 x2 Q K V hq hk hv r
  have hs : 0 < seen i r := by unfold seen; omega
  rw [out4_eq]
  match h with
  | ⟨0, _⟩ =>
    rw [if_pos rfl, lse_apply]
    refine (Softmax.seen_end _ _ _ hs _ _ _ ha).1.trans ?_
    unfold score; simp
  | ⟨1, _⟩ =>
    rw [if_neg (by simp), lse_apply]
    exact (Softmax.seen_end _ _ _ hs _ _ _ hb).1

theorem pay4_apply (aB : Vec Ideal S512x128 .f32) (al : Vec Ideal S512x1 .f32) (pv : Vec Ideal S512x128 .f32) (lA : Vec Ideal S512x1 .f32) (aA : Vec Ideal S512x128 .f32)
    (lB : Vec Ideal S512x1 .f32) (ps : Vec Ideal S512 .f32) (r : Fin 512) (d : Fin 128) :
    k0_pay4 (F := Ideal) aB al pv lA aA lB ps (ix2 r d) = if d.val < 64 then Ideal.div (aA (ix2 r d)) (lA (ix2 r 0))
      else Ideal.div (k0_pay40 (F := Ideal) aB al pv (ix2 r d)) (k0_pay1 (F := Ideal) lB ps (ix2 r 0)) := by
  have hm : ∀ d : Fin 128, IntOp.andi (IntOp.cmpi .sge (BitVec.ofNat 32 d.val) 0#32) (IntOp.cmpi .slt (BitVec.ofNat 32 d.val) 64#32) = if d.val < 64 then 1#1 else 0#1 := by decide +kernel
  unfold k0_pay4 k0_pay40; pointwise
  rw [hm]
  by_cases h : d.val < 64
  · rw [if_pos h, if_pos h]; rfl
  · rw [if_neg h, if_neg h]; rfl

include hq hk hv in
/-- The outputs of a tile. -/
theorem out_value (r : Fin 512) (d : Fin 128) : out0_A_3 cc i arg2 harg2 arg3 harg3 arg4 harg4 arg5 harg5 arg6 harg6 x0 x1 x2 (ix2 r d)
    = (((∑ k ∈ Finset.range (seen i r), Real.exp (score Q K (d.val / 64) r.val k * c) * V k d.val) / Softmax.Z (score Q K (d.val / 64) r.val) (seen i r) : ℝ) : EReal) := by
  obtain ⟨ha, hb⟩ := last_carry cc i arg2 harg2 arg3 harg3 arg4 harg4 arg5 harg5 arg6 harg6 x0 x1 x2 Q K V hq hk hv r
  have hs : 0 < seen i r := by unfold seen; omega
  rw [out3_eq]
  refine (pay4_apply ..).trans ?_
  by_cases h : d.val < 64
  · rw [if_pos h, show d.val / 64 = 0 by omega]
    have e := (Softmax.seen_end _ _ _ hs _ _ _ ha).2 d.val d.isLt
    unfold row at e
    rw [dif_pos d.isLt] at e
    refine Eq.trans e ?_
    unfold score; simp
  · rw [if_neg h, show d.val / 64 = 1 by omega]
    have e := (Softmax.seen_end _ _ _ hs _ _ _ hb).2 d.val d.isLt
    unfold row at e
    rw [dif_pos d.isLt] at e
    exact e

end Body

end Cert.AttnIdeal.Result

end
-- ==== Proof.AttnBwdReads.lean ====
/-
  The attention gradient's body read entry by entry: the weights recomputed from the rows' log-sums, the gradient of the
  scores, and the three products of a block of keys, all as reals.
-/
module

public import proofs.«01_k».proof.Proof.AttnReads

@[expose] public section

set_option maxRecDepth 16384

noncomputable section

namespace Cert.AttnIdeal.Result

open Cert.AttnIdeal Cert.AttnIdeal.Gen Idealize.ShloMosaic Idealize.ShloMosaic.TcCoe Idealize.SL.Sem
open Cert.Softmax (c e2)

/-- What one head's gradient is computed from at a tile of query rows: queries, keys, cotangents, values and outputs (rows
by lanes), the rows' log-sums and the number of keys each row sees. -/
structure Hd where
  (Q K G V O : ℕ → ℕ → ℝ)
  (L : ℕ → ℝ)
  (n : ℕ → ℕ)

namespace Hd

variable (h : Hd)

/-- Row `r`'s score with key `k`. -/
def s (r k : ℕ) : ℝ := ∑ d ∈ Finset.range 128, h.Q r d * h.K k d
/-- The weight that row `r` gives key `k`. -/
def w (r k : ℕ) : ℝ := if k < h.n r then Real.exp (h.s r k * c - h.L r) else 0
/-- The sum over the lanes of cotangent times output. -/
def dl (r : ℕ) : ℝ := ∑ d ∈ Finset.range 128, h.G r d * h.O r d
/-- The gradient of the scaled score. -/
def ds (r k : ℕ) : ℝ := h.w r k * ((∑ d ∈ Finset.range 128, h.G r d * h.V k d) - h.dl r)

end Hd

/-! Products of blocks of reals. -/

theorem sum_nn {a m b : ℕ} (x : (⟨2, ![a, m]⟩ : Shape).Idx → EReal) (y : (⟨2, ![m, b]⟩ : Shape).Idx → EReal) (f g : ℕ → ℕ → ℝ) (hx : Is x f) (hy : Is y g) (r : Fin a) (d : Fin b) :
    ∑ j : Fin m, x (ix2 r j) * y (ix2 j d) = ((∑ j ∈ Finset.range m, f r.val j * g j d.val : ℝ) : EReal) := by
  rw [← Fin.sum_univ_eq_sum_range (fun j => f r.val j * g j d.val), Softmax.coe_sum]
  refine Finset.sum_congr rfl fun j _ => ?_
  rw [hx, hy, EReal.coe_mul]

theorem sum_tn {a m b : ℕ} (x : (⟨2, ![m, a]⟩ : Shape).Idx → EReal) (y : (⟨2, ![m, b]⟩ : Shape).Idx → EReal) (f g : ℕ → ℕ → ℝ) (hx : Is x f) (hy : Is y g) (j : Fin a) (d : Fin b) :
    ∑ r : Fin m, x (ix2 r j) * y (ix2 r d) = ((∑ r ∈ Finset.range m, f r j.val * g r d.val : ℝ) : EReal) := by
  rw [← Fin.sum_univ_eq_sum_range (fun r => f r j.val * g r d.val), Softmax.coe_sum]
  refine Finset.sum_congr rfl fun r _ => ?_
  rw [hx, hy, EReal.coe_mul]

/-! The block of keys below the diagonal. The second head's names compute the same. -/

theorem bpay6_eq (q k : Vec Ideal S512x128 .bf16) (l : Vec Ideal S512x1 .f32) : k1_pay6 (F := Ideal) q l k = k1_pay5 q l k := rfl
theorem bpay8_eq (q k g v : Vec Ideal S512x128 .bf16) (l dl : Vec Ideal S512x1 .f32) : k1_pay8 (F := Ideal) q dl g l v k = k1_pay7 q dl g l v k := rfl
theorem bpay10_eq (q k : Vec Ideal S512x128 .bf16) (l : Vec Ideal S512x1 .f32) : k1_pay10 (F := Ideal) q l k = k1_pay9 q l k := rfl
theorem bpay12_eq (q k g v : Vec Ideal S512x128 .bf16) (l dl : Vec Ideal S512x1 .f32) (acc : Vec Ideal S512x128 .f32) : k1_pay12 (F := Ideal) q dl g l acc v k = k1_pay11 q dl g l acc v k := rfl

theorem bpay5_apply (q k : Vec Ideal S512x128 .bf16) (l : Vec Ideal S512x1 .f32) (r j : Fin 512) :
    k1_pay5 (F := Ideal) q l k (ix2 r j) = Ideal.exp2 ((∑ d : Fin 128, q (ix2 r d) * k (ix2 j d)) * ((c * e2 : ℝ) : EReal) - l (ix2 r 0)) := by
  unfold k1_pay5 k1_pay3; pointwise; rw [exp2_ideal]; rfl

theorem bpay7_apply (q k g v : Vec Ideal S512x128 .bf16) (l dl : Vec Ideal S512x1 .f32) (r j : Fin 512) :
    k1_pay7 (F := Ideal) q dl g l v k (ix2 r j) = k1_pay5 (F := Ideal) q l k (ix2 r j) * ((∑ d : Fin 128, g (ix2 r d) * v (ix2 j d)) - dl (ix2 r 0)) := by
  unfold k1_pay7 k1_pay2; pointwise

theorem bpay9_apply (q k : Vec Ideal S512x128 .bf16) (l : Vec Ideal S512x1 .f32) (r j : Fin 512) :
    k1_pay9 (F := Ideal) q l k (ix2 r j) = k1_pay5 (F := Ideal) q l k (ix2 r j) := by
  unfold k1_pay9; pointwise

theorem bpay11_apply (q k g v : Vec Ideal S512x128 .bf16) (l dl : Vec Ideal S512x1 .f32) (acc : Vec Ideal S512x128 .f32) (r : Fin 512) (d : Fin 128) :
    k1_pay11 (F := Ideal) q dl g l acc v k (ix2 r d) = acc (ix2 r d) + ∑ j : Fin 512, k1_pay7 (F := Ideal) q dl g l v k (ix2 r j) * k (ix2 j d) := by
  unfold k1_pay11 k1_pay3; pointwise

theorem bpay41_apply (q : Vec Ideal S512x128 .bf16) (x : Vec Ideal S512x512 .bf16) (p : Vec Ideal S512x128 .f32) (j : Fin 512) (d : Fin 128) :
    k1_pay41 (F := Ideal) q x p (ix2 j d) = p (ix2 j d) + ∑ r : Fin 512, x (ix2 r j) * q (ix2 r d) := by
  unfold k1_pay41; pointwise

theorem bpay13_eq (q k g v : Vec Ideal S512x128 .bf16) (l dl : Vec Ideal S512x1 .f32) (p : Vec Ideal S512x128 .f32) :
    k1_pay13 (F := Ideal) q dl g l v k p = k1_pay41 q (k1_pay7 q dl g l v k) p := rfl

theorem bpay42_apply (g : Vec Ideal S512x128 .bf16) (w : IVec S1x128 1) (x : Vec Ideal S512x128 .f32) (a b : Vec Ideal S512x512 .bf16) (p : Vec Ideal S512x128 .f32) (j : Fin 512) (d : Fin 128) :
    k1_pay42 (F := Ideal) g w x a b p (ix2 j d) = p (ix2 j d) + ((∑ r : Fin 512, a (ix2 r j) * g (ix2 r d)) + ∑ r : Fin 512, b (ix2 r j) * k1_pay37 (F := Ideal) w x (ix2 r d)) := by
  unfold k1_pay42; pointwise

/-! The tile's own rows. -/

theorem bpay29_apply (x : Vec Ideal S512x128 .f32) (r : Fin 512) (d : Fin 128) : k1_pay29 (F := Ideal) x (ix2 r d) = if d.val < 64 then x (ix2 r d) else 0 := by
  have hm : ∀ d : Fin 128, IntOp.andi (IntOp.cmpi .sge (BitVec.ofNat 32 d.val) 0#32) (IntOp.cmpi .slt (BitVec.ofNat 32 d.val) 64#32) = if d.val < 64 then 1#1 else 0#1 := by decide +kernel
  unfold k1_pay29; pointwise
  rw [hm]
  by_cases h : d.val < 64
  · rw [if_pos h, if_pos h]; rfl
  · rw [if_neg h, if_neg h]; rfl
theorem bpay31_apply (x : Vec Ideal S512x128 .f32) (r : Fin 512) (d : Fin 128) : k1_pay31 (F := Ideal) x (ix2 r d) = if d.val < 64 then x (ix2 r d) else 0 := by
  rw [← bpay29_apply]; unfold k1_pay31; pointwise
theorem bpay30_apply (x o : Vec Ideal S512x128 .f32) (r : Fin 512) : k1_pay30 (F := Ideal) x o (ix2 r 0) = ∑ d : Fin 128, k1_pay29 (F := Ideal) x (ix2 r d) * o (ix2 r d) := by
  unfold k1_pay30; pointwise
theorem bpay35_apply (x : Vec Ideal S512x128 .f32) (r : Fin 512) (d : Fin 128) : k1_pay35 (F := Ideal) k1_pay34 x (ix2 r d) = if 64 ≤ d.val then x (ix2 r d) else 0 := by
  have hm : ∀ d : Fin 128, IntOp.andi (IntOp.cmpi .sge (BitVec.ofNat 32 d.val) 64#32) (IntOp.cmpi .slt (BitVec.ofNat 32 d.val) 128#32) = if 64 ≤ d.val then 1#1 else 0#1 := by decide +kernel
  unfold k1_pay35 k1_pay34; pointwise
  rw [hm]
  by_cases h : 64 ≤ d.val
  · rw [if_pos h, if_pos h]; rfl
  · rw [if_neg h, if_neg h]; rfl
theorem bpay37_apply (x : Vec Ideal S512x128 .f32) (r : Fin 512) (d : Fin 128) : k1_pay37 (F := Ideal) k1_pay34 x (ix2 r d) = if 64 ≤ d.val then x (ix2 r d) else 0 := by
  rw [← bpay35_apply]; unfold k1_pay37; pointwise
theorem bpay36_apply (x o : Vec Ideal S512x128 .f32) (r : Fin 512) : k1_pay36 (F := Ideal) k1_pay34 x o (ix2 r 0) = ∑ d : Fin 128, k1_pay35 (F := Ideal) k1_pay34 x (ix2 r d) * o (ix2 r d) := by
  unfold k1_pay36; pointwise
theorem bpay32_apply (x : Vec Ideal S1x1x512x1 .f32) (r : Fin 512) : k1_pay32 (F := Ideal) x (ix2 r 0) = x (ix4 0 0 r 0) * ((e2 : ℝ) : EReal) := by
  rw [← log2e_ideal]; unfold k1_pay32; pointwise
theorem bpay38_apply (x : Vec Ideal S1x1x512x1 .f32) (r : Fin 512) : k1_pay38 (F := Ideal) x (ix2 r 0) = x (ix4 0 0 r 0) * ((e2 : ℝ) : EReal) := by
  rw [← log2e_ideal]; unfold k1_pay38; pointwise
theorem bpay28_apply (x : Vec Ideal S512x128 .bf16) (r : Fin 512) (d : Fin 128) : k1_pay28 (F := Ideal) x (ix2 r d) = x (ix2 r d) := by
  unfold k1_pay28; pointwise
theorem bpay33_apply (x : Vec Ideal S512x128 .bf16) (r : Fin 512) (d : Fin 128) : k1_pay33 (F := Ideal) x (ix2 r d) = x (ix2 r d) := by
  unfold k1_pay33; pointwise
theorem bpay71_apply (x : Vec Ideal S512x128 .f32) (r : Fin 512) (d : Fin 128) : k1_pay71 (F := Ideal) x (ix2 r d) = x (ix2 r d) * ((c : ℝ) : EReal) := by
  rw [← scale_ideal]; unfold k1_pay71; pointwise
theorem bpay72_apply (x : Vec Ideal S512x128 .f32) (r : Fin 512) (d : Fin 128) : k1_pay72 (F := Ideal) x (ix2 r d) = x (ix2 r d) * ((c : ℝ) : EReal) := by
  rw [← scale_ideal]; unfold k1_pay72; pointwise
theorem bpay1_apply (x : Vec Ideal S4096x256 .f32) (r : Fin 4096) (d : Fin 256) : k1_pay1 (F := Ideal) x (ix2 r d) = x (ix2 r d) * ((c : ℝ) : EReal) := by
  rw [← scale_ideal]; unfold k1_pay1; pointwise

/-! The diagonal block. -/

/-- The first head's masked scores. -/
def scoreA (q k : Vec Ideal S512x128 .bf16) : Vec Ideal S512x512 .f32 :=
  k1_pay54 (F := Ideal) (k1_pay48 q k) (k1_pay49 (iota .tc S512x512 32 [0] iota_S512x512_d0_w32) 0#32) k1_pay51 k1_pay52 k1_pay53

theorem scoreA_apply (q k : Vec Ideal S512x128 .bf16) (r j : Fin 512) :
    scoreA q k (ix2 r j) = if j.val < 64 * (r.val / 64 + 1) then ∑ d : Fin 128, q (ix2 r d) * k (ix2 j d) else ⊥ := by
  have hm := mask_eq r j
  unfold div64 at hm
  unfold scoreA k1_pay54 k1_pay48 k1_pay49 k1_pay51 k1_pay52 k1_pay53 k1_pay50 k1_pay46; pointwise
  rw [mask_ideal]
  refine (congrArg (fun w => Scalar.select w _ _) hm).trans ?_
  by_cases h : j.val < 64 * (r.val / 64 + 1)
  · rw [if_pos h, if_pos h]; rfl
  · rw [if_neg h, if_neg h]; rfl

theorem bpay60_apply (l : Vec Ideal S512x1 .f32) (s : Vec Ideal S512x512 .f32) (r j : Fin 512) :
    k1_pay60 (F := Ideal) l s (ix2 r j) = Ideal.exp2 (s (ix2 r j) * ((c * e2 : ℝ) : EReal) - l (ix2 r 0)) := by
  unfold k1_pay60; pointwise; rw [exp2_ideal]; rfl

/-- The second head's weights are the first's of its own queries and keys. -/
theorem bpay61_eq (l : Vec Ideal S512x1 .f32) (q k : Vec Ideal S512x128 .bf16) :
    k1_pay61 (F := Ideal) l (k1_pay55 q (k1_pay47 k)) k1_pay56 k1_pay57 64#32 k1_pay58 k1_pay59 = k1_pay60 l (scoreA q k) := rfl

theorem bpay63_eq (q k g v : Vec Ideal S512x128 .bf16) (l dl : Vec Ideal S512x1 .f32) :
    k1_pay63 (F := Ideal) dl g l v (k1_pay55 q (k1_pay47 k)) k1_pay56 k1_pay57 64#32 k1_pay58 k1_pay59 = k1_pay62 dl g l v (scoreA q k) := rfl
theorem bpay65_eq (l : Vec Ideal S512x1 .f32) (q k : Vec Ideal S512x128 .bf16) :
    k1_pay65 (F := Ideal) l (k1_pay55 q (k1_pay47 k)) k1_pay56 k1_pay57 64#32 k1_pay58 k1_pay59 = k1_pay64 l (scoreA q k) := rfl
theorem bpay67_eq (q k g v : Vec Ideal S512x128 .bf16) (l dl : Vec Ideal S512x1 .f32) (acc : Vec Ideal S512x128 .f32) :
    k1_pay67 (F := Ideal) dl g l acc v (k1_pay47 k) (k1_pay55 q (k1_pay47 k)) k1_pay56 k1_pay57 64#32 k1_pay58 k1_pay59 = k1_pay66 dl g l acc v (k1_pay46 k) (scoreA q k) := rfl

theorem bpay62_apply (g v : Vec Ideal S512x128 .bf16) (l dl : Vec Ideal S512x1 .f32) (s : Vec Ideal S512x512 .f32) (r j : Fin 512) :
    k1_pay62 (F := Ideal) dl g l (k1_pay45 v) s (ix2 r j) = k1_pay60 (F := Ideal) l s (ix2 r j) * ((∑ d : Fin 128, g (ix2 r d) * v (ix2 j d)) - dl (ix2 r 0)) := by
  unfold k1_pay62 k1_pay45; pointwise
theorem bpay64_apply (l : Vec Ideal S512x1 .f32) (s : Vec Ideal S512x512 .f32) (r j : Fin 512) :
    k1_pay64 (F := Ideal) l s (ix2 r j) = k1_pay60 (F := Ideal) l s (ix2 r j) := by
  unfold k1_pay64; pointwise
theorem bpay66_apply (g v k : Vec Ideal S512x128 .bf16) (l dl : Vec Ideal S512x1 .f32) (acc : Vec Ideal S512x128 .f32) (s : Vec Ideal S512x512 .f32) (r : Fin 512) (d : Fin 128) :
    k1_pay66 (F := Ideal) dl g l acc v (k1_pay46 k) s (ix2 r d) = acc (ix2 r d) + ∑ j : Fin 512, k1_pay62 (F := Ideal) dl g l v s (ix2 r j) * k (ix2 j d) := by
  unfold k1_pay66 k1_pay46; pointwise
theorem bpay68_eq (q : Vec Ideal S512x128 .bf16) (x : Vec Ideal S512x512 .bf16) (p : Vec Ideal S512x128 .f32) : k1_pay68 (F := Ideal) q x p = k1_pay41 q x p := rfl
theorem bpay69_eq (q : Vec Ideal S512x128 .bf16) (x : Vec Ideal S512x512 .bf16) (p : Vec Ideal S512x128 .f32) : k1_pay69 (F := Ideal) q x p = k1_pay41 q x p := rfl
theorem bpay70_eq (g : Vec Ideal S512x128 .bf16) (w : IVec S1x128 1) (x : Vec Ideal S512x128 .f32) (a b : Vec Ideal S512x512 .bf16) (p : Vec Ideal S512x128 .f32) :
    k1_pay70 (F := Ideal) g (k1_pay37 w x) a b p = k1_pay42 g w x a b p := rfl

/-! The blocks as reals. -/

/-- A column of reals, one per row. -/
def IsCol (x : Vec Ideal S512x1 .f32) (f : ℕ → ℝ) : Prop := ∀ r : Fin 512, x (ix2 r 0) = ((f r.val : ℝ) : EReal)

variable (h : Hd) (b : ℕ) (q k g v : Vec Ideal S512x128 .bf16) (l dl : Vec Ideal S512x1 .f32) (acc : Vec Ideal S512x128 .f32)
  (hq : Is q h.Q) (hk : Is k fun j => h.K (b + j)) (hg : Is g h.G) (hv : Is v fun j => h.V (b + j)) (hl : IsCol l fun r => h.L r * e2) (hdl : IsCol dl h.dl)

include hq hk hl in
theorem wBlk (hn : ∀ r < 512, b + 512 ≤ h.n r) : Is (k1_pay5 (F := Ideal) q l k) fun r j => h.w r (b + j) := by
  intro r j
  have := hn r.val r.isLt
  rw [bpay5_apply, sum_nt q k h.Q _ hq hk, hl]
  show Ideal.exp2 (_ - ((h.L r.val * e2 : ℝ) : EReal)) = _
  rw [EReal.coe_mul (h.L r.val), Softmax.exp2_grad]
  unfold Hd.w
  show _ = ((if b + j.val < h.n r.val then Real.exp (h.s r.val (b + j.val) * c - h.L r.val) else 0 : ℝ) : EReal)
  rw [if_pos (by omega)]
  rfl

include hq hk hg hv hl hdl in
theorem dsBlk (hn : ∀ r < 512, b + 512 ≤ h.n r) : Is (k1_pay7 (F := Ideal) q dl g l v k) fun r j => h.ds r (b + j) := by
  intro r j
  rw [bpay7_apply, wBlk h b q k l hq hk hl hn, sum_nt g v h.G _ hg hv, hdl, ← EReal.coe_sub, ← EReal.coe_mul]
  rfl

include hq hk hl in
theorem wDiag (hn : ∀ r < 512, h.n r = b + 64 * (r / 64 + 1)) : Is (k1_pay60 (F := Ideal) l (scoreA q k)) fun r j => h.w r (b + j) := by
  intro r j
  have := hn r.val r.isLt
  rw [bpay60_apply, scoreA_apply, sum_nt q k h.Q _ hq hk, hl]
  show Ideal.exp2 (_ - ((h.L r.val * e2 : ℝ) : EReal)) = _
  rw [EReal.coe_mul (h.L r.val)]
  unfold Hd.w
  show _ = ((if b + j.val < h.n r.val then Real.exp (h.s r.val (b + j.val) * c - h.L r.val) else 0 : ℝ) : EReal)
  by_cases hj : j.val < 64 * (r.val / 64 + 1)
  · rw [if_pos hj, Softmax.exp2_grad, if_pos (by omega)]
    rfl
  · rw [if_neg hj, Softmax.exp2_grad_bot, if_neg (by omega)]
    rfl

include hq hk hg hv hl hdl in
theorem dsDiag (hn : ∀ r < 512, h.n r = b + 64 * (r / 64 + 1)) : Is (k1_pay62 (F := Ideal) dl g l (k1_pay45 v) (scoreA q k)) fun r j => h.ds r (b + j) := by
  intro r j
  rw [bpay62_apply, wDiag h b q k l hq hk hl hn, sum_nt g v h.G _ hg hv, hdl, ← EReal.coe_sub, ← EReal.coe_mul]
  rfl

/-- The gradient of the queries after a block. -/
theorem accBlk (x : Vec Ideal S512x512 .bf16) (hx : Is x fun r j => h.ds r (b + j)) (hk : Is k fun j => h.K (b + j))
    (hacc : Is acc fun r d => ∑ k ∈ Finset.range b, h.ds r k * h.K k d) (r : Fin 512) (d : Fin 128) :
    acc (ix2 r d) + ∑ j : Fin 512, x (ix2 r j) * k (ix2 j d) = ((∑ k ∈ Finset.range (b + 512), h.ds r.val k * h.K k d.val : ℝ) : EReal) := by
  rw [hacc, sum_nn x k _ _ hx hk, ← EReal.coe_add, Finset.sum_range_add]

/-- The gradient of the keys after a block. -/
theorem dkBlk (x : Vec Ideal S512x512 .bf16) (hx : Is x fun r j => h.ds r (b + j)) (hq : Is q h.Q) (p : Vec Ideal S512x128 .f32) (P : ℕ → ℕ → ℝ) (hp : Is p P) :
    Is (k1_pay41 (F := Ideal) q x p) fun j d => P j d + ∑ r ∈ Finset.range 512, h.ds r (b + j) * h.Q r d := by
  intro j d
  rw [bpay41_apply, hp, sum_tn x q _ _ hx hq, ← EReal.coe_add]

/-- The gradient of the values after a block. -/
theorem dvBlk (h' : Hd) (x y : Vec Ideal S512x512 .bf16) (hx : Is x fun r j => h.w r (b + j)) (hy : Is y fun r j => h'.w r (b + j)) (hg : Is g h.G)
    (z : Vec Ideal S512x128 .f32) (hz : Is (k1_pay37 (F := Ideal) k1_pay34 z) h'.G) (p : Vec Ideal S512x128 .f32) (P : ℕ → ℕ → ℝ) (hp : Is p P) :
    Is (k1_pay42 (F := Ideal) g k1_pay34 z x y p) fun j d => P j d + (∑ r ∈ Finset.range 512, h.w r (b + j) * h.G r d + ∑ r ∈ Finset.range 512, h'.w r (b + j) * h'.G r d) := by
  intro j d
  rw [bpay42_apply, hp, sum_tn x g _ _ hx hg, sum_tn y _ _ _ hy hz, ← EReal.coe_add, ← EReal.coe_add]

end Cert.AttnIdeal.Result

end
-- ==== Proof.AttnBwd.lean ====
/-
  The attention gradient's body at a tile of 512 query rows: what the loop over the blocks of keys below the diagonal and
  the diagonal block leave in the gradients of the queries, the keys and the values.
-/
module

public import proofs.«01_k».proof.Proof.AttnFwd
public import proofs.«01_k».proof.Proof.AttnBwdReads

@[expose] public section

set_option maxRecDepth 16384

noncomputable section

namespace Cert.AttnIdeal.Result

open Cert.AttnIdeal Cert.AttnIdeal.Gen Idealize.ShloMosaic Idealize.ShloMosaic.TcCoe Idealize.SL.Sem
open Cert.Softmax (c e2)

/-! Stores of blocks. -/

theorem Is.congr {a b : ℕ} {x : (⟨2, ![a, b]⟩ : Shape).Idx → EReal} {f g : ℕ → ℕ → ℝ} (h : Is x f) (e : ∀ r < a, ∀ d < b, f r d = g r d) : Is x g :=
  fun r d => by rw [h, e _ r.isLt _ d.isLt]

/-- An array of reals after the store of a block of 512 rows and 128 columns. -/
theorem put_is {A B : ℕ} (v : View sig .tc .vmem ⟨2, ![A, B]⟩ .f32) (f : v.ty.Contents (Elt Ideal)) (L : List (View.Piece (Elt Ideal) ⟨2, ![A, B]⟩ .f32)) (D : ℕ → ℕ → ℝ)
    (hD : Is (v.read (Elt Ideal) (v.writes (Elt Ideal) f L)) D) (off : Fin 2 → ℕ) (inb) (y : Vec Ideal S512x128 .f32) (Y : ℕ → ℕ → ℝ) (hy : Is y Y) (b col : ℕ) (h0 : off 0 = b) (h1 : off 1 = col) :
    Is (v.read (Elt Ideal) (v.writes (Elt Ideal) f (⟨Rect.unit (s := ⟨2, ![A, B]⟩) off S512x128.size inb, y⟩ :: L)))
      fun k d => if b ≤ k ∧ k < b + 512 ∧ col ≤ d ∧ d < col + 128 then Y (k - b) (d - col) else D k d := by
  intro k d
  show _ = ((if _ then _ else _ : ℝ) : EReal)
  have hoff : off = ![b, col] := funext fun a => by
    match a with
    | ⟨0, _⟩ => exact h0
    | ⟨1, _⟩ => exact h1
  by_cases h : b ≤ k.val ∧ k.val < b + 512 ∧ col ≤ d.val ∧ d.val < col + 128
  · rw [if_pos h]
    refine (View.read_writes_cons_unit_of_mem v f inb y L (ix2 k d) (ix2 (⟨k.val - b, by omega⟩ : Fin 512) (⟨d.val - col, by omega⟩ : Fin 128)) hoff fun a => ?_).trans (hy _ _)
    match a with
    | ⟨0, _⟩ => show k.val = b + (k.val - b); omega
    | ⟨1, _⟩ => show d.val = col + (d.val - col); omega
  · rw [if_neg h]
    by_cases hk : k.val < b ∨ b + 512 ≤ k.val
    · exact (View.read_writes_cons_unit_of_not_mem v f inb y L (ix2 k d) hoff 0 hk).trans (hD k d)
    · exact (View.read_writes_cons_unit_of_not_mem v f inb y L (ix2 k d) hoff 1 (show d.val < col ∨ col + 128 ≤ d.val by omega)).trans (hD k d)

/-- What a tile's gradients are computed from: queries, keys, values, outputs and cotangents of a pair of heads, 128 lanes
of queries and keys and 64 of values for either, and the rows' log-sums. -/
structure Tile where
  (Q K V O G : ℕ → ℕ → ℝ)
  (L : ℕ → ℕ → ℝ)
  (n : ℕ → ℕ)

/-- The first head (`h = 0`) or the second. -/
def Tile.hd (T : Tile) (h : ℕ) : Hd where
  Q r d := T.Q r (128 * h + d)
  K k d := T.K k (128 * h + d)
  G r d := if d / 64 = h then T.G r d else 0
  V := T.V
  O := T.O
  L := T.L h
  n := T.n

/-- What a tile adds to the gradients of the keys and of the values. -/
def Tile.dk (T : Tile) (k d : ℕ) : ℝ := ∑ r ∈ Finset.range 512, (T.hd (d / 128)).ds r k * T.Q r d
def Tile.dv (T : Tile) (k d : ℕ) : ℝ := ∑ r ∈ Finset.range 512, (T.hd 0).w r k * (T.hd 0).G r d + ∑ r ∈ Finset.range 512, (T.hd 1).w r k * (T.hd 1).G r d

/-! The loops' trip counts and the blocks' corners. -/

theorem btrips1 (i : grid1.Coords) : (k1_t1_loop i).trips = (i 1).val :=
  (by decide +kernel : ∀ x : Fin 8, Scf.trips 0#32 (Scalar.addi 0#32 (Scalar.muli (Scalar.divsi (Scalar.subi (BitVec.ofNat 32 x.val) 0#32) 1#32) 1#32)) 1#32 = x.val) (i 1)
theorem btrips2 (i : grid1.Coords) : (k1_t2_loop i).trips = 0 :=
  (by decide +kernel : ∀ x : Fin 8, Scf.trips (Scalar.addi 0#32 (Scalar.muli (Scalar.divsi (Scalar.subi (BitVec.ofNat 32 x.val) 0#32) 1#32) 1#32))
    (Scalar.addi 0#32 (Scalar.subi (BitVec.ofNat 32 x.val) 0#32)) 1#32 = 0) (i 1)
theorem bdiag_eq (k : ℕ) (h : k < 8) : (Scalar.indexCast (Scalar.muli (BitVec.ofNat 32 k) 512#32)).toNat = 512 * k :=
  (by decide +kernel : ∀ k : Fin 8, (Scalar.indexCast (Scalar.muli (BitVec.ofNat 32 k.val) 512#32)).toNat = 512 * k.val) ⟨k, h⟩

section Body

variable (cc : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x2x512x1 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x128 .f32) (harg10 : arg10.IsWhole)
    (x0 : Vec Ideal S512x256 .bf16) (x1 : Vec Ideal S4096x256 .bf16) (x2 : Vec Ideal S4096x128 .bf16) (x3 x4 : Vec Ideal S512x128 .f32) (x5 : Vec Ideal S1x2x512x1 .f32)
    (G9 : BufTy.Contents (Elt Ideal) arg9.view.ty) (G10 : BufTy.Contents (Elt Ideal) arg10.view.ty)

/-- The two heads' log-sums. -/
def lA : Vec Ideal S1x1x512x1 .f32 := View.ld x5 (Rect.unit ![0, 0, 0, 0] S1x1x512x1.size inb_S1x2x512x1_S1x1x512x1_0_0_0_0)
def lB : Vec Ideal S1x1x512x1 .f32 := View.ld x5 (Rect.unit ![0, 1, 0, 0] S1x1x512x1.size inb_S1x2x512x1_S1x1x512x1_0_1_0_0)

/-- What a trip of the loop leaves, from the gradients `a` of the two heads' queries and the contents `f9` and `f10` of the
gradients of the keys and of the values. -/
theorem btripR_eq (k : Fin (k1_t1_loop i).trips) (a : Vec Ideal S512x128 .f32 × Vec Ideal S512x128 .f32) (f9 : BufTy.Contents (Elt Ideal) arg9.view.ty) (f10 : BufTy.Contents (Elt Ideal) arg10.view.ty) :
    tripR_k1_t1 Variants.none cc none i arg2 harg2 arg3 harg3 arg4 harg4 arg5 harg5 arg6 harg6 arg7 harg7 arg8 harg8 arg9 harg9 arg10 harg10
      (BitVec.ofNat 32 (i 1).val) (k1_pay28 (F := Ideal) (qA x0)) (k1_pay30 (F := Ideal) x4 x3) (k1_pay31 (F := Ideal) x4) (k1_pay32 (F := Ideal) (lA x5)) (k1_pay33 (F := Ideal) (qB x0)) k1_pay34 x4 x3 (lB x5)
      (harg3.unread x1) (harg4.unread x2) k a f9 f10
    = (k1_pay11 (F := Ideal) (k1_pay28 (F := Ideal) (qA x0)) (k1_pay30 (F := Ideal) x4 x3) (k1_pay31 (F := Ideal) x4) (k1_pay32 (F := Ideal) (lA x5)) a.1 (View.ld x2 (Rect.unit (k1_off1 i k) S512x128.size (k1_off1_inb i k))) (View.ld x1 (Rect.unit (k1_off2 i k) S512x128.size (k1_off2_inb i k))),
       k1_pay11 (F := Ideal) (k1_pay33 (F := Ideal) (qB x0)) (k1_pay36 (F := Ideal) k1_pay34 x4 x3) (k1_pay37 (F := Ideal) k1_pay34 x4) (k1_pay38 (F := Ideal) (lB x5)) a.2 (View.ld x2 (Rect.unit (k1_off1 i k) S512x128.size (k1_off1_inb i k))) (View.ld x1 (Rect.unit (k1_off3 i k) S512x128.size (k1_off3_inb i k)))) := by
  unfold tripR_k1_t1 trip_k1_t1; dsimp only; sl_unfold_words
  simp only [View.readAt_eq_ld, harg3.read_unread, harg4.read_unread]
  rfl

/-- A block's store into the first head's columns of the gradient of the keys. -/
abbrev pieceA (k : Fin (k1_t1_loop i).trips) (y : Vec Ideal S4096x256 .f32) : View.Piece (Elt Ideal) S4096x256 .f32 :=
  ⟨Rect.unit (k1_off2 i k) S512x128.size (k1_off2_inb i k), k1_pay41 (F := Ideal) (k1_pay28 (F := Ideal) (qA x0))
    (k1_pay7 (F := Ideal) (k1_pay28 (F := Ideal) (qA x0)) (k1_pay30 (F := Ideal) x4 x3) (k1_pay31 (F := Ideal) x4) (k1_pay32 (F := Ideal) (lA x5)) (View.ld x2 (Rect.unit (k1_off1 i k) S512x128.size (k1_off1_inb i k))) (View.ld x1 (Rect.unit (k1_off2 i k) S512x128.size (k1_off2_inb i k))))
    (View.ld y (Rect.unit (k1_off2 i k) S512x128.size (k1_off2_inb i k)))⟩
/-- And into the second's. -/
abbrev pieceB (k : Fin (k1_t1_loop i).trips) (y : Vec Ideal S4096x256 .f32) : View.Piece (Elt Ideal) S4096x256 .f32 :=
  ⟨Rect.unit (k1_off3 i k) S512x128.size (k1_off3_inb i k), k1_pay41 (F := Ideal) (k1_pay33 (F := Ideal) (qB x0))
    (k1_pay7 (F := Ideal) (k1_pay33 (F := Ideal) (qB x0)) (k1_pay36 (F := Ideal) k1_pay34 x4 x3) (k1_pay37 (F := Ideal) k1_pay34 x4) (k1_pay38 (F := Ideal) (lB x5)) (View.ld x2 (Rect.unit (k1_off1 i k) S512x128.size (k1_off1_inb i k))) (View.ld x1 (Rect.unit (k1_off3 i k) S512x128.size (k1_off3_inb i k))))
    (View.ld y (Rect.unit (k1_off3 i k) S512x128.size (k1_off3_inb i k)))⟩
/-- A block's store into the gradient of the values. -/
abbrev pieceV (k : Fin (k1_t1_loop i).trips) (y : Vec Ideal S4096x128 .f32) : View.Piece (Elt Ideal) S4096x128 .f32 :=
  ⟨Rect.unit (k1_off1 i k) S512x128.size (k1_off1_inb i k), k1_pay42 (F := Ideal) (k1_pay31 (F := Ideal) x4) k1_pay34 x4
    (k1_pay9 (F := Ideal) (k1_pay28 (F := Ideal) (qA x0)) (k1_pay32 (F := Ideal) (lA x5)) (View.ld x1 (Rect.unit (k1_off2 i k) S512x128.size (k1_off2_inb i k))))
    (k1_pay9 (F := Ideal) (k1_pay33 (F := Ideal) (qB x0)) (k1_pay38 (F := Ideal) (lB x5)) (View.ld x1 (Rect.unit (k1_off3 i k) S512x128.size (k1_off3_inb i k))))
    (View.ld y (Rect.unit (k1_off1 i k) S512x128.size (k1_off1_inb i k)))⟩

theorem btripL_eq (k : Fin (k1_t1_loop i).trips) (a : Vec Ideal S512x128 .f32 × Vec Ideal S512x128 .f32) (f9 : BufTy.Contents (Elt Ideal) arg9.view.ty) (f10 : BufTy.Contents (Elt Ideal) arg10.view.ty) :
    tripL_k1_t1 Variants.none cc none i arg2 harg2 arg3 harg3 arg4 harg4 arg5 harg5 arg6 harg6 arg7 harg7 arg8 harg8 arg9 harg9 arg10 harg10
      (BitVec.ofNat 32 (i 1).val) (k1_pay28 (F := Ideal) (qA x0)) (k1_pay30 (F := Ideal) x4 x3) (k1_pay31 (F := Ideal) x4) (k1_pay32 (F := Ideal) (lA x5)) (k1_pay33 (F := Ideal) (qB x0)) k1_pay34 x4 x3 (lB x5)
      (harg3.unread x1) (harg4.unread x2) k a f9 f10
    = ([pieceB i x0 x1 x2 x3 x4 x5 k (arg9.view.read (Elt Ideal) f9),
        pieceA i x0 x1 x2 x3 x4 x5 k (arg9.view.read (Elt Ideal) f9)],
       [pieceV i x0 x1 x4 x5 k (arg10.view.read (Elt Ideal) f10)]) := by
  unfold tripL_k1_t1 trip_k1_t1; dsimp only; sl_unfold_words
  simp only [View.readAt_eq_ld, harg3.read_unread, harg4.read_unread]
  rfl

/-- What the loop carries before trip `n`: the gradients of the two heads' queries, and the stores so far. -/
def bloop (n : ℕ) := st_k1_t1 Variants.none cc none i arg2 harg2 arg3 harg3 arg4 harg4 arg5 harg5 arg6 harg6 arg7 harg7 arg8 harg8 arg9 harg9 arg10 harg10
  (BitVec.ofNat 32 (i 1).val) (k1_pay28 (F := Ideal) (qA x0)) (k1_pay30 (F := Ideal) x4 x3) (k1_pay31 (F := Ideal) x4) (k1_pay32 (F := Ideal) (lA x5)) (k1_pay33 (F := Ideal) (qB x0)) k1_pay34 x4 x3 (lB x5)
  (harg3.unread x1) (harg4.unread x2) G9 G10 (k1_pay39 (F := Ideal), k1_pay40 (F := Ideal)) n

theorem bloop_zero : bloop cc i arg2 harg2 arg3 harg3 arg4 harg4 arg5 harg5 arg6 harg6 arg7 harg7 arg8 harg8 arg9 harg9 arg10 harg10 x0 x1 x2 x3 x4 x5 G9 G10 0 = ((k1_pay39 (F := Ideal), k1_pay40 (F := Ideal)), [], []) := rfl

theorem bloop_succ (k : Fin (k1_t1_loop i).trips) : bloop cc i arg2 harg2 arg3 harg3 arg4 harg4 arg5 harg5 arg6 harg6 arg7 harg7 arg8 harg8 arg9 harg9 arg10 harg10 x0 x1 x2 x3 x4 x5 G9 G10 (k.val + 1)
    = ((k1_pay11 (F := Ideal) (k1_pay28 (F := Ideal) (qA x0)) (k1_pay30 (F := Ideal) x4 x3) (k1_pay31 (F := Ideal) x4) (k1_pay32 (F := Ideal) (lA x5)) (bloop cc i arg2 harg2 arg3 harg3 arg4 harg4 arg5 harg5 arg6 harg6 arg7 harg7 arg8 harg8 arg9 harg9 arg10 harg10 x0 x1 x2 x3 x4 x5 G9 G10 k.val).1.1 (View.ld x2 (Rect.unit (k1_off1 i k) S512x128.size (k1_off1_inb i k))) (View.ld x1 (Rect.unit (k1_off2 i k) S512x128.size (k1_off2_inb i k))),
       k1_pay11 (F := Ideal) (k1_pay33 (F := Ideal) (qB x0)) (k1_pay36 (F := Ideal) k1_pay34 x4 x3) (k1_pay37 (F := Ideal) k1_pay34 x4) (k1_pay38 (F := Ideal) (lB x5)) (bloop cc i arg2 harg2 arg3 harg3 arg4 harg4 arg5 harg5 arg6 harg6 arg7 harg7 arg8 harg8 arg9 harg9 arg10 harg10 x0 x1 x2 x3 x4 x5 G9 G10 k.val).1.2 (View.ld x2 (Rect.unit (k1_off1 i k) S512x128.size (k1_off1_inb i k))) (View.ld x1 (Rect.unit (k1_off3 i k) S512x128.size (k1_off3_inb i k)))),
       pieceB i x0 x1 x2 x3 x4 x5 k (arg9.view.read (Elt Ideal) (arg9.view.writes (Elt Ideal) G9 (bloop cc i arg2 harg2 arg3 harg3 arg4 harg4 arg5 harg5 arg6 harg6 arg7 harg7 arg8 harg8 arg9 harg9 arg10 harg10 x0 x1 x2 x3 x4 x5 G9 G10 k.val).2.1)) ::
         pieceA i x0 x1 x2 x3 x4 x5 k (arg9.view.read (Elt Ideal) (arg9.view.writes (Elt Ideal) G9 (bloop cc i arg2 harg2 arg3 harg3 arg4 harg4 arg5 harg5 arg6 harg6 arg7 harg7 arg8 harg8 arg9 harg9 arg10 harg10 x0 x1 x2 x3 x4 x5 G9 G10 k.val).2.1)) :: (bloop cc i arg2 harg2 arg3 harg3 arg4 harg4 arg5 harg5 arg6 harg6 arg7 harg7 arg8 harg8 arg9 harg9 arg10 harg10 x0 x1 x2 x3 x4 x5 G9 G10 k.val).2.1,
       pieceV i x0 x1 x4 x5 k (arg10.view.read (Elt Ideal) (arg10.view.writes (Elt Ideal) G10 (bloop cc i arg2 harg2 arg3 harg3 arg4 harg4 arg5 harg5 arg6 harg6 arg7 harg7 arg8 harg8 arg9 harg9 arg10 harg10 x0 x1 x2 x3 x4 x5 G9 G10 k.val).2.2)) :: (bloop cc i arg2 harg2 arg3 harg3 arg4 harg4 arg5 harg5 arg6 harg6 arg7 harg7 arg8 harg8 arg9 harg9 arg10 harg10 x0 x1 x2 x3 x4 x5 G9 G10 k.val).2.2) := by
  refine (st_k1_t1_succ ..).trans ?_
  rw [btripR_eq, btripL_eq]
  rfl

/-- The tile's blocks are the reals `T`. -/
structure Reads (T : Tile) : Prop where
  q : Is x0 T.Q
  k : Is x1 T.K
  v : Is x2 T.V
  o : Is x3 T.O
  g : Is x4 T.G
  l : ∀ (h : Fin 2) (r : Fin 512), x5 (ix4 0 h r 0) = ((T.L h.val r.val : ℝ) : EReal)
  n : ∀ r < 512, T.n r = 512 * (i 1).val + 64 * (r / 64 + 1)

section
variable {i x0 x1 x2 x3 x4 x5} {T : Tile} (R : Reads i x0 x1 x2 x3 x4 x5 T)
include R

theorem bqA_is : Is (k1_pay28 (F := Ideal) (qA x0)) (T.hd 0).Q := by
  intro r d
  refine (bpay28_apply _ r d).trans ((ld_is x0 T.Q R.q ![0, 0] _ 0 0 rfl rfl (by norm_num) (by norm_num) r d).trans ?_)
  simp only [Nat.zero_add, Tile.hd, Nat.mul_zero]
theorem bqB_is : Is (k1_pay33 (F := Ideal) (qB x0)) (T.hd 1).Q := by
  intro r d
  refine (bpay33_apply _ r d).trans ((ld_is x0 T.Q R.q ![0, 128] _ 0 128 rfl rfl (by norm_num) (by norm_num) r d).trans ?_)
  simp only [Nat.zero_add, Tile.hd, Nat.mul_one]
theorem bgA_is : Is (k1_pay31 (F := Ideal) x4) (T.hd 0).G := by
  intro r d
  rw [bpay31_apply, R.g]
  show _ = ((if d.val / 64 = 0 then T.G r.val d.val else 0 : ℝ) : EReal)
  by_cases h : d.val < 64
  · rw [if_pos h, if_pos (by omega)]
  · rw [if_neg h, if_neg (by omega)]; rfl
theorem bgB_is : Is (k1_pay37 (F := Ideal) k1_pay34 x4) (T.hd 1).G := by
  intro r d
  have := d.isLt
  rw [bpay37_apply, R.g]
  show _ = ((if d.val / 64 = 1 then T.G r.val d.val else 0 : ℝ) : EReal)
  by_cases h : 64 ≤ d.val
  · rw [if_pos h, if_pos (by omega)]
  · rw [if_neg h, if_neg (by omega)]; rfl
theorem bdA_is : IsCol (k1_pay30 (F := Ideal) x4 x3) (T.hd 0).dl := by
  intro r
  have hg : Is (k1_pay29 (F := Ideal) x4) (T.hd 0).G := fun r d => by rw [← bgA_is R r d, bpay31_apply, bpay29_apply]
  rw [bpay30_apply, sum_nt _ x3 _ T.O hg R.o]
  rfl
theorem bdB_is : IsCol (k1_pay36 (F := Ideal) k1_pay34 x4 x3) (T.hd 1).dl := by
  intro r
  have hg : Is (k1_pay35 (F := Ideal) k1_pay34 x4) (T.hd 1).G := fun r d => by rw [← bgB_is R r d, bpay37_apply, bpay35_apply]
  rw [bpay36_apply, sum_nt _ x3 _ T.O hg R.o]
  rfl
theorem blA_is : IsCol (k1_pay32 (F := Ideal) (lA x5)) fun r => (T.hd 0).L r * e2 := by
  intro r
  rw [bpay32_apply, EReal.coe_mul]
  refine congrArg (· * _) (Eq.trans ?_ (R.l 0 r))
  unfold lA View.ld
  show x5 _ = x5 _
  congr 1
  funext a
  apply Fin.ext
  fin_cases a <;> simp [ix4]
theorem blB_is : IsCol (k1_pay38 (F := Ideal) (lB x5)) fun r => (T.hd 1).L r * e2 := by
  intro r
  rw [bpay38_apply, EReal.coe_mul]
  refine congrArg (· * _) (Eq.trans ?_ (R.l 1 r))
  unfold lB View.ld
  show x5 _ = x5 _
  congr 1
  funext a
  apply Fin.ext
  fin_cases a <;> simp [ix4]

/-- The keys' and the values' block from row `b` on. -/
theorem bkA_is (off : Fin 2 → ℕ) (inb) (b : ℕ) (h0 : off 0 = b) (h1 : off 1 = 0) (hb : b + 512 ≤ 4096) :
    Is (View.ld x1 (Rect.unit (s := S4096x256) off S512x128.size inb)) fun j => (T.hd 0).K (b + j) :=
  (ld_is (a' := 512) (b' := 128) x1 T.K R.k off inb b 0 h0 h1 hb (by norm_num)).congr fun r _ d _ => by simp only [Tile.hd, Nat.mul_zero]
theorem bkB_is (off : Fin 2 → ℕ) (inb) (b : ℕ) (h0 : off 0 = b) (h1 : off 1 = 128) (hb : b + 512 ≤ 4096) :
    Is (View.ld x1 (Rect.unit (s := S4096x256) off S512x128.size inb)) fun j => (T.hd 1).K (b + j) :=
  (ld_is (a' := 512) (b' := 128) x1 T.K R.k off inb b 128 h0 h1 hb (by norm_num)).congr fun r _ d _ => by simp only [Tile.hd, Nat.mul_one]
theorem bv_is (off : Fin 2 → ℕ) (inb) (b : ℕ) (h0 : off 0 = b) (h1 : off 1 = 0) (hb : b + 512 ≤ 4096) (h : ℕ) :
    Is (View.ld x2 (Rect.unit (s := S4096x128) off S512x128.size inb)) fun j => (T.hd h).V (b + j) :=
  (ld_is (a' := 512) (b' := 128) x2 T.V R.v off inb b 0 h0 h1 hb (by norm_num)).congr fun r _ d _ => by simp only [Tile.hd, Nat.zero_add]

end

/-- The two stores of a block into the gradient of the keys. -/
theorem dk_store (T : Tile) (v : View sig .tc .vmem S4096x256 .f32) (f : v.ty.Contents (Elt Ideal)) (L : List (View.Piece (Elt Ideal) S4096x256 .f32)) (M : ℕ → ℕ → ℝ) (hM : Is (v.read (Elt Ideal) (v.writes (Elt Ideal) f L)) M)
    (offA offB : Fin 2 → ℕ) (inA) (inB) (yA yB : Vec Ideal S512x128 .f32) (b : ℕ) (hA0 : offA 0 = b) (hA1 : offA 1 = 0) (hB0 : offB 0 = b) (hB1 : offB 1 = 128)
    (hyA : Is yA fun j d => M (b + j) d + ∑ r ∈ Finset.range 512, (T.hd 0).ds r (b + j) * (T.hd 0).Q r d)
    (hyB : Is yB fun j d => M (b + j) (128 + d) + ∑ r ∈ Finset.range 512, (T.hd 1).ds r (b + j) * (T.hd 1).Q r d) :
    Is (v.read (Elt Ideal) (v.writes (Elt Ideal) f (⟨Rect.unit (s := S4096x256) offB S512x128.size inB, yB⟩ :: ⟨Rect.unit (s := S4096x256) offA S512x128.size inA, yA⟩ :: L)))
      fun k d => M k d + if b ≤ k ∧ k < b + 512 then T.dk k d else 0 := by
  refine (put_is v f _ _ (put_is v f L M hM offA inA yA _ hyA b 0 hA0 hA1) offB inB yB _ hyB b 128 hB0 hB1).congr fun k _ d hd => ?_
  by_cases hk : b ≤ k ∧ k < b + 512
  · rw [if_pos hk]
    by_cases hd' : d < 128
    · rw [if_neg (by omega), if_pos (by omega), Nat.sub_zero, show b + (k - b) = k by omega]
      unfold Tile.dk Tile.hd
      simp only [show d / 128 = 0 by omega, Nat.mul_zero, Nat.zero_add]
    · rw [if_pos (by omega), show b + (k - b) = k by omega, show 128 + (d - 128) = d by omega]
      unfold Tile.dk Tile.hd
      simp only [show d / 128 = 1 by omega, Nat.mul_one, show 128 + (d - 128) = d by omega]
  · rw [if_neg hk, if_neg (by omega), if_neg (by omega), add_zero]

/-- The store of a block into the gradient of the values. -/
theorem dv_store (T : Tile) (v : View sig .tc .vmem S4096x128 .f32) (f : v.ty.Contents (Elt Ideal)) (L : List (View.Piece (Elt Ideal) S4096x128 .f32)) (M : ℕ → ℕ → ℝ) (hM : Is (v.read (Elt Ideal) (v.writes (Elt Ideal) f L)) M)
    (off : Fin 2 → ℕ) (inb) (y : Vec Ideal S512x128 .f32) (b : ℕ) (h0 : off 0 = b) (h1 : off 1 = 0)
    (hy : Is y fun j d => M (b + j) d + (∑ r ∈ Finset.range 512, (T.hd 0).w r (b + j) * (T.hd 0).G r d + ∑ r ∈ Finset.range 512, (T.hd 1).w r (b + j) * (T.hd 1).G r d)) :
    Is (v.read (Elt Ideal) (v.writes (Elt Ideal) f (⟨Rect.unit (s := S4096x128) off S512x128.size inb, y⟩ :: L)))
      fun k d => M k d + if b ≤ k ∧ k < b + 512 then T.dv k d else 0 := by
  refine (put_is v f L M hM off inb y _ hy b 0 h0 h1).congr fun k _ d hd => ?_
  by_cases hk : b ≤ k ∧ k < b + 512
  · rw [if_pos hk, if_pos (by omega), Nat.sub_zero, show b + (k - b) = k by omega]
    rfl
  · rw [if_neg hk, if_neg (by omega), add_zero]

theorem upto (b k : ℕ) (x : ℝ) : (if k < b then x else 0) + (if b ≤ k ∧ k < b + 512 then x else 0) = if k < b + 512 then x else 0 := by
  by_cases h1 : k < b
  · rw [if_pos h1, if_neg (by omega), if_pos (by omega), add_zero]
  · by_cases h2 : k < b + 512
    · rw [if_neg h1, if_pos (by omega), if_pos h2, zero_add]
    · rw [if_neg h1, if_neg (by omega), if_neg h2, zero_add]

/-- What the loop has computed after `n` blocks of keys. -/
theorem bloop_is (T : Tile) (R : Reads i x0 x1 x2 x3 x4 x5 T) (D9 D10 : ℕ → ℕ → ℝ) (h9 : Is (arg9.view.read (Elt Ideal) G9) D9) (h10 : Is (arg10.view.read (Elt Ideal) G10) D10) (n : ℕ) : n ≤ (i 1).val →
    Is (bloop cc i arg2 harg2 arg3 harg3 arg4 harg4 arg5 harg5 arg6 harg6 arg7 harg7 arg8 harg8 arg9 harg9 arg10 harg10 x0 x1 x2 x3 x4 x5 G9 G10 n).1.1 (fun r d => ∑ k ∈ Finset.range (512 * n), (T.hd 0).ds r k * (T.hd 0).K k d)
    ∧ Is (bloop cc i arg2 harg2 arg3 harg3 arg4 harg4 arg5 harg5 arg6 harg6 arg7 harg7 arg8 harg8 arg9 harg9 arg10 harg10 x0 x1 x2 x3 x4 x5 G9 G10 n).1.2 (fun r d => ∑ k ∈ Finset.range (512 * n), (T.hd 1).ds r k * (T.hd 1).K k d)
    ∧ Is (arg9.view.read (Elt Ideal) (arg9.view.writes (Elt Ideal) G9 (bloop cc i arg2 harg2 arg3 harg3 arg4 harg4 arg5 harg5 arg6 harg6 arg7 harg7 arg8 harg8 arg9 harg9 arg10 harg10 x0 x1 x2 x3 x4 x5 G9 G10 n).2.1)) (fun k d => D9 k d + if k < 512 * n then T.dk k d else 0)
    ∧ Is (arg10.view.read (Elt Ideal) (arg10.view.writes (Elt Ideal) G10 (bloop cc i arg2 harg2 arg3 harg3 arg4 harg4 arg5 harg5 arg6 harg6 arg7 harg7 arg8 harg8 arg9 harg9 arg10 harg10 x0 x1 x2 x3 x4 x5 G9 G10 n).2.2)) (fun k d => D10 k d + if k < 512 * n then T.dv k d else 0) := by
  have hi : (i 1).val < 8 := (i 1).isLt
  induction n with
  | zero =>
    intro _
    rw [bloop_zero]
    refine ⟨fun r d => ?_, fun r d => ?_, h9.congr fun k _ d _ => by simp, h10.congr fun k _ d _ => by simp⟩
    · show k1_pay39 (F := Ideal) (ix2 r d) = _
      unfold k1_pay39; pointwise; simp
    · show k1_pay40 (F := Ideal) (ix2 r d) = _
      unfold k1_pay40; pointwise; simp
  | succ n ih =>
    intro hn
    obtain ⟨ha, hb, hk, hv⟩ := ih (by omega)
    have ht : n < (k1_t1_loop i).trips := by rw [btrips1]; omega
    rw [show n + 1 = (⟨n, ht⟩ : Fin (k1_t1_loop i).trips).val + 1 from rfl, bloop_succ]
    dsimp only
    generalize bloop cc i arg2 harg2 arg3 harg3 arg4 harg4 arg5 harg5 arg6 harg6 arg7 harg7 arg8 harg8 arg9 harg9 arg10 harg10 x0 x1 x2 x3 x4 x5 G9 G10 n = s at ha hb hk hv
    have hsee : ∀ h, ∀ r < 512, 512 * n + 512 ≤ (T.hd h).n r := fun h r hr => by
      show _ ≤ T.n r
      rw [R.n r hr]; omega
    have e1 := block_eq n (by omega)
    have kA := bkA_is R (k1_off2 i ⟨n, ht⟩) (k1_off2_inb i ⟨n, ht⟩) (512 * n) e1 rfl (by omega)
    have kB := bkB_is R (k1_off3 i ⟨n, ht⟩) (k1_off3_inb i ⟨n, ht⟩) (512 * n) e1 rfl (by omega)
    have v_ := bv_is R (k1_off1 i ⟨n, ht⟩) (k1_off1_inb i ⟨n, ht⟩) (512 * n) e1 rfl (by omega)
    have wA := wBlk (T.hd 0) (512 * n) _ _ _ (bqA_is R) kA (blA_is R) (hsee 0)
    have wB := wBlk (T.hd 1) (512 * n) _ _ _ (bqB_is R) kB (blB_is R) (hsee 1)
    have sA := dsBlk (T.hd 0) (512 * n) _ _ _ _ _ _ (bqA_is R) kA (bgA_is R) (v_ 0) (blA_is R) (bdA_is R) (hsee 0)
    have sB := dsBlk (T.hd 1) (512 * n) _ _ _ _ _ _ (bqB_is R) kB (bgB_is R) (v_ 1) (blB_is R) (bdB_is R) (hsee 1)
    refine ⟨fun r d => ?_, fun r d => ?_, ?_, ?_⟩
    · rw [bpay11_apply]
      exact accBlk (T.hd 0) (512 * n) _ _ _ sA kA ha r d
    · rw [bpay11_apply]
      exact accBlk (T.hd 1) (512 * n) _ _ _ sB kB hb r d
    · refine (dk_store T arg9.view G9 s.2.1 _ hk (k1_off2 i ⟨n, ht⟩) (k1_off3 i ⟨n, ht⟩) (k1_off2_inb i ⟨n, ht⟩) (k1_off3_inb i ⟨n, ht⟩) _ _ (512 * n) e1 rfl e1 rfl
        (dkBlk (T.hd 0) (512 * n) _ _ sA (bqA_is R) _ _ ((ld_is32 (a' := 512) (b' := 128) _ _ hk _ _ (512 * n) 0 e1 rfl (by omega) (by norm_num)).congr fun _ _ _ _ => by rw [Nat.zero_add]))
        (dkBlk (T.hd 1) (512 * n) _ _ sB (bqB_is R) _ _ (ld_is32 (a' := 512) (b' := 128) _ _ hk _ _ (512 * n) 128 e1 rfl (by omega) (by norm_num)))).congr fun k _ d _ => ?_
      rw [add_assoc, upto]
      rfl
    · refine (dv_store T arg10.view G10 s.2.2 _ hv (k1_off1 i ⟨n, ht⟩) (k1_off1_inb i ⟨n, ht⟩) _ (512 * n) e1 rfl
        (dvBlk (T.hd 0) (512 * n) _ (T.hd 1) _ _ (fun r j => (bpay9_apply _ _ _ r j).trans (wA r j)) (fun r j => (bpay9_apply _ _ _ r j).trans (wB r j)) (bgA_is R) _ (bgB_is R) _ _
          ((ld_is32 (a' := 512) (b' := 128) _ _ hv _ _ (512 * n) 0 e1 rfl (by omega) (by norm_num)).congr fun _ _ _ _ => by rw [Nat.zero_add]))).congr fun k _ d _ => ?_
      rw [add_assoc, upto]
      rfl

end Body

end Cert.AttnIdeal.Result

end
-- ==== Proof.AttnBwdTile.lean ====
/-
  The attention gradient's tile as a whole: what the run of the body leaves in its three outputs, for a pair's first tile
  of queries, a middle one and the last.
-/
module

public import proofs.«01_k».proof.Proof.AttnBwd

@[expose] public section

set_option maxRecDepth 16384

noncomputable section

namespace Cert.AttnIdeal.Result

open Cert.AttnIdeal Cert.AttnIdeal.Gen Idealize.ShloMosaic Idealize.ShloMosaic.TcCoe Idealize.SL.Sem
open Cert.Softmax (c e2)

theorem btrips1' (i : grid1.Coords) : Scf.trips (k1_t1_loop i).lb (k1_t1_loop i).ub (k1_t1_loop i).st = (i 1).val := btrips1 i
theorem btrips2' (i : grid1.Coords) : Scf.trips (k1_t2_loop i).lb (k1_t2_loop i).ub (k1_t2_loop i).st = 0 := btrips2 i

section Body

variable (cc : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x2x512x1 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x128 .f32) (harg10 : arg10.IsWhole)
    (x0 : Vec Ideal S512x256 .bf16) (x1 : Vec Ideal S4096x256 .bf16) (x2 : Vec Ideal S4096x128 .bf16) (x3 x4 : Vec Ideal S512x128 .f32) (x5 : Vec Ideal S1x2x512x1 .f32)
    (G9 : BufTy.Contents (Elt Ideal) arg9.view.ty) (G10 : BufTy.Contents (Elt Ideal) arg10.view.ty)

/-- A loop of no trips leaves what it found. -/
theorem tail_none (w : BitVec 32) (v4 : FVec Ideal S512x128 .bf16) (v21 : FVec Ideal S512x1 .f32) (v22 : FVec Ideal S512x128 .bf16) (v26 : FVec Ideal S512x1 .f32) (v28 : FVec Ideal S512x128 .bf16) (v34 : IVec S1x128 1) (v35 : Vec Ideal S512x128 .f32) (v41 : Vec Ideal S512x128 .f32) (v47 : Vec Ideal S1x1x512x1 .f32) (v57 : BitVec 32) (X_arg3 : BufTy.Contents (Elt Ideal) arg3.view.ty) (X_arg4 : BufTy.Contents (Elt Ideal) arg4.view.ty) (G_arg9 : BufTy.Contents (Elt Ideal) arg9.view.ty) (G_arg10 : BufTy.Contents (Elt Ideal) arg10.view.ty) (init : FVec Ideal S512x128 .f32 × FVec Ideal S512x128 .f32) (n : ℕ) (h : n = 0) :
    st_k1_t2 Variants.none cc none i arg2 harg2 arg3 harg3 arg4 harg4 arg5 harg5 arg6 harg6 arg7 harg7 arg8 harg8 arg9 harg9 arg10 harg10 w v4 v21 v22 v26 v28 v34 v35 v41 v47 v57 X_arg3 X_arg4 G_arg9 G_arg10 init n = (init, [], []) := by
  subst h; rfl

/-! The diagonal block's words: its gradients of the scores, and its weights. -/

def dsA := k1_pay62 (F := Ideal) (k1_pay30 (F := Ideal) x4 x3) (k1_pay31 (F := Ideal) x4) (k1_pay32 (F := Ideal) (lA x5)) (k1_pay45 (View.ld x2 (Rect.unit (k1_off7 i) S512x128.size (k1_off7_inb i))))
  (scoreA (k1_pay28 (F := Ideal) (qA x0)) (View.ld x1 (Rect.unit (k1_off8 i) S512x128.size (k1_off8_inb i))))
def dsB := k1_pay62 (F := Ideal) (k1_pay36 (F := Ideal) k1_pay34 x4 x3) (k1_pay37 (F := Ideal) k1_pay34 x4) (k1_pay38 (F := Ideal) (lB x5)) (k1_pay45 (View.ld x2 (Rect.unit (k1_off7 i) S512x128.size (k1_off7_inb i))))
  (scoreA (k1_pay33 (F := Ideal) (qB x0)) (View.ld x1 (Rect.unit (k1_off9 i) S512x128.size (k1_off9_inb i))))
def wtA := k1_pay64 (F := Ideal) (k1_pay32 (F := Ideal) (lA x5)) (scoreA (k1_pay28 (F := Ideal) (qA x0)) (View.ld x1 (Rect.unit (k1_off8 i) S512x128.size (k1_off8_inb i))))
def wtB := k1_pay64 (F := Ideal) (k1_pay38 (F := Ideal) (lB x5)) (scoreA (k1_pay33 (F := Ideal) (qB x0)) (View.ld x1 (Rect.unit (k1_off9 i) S512x128.size (k1_off9_inb i))))

/-- The stores into the gradient of the keys, the diagonal block's last, after the loop's `L`. -/
def dkA (G9 : BufTy.Contents (Elt Ideal) arg9.view.ty) (L : List (View.Piece (Elt Ideal) S4096x256 .f32)) : List (View.Piece (Elt Ideal) S4096x256 .f32) :=
  ⟨Rect.unit (k1_off8 i) S512x128.size (k1_off8_inb i), k1_pay41 (F := Ideal) (k1_pay28 (F := Ideal) (qA x0)) (dsA i x0 x1 x2 x3 x4 x5) (View.ld (arg9.view.read (Elt Ideal) (arg9.view.writes (Elt Ideal) G9 L)) (Rect.unit (k1_off8 i) S512x128.size (k1_off8_inb i)))⟩ :: L
def dkB (G9 : BufTy.Contents (Elt Ideal) arg9.view.ty) (L : List (View.Piece (Elt Ideal) S4096x256 .f32)) : List (View.Piece (Elt Ideal) S4096x256 .f32) :=
  ⟨Rect.unit (k1_off9 i) S512x128.size (k1_off9_inb i), k1_pay41 (F := Ideal) (k1_pay33 (F := Ideal) (qB x0)) (dsB i x0 x1 x2 x3 x4 x5) (View.ld (arg9.view.read (Elt Ideal) (arg9.view.writes (Elt Ideal) G9 L)) (Rect.unit (k1_off9 i) S512x128.size (k1_off9_inb i)))⟩ :: L
def dkFin (G9 : BufTy.Contents (Elt Ideal) arg9.view.ty) (L : List (View.Piece (Elt Ideal) S4096x256 .f32)) : List (View.Piece (Elt Ideal) S4096x256 .f32) :=
  dkB i arg9 x0 x1 x2 x3 x4 x5 G9 (dkA i arg9 x0 x1 x2 x3 x4 x5 G9 L)
/-- And into the gradient of the values. -/
def dvFin (G10 : BufTy.Contents (Elt Ideal) arg10.view.ty) (L : List (View.Piece (Elt Ideal) S4096x128 .f32)) : List (View.Piece (Elt Ideal) S4096x128 .f32) :=
  ⟨Rect.unit (k1_off7 i) S512x128.size (k1_off7_inb i), k1_pay42 (F := Ideal) (k1_pay31 (F := Ideal) x4) k1_pay34 x4 (wtA i x0 x1 x5) (wtB i x0 x1 x5) (View.ld (arg10.view.read (Elt Ideal) (arg10.view.writes (Elt Ideal) G10 L)) (Rect.unit (k1_off7 i) S512x128.size (k1_off7_inb i)))⟩ :: L
/-- The stores into the gradient of the queries. -/
def dqFin (a : Vec Ideal S512x128 .f32 × Vec Ideal S512x128 .f32) : List (View.Piece (Elt Ideal) S512x256 .f32) :=
  [⟨Rect.unit ![0, 128] S512x128.size inb_S512x256_S512x128_0_128, k1_pay72 (F := Ideal) (k1_pay66 (F := Ideal) (k1_pay36 (F := Ideal) k1_pay34 x4 x3) (k1_pay37 (F := Ideal) k1_pay34 x4) (k1_pay38 (F := Ideal) (lB x5)) a.2
      (k1_pay45 (View.ld x2 (Rect.unit (k1_off7 i) S512x128.size (k1_off7_inb i)))) (k1_pay46 (View.ld x1 (Rect.unit (k1_off9 i) S512x128.size (k1_off9_inb i))))
      (scoreA (k1_pay33 (F := Ideal) (qB x0)) (View.ld x1 (Rect.unit (k1_off9 i) S512x128.size (k1_off9_inb i)))))⟩,
   ⟨Rect.unit ![0, 0] S512x128.size inb_S512x256_S512x128_0_0, k1_pay71 (F := Ideal) (k1_pay66 (F := Ideal) (k1_pay30 (F := Ideal) x4 x3) (k1_pay31 (F := Ideal) x4) (k1_pay32 (F := Ideal) (lA x5)) a.1
      (k1_pay45 (View.ld x2 (Rect.unit (k1_off7 i) S512x128.size (k1_off7_inb i)))) (k1_pay46 (View.ld x1 (Rect.unit (k1_off8 i) S512x128.size (k1_off8_inb i))))
      (scoreA (k1_pay28 (F := Ideal) (qA x0)) (View.ld x1 (Rect.unit (k1_off8 i) S512x128.size (k1_off8_inb i)))))⟩]

/-! The words' names in the run. -/

theorem r14_eq : kernelRun1_B.sl.r_14 cc i arg2 harg2 arg3 harg3 x0 x1 = scoreA (k1_pay28 (F := Ideal) (qA x0)) (View.ld x1 (Rect.unit (k1_off8 i) S512x128.size (k1_off8_inb i))) := by
  unfold kernelRun1_B.sl.r_14 kernelRun1_B.sl.r_13 kernelRun1_B.sl.r kernelRun1_B.sl.v98 kernelRun1_B.sl.v103 kernelRun1_B.sl.v117 kernelRun1_B.sl.v119
  simp only [View.readAt_eq_ld, harg2.read_unread, harg3.read_unread]
  rfl
theorem r16_eq : kernelRun1_B.sl.r_16 cc i arg2 harg2 arg3 harg3 arg4 harg4 arg5 harg5 arg6 harg6 arg7 harg7 x0 x1 x2 x3 x4 x5 = dsA i x0 x1 x2 x3 x4 x5 := by
  unfold kernelRun1_B.sl.r_16
  rw [r14_eq]
  unfold kernelRun1_B.sl.r_1 kernelRun1_B.sl.r_2 kernelRun1_B.sl.r_3 kernelRun1_B.sl.r_10
  simp only [View.readAt_eq_ld, harg2.read_unread, harg3.read_unread, harg4.read_unread, harg5.read_unread, harg6.read_unread, harg7.read_unread, View.ld_unit_zero (S := S512x128) hz]
  rfl
theorem r17_eq : kernelRun1_B.sl.r_17 cc i arg2 harg2 arg3 harg3 arg4 harg4 arg5 harg5 arg6 harg6 arg7 harg7 x0 x1 x2 x3 x4 x5 = dsB i x0 x1 x2 x3 x4 x5 := by
  unfold kernelRun1_B.sl.r_17 kernelRun1_B.sl.r_15 kernelRun1_B.sl.r_12
  rw [bpay63_eq]
  unfold kernelRun1_B.sl.r_5 kernelRun1_B.sl.r_6 kernelRun1_B.sl.r_7 kernelRun1_B.sl.r_4 kernelRun1_B.sl.r_10
  simp only [View.readAt_eq_ld, harg2.read_unread, harg3.read_unread, harg4.read_unread, harg5.read_unread, harg6.read_unread, harg7.read_unread, View.ld_unit_zero (S := S512x128) hz]
  rfl
theorem r18_eq : kernelRun1_B.sl.r_18 cc i arg2 harg2 arg3 harg3 arg7 harg7 x0 x1 x5 = wtA i x0 x1 x5 := by
  unfold kernelRun1_B.sl.r_18
  rw [r14_eq]
  unfold kernelRun1_B.sl.r_3
  simp only [View.readAt_eq_ld, harg2.read_unread, harg3.read_unread, harg7.read_unread]
  rfl
theorem r19_eq : kernelRun1_B.sl.r_19 cc i arg2 harg2 arg3 harg3 arg7 harg7 x0 x1 x5 = wtB i x0 x1 x5 := by
  unfold kernelRun1_B.sl.r_19 kernelRun1_B.sl.r_15 kernelRun1_B.sl.r_12
  rw [bpay65_eq]
  unfold kernelRun1_B.sl.r_7 kernelRun1_B.sl.r_4
  simp only [View.readAt_eq_ld, harg2.read_unread, harg3.read_unread, harg7.read_unread]
  rfl

/-! A middle tile. -/

section
variable (hc0 : ¬cond1_0 i) (hc1 : ¬cond1_1 i) (xo7 : Vec Ideal S4096x256 .f32) (xo8 : Vec Ideal S4096x128 .f32)

theorem outB7_eq : out1_B_7 cc i arg2 harg2 arg3 harg3 arg4 harg4 arg5 harg5 arg6 harg6 arg7 harg7 arg8 harg8 arg9 harg9 arg10 harg10 hc0 hc1 x0 x1 x2 x3 x4 x5 xo7 xo8
    = arg9.view.read (Elt Ideal) (arg9.view.writes (Elt Ideal) (harg9.unread xo7) (dkFin i arg9 x0 x1 x2 x3 x4 x5 (harg9.unread xo7) (bloop cc i arg2 harg2 arg3 harg3 arg4 harg4 arg5 harg5 arg6 harg6 arg7 harg7 arg8 harg8 arg9 harg9 arg10 harg10 x0 x1 x2 x3 x4 x5 (harg9.unread xo7) (harg10.unread xo8) (i 1).val).2.1)) := by
  unfold out1_B_7 kernelRun1_B
  dsimp only
  unfold kernelRun1_B.sl.H7_1 kernelRun1_B.sl.v214
  rw [tail_none (h := btrips2' i), btrips1' i]
  dsimp only
  rw [List.nil_append, r16_eq, r17_eq]
  unfold kernelRun1_B.sl.r kernelRun1_B.sl.r_1 kernelRun1_B.sl.r_2 kernelRun1_B.sl.r_3 kernelRun1_B.sl.r_4
  simp only [View.readAt_eq_ld, harg2.read_unread, harg3.read_unread, harg4.read_unread, harg5.read_unread, harg6.read_unread, harg7.read_unread, View.ld_unit_zero (S := S512x128) hz, bpay68_eq, bpay69_eq]
  unfold dkFin dkB dkA bloop qA qB lA lB
  rfl

theorem outB8_eq : out1_B_8 cc i arg2 harg2 arg3 harg3 arg4 harg4 arg5 harg5 arg6 harg6 arg7 harg7 arg8 harg8 arg9 harg9 arg10 harg10 hc0 hc1 x0 x1 x2 x3 x4 x5 xo7 xo8
    = arg10.view.read (Elt Ideal) (arg10.view.writes (Elt Ideal) (harg10.unread xo8) (dvFin i arg10 x0 x1 x4 x5 (harg10.unread xo8) (bloop cc i arg2 harg2 arg3 harg3 arg4 harg4 arg5 harg5 arg6 harg6 arg7 harg7 arg8 harg8 arg9 harg9 arg10 harg10 x0 x1 x2 x3 x4 x5 (harg9.unread xo7) (harg10.unread xo8) (i 1).val).2.2)) := by
  unfold out1_B_8 kernelRun1_B
  dsimp only
  unfold kernelRun1_B.sl.v230
  rw [tail_none (h := btrips2' i), btrips1' i]
  dsimp only
  rw [List.nil_append, r18_eq, r19_eq]
  unfold kernelRun1_B.sl.r kernelRun1_B.sl.r_1 kernelRun1_B.sl.r_2 kernelRun1_B.sl.r_3 kernelRun1_B.sl.r_4 kernelRun1_B.sl.r_6
  simp only [View.readAt_eq_ld, harg2.read_unread, harg3.read_unread, harg4.read_unread, harg5.read_unread, harg6.read_unread, harg7.read_unread, View.ld_unit_zero (S := S512x128) hz, bpay70_eq]
  unfold dvFin bloop qA qB lA lB
  rfl

theorem outB6_eq : out1_B_6 cc i arg2 harg2 arg3 harg3 arg4 harg4 arg5 harg5 arg6 harg6 arg7 harg7 arg8 harg8 arg9 harg9 arg10 harg10 hc0 hc1 x0 x1 x2 x3 x4 x5 xo7 xo8
    = VO1_6.read (Elt Ideal) (VO1_6.writes (Elt Ideal) VO1_6.junk (dqFin i x0 x1 x2 x3 x4 x5 (bloop cc i arg2 harg2 arg3 harg3 arg4 harg4 arg5 harg5 arg6 harg6 arg7 harg7 arg8 harg8 arg9 harg9 arg10 harg10 x0 x1 x2 x3 x4 x5 (harg9.unread xo7) (harg10.unread xo8) (i 1).val).1)) := by
  unfold out1_B_6 kernelRun1_B
  dsimp only
  unfold kernelRun1_B.sl.r_20 kernelRun1_B.sl.r_21 kernelRun1_B.sl.r_8 kernelRun1_B.sl.r_9
  rw [tail_none (h := btrips2' i), btrips1' i]
  dsimp only
  rw [r14_eq]
  unfold kernelRun1_B.sl.r_10 kernelRun1_B.sl.r_11 kernelRun1_B.sl.r_15 kernelRun1_B.sl.r_12 kernelRun1_B.sl.r_5 kernelRun1_B.sl.r_6 kernelRun1_B.sl.r_7
  rw [bpay67_eq]
  unfold kernelRun1_B.sl.r kernelRun1_B.sl.r_1 kernelRun1_B.sl.r_2 kernelRun1_B.sl.r_3 kernelRun1_B.sl.r_4
  simp only [View.readAt_eq_ld, harg2.read_unread, harg3.read_unread, harg4.read_unread, harg5.read_unread, harg6.read_unread, harg7.read_unread, View.ld_unit_zero (S := S512x128) hz]
  unfold dqFin bloop qA qB lA lB
  rfl

end

/-! The last tile: the gradient of the keys is scaled at the end. -/

theorem r14C_eq : kernelRun1_C.sl.r_14 cc i arg2 harg2 arg3 harg3 x0 x1 = scoreA (k1_pay28 (F := Ideal) (qA x0)) (View.ld x1 (Rect.unit (k1_off8 i) S512x128.size (k1_off8_inb i))) := r14_eq cc i arg2 harg2 arg3 harg3 x0 x1
theorem r16C_eq : kernelRun1_C.sl.r_16 cc i arg2 harg2 arg3 harg3 arg4 harg4 arg5 harg5 arg6 harg6 arg7 harg7 x0 x1 x2 x3 x4 x5 = dsA i x0 x1 x2 x3 x4 x5 := r16_eq cc i arg2 harg2 arg3 harg3 arg4 harg4 arg5 harg5 arg6 harg6 arg7 harg7 x0 x1 x2 x3 x4 x5
theorem r17C_eq : kernelRun1_C.sl.r_17 cc i arg2 harg2 arg3 harg3 arg4 harg4 arg5 harg5 arg6 harg6 arg7 harg7 x0 x1 x2 x3 x4 x5 = dsB i x0 x1 x2 x3 x4 x5 := r17_eq cc i arg2 harg2 arg3 harg3 arg4 harg4 arg5 harg5 arg6 harg6 arg7 harg7 x0 x1 x2 x3 x4 x5
theorem r18C_eq : kernelRun1_C.sl.r_18 cc i arg2 harg2 arg3 harg3 arg7 harg7 x0 x1 x5 = wtA i x0 x1 x5 := r18_eq cc i arg2 harg2 arg3 harg3 arg7 harg7 x0 x1 x5
theorem r19C_eq : kernelRun1_C.sl.r_19 cc i arg2 harg2 arg3 harg3 arg7 harg7 x0 x1 x5 = wtB i x0 x1 x5 := r19_eq cc i arg2 harg2 arg3 harg3 arg7 harg7 x0 x1 x5

section
variable (hc0 : ¬cond1_0 i) (hc1 : cond1_1 i) (xo7 : Vec Ideal S4096x256 .f32) (xo8 : Vec Ideal S4096x128 .f32)

theorem outC6_eq : out1_C_6 cc i arg2 harg2 arg3 harg3 arg4 harg4 arg5 harg5 arg6 harg6 arg7 harg7 arg8 harg8 arg9 harg9 arg10 harg10 hc0 hc1 x0 x1 x2 x3 x4 x5 xo7 xo8
    = VO1_6.read (Elt Ideal) (VO1_6.writes (Elt Ideal) VO1_6.junk (dqFin i x0 x1 x2 x3 x4 x5 (bloop cc i arg2 harg2 arg3 harg3 arg4 harg4 arg5 harg5 arg6 harg6 arg7 harg7 arg8 harg8 arg9 harg9 arg10 harg10 x0 x1 x2 x3 x4 x5 (harg9.unread xo7) (harg10.unread xo8) (i 1).val).1)) := by
  unfold out1_C_6 kernelRun1_C
  dsimp only
  unfold kernelRun1_C.sl.r_20 kernelRun1_C.sl.r_21 kernelRun1_C.sl.r_8 kernelRun1_C.sl.r_9
  rw [tail_none (h := btrips2' i), btrips1' i]
  dsimp only
  rw [r14C_eq]
  unfold kernelRun1_C.sl.r_10 kernelRun1_C.sl.r_11 kernelRun1_C.sl.r_15 kernelRun1_C.sl.r_12 kernelRun1_C.sl.r_5 kernelRun1_C.sl.r_6 kernelRun1_C.sl.r_7
  rw [bpay67_eq]
  unfold kernelRun1_C.sl.r kernelRun1_C.sl.r_1 kernelRun1_C.sl.r_2 kernelRun1_C.sl.r_3 kernelRun1_C.sl.r_4
  simp only [View.readAt_eq_ld, harg2.read_unread, harg3.read_unread, harg4.read_unread, harg5.read_unread, harg6.read_unread, harg7.read_unread, View.ld_unit_zero (S := S512x128) hz]
  unfold dqFin bloop qA qB lA lB
  rfl

theorem outC7_eq : out1_C_7 cc i arg2 harg2 arg3 harg3 arg4 harg4 arg5 harg5 arg6 harg6 arg7 harg7 arg8 harg8 arg9 harg9 arg10 harg10 hc0 hc1 x0 x1 x2 x3 x4 x5 xo7 xo8
    = k1_pay1 (F := Ideal) (arg9.view.read (Elt Ideal) (arg9.view.writes (Elt Ideal) (harg9.unread xo7) (dkFin i arg9 x0 x1 x2 x3 x4 x5 (harg9.unread xo7) (bloop cc i arg2 harg2 arg3 harg3 arg4 harg4 arg5 harg5 arg6 harg6 arg7 harg7 arg8 harg8 arg9 harg9 arg10 harg10 x0 x1 x2 x3 x4 x5 (harg9.unread xo7) (harg10.unread xo8) (i 1).val).2.1))) := by
  unfold out1_C_7 kernelRun1_C
  dsimp only
  funext y
  refine (View.read_writes_cons_unit_of_mem VO1_7 _ _ _ _ _ y rfl (fun a => by fin_cases a <;> simp)).trans (congrFun ?_ y)
  unfold kernelRun1_C.sl.v245 kernelRun1_C.sl.H7_2 kernelRun1_C.sl.H7_1 kernelRun1_C.sl.v214
  rw [tail_none (h := btrips2' i), btrips1' i]
  dsimp only
  rw [List.nil_append, r16C_eq, r17C_eq]
  unfold kernelRun1_C.sl.r kernelRun1_C.sl.r_1 kernelRun1_C.sl.r_2 kernelRun1_C.sl.r_3 kernelRun1_C.sl.r_4
  simp only [View.readAt_eq_ld, harg2.read_unread, harg3.read_unread, harg4.read_unread, harg5.read_unread, harg6.read_unread, harg7.read_unread, View.ld_unit_zero (S := S512x128) hz, View.ld_unit_zero (S := S4096x256) hz, bpay68_eq, bpay69_eq]
  unfold dkFin dkB dkA bloop qA qB lA lB
  rfl

theorem outC8_eq : out1_C_8 cc i arg2 harg2 arg3 harg3 arg4 harg4 arg5 harg5 arg6 harg6 arg7 harg7 arg8 harg8 arg9 harg9 arg10 harg10 hc0 hc1 x0 x1 x2 x3 x4 x5 xo7 xo8
    = arg10.view.read (Elt Ideal) (arg10.view.writes (Elt Ideal) (harg10.unread xo8) (dvFin i arg10 x0 x1 x4 x5 (harg10.unread xo8) (bloop cc i arg2 harg2 arg3 harg3 arg4 harg4 arg5 harg5 arg6 harg6 arg7 harg7 arg8 harg8 arg9 harg9 arg10 harg10 x0 x1 x2 x3 x4 x5 (harg9.unread xo7) (harg10.unread xo8) (i 1).val).2.2)) := by
  unfold out1_C_8 kernelRun1_C
  dsimp only
  unfold kernelRun1_C.sl.v230
  rw [tail_none (h := btrips2' i), btrips1' i]
  dsimp only
  rw [List.nil_append, r18C_eq, r19C_eq]
  unfold kernelRun1_C.sl.r kernelRun1_C.sl.r_1 kernelRun1_C.sl.r_2 kernelRun1_C.sl.r_3 kernelRun1_C.sl.r_4 kernelRun1_C.sl.r_6
  simp only [View.readAt_eq_ld, harg2.read_unread, harg3.read_unread, harg4.read_unread, harg5.read_unread, harg6.read_unread, harg7.read_unread, View.ld_unit_zero (S := S512x128) hz, bpay70_eq]
  unfold dvFin bloop qA qB lA lB
  rfl

end

/-! The first tile: the gradients of the keys and the values start at zero. -/

theorem r14A_eq : kernelRun1_A.sl.r_14 cc i arg2 harg2 arg3 harg3 x0 x1 = scoreA (k1_pay28 (F := Ideal) (qA x0)) (View.ld x1 (Rect.unit (k1_off8 i) S512x128.size (k1_off8_inb i))) := r14_eq cc i arg2 harg2 arg3 harg3 x0 x1
theorem r16A_eq : kernelRun1_A.sl.r_16 cc i arg2 harg2 arg3 harg3 arg4 harg4 arg5 harg5 arg6 harg6 arg7 harg7 x0 x1 x2 x3 x4 x5 = dsA i x0 x1 x2 x3 x4 x5 := r16_eq cc i arg2 harg2 arg3 harg3 arg4 harg4 arg5 harg5 arg6 harg6 arg7 harg7 x0 x1 x2 x3 x4 x5
theorem r17A_eq : kernelRun1_A.sl.r_17 cc i arg2 harg2 arg3 harg3 arg4 harg4 arg5 harg5 arg6 harg6 arg7 harg7 x0 x1 x2 x3 x4 x5 = dsB i x0 x1 x2 x3 x4 x5 := r17_eq cc i arg2 harg2 arg3 harg3 arg4 harg4 arg5 harg5 arg6 harg6 arg7 harg7 x0 x1 x2 x3 x4 x5
theorem r18A_eq : kernelRun1_A.sl.r_18 cc i arg2 harg2 arg3 harg3 arg7 harg7 x0 x1 x5 = wtA i x0 x1 x5 := r18_eq cc i arg2 harg2 arg3 harg3 arg7 harg7 x0 x1 x5
theorem r19A_eq : kernelRun1_A.sl.r_19 cc i arg2 harg2 arg3 harg3 arg7 harg7 x0 x1 x5 = wtB i x0 x1 x5 := r19_eq cc i arg2 harg2 arg3 harg3 arg7 harg7 x0 x1 x5

/-- The stores of zeros. -/
def dkZero : List (View.Piece (Elt Ideal) S4096x256 .f32) := [⟨Rect.unit ![0, 0] S4096x256.size inb_S4096x256_S4096x256_0_0, k1_pay26 (F := Ideal)⟩]
def dvZero : List (View.Piece (Elt Ideal) S4096x128 .f32) := [⟨Rect.unit ![0, 0] S4096x128.size inb_S4096x128_S4096x128_0_0, k1_pay27 (F := Ideal)⟩]
/-- What the two gradients' arrays hold after them. -/
def dk0 : BufTy.Contents (Elt Ideal) arg9.view.ty := arg9.view.writes (Elt Ideal) arg9.view.junk dkZero
def dv0 : BufTy.Contents (Elt Ideal) arg10.view.ty := arg10.view.writes (Elt Ideal) arg10.view.junk dvZero

theorem dkFin_append (L : List (View.Piece (Elt Ideal) S4096x256 .f32)) :
    arg9.view.writes (Elt Ideal) arg9.view.junk (dkFin i arg9 x0 x1 x2 x3 x4 x5 arg9.view.junk (L ++ dkZero)) = arg9.view.writes (Elt Ideal) (dk0 arg9) (dkFin i arg9 x0 x1 x2 x3 x4 x5 (dk0 arg9) L) := by
  unfold dkFin dkB dkA dk0
  simp only [View.writes_cons, View.writes_append]
theorem dvFin_append (L : List (View.Piece (Elt Ideal) S4096x128 .f32)) :
    arg10.view.writes (Elt Ideal) arg10.view.junk (dvFin i arg10 x0 x1 x4 x5 arg10.view.junk (L ++ dvZero)) = arg10.view.writes (Elt Ideal) (dv0 arg10) (dvFin i arg10 x0 x1 x4 x5 (dv0 arg10) L) := by
  unfold dvFin dv0
  simp only [View.writes_cons, View.writes_append]

section
variable (hc0 : cond1_0 i) (hc1 : ¬cond1_1 i)

theorem outA6_eq : out1_A_6 cc i arg2 harg2 arg3 harg3 arg4 harg4 arg5 harg5 arg6 harg6 arg7 harg7 arg8 harg8 arg9 harg9 arg10 harg10 hc0 hc1 x0 x1 x2 x3 x4 x5
    = VO1_6.read (Elt Ideal) (VO1_6.writes (Elt Ideal) VO1_6.junk (dqFin i x0 x1 x2 x3 x4 x5 (bloop cc i arg2 harg2 arg3 harg3 arg4 harg4 arg5 harg5 arg6 harg6 arg7 harg7 arg8 harg8 arg9 harg9 arg10 harg10 x0 x1 x2 x3 x4 x5 (dk0 arg9) (dv0 arg10) (i 1).val).1)) := by
  unfold out1_A_6 kernelRun1_A
  dsimp only
  unfold kernelRun1_A.sl.r_20 kernelRun1_A.sl.r_21 kernelRun1_A.sl.r_8 kernelRun1_A.sl.r_9
  rw [tail_none (h := btrips2' i), btrips1' i]
  dsimp only
  rw [r14A_eq]
  unfold kernelRun1_A.sl.r_10 kernelRun1_A.sl.r_11 kernelRun1_A.sl.r_15 kernelRun1_A.sl.r_12 kernelRun1_A.sl.r_5 kernelRun1_A.sl.r_6 kernelRun1_A.sl.r_7
  rw [bpay67_eq]
  unfold kernelRun1_A.sl.r kernelRun1_A.sl.r_1 kernelRun1_A.sl.r_2 kernelRun1_A.sl.r_3 kernelRun1_A.sl.r_4
  simp only [View.readAt_eq_ld, harg2.read_unread, harg3.read_unread, harg4.read_unread, harg5.read_unread, harg6.read_unread, harg7.read_unread, View.ld_unit_zero (S := S512x128) hz]
  unfold dqFin bloop qA qB lA lB
  rfl

theorem outA7_eq : out1_A_7 cc i arg2 harg2 arg3 harg3 arg4 harg4 arg5 harg5 arg6 harg6 arg7 harg7 arg8 harg8 arg9 harg9 arg10 harg10 hc0 hc1 x0 x1 x2 x3 x4 x5
    = arg9.view.read (Elt Ideal) (arg9.view.writes (Elt Ideal) (dk0 arg9) (dkFin i arg9 x0 x1 x2 x3 x4 x5 (dk0 arg9) (bloop cc i arg2 harg2 arg3 harg3 arg4 harg4 arg5 harg5 arg6 harg6 arg7 harg7 arg8 harg8 arg9 harg9 arg10 harg10 x0 x1 x2 x3 x4 x5 (dk0 arg9) (dv0 arg10) (i 1).val).2.1)) := by
  rw [← dkFin_append]
  unfold out1_A_7
  rw [View.read_writes_eq_canon _ _ _ (cover1_A_7 cc i arg2 harg2 arg3 harg3 arg4 harg4 arg5 harg5 arg6 harg6 arg7 harg7 arg8 harg8 arg9 harg9 arg10 harg10 hc0 hc1 x0 x1 x2 x3 x4 x5), ← View.read_writes_eq_canon arg9.view arg9.view.junk _ (cover1_A_7 cc i arg2 harg2 arg3 harg3 arg4 harg4 arg5 harg5 arg6 harg6 arg7 harg7 arg8 harg8 arg9 harg9 arg10 harg10 hc0 hc1 x0 x1 x2 x3 x4 x5)]
  unfold kernelRun1_A
  dsimp only
  unfold kernelRun1_A.sl.H7_1_1 kernelRun1_A.sl.v214
  rw [tail_none (h := btrips2' i), btrips1' i]
  dsimp only
  rw [List.nil_append, r16A_eq, r17A_eq]
  unfold kernelRun1_A.sl.r kernelRun1_A.sl.r_1 kernelRun1_A.sl.r_2 kernelRun1_A.sl.r_3 kernelRun1_A.sl.r_4
  simp only [View.readAt_eq_ld, harg2.read_unread, harg3.read_unread, harg4.read_unread, harg5.read_unread, harg6.read_unread, harg7.read_unread, View.ld_unit_zero (S := S512x128) hz, bpay68_eq, bpay69_eq]
  unfold dkFin dkB dkA bloop qA qB lA lB
  rfl

theorem outA8_eq : out1_A_8 cc i arg2 harg2 arg3 harg3 arg4 harg4 arg5 harg5 arg6 harg6 arg7 harg7 arg8 harg8 arg9 harg9 arg10 harg10 hc0 hc1 x0 x1 x2 x3 x4 x5
    = arg10.view.read (Elt Ideal) (arg10.view.writes (Elt Ideal) (dv0 arg10) (dvFin i arg10 x0 x1 x4 x5 (dv0 arg10) (bloop cc i arg2 harg2 arg3 harg3 arg4 harg4 arg5 harg5 arg6 harg6 arg7 harg7 arg8 harg8 arg9 harg9 arg10 harg10 x0 x1 x2 x3 x4 x5 (dk0 arg9) (dv0 arg10) (i 1).val).2.2)) := by
  rw [← dvFin_append]
  unfold out1_A_8
  rw [View.read_writes_eq_canon _ _ _ (cover1_A_8 cc i arg2 harg2 arg3 harg3 arg4 harg4 arg5 harg5 arg6 harg6 arg7 harg7 arg8 harg8 arg9 harg9 arg10 harg10 hc0 hc1 x0 x1 x2 x3 x4 x5), ← View.read_writes_eq_canon arg10.view arg10.view.junk _ (cover1_A_8 cc i arg2 harg2 arg3 harg3 arg4 harg4 arg5 harg5 arg6 harg6 arg7 harg7 arg8 harg8 arg9 harg9 arg10 harg10 hc0 hc1 x0 x1 x2 x3 x4 x5)]
  unfold kernelRun1_A
  dsimp only
  unfold kernelRun1_A.sl.v230
  rw [tail_none (h := btrips2' i), btrips1' i]
  dsimp only
  rw [List.nil_append, r18A_eq, r19A_eq]
  unfold kernelRun1_A.sl.r kernelRun1_A.sl.r_1 kernelRun1_A.sl.r_2 kernelRun1_A.sl.r_3 kernelRun1_A.sl.r_4 kernelRun1_A.sl.r_6
  simp only [View.readAt_eq_ld, harg2.read_unread, harg3.read_unread, harg4.read_unread, harg5.read_unread, harg6.read_unread, harg7.read_unread, View.ld_unit_zero (S := S512x128) hz, bpay70_eq]
  unfold dvFin bloop qA qB lA lB
  rfl

end

end Body

end Cert.AttnIdeal.Result

end
-- ==== Proof.AttnBwdVal.lean ====
/-
  The attention gradient's tile over the reals: the gradients of the tile's queries, and what the tile adds to the
  gradients of the pair's keys and values.
-/
module

public import proofs.«01_k».proof.Proof.AttnBwdTile

@[expose] public section

set_option maxRecDepth 16384

noncomputable section

namespace Cert.AttnIdeal.Result

open Cert.AttnIdeal Cert.AttnIdeal.Gen Idealize.ShloMosaic Idealize.ShloMosaic.TcCoe Idealize.SL.Sem
open Cert.Softmax (c e2)

/-- The gradient of the tile's queries, over the first `n` keys. -/
def Tile.dq (T : Tile) (n r d : ℕ) : ℝ := (∑ k ∈ Finset.range n, (T.hd (d / 128)).ds r k * T.K k d) * c

section Body

variable (cc : Dev nD) (i : grid1.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x2x512x1 .f32) (harg7 : arg7.IsWhole) (arg8 : Memref sig .tc .vmem S512x256 .f32) (harg8 : arg8.IsWhole) (arg9 : Memref sig .tc .vmem S4096x256 .f32) (harg9 : arg9.IsWhole) (arg10 : Memref sig .tc .vmem S4096x128 .f32) (harg10 : arg10.IsWhole)
    (x0 : Vec Ideal S512x256 .bf16) (x1 : Vec Ideal S4096x256 .bf16) (x2 : Vec Ideal S4096x128 .bf16) (x3 x4 : Vec Ideal S512x128 .f32) (x5 : Vec Ideal S1x2x512x1 .f32)
    (G9 : BufTy.Contents (Elt Ideal) arg9.view.ty) (G10 : BufTy.Contents (Elt Ideal) arg10.view.ty)

variable {i x0 x1 x2 x3 x4 x5} {T : Tile} (R : Reads i x0 x1 x2 x3 x4 x5 T)
include R

theorem diag_n (h : ℕ) : ∀ r < 512, (T.hd h).n r = 512 * (i 1).val + 64 * (r / 64 + 1) := R.n

theorem i1_lt : (i 1).val < 8 := (i 1).isLt

theorem dsA_is : Is (dsA i x0 x1 x2 x3 x4 x5) fun r j => (T.hd 0).ds r (512 * (i 1).val + j) :=
  have e := bdiag_eq (i 1).val (i 1).isLt
  have hi : (i 1).val < 8 := (i 1).isLt
  dsDiag (T.hd 0) (512 * (i 1).val) _ _ _ _ _ _ (bqA_is R) (bkA_is R (k1_off8 i) (k1_off8_inb i) _ e rfl (by omega)) (bgA_is R) (bv_is R (k1_off7 i) (k1_off7_inb i) _ e rfl (by omega) 0) (blA_is R) (bdA_is R) (diag_n R 0)
theorem dsB_is : Is (dsB i x0 x1 x2 x3 x4 x5) fun r j => (T.hd 1).ds r (512 * (i 1).val + j) :=
  have e := bdiag_eq (i 1).val (i 1).isLt
  have hi : (i 1).val < 8 := (i 1).isLt
  dsDiag (T.hd 1) (512 * (i 1).val) _ _ _ _ _ _ (bqB_is R) (bkB_is R (k1_off9 i) (k1_off9_inb i) _ e rfl (by omega)) (bgB_is R) (bv_is R (k1_off7 i) (k1_off7_inb i) _ e rfl (by omega) 1) (blB_is R) (bdB_is R) (diag_n R 1)
theorem wtA_is : Is (wtA i x0 x1 x5) fun r j => (T.hd 0).w r (512 * (i 1).val + j) := fun r j =>
  have e := bdiag_eq (i 1).val (i 1).isLt
  have hi : (i 1).val < 8 := (i 1).isLt
  (bpay64_apply _ _ r j).trans (wDiag (T.hd 0) (512 * (i 1).val) _ _ _ (bqA_is R) (bkA_is R (k1_off8 i) (k1_off8_inb i) _ e rfl (by omega)) (blA_is R) (diag_n R 0) r j)
theorem wtB_is : Is (wtB i x0 x1 x5) fun r j => (T.hd 1).w r (512 * (i 1).val + j) := fun r j =>
  have e := bdiag_eq (i 1).val (i 1).isLt
  have hi : (i 1).val < 8 := (i 1).isLt
  (bpay64_apply _ _ r j).trans (wDiag (T.hd 1) (512 * (i 1).val) _ _ _ (bqB_is R) (bkB_is R (k1_off9 i) (k1_off9_inb i) _ e rfl (by omega)) (blB_is R) (diag_n R 1) r j)

/-- What the tile leaves in the gradient of the pair's keys. -/
theorem dkFin_is (D9 D10 : ℕ → ℕ → ℝ) (h9 : Is (arg9.view.read (Elt Ideal) G9) D9) (h10 : Is (arg10.view.read (Elt Ideal) G10) D10) :
    Is (arg9.view.read (Elt Ideal) (arg9.view.writes (Elt Ideal) G9 (dkFin i arg9 x0 x1 x2 x3 x4 x5 G9 (bloop cc i arg2 harg2 arg3 harg3 arg4 harg4 arg5 harg5 arg6 harg6 arg7 harg7 arg8 harg8 arg9 harg9 arg10 harg10 x0 x1 x2 x3 x4 x5 G9 G10 (i 1).val).2.1)))
      fun k d => D9 k d + if k < 512 * (i 1).val + 512 then T.dk k d else 0 := by
  have e := bdiag_eq (i 1).val (i 1).isLt
  have hi : (i 1).val < 8 := (i 1).isLt
  have hk := (bloop_is cc i arg2 harg2 arg3 harg3 arg4 harg4 arg5 harg5 arg6 harg6 arg7 harg7 arg8 harg8 arg9 harg9 arg10 harg10 x0 x1 x2 x3 x4 x5 G9 G10 T R D9 D10 h9 h10 (i 1).val le_rfl).2.2.1
  generalize (bloop cc i arg2 harg2 arg3 harg3 arg4 harg4 arg5 harg5 arg6 harg6 arg7 harg7 arg8 harg8 arg9 harg9 arg10 harg10 x0 x1 x2 x3 x4 x5 G9 G10 (i 1).val).2.1 = L at hk
  have hA := dkBlk (T.hd 0) (512 * (i 1).val) _ _ (dsA_is R) (bqA_is R) _ _ ((ld_is32 (a' := 512) (b' := 128) _ _ hk (k1_off8 i) (k1_off8_inb i) _ 0 e rfl (by omega) (by norm_num)).congr (g := fun j d => (fun k d => D9 k d + if k < 512 * (i 1).val then T.dk k d else 0) (512 * (i 1).val + j) d) fun _ _ _ _ => by rw [Nat.zero_add])
  have hA' := put_is arg9.view G9 L _ hk (k1_off8 i) (k1_off8_inb i) _ _ hA _ 0 e rfl
  have hB := dkBlk (T.hd 1) (512 * (i 1).val) _ _ (dsB_is R) (bqB_is R) _ _ ((ld_is32 (a' := 512) (b' := 128) _ _ hA' (k1_off9 i) (k1_off9_inb i) _ 128 e rfl (by omega) (by norm_num)).congr (g := fun j d => (fun k d => D9 k d + if k < 512 * (i 1).val then T.dk k d else 0) (512 * (i 1).val + j) (128 + d)) fun _ _ _ _ => by
    rw [if_neg (by omega)])
  refine (dk_store T arg9.view G9 L _ hk (k1_off8 i) (k1_off9 i) (k1_off8_inb i) (k1_off9_inb i) _ _ _ e rfl e rfl hA hB).congr fun k _ d _ => ?_
  rw [add_assoc, upto]

/-- And in the gradient of the values. -/
theorem dvFin_is (D9 D10 : ℕ → ℕ → ℝ) (h9 : Is (arg9.view.read (Elt Ideal) G9) D9) (h10 : Is (arg10.view.read (Elt Ideal) G10) D10) :
    Is (arg10.view.read (Elt Ideal) (arg10.view.writes (Elt Ideal) G10 (dvFin i arg10 x0 x1 x4 x5 G10 (bloop cc i arg2 harg2 arg3 harg3 arg4 harg4 arg5 harg5 arg6 harg6 arg7 harg7 arg8 harg8 arg9 harg9 arg10 harg10 x0 x1 x2 x3 x4 x5 G9 G10 (i 1).val).2.2)))
      fun k d => D10 k d + if k < 512 * (i 1).val + 512 then T.dv k d else 0 := by
  have e := bdiag_eq (i 1).val (i 1).isLt
  have hi : (i 1).val < 8 := (i 1).isLt
  have hv := (bloop_is cc i arg2 harg2 arg3 harg3 arg4 harg4 arg5 harg5 arg6 harg6 arg7 harg7 arg8 harg8 arg9 harg9 arg10 harg10 x0 x1 x2 x3 x4 x5 G9 G10 T R D9 D10 h9 h10 (i 1).val le_rfl).2.2.2
  generalize (bloop cc i arg2 harg2 arg3 harg3 arg4 harg4 arg5 harg5 arg6 harg6 arg7 harg7 arg8 harg8 arg9 harg9 arg10 harg10 x0 x1 x2 x3 x4 x5 G9 G10 (i 1).val).2.2 = L at hv
  refine (dv_store T arg10.view G10 L _ hv (k1_off7 i) (k1_off7_inb i) _ _ e rfl
    (dvBlk (T.hd 0) _ _ (T.hd 1) _ _ (wtA_is R) (wtB_is R) (bgA_is R) _ (bgB_is R) _ _
      ((ld_is32 (a' := 512) (b' := 128) _ _ hv _ _ _ 0 e rfl (by omega) (by norm_num)).congr fun _ _ _ _ => by rw [Nat.zero_add]))).congr fun k _ d _ => ?_
  rw [add_assoc, upto]

/-- The gradient of the tile's queries. -/
theorem dqFin_is (D9 D10 : ℕ → ℕ → ℝ) (h9 : Is (arg9.view.read (Elt Ideal) G9) D9) (h10 : Is (arg10.view.read (Elt Ideal) G10) D10) :
    Is (VO1_6.read (Elt Ideal) (VO1_6.writes (Elt Ideal) VO1_6.junk (dqFin i x0 x1 x2 x3 x4 x5 (bloop cc i arg2 harg2 arg3 harg3 arg4 harg4 arg5 harg5 arg6 harg6 arg7 harg7 arg8 harg8 arg9 harg9 arg10 harg10 x0 x1 x2 x3 x4 x5 G9 G10 (i 1).val).1))) (T.dq (512 * (i 1).val + 512)) := by
  have e := bdiag_eq (i 1).val (i 1).isLt
  have hi : (i 1).val < 8 := (i 1).isLt
  obtain ⟨ha, hb, -, -⟩ := bloop_is cc i arg2 harg2 arg3 harg3 arg4 harg4 arg5 harg5 arg6 harg6 arg7 harg7 arg8 harg8 arg9 harg9 arg10 harg10 x0 x1 x2 x3 x4 x5 G9 G10 T R D9 D10 h9 h10 (i 1).val le_rfl
  generalize (bloop cc i arg2 harg2 arg3 harg3 arg4 harg4 arg5 harg5 arg6 harg6 arg7 harg7 arg8 harg8 arg9 harg9 arg10 harg10 x0 x1 x2 x3 x4 x5 G9 G10 (i 1).val).1 = s at ha hb
  have kA := bkA_is R (k1_off8 i) (k1_off8_inb i) _ e rfl (by omega)
  have kB := bkB_is R (k1_off9 i) (k1_off9_inb i) _ e rfl (by omega)
  have hA : Is (k1_pay71 (F := Ideal) (k1_pay66 (F := Ideal) (k1_pay30 (F := Ideal) x4 x3) (k1_pay31 (F := Ideal) x4) (k1_pay32 (F := Ideal) (lA x5)) s.1
      (k1_pay45 (View.ld x2 (Rect.unit (k1_off7 i) S512x128.size (k1_off7_inb i)))) (k1_pay46 (View.ld x1 (Rect.unit (k1_off8 i) S512x128.size (k1_off8_inb i))))
      (scoreA (k1_pay28 (F := Ideal) (qA x0)) (View.ld x1 (Rect.unit (k1_off8 i) S512x128.size (k1_off8_inb i)))))) fun r d => (∑ k ∈ Finset.range (512 * (i 1).val + 512), (T.hd 0).ds r k * (T.hd 0).K k d) * c := by
    intro r d
    rw [bpay71_apply, bpay66_apply, EReal.coe_mul]
    exact congrArg (· * _) (accBlk (T.hd 0) _ _ _ _ (dsA_is R) kA ha r d)
  have hB : Is (k1_pay72 (F := Ideal) (k1_pay66 (F := Ideal) (k1_pay36 (F := Ideal) k1_pay34 x4 x3) (k1_pay37 (F := Ideal) k1_pay34 x4) (k1_pay38 (F := Ideal) (lB x5)) s.2
      (k1_pay45 (View.ld x2 (Rect.unit (k1_off7 i) S512x128.size (k1_off7_inb i)))) (k1_pay46 (View.ld x1 (Rect.unit (k1_off9 i) S512x128.size (k1_off9_inb i))))
      (scoreA (k1_pay33 (F := Ideal) (qB x0)) (View.ld x1 (Rect.unit (k1_off9 i) S512x128.size (k1_off9_inb i)))))) fun r d => (∑ k ∈ Finset.range (512 * (i 1).val + 512), (T.hd 1).ds r k * (T.hd 1).K k d) * c := by
    intro r d
    rw [bpay72_apply, bpay66_apply, EReal.coe_mul]
    exact congrArg (· * _) (accBlk (T.hd 1) _ _ _ _ (dsB_is R) kB hb r d)
  intro r d
  have hd := d.isLt
  unfold dqFin
  by_cases h : d.val < 128
  · refine (View.read_writes_cons_unit_of_not_mem VO1_6 _ _ _ _ _ rfl (1 : Fin 2) (.inl (by simpa [ix2] using h))).trans ?_
    refine (View.read_writes_cons_unit_of_mem VO1_6 _ _ _ _ _ (ix2 r ⟨d.val, h⟩) rfl (fun a => by fin_cases a <;> simp [ix2])).trans ?_
    refine (hA r ⟨d.val, h⟩).trans (congrArg _ ?_)
    unfold Tile.dq
    rw [show d.val / 128 = 0 by omega]
    simp only [Tile.hd, Nat.mul_zero, Nat.zero_add]
  · refine (View.read_writes_cons_unit_of_mem VO1_6 _ _ _ _ _ (ix2 r ⟨d.val - 128, by omega⟩) rfl (fun a => by fin_cases a <;> simp [ix2]; omega)).trans ?_
    refine (hB r ⟨d.val - 128, by omega⟩).trans (congrArg _ ?_)
    unfold Tile.dq
    rw [show d.val / 128 = 1 by omega]
    simp only [Tile.hd, Nat.mul_one, show 128 + (d.val - 128) = d.val by omega]

end Body

end Cert.AttnIdeal.Result

end
-- ==== Proof.AttnWhole.lean ====
/-
  The attention and its gradient over whole arrays of reals, and the tiles' parts of them.
-/
module

public import proofs.«01_k».proof.Proof.AttnBwdVal

@[expose] public section

set_option maxRecDepth 16384

noncomputable section

namespace Cert.AttnIdeal.Result

open Cert.Softmax (c e2)
open Finset (range)

/-- The attention's arrays, row by row: queries and keys with a head's 128 columns from column `128 j` on, values, outputs
and cotangents with its 64 columns from column `64 j` on, and each head's log-sums. -/
structure Whole where
  (Q K V O G : ℕ → ℕ → ℝ)
  (L : ℕ → ℕ → ℝ)

namespace Whole

variable (A : Whole)

/-- How many keys row `r` sees. -/
def see (r : ℕ) : ℕ := 64 * (r / 64 + 1)
/-- Head `j`'s score of row `r` with key `k`. -/
def s (j r k : ℕ) : ℝ := ∑ d ∈ range 128, A.Q r (128 * j + d) * A.K k (128 * j + d)
/-- The weight that row `r` gives key `k`. -/
def w (j r k : ℕ) : ℝ := if k < see r then Real.exp (A.s j r k * c - A.L j r) else 0
/-- The weight's gradient. -/
def dp (j r k : ℕ) : ℝ := ∑ d ∈ range 64, A.G r (64 * j + d) * A.V k (64 * j + d)
/-- The sum over the lanes of cotangent times output. -/
def dl (j r : ℕ) : ℝ := ∑ d ∈ range 64, A.G r (64 * j + d) * A.O r (64 * j + d)
/-- The gradient of the scaled score. -/
def ds (j r k : ℕ) : ℝ := A.w j r k * (A.dp j r k - A.dl j r)
/-- The gradients of the queries, the keys and the values. -/
def dq (r d : ℕ) : ℝ := (∑ k ∈ range 4096, A.ds (d / 128) r k * A.K k d) * c
def dk (k d : ℕ) : ℝ := (∑ r ∈ range 4096, A.ds (d / 128) r k * A.Q r d) * c
def dv (k d : ℕ) : ℝ := ∑ r ∈ range 4096, A.w (d / 64) r k * A.G r d
/-- The row's log-sum and output, from queries, keys and values. -/
def lse (j r : ℕ) : ℝ := Real.log (Softmax.Z (A.s j r) (see r))
def out (r d : ℕ) : ℝ := (∑ k ∈ range (see r), Real.exp (A.s (d / 64) r k * c) * A.V k d) / Softmax.Z (A.s (d / 64) r) (see r)

/-- The tile of rows `512 q` on of heads `2 p` and `2 p + 1`. -/
def tile (p q : ℕ) : Tile where
  Q r d := A.Q (512 * q + r) (256 * p + d)
  K k d := A.K k (256 * p + d)
  V k d := A.V k (128 * p + d)
  O r d := A.O (512 * q + r) (128 * p + d)
  G r d := A.G (512 * q + r) (128 * p + d)
  L h r := A.L (2 * p + h) (512 * q + r)
  n r := 512 * q + 64 * (r / 64 + 1)

theorem see_tile (q r : ℕ) : see (512 * q + r) = 512 * q + 64 * (r / 64 + 1) := by unfold see; omega

/-- A sum of 128 lanes of which a head's 64 count. -/
theorem sum_half (h : ℕ) (hh : h < 2) (f : ℕ → ℝ) : (∑ d ∈ range 128, if d / 64 = h then f d else 0) = ∑ d ∈ range 64, f (64 * h + d) := by
  rw [show (128 : ℕ) = 64 + 64 from rfl, Finset.sum_range_add]
  obtain rfl | rfl : h = 0 ∨ h = 1 := by omega
  · have h2 : (∑ d ∈ range 64, if (64 + d) / 64 = 0 then f (64 + d) else 0) = 0 := Finset.sum_eq_zero fun d hd => by rw [if_neg (by omega)]
    rw [h2, add_zero]
    refine Finset.sum_congr rfl fun d hd => ?_
    rw [if_pos (by have := Finset.mem_range.mp hd; omega), mul_zero, zero_add]
  · have h2 : (∑ d ∈ range 64, if d / 64 = 1 then f d else 0) = 0 := Finset.sum_eq_zero fun d hd => by rw [if_neg (by have := Finset.mem_range.mp hd; omega)]
    rw [h2, zero_add]
    refine Finset.sum_congr rfl fun d hd => ?_
    rw [if_pos (by have := Finset.mem_range.mp hd; omega), mul_one]

theorem tile_s (p q h r k : ℕ) : ((A.tile p q).hd h).s r k = A.s (2 * p + h) (512 * q + r) k := by
  unfold Hd.s Whole.s Tile.hd tile
  refine Finset.sum_congr rfl fun d _ => ?_
  dsimp only
  rw [show 256 * p + (128 * h + d) = 128 * (2 * p + h) + d by omega]
theorem tile_w (p q h r k : ℕ) : ((A.tile p q).hd h).w r k = A.w (2 * p + h) (512 * q + r) k := by
  unfold Hd.w Whole.w
  rw [tile_s, see_tile]
  rfl
theorem tile_ds (p q h r k : ℕ) (hh : h < 2) : ((A.tile p q).hd h).ds r k = A.ds (2 * p + h) (512 * q + r) k := by
  have e (f : ℕ → ℝ) : ∑ d ∈ range 128, ((A.tile p q).hd h).G r d * f d = ∑ d ∈ range 64, A.G (512 * q + r) (64 * (2 * p + h) + d) * f (64 * h + d) := by
    rw [← Finset.sum_congr rfl (f := fun d => if d / 64 = h then A.G (512 * q + r) (128 * p + d) * f d else 0) fun d _ => by
      show _ = (if d / 64 = h then _ else 0) * f d; split_ifs <;> simp [tile]]
    rw [sum_half h hh (fun d => A.G (512 * q + r) (128 * p + d) * f d)]
    refine Finset.sum_congr rfl fun d _ => ?_
    rw [show 64 * (2 * p + h) + d = 128 * p + (64 * h + d) by omega]
  unfold Hd.ds Hd.dl Whole.ds Whole.dp Whole.dl
  rw [tile_w, e, e]
  congr 2
  all_goals
    refine Finset.sum_congr rfl fun d _ => ?_
    rw [show 64 * (2 * p + h) + d = 128 * p + (64 * h + d) by omega]
    rfl

theorem w_zero (j r k : ℕ) (h : see r ≤ k) : A.w j r k = 0 := if_neg (by omega)
theorem ds_zero (j r k : ℕ) (h : see r ≤ k) : A.ds j r k = 0 := by unfold ds; rw [w_zero A j r k h, zero_mul]

theorem see_le (q r : ℕ) (hr : r < 512) : see (512 * q + r) ≤ 512 * q + 512 := by unfold see; omega

theorem tile_dk (p q k d : ℕ) (hd : d < 256) : (A.tile p q).dk k d = ∑ r ∈ range 512, A.ds ((256 * p + d) / 128) (512 * q + r) k * A.Q (512 * q + r) (256 * p + d) := by
  unfold Tile.dk
  refine Finset.sum_congr rfl fun r _ => ?_
  rw [tile_ds _ _ _ _ _ _ (by omega), show (256 * p + d) / 128 = 2 * p + d / 128 by omega]
  rfl
theorem tile_dv (p q k d : ℕ) (hd : d < 128) : (A.tile p q).dv k d = ∑ r ∈ range 512, A.w ((128 * p + d) / 64) (512 * q + r) k * A.G (512 * q + r) (128 * p + d) := by
  unfold Tile.dv
  rw [← Finset.sum_add_distrib]
  refine Finset.sum_congr rfl fun r _ => ?_
  rw [tile_w, tile_w, show (128 * p + d) / 64 = 2 * p + d / 64 by omega]
  have hG (h : ℕ) : ((A.tile p q).hd h).G r d = if d / 64 = h then A.G (512 * q + r) (128 * p + d) else 0 := rfl
  rw [hG, hG]
  obtain h | h : d / 64 = 0 ∨ d / 64 = 1 := by omega
  · rw [h, if_pos rfl, if_neg (by omega), mul_zero, add_zero]
  · rw [h, if_pos rfl, if_neg (by omega), mul_zero, zero_add]
theorem tile_dk_zero (p q k d : ℕ) (hd : d < 256) (h : 512 * q + 512 ≤ k) : (A.tile p q).dk k d = 0 := by
  rw [tile_dk A p q k d hd]
  refine Finset.sum_eq_zero fun r hr => ?_
  rw [ds_zero _ _ _ _ ((see_le q r (Finset.mem_range.mp hr)).trans h), zero_mul]
theorem tile_dv_zero (p q k d : ℕ) (hd : d < 128) (h : 512 * q + 512 ≤ k) : (A.tile p q).dv k d = 0 := by
  rw [tile_dv A p q k d hd]
  refine Finset.sum_eq_zero fun r hr => ?_
  rw [w_zero _ _ _ _ ((see_le q r (Finset.mem_range.mp hr)).trans h), zero_mul]

/-- A sum over keys none of which past `n` counts. -/
theorem sum_upto (f : ℕ → ℝ) (n m : ℕ) (h : n ≤ m) (hf : ∀ k, n ≤ k → f k = 0) : ∑ k ∈ range n, f k = ∑ k ∈ range m, f k :=
  Finset.sum_subset (fun x hx => Finset.mem_range.mpr (lt_of_lt_of_le (Finset.mem_range.mp hx) h)) fun x _ hx => hf x (by
    by_contra hn; exact hx (Finset.mem_range.mpr (by omega)))

theorem tile_dq (p q r d : ℕ) (hq : q < 8) (hr : r < 512) (hd : d < 256) : (A.tile p q).dq (512 * q + 512) r d = A.dq (512 * q + r) (256 * p + d) := by
  unfold Tile.dq dq
  congr 1
  rw [show (256 * p + d) / 128 = 2 * p + d / 128 by omega]
  rw [← sum_upto (fun k => A.ds (2 * p + d / 128) (512 * q + r) k * A.K k (256 * p + d)) (512 * q + 512) 4096 (by omega) fun k hk => by
    rw [ds_zero _ _ _ _ ((see_le q r hr).trans hk), zero_mul]]
  refine Finset.sum_congr rfl fun k _ => ?_
  rw [tile_ds _ _ _ _ _ _ (by omega)]
  rfl

/-- The rows of the eight tiles are the rows. -/
theorem sum_tiles (f : ℕ → ℝ) (n : ℕ) : ∑ q ∈ range n, ∑ r ∈ range 512, f (512 * q + r) = ∑ r ∈ range (512 * n), f r := by
  induction n with
  | zero => rfl
  | succ n ih => rw [Finset.sum_range_succ, ih, show 512 * (n + 1) = 512 * n + 512 by omega, Finset.sum_range_add]

theorem sum_dk (p k d : ℕ) (hd : d < 256) : (∑ q ∈ range 8, (A.tile p q).dk k d) * c = A.dk k (256 * p + d) := by
  unfold dk
  rw [Finset.sum_congr rfl fun q _ => tile_dk A p q k d hd, sum_tiles (fun r => A.ds ((256 * p + d) / 128) r k * A.Q r (256 * p + d)) 8]
theorem sum_dv (p k d : ℕ) (hd : d < 128) : ∑ q ∈ range 8, (A.tile p q).dv k d = A.dv k (128 * p + d) := by
  unfold dv
  rw [Finset.sum_congr rfl fun q _ => tile_dv A p q k d hd, sum_tiles (fun r => A.w ((128 * p + d) / 64) r k * A.G r (128 * p + d)) 8]

end Whole

end Cert.AttnIdeal.Result

end
-- ==== Proof.AttnPoint.lean ====
/-
  The blocks that the two attention calls read at a grid point, and what a point leaves in its results' blocks.
-/
module

public import proofs.«01_k».proof.Proof.AttnWhole
public import proofs.«01_k».proof.Proof.AttnFwd

@[expose] public section

set_option maxRecDepth 16384

noncomputable section

namespace Cert.AttnIdeal.Result

open Cert.AttnIdeal Cert.AttnIdeal.Gen Idealize.ShloMosaic Idealize.ShloMosaic.TcCoe Idealize.SL.Sem
open Cert.Softmax (c e2)

open Finset (range)

/-- The log-sums' array: entry `h` of pair `p` is head `2 p + h`. -/
def Is4 (x : S8x2x4096x1.Idx → EReal) (f : ℕ → ℕ → ℝ) : Prop :=
  ∀ (p : Fin 8) (h : Fin 2) (r : Fin 4096), x (ix4 p h r 0) = ((f (2 * p.val + h.val) r.val : ℝ) : EReal)

variable (V : (c : Dev nD) → (b : Ref sig .tc) → Buf (Elt Ideal) ((c : Thread nD τ).loc b)) (cc : Dev nD)

/-! The blocks. -/

theorem idx0_0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem blk0_0 (f : ℕ → ℕ → ℝ) (h : Is (V cc main_v5) f) (t : Fin cfg0.N) :
    Is (iblk0 V cc 0 t : Vec Ideal S512x256 .bf16) fun r d => f (512 * (t.val % 8) + r) (256 * (t.val / 8) + d) := by
  intro r d
  have hr := r.isLt
  have hd := d.isLt
  have ht : t.val < 64 := lt_of_lt_of_eq t.isLt N_0
  unfold iblk0
  rw [View.read_apply]
  refine Eq.trans ?_ (h ⟨512 * (t.val % 8) + r.val, by omega⟩ ⟨256 * (t.val / 8) + d.val, by omega⟩)
  show V cc main_v5 _ = _
  congr 1
  funext a
  apply Fin.ext
  match a with
  | ⟨0, _⟩ => show win0_0.index t 0 * 512 + 1 * r.val = 512 * (t.val % 8) + r.val; rw [(idx0_0 t).1]; omega
  | ⟨1, _⟩ => show win0_0.index t 1 * 256 + 1 * d.val = 256 * (t.val / 8) + d.val; rw [(idx0_0 t).2]; omega

theorem idx0_1 : ∀ t : Fin cfg0.N, win0_1.index t 0 = 0 ∧ win0_1.index t 1 = t.val / 8 :=
  (by decide +kernel : ∀ t : Fin grid0.N, win0_1.index t 0 = 0 ∧ win0_1.index t 1 = t.val / 8)
theorem blk0_1 (f : ℕ → ℕ → ℝ) (h : Is (V cc main_v9) f) (t : Fin cfg0.N) :
    Is (iblk0 V cc 1 t : Vec Ideal S4096x256 .bf16) fun r d => f (r) (256 * (t.val / 8) + d) := by
  intro r d
  have hr := r.isLt
  have hd := d.isLt
  have ht : t.val < 64 := lt_of_lt_of_eq t.isLt N_0
  unfold iblk0
  rw [View.read_apply]
  refine Eq.trans ?_ (h ⟨r.val, by omega⟩ ⟨256 * (t.val / 8) + d.val, by omega⟩)
  show V cc main_v9 _ = _
  congr 1
  funext a
  apply Fin.ext
  match a with
  | ⟨0, _⟩ => show win0_1.index t 0 * 4096 + 1 * r.val = r.val; rw [(idx0_1 t).1]; omega
  | ⟨1, _⟩ => show win0_1.index t 1 * 256 + 1 * d.val = 256 * (t.val / 8) + d.val; rw [(idx0_1 t).2]; omega

theorem idx0_2 : ∀ t : Fin cfg0.N, win0_2.index t 0 = 0 ∧ win0_2.index t 1 = t.val / 8 :=
  (by decide +kernel : ∀ t : Fin grid0.N, win0_2.index t 0 = 0 ∧ win0_2.index t 1 = t.val / 8)
theorem blk0_2 (f : ℕ → ℕ → ℝ) (h : Is (V cc main_v11) f) (t : Fin cfg0.N) :
    Is (iblk0 V cc 2 t : Vec Ideal S4096x128 .bf16) fun r d => f (r) (128 * (t.val / 8) + d) := by
  intro r d
  have hr := r.isLt
  have hd := d.isLt
  have ht : t.val < 64 := lt_of_lt_of_eq t.isLt N_0
  unfold iblk0
  rw [View.read_apply]
  refine Eq.trans ?_ (h ⟨r.val, by omega⟩ ⟨128 * (t.val / 8) + d.val, by omega⟩)
  show V cc main_v11 _ = _
  congr 1
  funext a
  apply Fin.ext
  match a with
  | ⟨0, _⟩ => show win0_2.index t 0 * 4096 + 1 * r.val = r.val; rw [(idx0_2 t).1]; omega
  | ⟨1, _⟩ => show win0_2.index t 1 * 128 + 1 * d.val = 128 * (t.val / 8) + d.val; rw [(idx0_2 t).2]; omega

theorem idx1_0 : ∀ t : Fin cfg1.N, win1_0.index t 0 = t.val % 8 ∧ win1_0.index t 1 = t.val / 8 :=
  (by decide +kernel : ∀ t : Fin grid1.N, win1_0.index t 0 = t.val % 8 ∧ win1_0.index t 1 = t.val / 8)
theorem blk1_0 (f : ℕ → ℕ → ℝ) (h : Is (V cc main_v5) f) (t : Fin cfg1.N) :
    Is (iblk1 V cc 0 t : Vec Ideal S512x256 .bf16) fun r d => f (512 * (t.val % 8) + r) (256 * (t.val / 8) + d) := by
  intro r d
  have hr := r.isLt
  have hd := d.isLt
  have ht : t.val < 64 := lt_of_lt_of_eq t.isLt N_1
  unfold iblk1
  rw [View.read_apply]
  refine Eq.trans ?_ (h ⟨512 * (t.val % 8) + r.val, by omega⟩ ⟨256 * (t.val / 8) + d.val, by omega⟩)
  show V cc main_v5 _ = _
  congr 1
  funext a
  apply Fin.ext
  match a with
  | ⟨0, _⟩ => show win1_0.index t 0 * 512 + 1 * r.val = 512 * (t.val % 8) + r.val; rw [(idx1_0 t).1]; omega
  | ⟨1, _⟩ => show win1_0.index t 1 * 256 + 1 * d.val = 256 * (t.val / 8) + d.val; rw [(idx1_0 t).2]; omega

theorem idx1_1 : ∀ t : Fin cfg1.N, win1_1.index t 0 = 0 ∧ win1_1.index t 1 = t.val / 8 :=
  (by decide +kernel : ∀ t : Fin grid1.N, win1_1.index t 0 = 0 ∧ win1_1.index t 1 = t.val / 8)
theorem blk1_1 (f : ℕ → ℕ → ℝ) (h : Is (V cc main_v9) f) (t : Fin cfg1.N) :
    Is (iblk1 V cc 1 t : Vec Ideal S4096x256 .bf16) fun r d => f (r) (256 * (t.val / 8) + d) := by
  intro r d
  have hr := r.isLt
  have hd := d.isLt
  have ht : t.val < 64 := lt_of_lt_of_eq t.isLt N_1
  unfold iblk1
  rw [View.read_apply]
  refine Eq.trans ?_ (h ⟨r.val, by omega⟩ ⟨256 * (t.val / 8) + d.val, by omega⟩)
  show V cc main_v9 _ = _
  congr 1
  funext a
  apply Fin.ext
  match a with
  | ⟨0, _⟩ => show win1_1.index t 0 * 4096 + 1 * r.val = r.val; rw [(idx1_1 t).1]; omega
  | ⟨1, _⟩ => show win1_1.index t 1 * 256 + 1 * d.val = 256 * (t.val / 8) + d.val; rw [(idx1_1 t).2]; omega

theorem idx1_2 : ∀ t : Fin cfg1.N, win1_2.index t 0 = 0 ∧ win1_2.index t 1 = t.val / 8 :=
  (by decide +kernel : ∀ t : Fin grid1.N, win1_2.index t 0 = 0 ∧ win1_2.index t 1 = t.val / 8)
theorem blk1_2 (f : ℕ → ℕ → ℝ) (h : Is (V cc main_v11) f) (t : Fin cfg1.N) :
    Is (iblk1 V cc 2 t : Vec Ideal S4096x128 .bf16) fun r d => f (r) (128 * (t.val / 8) + d) := by
  intro r d
  have hr := r.isLt
  have hd := d.isLt
  have ht : t.val < 64 := lt_of_lt_of_eq t.isLt N_1
  unfold iblk1
  rw [View.read_apply]
  refine Eq.trans ?_ (h ⟨r.val, by omega⟩ ⟨128 * (t.val / 8) + d.val, by omega⟩)
  show V cc main_v11 _ = _
  congr 1
  funext a
  apply Fin.ext
  match a with
  | ⟨0, _⟩ => show win1_2.index t 0 * 4096 + 1 * r.val = r.val; rw [(idx1_2 t).1]; omega
  | ⟨1, _⟩ => show win1_2.index t 1 * 128 + 1 * d.val = 128 * (t.val / 8) + d.val; rw [(idx1_2 t).2]; omega

theorem idx1_3 : ∀ t : Fin cfg1.N, win1_3.index t 0 = t.val % 8 ∧ win1_3.index t 1 = t.val / 8 :=
  (by decide +kernel : ∀ t : Fin grid1.N, win1_3.index t 0 = t.val % 8 ∧ win1_3.index t 1 = t.val / 8)
theorem blk1_3 (f : ℕ → ℕ → ℝ) (h : Is (V cc main_v12_0) f) (t : Fin cfg1.N) :
    Is (iblk1 V cc 3 t : Vec Ideal S512x128 .f32) fun r d => f (512 * (t.val % 8) + r) (128 * (t.val / 8) + d) := by
  intro r d
  have hr := r.isLt
  have hd := d.isLt
  have ht : t.val < 64 := lt_of_lt_of_eq t.isLt N_1
  unfold iblk1
  rw [View.read_apply]
  refine Eq.trans ?_ (h ⟨512 * (t.val % 8) + r.val, by omega⟩ ⟨128 * (t.val / 8) + d.val, by omega⟩)
  show V cc main_v12_0 _ = _
  congr 1
  funext a
  apply Fin.ext
  match a with
  | ⟨0, _⟩ => show win1_3.index t 0 * 512 + 1 * r.val = 512 * (t.val % 8) + r.val; rw [(idx1_3 t).1]; omega
  | ⟨1, _⟩ => show win1_3.index t 1 * 128 + 1 * d.val = 128 * (t.val / 8) + d.val; rw [(idx1_3 t).2]; omega

theorem idx1_4 : ∀ t : Fin cfg1.N, win1_4.index t 0 = t.val % 8 ∧ win1_4.index t 1 = t.val / 8 :=
  (by decide +kernel : ∀ t : Fin grid1.N, win1_4.index t 0 = t.val % 8 ∧ win1_4.index t 1 = t.val / 8)
theorem blk1_4 (f : ℕ → ℕ → ℝ) (h : Is (V cc main_v13) f) (t : Fin cfg1.N) :
    Is (iblk1 V cc 4 t : Vec Ideal S512x128 .f32) fun r d => f (512 * (t.val % 8) + r) (128 * (t.val / 8) + d) := by
  intro r d
  have hr := r.isLt
  have hd := d.isLt
  have ht : t.val < 64 := lt_of_lt_of_eq t.isLt N_1
  unfold iblk1
  rw [View.read_apply]
  refine Eq.trans ?_ (h ⟨512 * (t.val % 8) + r.val, by omega⟩ ⟨128 * (t.val / 8) + d.val, by omega⟩)
  show V cc main_v13 _ = _
  congr 1
  funext a
  apply Fin.ext
  match a with
  | ⟨0, _⟩ => show win1_4.index t 0 * 512 + 1 * r.val = 512 * (t.val % 8) + r.val; rw [(idx1_4 t).1]; omega
  | ⟨1, _⟩ => show win1_4.index t 1 * 128 + 1 * d.val = 128 * (t.val / 8) + d.val; rw [(idx1_4 t).2]; omega

theorem idx1_5 : ∀ t : Fin cfg1.N, win1_5.index t 0 = t.val / 8 ∧ win1_5.index t 1 = 0 ∧ win1_5.index t 2 = t.val % 8 ∧ win1_5.index t 3 = 0 :=
  (by decide +kernel : ∀ t : Fin grid1.N, win1_5.index t 0 = t.val / 8 ∧ win1_5.index t 1 = 0 ∧ win1_5.index t 2 = t.val % 8 ∧ win1_5.index t 3 = 0)
theorem blk1_5 (f : ℕ → ℕ → ℝ) (h : Is4 (V cc main_v12_1) f) (t : Fin cfg1.N) (j : Fin 2) (r : Fin 512) :
    (iblk1 V cc 5 t : Vec Ideal S1x2x512x1 .f32) (ix4 0 j r 0) = ((f (2 * (t.val / 8) + j.val) (512 * (t.val % 8) + r.val) : ℝ) : EReal) := by
  have hr := r.isLt
  have ht : t.val < 64 := lt_of_lt_of_eq t.isLt N_1
  obtain ⟨e0, e1, e2, e3⟩ := idx1_5 t
  unfold iblk1
  rw [View.read_apply]
  refine Eq.trans ?_ (h ⟨t.val / 8, by omega⟩ j ⟨512 * (t.val % 8) + r.val, by omega⟩)
  show V cc main_v12_1 _ = _
  congr 1
  funext a
  apply Fin.ext
  match a with
  | ⟨0, _⟩ => show win1_5.index t 0 * 1 + 1 * 0 = t.val / 8; rw [e0]; omega
  | ⟨1, _⟩ => show win1_5.index t 1 * 2 + 1 * j.val = j.val; rw [e1]; omega
  | ⟨2, _⟩ => show win1_5.index t 2 * 512 + 1 * r.val = 512 * (t.val % 8) + r.val; rw [e2]; omega
  | ⟨3, _⟩ => show win1_5.index t 3 * 1 + 1 * 0 = 0; rw [e3]

/-! The points' coordinates. -/

theorem coord0 : ∀ t : Fin cfg0.N, (grid0.coords t 1).val = t.val % 8 := (by decide +kernel : ∀ t : Fin grid0.N, (grid0.coords t 1).val = t.val % 8)
theorem coord1 : ∀ t : Fin cfg1.N, (grid1.coords t 1).val = t.val % 8 := (by decide +kernel : ∀ t : Fin grid1.N, (grid1.coords t 1).val = t.val % 8)

/-- The forward call's arrays hold the attention's queries, keys and values. -/
structure Fwd (A : Whole) : Prop where
  q : Is (V cc main_v5) A.Q
  k : Is (V cc main_v9) A.K
  v : Is (V cc main_v11) A.V

/-- The gradient call's arrays hold the attention's. -/
structure Bwd (A : Whole) : Prop extends Fwd V cc A where
  o : Is (V cc main_v12_0) A.O
  g : Is (V cc main_v13) A.G
  l : Is4 (V cc main_v12_1) A.L

variable {V cc} {A : Whole}

/-- What a point of the forward call leaves. -/
theorem fwd_lse (H : Fwd V cc A) (t : Fin cfg0.N) (h : Fin 2) (r : Fin 512) :
    (outsAt0 V cc t).2 (ix4 0 h r 0) = ((A.lse (2 * (t.val / 8) + h.val) (512 * (t.val % 8) + r.val) : ℝ) : EReal) := by
  unfold outsAt0
  dsimp only
  refine (lse_value _ _ _ _ _ _ _ _ _ _ _ _ _ _ _ _ _ _ (blk0_0 V cc _ H.q t) (blk0_1 V cc _ H.k t) (blk0_2 V cc _ H.v t) h r).trans ?_
  unfold Whole.lse
  rw [Whole.see_tile, show score (fun r d => A.Q (512 * (t.val % 8) + r) (256 * (t.val / 8) + d)) (fun r d => A.K r (256 * (t.val / 8) + d)) h.val r.val
      = A.s (2 * (t.val / 8) + h.val) (512 * (t.val % 8) + r.val) from funext fun k => (A.tile_s (t.val / 8) (t.val % 8) h.val r.val k)]
  unfold seen
  rw [coord0]
theorem fwd_out (H : Fwd V cc A) (t : Fin cfg0.N) : Is (outsAt0 V cc t).1 fun r d => A.out (512 * (t.val % 8) + r) (128 * (t.val / 8) + d) := by
  intro r d
  have hd := d.isLt
  unfold outsAt0
  dsimp only
  refine (out_value _ _ _ _ _ _ _ _ _ _ _ _ _ _ _ _ _ _ (blk0_0 V cc _ H.q t) (blk0_1 V cc _ H.k t) (blk0_2 V cc _ H.v t) r d).trans ?_
  unfold Whole.out
  rw [Whole.see_tile, show score (fun r d => A.Q (512 * (t.val % 8) + r) (256 * (t.val / 8) + d)) (fun r d => A.K r (256 * (t.val / 8) + d)) (d.val / 64) r.val
      = A.s ((128 * (t.val / 8) + d.val) / 64) (512 * (t.val % 8) + r.val) from funext fun k => by
        rw [show (128 * (t.val / 8) + d.val) / 64 = 2 * (t.val / 8) + d.val / 64 by omega]
        exact A.tile_s (t.val / 8) (t.val % 8) (d.val / 64) r.val k]
  unfold seen
  rw [coord0]

/-- The gradient's body reads its tile. -/
theorem reads (H : Bwd V cc A) (t : Fin cfg1.N) :
    Reads (grid1.coords t) (iblk1 V cc 0 t) (iblk1 V cc 1 t) (iblk1 V cc 2 t) (iblk1 V cc 3 t) (iblk1 V cc 4 t) (iblk1 V cc 5 t) (A.tile (t.val / 8) (t.val % 8)) where
  q := blk1_0 V cc _ H.q t
  k := blk1_1 V cc _ H.k t
  v := blk1_2 V cc _ H.v t
  o := blk1_3 V cc _ H.o t
  g := blk1_4 V cc _ H.g t
  l := blk1_5 V cc _ H.l t
  n r _ := by rw [coord1]; rfl

/-- The zeros that a pair starts from. -/
theorem dk0_is (arg9 : Memref sig .tc .vmem S4096x256 .f32) : Is (arg9.view.read (Elt Ideal) (dk0 arg9)) fun _ _ => 0 := by
  intro r d
  unfold dk0 dkZero
  refine (View.read_writes_cons_unit_of_mem arg9.view _ _ _ _ _ (ix2 r d) rfl (fun a => by fin_cases a <;> simp)).trans ?_
  unfold k1_pay26; pointwise; rfl
theorem dv0_is (arg10 : Memref sig .tc .vmem S4096x128 .f32) : Is (arg10.view.read (Elt Ideal) (dv0 arg10)) fun _ _ => 0 := by
  intro r d
  unfold dv0 dvZero
  refine (View.read_writes_cons_unit_of_mem arg10.view _ _ _ _ _ (ix2 r d) rfl (fun a => by fin_cases a <;> simp)).trans ?_
  unfold k1_pay27; pointwise; rfl

/-- The gradients of a pair's keys and values after its tiles up to `q`. -/
def dkUpto (A : Whole) (p n : ℕ) (k d : ℕ) : ℝ := ∑ q ∈ range n, (A.tile p q).dk k d
def dvUpto (A : Whole) (p n : ℕ) (k d : ℕ) : ℝ := ∑ q ∈ range n, (A.tile p q).dv k d

theorem dkUpto_succ (p q k d : ℕ) (hd : d < 256) : dkUpto A p q k d + (if k < 512 * q + 512 then (A.tile p q).dk k d else 0) = dkUpto A p (q + 1) k d := by
  unfold dkUpto
  rw [Finset.sum_range_succ]
  congr 1
  split_ifs with h
  · rfl
  · rw [A.tile_dk_zero p q k d hd (by omega)]
theorem dvUpto_succ (p q k d : ℕ) (hd : d < 128) : dvUpto A p q k d + (if k < 512 * q + 512 then (A.tile p q).dv k d else 0) = dvUpto A p (q + 1) k d := by
  unfold dvUpto
  rw [Finset.sum_range_succ]
  congr 1
  split_ifs with h
  · rfl
  · rw [A.tile_dv_zero p q k d hd (by omega)]

/-- What a point leaves: the first of a pair, -/
theorem bwd_A (H : Bwd V cc A) (t : Fin cfg1.N) (h0 : t.val % 8 = 0) :
    Is (outsAt1 V cc t.val t.isLt).1 ((A.tile (t.val / 8) (t.val % 8)).dq (512 * (t.val % 8) + 512))
    ∧ Is (outsAt1 V cc t.val t.isLt).2.1 (dkUpto A (t.val / 8) (t.val % 8 + 1)) ∧ Is (outsAt1 V cc t.val t.isLt).2.2 (dvUpto A (t.val / 8) (t.val % 8 + 1)) := by
  have h1 : ¬t.val % 8 = 7 := by omega
  have R := reads H t
  rw [outsAt1_A V cc t h0 h1]
  dsimp only
  refine ⟨?_, ?_, ?_⟩
  · rw [outA6_eq]
    exact (dqFin_is _ _ _ _ _ _ _ _ _ _ _ _ _ _ _ _ _ _ _ _ _ R _ _ (dk0_is _) (dv0_is _)).congr fun _ _ _ _ => by rw [coord1]
  · rw [outA7_eq]
    refine (dkFin_is _ _ _ _ _ _ _ _ _ _ _ _ _ _ _ _ _ _ _ _ _ R _ _ (dk0_is _) (dv0_is _)).congr fun k _ d hd => ?_
    rw [← dkUpto_succ _ _ _ _ hd, coord1, h0]; rfl
  · rw [outA8_eq]
    refine (dvFin_is _ _ _ _ _ _ _ _ _ _ _ _ _ _ _ _ _ _ _ _ _ R _ _ (dk0_is _) (dv0_is _)).congr fun k _ d hd => ?_
    rw [← dvUpto_succ _ _ _ _ hd, coord1, h0]; rfl

/-- a later one, over what the point before left, -/
theorem bwd_B (H : Bwd V cc A) (t : Fin cfg1.N) (h0 : ¬t.val % 8 = 0) (h1 : ¬t.val % 8 = 7)
    (h7 : Is (outsAt1 V cc (t.val - 1) (Nat.lt_of_le_of_lt (Nat.sub_le _ _) t.isLt)).2.1 (dkUpto A (t.val / 8) (t.val % 8)))
    (h8 : Is (outsAt1 V cc (t.val - 1) (Nat.lt_of_le_of_lt (Nat.sub_le _ _) t.isLt)).2.2 (dvUpto A (t.val / 8) (t.val % 8))) :
    Is (outsAt1 V cc t.val t.isLt).1 ((A.tile (t.val / 8) (t.val % 8)).dq (512 * (t.val % 8) + 512))
    ∧ Is (outsAt1 V cc t.val t.isLt).2.1 (dkUpto A (t.val / 8) (t.val % 8 + 1)) ∧ Is (outsAt1 V cc t.val t.isLt).2.2 (dvUpto A (t.val / 8) (t.val % 8 + 1)) := by
  have R := reads H t
  rw [outsAt1_B V cc t h0 h1]
  dsimp only
  generalize (outsAt1 V cc (t.val - 1) (Nat.lt_of_le_of_lt (Nat.sub_le _ _) t.isLt)).2.1 = xo7 at h7 ⊢
  generalize (outsAt1 V cc (t.val - 1) (Nat.lt_of_le_of_lt (Nat.sub_le _ _) t.isLt)).2.2 = xo8 at h8 ⊢
  rw [← (hs1_7 t).read_unread xo7] at h7
  rw [← (hs1_8 t).read_unread xo8] at h8
  refine ⟨?_, ?_, ?_⟩
  · rw [outB6_eq]
    exact (dqFin_is _ _ _ _ _ _ _ _ _ _ _ _ _ _ _ _ _ _ _ _ _ R _ _ h7 h8).congr fun _ _ _ _ => by rw [coord1]
  · rw [outB7_eq]
    refine (dkFin_is _ _ _ _ _ _ _ _ _ _ _ _ _ _ _ _ _ _ _ _ _ R _ _ h7 h8).congr fun k _ d hd => ?_
    rw [← dkUpto_succ _ _ _ _ hd, coord1]
  · rw [outB8_eq]
    refine (dvFin_is _ _ _ _ _ _ _ _ _ _ _ _ _ _ _ _ _ _ _ _ _ R _ _ h7 h8).congr fun k _ d hd => ?_
    rw [← dvUpto_succ _ _ _ _ hd, coord1]

/-- and the last, with the gradient of the keys scaled. -/
theorem bwd_C (H : Bwd V cc A) (t : Fin cfg1.N) (h0 : ¬t.val % 8 = 0) (h1 : t.val % 8 = 7)
    (h7 : Is (outsAt1 V cc (t.val - 1) (Nat.lt_of_le_of_lt (Nat.sub_le _ _) t.isLt)).2.1 (dkUpto A (t.val / 8) (t.val % 8)))
    (h8 : Is (outsAt1 V cc (t.val - 1) (Nat.lt_of_le_of_lt (Nat.sub_le _ _) t.isLt)).2.2 (dvUpto A (t.val / 8) (t.val % 8))) :
    Is (outsAt1 V cc t.val t.isLt).1 ((A.tile (t.val / 8) (t.val % 8)).dq (512 * (t.val % 8) + 512))
    ∧ Is (outsAt1 V cc t.val t.isLt).2.1 (fun k d => dkUpto A (t.val / 8) (t.val % 8 + 1) k d * c) ∧ Is (outsAt1 V cc t.val t.isLt).2.2 (dvUpto A (t.val / 8) (t.val % 8 + 1)) := by
  have R := reads H t
  rw [outsAt1_C V cc t h0 h1]
  dsimp only
  generalize (outsAt1 V cc (t.val - 1) (Nat.lt_of_le_of_lt (Nat.sub_le _ _) t.isLt)).2.1 = xo7 at h7 ⊢
  generalize (outsAt1 V cc (t.val - 1) (Nat.lt_of_le_of_lt (Nat.sub_le _ _) t.isLt)).2.2 = xo8 at h8 ⊢
  rw [← (hs1_7 t).read_unread xo7] at h7
  rw [← (hs1_8 t).read_unread xo8] at h8
  refine ⟨?_, ?_, ?_⟩
  · rw [outC6_eq]
    exact (dqFin_is _ _ _ _ _ _ _ _ _ _ _ _ _ _ _ _ _ _ _ _ _ R _ _ h7 h8).congr fun _ _ _ _ => by rw [coord1]
  · rw [outC7_eq]
    intro k d
    rw [bpay1_apply, EReal.coe_mul]
    refine congrArg (· * _) ((dkFin_is _ _ _ _ _ _ _ _ _ _ _ _ _ _ _ _ _ _ _ _ _ R _ _ h7 h8).congr (fun k _ d hd => ?_) k d)
    rw [← dkUpto_succ _ _ _ _ hd, coord1]
  · rw [outC8_eq]
    refine (dvFin_is _ _ _ _ _ _ _ _ _ _ _ _ _ _ _ _ _ _ _ _ _ R _ _ h7 h8).congr fun k _ d hd => ?_
    rw [← dvUpto_succ _ _ _ _ hd, coord1]

/-- The gradients after tile `q` of a pair, before the last. -/
theorem upto_is (H : Bwd V cc A) (p : ℕ) (hp : p < 8) : ∀ (q n : ℕ), q < 7 → n = 8 * p + q → ∀ h : n < cfg1.N,
    Is (outsAt1 V cc n h).1 ((A.tile p q).dq (512 * q + 512))
    ∧ Is (outsAt1 V cc n h).2.1 (dkUpto A p (q + 1)) ∧ Is (outsAt1 V cc n h).2.2 (dvUpto A p (q + 1)) := by
  intro q
  induction q with
  | zero =>
    intro n hq hn h
    have := bwd_A H ⟨n, h⟩ (by show n % 8 = 0; omega)
    rwa [show ((⟨n, h⟩ : Fin cfg1.N).val / 8) = p by show n / 8 = p; omega, show ((⟨n, h⟩ : Fin cfg1.N).val % 8) = 0 by show n % 8 = 0; omega] at this
  | succ q ih =>
    intro n hq hn h
    obtain ⟨-, i7, i8⟩ := ih (n - 1) (by omega) (by omega) (by omega)
    have e1 : n / 8 = p := by omega
    have e2 : n % 8 = q + 1 := by omega
    have := bwd_B H ⟨n, h⟩ (by show ¬n % 8 = 0; omega) (by show ¬n % 8 = 7; omega) (by show Is _ (dkUpto A (n / 8) (n % 8)); rw [e1, e2]; exact i7) (by show Is _ (dvUpto A (n / 8) (n % 8)); rw [e1, e2]; exact i8)
    dsimp only at this
    rwa [e1, e2] at this

theorem last_is (H : Bwd V cc A) (t : Fin cfg1.N) (h1 : t.val % 8 = 7) :
    Is (outsAt1 V cc t.val t.isLt).1 ((A.tile (t.val / 8) (t.val % 8)).dq (512 * (t.val % 8) + 512))
    ∧ Is (outsAt1 V cc t.val t.isLt).2.1 (fun k d => dkUpto A (t.val / 8) (t.val % 8 + 1) k d * c) ∧ Is (outsAt1 V cc t.val t.isLt).2.2 (dvUpto A (t.val / 8) (t.val % 8 + 1)) := by
  have ht : t.val < 64 := lt_of_lt_of_eq t.isLt N_1
  obtain ⟨-, i7, i8⟩ := upto_is H (t.val / 8) (by omega) 6 (t.val - 1) (by omega) (by omega) (Nat.lt_of_le_of_lt (Nat.sub_le _ _) t.isLt)
  exact bwd_C H t (by omega) h1 (by rw [h1]; exact i7) (by rw [h1]; exact i8)

/-- The gradients' blocks: of the queries at every point, of the keys and the values at a pair's last. -/
theorem bwd_dq (H : Bwd V cc A) (t : Fin cfg1.N) : Is (outsAt1 V cc t.val t.isLt).1 fun r d => A.dq (512 * (t.val % 8) + r) (256 * (t.val / 8) + d) := by
  have ht : t.val < 64 := lt_of_lt_of_eq t.isLt N_1
  have : Is (outsAt1 V cc t.val t.isLt).1 ((A.tile (t.val / 8) (t.val % 8)).dq (512 * (t.val % 8) + 512)) := by
    by_cases h1 : t.val % 8 = 7
    · exact (last_is H t h1).1
    · exact (upto_is H (t.val / 8) (by omega) (t.val % 8) t.val (by omega) (by omega) t.isLt).1
  exact this.congr fun r hr d hd => A.tile_dq _ _ r d (by omega) hr hd
theorem bwd_dk (H : Bwd V cc A) (t : Fin cfg1.N) (h1 : t.val % 8 = 7) : Is (outsAt1 V cc t.val t.isLt).2.1 fun k d => A.dk k (256 * (t.val / 8) + d) := by
  refine (last_is H t h1).2.1.congr fun k _ d hd => ?_
  rw [h1]; exact A.sum_dk _ k d hd
theorem bwd_dv (H : Bwd V cc A) (t : Fin cfg1.N) (h1 : t.val % 8 = 7) : Is (outsAt1 V cc t.val t.isLt).2.2 fun k d => A.dv k (128 * (t.val / 8) + d) := by
  refine (last_is H t h1).2.2.congr fun k _ d hd => ?_
  rw [h1]; exact A.sum_dv _ k d hd

end Cert.AttnIdeal.Result

end
-- ==== Proof.AttnArr.lean ====
/-
  The two attention calls' result arrays.
-/
module

public import proofs.«01_k».proof.Proof.AttnPoint

@[expose] public section

set_option maxRecDepth 16384

noncomputable section

namespace Cert.AttnIdeal.Result

open Cert.AttnIdeal Cert.AttnIdeal.Gen Idealize.ShloMosaic Idealize.ShloMosaic.TcCoe Idealize.SL.Sem
open Cert.Softmax (c e2)

open Finset (range)

/-- An array of reals. -/
def arr {a b : ℕ} (f : ℕ → ℕ → ℝ) (i : (⟨2, ![a, b]⟩ : Shape).Idx) : EReal := ((f (i 0).val (i 1).val : ℝ) : EReal)
/-- The log-sums' array. -/
def arr4 (f : ℕ → ℕ → ℝ) (i : S8x2x4096x1.Idx) : EReal := ((f (2 * (i 0).val + (i 1).val) (i 2).val : ℝ) : EReal)

theorem Is.eq_arr {a b : ℕ} {x : (⟨2, ![a, b]⟩ : Shape).Idx → EReal} {f : ℕ → ℕ → ℝ} (h : Is x f) : x = arr f := by
  funext i
  rw [eq_ix2 i]
  exact h _ _
theorem is_arr {a b : ℕ} (f : ℕ → ℕ → ℝ) : Is (arr (a := a) (b := b) f) f := fun _ _ => rfl
theorem is4_arr4 (f : ℕ → ℕ → ℝ) : Is4 (arr4 f) f := fun _ _ _ => rfl

variable {V : (c : Dev nD) → (b : Ref sig .tc) → Buf (Elt Ideal) ((c : Thread nD τ).loc b)} {cc : Dev nD} {A : Whole}

theorem idx0_3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)
theorem final_o (H : Fwd V cc A) : (dat0 V cc).arrAt 3 cfg0.N = arr (a := 4096) (b := 1024) A.out := by
  refine (dat0 V cc).arrAt_eq_of_cover 3 _ (fun t hf => ?_) fun i => ?_
  · show (cfg0.win 3).cut (grid0.coords t) ((dat0 V cc).after 3 t) = _
    rw [after0_3]
    have ht : t.val < 64 := lt_of_lt_of_eq t.isLt N_0
    funext j
    obtain ⟨r, d, rfl⟩ : ∃ (r : Fin 512) (d : Fin 128), j = ix2 r d := ⟨j 0, j 1, eq_ix2 j⟩
    refine (fwd_out H t r d).trans ?_
    rw [View.read_apply]
    show ((A.out (512 * (t.val % 8) + r.val) (128 * (t.val / 8) + d.val) : ℝ) : EReal) = ((A.out (win0_3.index t 0 * 512 + 1 * r.val) (win0_3.index t 1 * 128 + 1 * d.val) : ℝ) : EReal)
    rw [(idx0_3 t).1, (idx0_3 t).2]
    congr 2 <;> omega
  · have hN : cfg0.N = 64 := N_0
    have h0 : (i 0 : Nat) < 4096 := (i 0).isLt
    have h1 : (i 1 : Nat) < 1024 := (i 1).isLt
    have ht : 8 * ((i 1 : Nat) / 128) + (i 0 : Nat) / 512 < cfg0.N := by omega
    refine ⟨⟨8 * ((i 1 : Nat) / 128) + (i 0 : Nat) / 512, ht⟩, flush0_3 _, ?_⟩
    generalize hT : (⟨8 * ((i 1 : Nat) / 128) + (i 0 : Nat) / 512, ht⟩ : Fin cfg0.N) = T
    have hv : T.val = 8 * ((i 1 : Nat) / 128) + (i 0 : Nat) / 512 := by rw [← hT]
    show i ∈ ((View.whole main_v12_0).slice (win0_3.rect T)).set
    rw [View.set_slice_whole, Rect.mem_set_unit]
    intro a
    match a with
    | ⟨0, _⟩ => show win0_3.index T 0 * 512 ≤ (i 0 : Nat) ∧ (i 0 : Nat) < win0_3.index T 0 * 512 + 512
                rw [(idx0_3 T).1]; omega
    | ⟨1, _⟩ => show win0_3.index T 1 * 128 ≤ (i 1 : Nat) ∧ (i 1 : Nat) < win0_3.index T 1 * 128 + 128
                rw [(idx0_3 T).2]; omega

theorem idx0_4 : ∀ t : Fin cfg0.N, win0_4.index t 0 = t.val / 8 ∧ win0_4.index t 1 = 0 ∧ win0_4.index t 2 = t.val % 8 ∧ win0_4.index t 3 = 0 :=
  (by decide +kernel : ∀ t : Fin grid0.N, win0_4.index t 0 = t.val / 8 ∧ win0_4.index t 1 = 0 ∧ win0_4.index t 2 = t.val % 8 ∧ win0_4.index t 3 = 0)
theorem final_lse (H : Fwd V cc A) : (dat0 V cc).arrAt 4 cfg0.N = arr4 A.lse := by
  refine (dat0 V cc).arrAt_eq_of_cover 4 _ (fun t hf => ?_) fun i => ?_
  · show (cfg0.win 4).cut (grid0.coords t) ((dat0 V cc).after 4 t) = _
    rw [after0_4]
    obtain ⟨e0, e1, e2, e3⟩ := idx0_4 t
    funext j
    obtain ⟨h, r, rfl⟩ : ∃ (h : Fin 2) (r : Fin 512), j = ix4 (0 : Fin 1) h r (0 : Fin 1) := ⟨j 1, j 2, by
      funext a
      match a with
      | ⟨0, _⟩ => exact Fin.ext (Nat.lt_one_iff.mp (j 0).isLt)
      | ⟨1, _⟩ => rfl
      | ⟨2, _⟩ => rfl
      | ⟨3, _⟩ => exact Fin.ext (Nat.lt_one_iff.mp (j 3).isLt)⟩
    refine (fwd_lse H t h r).trans ?_
    rw [View.read_apply]
    show ((A.lse (2 * (t.val / 8) + h.val) (512 * (t.val % 8) + r.val) : ℝ) : EReal)
      = ((A.lse (2 * (win0_4.index t 0 * 1 + 1 * 0) + (win0_4.index t 1 * 2 + 1 * h.val)) (win0_4.index t 2 * 512 + 1 * r.val) : ℝ) : EReal)
    rw [e0, e1, e2]
    congr 2 <;> omega
  · have hN : cfg0.N = 64 := N_0
    have h0 : (i 0 : Nat) < 8 := (i 0).isLt
    have h1 : (i 1 : Nat) < 2 := (i 1).isLt
    have h2 : (i 2 : Nat) < 4096 := (i 2).isLt
    have h3 : (i 3 : Nat) < 1 := (i 3).isLt
    have ht : 8 * (i 0 : Nat) + (i 2 : Nat) / 512 < cfg0.N := by omega
    refine ⟨⟨8 * (i 0 : Nat) + (i 2 : Nat) / 512, ht⟩, flush0_4 _, ?_⟩
    generalize hT : (⟨8 * (i 0 : Nat) + (i 2 : Nat) / 512, ht⟩ : Fin cfg0.N) = T
    have hv : T.val = 8 * (i 0 : Nat) + (i 2 : Nat) / 512 := by rw [← hT]
    obtain ⟨e0, e1, e2, e3⟩ := idx0_4 T
    show i ∈ ((View.whole main_v12_1).slice (win0_4.rect T)).set
    rw [View.set_slice_whole, Rect.mem_set_unit]
    intro a
    match a with
    | ⟨0, _⟩ => show win0_4.index T 0 * 1 ≤ (i 0 : Nat) ∧ (i 0 : Nat) < win0_4.index T 0 * 1 + 1
                rw [e0]; omega
    | ⟨1, _⟩ => show win0_4.index T 1 * 2 ≤ (i 1 : Nat) ∧ (i 1 : Nat) < win0_4.index T 1 * 2 + 2
                rw [e1]; omega
    | ⟨2, _⟩ => show win0_4.index T 2 * 512 ≤ (i 2 : Nat) ∧ (i 2 : Nat) < win0_4.index T 2 * 512 + 512
                rw [e2]; omega
    | ⟨3, _⟩ => show win0_4.index T 3 * 1 ≤ (i 3 : Nat) ∧ (i 3 : Nat) < win0_4.index T 3 * 1 + 1
                rw [e3]; omega

theorem idx1_6 : ∀ t : Fin cfg1.N, win1_6.index t 0 = t.val % 8 ∧ win1_6.index t 1 = t.val / 8 :=
  (by decide +kernel : ∀ t : Fin grid1.N, win1_6.index t 0 = t.val % 8 ∧ win1_6.index t 1 = t.val / 8)
theorem final_dq (H : Bwd V cc A) : (dat1 V cc).arrAt 6 cfg1.N = arr (a := 4096) (b := 2048) A.dq := by
  refine (dat1 V cc).arrAt_eq_of_cover 6 _ (fun t hf => ?_) fun i => ?_
  · show (cfg1.win 6).cut (grid1.coords t) ((dat1 V cc).after 6 t) = _
    rw [after1_6]
    have ht : t.val < 64 := lt_of_lt_of_eq t.isLt N_1
    funext j
    obtain ⟨r, d, rfl⟩ : ∃ (r : Fin 512) (d : Fin 256), j = ix2 r d := ⟨j 0, j 1, eq_ix2 j⟩
    refine (bwd_dq H t r d).trans ?_
    rw [View.read_apply]
    show ((A.dq (512 * (t.val % 8) + r.val) (256 * (t.val / 8) + d.val) : ℝ) : EReal) = ((A.dq (win1_6.index t 0 * 512 + 1 * r.val) (win1_6.index t 1 * 256 + 1 * d.val) : ℝ) : EReal)
    rw [(idx1_6 t).1, (idx1_6 t).2]
    congr 2 <;> omega
  · have hN : cfg1.N = 64 := N_1
    have h0 : (i 0 : Nat) < 4096 := (i 0).isLt
    have h1 : (i 1 : Nat) < 2048 := (i 1).isLt
    have ht : 8 * ((i 1 : Nat) / 256) + (i 0 : Nat) / 512 < cfg1.N := by omega
    refine ⟨⟨8 * ((i 1 : Nat) / 256) + (i 0 : Nat) / 512, ht⟩, flush1_6 _, ?_⟩
    generalize hT : (⟨8 * ((i 1 : Nat) / 256) + (i 0 : Nat) / 512, ht⟩ : Fin cfg1.N) = T
    have hv : T.val = 8 * ((i 1 : Nat) / 256) + (i 0 : Nat) / 512 := by rw [← hT]
    show i ∈ ((View.whole main_v14_0).slice (win1_6.rect T)).set
    rw [View.set_slice_whole, Rect.mem_set_unit]
    intro a
    match a with
    | ⟨0, _⟩ => show win1_6.index T 0 * 512 ≤ (i 0 : Nat) ∧ (i 0 : Nat) < win1_6.index T 0 * 512 + 512
                rw [(idx1_6 T).1]; omega
    | ⟨1, _⟩ => show win1_6.index T 1 * 256 ≤ (i 1 : Nat) ∧ (i 1 : Nat) < win1_6.index T 1 * 256 + 256
                rw [(idx1_6 T).2]; omega

theorem idx1_7 : ∀ t : Fin cfg1.N, win1_7.index t 0 = 0 ∧ win1_7.index t 1 = t.val / 8 :=
  (by decide +kernel : ∀ t : Fin grid1.N, win1_7.index t 0 = 0 ∧ win1_7.index t 1 = t.val / 8)
theorem final_dk (H : Bwd V cc A) : (dat1 V cc).arrAt 7 cfg1.N = arr (a := 4096) (b := 2048) A.dk := by
  refine (dat1 V cc).arrAt_eq_of_cover 7 _ (fun t hf => ?_) fun i => ?_
  · show (cfg1.win 7).cut (grid1.coords t) ((dat1 V cc).after 7 t) = _
    rw [after1_7]
    have ht : t.val < 64 := lt_of_lt_of_eq t.isLt N_1
    funext j
    obtain ⟨r, d, rfl⟩ : ∃ (r : Fin 4096) (d : Fin 256), j = ix2 r d := ⟨j 0, j 1, eq_ix2 j⟩
    refine (bwd_dk H t ((flush1_7 t).mp hf) r d).trans ?_
    rw [View.read_apply]
    show ((A.dk (r.val) (256 * (t.val / 8) + d.val) : ℝ) : EReal) = ((A.dk (win1_7.index t 0 * 4096 + 1 * r.val) (win1_7.index t 1 * 256 + 1 * d.val) : ℝ) : EReal)
    rw [(idx1_7 t).1, (idx1_7 t).2]
    congr 2 <;> omega
  · have hN : cfg1.N = 64 := N_1
    have h0 : (i 0 : Nat) < 4096 := (i 0).isLt
    have h1 : (i 1 : Nat) < 2048 := (i 1).isLt
    have ht : 8 * ((i 1 : Nat) / 256) + 7 < cfg1.N := by omega
    refine ⟨⟨8 * ((i 1 : Nat) / 256) + 7, ht⟩, (flush1_7 _).mpr (by dsimp only; omega), ?_⟩
    generalize hT : (⟨8 * ((i 1 : Nat) / 256) + 7, ht⟩ : Fin cfg1.N) = T
    have hv : T.val = 8 * ((i 1 : Nat) / 256) + 7 := by rw [← hT]
    show i ∈ ((View.whole main_v14_1).slice (win1_7.rect T)).set
    rw [View.set_slice_whole, Rect.mem_set_unit]
    intro a
    match a with
    | ⟨0, _⟩ => show win1_7.index T 0 * 4096 ≤ (i 0 : Nat) ∧ (i 0 : Nat) < win1_7.index T 0 * 4096 + 4096
                rw [(idx1_7 T).1]; omega
    | ⟨1, _⟩ => show win1_7.index T 1 * 256 ≤ (i 1 : Nat) ∧ (i 1 : Nat) < win1_7.index T 1 * 256 + 256
                rw [(idx1_7 T).2]; omega

theorem idx1_8 : ∀ t : Fin cfg1.N, win1_8.index t 0 = 0 ∧ win1_8.index t 1 = t.val / 8 :=
  (by decide +kernel : ∀ t : Fin grid1.N, win1_8.index t 0 = 0 ∧ win1_8.index t 1 = t.val / 8)
theorem final_dv (H : Bwd V cc A) : (dat1 V cc).arrAt 8 cfg1.N = arr (a := 4096) (b := 1024) A.dv := by
  refine (dat1 V cc).arrAt_eq_of_cover 8 _ (fun t hf => ?_) fun i => ?_
  · show (cfg1.win 8).cut (grid1.coords t) ((dat1 V cc).after 8 t) = _
    rw [after1_8]
    have ht : t.val < 64 := lt_of_lt_of_eq t.isLt N_1
    funext j
    obtain ⟨r, d, rfl⟩ : ∃ (r : Fin 4096) (d : Fin 128), j = ix2 r d := ⟨j 0, j 1, eq_ix2 j⟩
    refine (bwd_dv H t ((flush1_8 t).mp hf) r d).trans ?_
    rw [View.read_apply]
    show ((A.dv (r.val) (128 * (t.val / 8) + d.val) : ℝ) : EReal) = ((A.dv (win1_8.index t 0 * 4096 + 1 * r.val) (win1_8.index t 1 * 128 + 1 * d.val) : ℝ) : EReal)
    rw [(idx1_8 t).1, (idx1_8 t).2]
    congr 2 <;> omega
  · have hN : cfg1.N = 64 := N_1
    have h0 : (i 0 : Nat) < 4096 := (i 0).isLt
    have h1 : (i 1 : Nat) < 1024 := (i 1).isLt
    have ht : 8 * ((i 1 : Nat) / 128) + 7 < cfg1.N := by omega
    refine ⟨⟨8 * ((i 1 : Nat) / 128) + 7, ht⟩, (flush1_8 _).mpr (by dsimp only; omega), ?_⟩
    generalize hT : (⟨8 * ((i 1 : Nat) / 128) + 7, ht⟩ : Fin cfg1.N) = T
    have hv : T.val = 8 * ((i 1 : Nat) / 128) + 7 := by rw [← hT]
    show i ∈ ((View.whole main_v14_2).slice (win1_8.rect T)).set
    rw [View.set_slice_whole, Rect.mem_set_unit]
    intro a
    match a with
    | ⟨0, _⟩ => show win1_8.index T 0 * 4096 ≤ (i 0 : Nat) ∧ (i 0 : Nat) < win1_8.index T 0 * 4096 + 4096
                rw [(idx1_8 T).1]; omega
    | ⟨1, _⟩ => show win1_8.index T 1 * 128 ≤ (i 1 : Nat) ∧ (i 1 : Nat) < win1_8.index T 1 * 128 + 128
                rw [(idx1_8 T).2]; omega

end Cert.AttnIdeal.Result

end
-- ==== Proof.AttnHost.lean ====
/-
  The attention's host lines over the reals: a head's no-position and rotary parts side by side, and heads side by side.
-/
module

public import proofs.«01_k».proof.Proof.AttnArr

@[expose] public section

set_option maxRecDepth 16384

noncomputable section

namespace Cert.AttnIdeal.Result

open Cert.AttnIdeal Cert.AttnIdeal.Gen Idealize.ShloMosaic Idealize.ShloMosaic.TcCoe Idealize.SL.Sem
open Cert.Softmax (c e2)

/-- An array `[rows, heads, lanes]` of reals. -/
def Is3 {a b n : ℕ} (x : (⟨3, ![a, b, n]⟩ : Shape).Idx → EReal) (f : ℕ → ℕ → ℕ → ℝ) : Prop :=
  ∀ (r : Fin a) (h : Fin b) (d : Fin n), x (ix3 r h d) = ((f r.val h.val d.val : ℝ) : EReal)

/-- 64 lanes, then 32, then 32 zeros. -/
def join (f g : ℕ → ℕ → ℕ → ℝ) (r h d : ℕ) : ℝ := if d < 64 then f r h d else if d < 96 then g r h (d - 64) else 0

theorem join_is (x : (⟨3, ![4096, 16, 64]⟩ : Shape).Idx → EReal) (y z : (⟨3, ![4096, 16, 32]⟩ : Shape).Idx → EReal) (f g : ℕ → ℕ → ℕ → ℝ)
    (hx : Is3 x f) (hy : Is3 y g) (hz : Is3 z fun _ _ _ => 0) (H) :
    Is3 (concatenate (⟨3, ![4096, 16, 128]⟩ : Shape) 2 [⟨⟨3, ![4096, 16, 64]⟩, x⟩, ⟨⟨3, ![4096, 16, 32]⟩, y⟩, ⟨⟨3, ![4096, 16, 32]⟩, z⟩] H) (join f g) := by
  intro r h d
  unfold join
  pointwise
  by_cases h1 : d.val < 64
  · simp only [h1, ↓reduceDIte, ↓reduceIte]; exact hx _ _ _
  by_cases h2 : d.val - 64 < 32
  · have h2' : d.val < 96 := by omega
    simp only [h1, h2, h2', ↓reduceDIte, ↓reduceIte]; exact hy _ _ _
  · have h2' : ¬d.val < 96 := by omega
    simp only [h1, h2, h2', ↓reduceDIte, ↓reduceIte]; exact hz _ _ _

/-- Heads of 64 lanes side by side. -/
theorem flat64 (x : (⟨3, ![4096, 16, 64]⟩ : Shape).Idx → EReal) (f : ℕ → ℕ → ℕ → ℝ) (hx : Is3 x f) (H) :
    Is (shapeCast (⟨2, ![4096, 1024]⟩ : Shape) x H) fun r d => f r (d / 64) (d % 64) := by
  intro r d
  have hd := d.isLt
  have hr := r.isLt
  refine (shapeCast_apply x H (ix2 r d) (ix3 r (⟨d.val / 64, by omega⟩ : Fin 16) (⟨d.val % 64, by omega⟩ : Fin 64)) ?_).trans (hx _ _ _)
  rewrite [Shape.rowMajor_val_three, Shape.rowMajor_val_two]
  show (r.val * 16 + d.val / 64) * 64 + d.val % 64 = r.val * 1024 + d.val
  omega

/-- Heads of 128 lanes side by side. -/
theorem flat128 (x : (⟨3, ![4096, 16, 128]⟩ : Shape).Idx → EReal) (f : ℕ → ℕ → ℕ → ℝ) (hx : Is3 x f) (H) :
    Is (shapeCast (⟨2, ![4096, 2048]⟩ : Shape) x H) fun r d => f r (d / 128) (d % 128) := by
  intro r d
  have hd := d.isLt
  have hr := r.isLt
  refine (shapeCast_apply x H (ix2 r d) (ix3 r (⟨d.val / 128, by omega⟩ : Fin 16) (⟨d.val % 128, by omega⟩ : Fin 128)) ?_).trans (hx _ _ _)
  rewrite [Shape.rowMajor_val_three, Shape.rowMajor_val_two]
  show (r.val * 16 + d.val / 128) * 128 + d.val % 128 = r.val * 2048 + d.val
  omega

end Cert.AttnIdeal.Result

end
-- ==== Proof.AttnRun.lean ====
/-
  The attention and its gradient as the program runs them: the host lines, the two calls one after the other, and the
  results' values at real arguments.
-/
module

public import proofs.«01_k».proof.Proof.AttnHost

@[expose] public section

set_option maxRecDepth 16384

noncomputable section

namespace Cert.AttnIdeal.Result

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyFloat

variable {F : FTy → Type} [FloatOps F] [Named F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every run ends with the result arrays at the contents that the second call leaves, the arguments unchanged. -/
theorem runs : θ_run defs (onTc (τ := τ) (main (F := F))) ⟨m, fun _ => 0, ρ⟩ fun r => ∀ c : Dev nD,
      r.2.mem ((c : Thread nD τ).loc main_v12_0) = W4 m ρ c main_v12_0
      ∧ r.2.mem ((c : Thread nD τ).loc main_v12_1) = W4 m ρ c main_v12_1
      ∧ r.2.mem ((c : Thread nD τ).loc main_v14_0) = W4 m ρ c main_v14_0
      ∧ r.2.mem ((c : Thread nD τ).loc main_v14_1) = W4 m ρ c main_v14_1
      ∧ r.2.mem ((c : Thread nD τ).loc main_v14_2) = W4 m ρ c main_v14_2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v12_0 (by decide)),
       h c _ (mem_uc main_v12_1 (by decide)),
       h c _ (mem_uc main_v14_0 (by decide)),
       h c _ (mem_uc main_v14_1 (by decide)),
       h c _ (mem_uc main_v14_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end AnyFloat

end Cert.AttnIdeal.Result

end
-- ==== Proof.AttnResult.lean ====
/-
  The attention program's results at real arguments.
-/
module

public import proofs.«01_k».proof.Proof.AttnRun
public import Idealize.ShloMosaic.Lib.Claim

@[expose] public section

set_option maxRecDepth 16384

noncomputable section

namespace Cert.AttnIdeal.Result

open Cert.AttnIdeal Cert.AttnIdeal.Gen Idealize.ShloMosaic Idealize.ShloMosaic.TcCoe Idealize.SL.Sem
open Cert.Softmax (c e2)

/-- The arguments' reals: the queries' and the keys' no-position and rotary parts, the values and the cotangent. -/
structure In where
  (qn qr kn v g : ℕ → ℕ → ℕ → ℝ)
  (kr : ℕ → ℕ → ℝ)

/-- The arguments are real. -/
structure In.Holds (I : In) (x0 : (⟨3, ![4096, 16, 64]⟩ : Shape).Idx → EReal) (x1 : (⟨3, ![4096, 16, 32]⟩ : Shape).Idx → EReal)
    (x2 : (⟨3, ![4096, 16, 64]⟩ : Shape).Idx → EReal) (x3 : (⟨2, ![4096, 32]⟩ : Shape).Idx → EReal) (x4 x5 : (⟨3, ![4096, 16, 64]⟩ : Shape).Idx → EReal) : Prop where
  qn : Is3 x0 I.qn
  qr : Is3 x1 I.qr
  kn : Is3 x2 I.kn
  kr : Is x3 I.kr
  v : Is3 x4 I.v
  g : Is3 x5 I.g

/-- The attention's arrays but for what the forward call saves; -/
def In.base (I : In) : Whole where
  Q r d := join I.qn I.qr r (d / 128) (d % 128)
  K r d := join I.kn (fun r _ d => I.kr r d) r (d / 128) (d % 128)
  V r d := I.v r (d / 64) (d % 64)
  G r d := I.g r (d / 64) (d % 64)
  O _ _ := 0
  L _ _ := 0
/-- and with the outputs and log-sums it saves. -/
def In.whole (I : In) : Whole := { I.base with O := I.base.out, L := I.base.lse }

section Host

variable (m : (ℓ : Loc nD τ sig) → Buf (Elt Ideal) ℓ) (ρ : Dev nD → PrngReg) (cc : Dev nD)

theorem V1_v5 : V1 m ρ cc main_v5 = truncf (F := Ideal) .bf16 (shapeCast S4096x2048 (concatenate S4096x16x128 2 [⟨S4096x16x64, m ((cc : Thread nD τ).loc main_arg0)⟩, ⟨S4096x16x32, m ((cc : Thread nD τ).loc main_arg1)⟩,
    ⟨S4096x16x32, broadcastInDim S4096x16x32 ![] bcast_S_S4096x16x32 (constant (F := Ideal) S_ .f32 0x00000000#32)⟩] concatenates_S4096x16x64_S4096x16x32_S4096x16x32_S4096x16x128_d2) shapeCasts_S4096x16x128_S4096x2048) bitsLt_bf16_f32 := by
  unfold_abbrev_sides
  after_results
  rfl
theorem V1_v9 : V1 m ρ cc main_v9 = truncf (F := Ideal) .bf16 (shapeCast S4096x2048 (concatenate S4096x16x128 2 [⟨S4096x16x64, m ((cc : Thread nD τ).loc main_arg2)⟩,
    ⟨S4096x16x32, broadcastInDim S4096x16x32 ![0, 1, 2] bcast_S4096x1x32_S4096x16x32_0_1_2 (broadcastInDim S4096x1x32 ![0, 2] bcast_S4096x32_S4096x1x32_0_2 (m ((cc : Thread nD τ).loc main_arg3)))⟩,
    ⟨S4096x16x32, broadcastInDim S4096x16x32 ![] bcast_S_S4096x16x32 (constant (F := Ideal) S_ .f32 0x00000000#32)⟩] concatenates_S4096x16x64_S4096x16x32_S4096x16x32_S4096x16x128_d2) shapeCasts_S4096x16x128_S4096x2048) bitsLt_bf16_f32 := by
  unfold_abbrev_sides
  after_results
  rfl
theorem V1_v11 : V1 m ρ cc main_v11 = truncf (F := Ideal) .bf16 (shapeCast S4096x1024 (m ((cc : Thread nD τ).loc main_arg4)) shapeCasts_S4096x16x64_S4096x1024) bitsLt_bf16_f32 := by
  unfold_abbrev_sides
  after_results
  rfl
theorem V3_v13 : V3 m ρ cc main_v13 = shapeCast S4096x1024 (m ((cc : Thread nD τ).loc main_arg5)) shapeCasts_S4096x16x64_S4096x1024 := by
  have e : V3 m ρ cc main_v13 = shapeCast S4096x1024 (W2 m ρ cc (Proc.devRef .tc main_arg5)) shapeCasts_S4096x16x64_S4096x1024 := by
    unfold_abbrev_sides
    after_results
    rfl
  rw [e, W2_args m ρ cc main_arg5 (by decide)]

theorem zero_is : Is3 (broadcastInDim S4096x16x32 ![] bcast_S_S4096x16x32 (constant (F := Ideal) S_ .f32 0x00000000#32) : FVec Ideal S4096x16x32 .f32) fun _ _ _ => 0 := by
  intro r h d
  pointwise
  rfl

end Host

variable {m : (ℓ : Loc nD τ sig) → Buf (Elt Ideal) ℓ} {ρ : Dev nD → PrngReg} {cc : Dev nD} {I : In}
  (H : I.Holds (m ((cc : Thread nD τ).loc main_arg0)) (m ((cc : Thread nD τ).loc main_arg1)) (m ((cc : Thread nD τ).loc main_arg2))
    (m ((cc : Thread nD τ).loc main_arg3)) (m ((cc : Thread nD τ).loc main_arg4)) (m ((cc : Thread nD τ).loc main_arg5)))
include H

theorem fwd_in : Fwd (V1 m ρ) cc I.base where
  q := by
    rw [V1_v5]
    exact flat128 _ _ (join_is _ _ _ _ _ H.qn H.qr zero_is concatenates_S4096x16x64_S4096x16x32_S4096x16x32_S4096x16x128_d2) shapeCasts_S4096x16x128_S4096x2048
  k := by
    rw [V1_v9]
    have hk : Is3 (broadcastInDim S4096x16x32 ![0, 1, 2] bcast_S4096x1x32_S4096x16x32_0_1_2 (broadcastInDim S4096x1x32 ![0, 2] bcast_S4096x32_S4096x1x32_0_2 (m ((cc : Thread nD τ).loc main_arg3)) : FVec Ideal S4096x1x32 .f32) : FVec Ideal S4096x16x32 .f32) fun r _ d => I.kr r d := by
      intro r h d
      pointwise
      exact H.kr r d
    exact flat128 _ _ (join_is _ _ _ _ _ H.kn hk zero_is concatenates_S4096x16x64_S4096x16x32_S4096x16x32_S4096x16x128_d2) shapeCasts_S4096x16x128_S4096x2048
  v := by
    rw [V1_v11]
    exact flat64 _ _ H.v _

theorem W2_o : W2 m ρ cc (Proc.devRef .tc main_v12_0) = arr (a := 4096) (b := 1024) I.base.out := (W2_arr m ρ cc 3).trans (final_o (fwd_in H))
theorem W2_lse : W2 m ρ cc (Proc.devRef .tc main_v12_1) = arr4 I.base.lse := (W2_arr m ρ cc 4).trans (final_lse (fwd_in H))

theorem bwd_in : Bwd (V3 m ρ) cc I.whole where
  q := by
    rw [show V3 m ρ cc main_v5 = V1 m ρ cc main_v5 from (W3_of m ρ cc main_v5 (by decide)).trans (W2_of m ρ cc main_v5 (by decide))]
    exact (fwd_in H).q
  k := by
    rw [show V3 m ρ cc main_v9 = V1 m ρ cc main_v9 from (W3_of m ρ cc main_v9 (by decide)).trans (W2_of m ρ cc main_v9 (by decide))]
    exact (fwd_in H).k
  v := by
    rw [show V3 m ρ cc main_v11 = V1 m ρ cc main_v11 from (W3_of m ρ cc main_v11 (by decide)).trans (W2_of m ρ cc main_v11 (by decide))]
    exact (fwd_in H).v
  o := by
    rw [show V3 m ρ cc main_v12_0 = arr (a := 4096) (b := 1024) I.base.out from (W3_of m ρ cc main_v12_0 (by decide)).trans (W2_o H)]
    exact is_arr _
  l := by
    rw [show V3 m ρ cc main_v12_1 = arr4 I.base.lse from (W3_of m ρ cc main_v12_1 (by decide)).trans (W2_lse H)]
    exact is4_arr4 _
  g := by
    rw [V3_v13]
    exact flat64 _ _ H.g _

/-- The results. -/
theorem res_o : W4 m ρ cc main_v12_0 = arr (a := 4096) (b := 1024) I.whole.O :=
  (W4_of m ρ cc main_v12_0 (by decide)).trans ((W3_of m ρ cc main_v12_0 (by decide)).trans (W2_o H))
theorem res_lse : W4 m ρ cc main_v12_1 = arr4 I.whole.L :=
  (W4_of m ρ cc main_v12_1 (by decide)).trans ((W3_of m ρ cc main_v12_1 (by decide)).trans (W2_lse H))
theorem res_dq : W4 m ρ cc main_v14_0 = arr (a := 4096) (b := 2048) I.whole.dq := (W4_arr m ρ cc 6).trans (final_dq (bwd_in H))
theorem res_dk : W4 m ρ cc main_v14_1 = arr (a := 4096) (b := 2048) I.whole.dk := (W4_arr m ρ cc 7).trans (final_dk (bwd_in H))
theorem res_dv : W4 m ρ cc main_v14_2 = arr (a := 4096) (b := 1024) I.whole.dv := (W4_arr m ρ cc 8).trans (final_dv (bwd_in H))

end Cert.AttnIdeal.Result

end
-- ==== Proof.AttnRef.lean ====
/-
  The reference attention's arrays over the reals: masked scores, softmax, and the chain rule back through both.
-/
module

public import proofs.«01_k».proof.Proof.AttnResult
public import proofs.«01_k».proof.Proof.Gen.AttnRefIdeal.Read

@[expose] public section

set_option maxRecDepth 16384

noncomputable section

namespace Cert.AttnRefIdeal.Result

open Cert.AttnRefIdeal Cert.AttnRefIdeal.Gen Cert.AttnRefIdeal.Read Idealize.ShloMosaic Idealize.ShloMosaic.TcCoe Idealize.SL.Sem
open Cert.AttnIdeal.Result (Is Is3 Is.eq_arr arr arr4 In Whole join)
open Cert.Softmax (c)
open Finset (range)

theorem at2 {a b : ℕ} {x : (⟨2, ![a, b]⟩ : Shape).Idx → EReal} {f : ℕ → ℕ → ℝ} (h : Is x f) (i : (⟨2, ![a, b]⟩ : Shape).Idx) :
    x i = ((f (i 0).val (i 1).val : ℝ) : EReal) := by
  have e := h (i 0) (i 1)
  rwa [← eq_ix2] at e
theorem at3 {a b n : ℕ} {x : (⟨3, ![a, b, n]⟩ : Shape).Idx → EReal} {f : ℕ → ℕ → ℕ → ℝ} (h : Is3 x f) (i : (⟨3, ![a, b, n]⟩ : Shape).Idx) :
    x i = ((f (i 0).val (i 1).val (i 2).val : ℝ) : EReal) := by
  have e := h (i 0) (i 1) (i 2)
  rwa [← eq_ix3] at e

/-- A sum of reals, term by term. -/
theorem sum_real {n : ℕ} (f : Fin n → EReal) (a : ℕ → ℝ) (h : ∀ k, f k = ((a k.val : ℝ) : EReal)) : ∑ k, f k = ((∑ k ∈ range n, a k : ℝ) : EReal) := by
  rw [Finset.sum_range, Softmax.coe_sum]
  exact Finset.sum_congr rfl fun k _ => h k
theorem mul_real {x y : EReal} {a b : ℝ} (hx : x = a) (hy : y = b) : x * y = ((a * b : ℝ) : EReal) := by rw [hx, hy, EReal.coe_mul]
theorem add_real {x y : EReal} {a b : ℝ} (hx : x = a) (hy : y = b) : x + y = ((a + b : ℝ) : EReal) := by rw [hx, hy, EReal.coe_add]
theorem zero_add_real {x z : EReal} {a : ℝ} (hz : z = 0) (hx : x = a) : z + x = (a : EReal) := by rw [hx, hz, zero_add]
theorem div_real {x y : EReal} {a b : ℝ} (hb : b ≠ 0) (hx : x = a) (hy : y = b) : Ideal.div x y = ((a / b : ℝ) : EReal) := by
  rw [hx, hy, Ideal.div_coe hb, ← EReal.coe_mul, mul_one_div]

theorem f32_96 : Ideal.ofBits .f32 0x42C00000#32 = ((96 : ℝ) : EReal) := by
  simp [Ideal.ofBits, Ideal.ieee, -EReal.coe_mul]; norm_num
theorem f32_one : Ideal.ofBits .f32 0x3F800000#32 = ((1 : ℝ) : EReal) := by
  simp [Ideal.ofBits, Ideal.ieee, -EReal.coe_mul]; norm_num
theorem f32_ninf : Ideal.ofBits .f32 0xFF800000#32 = ⊥ := by
  simp [Ideal.ofBits, Ideal.ieee]

/-! ## The mask -/

theorem chunk (i : S4096.Idx) : val_main_v2 (F := Ideal) i = BitVec.ofNat 32 ((i 0).val / 64) := by
  rw [val_main_v2_apply, val_main_v0_apply, val_main_v1_apply, val_main_c_apply]
  exact (by decide +kernel : ∀ r : Fin 4096, IntOp.divsi .host (BitVec.ofNat 32 r.val) 64#32 = BitVec.ofNat 32 (r.val / 64)) (i 0)

theorem ge_chunk : ∀ a b : Fin 64, IntOp.cmpi .sge (BitVec.ofNat 32 a.val) (BitVec.ofNat 32 b.val) = if b.val ≤ a.val then 1#1 else 0#1 := by decide +kernel

theorem seen (i : S16x4096x4096.Idx) : val_main_v18_1 (F := Ideal) i = if (i 2).val < Whole.see (i 1).val then 1#1 else 0#1 := by
  have h1 : (i 1).val < 4096 := (i 1).isLt
  have h2 : (i 2).val < 4096 := (i 2).isLt
  rw [val_main_v18_1_apply, val_main_v17_apply, val_main_v7_apply, val_main_v5_apply, val_main_v6_apply, val_main_v3_apply, val_main_v4_apply, chunk, chunk]
  refine (ge_chunk ⟨(i 1).val / 64, by omega⟩ ⟨(i 2).val / 64, by omega⟩).trans ?_
  unfold Whole.see
  exact if_congr (by show (i 2).val / 64 ≤ (i 1).val / 64 ↔ _; omega) rfl rfl

theorem select_seen {α : Type} (i : S16x4096x4096.Idx) (a b : α) : Scalar.select (val_main_v18_1 (F := Ideal) i) a b = if (i 2).val < Whole.see (i 1).val then a else b := by
  rw [seen]
  by_cases h : (i 2).val < Whole.see (i 1).val
  · rw [if_pos h, if_pos h]; rfl
  · rw [if_neg h, if_neg h]; rfl

theorem scale_eq (i : S_.Idx) : val_main_v9 (F := Ideal) i = (c : EReal) := by
  rw [val_main_v9_apply, val_main_v8_apply, val_main_cst_apply, val_main_cst_0_apply, Ideal.hostUnary_sqrt_def, Ideal.hostDivf_def, Ideal.ofBits_def, Ideal.ofBits_def, f32_one]
  have e : Ideal.ofBits .f32 0x42C00000#32 = ((96 : ℝ) : EReal) := f32_96
  rw [e]
  have h : (0 : ℝ) < Real.sqrt 96 := Real.sqrt_pos.mpr (by norm_num)
  have e2 : Ideal.sqrt ((96 : ℝ) : EReal) = ((Real.sqrt 96 : ℝ) : EReal) := if_neg (by norm_num)
  rw [e2, div_real h.ne' rfl rfl, one_div]
  rfl

section

variable {I : In} {x0 : (⟨S4096x16x64, .f32⟩ : BufTy).Contents (Elt Ideal)} {x1 : (⟨S4096x16x32, .f32⟩ : BufTy).Contents (Elt Ideal)}
  {x2 : (⟨S4096x16x64, .f32⟩ : BufTy).Contents (Elt Ideal)} {x3 : (⟨S4096x32, .f32⟩ : BufTy).Contents (Elt Ideal)} {x4 x5 : (⟨S4096x16x64, .f32⟩ : BufTy).Contents (Elt Ideal)}
  (H : I.Holds x0 x1 x2 x3 x4 x5)

/-! ## Scores -/

/-- A head's 128 columns are 64 of the first part, 32 of the second, 32 zeros. -/
theorem s_split (j r k : ℕ) : I.whole.s j r k = (∑ d ∈ range 64, I.qn r j d * I.kn k j d) + ∑ d ∈ range 32, I.qr r j d * I.kr k d := by
  unfold Whole.s
  rw [show (128 : ℕ) = 64 + 32 + 32 from rfl, Finset.sum_range_add, Finset.sum_range_add]
  have hQ (d : ℕ) (hd : d < 128) : I.whole.Q r (128 * j + d) = join I.qn I.qr r j d := by
    show join I.qn I.qr r ((128 * j + d) / 128) ((128 * j + d) % 128) = _
    rw [show (128 * j + d) / 128 = j by omega, show (128 * j + d) % 128 = d by omega]
  have hK (d : ℕ) (hd : d < 128) : I.whole.K k (128 * j + d) = join I.kn (fun r _ d => I.kr r d) k j d := by
    show join I.kn (fun r _ d => I.kr r d) k ((128 * j + d) / 128) ((128 * j + d) % 128) = _
    rw [show (128 * j + d) / 128 = j by omega, show (128 * j + d) % 128 = d by omega]
  have h3 : ∑ d ∈ range 32, I.whole.Q r (128 * j + (64 + 32 + d)) * I.whole.K k (128 * j + (64 + 32 + d)) = 0 := Finset.sum_eq_zero fun d hd => by
    have := Finset.mem_range.mp hd
    rw [hQ _ (by omega), hK _ (by omega)]; unfold join
    rw [if_neg (by omega), if_neg (by omega), zero_mul]
  rw [h3, add_zero]
  congr 1 <;> refine Finset.sum_congr rfl fun d hd => ?_ <;> have := Finset.mem_range.mp hd <;> rw [hQ _ (by omega), hK _ (by omega)] <;> unfold join
  · rw [if_pos this, if_pos this]
  · rw [if_neg (by omega), if_pos (by omega), if_neg (by omega), if_pos (by omega), show 64 + d - 64 = d by omega]

include H

theorem r11 (i : S4096x16x32.Idx) : val_main_v11 (F := Ideal) x3 i = ((I.kr (i 0).val (i 2).val : ℝ) : EReal) := by
  rw [val_main_v11_apply, val_main_v10_apply]
  exact at2 H.kr _
theorem r14 : Is3 (val_main_v14 (F := Ideal) x0 x1 x2 x3) I.whole.s := by
  intro j r k
  rw [s_split, val_main_v14_apply]
  exact add_real ((val_main_v12_apply _ _ _).trans (sum_real _ _ fun d => mul_real (at3 H.qn _) (at3 H.kn _)))
    ((val_main_v13_apply _ _ _).trans (sum_real _ _ fun d => mul_real (at3 H.qr _) (r11 H _)))
theorem r18 (i : S16x4096x4096.Idx) : val_main_v18_0 (F := Ideal) x0 x1 x2 x3 i
    = if (i 2).val < Whole.see (i 1).val then ((I.whole.s (i 0).val (i 1).val (i 2).val * c : ℝ) : EReal) else ⊥ := by
  rw [val_main_v18_0_apply, select_seen]
  refine if_congr Iff.rfl ?_ ?_
  · rw [val_main_v16_apply, val_main_v15_apply]
    exact mul_real (at3 (r14 H) i) (scale_eq _)
  · rw [val_main_call0_v2_apply, val_main_call0_v0_apply, val_main_cst_1_apply, Ideal.ofBits_def]
    exact f32_ninf

/-! ## The row's pivot -/

theorem pivot (j : Fin 16) (r : Fin 4096) : ∃ M : ℝ, val_main_v26 (F := Ideal) x0 x1 x2 x3 (ix2 j r) = M := by
  rw [val_main_v26_apply, val_main_v25_apply, val_main_cst_4_apply, Ideal.ofBits_def, f32_ninf, Ideal.maximumf_def, max_eq_right bot_le]
  have hr (i : S16x4096x4096.Idx) : val_main_v18_0 (F := Ideal) x0 x1 x2 x3 i = ⊥ ∨ ∃ M : ℝ, val_main_v18_0 (F := Ideal) x0 x1 x2 x3 i = M := by
    rw [r18 H]
    by_cases h : (i 2).val < Whole.see (i 1).val
    · rw [if_pos h]; exact .inr ⟨_, rfl⟩
    · rw [if_neg h]; exact .inl rfl
  have e : val_main_v19 (F := Ideal) x0 x1 x2 x3 (ix2 j r) = Finset.univ.fold max ⊥ fun k : Fin 4096 => val_main_v18_0 (F := Ideal) x0 x1 x2 x3 (ix3 j r k) := by
    unfold val_main_v19
    generalize val_main_v18_0 (F := Ideal) x0 x1 x2 x3 = y
    rw [← f32_ninf]
    simp only [pointwise]
    rfl
  rw [e]
  refine (Softmax.fold_max_real _ _ _ (.inl rfl) fun k => hr _).resolve_left fun hb => ?_
  have h0 := (Finset.le_fold_max (s := Finset.univ) (f := fun k : Fin 4096 => val_main_v18_0 (F := Ideal) x0 x1 x2 x3 (ix3 j r k)) (b := ⊥) (val_main_v18_0 (F := Ideal) x0 x1 x2 x3 (ix3 j r 0))).mpr (.inr ⟨0, Finset.mem_univ _, le_rfl⟩)
  rw [hb, r18 H, if_pos (by show 0 < Whole.see r.val; unfold Whole.see; omega), le_bot_iff] at h0
  exact EReal.coe_ne_bot _ h0
theorem pivots : ∃ M : ℕ → ℕ → ℝ, Is (val_main_v26 (F := Ideal) x0 x1 x2 x3) M := by
  classical
  choose M hM using pivot H
  refine ⟨fun j r => if h : j < 16 ∧ r < 4096 then M ⟨j, h.1⟩ ⟨r, h.2⟩ else 0, fun j r => ?_⟩
  show _ = ((if h : j.val < 16 ∧ r.val < 4096 then M ⟨j.val, h.1⟩ ⟨r.val, h.2⟩ else 0 : ℝ) : EReal)
  rw [hM, dif_pos ⟨j.isLt, r.isLt⟩]

end

/-! ## Softmax and the chain rule -/

/-- The exponential of a score's distance to the pivot, nothing for a hidden key, and their sum over the row. -/
def ex (A : Whole) (M : ℕ → ℕ → ℝ) (j r k : ℕ) : ℝ := if k < Whole.see r then Real.exp (A.s j r k * c - M j r) else 0
def den (A : Whole) (M : ℕ → ℕ → ℝ) (j r : ℕ) : ℝ := ∑ k ∈ range 4096, ex A M j r k

theorem see_pos (r : ℕ) : 0 < Whole.see r := by unfold Whole.see; omega
theorem see_le (r : ℕ) (hr : r < 4096) : Whole.see r ≤ 4096 := by unfold Whole.see; omega

/-- A sum over all keys of which the seen ones count. -/
theorem sum_seen (r : ℕ) (hr : r < 4096) (f : ℕ → ℝ) : (∑ k ∈ range 4096, if k < Whole.see r then f k else 0) = ∑ k ∈ range (Whole.see r), f k := by
  rw [← Whole.sum_upto (fun k => if k < Whole.see r then f k else 0) (Whole.see r) 4096 (see_le r hr) fun k hk => if_neg (by omega)]
  exact Finset.sum_congr rfl fun k hk => if_pos (Finset.mem_range.mp hk)

theorem den_eq (A : Whole) (M : ℕ → ℕ → ℝ) (j r : ℕ) (hr : r < 4096) : den A M j r = Softmax.Z (A.s j r) (Whole.see r) * Real.exp (-M j r) := by
  unfold den ex Softmax.Z
  rw [sum_seen r hr, Finset.sum_mul]
  exact Finset.sum_congr rfl fun k _ => by rw [sub_eq_add_neg, Real.exp_add]
theorem den_pos (A : Whole) (M : ℕ → ℕ → ℝ) (j r : ℕ) (hr : r < 4096) : 0 < den A M j r := by
  rw [den_eq A M j r hr]
  exact mul_pos (Softmax.Z_pos _ _ (see_pos r)) (Real.exp_pos _)
/-- The softmax's weight does not depend on the pivot: it is the one that the log-sum gives. -/
theorem weight (M : ℕ → ℕ → ℝ) (I : In) (j r k : ℕ) (hr : r < 4096) : ex I.whole M j r k / den I.whole M j r = I.whole.w j r k := by
  have hZ := Softmax.Z_pos (I.whole.s j r) (Whole.see r) (see_pos r)
  rw [den_eq _ M j r hr]
  unfold ex Whole.w
  by_cases h : k < Whole.see r
  · rw [if_pos h, if_pos h]
    have hL : I.whole.L j r = Real.log (Softmax.Z (I.whole.s j r) (Whole.see r)) := rfl
    have e : Real.exp (I.whole.s j r k * c - Real.log (Softmax.Z (I.whole.s j r) (Whole.see r))) = Real.exp (I.whole.s j r k * c) / Softmax.Z (I.whole.s j r) (Whole.see r) := by
      rw [Real.exp_sub, Real.exp_log hZ]
    rw [hL, e, sub_eq_add_neg, Real.exp_add, mul_div_mul_right _ _ (Real.exp_pos _).ne']
  · rw [if_neg h, if_neg h, zero_div]

/-- The row's outputs are its weights times the values; -/
theorem out_eq (I : In) (j r d : ℕ) (hr : r < 4096) (hd : d < 64) : ∑ k ∈ range 4096, I.v k j d * I.whole.w j r k = I.whole.O r (64 * j + d) := by
  have hO : I.whole.O r (64 * j + d) = (∑ k ∈ range (Whole.see r), Real.exp (I.whole.s ((64 * j + d) / 64) r k * c) * I.v k ((64 * j + d) / 64) ((64 * j + d) % 64)) / Softmax.Z (I.whole.s ((64 * j + d) / 64) r) (Whole.see r) := rfl
  rw [hO, show (64 * j + d) / 64 = j by omega, show (64 * j + d) % 64 = d by omega, Finset.sum_div, ← sum_seen r hr]
  refine Finset.sum_congr rfl fun k _ => ?_
  have hZ := Softmax.Z_pos (I.whole.s j r) (Whole.see r) (see_pos r)
  have hL : I.whole.L j r = Real.log (Softmax.Z (I.whole.s j r) (Whole.see r)) := rfl
  unfold Whole.w
  by_cases h : k < Whole.see r
  · rw [if_pos h, if_pos h, hL, Real.exp_sub, Real.exp_log hZ]; ring
  · rw [if_neg h, if_neg h, mul_zero]
theorem dp_eq (I : In) (j r k : ℕ) : I.whole.dp j r k = ∑ d ∈ range 64, I.g r j d * I.v k j d := by
  unfold Whole.dp
  refine Finset.sum_congr rfl fun d hd => ?_
  have := Finset.mem_range.mp hd
  show I.g r ((64 * j + d) / 64) ((64 * j + d) % 64) * I.v k ((64 * j + d) / 64) ((64 * j + d) % 64) = _
  rw [show (64 * j + d) / 64 = j by omega, show (64 * j + d) % 64 = d by omega]
/-- and the weights' gradients, weighted, sum to the cotangent times the outputs. -/
theorem delta (I : In) (j r : ℕ) (hr : r < 4096) : ∑ k ∈ range 4096, I.whole.dp j r k * I.whole.w j r k = I.whole.dl j r := by
  unfold Whole.dl
  rw [Finset.sum_congr rfl fun k _ => by rw [dp_eq, Finset.sum_mul], Finset.sum_comm]
  refine Finset.sum_congr rfl fun d hd => ?_
  have hd := Finset.mem_range.mp hd
  rw [← out_eq I j r d hr hd, Finset.mul_sum]
  have hG : I.whole.G r (64 * j + d) = I.g r j d := by
    show I.g r ((64 * j + d) / 64) ((64 * j + d) % 64) = _
    rw [show (64 * j + d) / 64 = j by omega, show (64 * j + d) % 64 = d by omega]
  rw [hG]
  exact Finset.sum_congr rfl fun k _ => by ring

section

variable {I : In} {x0 : (⟨S4096x16x64, .f32⟩ : BufTy).Contents (Elt Ideal)} {x1 : (⟨S4096x16x32, .f32⟩ : BufTy).Contents (Elt Ideal)}
  {x2 : (⟨S4096x16x64, .f32⟩ : BufTy).Contents (Elt Ideal)} {x3 : (⟨S4096x32, .f32⟩ : BufTy).Contents (Elt Ideal)} {x4 x5 : (⟨S4096x16x64, .f32⟩ : BufTy).Contents (Elt Ideal)}
  (H : I.Holds x0 x1 x2 x3 x4 x5) {M : ℕ → ℕ → ℝ} (hM : Is (val_main_v26 (F := Ideal) x0 x1 x2 x3) M)

include H hM

theorem r39 : Is3 (val_main_v39 (F := Ideal) x0 x1 x2 x3) (ex I.whole M) := by
  intro j r k
  rw [val_main_v39_apply, val_main_v38_apply, val_main_v37_apply, val_main_v36_apply, r18 H, at2 hM, Ideal.subf_def, Ideal.hostUnary_exp_def]
  unfold ex
  show Ideal.exp ((if k.val < Whole.see r.val then ((I.whole.s j.val r.val k.val * c : ℝ) : EReal) else ⊥) - ((M j.val r.val : ℝ) : EReal)) = _
  by_cases h : k.val < Whole.see r.val
  · rw [if_pos h, if_pos h, ← EReal.coe_sub]; rfl
  · rw [if_neg h, if_neg h, EReal.bot_sub]; rfl
theorem r40 : Is (val_main_v40 (F := Ideal) x0 x1 x2 x3) (den I.whole M) := by
  intro j r
  rw [val_main_v40_apply, val_main_cst_10_apply, Ideal.ofBits_def, Ideal.ofBits_zero_f32]
  exact zero_add_real rfl (sum_real _ _ fun k => at3 (r39 H hM) _)
theorem r41 (i : S16x4096x1.Idx) : val_main_v41 (F := Ideal) x0 x1 x2 x3 i = ((den I.whole M (i 0).val (i 1).val : ℝ) : EReal) := by
  rw [val_main_v41_apply]; exact at2 (r40 H hM) _
theorem r43 : Is3 (val_main_v43 (F := Ideal) x0 x1 x2 x3) I.whole.w := by
  intro j r k
  rw [val_main_v43_apply, val_main_v42_apply, r41 H hM, ← weight M I j.val r.val k.val r.isLt]
  exact div_real (den_pos _ _ _ _ r.isLt).ne' (r39 H hM j r k) rfl
theorem r47 : Is3 (val_main_v47 (F := Ideal) x0 x1 x2 x3 x4) fun j d r => I.whole.O r (64 * j + d) := by
  intro j d r
  rw [val_main_v47_apply]
  show _ = ((I.whole.O r.val (64 * j.val + d.val) : ℝ) : EReal)
  rw [← out_eq I j.val r.val d.val r.isLt d.isLt]
  exact sum_real _ _ fun k => mul_real (at3 H.v _) (at3 (r43 H hM) _)
theorem r48 : Is3 (val_main_v48 (F := Ideal) x0 x1 x2 x3 x4) fun r j d => I.whole.O r (64 * j + d) := by
  intro r j d
  rw [val_main_v48_apply]
  exact at3 (r47 H hM) _
omit hM in
theorem r49 : Is3 (val_main_v49 (F := Ideal) x5) fun j d r => I.g r j d := by
  intro j d r
  rw [val_main_v49_apply]
  exact at3 H.g _
omit hM in
theorem r50 : Is3 (val_main_v50 (F := Ideal) x4 x5) I.whole.dp := by
  intro j r k
  rw [val_main_v50_apply, dp_eq]
  exact sum_real _ _ fun d => mul_real (at3 (r49 H) _) (at3 H.v _)
theorem r51 : Is3 (val_main_v51 (F := Ideal) x0 x1 x2 x3 x5) fun j d k => ∑ r ∈ range 4096, I.g r j d * I.whole.w j r k := by
  intro j d k
  rw [val_main_v51_apply]
  exact sum_real _ _ fun r => mul_real (at3 (r49 H) _) (at3 (r43 H hM) _)
theorem r52 : Is3 (val_main_v52 (F := Ideal) x0 x1 x2 x3 x5) fun k j d => ∑ r ∈ range 4096, I.g r j d * I.whole.w j r k := by
  intro k j d
  rw [val_main_v52_apply]
  exact at3 (r51 H hM) _
theorem r53 (i : S16x4096x4096.Idx) : val_main_v53 (F := Ideal) x0 x1 x2 x3 i = ((1 / (den I.whole M (i 0).val (i 1).val * den I.whole M (i 0).val (i 1).val) : ℝ) : EReal) := by
  rw [val_main_v53_apply, val_main_v46_apply, val_main_v45_apply, val_main_v44_apply, r41 H hM, val_main_cst_11_apply, Ideal.ofBits_def, f32_one]
  have hp := den_pos I.whole M (i 0).val (i 1).val (i 1).isLt
  exact div_real (mul_pos hp hp).ne' rfl (mul_real rfl rfl)
theorem r56 : Is (val_main_v56 (F := Ideal) x0 x1 x2 x3 x4 x5) fun j r => I.whole.dl j r / den I.whole M j r := by
  intro j r
  rw [val_main_v56_apply, val_main_cst_12_apply, Ideal.ofBits_def, Ideal.ofBits_zero_f32]
  show _ = ((I.whole.dl j.val r.val / den I.whole M j.val r.val : ℝ) : EReal)
  rw [← delta I j.val r.val r.isLt, Finset.sum_div]
  refine zero_add_real rfl (sum_real _ _ fun k => ?_)
  rw [val_main_v55_apply, val_main_v54_apply]
  refine (mul_real (mul_real (at3 (r50 H) _) (r53 H hM _)) (at3 (r39 H hM) _)).trans ?_
  show ((I.whole.dp j.val r.val k.val * (1 / (den I.whole M j.val r.val * den I.whole M j.val r.val)) * ex I.whole M j.val r.val k.val : ℝ) : EReal) = _
  rw [← weight M I j.val r.val k.val r.isLt]
  congr 1
  have hp := (den_pos I.whole M j.val r.val r.isLt).ne'
  field_simp
theorem r62 (i : S16x4096x4096.Idx) : val_main_v62 (F := Ideal) x0 x1 x2 x3 x4 x5 i = ((-(I.whole.dl (i 0).val (i 1).val / den I.whole M (i 0).val (i 1).val) : ℝ) : EReal) := by
  rw [val_main_v62_apply, val_main_v61_apply, val_main_cst_13_apply, Ideal.ofBits_def, Ideal.ofBits_zero_f32]
  refine zero_add_real rfl ((Fin.sum_univ_one _).trans ?_)
  have h1 : (i 1).val < 4096 := (i 1).isLt
  have e0 : (idx_main_v57 (idx_main_v61 (idx_main_v62 i) 0) 0).val = (i 0).val := by
    show (((i 0).val * 4096 + (i 1).val) * 1 + 0) / 4096 = _
    omega
  have e1 : (idx_main_v57 (idx_main_v61 (idx_main_v62 i) 0) 1).val = (i 1).val := by
    show (((i 0).val * 4096 + (i 1).val) * 1 + 0) % 4096 = _
    omega
  rw [val_main_v58_apply, val_main_v57_apply, at2 (r56 H hM), Ideal.hostNegf_def, Ideal.negf_def, e0, e1]
  exact (EReal.coe_neg _).symm
theorem r65 : Is3 (val_main_v65 (F := Ideal) x0 x1 x2 x3 x4 x5) I.whole.ds := by
  intro j r k
  have hp := (den_pos I.whole M j.val r.val r.isLt).ne'
  have e : val_main_v64 (F := Ideal) x0 x1 x2 x3 x4 x5 (ix3 j r k) = ((I.whole.ds j.val r.val k.val : ℝ) : EReal) := by
    have e59 : val_main_v59 (F := Ideal) x0 x1 x2 x3 (ix3 j r k) = ((den I.whole M j.val r.val : ℝ) : EReal) := (val_main_v59_apply _ _ _ _ _).trans (r41 H hM _)
    have e62 : val_main_v62 (F := Ideal) x0 x1 x2 x3 x4 x5 (ix3 j r k) = ((-(I.whole.dl j.val r.val / den I.whole M j.val r.val) : ℝ) : EReal) := r62 H hM _
    rw [val_main_v64_apply, val_main_v63_apply, val_main_v60_apply, e59, e62, r50 H, r39 H hM]
    refine (mul_real (add_real (div_real hp rfl rfl) rfl) rfl).trans ?_
    unfold Whole.ds
    rw [← weight M I j.val r.val k.val r.isLt]
    congr 1
    show (I.whole.dp j.val r.val k.val / den I.whole M j.val r.val + -(I.whole.dl j.val r.val / den I.whole M j.val r.val)) * ex I.whole M j.val r.val k.val = _
    field_simp
    ring
  rw [val_main_v65_apply, select_seen, e]
  by_cases h : k.val < Whole.see r.val
  · exact if_pos h
  · refine (if_neg h).trans ?_
    rw [Whole.ds_zero _ _ _ _ (by omega), val_main_call1_v0_apply, val_main_call1_cst_apply, Ideal.ofBits_def, Ideal.ofBits_zero_f32]
    rfl
theorem r67 : Is3 (val_main_v67 (F := Ideal) x0 x1 x2 x3 x4 x5) fun j r k => I.whole.ds j r k * c := by
  intro j r k
  rw [val_main_v67_apply, val_main_v66_apply]
  exact mul_real (r65 H hM j r k) (scale_eq _)

/-! ## The gradients of the queries' and the keys' parts -/

theorem r69 : Is3 (val_main_v69 (F := Ideal) x0 x1 x2 x3 x4 x5) fun k j d => ∑ r ∈ range 4096, I.whole.ds j r k * c * I.qr r j d := by
  intro k j d
  rw [val_main_v69_apply, val_main_v68_apply]
  exact sum_real _ _ fun r => mul_real (at3 (r67 H hM) _) (at3 H.qr _)
theorem r71 : Is3 (val_main_v71 (F := Ideal) x0 x1 x2 x3 x4 x5) fun r j d => ∑ k ∈ range 4096, I.whole.ds j r k * c * I.kr k d := by
  intro r j d
  rw [val_main_v71_apply, val_main_v70_apply]
  exact sum_real _ _ fun k => mul_real (at3 (r67 H hM) _) (r11 H _)
theorem r73 : Is3 (val_main_v73 (F := Ideal) x0 x1 x2 x3 x4 x5) fun k j d => ∑ r ∈ range 4096, I.whole.ds j r k * c * I.qn r j d := by
  intro k j d
  rw [val_main_v73_apply, val_main_v72_apply]
  exact sum_real _ _ fun r => mul_real (at3 (r67 H hM) _) (at3 H.qn _)
theorem r75 : Is3 (val_main_v75 (F := Ideal) x0 x1 x2 x3 x4 x5) fun r j d => ∑ k ∈ range 4096, I.whole.ds j r k * c * I.kn k j d := by
  intro r j d
  rw [val_main_v75_apply, val_main_v74_apply]
  exact sum_real _ _ fun k => mul_real (at3 (r67 H hM) _) (at3 H.kn _)
omit H hM in
theorem r79 : Is3 (val_main_v79 (F := Ideal)) fun _ _ _ => 0 := by
  intro r j d
  rw [val_main_v79_apply, val_main_cst_15_apply, Ideal.ofBits_def, Ideal.ofBits_zero_f32]
  rfl

/-! ## The results -/

omit hM in
theorem r78 : Is (val_main_v78 (F := Ideal) x0 x1 x2 x3) I.whole.L := by
  intro j r
  have hZ := Softmax.Z_pos (I.whole.s j.val r.val) (Whole.see r.val) (see_pos r.val)
  have e : val_main_v77 (F := Ideal) x0 x1 x2 x3 (ix2 j r) = ((Softmax.Z (I.whole.s j.val r.val) (Whole.see r.val) : ℝ) : EReal) := by
    rw [val_main_v77_apply, val_main_cst_14_apply, Ideal.ofBits_def, Ideal.ofBits_zero_f32]
    unfold Softmax.Z
    rw [← sum_seen r.val r.isLt]
    refine zero_add_real rfl (sum_real _ _ fun k => ?_)
    rw [val_main_v76_apply, r18 H, Ideal.hostUnary_exp_def]
    show Ideal.exp (if k.val < Whole.see r.val then ((I.whole.s j.val r.val k.val * c : ℝ) : EReal) else ⊥) = _
    by_cases h : k.val < Whole.see r.val
    · rw [if_pos h, if_pos h]; rfl
    · rw [if_neg h, if_neg h]; rfl
  rw [val_main_v78_apply, e, Ideal.hostUnary_log_def]
  exact if_neg (not_le.mpr hZ)

theorem dq_eq : val_main_v81 (F := Ideal) x0 x1 x2 x3 x4 x5 = arr I.whole.dq := by
  refine Is.eq_arr ((Cert.AttnIdeal.Result.flat128 _ _ (Cert.AttnIdeal.Result.join_is _ _ _ _ _ (r75 H hM) (r71 H hM) r79 _) _).congr fun r hr d hd => ?_)
  unfold Whole.dq
  rw [Finset.sum_mul]
  show join _ _ r (d / 128) (d % 128) = ∑ k ∈ range 4096, I.whole.ds (d / 128) r k * join I.kn (fun r _ d => I.kr r d) k (d / 128) (d % 128) * c
  unfold join
  split_ifs
  · exact Finset.sum_congr rfl fun k _ => by ring
  · exact Finset.sum_congr rfl fun k _ => by ring
  · simp
theorem dk_eq : val_main_v83 (F := Ideal) x0 x1 x2 x3 x4 x5 = arr I.whole.dk := by
  refine Is.eq_arr ((Cert.AttnIdeal.Result.flat128 _ _ (Cert.AttnIdeal.Result.join_is _ _ _ _ _ (r73 H hM) (r69 H hM) r79 _) _).congr fun k hk d hd => ?_)
  unfold Whole.dk
  rw [Finset.sum_mul]
  show join _ _ k (d / 128) (d % 128) = ∑ r ∈ range 4096, I.whole.ds (d / 128) r k * join I.qn I.qr r (d / 128) (d % 128) * c
  unfold join
  split_ifs
  · exact Finset.sum_congr rfl fun r _ => by ring
  · exact Finset.sum_congr rfl fun r _ => by ring
  · simp
theorem o_eq : val_main_v84 (F := Ideal) x0 x1 x2 x3 x4 = arr I.whole.O := by
  refine Is.eq_arr ((Cert.AttnIdeal.Result.flat64 _ _ (r48 H hM) _).congr fun r hr d hd => ?_)
  show I.whole.O r (64 * (d / 64) + d % 64) = _
  rw [Nat.div_add_mod]
theorem dv_eq : val_main_v86 (F := Ideal) x0 x1 x2 x3 x5 = arr I.whole.dv := by
  refine Is.eq_arr ((Cert.AttnIdeal.Result.flat64 _ _ (r52 H hM) _).congr fun k hk d hd => ?_)
  unfold Whole.dv
  show ∑ r ∈ range 4096, I.g r (d / 64) (d % 64) * I.whole.w (d / 64) r k = ∑ r ∈ range 4096, I.whole.w (d / 64) r k * I.g r (d / 64) (d % 64)
  exact Finset.sum_congr rfl fun r _ => mul_comm _ _
omit hM in
theorem lse_eq : val_main_v85 (F := Ideal) x0 x1 x2 x3 = arr4 I.whole.L := by
  funext i
  rw [val_main_v85_apply, at2 (r78 H)]
  show _ = ((I.whole.L (2 * (i 0).val + (i 1).val) (i 2).val : ℝ) : EReal)
  have h0 : (i 0).val < 8 := (i 0).isLt
  have h1 : (i 1).val < 2 := (i 1).isLt
  have h2 : (i 2).val < 4096 := (i 2).isLt
  have h3 : (i 3).val < 1 := (i 3).isLt
  congr 2
  · show ((((i 0).val * 2 + (i 1).val) * 4096 + (i 2).val) * 1 + (i 3).val) / 4096 = _
    omega
  · show ((((i 0).val * 2 + (i 1).val) * 4096 + (i 2).val) * 1 + (i 3).val) % 4096 = _
    omega

end

end Cert.AttnRefIdeal.Result

end
-- ==== Proof.Finite.lean ====
/-
  An array all of whose elements compare below infinity in absolute value is an array of reals.
-/
module

public import Idealize.ShloMosaic.Lib.ReduceAll
public import Idealize.ShloMosaic.Lib.Pointwise
public import Idealize.ShloMosaic.PureOps.Ideal.Laws

@[expose] public section

set_option maxRecDepth 16384

noncomputable section

namespace Cert.Finite

open Idealize.ShloMosaic

theorem f32_inf : Ideal.ofBits .f32 0x7F800000#32 = ⊤ := by simp [Ideal.ofBits, Ideal.ieee]

theorem real_of_lt {x : EReal} (h : Ideal.cmp .olt (max x (-x)) ⊤ = 1#1) : ∃ r : ℝ, x = r := by
  have hl : max x (-x) < ⊤ := by
    by_contra hn
    have e : Ideal.cmp .olt (max x (-x)) ⊤ = BitVec.ofBool (decide (max x (-x) < ⊤)) := rfl
    rw [e, decide_eq_false hn] at h
    exact absurd h (by decide)
  induction x with
  | bot => exact absurd hl (by simp)
  | top => exact absurd hl (by simp)
  | coe r => exact ⟨r, rfl⟩

/-- The conjunction over an array, read at an element. -/
theorem real_of_all {s t u c : Shape} [Subsingleton t.Idx] {axes : List (Fin s.rank)} (x : s.Idx → EReal) (dims : Fin c.rank → Fin s.rank) (hb : c.BroadcastsInDim s dims)
    (init : u.Idx → BitVec 1) (h : s.ReducesTo axes t) (hu : 0 < u.numel) (j : t.Idx)
    (e : Host.reduce IntOp.andi (cmpf (F := Ideal) (φ := .f32) .olt (Host.absf (F := Ideal) (φ := .f32) x) (broadcastInDim s dims hb (constant (F := Ideal) c .f32 0x7F800000#32))) init h hu j = 1#1) (i : s.Idx) :
    ∃ r : ℝ, x i = r := by
  have e1 := Host.reduce_andi_all _ init h hu j e i
  refine real_of_lt ?_
  rw [← f32_inf]
  exact e1

end Cert.Finite

end
-- ==== Proof.AttnProof.lean ====
/-
  The attention and its gradient: program and reference end with the same arrays, at finite arguments.
-/
module

public import proofs.«01_k».proof.Defs
public import proofs.«01_k».proof.Proof.AttnRef
public import proofs.«01_k».proof.Proof.Finite
public import proofs.«01_k».proof.Proof.Gen.Pre_attention_finite
public import Idealize.ShloMosaic.Lib.Claim

@[expose] public section

set_option maxRecDepth 16384

noncomputable section

namespace Cert.AttnProof

open Idealize.ShloMosaic Idealize.ShloMosaic.TcCoe Idealize.SL.Sem
open Cert.AttnIdeal.Result (Is Is3 arr arr4 In Whole)

/-- An array's entry as a real, zero past its end. -/
def entry3 {a b n : ℕ} (x : (⟨3, ![a, b, n]⟩ : Shape).Idx → EReal) (r h d : ℕ) : ℝ :=
  if p : r < a ∧ h < b ∧ d < n then (x (ix3 ⟨r, p.1⟩ ⟨h, p.2.1⟩ ⟨d, p.2.2⟩)).toReal else 0
def entry2 {a b : ℕ} (x : (⟨2, ![a, b]⟩ : Shape).Idx → EReal) (r d : ℕ) : ℝ :=
  if p : r < a ∧ d < b then (x (ix2 ⟨r, p.1⟩ ⟨d, p.2⟩)).toReal else 0

theorem is_entry3 {a b n : ℕ} (x : (⟨3, ![a, b, n]⟩ : Shape).Idx → EReal) (hx : ∀ i, ∃ r : ℝ, x i = r) : Is3 x (entry3 x) := by
  intro r h d
  obtain ⟨v, hv⟩ := hx (ix3 r h d)
  have e : entry3 x r.val h.val d.val = (x (ix3 r h d)).toReal := dif_pos ⟨r.isLt, h.isLt, d.isLt⟩
  rw [e, hv, EReal.toReal_coe]
theorem is_entry2 {a b : ℕ} (x : (⟨2, ![a, b]⟩ : Shape).Idx → EReal) (hx : ∀ i, ∃ r : ℝ, x i = r) : Is x (entry2 x) := by
  intro r d
  obtain ⟨v, hv⟩ := hx (ix2 r d)
  have e : entry2 x r.val d.val = (x (ix2 r d)).toReal := dif_pos ⟨r.isLt, d.isLt⟩
  rw [e, hv, EReal.toReal_coe]

def ofArgs (x0 : (⟨3, ![4096, 16, 64]⟩ : Shape).Idx → EReal) (x1 : (⟨3, ![4096, 16, 32]⟩ : Shape).Idx → EReal)
    (x2 : (⟨3, ![4096, 16, 64]⟩ : Shape).Idx → EReal) (x3 : (⟨2, ![4096, 32]⟩ : Shape).Idx → EReal) (x4 x5 : (⟨3, ![4096, 16, 64]⟩ : Shape).Idx → EReal) : In where
  qn := entry3 x0
  qr := entry3 x1
  kn := entry3 x2
  kr := entry2 x3
  v := entry3 x4
  g := entry3 x5

instance : Subsingleton Cert.Pre_attention_finite.S_.Idx := ⟨fun i j => funext fun a => a.elim0⟩

theorem and_one {s : Shape} (x y : IVec s 1) (i : s.Idx) : andi x y i = 1#1 ↔ x i = 1#1 ∧ y i = 1#1 := IntOp.andi_eq_one

/-- The precondition makes every argument an array of reals. -/
theorem holds (x0 : FVec Ideal Cert.Pre_attention_finite.S4096x16x64 .f32) (x1 : FVec Ideal Cert.Pre_attention_finite.S4096x16x32 .f32) (x2 : FVec Ideal Cert.Pre_attention_finite.S4096x16x64 .f32)
    (x3 : FVec Ideal Cert.Pre_attention_finite.S4096x32 .f32) (x4 x5 : FVec Ideal Cert.Pre_attention_finite.S4096x16x64 .f32)
    (h : Cert.Pre_attention_finite.fn (F := Ideal) x0 x1 x2 x3 x4 x5 = fun _ => 1#1) : (ofArgs x0 x1 x2 x3 x4 x5).Holds x0 x1 x2 x3 x4 x5 := by
  have e := congrFun h (fun a => a.elim0)
  unfold Cert.Pre_attention_finite.fn Cert.Pre_attention_finite.fn_part1 at e
  dsimp only at e
  simp only [and_one] at e
  obtain ⟨⟨⟨⟨⟨h0, h1⟩, h2⟩, h3⟩, h4⟩, h5⟩ := e
  exact ⟨is_entry3 _ (Finite.real_of_all _ _ _ _ _ _ _ h0), is_entry3 _ (Finite.real_of_all _ _ _ _ _ _ _ h1), is_entry3 _ (Finite.real_of_all _ _ _ _ _ _ _ h2),
    is_entry2 _ (Finite.real_of_all _ _ _ _ _ _ _ h3), is_entry3 _ (Finite.real_of_all _ _ _ _ _ _ _ h4), is_entry3 _ (Finite.real_of_all _ _ _ _ _ _ _ h5)⟩

theorem algebraic : Cert.algebraic_AttnIdeal_AttnRefIdeal_pre_attention_finite := by
  intro m g m' g' hpre hargs
  let I (c : Dev Cert.AttnIdeal.nD) : In := ofArgs (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) (m ((c : Thread Cert.AttnIdeal.nD Cert.AttnIdeal.τ).loc Cert.AttnIdeal.main_arg3)) (m ((c : Thread Cert.AttnIdeal.nD Cert.AttnIdeal.τ).loc Cert.AttnIdeal.main_arg4)) (m ((c : Thread Cert.AttnIdeal.nD Cert.AttnIdeal.τ).loc Cert.AttnIdeal.main_arg5))
  have H (c : Dev Cert.AttnIdeal.nD) : (I c).Holds (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2)) (m ((c : Thread Cert.AttnIdeal.nD Cert.AttnIdeal.τ).loc Cert.AttnIdeal.main_arg3)) (m ((c : Thread Cert.AttnIdeal.nD Cert.AttnIdeal.τ).loc Cert.AttnIdeal.main_arg4)) (m ((c : Thread Cert.AttnIdeal.nD Cert.AttnIdeal.τ).loc Cert.AttnIdeal.main_arg5)) := holds _ _ _ _ _ _ (hpre c)
  refine ⟨fun c => arr (I c).whole.O, fun c => arr4 (I c).whole.L, fun c => arr (I c).whole.dq, fun c => arr (I c).whole.dk, fun c => arr (I c).whole.dv, ?_, ?_⟩
  · refine (θ_run Cert.AttnIdeal.defs _ _).mono (fun r h c => ?_) (Cert.AttnIdeal.Result.runs m g)
    obtain ⟨h0, h1, h2, h3, h4, ha⟩ := h c
    exact ⟨h0.trans (Cert.AttnIdeal.Result.res_o (H c)), h1.trans (Cert.AttnIdeal.Result.res_lse (H c)), h2.trans (Cert.AttnIdeal.Result.res_dq (H c)),
      h3.trans (Cert.AttnIdeal.Result.res_dk (H c)), h4.trans (Cert.AttnIdeal.Result.res_dv (H c)), ha⟩
  · refine (θ_run Cert.AttnRefIdeal.defs _ _).mono (fun r h c => ?_) (Cert.AttnRefIdeal.Value.run m' g')
    obtain ⟨h0, h1, h2, h3, h4, ha⟩ := h c
    obtain ⟨a0, a1, a2, a3, a4, a5⟩ := hargs c
    have H' := H c
    rw [← a0, ← a1, ← a2, ← a3, ← a4, ← a5] at H'
    obtain ⟨M, hM⟩ := Cert.AttnRefIdeal.Result.pivots H'
    exact ⟨h0.trans ((Cert.AttnRefIdeal.Read.val_main_v84_eq m' c).trans (Cert.AttnRefIdeal.Result.o_eq H' hM)), h1.trans ((Cert.AttnRefIdeal.Read.val_main_v85_eq _ _ _ _).trans (Cert.AttnRefIdeal.Result.lse_eq H')),
      h2.trans ((Cert.AttnRefIdeal.Read.val_main_v81_eq m' c).trans (Cert.AttnRefIdeal.Result.dq_eq H' hM)), h3.trans ((Cert.AttnRefIdeal.Read.val_main_v83_eq m' c).trans (Cert.AttnRefIdeal.Result.dk_eq H' hM)),
      h4.trans ((Cert.AttnRefIdeal.Read.val_main_v86_eq m' c).trans (Cert.AttnRefIdeal.Result.dv_eq H' hM)), ha⟩

end Cert.AttnProof

end
-- ==== Proof.OutGrad.lean ====
/-
  The gradients of the attention's output projection with its gate, as the kernel computes them tile by tile of 256 rows, are the
  reference's: the cotangent itself, the gradient of the attention's output, the gated cotangent, the attention's output as the
  operand of the weight's gradient, and the gate's gradient, a sum over all rows accumulated in the kernel's last output.
-/
module

public import proofs.«01_k».proof.Defs
public import proofs.«01_k».proof.Proof.Gen.OIdeal.Value
public import proofs.«01_k».proof.Proof.Gen.ORefIdeal.Read
public import proofs.«01_k».proof.Proof.Literals
public import Idealize.ShloMosaic.Lib.Tactic
public import Idealize.ShloMosaic.Lib.Pointwise
public import Idealize.ShloMosaic.Lib.Pipeline.ValueKit
public import Idealize.ShloMosaic.Lib.Claim
public import Idealize.ShloMosaic.Lib.Tactic.ValueTie

@[expose] public section

set_option maxRecDepth 16384

noncomputable section

namespace Cert.OIdeal.Result

open Cert.OIdeal Cert.OIdeal.Gen Idealize.ShloMosaic Idealize.ShloMosaic.TcCoe Idealize.SL.Sem
open Cert.ORefIdeal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, 0])

/-- The reference's reshape of the cotangent moves nothing. -/
theorem idx_same (i : S4096x1024.Idx) : idx_main_v4 i = i := by
  funext a
  have h0 : (i 0).val < 4096 := (i 0).isLt
  have h1 : (i 1).val < 1024 := (i 1).isLt
  match a with
  | ⟨0, _⟩ => exact Fin.ext (by show ((i 0).val * 1024 + (i 1).val) / 1024 = (i 0).val; omega)
  | ⟨1, _⟩ => exact Fin.ext (by show ((i 0).val * 1024 + (i 1).val) % 1024 = (i 1).val; omega)

/-! ## What a grid point leaves in each output -/

theorem outs_dx (c : Dev nD) (t : Fin cfg0.N) : (outsAt0 m c t.val t.isLt).1 = iblk m c 2 t := by
  by_cases h0 : t.val % 16 = 0
  · rw [outsAt0_A m c t h0]; frame_out
  · rw [outsAt0_B m c t h0]; frame_out

theorem outs_do (c : Dev nD) (t : Fin cfg0.N) :
    (outsAt0 m c t.val t.isLt).2.1 = k0_pay5 (F := Ideal) (iblk m c 2 t) (iblk m c 3 t) (iblk m c 4 t) := by
  by_cases h0 : t.val % 16 = 0
  · rw [outsAt0_A m c t h0]; frame_out
  · rw [outsAt0_B m c t h0]; frame_out

theorem outs_dz (c : Dev nD) (t : Fin cfg0.N) :
    (outsAt0 m c t.val t.isLt).2.2.1 = k0_pay6 (F := Ideal) (iblk m c 2 t) (iblk m c 3 t) := by
  by_cases h0 : t.val % 16 = 0
  · rw [outsAt0_A m c t h0]; frame_out
  · rw [outsAt0_B m c t h0]; frame_out

theorem outs_ob (c : Dev nD) (t : Fin cfg0.N) : (outsAt0 m c t.val t.isLt).2.2.2.1 = k0_pay2 (F := Ideal) (iblk m c 1 t) := by
  by_cases h0 : t.val % 16 = 0
  · rw [outsAt0_A m c t h0]; frame_out
  · rw [outsAt0_B m c t h0]; frame_out

/-- The accumulated row of one tile: what was there, and the tile's rows of the cotangent times the product with the weight. -/
theorem step (a b : Vec Ideal S256x1024 .f32) (w : Vec Ideal S1024x1024 .bf16) (d : Vec Ideal S1x1024 .f32) (j : S1x1024.Idx) :
    k0_pay8 (F := Ideal) a b w d j
      = d j + ∑ p : Fin 256, b (ix2 p (j 1)) * ∑ x : Fin 1024, a (ix2 p x) * w (ix2 x (j 1)) := by
  unfold_payloads
  pointwise

/-- A block of the attention output, of the cotangent, and the weight. -/
def oBlk (c : Dev nD) (t : Fin cfg0.N) : Vec Ideal S256x1024 .f32 := iblk m c 1 t
def cBlk (c : Dev nD) (t : Fin cfg0.N) : Vec Ideal S256x1024 .f32 := iblk m c 2 t
def wBlk (c : Dev nD) (t : Fin cfg0.N) : Vec Ideal S1024x1024 .bf16 := iblk m c 4 t

def term (c : Dev nD) (t : Fin cfg0.N) (j : S1x1024.Idx) : EReal :=
  ∑ p : Fin 256, cBlk m c t (ix2 p (j 1)) * ∑ x : Fin 1024, oBlk m c t (ix2 p x) * wBlk m c t (ix2 x (j 1))

/-- After the last tile the accumulator holds the sum of the tiles' rows. -/
theorem acc (c : Dev nD) (j : S1x1024.Idx) :
    (outsAt0 m c t0_15.val t0_15.isLt).2.2.2.2 j = Ideal.ofBits .f32 0x00000000#32 + ∑ t : Fin cfg0.N, term m c t j := by
  refine (Pipeline.eq_sum_fin_of_reset_step_apply_last (fun n h => (outsAt0 m c n h).2.2.2.2) 16 (fun _ => Ideal.ofBits .f32 0x00000000#32)
    (term m c) ?_ ?_ (by decide) t0_15 rfl j)
  · intro t h j
    rw [outsAt0_A m c t h]
    frame_out
    rw [step]
    rfl
  · intro t h j
    rw [outsAt0_B m c t h]
    frame_out
    rw [step]
    rfl

/-! ## The arrays after the run are the reference's -/

theorem final_dx (c : Dev nD) : (dats m 0 c).arrAt 5 cfg0.N = m ((c : Thread nD τ).loc main_arg4) := by
  refine (dats m 0 c).arrAt_eq_of_covers 5 _ (by decide +kernel) fun t hf y => ?_
  blk_simp
  rw [after0_5, outs_dx]
  blk_point [iblk, V, idx t]

theorem final_do (c : Dev nD) : (dats m 0 c).arrAt 6 cfg0.N
    = val_main_v11 (F := Ideal) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, outs_do, val_main_v11_apply]
  unfold_payloads
  pointwise
  change (_ : EReal) = _
  refine Finset.sum_congr rfl fun k _ => ?_
  rw [val_main_v6_apply, val_main_v5_apply, val_main_v4_apply, Ideal.mulf_def, idx_same]
  blk_point [iblk, V, idx t]

theorem final_dz (c : Dev nD) : (dats m 0 c).arrAt 7 cfg0.N
    = val_main_v12 (F := Ideal) (m ((c : Thread nD τ).loc main_arg2)) (m ((c : Thread nD τ).loc main_arg4)) := by
  refine (dats m 0 c).arrAt_eq_of_covers 7 _ (by decide +kernel) fun t hf y => ?_
  blk_simp
  rw [after0_7, outs_dz, val_main_v12_apply, val_main_v6_apply, val_main_v5_apply, val_main_v4_apply, idx_same]
  unfold_payloads
  pointwise
  blk_point [iblk, V, idx t]

theorem final_ob (c : Dev nD) : (dats m 0 c).arrAt 8 cfg0.N = val_main_v13 (F := Ideal) (m ((c : Thread nD τ).loc main_arg1)) := by
  refine (dats m 0 c).arrAt_eq_of_covers 8 _ (by decide +kernel) fun t hf y => ?_
  blk_simp
  rw [after0_8, outs_ob, val_main_v13_apply]
  unfold_payloads
  pointwise
  blk_point [iblk, V, idx t]

theorem final_dgt (c : Dev nD) : (dats m 0 c).arrAt 9 cfg0.N
    = val_main_v9 (F := Ideal) (m ((c : Thread nD τ).loc main_arg1)) (m ((c : Thread nD τ).loc main_arg3)) (m ((c : Thread nD τ).loc main_arg4)) := by
  refine (dats m 0 c).arrAt_eq_of_after_last 9 t0_15 (by decide +kernel) _ fun j => ?_
  blk_simp
  refine (congrFun (after0_9 m c t0_15) j).trans ?_
  refine (acc m c j).trans ?_
  rw [val_main_v9_apply, val_main_v8_apply]
  refine congrArg₂ (· + ·) rfl ?_
  rw [Lit.sum_tiles 16 256 4096 rfl]
  refine Finset.sum_congr rfl fun t _ => Finset.sum_congr rfl fun p _ => ?_
  rw [val_main_v7_apply, val_main_v4_apply, val_main_v0_apply, Ideal.mulf_def, idx_same]
  unfold cBlk oBlk wBlk
  refine congrArg₂ (· * ·) ?_ (Finset.sum_congr rfl fun x _ => ?_)
  · blk_point [iblk, V, idx t]
  · blk_point [iblk, V, idx t]

/-- The kernel's run with its results named by the reference's stages, and the arguments unchanged. -/
theorem run (ρ : Dev nD → PrngReg) : θ_run defs (onTc (τ := τ) (main (F := Ideal))) ⟨m, fun _ => 0, ρ⟩ fun r => ∀ c : Dev nD,
    r.2.mem ((c : Thread nD τ).loc main_v1_0) = m ((c : Thread nD τ).loc main_arg4)
    ∧ r.2.mem ((c : Thread nD τ).loc main_v1_1) = val_main_v11 (F := Ideal) (m ((c : Thread nD τ).loc main_arg2)) (m ((c : Thread nD τ).loc main_arg3)) (m ((c : Thread nD τ).loc main_arg4))
    ∧ r.2.mem ((c : Thread nD τ).loc main_v1_2) = val_main_v12 (F := Ideal) (m ((c : Thread nD τ).loc main_arg2)) (m ((c : Thread nD τ).loc main_arg4))
    ∧ r.2.mem ((c : Thread nD τ).loc main_v1_3) = val_main_v13 (F := Ideal) (m ((c : Thread nD τ).loc main_arg1))
    ∧ r.2.mem ((c : Thread nD τ).loc main_v1_4) = val_main_v9 (F := Ideal) (m ((c : Thread nD τ).loc main_arg1)) (m ((c : Thread nD τ).loc main_arg3)) (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => by
    obtain ⟨h0, h1, h2, h3, h4, hr⟩ := h c
    exact ⟨h0.trans (final_dx m c), h1.trans (final_do m c), h2.trans (final_dz m c), h3.trans (final_ob m c), h4.trans (final_dgt m c), hr⟩) (Value.run_blocks m ρ)

end Cert.OIdeal.Result

namespace Cert.ORefIdeal.Staged

open Cert.ORefIdeal Cert.ORefIdeal.Gen Cert.ORefIdeal.Read Idealize.ShloMosaic Idealize.SL.Sem

/-- The reference's run with its results named by its stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg4) = m ((c.tc : Thread nD τ).loc main_arg4)
      ∧ r.2.mem ((c.tc : Thread nD τ).loc main_v11) = val_main_v11 (F := Ideal) (m ((c.tc : Thread nD τ).loc main_arg2)) (m ((c.tc : Thread nD τ).loc main_arg3)) (m ((c.tc : Thread nD τ).loc main_arg4))
      ∧ r.2.mem ((c.tc : Thread nD τ).loc main_v12) = val_main_v12 (F := Ideal) (m ((c.tc : Thread nD τ).loc main_arg2)) (m ((c.tc : Thread nD τ).loc main_arg4))
      ∧ r.2.mem ((c.tc : Thread nD τ).loc main_v13) = val_main_v13 (F := Ideal) (m ((c.tc : Thread nD τ).loc main_arg1))
      ∧ r.2.mem ((c.tc : Thread nD τ).loc main_v9) = val_main_v9 (F := Ideal) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, h4, hr⟩ := h c
    exact ⟨h0, h1.trans (val_main_v11_eq (m ((c.tc : Thread nD τ).loc main_arg2)) (m ((c.tc : Thread nD τ).loc main_arg3)) (m ((c.tc : Thread nD τ).loc main_arg4))), h2.trans (val_main_v12_eq (m ((c.tc : Thread nD τ).loc main_arg2)) (m ((c.tc : Thread nD τ).loc main_arg4))), h3.trans (val_main_v13_eq (m ((c.tc : Thread nD τ).loc main_arg1))), h4.trans (val_main_v9_eq (m ((c.tc : Thread nD τ).loc main_arg1)) (m ((c.tc : Thread nD τ).loc main_arg3)) (m ((c.tc : Thread nD τ).loc main_arg4))), hr⟩) (Value.run m ρ)

end Cert.ORefIdeal.Staged

namespace Cert.OProof

open Idealize.ShloMosaic

/-- The kernel and the derivative end with equal results. -/
theorem algebraic : Cert.algebraic_OIdeal_ORefIdeal := by
  pair_intro
  · run_from Cert.OIdeal.Result.run m g
  · run_from Cert.ORefIdeal.Staged.run m' g'

end Cert.OProof

end
-- ==== Proof.GluMath.lean ====
/-
  One row of the gradient of the gated linear unit: the functions of the row that both programs compute, and the payloads of the
  kernel's body and the stages of the reference as these functions.
-/
module

public import proofs.«01_k».proof.Defs
public import proofs.«01_k».proof.Proof.Gen.GluIdeal.Value
public import proofs.«01_k».proof.Proof.Gen.GluRefIdeal.Read
public import Idealize.ShloMosaic.Lib.Tactic
public import Idealize.ShloMosaic.Lib.Pointwise
public import Idealize.ShloMosaic.Lib.Claim

@[expose] public section

set_option maxRecDepth 16384

noncomputable section

namespace Cert.GluIdeal.Row

open Cert.GluIdeal Cert.GluIdeal.Gen Idealize.ShloMosaic

/-- The numbers of the smooth gate, as both programs spell them. -/
def half : EReal := Ideal.ofBits .f32 0x3F000000#32
def three : EReal := Ideal.ofBits .f32 0x40400000#32
def cube : EReal := Ideal.ofBits .f32 0x3D372713#32
def slope : EReal := Ideal.ofBits .f32 0x3F4C422A#32

def th (y : EReal) : EReal := Ideal.tanh (slope * (y + cube * (y * (y * y))))
def cdf (y : EReal) : EReal := half * (1 + th y)

/-! A row of the recurrence's output `Y`, of the cotangent `C`, the weight `W`, the bias `B` and the gate `T`. -/

variable (Y : Fin 1024 → EReal) (C : Fin 1024 → EReal) (T : Fin 1024 → EReal) (B : Fin 1024 → EReal) (W : Fin 1024 → Fin 1024 → EReal)

def sg (d : Fin 1024) : EReal := Ideal.logistic (∑ x, Y x * cdf (Y x) * W x d + B d)
def dz (d : Fin 1024) : EReal := Y d * cdf (Y d) * (T d * C d) * (sg Y B W d * (1 - sg Y B W d))
def dg (d : Fin 1024) : EReal := T d * C d * sg Y B W d + ∑ k, dz Y C T B W k * W d k
def inner (d : Fin 1024) : EReal := slope * (half * (Y d * dg Y C T B W d) * ((1 + th (Y d)) * (1 - th (Y d))))
def dy (d : Fin 1024) : EReal :=
  dg Y C T B W d * cdf (Y d) + inner Y C T B W d + cube * inner Y C T B W d * (three * (Y d * Y d))
def dt (d : Fin 1024) : EReal := C d * (Y d * cdf (Y d) * sg Y B W d)

/-! ## The body's payloads -/

variable (y c : Vec Ideal S256x1024 .f32) (t b : Vec Ideal S1x1024 .f32) (w : Vec Ideal S1024x1024 .bf16)

theorem pay_g (p : Fin 256) (d : Fin 1024) : k0_pay12 (F := Ideal) (k0_pay8 y) (ix2 p d) = y (ix2 p d) * cdf (y (ix2 p d)) := by
  unfold_payloads
  pointwise
  rfl

theorem pay_dz (p : Fin 256) (d : Fin 1024) : k0_pay19 (F := Ideal) c t (k0_pay8 y) (k0_pay10 y b w) (ix2 p d)
    = dz (fun x => y (ix2 p x)) (fun x => c (ix2 p x)) (fun x => t (ix2 0 x)) (fun x => b (ix2 0 x)) (fun x k => w (ix2 x k)) d := by
  unfold_payloads
  pointwise
  rfl

theorem pay_dy (p : Fin 256) (d : Fin 1024) : k0_pay18 (F := Ideal) y c t (k0_pay3 w) (k0_pay4 y) (k0_pay6 y) (k0_pay7 y) (k0_pay8 y)
      (k0_pay9 y b w) (k0_pay10 y b w) (ix2 p d)
    = dy (fun x => y (ix2 p x)) (fun x => c (ix2 p x)) (fun x => t (ix2 0 x)) (fun x => b (ix2 0 x)) (fun x k => w (ix2 x k)) d := by
  unfold_payloads
  pointwise
  rfl

theorem step_dt (a : Vec Ideal S1x1024 .f32) (j : S1x1024.Idx) :
    k0_pay1 (F := Ideal) (k0_pay15 c (k0_pay11 y b w)) (k0_pay22 a) j
      = a j + ∑ p : Fin 256, dt (fun x => y (ix2 p x)) (fun x => c (ix2 p x)) (fun x => b (ix2 0 x)) (fun x k => w (ix2 x k)) (j 1) := by
  unfold_payloads
  pointwise
  rfl

theorem step_db (a : Vec Ideal S1x1024 .f32) (j : S1x1024.Idx) :
    k0_pay2 (F := Ideal) (k0_pay17 c t (k0_pay8 y) (k0_pay10 y b w)) a j
      = a j + ∑ p : Fin 256, dz (fun x => y (ix2 p x)) (fun x => c (ix2 p x)) (fun x => t (ix2 0 x)) (fun x => b (ix2 0 x))
          (fun x k => w (ix2 x k)) (j 1) := by
  unfold_payloads
  pointwise
  rfl

/-! ## The reference's stages -/

section Reference

open Cert.GluRefIdeal.Read

variable (X1 : (⟨S4096x1024, .f32⟩ : BufTy).Contents (Elt Ideal)) (X2 : (⟨S1x1024, .f32⟩ : BufTy).Contents (Elt Ideal))
  (X3 : (⟨S1024, .f32⟩ : BufTy).Contents (Elt Ideal)) (X4 : (⟨S1024x1024, .f32⟩ : BufTy).Contents (Elt Ideal))
  (X5 : (⟨S4096x1024, .f32⟩ : BufTy).Contents (Elt Ideal))

theorem idx_same (i : S4096x1024.Idx) : idx_main_v38 i = i := by
  funext a
  have h0 : (i 0).val < 4096 := (i 0).isLt
  have h1 : (i 1).val < 1024 := (i 1).isLt
  match a with
  | ⟨0, _⟩ => exact Fin.ext (by show ((i 0).val * 1024 + (i 1).val) / 1024 = (i 0).val; omega)
  | ⟨1, _⟩ => exact Fin.ext (by show ((i 0).val * 1024 + (i 1).val) % 1024 = (i 1).val; omega)

theorem ref_th (i : S4096x1024.Idx) : val_main_v10 (F := Ideal) X1 i = th (X1 i) := by
  rw [val_main_v10_apply, val_main_v9_apply, val_main_v8_apply, val_main_v7_apply, val_main_v6_apply, val_main_v5_apply, val_main_v1_apply,
    val_main_v0_apply]
  exact congrArg (fun z => Ideal.tanh (slope * (X1 i + cube * z))) (mul_comm _ _)

theorem ref_cdf (i : S4096x1024.Idx) : val_main_v19 (F := Ideal) X1 i = cdf (X1 i) := by
  rw [val_main_v19_apply, val_main_v17_apply, ref_th, val_main_v16_apply, val_main_v18_apply]
  exact congrArg (fun z => half * (z + th (X1 i))) Ideal.ofBits_one_f32

theorem ref_g (i : S4096x1024.Idx) : val_main_v20 (F := Ideal) X1 i = X1 i * cdf (X1 i) := by
  rw [val_main_v20_apply, ref_cdf]; rfl

theorem l21 (r : Fin 4096) (d x : Fin 1024) : lidx_main_v21 (ix2 r d) x = ix2 r x :=
  funext fun a => match a with | ⟨0, _⟩ => rfl | ⟨1, _⟩ => rfl
theorem r21 (r : Fin 4096) (d x : Fin 1024) : ridx_main_v21 (ix2 r d) x = ix2 x d :=
  funext fun a => match a with | ⟨0, _⟩ => rfl | ⟨1, _⟩ => rfl
theorem l48 (r : Fin 4096) (d x : Fin 1024) : lidx_main_v48 (ix2 r d) x = ix2 r x :=
  funext fun a => match a with | ⟨0, _⟩ => rfl | ⟨1, _⟩ => rfl
theorem r48 (r : Fin 4096) (d x : Fin 1024) : ridx_main_v48 (ix2 r d) x = ix2 d x :=
  funext fun a => match a with | ⟨0, _⟩ => rfl | ⟨1, _⟩ => rfl
theorem i23 (r : Fin 4096) (d : Fin 1024) : idx_main_v22 (idx_main_v23 (ix2 r d)) = ix1 d :=
  funext fun a => match a with | ⟨0, _⟩ => rfl
theorem i39 (r : Fin 4096) (d : Fin 1024) : idx_main_v39 (ix2 r d) = ix2 0 d :=
  funext fun a => match a with | ⟨0, _⟩ => rfl | ⟨1, _⟩ => rfl
theorem i43 (d : Fin 1024) (r : Fin 4096) : idx_main_v42 (idx_main_v43 (ix2 0 d)) r = ix2 r d :=
  funext fun a => match a with | ⟨0, _⟩ => rfl | ⟨1, _⟩ => Fin.ext (by show 0 * 1024 + d.val = d.val; omega)
theorem i71 (d : Fin 1024) (k : Fin 1) (r : Fin 4096) : idx_main_v66 (idx_main_v67 (idx_main_v68 (idx_main_v71 (ix2 0 d)) k)) r = ix2 r d :=
  funext fun a => match a with
    | ⟨0, _⟩ => rfl
    | ⟨1, _⟩ => Fin.ext (by show k.val * 1024 + (0 * 1024 + d.val) = d.val; omega)

theorem ref_sg (r : Fin 4096) (d : Fin 1024) : val_main_v30 (F := Ideal) X1 X3 X4 (ix2 r d)
    = sg (fun x => X1 (ix2 r x)) (fun x => X3 (ix1 x)) (fun x k => X4 (ix2 x k)) d := by
  rw [val_main_v30_apply, val_main_v29_apply, val_main_v28_apply, val_main_v27_apply, val_main_v26_apply, val_main_v25_apply,
    val_main_v24_apply, val_main_v23_apply, val_main_v22_apply, val_main_v21_apply, i23]
  simp only [ref_g, l21, r21]
  rw [val_main_cst_7_apply, val_main_cst_6_apply, Ideal.ofBits_def, Ideal.ofBits_one_f32]
  rfl

theorem ref_gate (r : Fin 4096) (d : Fin 1024) : val_main_v40 (F := Ideal) X2 X5 (ix2 r d) = X2 (ix2 0 d) * X5 (ix2 r d) := by
  rw [val_main_v40_apply, val_main_v39_apply, val_main_v38_apply, idx_same, i39]; rfl

theorem ref_dz (r : Fin 4096) (d : Fin 1024) : val_main_v46 (F := Ideal) X1 X2 X3 X4 X5 (ix2 r d)
    = dz (fun x => X1 (ix2 r x)) (fun x => X5 (ix2 r x)) (fun x => X2 (ix2 0 x)) (fun x => X3 (ix1 x)) (fun x k => X4 (ix2 x k)) d := by
  rw [val_main_v46_apply, val_main_v44_apply, val_main_v33_apply, val_main_v32_apply, val_main_v31_apply, ref_sg, ref_gate, ref_g,
    val_main_cst_8_apply, Ideal.ofBits_def, Ideal.ofBits_one_f32]
  rfl

theorem ref_dg (r : Fin 4096) (d : Fin 1024) : val_main_v49 (F := Ideal) X1 X2 X3 X4 X5 (ix2 r d)
    = dg (fun x => X1 (ix2 r x)) (fun x => X5 (ix2 r x)) (fun x => X2 (ix2 0 x)) (fun x => X3 (ix1 x)) (fun x k => X4 (ix2 x k)) d := by
  rw [val_main_v49_apply, val_main_v45_apply, val_main_v48_apply, ref_sg, ref_gate]
  simp only [l48, r48, ref_dz]
  rfl

theorem ref_inner (r : Fin 4096) (d : Fin 1024) : val_main_v56 (F := Ideal) X1 X2 X3 X4 X5 (ix2 r d)
    = inner (fun x => X1 (ix2 r x)) (fun x => X5 (ix2 r x)) (fun x => X2 (ix2 0 x)) (fun x => X3 (ix1 x)) (fun x k => X4 (ix2 x k)) d := by
  rw [val_main_v56_apply, val_main_v55_apply, val_main_v54_apply, val_main_v53_apply, val_main_v52_apply, val_main_v50_apply, ref_dg,
    val_main_v15_apply, val_main_v14_apply, val_main_v13_apply, val_main_v12_apply, val_main_v11_apply, ref_th,
    val_main_cst_3_apply, val_main_cst_2_apply, Ideal.ofBits_def, Ideal.ofBits_one_f32]
  rfl

theorem ref_dy (r : Fin 4096) (d : Fin 1024) : val_main_v61 (F := Ideal) X1 X2 X3 X4 X5 (ix2 r d)
    = dy (fun x => X1 (ix2 r x)) (fun x => X5 (ix2 r x)) (fun x => X2 (ix2 0 x)) (fun x => X3 (ix1 x)) (fun x k => X4 (ix2 x k)) d := by
  rw [val_main_v61_apply, val_main_v60_apply, val_main_v59_apply, val_main_v58_apply, val_main_v57_apply, val_main_v51_apply, ref_inner,
    ref_dg, ref_cdf, val_main_v4_apply, val_main_v3_apply, val_main_v2_apply]
  rfl

theorem ref_dt (d : Fin 1024) : val_main_v43 (F := Ideal) X1 X3 X4 X5 (ix2 0 d)
    = Ideal.ofBits .f32 0x00000000#32
      + ∑ r : Fin 4096, dt (fun x => X1 (ix2 r x)) (fun x => X5 (ix2 r x)) (fun x => X3 (ix1 x)) (fun x k => X4 (ix2 x k)) d := by
  rw [val_main_v43_apply, val_main_v42_apply]
  simp only [i43]
  refine congrArg₂ (· + ·) rfl (Finset.sum_congr rfl fun r _ => ?_)
  rw [val_main_v41_apply, val_main_v38_apply, val_main_v34_apply, idx_same, ref_sg, ref_g]
  rfl

theorem ref_db (d : Fin 1024) : val_main_v71 (F := Ideal) X1 X2 X3 X4 X5 (ix2 0 d)
    = Ideal.ofBits .f32 0x00000000#32
      + ∑ r : Fin 4096, dz (fun x => X1 (ix2 r x)) (fun x => X5 (ix2 r x)) (fun x => X2 (ix2 0 x)) (fun x => X3 (ix1 x))
          (fun x k => X4 (ix2 x k)) d := by
  rw [val_main_v71_apply, val_main_v68_apply, Fin.sum_univ_one, val_main_v67_apply, val_main_v66_apply]
  simp only [i71, ref_dz]
  rw [val_main_cst_14_apply, Ideal.ofBits_def, Ideal.ofBits_zero_f32, zero_add]
  exact congrArg (· + _) Ideal.ofBits_zero_f32

end Reference

end Cert.GluIdeal.Row

end
-- ==== Proof.GluGrad.lean ====
/-
  The gradient of the gated linear unit, as the kernel computes it tile by tile of 256 rows, is the reference's, result by result.
-/
module

public import proofs.«01_k».proof.Proof.GluMath
public import proofs.«01_k».proof.Proof.Literals
public import Idealize.ShloMosaic.Lib.Pipeline.ValueKit

@[expose] public section

set_option maxRecDepth 16384

noncomputable section

namespace Cert.GluIdeal.Result

open Cert.GluIdeal Cert.GluIdeal.Gen Cert.GluIdeal.Row Idealize.ShloMosaic Idealize.ShloMosaic.TcCoe Idealize.SL.Sem
open Cert.GluRefIdeal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0])

/-! ## The operands of a tile -/

def row (t : Fin cfg0.N) (p : Fin 256) : Fin 4096 := ⟨t.val * 256 + p.val, by have : t.val < 16 := t.isLt; omega⟩

def yBlk (c : Dev nD) (t : Fin cfg0.N) : Vec Ideal S256x1024 .f32 := iblk m c 1 t
def cBlk (c : Dev nD) (t : Fin cfg0.N) : Vec Ideal S256x1024 .f32 := iblk m c 2 t
def tBlk (c : Dev nD) (t : Fin cfg0.N) : Vec Ideal S1x1024 .f32 := iblk m c 3 t
def bBlk (c : Dev nD) (t : Fin cfg0.N) : Vec Ideal S1x1024 .f32 := iblk m c 4 t
def wBlk (c : Dev nD) (t : Fin cfg0.N) : Vec Ideal S1024x1024 .bf16 := iblk m c 5 t

theorem y_eq (c : Dev nD) (t : Fin cfg0.N) (p : Fin 256) (d : Fin 1024) :
    yBlk m c t (ix2 p d) = m ((c : Thread nD τ).loc main_arg1) (ix2 (row t p) d) := by
  unfold yBlk row
  blk_ext [iblk, V, idx t]
theorem c_eq (c : Dev nD) (t : Fin cfg0.N) (p : Fin 256) (d : Fin 1024) :
    cBlk m c t (ix2 p d) = m ((c : Thread nD τ).loc main_arg5) (ix2 (row t p) d) := by
  unfold cBlk row
  blk_ext [iblk, V, idx t]
theorem t_eq (c : Dev nD) (t : Fin cfg0.N) (d : Fin 1024) :
    tBlk m c t (ix2 0 d) = m ((c : Thread nD τ).loc main_arg2) (ix2 0 d) := by
  unfold tBlk
  blk_ext [iblk, V, idx t]
theorem b_eq (c : Dev nD) (t : Fin cfg0.N) (d : Fin 1024) :
    bBlk m c t (ix2 0 d) = m ((c : Thread nD τ).loc main_arg3) (ix1 d) := by
  unfold bBlk
  blk_point [iblk, V, idx t]
theorem w_eq (c : Dev nD) (t : Fin cfg0.N) (x d : Fin 1024) :
    wBlk m c t (ix2 x d) = m ((c : Thread nD τ).loc main_arg4) (ix2 x d) := by
  unfold wBlk
  blk_point [iblk, V, idx t]

/-! ## What a grid point leaves in each output -/

theorem outs_dx (c : Dev nD) (t : Fin cfg0.N) : (outsAt0 m c t.val t.isLt).1 = cBlk m c t := by
  by_cases h0 : t.val % 16 = 0
  · rw [outsAt0_A m c t h0]; frame_out; rfl
  · rw [outsAt0_B m c t h0]; frame_out; rfl

theorem outs_dy (c : Dev nD) (t : Fin cfg0.N) : (outsAt0 m c t.val t.isLt).2.1
    = k0_pay18 (F := Ideal) (yBlk m c t) (cBlk m c t) (tBlk m c t) (k0_pay3 (wBlk m c t)) (k0_pay4 (yBlk m c t)) (k0_pay6 (yBlk m c t))
        (k0_pay7 (yBlk m c t)) (k0_pay8 (yBlk m c t)) (k0_pay9 (yBlk m c t) (bBlk m c t) (wBlk m c t))
        (k0_pay10 (yBlk m c t) (bBlk m c t) (wBlk m c t)) := by
  by_cases h0 : t.val % 16 = 0
  · rw [outsAt0_A m c t h0]; frame_out; rfl
  · rw [outsAt0_B m c t h0]; frame_out; rfl

theorem outs_dz (c : Dev nD) (t : Fin cfg0.N) : (outsAt0 m c t.val t.isLt).2.2.1
    = k0_pay19 (F := Ideal) (cBlk m c t) (tBlk m c t) (k0_pay8 (yBlk m c t)) (k0_pay10 (yBlk m c t) (bBlk m c t) (wBlk m c t)) := by
  by_cases h0 : t.val % 16 = 0
  · rw [outsAt0_A m c t h0]; frame_out; rfl
  · rw [outsAt0_B m c t h0]; frame_out; rfl

theorem outs_g (c : Dev nD) (t : Fin cfg0.N) :
    (outsAt0 m c t.val t.isLt).2.2.2.1 = k0_pay12 (F := Ideal) (k0_pay8 (yBlk m c t)) := by
  by_cases h0 : t.val % 16 = 0
  · rw [outsAt0_A m c t h0]; frame_out; rfl
  · rw [outsAt0_B m c t h0]; frame_out; rfl

/-- The rows of a tile, as the row functions take them. -/
def dtAt (c : Dev nD) (r : Fin 4096) (d : Fin 1024) : EReal :=
  dt (fun x => m ((c : Thread nD τ).loc main_arg1) (ix2 r x)) (fun x => m ((c : Thread nD τ).loc main_arg5) (ix2 r x))
    (fun x => m ((c : Thread nD τ).loc main_arg3) (ix1 x)) (fun x k => m ((c : Thread nD τ).loc main_arg4) (ix2 x k)) d
def dzAt (c : Dev nD) (r : Fin 4096) (d : Fin 1024) : EReal :=
  dz (fun x => m ((c : Thread nD τ).loc main_arg1) (ix2 r x)) (fun x => m ((c : Thread nD τ).loc main_arg5) (ix2 r x))
    (fun x => m ((c : Thread nD τ).loc main_arg2) (ix2 0 x)) (fun x => m ((c : Thread nD τ).loc main_arg3) (ix1 x))
    (fun x k => m ((c : Thread nD τ).loc main_arg4) (ix2 x k)) d

theorem acc_dt (c : Dev nD) (j : S1x1024.Idx) : (outsAt0 m c t0_15.val t0_15.isLt).2.2.2.2.1 j
    = Ideal.ofBits .f32 0x00000000#32 + ∑ t : Fin cfg0.N, ∑ p : Fin 256, dtAt m c (row t p) (j 1) := by
  refine (Pipeline.eq_sum_fin_of_reset_step_apply_last (fun n h => (outsAt0 m c n h).2.2.2.2.1) 16
    (fun _ => Ideal.ofBits .f32 0x00000000#32) (fun t j => ∑ p : Fin 256, dtAt m c (row t p) (j 1)) ?_ ?_ (by decide) t0_15 rfl j)
  · intro t h j
    rw [outsAt0_A m c t h]
    frame_out
    refine (step_dt (yBlk m c t) (cBlk m c t) (bBlk m c t) (wBlk m c t) _ j).trans ?_
    simp only [y_eq, c_eq, b_eq, w_eq]
    rfl
  · intro t h j
    rw [outsAt0_B m c t h]
    frame_out
    refine (step_dt (yBlk m c t) (cBlk m c t) (bBlk m c t) (wBlk m c t) _ j).trans ?_
    simp only [y_eq, c_eq, b_eq, w_eq]
    rfl

theorem acc_db (c : Dev nD) (j : S1x1024.Idx) : (outsAt0 m c t0_15.val t0_15.isLt).2.2.2.2.2 j
    = Ideal.ofBits .f32 0x00000000#32 + ∑ t : Fin cfg0.N, ∑ p : Fin 256, dzAt m c (row t p) (j 1) := by
  refine (Pipeline.eq_sum_fin_of_reset_step_apply_last (fun n h => (outsAt0 m c n h).2.2.2.2.2) 16
    (fun _ => Ideal.ofBits .f32 0x00000000#32) (fun t j => ∑ p : Fin 256, dzAt m c (row t p) (j 1)) ?_ ?_ (by decide) t0_15 rfl j)
  · intro t h j
    rw [outsAt0_A m c t h]
    frame_out
    refine (step_db (yBlk m c t) (cBlk m c t) (tBlk m c t) (bBlk m c t) (wBlk m c t) _ j).trans ?_
    simp only [y_eq, c_eq, t_eq, b_eq, w_eq]
    rfl
  · intro t h j
    rw [outsAt0_B m c t h]
    frame_out
    refine (step_db (yBlk m c t) (cBlk m c t) (tBlk m c t) (bBlk m c t) (wBlk m c t) _ j).trans ?_
    simp only [y_eq, c_eq, t_eq, b_eq, w_eq]
    rfl

/-! ## The arrays after the run are the reference's -/

theorem emb7 (t : Fin cfg0.N) (p : Fin 256) (d : Fin 1024) : ((cfg0.win 7).blk t).view.emb (ix2 p d) = (ix2 (row t p) d : S4096x1024.Idx) := by
  unfold row
  blk_ext [idx t]
theorem emb8 (t : Fin cfg0.N) (p : Fin 256) (d : Fin 1024) : ((cfg0.win 8).blk t).view.emb (ix2 p d) = (ix2 (row t p) d : S4096x1024.Idx) := by
  unfold row
  blk_ext [idx t]
theorem emb9 (t : Fin cfg0.N) (p : Fin 256) (d : Fin 1024) : ((cfg0.win 9).blk t).view.emb (ix2 p d) = (ix2 (row t p) d : S4096x1024.Idx) := by
  unfold row
  blk_ext [idx t]

theorem final_dx (c : Dev nD) : (dats m 0 c).arrAt 6 cfg0.N = m ((c : Thread nD τ).loc main_arg5) := by
  refine (dats m 0 c).arrAt_eq_of_covers 6 _ (by decide +kernel) fun t hf y => ?_
  blk_simp
  rw [after0_6, outs_dx]
  unfold cBlk
  blk_point [iblk, V, idx t]

theorem final_dy (c : Dev nD) : (dats m 0 c).arrAt 7 cfg0.N
    = val_main_v61 (F := Ideal) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨p, d, rfl⟩ : ∃ (p : Fin 256) (d : Fin 1024), y = ix2 p d := ⟨y 0, y 1, eq_ix2 y⟩
  refine (congrFun (after0_7 m c t) (ix2 p d)).trans ?_
  rw [outs_dy, emb7, ref_dy]
  refine (pay_dy (yBlk m c t) (cBlk m c t) (tBlk m c t) (bBlk m c t) (wBlk m c t) p d).trans ?_
  simp only [y_eq, c_eq, t_eq, b_eq, w_eq]

theorem final_dz (c : Dev nD) : (dats m 0 c).arrAt 8 cfg0.N
    = val_main_v69 (F := Ideal) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨p, d, rfl⟩ : ∃ (p : Fin 256) (d : Fin 1024), y = ix2 p d := ⟨y 0, y 1, eq_ix2 y⟩
  refine (congrFun (after0_8 m c t) (ix2 p d)).trans ?_
  rw [outs_dz, emb8, val_main_v69_apply, ref_dz]
  refine (pay_dz (yBlk m c t) (cBlk m c t) (tBlk m c t) (bBlk m c t) (wBlk m c t) p d).trans ?_
  simp only [y_eq, c_eq, t_eq, b_eq, w_eq]
  rfl

theorem final_g (c : Dev nD) : (dats m 0 c).arrAt 9 cfg0.N = val_main_v70 (F := Ideal) (m ((c : Thread nD τ).loc main_arg1)) := by
  refine (dats m 0 c).arrAt_eq_of_covers 9 _ (by decide +kernel) fun t hf y => ?_
  obtain ⟨p, d, rfl⟩ : ∃ (p : Fin 256) (d : Fin 1024), y = ix2 p d := ⟨y 0, y 1, eq_ix2 y⟩
  refine (congrFun (after0_9 m c t) (ix2 p d)).trans ?_
  rw [outs_g, emb9, val_main_v70_apply, ref_g]
  refine (pay_g (yBlk m c t) p d).trans ?_
  rw [y_eq]
  rfl

theorem final_dt (c : Dev nD) : (dats m 0 c).arrAt 10 cfg0.N
    = val_main_v43 (F := Ideal) (m ((c : Thread nD τ).loc main_arg1)) (m ((c : Thread nD τ).loc main_arg3))
        (m ((c : Thread nD τ).loc main_arg4)) (m ((c : Thread nD τ).loc main_arg5)) := by
  refine (dats m 0 c).arrAt_eq_of_after_last 10 t0_15 (by decide +kernel) _ fun j => ?_
  blk_simp
  refine (congrFun (after0_10 m c t0_15) j).trans ?_
  refine (acc_dt m c j).trans ?_
  obtain ⟨d, rfl⟩ : ∃ d : Fin 1024, j = ix2 0 d := ⟨j 1, (eq_ix2 j).trans (congrArg (ix2 · (j 1)) (Subsingleton.elim (α := Fin 1) _ _))⟩
  rw [ref_dt, Lit.sum_tiles 16 256 4096 rfl]
  rfl

theorem final_db (c : Dev nD) : (dats m 0 c).arrAt 11 cfg0.N
    = val_main_v71 (F := Ideal) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 11 t0_15 (by decide +kernel) _ fun j => ?_
  blk_simp
  refine (congrFun (after0_11 m c t0_15) j).trans ?_
  refine (acc_db m c j).trans ?_
  obtain ⟨d, rfl⟩ : ∃ d : Fin 1024, j = ix2 0 d := ⟨j 1, (eq_ix2 j).trans (congrArg (ix2 · (j 1)) (Subsingleton.elim (α := Fin 1) _ _))⟩
  rw [ref_db, Lit.sum_tiles 16 256 4096 rfl]
  rfl

/-- The kernel's run with its results named by the reference's stages, and the arguments unchanged. -/
theorem run (ρ : Dev nD → PrngReg) : θ_run defs (onTc (τ := τ) (main (F := Ideal))) ⟨m, fun _ => 0, ρ⟩ fun r => ∀ c : Dev nD,
    r.2.mem ((c : Thread nD τ).loc main_v2_0) = m ((c : Thread nD τ).loc main_arg5)
    ∧ r.2.mem ((c : Thread nD τ).loc main_v2_1) = val_main_v61 (F := Ideal) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c : Thread nD τ).loc main_v2_2) = val_main_v69 (F := Ideal) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c : Thread nD τ).loc main_v2_3) = val_main_v70 (F := Ideal) (m ((c : Thread nD τ).loc main_arg1))
    ∧ r.2.mem ((c : Thread nD τ).loc main_v2_4) = val_main_v43 (F := Ideal) (m ((c : Thread nD τ).loc main_arg1)) (m ((c : Thread nD τ).loc main_arg3)) (m ((c : Thread nD τ).loc main_arg4)) (m ((c : Thread nD τ).loc main_arg5))
    ∧ r.2.mem ((c : Thread nD τ).loc main_v2_5) = val_main_v71 (F := Ideal) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => by
    obtain ⟨h0, h1, h2, h3, h4, h5, hr⟩ := h c
    exact ⟨h0.trans (final_dx m c), h1.trans (final_dy m c), h2.trans (final_dz m c), h3.trans (final_g m c), h4.trans (final_dt m c), h5.trans (final_db m c), hr⟩) (Value.run_blocks m ρ)

end Cert.GluIdeal.Result

namespace Cert.GluRefIdeal.Staged

open Cert.GluRefIdeal Cert.GluRefIdeal.Gen Cert.GluRefIdeal.Read Idealize.ShloMosaic Idealize.SL.Sem

/-- The reference's run with its results named by its stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg5) = m ((c.tc : Thread nD τ).loc main_arg5)
      ∧ r.2.mem ((c.tc : Thread nD τ).loc main_v61) = val_main_v61 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v69) = val_main_v69 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v70) = val_main_v70 (F := Ideal) (m ((c.tc : Thread nD τ).loc main_arg1))
      ∧ r.2.mem ((c.tc : Thread nD τ).loc main_v43) = val_main_v43 (F := Ideal) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v71) = val_main_v71 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h4, h5, hr⟩ := h c
    exact ⟨h0, h1.trans (val_main_v61_eq m c), h2.trans (val_main_v69_eq (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))), h3.trans (val_main_v70_eq (m ((c.tc : Thread nD τ).loc main_arg1))), h4.trans (val_main_v43_eq (m ((c.tc : Thread nD τ).loc main_arg1)) (m ((c.tc : Thread nD τ).loc main_arg3)) (m ((c.tc : Thread nD τ).loc main_arg4)) (m ((c.tc : Thread nD τ).loc main_arg5))), h5.trans (val_main_v71_eq (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))), hr⟩) (Value.run m ρ)

end Cert.GluRefIdeal.Staged

namespace Cert.GluProof

open Idealize.ShloMosaic Idealize.SL.Sem

/-- The kernel and the derivative end with equal results. -/
theorem algebraic : Cert.algebraic_GluIdeal_GluRefIdeal := by
  intro m g m' g' _ hargs
  refine ⟨_, _, _, _, _, _, Cert.GluIdeal.Result.run m g, ?_⟩
  refine (θ_run Cert.GluRefIdeal.defs _ _).mono (fun r h c => ?_) (Cert.GluRefIdeal.Staged.run m' g')
  obtain ⟨h0, h1, h2, h3, h4, h5, hr⟩ := h c
  obtain ⟨a0, a1, a2, a3, a4, a5⟩ := hargs c
  exact ⟨h0.trans (by rw [a5]),
      h1.trans (by rw [a1, a2, a3, a4, a5]),
      h2.trans (by rw [a1, a2, a3, a4, a5]),
      h3.trans (by rw [a1]),
      h4.trans (by rw [a1, a3, a4, a5]),
      h5.trans (by rw [a1, a2, a3, a4, a5]), hr⟩

end Cert.GluProof

end
-- ==== Proof.PrepMath.lean ====
/-
  One lane of the gradient of the discretised recurrence: the functions of a lane's numbers that both programs compute, and the
  payloads of the kernel's body as these functions.
-/
module

public import proofs.«01_k».proof.Defs
public import proofs.«01_k».proof.Proof.Gen.PrepIdeal.Frame
public import proofs.«01_k».proof.Proof.Gen.PrepRefIdeal.Read
public import Idealize.ShloMosaic.Lib.Tactic
public import Idealize.ShloMosaic.Lib.Pointwise
public import Idealize.ShloMosaic.Lib.Pipeline.ValueKit
public import Idealize.ShloMosaic.Lib.Claim

@[expose] public section

set_option maxRecDepth 16384

noncomputable section

namespace Cert.PrepIdeal.Lane

open Cert.PrepIdeal Cert.PrepIdeal.Gen Idealize.ShloMosaic

/-! A lane's eigenvalue `r`, `i`, its step `d`, the cotangents `u`, `v` of the discretised eigenvalue, and the sums `s` and `w` over
the inputs of the cotangents of the discretised input matrix times the matrix. -/

variable (r i d u v s w : EReal)

def mag : EReal := Ideal.exp (r * d)
def co : EReal := Ideal.cos (i * d)
def si : EReal := Ideal.sin (i * d)
def den : EReal := r * r + i * i
def nr : EReal := mag r d * co i d - 1
def ni : EReal := mag r d * si i d
def re : EReal := nr r i d * r + ni r i d * i
def im : EReal := ni r i d * r - nr r i d * i
def fre : EReal := Ideal.div (re r i d) (den r i)
def fim : EReal := Ideal.div (im r i d) (den r i)
def inv2 : EReal := Ideal.div 1 (den r i * den r i)
def dden : EReal := -(s * inv2 r i * im r i d) + -(w * inv2 r i * re r i d)
def qs : EReal := Ideal.div s (den r i)
def qw : EReal := Ideal.div w (den r i)
def dnr : EReal := u + -qs r i s * i + qw r i w * r
def dni : EReal := v + qs r i s * r + qw r i w * i
def gc : EReal := mag r d * dni r i v s w * co i d
def gs : EReal := -(mag r d * dnr r i u s w) * si i d
def gm : EReal := (dni r i v s w * si i d + dnr r i u s w * co i d) * mag r d
def dr : EReal := ni r i d * qs r i s + nr r i d * qw r i w + r * dden r i d s w + dden r i d s w * r + gm r i d u v s w * d
def di : EReal :=
  nr r i d * -qs r i s + ni r i d * qw r i w + i * dden r i d s w + dden r i d s w * i + gc r i d v s w * d + gs r i d u s w * d
def dd : EReal := i * gc r i d v s w + i * gs r i d u s w + r * gm r i d u v s w

/-! ## The payloads of the kernel's body -/

variable (x0 x1 x6 x7 : Vec Ideal S1x4096 .f32) (x2 : Vec Ideal S1x64 .f32) (x3 x4 x8 x9 : Vec Ideal S16x4096 .f32) (x5 : Vec Ideal S64x4096 .f32)

/-- A lane's step, and its two sums over the inputs. -/
def step (l : Fin 4096) : EReal := ∑ g : Fin 64, Ideal.exp (x2 (ix2 0 g)) * x5 (ix2 g l)
def sumS (l : Fin 4096) : EReal := (∑ p : Fin 16, x9 (ix2 p l) * x3 (ix2 p l)) + ∑ p : Fin 16, -x8 (ix2 p l) * x4 (ix2 p l)
def sumW (l : Fin 4096) : EReal := (∑ p : Fin 16, x9 (ix2 p l) * x4 (ix2 p l)) + ∑ p : Fin 16, x8 (ix2 p l) * x3 (ix2 p l)

theorem out_dr (l : Fin 4096) : out0_10 (F := Ideal) x0 x1 x2 x3 x4 x5 x6 x7 x8 x9 (ix2 0 l)
    = dr (x0 (ix2 0 l)) (x1 (ix2 0 l)) (step x2 x5 l) (x6 (ix2 0 l)) (x7 (ix2 0 l)) (sumS x3 x4 x8 x9 l) (sumW x3 x4 x8 x9 l) := by
  unfold_out out0_10
  frame_out
  unfold_payloads
  pointwise
  simp only [zero_sub]
  rfl

theorem out_di (l : Fin 4096) : out0_11 (F := Ideal) x0 x1 x2 x3 x4 x5 x6 x7 x8 x9 (ix2 0 l)
    = di (x0 (ix2 0 l)) (x1 (ix2 0 l)) (step x2 x5 l) (x6 (ix2 0 l)) (x7 (ix2 0 l)) (sumS x3 x4 x8 x9 l) (sumW x3 x4 x8 x9 l) := by
  unfold_out out0_11
  frame_out
  unfold_payloads
  pointwise
  simp only [zero_sub]
  rfl

theorem out_dd (g : Fin 64) : out0_12 (F := Ideal) x0 x1 x2 x3 x4 x5 x6 x7 x8 x9 (ix2 0 g)
    = (∑ l : Fin 4096, dd (x0 (ix2 0 l)) (x1 (ix2 0 l)) (step x2 x5 l) (x6 (ix2 0 l)) (x7 (ix2 0 l)) (sumS x3 x4 x8 x9 l) (sumW x3 x4 x8 x9 l)
        * x5 (ix2 g l)) * Ideal.exp (x2 (ix2 0 g)) := by
  unfold_out out0_12
  frame_out
  unfold_payloads
  pointwise
  simp only [zero_sub]
  rfl

theorem out_br (p : Fin 16) (l : Fin 4096) : out0_13 (F := Ideal) x0 x1 x2 x3 x4 x5 x6 x7 x8 x9 (ix2 p l)
    = fim (x0 (ix2 0 l)) (x1 (ix2 0 l)) (step x2 x5 l) * x9 (ix2 p l) + fre (x0 (ix2 0 l)) (x1 (ix2 0 l)) (step x2 x5 l) * x8 (ix2 p l) := by
  unfold_out out0_13
  frame_out
  unfold_payloads
  pointwise
  rfl

theorem out_bi (p : Fin 16) (l : Fin 4096) : out0_14 (F := Ideal) x0 x1 x2 x3 x4 x5 x6 x7 x8 x9 (ix2 p l)
    = fre (x0 (ix2 0 l)) (x1 (ix2 0 l)) (step x2 x5 l) * x9 (ix2 p l) + fim (x0 (ix2 0 l)) (x1 (ix2 0 l)) (step x2 x5 l) * -x8 (ix2 p l) := by
  unfold_out out0_14
  frame_out
  unfold_payloads
  pointwise
  simp only [zero_sub]
  rfl

end Cert.PrepIdeal.Lane

end
-- ==== Proof.PrepRef.lean ====
/-
  The stages of the derivative of the discretised recurrence, as the functions of a lane's numbers.
-/
module

public import proofs.«01_k».proof.Proof.PrepMath

@[expose] public section

set_option maxRecDepth 16384

noncomputable section

namespace Cert.PrepRefIdeal.Lane

open Cert.PrepRefIdeal Cert.PrepRefIdeal.Gen Cert.PrepRefIdeal.Read Cert.PrepIdeal.Lane Idealize.ShloMosaic

variable (x0 x1 x5 x6 : (⟨S64x64, .f32⟩ : BufTy).Contents (Elt Ideal)) (x2 : (⟨S64, .f32⟩ : BufTy).Contents (Elt Ideal))
  (x3 x4 x7 x8 : (⟨S64x64x16, .f32⟩ : BufTy).Contents (Elt Ideal))

/-- A group's step, and a lane's two sums over the inputs. -/
def st (g : Fin 64) : EReal := Ideal.exp (x2 (ix1 g))
def ss (g n : Fin 64) : EReal := (∑ p : Fin 16, x8 (ix3 g n p) * x3 (ix3 g n p)) + ∑ p : Fin 16, -x7 (ix3 g n p) * x4 (ix3 g n p)
def sw (g n : Fin 64) : EReal := (∑ p : Fin 16, x8 (ix3 g n p) * x4 (ix3 g n p)) + ∑ p : Fin 16, x7 (ix3 g n p) * x3 (ix3 g n p)

variable (g n : Fin 64)

theorem one_lit : (FloatOps.ofBits .f32 0x3F800000#32 : Ideal .f32) = (1 : EReal) := Ideal.ofBits_one_f32
theorem zero_lit : (FloatOps.ofBits .f32 0x00000000#32 : Ideal .f32) = (0 : EReal) := Ideal.ofBits_zero_f32

theorem r_step : val_main_v2 (F := Ideal) x2 (ix2 g n) = st x2 g := by
  rw [val_main_v2_apply, val_main_v1_apply, val_main_v0_apply]
  exact congrArg (fun j => Ideal.exp (x2 j)) (funext fun a => match a with | ⟨0, _⟩ => rfl)
theorem r_step5 : val_main_v5 (F := Ideal) x2 (ix2 g n) = st x2 g := r_step x2 g n
theorem r_step10 : val_main_v10 (F := Ideal) x2 (ix2 g n) = st x2 g := r_step x2 g n
theorem r_step118 : val_main_v118 (F := Ideal) x2 (ix2 g n) = st x2 g := r_step x2 g n
theorem r_step130 : val_main_v130 (F := Ideal) x2 (ix2 g n) = st x2 g := r_step x2 g n
theorem r_step138 : val_main_v138 (F := Ideal) x2 (ix2 g n) = st x2 g := r_step x2 g n

theorem r_mag : val_main_v4 (F := Ideal) x0 x2 (ix2 g n) = mag (x0 (ix2 g n)) (st x2 g) := by
  rw [val_main_v4_apply, val_main_v3_apply, r_step]; rfl
theorem r_co : val_main_v7 (F := Ideal) x1 x2 (ix2 g n) = co (x1 (ix2 g n)) (st x2 g) := by
  rw [val_main_v7_apply, val_main_v6_apply, r_step5]; rfl
theorem r_si : val_main_v8 (F := Ideal) x1 x2 (ix2 g n) = si (x1 (ix2 g n)) (st x2 g) := by
  rw [val_main_v8_apply, val_main_v6_apply, r_step5]; rfl
theorem r_si' : val_main_v12 (F := Ideal) x1 x2 (ix2 g n) = si (x1 (ix2 g n)) (st x2 g) := by
  rw [val_main_v12_apply, val_main_v11_apply, r_step10]; rfl
theorem r_co' : val_main_v13 (F := Ideal) x1 x2 (ix2 g n) = co (x1 (ix2 g n)) (st x2 g) := by
  rw [val_main_v13_apply, val_main_v11_apply, r_step10]; rfl
theorem r_den : val_main_v17 (F := Ideal) x0 x1 (ix2 g n) = den (x0 (ix2 g n)) (x1 (ix2 g n)) := rfl
theorem r_nr : val_main_v19 (F := Ideal) x0 x1 x2 (ix2 g n) = nr (x0 (ix2 g n)) (x1 (ix2 g n)) (st x2 g) := by
  rw [val_main_v19_apply, val_main_v9_apply, r_mag, r_co, val_main_v18_apply, val_main_cst_apply, one_lit]; rfl
theorem r_ni : val_main_v14 (F := Ideal) x0 x1 x2 (ix2 g n) = ni (x0 (ix2 g n)) (x1 (ix2 g n)) (st x2 g) := by
  rw [val_main_v14_apply, r_mag, r_si']; rfl
theorem r_re : val_main_v22 (F := Ideal) x0 x1 x2 (ix2 g n) = re (x0 (ix2 g n)) (x1 (ix2 g n)) (st x2 g) := by
  rw [val_main_v22_apply, val_main_v20_apply, val_main_v21_apply, r_nr, r_ni]; rfl
theorem r_im : val_main_v29 (F := Ideal) x0 x1 x2 (ix2 g n) = im (x0 (ix2 g n)) (x1 (ix2 g n)) (st x2 g) := by
  rw [val_main_v29_apply, val_main_v27_apply, val_main_v28_apply, r_nr, r_ni]; rfl
theorem r_fre : val_main_v23 (F := Ideal) x0 x1 x2 (ix2 g n) = fre (x0 (ix2 g n)) (x1 (ix2 g n)) (st x2 g) := by
  rw [val_main_v23_apply, r_re, r_den]; rfl
theorem r_fim : val_main_v30 (F := Ideal) x0 x1 x2 (ix2 g n) = fim (x0 (ix2 g n)) (x1 (ix2 g n)) (st x2 g) := by
  rw [val_main_v30_apply, r_im, r_den]; rfl
theorem r_inv : val_main_v26 (F := Ideal) x0 x1 (ix2 g n) = inv2 (x0 (ix2 g n)) (x1 (ix2 g n)) := by
  rw [val_main_v26_apply, val_main_v24_apply, r_den, val_main_v25_apply, val_main_cst_0_apply, one_lit]; rfl
theorem r_inv' : val_main_v33 (F := Ideal) x0 x1 (ix2 g n) = inv2 (x0 (ix2 g n)) (x1 (ix2 g n)) := by
  rw [val_main_v33_apply, val_main_v31_apply, r_den, val_main_v32_apply, val_main_cst_1_apply, one_lit]; rfl

/-! ## The sums over the inputs -/

theorem same48 (i : S64x64x16.Idx) : idx_main_v48 i = i := by
  have h0 : (i 0).val < 64 := (i 0).isLt
  have h1 : (i 1).val < 64 := (i 1).isLt
  have h2 : (i 2).val < 16 := (i 2).isLt
  funext a
  match a with
  | ⟨0, _⟩ => exact Fin.ext (by show (((i 0).val * 64 + (i 1).val) * 16 + (i 2).val) / 1024 = (i 0).val; omega)
  | ⟨1, _⟩ => exact Fin.ext (by show (((i 0).val * 64 + (i 1).val) * 16 + (i 2).val) / 16 % 64 = (i 1).val; omega)
  | ⟨2, _⟩ => exact Fin.ext (by show (((i 0).val * 64 + (i 1).val) * 16 + (i 2).val) % 16 = (i 2).val; omega)
theorem same49 (i : S64x64x16.Idx) : idx_main_v49 i = i := same48 i
theorem same62 (i : S64x64x16.Idx) : idx_main_v62 i = i := same48 i

theorem at54 (k : Fin 1) (p : Fin 16) : idx_main_v53 (idx_main_v54 (idx_main_v55 (ix2 g n) k)) p = ix3 g n p := by
  funext a
  match a with
  | ⟨0, _⟩ => exact Fin.ext (by show ((g.val * 64 + n.val) * 1 + k.val) / 64 = g.val; omega)
  | ⟨1, _⟩ => exact Fin.ext (by show ((g.val * 64 + n.val) * 1 + k.val) % 64 = n.val; omega)
  | ⟨2, _⟩ => rfl
theorem at60 (k : Fin 1) (p : Fin 16) : idx_main_v59 (idx_main_v60 (idx_main_v61 (ix2 g n) k)) p = ix3 g n p := at54 g n k p
theorem at69 (k : Fin 1) (p : Fin 16) : idx_main_v68 (idx_main_v69 (idx_main_v70 (ix2 g n) k)) p = ix3 g n p := at54 g n k p
theorem at77 (k : Fin 1) (p : Fin 16) : idx_main_v76 (idx_main_v77 (idx_main_v78 (ix2 g n) k)) p = ix3 g n p := at54 g n k p

theorem r_ss : val_main_v71 (F := Ideal) x3 x4 x7 x8 (ix2 g n) = ss x3 x4 x7 x8 g n := by
  rw [val_main_v71_apply, val_main_v55_apply, val_main_v70_apply]
  simp only [val_main_v54_apply, val_main_v53_apply, val_main_v69_apply, val_main_v68_apply, at54, at69, val_main_cst_3_apply,
    val_main_cst_2_apply, val_main_cst_6_apply, val_main_cst_7_apply, zero_lit, zero_add, Fin.sum_univ_one, val_main_v52_apply,
    val_main_v67_apply, val_main_v63_apply, val_main_v49_apply, same49]
  rfl
theorem r_sw : val_main_v79 (F := Ideal) x3 x4 x7 x8 (ix2 g n) = sw x3 x4 x7 x8 g n := by
  rw [val_main_v79_apply, val_main_v61_apply, val_main_v78_apply]
  simp only [val_main_v60_apply, val_main_v59_apply, val_main_v77_apply, val_main_v76_apply, at60, at77, val_main_cst_5_apply,
    val_main_cst_4_apply, val_main_cst_8_apply, val_main_cst_9_apply, zero_lit, zero_add, Fin.sum_univ_one, val_main_v58_apply,
    val_main_v75_apply, val_main_v48_apply, val_main_v62_apply, same48, same62]
  rfl

/-! ## The gradients -/

theorem r_dden : val_main_v94 (F := Ideal) x0 x1 x2 x3 x4 x7 x8 (ix2 g n)
    = dden (x0 (ix2 g n)) (x1 (ix2 g n)) (st x2 g) (ss x3 x4 x7 x8 g n) (sw x3 x4 x7 x8 g n) := by
  rw [val_main_v94_apply, val_main_v82_apply, val_main_v81_apply, val_main_v80_apply, val_main_v93_apply, val_main_v92_apply,
    val_main_v91_apply, r_ss, r_sw, r_inv, r_inv', r_re, r_im]
  rfl
theorem r_qs : val_main_v83 (F := Ideal) x0 x1 x3 x4 x7 x8 (ix2 g n) = qs (x0 (ix2 g n)) (x1 (ix2 g n)) (ss x3 x4 x7 x8 g n) := by
  rw [val_main_v83_apply, r_ss, r_den]; rfl
theorem r_qw : val_main_v95 (F := Ideal) x0 x1 x3 x4 x7 x8 (ix2 g n) = qw (x0 (ix2 g n)) (x1 (ix2 g n)) (sw x3 x4 x7 x8 g n) := by
  rw [val_main_v95_apply, r_sw, r_den]; rfl
theorem r_dnr : val_main_v103 (F := Ideal) x0 x1 x3 x4 x5 x7 x8 (ix2 g n)
    = dnr (x0 (ix2 g n)) (x1 (ix2 g n)) (x5 (ix2 g n)) (ss x3 x4 x7 x8 g n) (sw x3 x4 x7 x8 g n) := by
  rw [val_main_v103_apply, val_main_v87_apply, val_main_v86_apply, val_main_v84_apply, val_main_v102_apply, r_qs, r_qw]; rfl
theorem r_dni : val_main_v99 (F := Ideal) x0 x1 x3 x4 x6 x7 x8 (ix2 g n)
    = dni (x0 (ix2 g n)) (x1 (ix2 g n)) (x6 (ix2 g n)) (ss x3 x4 x7 x8 g n) (sw x3 x4 x7 x8 g n) := by
  rw [val_main_v99_apply, val_main_v90_apply, val_main_v89_apply, val_main_v98_apply, r_qs, r_qw]; rfl
theorem r_gc : val_main_v114 (F := Ideal) x0 x1 x2 x3 x4 x6 x7 x8 (ix2 g n)
    = gc (x0 (ix2 g n)) (x1 (ix2 g n)) (st x2 g) (x6 (ix2 g n)) (ss x3 x4 x7 x8 g n) (sw x3 x4 x7 x8 g n) := by
  rw [val_main_v114_apply, val_main_v112_apply, r_mag, r_dni, r_co']; rfl
theorem r_gs : val_main_v125 (F := Ideal) x0 x1 x2 x3 x4 x5 x7 x8 (ix2 g n)
    = gs (x0 (ix2 g n)) (x1 (ix2 g n)) (st x2 g) (x5 (ix2 g n)) (ss x3 x4 x7 x8 g n) (sw x3 x4 x7 x8 g n) := by
  rw [val_main_v125_apply, val_main_v124_apply, val_main_v121_apply, r_mag, r_dnr, r_si]; rfl
theorem r_gm : val_main_v133 (F := Ideal) x0 x1 x2 x3 x4 x5 x6 x7 x8 (ix2 g n)
    = gm (x0 (ix2 g n)) (x1 (ix2 g n)) (st x2 g) (x5 (ix2 g n)) (x6 (ix2 g n)) (ss x3 x4 x7 x8 g n) (sw x3 x4 x7 x8 g n) := by
  rw [val_main_v133_apply, val_main_v123_apply, val_main_v113_apply, val_main_v122_apply, r_mag, r_dnr, r_dni, r_si', r_co]; rfl

theorem r_dr : val_main_v140 (F := Ideal) x0 x1 x2 x3 x4 x5 x6 x7 x8 (ix2 g n)
    = dr (x0 (ix2 g n)) (x1 (ix2 g n)) (st x2 g) (x5 (ix2 g n)) (x6 (ix2 g n)) (ss x3 x4 x7 x8 g n) (sw x3 x4 x7 x8 g n) := by
  rw [val_main_v140_apply, val_main_v139_apply, val_main_v111_apply, val_main_v110_apply, val_main_v109_apply, val_main_v108_apply,
    val_main_v101_apply, val_main_v100_apply, val_main_v88_apply, r_gm, r_step138, r_dden, r_nr, r_ni, r_qs, r_qw]
  rfl
theorem r_di : val_main_v132 (F := Ideal) x0 x1 x2 x3 x4 x5 x6 x7 x8 (ix2 g n)
    = di (x0 (ix2 g n)) (x1 (ix2 g n)) (st x2 g) (x5 (ix2 g n)) (x6 (ix2 g n)) (ss x3 x4 x7 x8 g n) (sw x3 x4 x7 x8 g n) := by
  rw [val_main_v132_apply, val_main_v131_apply, val_main_v120_apply, val_main_v119_apply, val_main_v107_apply, val_main_v106_apply,
    val_main_v105_apply, val_main_v104_apply, val_main_v97_apply, val_main_v96_apply, val_main_v85_apply, val_main_v84_apply,
    r_gc, r_gs, r_step118, r_step130, r_dden, r_nr, r_ni, r_qs, r_qw]
  rfl

theorem at117 (k : Fin 1) (x : Fin 64) : idx_main_v116 (idx_main_v117 (idx_main_v141 (ix1 g) k)) x = ix2 g x := by
  funext a
  match a with
  | ⟨0, _⟩ => exact Fin.ext (by show g.val * 1 + k.val = g.val; omega)
  | ⟨1, _⟩ => rfl
theorem at128 (k : Fin 1) (x : Fin 64) : idx_main_v127 (idx_main_v128 (idx_main_v141 (ix1 g) k)) x = ix2 g x := at117 g k x
theorem at136 (k : Fin 1) (x : Fin 64) : idx_main_v135 (idx_main_v136 (idx_main_v141 (ix1 g) k)) x = ix2 g x := at117 g k x

/-- The gradient of a group's step is the sum of its lanes' gradients, times the step. -/
theorem r_dd : val_main_v142 (F := Ideal) x0 x1 x2 x3 x4 x5 x6 x7 x8 (ix1 g)
    = (∑ l : Fin 64, dd (x0 (ix2 g l)) (x1 (ix2 g l)) (st x2 g) (x5 (ix2 g l)) (x6 (ix2 g l)) (ss x3 x4 x7 x8 g l) (sw x3 x4 x7 x8 g l))
        * st x2 g := by
  rw [val_main_v142_apply, val_main_v141_apply, val_main_v0_apply]
  simp only [val_main_cst_13_apply, val_main_cst_12_apply, val_main_cst_11_apply, val_main_cst_10_apply, zero_lit, zero_add,
    Fin.sum_univ_one, val_main_v137_apply, val_main_v136_apply, val_main_v135_apply, val_main_v134_apply, val_main_v129_apply,
    val_main_v128_apply, val_main_v127_apply, val_main_v126_apply, val_main_v117_apply, val_main_v116_apply, val_main_v115_apply,
    at117, at128, at136, r_gc, r_gs, r_gm]
  unfold dd
  rw [Finset.sum_add_distrib, Finset.sum_add_distrib]
  rfl

theorem r_br (p : Fin 16) : val_main_v74 (F := Ideal) x0 x1 x2 x7 x8 (ix3 g n p)
    = fim (x0 (ix2 g n)) (x1 (ix2 g n)) (st x2 g) * x8 (ix3 g n p) + fre (x0 (ix2 g n)) (x1 (ix2 g n)) (st x2 g) * x7 (ix3 g n p) := by
  rw [val_main_v74_apply, val_main_v51_apply, val_main_v73_apply, val_main_v50_apply, val_main_v44_apply, val_main_v72_apply,
    val_main_v34_apply, val_main_v49_apply, val_main_v62_apply, same49, same62, ← r_fim, ← r_fre]
  refine congrArg₂ (· + ·) (congrArg₂ (· * ·) (congrArg _ ?_) rfl) (congrArg₂ (· * ·) (congrArg _ ?_) rfl) <;>
    exact funext fun a => match a with | ⟨0, _⟩ => rfl | ⟨1, _⟩ => rfl
theorem r_bi (p : Fin 16) : val_main_v66 (F := Ideal) x0 x1 x2 x7 x8 (ix3 g n p)
    = fre (x0 (ix2 g n)) (x1 (ix2 g n)) (st x2 g) * x8 (ix3 g n p) + fim (x0 (ix2 g n)) (x1 (ix2 g n)) (st x2 g) * -x7 (ix3 g n p) := by
  rw [val_main_v66_apply, val_main_v57_apply, val_main_v65_apply, val_main_v56_apply, val_main_v41_apply, val_main_v64_apply,
    val_main_v37_apply, val_main_v48_apply, val_main_v63_apply, same48, ← r_fim, ← r_fre]
  refine congrArg₂ (· + ·) (congrArg₂ (· * ·) (congrArg _ ?_) rfl) (congrArg₂ (· * ·) (congrArg _ ?_) rfl) <;>
    exact funext fun a => match a with | ⟨0, _⟩ => rfl | ⟨1, _⟩ => rfl

end Cert.PrepRefIdeal.Lane

end
-- ==== Proof.PrepGrad.lean ====
/-
  The gradient of the discretised recurrence, as the kernel computes it over 4096 lanes, is the reference's, result by result.
-/
module

public import proofs.«01_k».proof.Proof.PrepRef
public import proofs.«01_k».proof.Proof.Literals
public import Idealize.ShloMosaic.Lib.Pipeline.ValueKit

@[expose] public section

set_option maxRecDepth 16384

noncomputable section

namespace Cert.PrepIdeal.Result

open Cert.PrepIdeal Cert.PrepIdeal.Gen Cert.PrepIdeal.Lane Idealize.ShloMosaic Idealize.ShloMosaic.TcCoe Idealize.SL.Sem
open Cert.PrepRefIdeal.Read Cert.PrepRefIdeal.Lane
variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0, 0] ∧ win0_13.index t = ![0, 0] ∧ win0_14.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0, 0] ∧ win0_13.index t = ![0, 0] ∧ win0_14.index t = ![0, 0])

/-- State `n` of group `g` is a lane, and every lane is one. -/
def lane (g n : Fin 64) : Fin 4096 := ⟨g.val * 64 + n.val, by omega⟩
theorem lane_of (l : Fin 4096) : ∃ g n : Fin 64, l = lane g n :=
  ⟨⟨l.val / 64, by omega⟩, ⟨l.val % 64, by omega⟩, Fin.ext (by show l.val = l.val / 64 * 64 + l.val % 64; omega)⟩

/-! ## The operands -/

def b0 (c : Dev nD) (t : Fin cfg0.N) : Vec Ideal S1x4096 .f32 := iblk m c 0 t
def b1 (c : Dev nD) (t : Fin cfg0.N) : Vec Ideal S1x4096 .f32 := iblk m c 1 t
def b2 (c : Dev nD) (t : Fin cfg0.N) : Vec Ideal S1x64 .f32 := iblk m c 2 t
def b3 (c : Dev nD) (t : Fin cfg0.N) : Vec Ideal S16x4096 .f32 := iblk m c 3 t
def b4 (c : Dev nD) (t : Fin cfg0.N) : Vec Ideal S16x4096 .f32 := iblk m c 4 t
def b5 (c : Dev nD) (t : Fin cfg0.N) : Vec Ideal S64x4096 .f32 := iblk m c 5 t
def b6 (c : Dev nD) (t : Fin cfg0.N) : Vec Ideal S1x4096 .f32 := iblk m c 6 t
def b7 (c : Dev nD) (t : Fin cfg0.N) : Vec Ideal S1x4096 .f32 := iblk m c 7 t
def b8 (c : Dev nD) (t : Fin cfg0.N) : Vec Ideal S16x4096 .f32 := iblk m c 8 t
def b9 (c : Dev nD) (t : Fin cfg0.N) : Vec Ideal S16x4096 .f32 := iblk m c 9 t

variable (c : Dev nD) (t : Fin cfg0.N) (g n : Fin 64) (p : Fin 16)

theorem at0 : V m c main_v5 = shapeCast S1x4096 (m ((c : Thread nD τ).loc main_arg0)) shapeCasts_S64x64_S1x4096 := by
  show StableHlo.after (hostOps0 ++ hostOps0_1 ++ hostOps0_2) (fun b => m (c, b)) _ = _
  simp only [List.append_assoc, List.cons_append, List.nil_append]
  entry_read
  rfl
theorem at1 : V m c main_v6 = shapeCast S1x4096 (m ((c : Thread nD τ).loc main_arg1)) shapeCasts_S64x64_S1x4096 := by
  show StableHlo.after (hostOps0 ++ hostOps0_1 ++ hostOps0_2) (fun b => m (c, b)) _ = _
  simp only [List.append_assoc, List.cons_append, List.nil_append]
  entry_read
  rfl
theorem at2 : V m c main_v7 = shapeCast S1x64 (m ((c : Thread nD τ).loc main_arg2)) shapeCasts_S64_S1x64 := by
  show StableHlo.after (hostOps0 ++ hostOps0_1 ++ hostOps0_2) (fun b => m (c, b)) _ = _
  simp only [List.append_assoc, List.cons_append, List.nil_append]
  entry_read
  rfl
theorem at3 : V m c main_v9 = shapeCast S16x4096 (transpose S16x64x64 [2, 0, 1] (m ((c : Thread nD τ).loc main_arg3)) transposes_S64x64x16_S16x64x64_2_0_1) shapeCasts_S16x64x64_S16x4096 := by
  show StableHlo.after (hostOps0 ++ hostOps0_1 ++ hostOps0_2) (fun b => m (c, b)) _ = _
  simp only [List.append_assoc, List.cons_append, List.nil_append]
  entry_read
  rfl
theorem at4 : V m c main_v11 = shapeCast S16x4096 (transpose S16x64x64 [2, 0, 1] (m ((c : Thread nD τ).loc main_arg4)) transposes_S64x64x16_S16x64x64_2_0_1) shapeCasts_S16x64x64_S16x4096 := by
  show StableHlo.after (hostOps0 ++ hostOps0_1 ++ hostOps0_2) (fun b => m (c, b)) _ = _
  simp only [List.append_assoc, List.cons_append, List.nil_append]
  entry_read
  rfl
theorem at6 : V m c main_v12 = shapeCast S1x4096 (m ((c : Thread nD τ).loc main_arg5)) shapeCasts_S64x64_S1x4096 := by
  show StableHlo.after (hostOps0 ++ hostOps0_1 ++ hostOps0_2) (fun b => m (c, b)) _ = _
  simp only [List.append_assoc, List.cons_append, List.nil_append]
  entry_read
  rfl
theorem at7 : V m c main_v13 = shapeCast S1x4096 (m ((c : Thread nD τ).loc main_arg6)) shapeCasts_S64x64_S1x4096 := by
  show StableHlo.after (hostOps0 ++ hostOps0_1 ++ hostOps0_2) (fun b => m (c, b)) _ = _
  simp only [List.append_assoc, List.cons_append, List.nil_append]
  entry_read
  rfl
theorem at8 : V m c main_v15 = shapeCast S16x4096 (transpose S16x64x64 [2, 0, 1] (m ((c : Thread nD τ).loc main_arg7)) transposes_S64x64x16_S16x64x64_2_0_1) shapeCasts_S16x64x64_S16x4096 := by
  show StableHlo.after (hostOps0 ++ hostOps0_1 ++ hostOps0_2) (fun b => m (c, b)) _ = _
  simp only [List.append_assoc, List.cons_append, List.nil_append]
  entry_read
  rfl
theorem at9 : V m c main_v17 = shapeCast S16x4096 (transpose S16x64x64 [2, 0, 1] (m ((c : Thread nD τ).loc main_arg8)) transposes_S64x64x16_S16x64x64_2_0_1) shapeCasts_S16x64x64_S16x4096 := by
  show StableHlo.after (hostOps0 ++ hostOps0_1 ++ hostOps0_2) (fun b => m (c, b)) _ = _
  simp only [List.append_assoc, List.cons_append, List.nil_append]
  entry_read
  rfl
theorem at5 : V m c main_v4 = shapeCast S64x4096 (select (cmpi .eq (iotaInDim S64x64x64 32 0) (iotaInDim S64x64x64 32 1))
    (broadcastInDim S64x64x64 ![] bcast_S_S64x64x64 (constant (F := Ideal) S_ .f32 0x3F800000#32 : Vec Ideal S_ .f32))
    (broadcastInDim S64x64x64 ![] bcast_S_S64x64x64 (constant (F := Ideal) S_ .f32 0x00000000#32 : Vec Ideal S_ .f32)) : Vec Ideal S64x64x64 .f32) shapeCasts_S64x64x64_S64x4096 := by
  show StableHlo.after (hostOps0 ++ hostOps0_1 ++ hostOps0_2) (fun b => m (c, b)) _ = _
  simp only [List.append_assoc, List.cons_append, List.nil_append]
  entry_read
  rfl

theorem flat (A : Vec Ideal S64x64 .f32) : shapeCast S1x4096 A shapeCasts_S64x64_S1x4096 (ix2 0 (lane g n)) = A (ix2 g n) :=
  shapeCast_apply A _ _ (ix2 g n) (by
    rw [Shape.rowMajor_val_two, Shape.rowMajor_val_two]; show g.val * 64 + n.val = 0 * 4096 + (g.val * 64 + n.val); omega)
theorem flat3 (A : Vec Ideal S64x64x64 .f32) (h : Fin 64) :
    shapeCast S64x4096 A shapeCasts_S64x64x64_S64x4096 (ix2 h (lane g n)) = A (ix3 h g n) :=
  shapeCast_apply A _ _ (ix3 h g n) (by
    rw [Shape.rowMajor_val_three, Shape.rowMajor_val_two]
    show (h.val * 64 + g.val) * 64 + n.val = h.val * 4096 + (g.val * 64 + n.val); omega)

theorem b0_eq : b0 m c t (ix2 0 (lane g n)) = m ((c : Thread nD τ).loc main_arg0) (ix2 g n) := by
  have e : ((cfg0.win 0).blk t).view.emb (ix2 0 (lane g n)) = (ix2 0 (lane g n) : S1x4096.Idx) := by blk_ext [idx t]
  exact (congrArg (V m c main_v5) e).trans ((congrFun (at0 m c) _).trans (flat g n _))
theorem b1_eq : b1 m c t (ix2 0 (lane g n)) = m ((c : Thread nD τ).loc main_arg1) (ix2 g n) := by
  have e : ((cfg0.win 1).blk t).view.emb (ix2 0 (lane g n)) = (ix2 0 (lane g n) : S1x4096.Idx) := by blk_ext [idx t]
  exact (congrArg (V m c main_v6) e).trans ((congrFun (at1 m c) _).trans (flat g n _))
theorem b6_eq : b6 m c t (ix2 0 (lane g n)) = m ((c : Thread nD τ).loc main_arg5) (ix2 g n) := by
  have e : ((cfg0.win 6).blk t).view.emb (ix2 0 (lane g n)) = (ix2 0 (lane g n) : S1x4096.Idx) := by blk_ext [idx t]
  exact (congrArg (V m c main_v12) e).trans ((congrFun (at6 m c) _).trans (flat g n _))
theorem b7_eq : b7 m c t (ix2 0 (lane g n)) = m ((c : Thread nD τ).loc main_arg6) (ix2 g n) := by
  have e : ((cfg0.win 7).blk t).view.emb (ix2 0 (lane g n)) = (ix2 0 (lane g n) : S1x4096.Idx) := by blk_ext [idx t]
  exact (congrArg (V m c main_v13) e).trans ((congrFun (at7 m c) _).trans (flat g n _))
theorem b2_eq : b2 m c t (ix2 0 g) = m ((c : Thread nD τ).loc main_arg2) (ix1 g) := by
  unfold b2
  blk_simp [iblk]
  rw [show V m c (Pipeline.arrRef spec0 2) = _ from at2 m c]
  pointwise
  blk_ext [idx t]
theorem b3_eq : b3 m c t (ix2 p (lane g n)) = m ((c : Thread nD τ).loc main_arg3) (ix3 g n p) := by
  unfold b3 lane
  blk_simp [iblk]
  rw [show V m c (Pipeline.arrRef spec0 3) = _ from at3 m c]
  pointwise
  blk_ext [idx t]
theorem b4_eq : b4 m c t (ix2 p (lane g n)) = m ((c : Thread nD τ).loc main_arg4) (ix3 g n p) := by
  unfold b4 lane
  blk_simp [iblk]
  rw [show V m c (Pipeline.arrRef spec0 4) = _ from at4 m c]
  pointwise
  blk_ext [idx t]
theorem b8_eq : b8 m c t (ix2 p (lane g n)) = m ((c : Thread nD τ).loc main_arg7) (ix3 g n p) := by
  unfold b8 lane
  blk_simp [iblk]
  rw [show V m c (Pipeline.arrRef spec0 8) = _ from at8 m c]
  pointwise
  blk_ext [idx t]
theorem b9_eq : b9 m c t (ix2 p (lane g n)) = m ((c : Thread nD τ).loc main_arg8) (ix3 g n p) := by
  unfold b9 lane
  blk_simp [iblk]
  rw [show V m c (Pipeline.arrRef spec0 9) = _ from at9 m c]
  pointwise
  blk_ext [idx t]

/-- The table that spreads a group's number over its lanes is one at the group's lanes and zero elsewhere. -/
theorem b5_eq (h : Fin 64) : b5 m c t (ix2 h (lane g n)) = if h = g then (1 : EReal) else 0 := by
  have e : ((cfg0.win 5).blk t).view.emb (ix2 h (lane g n)) = (ix2 h (lane g n) : S64x4096.Idx) := by blk_ext [idx t]
  refine (congrArg (V m c main_v4) e).trans ((congrFun (at5 m c) _).trans ((flat3 g n _ h).trans ?_))
  by_cases q : h = g
  · subst q
    pointwise
  · pointwise
    have hb : IntOp.cmpi .eq (BitVec.ofNat 32 h.val) (BitVec.ofNat 32 g.val) = 0#1 := by
      have : ¬ (BitVec.ofNat 32 h.val = BitVec.ofNat 32 g.val) := fun he => q (Fin.ext (by
        have := congrArg BitVec.toNat he
        simp only [BitVec.toNat_ofNat] at this
        omega))
      simp only [IntOp.cmpi, beq_eq_false_iff_ne.mpr this]
      rfl
    rw [hb, if_neg q]
    rfl

theorem step_eq : step (b2 m c t) (b5 m c t) (lane g n) = st (m ((c : Thread nD τ).loc main_arg2)) g := by
  unfold step
  simp only [b2_eq, b5_eq, mul_ite, mul_one, mul_zero, Finset.sum_ite_eq', Finset.mem_univ, if_true]
  rfl
theorem sumS_eq : sumS (b3 m c t) (b4 m c t) (b8 m c t) (b9 m c t) (lane g n) = ss (m ((c : Thread nD τ).loc main_arg3)) (m ((c : Thread nD τ).loc main_arg4)) (m ((c : Thread nD τ).loc main_arg7)) (m ((c : Thread nD τ).loc main_arg8)) g n := by
  unfold sumS
  simp only [b3_eq, b4_eq, b8_eq, b9_eq]
  rfl
theorem sumW_eq : sumW (b3 m c t) (b4 m c t) (b8 m c t) (b9 m c t) (lane g n) = sw (m ((c : Thread nD τ).loc main_arg3)) (m ((c : Thread nD τ).loc main_arg4)) (m ((c : Thread nD τ).loc main_arg7)) (m ((c : Thread nD τ).loc main_arg8)) g n := by
  unfold sumW
  simp only [b3_eq, b4_eq, b8_eq, b9_eq]
  rfl

/-! ## The results -/

theorem tot (f : Fin 4096 → EReal) : ∑ l, f l * b5 m c t (ix2 g l) = ∑ n : Fin 64, f (lane g n) := by
  rw [Lit.sum_tiles 64 64 4096 rfl, Finset.sum_eq_single g]
  · exact Finset.sum_congr rfl fun n _ => (congrArg (f (lane g n) * ·) ((b5_eq m c t g n g).trans (if_pos rfl))).trans (mul_one _)
  · intro h _ hg
    exact Finset.sum_eq_zero fun n _ => (congrArg (f (lane h n) * ·) ((b5_eq m c t h n g).trans (if_neg (Ne.symm hg)))).trans (mul_zero _)
  · exact fun h => absurd (Finset.mem_univ g) h

theorem final_dr (c : Dev nD) : (dats m 0 c).arrAt 10 cfg0.N
    = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  obtain ⟨z, l, rfl⟩ : ∃ (z : Fin 1) (l : Fin 4096), y = ix2 z l := ⟨y 0, y 1, eq_ix2 y⟩
  obtain rfl : z = 0 := Subsingleton.elim _ _
  obtain ⟨g, n, rfl⟩ := lane_of l
  have e : ((cfg0.win 10).blk t).view.emb (ix2 0 (lane g n)) = (ix2 0 (lane g n) : S1x4096.Idx) := by blk_ext [idx t]
  have e' : idx_main_v143 (ix2 0 (lane g n)) = ix2 g n := by
    funext a
    match a with
    | ⟨0, _⟩ => exact Fin.ext (by show (0 * 4096 + (g.val * 64 + n.val)) / 64 = g.val; omega)
    | ⟨1, _⟩ => exact Fin.ext (by show (0 * 4096 + (g.val * 64 + n.val)) % 64 = n.val; omega)
  refine (congrFun (after0_10 m c t) (ix2 0 (lane g n))).trans ?_
  refine (out_dr (b0 m c t) (b1 m c t) (b6 m c t) (b7 m c t) (b2 m c t) (b3 m c t) (b4 m c t) (b8 m c t) (b9 m c t) (b5 m c t) (lane g n)).trans ?_
  refine Eq.trans ?_ (congrArg (val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) e).symm
  rw [val_main_v143_apply, e', r_dr, step_eq, sumS_eq, sumW_eq, b0_eq, b1_eq, b6_eq, b7_eq]

theorem final_di (c : Dev nD) : (dats m 0 c).arrAt 11 cfg0.N
    = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  obtain ⟨z, l, rfl⟩ : ∃ (z : Fin 1) (l : Fin 4096), y = ix2 z l := ⟨y 0, y 1, eq_ix2 y⟩
  obtain rfl : z = 0 := Subsingleton.elim _ _
  obtain ⟨g, n, rfl⟩ := lane_of l
  have e : ((cfg0.win 11).blk t).view.emb (ix2 0 (lane g n)) = (ix2 0 (lane g n) : S1x4096.Idx) := by blk_ext [idx t]
  have e' : idx_main_v144 (ix2 0 (lane g n)) = ix2 g n := by
    funext a
    match a with
    | ⟨0, _⟩ => exact Fin.ext (by show (0 * 4096 + (g.val * 64 + n.val)) / 64 = g.val; omega)
    | ⟨1, _⟩ => exact Fin.ext (by show (0 * 4096 + (g.val * 64 + n.val)) % 64 = n.val; omega)
  refine (congrFun (after0_11 m c t) (ix2 0 (lane g n))).trans ?_
  refine (out_di (b0 m c t) (b1 m c t) (b6 m c t) (b7 m c t) (b2 m c t) (b3 m c t) (b4 m c t) (b8 m c t) (b9 m c t) (b5 m c t) (lane g n)).trans ?_
  refine Eq.trans ?_ (congrArg (val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) e).symm
  rw [val_main_v144_apply, e', r_di, step_eq, sumS_eq, sumW_eq, b0_eq, b1_eq, b6_eq, b7_eq]

theorem final_dd (c : Dev nD) : (dats m 0 c).arrAt 12 cfg0.N
    = val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  obtain ⟨z, g, rfl⟩ : ∃ (z : Fin 1) (g : Fin 64), y = ix2 z g := ⟨y 0, y 1, eq_ix2 y⟩
  obtain rfl : z = 0 := Subsingleton.elim _ _
  have e : ((cfg0.win 12).blk t).view.emb (ix2 0 g) = (ix2 0 g : S1x64.Idx) := by blk_ext [idx t]
  have e' : idx_main_v145 (ix2 0 g) = ix1 g := by
    funext a
    match a with
    | ⟨0, _⟩ => exact Fin.ext (by show 0 * 64 + g.val = g.val; omega)
  refine (congrFun (after0_12 m c t) (ix2 0 g)).trans ?_
  refine (out_dd (b0 m c t) (b1 m c t) (b6 m c t) (b7 m c t) (b2 m c t) (b3 m c t) (b4 m c t) (b8 m c t) (b9 m c t) (b5 m c t) g).trans ?_
  refine Eq.trans ?_ (congrArg (val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) e).symm
  rw [val_main_v145_apply, e', r_dd, tot, b2_eq]
  refine congrArg (· * st (m ((c : Thread nD τ).loc main_arg2)) g) (Finset.sum_congr rfl fun n _ => ?_)
  rw [step_eq, sumS_eq, sumW_eq, b0_eq, b1_eq, b6_eq, b7_eq]

theorem final_br (c : Dev nD) : (dats m 0 c).arrAt 13 cfg0.N
    = val_main_v147 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 13 _ (by decide +kernel) fun t hf y => ?_
  obtain ⟨p, l, rfl⟩ : ∃ (p : Fin 16) (l : Fin 4096), y = ix2 p l := ⟨y 0, y 1, eq_ix2 y⟩
  obtain ⟨g, n, rfl⟩ := lane_of l
  have e : ((cfg0.win 13).blk t).view.emb (ix2 p (lane g n)) = (ix2 p (lane g n) : S16x4096.Idx) := by blk_ext [idx t]
  have e' : idx_main_v146 (idx_main_v147 (ix2 p (lane g n))) = ix3 g n p := by
    funext a
    match a with
    | ⟨0, _⟩ => exact Fin.ext (by show (p.val * 4096 + (g.val * 64 + n.val)) / 64 % 64 = g.val; omega)
    | ⟨1, _⟩ => exact Fin.ext (by show (p.val * 4096 + (g.val * 64 + n.val)) % 64 = n.val; omega)
    | ⟨2, _⟩ => exact Fin.ext (by show (p.val * 4096 + (g.val * 64 + n.val)) / 4096 = p.val; omega)
  refine (congrFun (after0_13 m c t) (ix2 p (lane g n))).trans ?_
  refine (out_br (b0 m c t) (b1 m c t) (b6 m c t) (b7 m c t) (b2 m c t) (b3 m c t) (b4 m c t) (b8 m c t) (b9 m c t) (b5 m c t) p (lane g n)).trans ?_
  refine Eq.trans ?_ (congrArg (val_main_v147 (F := Ideal) (m ((c : Thread nD τ).loc main_arg0)) (m ((c : Thread nD τ).loc main_arg1)) (m ((c : Thread nD τ).loc main_arg2)) (m ((c : Thread nD τ).loc main_arg7)) (m ((c : Thread nD τ).loc main_arg8))) e).symm
  rw [val_main_v147_apply, val_main_v146_apply, e', r_br, step_eq, b0_eq, b1_eq, b8_eq, b9_eq]

theorem final_bi (c : Dev nD) : (dats m 0 c).arrAt 14 cfg0.N
    = val_main_v149 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 14 _ (by decide +kernel) fun t hf y => ?_
  obtain ⟨p, l, rfl⟩ : ∃ (p : Fin 16) (l : Fin 4096), y = ix2 p l := ⟨y 0, y 1, eq_ix2 y⟩
  obtain ⟨g, n, rfl⟩ := lane_of l
  have e : ((cfg0.win 14).blk t).view.emb (ix2 p (lane g n)) = (ix2 p (lane g n) : S16x4096.Idx) := by blk_ext [idx t]
  have e' : idx_main_v148 (idx_main_v149 (ix2 p (lane g n))) = ix3 g n p := by
    funext a
    match a with
    | ⟨0, _⟩ => exact Fin.ext (by show (p.val * 4096 + (g.val * 64 + n.val)) / 64 % 64 = g.val; omega)
    | ⟨1, _⟩ => exact Fin.ext (by show (p.val * 4096 + (g.val * 64 + n.val)) % 64 = n.val; omega)
    | ⟨2, _⟩ => exact Fin.ext (by show (p.val * 4096 + (g.val * 64 + n.val)) / 4096 = p.val; omega)
  refine (congrFun (after0_14 m c t) (ix2 p (lane g n))).trans ?_
  refine (out_bi (b0 m c t) (b1 m c t) (b6 m c t) (b7 m c t) (b2 m c t) (b3 m c t) (b4 m c t) (b8 m c t) (b9 m c t) (b5 m c t) p (lane g n)).trans ?_
  refine Eq.trans ?_ (congrArg (val_main_v149 (F := Ideal) (m ((c : Thread nD τ).loc main_arg0)) (m ((c : Thread nD τ).loc main_arg1)) (m ((c : Thread nD τ).loc main_arg2)) (m ((c : Thread nD τ).loc main_arg7)) (m ((c : Thread nD τ).loc main_arg8))) e).symm
  rw [val_main_v149_apply, val_main_v148_apply, e', r_bi, step_eq, b0_eq, b1_eq, b8_eq, b9_eq]

/-- After the run an argument is as launched. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The kernel's run with its results named by the reference's stages, and the arguments unchanged. -/
theorem run (ρ : Dev nD → PrngReg) : θ_run defs (onTc (τ := τ) (main (F := Ideal))) ⟨m, fun _ => 0, ρ⟩ fun r => ∀ c : Dev nD,
    r.2.mem ((c : Thread nD τ).loc main_v18_0) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ r.2.mem ((c : Thread nD τ).loc main_v18_1) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ r.2.mem ((c : Thread nD τ).loc main_v18_2) = val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ r.2.mem ((c : Thread nD τ).loc main_v18_3) = val_main_v147 (F := Ideal) (m ((c : Thread nD τ).loc main_arg0)) (m ((c : Thread nD τ).loc main_arg1)) (m ((c : Thread nD τ).loc main_arg2)) (m ((c : Thread nD τ).loc main_arg7)) (m ((c : Thread nD τ).loc main_arg8))
    ∧ r.2.mem ((c : Thread nD τ).loc main_v18_4) = val_main_v149 (F := Ideal) (m ((c : Thread nD τ).loc main_arg0)) (m ((c : Thread nD τ).loc main_arg1)) (m ((c : Thread nD τ).loc main_arg2)) (m ((c : Thread nD τ).loc main_arg7)) (m ((c : Thread nD τ).loc main_arg8))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  (θ_run defs _ _).mono (fun r h c =>
    ⟨((h c).1 10).trans (final_dr m c), ((h c).1 11).trans (final_di m c), ((h c).1 12).trans (final_dd m c), ((h c).1 13).trans (final_br m c), ((h c).1 14).trans (final_bi m c),
      kept m r h c⟩) (run_main m ρ)

end Cert.PrepIdeal.Result

namespace Cert.PrepRefIdeal.Staged

open Cert.PrepRefIdeal Cert.PrepRefIdeal.Gen Cert.PrepRefIdeal.Read Idealize.ShloMosaic Idealize.SL.Sem

/-- The reference's run with its results named by its stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v143) = val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v144) = val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v145) = val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v147) = val_main_v147 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))
      ∧ r.2.mem ((c.tc : Thread nD τ).loc main_v149) = val_main_v149 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h3, h4, hr⟩ := h c
    exact ⟨h0.trans (val_main_v143_eq m c), h1.trans (val_main_v144_eq m c), h2.trans (val_main_v145_eq m c), h3.trans (val_main_v147_eq (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))), h4.trans (val_main_v149_eq (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))), hr⟩) (Value.run m ρ)

end Cert.PrepRefIdeal.Staged

namespace Cert.PrepProof

open Idealize.ShloMosaic Idealize.SL.Sem

/-- The kernel and the derivative end with equal results. -/
theorem algebraic : Cert.algebraic_PrepIdeal_PrepRefIdeal := by
  intro m g m' g' _ hargs
  refine ⟨_, _, _, _, _, Cert.PrepIdeal.Result.run m g, ?_⟩
  refine (θ_run Cert.PrepRefIdeal.defs _ _).mono (fun r h c => ?_) (Cert.PrepRefIdeal.Staged.run m' g')
  obtain ⟨h0, h1, h2, h3, h4, hr⟩ := h c
  obtain ⟨a0, a1, a2, a3, a4, a5, a6, a7, a8⟩ := hargs c
  exact ⟨h0.trans (by rw [a0, a1, a2, a3, a4, a5, a6, a7, a8]),
      h1.trans (by rw [a0, a1, a2, a3, a4, a5, a6, a7, a8]),
      h2.trans (by rw [a0, a1, a2, a3, a4, a5, a6, a7, a8]),
      h3.trans (by rw [a0, a1, a2, a7, a8]),
      h4.trans (by rw [a0, a1, a2, a7, a8]), hr⟩

end Cert.PrepProof

end
-- ==== Proof.FfnMath.lean ====
/-
  One row of the feed-forward layer and of its gradient: the functions of the row that both programs compute, over any set of
  hidden columns, and the kernel's payloads as these functions, chunk by chunk of 768 columns.
-/
module

public import proofs.«01_k».proof.Defs
public import proofs.«01_k».proof.Proof.Gen.FfnIdeal.Frame
public import proofs.«01_k».proof.Proof.Literals
public import Idealize.ShloMosaic.Lib.Tactic
public import Idealize.ShloMosaic.Lib.Pointwise
public import Idealize.ShloMosaic.Lib.Pipeline.ValueKit
public import Idealize.ShloMosaic.Lib.Claim

@[expose] public section

set_option maxRecDepth 16384

noncomputable section

namespace Cert.FfnIdeal.Row

open Cert.FfnIdeal Cert.FfnIdeal.Gen Idealize.ShloMosaic Idealize.ShloMosaic.TcCoe

/-- The width, the small number under the root, and minus a half, as both programs spell them. -/
def width : EReal := Ideal.ofBits .f32 0x44800000#32
def tiny : EReal := Ideal.ofBits .f32 0x358637BD#32
def minusHalf : EReal := Ideal.ofBits .f32 0xBF000000#32

/-! ## The functions of a row -/

section Functions

variable {K : Type} [Fintype K]

def ms (X : Fin 1024 → EReal) : EReal := Ideal.div (∑ d, X d * X d) width + tiny
def rs (X : Fin 1024 → EReal) : EReal := Ideal.rsqrt (ms X)
def nrm (X : Fin 1024 → EReal) (d : Fin 1024) : EReal := X d * rs X
/-- The normalised and modulated row. -/
def hid (X g sh sc : Fin 1024 → EReal) (d : Fin 1024) : EReal := nrm X d * g d * (1 + sc d) + sh d
/-- A product with the weight of a hidden layer. -/
def pre (H : Fin 1024 → EReal) (w : Fin 1024 → K → EReal) (k : K) : EReal := ∑ d, H d * w d k
/-- The gated activation. -/
def act (A U : K → EReal) (k : K) : EReal := A k * Ideal.logistic (A k) * U k
def down (A U : K → EReal) (wd : K → Fin 1024 → EReal) (d : Fin 1024) : EReal := ∑ k, act A U k * wd k d
def out (X gt : Fin 1024 → EReal) (A U : K → EReal) (wd : K → Fin 1024 → EReal) (d : Fin 1024) : EReal := X d + gt d * down A U wd d
def gated (C gt : Fin 1024 → EReal) (d : Fin 1024) : EReal := gt d * C d
def da (D : Fin 1024 → EReal) (wd : K → Fin 1024 → EReal) (k : K) : EReal := ∑ d, D d * wd k d
def dgate (D : Fin 1024 → EReal) (wd : K → Fin 1024 → EReal) (A U : K → EReal) (k : K) : EReal :=
  da D wd k * U k * (Ideal.logistic (A k) * (1 + A k * (1 - Ideal.logistic (A k))))
def dup (D : Fin 1024 → EReal) (wd : K → Fin 1024 → EReal) (A : K → EReal) (k : K) : EReal :=
  da D wd k * (A k * Ideal.logistic (A k))
/-- The gradient of the modulated row. -/
def dh (P Q : K → EReal) (wg wu : Fin 1024 → K → EReal) (d : Fin 1024) : EReal := ∑ k, P k * wg d k + ∑ k, Q k * wu d k
def coef (X E : Fin 1024 → EReal) : EReal :=
  Ideal.div ((∑ d, X d * E d) * (minusHalf * Ideal.div (rs X) (ms X))) width
/-- The gradient of the row itself, from the cotangent `C` and the gradient `E` of the normalised row. -/
def dx (X C E : Fin 1024 → EReal) (d : Fin 1024) : EReal := C d + (E d * rs X + X d * coef X E + coef X E * X d)
def dnrm (H g sc : Fin 1024 → EReal) (d : Fin 1024) : EReal := H d * (1 + sc d) * g d

end Functions

/-! ## Chunks of 768 columns -/

/-- Column `k` of chunk `q`. -/
def col (q : Fin 4) (k : Fin 768) : Fin 3072 := ⟨q.val * 768 + k.val, by have := q.isLt; have := k.isLt; omega⟩

theorem sum_col {M : Type} [AddCommMonoid M] (f : Fin 3072 → M) :
    ∑ k, f k = ∑ k, f (col 0 k) + ∑ k, f (col 1 k) + ∑ k, f (col 2 k) + ∑ k, f (col 3 k) :=
  (Lit.sum_tiles 4 768 3072 rfl f).trans (Fin.sum_univ_four _)

theorem exists_col (k : Fin 3072) : ∃ q j, k = col q j :=
  ⟨⟨k.val / 768, by have := k.isLt; omega⟩, ⟨k.val % 768, by omega⟩, Fin.ext (by show k.val = k.val / 768 * 768 + k.val % 768; omega)⟩

/-! ## The forward call's payloads -/

section Forward

variable (x : Vec Ideal S512x1024 .f32) (g sh sc gt : Vec Ideal S1x1024 .f32) (H : Vec Ideal S512x1024 .bf16)

theorem pay_hid (p : Fin 512) (d : Fin 1024) : k0_pay1 (F := Ideal) x g sh sc (ix2 p d)
    = hid (fun d => x (ix2 p d)) (fun d => g (ix2 0 d)) (fun d => sh (ix2 0 d)) (fun d => sc (ix2 0 d)) d := by
  unfold_payloads
  pointwise
  rfl

theorem pay_pre (w : Vec Ideal S1024x768 .bf16) (p : Fin 512) (k : Fin 768) :
    k0_pay9 (F := Ideal) H w (ix2 p k) = pre (fun d => H (ix2 p d)) (fun d k => w (ix2 d k)) k := by
  unfold_payloads
  pointwise
  rfl

theorem pay_pre32 (w : Vec Ideal S1024x768 .bf16) (p : Fin 512) (k : Fin 768) :
    k0_pay7 (F := Ideal) H w (ix2 p k) = pre (fun d => H (ix2 p d)) (fun d k => w (ix2 d k)) k := by
  unfold_payloads
  pointwise
  rfl

/-- The output from the four chunks' gate and up values. -/
theorem pay_out (A0 U0 A2 U2 : Vec Ideal S512x768 .f32) (G1 V1 G3 V3 : Vec Ideal S1024x768 .bf16)
    (w0 w1 w2 w3 : Vec Ideal S768x1024 .bf16) (p : Fin 512) (d : Fin 1024) :
    k0_pay20 (F := Ideal) x H (k0_pay11 H k0_pay2 A0 U0 w0 G1 V1 w1) A2 U2 w2 G3 V3 w3 gt (ix2 p d)
      = x (ix2 p d) + gt (ix2 0 d) *
        (down (fun k => A0 (ix2 p k)) (fun k => U0 (ix2 p k)) (fun k d => w0 (ix2 k d)) d
          + down (pre (fun d => H (ix2 p d)) (fun d k => G1 (ix2 d k))) (pre (fun d => H (ix2 p d)) (fun d k => V1 (ix2 d k))) (fun k d => w1 (ix2 k d)) d
          + down (fun k => A2 (ix2 p k)) (fun k => U2 (ix2 p k)) (fun k d => w2 (ix2 k d)) d
          + down (pre (fun d => H (ix2 p d)) (fun d k => G3 (ix2 d k))) (pre (fun d => H (ix2 p d)) (fun d k => V3 (ix2 d k))) (fun k d => w3 (ix2 k d)) d) := by
  unfold_payloads
  pointwise
  rfl

end Forward

/-! ## The gradient call's payloads -/

section Backward

variable (x c : Vec Ideal S256x1024 .f32) (g sh sc gt : Vec Ideal S1x1024 .f32) (D : Vec Ideal S256x1024 .bf16)

theorem pay_h (p : Fin 256) (d : Fin 1024) : k1_pay16 (F := Ideal) x g sh sc (ix2 p d)
    = hid (fun d => x (ix2 p d)) (fun d => g (ix2 0 d)) (fun d => sh (ix2 0 d)) (fun d => sc (ix2 0 d)) d := by
  unfold_payloads
  pointwise
  rfl

theorem pay_dy (p : Fin 256) (d : Fin 1024) : k1_pay17 (F := Ideal) c gt (ix2 p d)
    = gated (fun d => c (ix2 p d)) (fun d => gt (ix2 0 d)) d := by
  unfold_payloads
  pointwise
  rfl

theorem pay_act (A U : Vec Ideal S256x768 .bf16) (p : Fin 256) (k : Fin 768) : k1_pay23 (F := Ideal) A U (ix2 p k)
    = act (fun k => A (ix2 p k)) (fun k => U (ix2 p k)) k := by
  unfold_payloads
  pointwise
  rfl

theorem pay_dgate (A U : Vec Ideal S256x768 .bf16) (w : Vec Ideal S768x1024 .bf16) (p : Fin 256) (k : Fin 768) :
    k1_pay26 (F := Ideal) D A U w (ix2 p k)
      = dgate (fun d => D (ix2 p d)) (fun k d => w (ix2 k d)) (fun k => A (ix2 p k)) (fun k => U (ix2 p k)) k := by
  unfold_payloads
  pointwise
  rfl

theorem pay_dup (A : Vec Ideal S256x768 .bf16) (w : Vec Ideal S768x1024 .bf16) (p : Fin 256) (k : Fin 768) :
    k1_pay27 (F := Ideal) D A w (ix2 p k)
      = dup (fun d => D (ix2 p d)) (fun k d => w (ix2 k d)) (fun k => A (ix2 p k)) k := by
  unfold_payloads
  pointwise
  rfl

/-- A chunk's part of the gradient of the modulated row, added to what the chunks before it gave. -/
theorem pay_dh_step (a : Vec Ideal S256x1024 .f32) (P Q : Vec Ideal S256x768 .bf16) (wg wu : Vec Ideal S1024x768 .bf16) (p : Fin 256)
    (d : Fin 1024) : k1_pay38 (F := Ideal) a P Q wg wu (ix2 p d)
      = a (ix2 p d) + ∑ k, P (ix2 p k) * wg (ix2 d k) + ∑ k, Q (ix2 p k) * wu (ix2 d k) := by
  unfold_payloads
  pointwise

theorem pay_y_step (a : Vec Ideal S256x1024 .f32) (A U : Vec Ideal S256x768 .bf16) (w : Vec Ideal S768x1024 .bf16) (p : Fin 256)
    (d : Fin 1024) : k1_pay34 (F := Ideal) a A U w (ix2 p d)
      = a (ix2 p d) + down (fun k => A (ix2 p k)) (fun k => U (ix2 p k)) (fun k d => w (ix2 k d)) d := by
  unfold_payloads
  pointwise
  rfl

theorem pay_zero (p : Fin 256) (d : Fin 1024) : k1_pay18 (F := Ideal) (ix2 p d) = 0 := by
  unfold_payloads
  pointwise

theorem pay_dx (E : Vec Ideal S256x1024 .f32) (p : Fin 256) (d : Fin 1024) :
    k1_pay1 (F := Ideal) c x (k1_pay11 x) (k1_pay12 x) E (ix2 p d)
      = dx (fun d => x (ix2 p d)) (fun d => c (ix2 p d)) (fun d => E (ix2 p d)) d := by
  unfold_payloads
  pointwise
  simp only [Fin.sum_univ_one]
  rfl

/-! The four accumulated rows, over the gradient of the modulated row. -/

variable (a : Vec Ideal S256x1024 .f32) (b e f h i o : Vec Ideal S256x768 .f32) (wg wu : Vec Ideal S1024x768 .bf16)

theorem pay_dn (p : Fin 256) (d : Fin 1024) : k1_pay68 (F := Ideal) (k1_pay9 g) (k1_pay15 sc) a b e f h i o wg wu (ix2 p d)
    = dnrm (fun d => k1_pay62 (F := Ideal) a b e f h i o wg wu (ix2 p d)) (fun d => g (ix2 0 d)) (fun d => sc (ix2 0 d)) d := by
  unfold k1_pay68 k1_pay66 k1_pay9 k1_pay15
  pointwise
  rfl

theorem step_dg (r : Vec Ideal S1x1024 .f32) (j : S1x1024.Idx) :
    k1_pay2 (F := Ideal) (k1_pay67 (k1_pay13 x) (k1_pay15 sc) a b e f h i o wg wu) r j
      = r j + ∑ p : Fin 256, nrm (fun d => x (ix2 p d)) (j 1)
          * (k1_pay62 (F := Ideal) a b e f h i o wg wu (ix2 p (j 1)) * (1 + sc (ix2 0 (j 1)))) := by
  unfold k1_pay2 k1_pay67 k1_pay66 k1_pay13 k1_pay15 k1_pay11 k1_pay10
  pointwise
  rfl

theorem step_dsh (r : Vec Ideal S1x1024 .f32) (j : S1x1024.Idx) :
    k1_pay3 (F := Ideal) (k1_pay64 a b e f h i o wg wu) r j
      = r j + ∑ p : Fin 256, k1_pay62 (F := Ideal) a b e f h i o wg wu (ix2 p (j 1)) := by
  unfold k1_pay3 k1_pay64
  pointwise

theorem step_dsc (r : Vec Ideal S1x1024 .f32) (j : S1x1024.Idx) :
    k1_pay4 (F := Ideal) (k1_pay65 (k1_pay14 x g) a b e f h i o wg wu) r j
      = r j + ∑ p : Fin 256, nrm (fun d => x (ix2 p d)) (j 1) * g (ix2 0 (j 1))
          * k1_pay62 (F := Ideal) a b e f h i o wg wu (ix2 p (j 1)) := by
  unfold k1_pay4 k1_pay65 k1_pay14 k1_pay13 k1_pay11 k1_pay10 k1_pay9
  pointwise
  rfl

theorem step_dgt (y : Vec Ideal S256x1024 .f32) (r : Vec Ideal S1x1024 .f32) (j : S1x1024.Idx) :
    k1_pay63 (F := Ideal) c y r j = r j + ∑ p : Fin 256, c (ix2 p (j 1)) * y (ix2 p (j 1)) := by
  unfold k1_pay63
  pointwise

end Backward

end Cert.FfnIdeal.Row

end
-- ==== Proof.FfnTile.lean ====
/-
  The feed-forward kernels' tiles: a tile's 3072 hidden columns in four chunks of 768, read out of the weights and of the
  saved activations, stored chunk by chunk, and summed chunk after chunk into the gradient of the modulated row.
-/
module

public import proofs.«01_k».proof.Proof.FfnMath
public import Idealize.ShloMosaic.Lib.Pipeline.ValueKit

@[expose] public section

set_option maxRecDepth 16384

noncomputable section

namespace Cert.FfnIdeal.Row

open Cert.FfnIdeal Cert.FfnIdeal.Gen Idealize.ShloMosaic Idealize.ShloMosaic.TcCoe Idealize.SL.Sem

/-! ## A chunk read -/

theorem ld_rows {n : ℕ} {e : EltTy} (w : (⟨2, ![n, 3072]⟩ : Shape).Idx → Elt Ideal e) (q : Fin 4) (o : ℕ) (ho : o = q.val * 768)
    (inb : ∀ a : Fin 2, (![0, o] : Fin 2 → ℕ) a + (![n, 768] : Fin 2 → ℕ) a ≤ (⟨2, ![n, 3072]⟩ : Shape).size a) (p : Fin n) (k : Fin 768) :
    View.ld w (Rect.unit ![0, o] ![n, 768] inb) (ix2 p k) = w (ix2 p (col q k)) :=
  View.ld_unit_apply_of w _ _ inb _ _ fun a => match a with
    | ⟨0, _⟩ => by show p.val = 0 + p.val; omega
    | ⟨1, _⟩ => by show q.val * 768 + k.val = o + k.val; omega

theorem ld_act (A : Vec Ideal S256x3072 .bf16) (q : Fin 4) (o : ℕ) (ho : o = q.val * 768)
    (inb : ∀ a : Fin 2, (![0, o] : Fin 2 → ℕ) a + (![256, 768] : Fin 2 → ℕ) a ≤ S256x3072.size a) (p : Fin 256) (k : Fin 768) :
    View.ld A (Rect.unit (s := S256x3072) ![0, o] ![256, 768] inb) (ix2 p k) = A (ix2 p (col q k)) := ld_rows A q o ho inb p k

theorem ld_weight (w : Vec Ideal S1024x3072 .bf16) (q : Fin 4) (o : ℕ) (ho : o = q.val * 768)
    (inb : ∀ a : Fin 2, (![0, o] : Fin 2 → ℕ) a + (![1024, 768] : Fin 2 → ℕ) a ≤ S1024x3072.size a) (p : Fin 1024) (k : Fin 768) :
    View.ld w (Rect.unit (s := S1024x3072) ![0, o] ![1024, 768] inb) (ix2 p k) = w (ix2 p (col q k)) := ld_rows w q o ho inb p k

theorem ld_cols (w : Vec Ideal S3072x1024 .bf16) (q : Fin 4) (o : ℕ) (ho : o = q.val * 768)
    (inb : ∀ a : Fin 2, (![o, 0] : Fin 2 → ℕ) a + (![768, 1024] : Fin 2 → ℕ) a ≤ S3072x1024.size a) (k : Fin 768) (d : Fin 1024) :
    View.ld w (Rect.unit (s := S3072x1024) ![o, 0] ![768, 1024] inb) (ix2 k d) = w (ix2 (col q k) d) :=
  View.ld_unit_apply_of w _ _ inb _ _ fun a => match a with
    | ⟨0, _⟩ => by show q.val * 768 + k.val = o + k.val; omega
    | ⟨1, _⟩ => by show d.val = 0 + d.val; omega

/-! ## Four chunks stored -/

theorem tile {n : ℕ} {e : EltTy} (P : (⟨2, ![n, 768]⟩ : Shape).Idx → Elt Ideal e) (f : Fin n → Fin 3072 → Elt Ideal e) (q : Fin 4) (o : ℕ)
    (ho : o = q.val * 768) (H : ∀ p k, P (ix2 p k) = f p (col q k)) (p : Fin n) (k : Fin 3072) :
    View.TileAt (S := ⟨2, ![n, 3072]⟩) (Val := Elt Ideal) (e := e) (ix2 p k) ![0, o] ![n, 768] P (f p k) := by
  intro x hx
  obtain ⟨p', k', rfl⟩ : ∃ (p' : Fin n) (k' : Fin 768), x = ix2 p' k' := ⟨x 0, x 1, eq_ix2 x⟩
  have h0 : p.val = 0 + p'.val := hx 0
  have h1 : k.val = o + k'.val := hx 1
  obtain rfl : p = p' := Fin.ext (by omega)
  obtain rfl : k = col q k' := Fin.ext (by show k.val = q.val * 768 + k'.val; omega)
  exact H _ _

theorem stored512 (P0 P1 P2 P3 : Vec Ideal S512x768 .bf16) (f : Fin 512 → Fin 3072 → EReal)
    (H0 : ∀ p k, P0 (ix2 p k) = f p (col 0 k)) (H1 : ∀ p k, P1 (ix2 p k) = f p (col 1 k)) (H2 : ∀ p k, P2 (ix2 p k) = f p (col 2 k))
    (H3 : ∀ p k, P3 (ix2 p k) = f p (col 3 k)) (p : Fin 512) (k : Fin 3072) :
    View.canon (Val := Elt Ideal) (s := S512x3072) (e := .bf16) [⟨r0_12, P3⟩, ⟨r0_9, P2⟩, ⟨r0_6, P1⟩, ⟨r0_3, P0⟩] (ix2 p k) = f p k :=
  View.canon_eq_of_allAt _ _ _ (cover0_9 P3 P2 P1 P0 _)
    (View.allAt_cons_unit _ _ _ _ _ (tile P3 f 3 _ rfl H3 p k) (View.allAt_cons_unit _ _ _ _ _ (tile P2 f 2 _ rfl H2 p k)
      (View.allAt_cons_unit _ _ _ _ _ (tile P1 f 1 _ rfl H1 p k) (View.allAt_cons_unit _ _ _ _ _ (tile P0 f 0 _ rfl H0 p k) (View.allAt_nil _ _)))))

abbrev q0 : Rect S256x3072 := Rect.unit (s := S256x3072) ![0, 0] S256x768.size inb_S256x3072_S256x768_0_0
abbrev q1 : Rect S256x3072 := Rect.unit (s := S256x3072) ![0, 768] S256x768.size inb_S256x3072_S256x768_0_768
abbrev q2 : Rect S256x3072 := Rect.unit (s := S256x3072) ![0, 1536] S256x768.size inb_S256x3072_S256x768_0_1536
abbrev q3 : Rect S256x3072 := Rect.unit (s := S256x3072) ![0, 2304] S256x768.size inb_S256x3072_S256x768_0_2304

theorem stored256 (P0 P1 P2 P3 : Vec Ideal S256x768 .bf16) (f : Fin 256 → Fin 3072 → EReal)
    (H0 : ∀ p k, P0 (ix2 p k) = f p (col 0 k)) (H1 : ∀ p k, P1 (ix2 p k) = f p (col 1 k)) (H2 : ∀ p k, P2 (ix2 p k) = f p (col 2 k))
    (H3 : ∀ p k, P3 (ix2 p k) = f p (col 3 k)) (p : Fin 256) (k : Fin 3072) :
    View.canon (Val := Elt Ideal) (s := S256x3072) (e := .bf16) [⟨q3, P3⟩, ⟨q2, P2⟩, ⟨q1, P1⟩, ⟨q0, P0⟩] (ix2 p k) = f p k :=
  View.canon_eq_of_allAt _ _ _ (View.cover_of_tiled [⟨q3, P3⟩, ⟨q2, P2⟩, ⟨q1, P1⟩, ⟨q0, P0⟩] S256x768.size (by rfl) _)
    (View.allAt_cons_unit _ _ _ _ _ (tile P3 f 3 _ rfl H3 p k) (View.allAt_cons_unit _ _ _ _ _ (tile P2 f 2 _ rfl H2 p k)
      (View.allAt_cons_unit _ _ _ _ _ (tile P1 f 1 _ rfl H1 p k) (View.allAt_cons_unit _ _ _ _ _ (tile P0 f 0 _ rfl H0 p k) (View.allAt_nil _ _)))))

/-! ## The gradient call's chunks -/

section Chunks

variable (D : Vec Ideal S256x1024 .bf16) (A U : Vec Ideal S256x3072 .bf16) (wg wu : Vec Ideal S1024x3072 .bf16) (wd : Vec Ideal S3072x1024 .bf16)

/-- What a chunk stores, at its columns of the whole width. -/
def dgateT (p : Fin 256) (k : Fin 3072) : EReal :=
  dgate (fun d => D (ix2 p d)) (fun k d => wd (ix2 k d)) (fun k => A (ix2 p k)) (fun k => U (ix2 p k)) k
def dupT (p : Fin 256) (k : Fin 3072) : EReal := dup (fun d => D (ix2 p d)) (fun k d => wd (ix2 k d)) (fun k => A (ix2 p k)) k
def actT (p : Fin 256) (k : Fin 3072) : EReal := act (fun k => A (ix2 p k)) (fun k => U (ix2 p k)) k

variable (q : Fin 4) (o : ℕ) (ho : o = q.val * 768)
  (i1 : ∀ a : Fin 2, (![0, o] : Fin 2 → ℕ) a + (![256, 768] : Fin 2 → ℕ) a ≤ S256x3072.size a)
  (i2 : ∀ a : Fin 2, (![o, 0] : Fin 2 → ℕ) a + (![768, 1024] : Fin 2 → ℕ) a ≤ S3072x1024.size a)
  (i3 : ∀ a : Fin 2, (![0, o] : Fin 2 → ℕ) a + (![1024, 768] : Fin 2 → ℕ) a ≤ S1024x3072.size a)
include ho

theorem chunk_dgate (p : Fin 256) (k : Fin 768) :
    k1_pay26 (F := Ideal) D (View.ld A (Rect.unit (s := S256x3072) ![0, o] ![256, 768] i1)) (View.ld U (Rect.unit (s := S256x3072) ![0, o] ![256, 768] i1))
      (View.ld wd (Rect.unit (s := S3072x1024) ![o, 0] ![768, 1024] i2)) (ix2 p k) = dgateT D A U wd p (col q k) := by
  refine (pay_dgate _ _ _ _ p k).trans ?_
  have e : ∀ (A' U' : Fin 768 → EReal) (w' : Fin 768 → Fin 1024 → EReal), A' = (fun k => A (ix2 p (col q k))) → U' = (fun k => U (ix2 p (col q k)))
      → w' = (fun k d => wd (ix2 (col q k) d)) → dgate (fun d => D (ix2 p d)) w' A' U' k = dgateT D A U wd p (col q k) := by
    rintro _ _ _ rfl rfl rfl; rfl
  exact e _ _ _ (funext fun k => ld_act A q o ho i1 p k) (funext fun k => ld_act U q o ho i1 p k) (funext fun k => funext fun d => ld_cols wd q o ho i2 k d)

theorem chunk_dup (p : Fin 256) (k : Fin 768) :
    k1_pay27 (F := Ideal) D (View.ld A (Rect.unit (s := S256x3072) ![0, o] ![256, 768] i1))
      (View.ld wd (Rect.unit (s := S3072x1024) ![o, 0] ![768, 1024] i2)) (ix2 p k) = dupT D A wd p (col q k) := by
  refine (pay_dup _ _ _ p k).trans ?_
  have e : ∀ (A' : Fin 768 → EReal) (w' : Fin 768 → Fin 1024 → EReal), A' = (fun k => A (ix2 p (col q k)))
      → w' = (fun k d => wd (ix2 (col q k) d)) → dup (fun d => D (ix2 p d)) w' A' k = dupT D A wd p (col q k) := by
    rintro _ _ rfl rfl; rfl
  exact e _ _ (funext fun k => ld_act A q o ho i1 p k) (funext fun k => funext fun d => ld_cols wd q o ho i2 k d)

theorem chunk_act (p : Fin 256) (k : Fin 768) :
    k1_pay23 (F := Ideal) (View.ld A (Rect.unit (s := S256x3072) ![0, o] ![256, 768] i1)) (View.ld U (Rect.unit (s := S256x3072) ![0, o] ![256, 768] i1)) (ix2 p k)
      = actT A U p (col q k) := by
  refine (pay_act _ _ p k).trans ?_
  have e : ∀ A' U' : Fin 768 → EReal, A' = (fun k => A (ix2 p (col q k))) → U' = (fun k => U (ix2 p (col q k))) → act A' U' k = actT A U p (col q k) := by
    rintro _ _ rfl rfl; rfl
  exact e _ _ (funext fun k => ld_act A q o ho i1 p k) (funext fun k => ld_act U q o ho i1 p k)

theorem chunk_dh (a : Vec Ideal S256x1024 .f32) (p : Fin 256) (d : Fin 1024) :
    k1_pay38 (F := Ideal) a
      (k1_pay26 (F := Ideal) D (View.ld A (Rect.unit (s := S256x3072) ![0, o] ![256, 768] i1)) (View.ld U (Rect.unit (s := S256x3072) ![0, o] ![256, 768] i1))
        (View.ld wd (Rect.unit (s := S3072x1024) ![o, 0] ![768, 1024] i2)))
      (k1_pay27 (F := Ideal) D (View.ld A (Rect.unit (s := S256x3072) ![0, o] ![256, 768] i1))
        (View.ld wd (Rect.unit (s := S3072x1024) ![o, 0] ![768, 1024] i2)))
      (View.ld wg (Rect.unit (s := S1024x3072) ![0, o] ![1024, 768] i3)) (View.ld wu (Rect.unit (s := S1024x3072) ![0, o] ![1024, 768] i3)) (ix2 p d)
    = a (ix2 p d) + ∑ k, dgateT D A U wd p (col q k) * wg (ix2 d (col q k)) + ∑ k, dupT D A wd p (col q k) * wu (ix2 d (col q k)) := by
  refine (pay_dh_step _ _ _ _ _ p d).trans ?_
  exact congrArg₂ (· + ·) (congrArg (a (ix2 p d) + ·) (Finset.sum_congr rfl fun k _ => congrArg₂ (· * ·) (chunk_dgate D A U wd q o ho i1 i2 p k) (ld_weight wg q o ho i3 d k)))
    (Finset.sum_congr rfl fun k _ => congrArg₂ (· * ·) (chunk_dup D A wd q o ho i1 i2 p k) (ld_weight wu q o ho i3 d k))

theorem chunk_y (a : Vec Ideal S256x1024 .f32) (p : Fin 256) (d : Fin 1024) :
    k1_pay34 (F := Ideal) a (View.ld A (Rect.unit (s := S256x3072) ![0, o] ![256, 768] i1)) (View.ld U (Rect.unit (s := S256x3072) ![0, o] ![256, 768] i1))
        (View.ld wd (Rect.unit (s := S3072x1024) ![o, 0] ![768, 1024] i2)) (ix2 p d)
    = a (ix2 p d) + ∑ k, actT A U p (col q k) * wd (ix2 (col q k) d) := by
  refine (pay_y_step _ _ _ _ p d).trans ?_
  have e : ∀ (A' U' : Fin 768 → EReal) (w' : Fin 768 → Fin 1024 → EReal), A' = (fun k => A (ix2 p (col q k))) → U' = (fun k => U (ix2 p (col q k)))
      → w' = (fun k d => wd (ix2 (col q k) d)) → down A' U' w' d = ∑ k, actT A U p (col q k) * wd (ix2 (col q k) d) := by
    rintro _ _ _ rfl rfl rfl; rfl
  exact congrArg (a (ix2 p d) + ·)
    (e _ _ _ (funext fun k => ld_act A q o ho i1 p k) (funext fun k => ld_act U q o ho i1 p k) (funext fun k => funext fun d => ld_cols wd q o ho i2 k d))

end Chunks

/-! ## The four chunks one after the other -/

section Chain

variable (D : Vec Ideal S256x1024 .bf16) (A U : Vec Ideal S256x3072 .bf16) (wg wu : Vec Ideal S1024x3072 .bf16) (wd : Vec Ideal S3072x1024 .bf16)

/-- The sums of the first one, two and three chunks, as the kernel accumulates them. -/
def sum1 : Vec Ideal S256x1024 .f32 :=
  k1_pay28 k1_pay18 (k1_pay26 D (View.ld A q0) (View.ld U q0) (View.ld wd r0_4)) (k1_pay27 D (View.ld A q0) (View.ld wd r0_4)) (View.ld wg r0_2) (View.ld wu r0_2)
def sum2 : Vec Ideal S256x1024 .f32 :=
  k1_pay38 (sum1 D A U wg wu wd) (k1_pay36 D (View.ld A q1) (View.ld U q1) (View.ld wd r0_7)) (k1_pay37 D (View.ld A q1) (View.ld wd r0_7)) (View.ld wg r0_5) (View.ld wu r0_5)
def sum3 : Vec Ideal S256x1024 .f32 :=
  k1_pay50 (sum2 D A U wg wu wd) (k1_pay42 (View.ld A q2)) (k1_pay45 D (View.ld wd r0_10)) (k1_pay46 D (View.ld U q2) (View.ld wd r0_10))
    (k1_pay47 (View.ld A q2)) (View.ld wg r0_8) (View.ld wu r0_8)

def dhT : Vec Ideal S256x1024 .f32 :=
  k1_pay62 (sum3 D A U wg wu wd) (k1_pay51 (View.ld A q3)) (k1_pay53 (View.ld A q3)) (k1_pay54 (View.ld A q3)) (k1_pay57 D (View.ld wd r0_13))
    (k1_pay58 D (View.ld U q3) (View.ld wd r0_13)) k1_pay59 (View.ld wg r0_11) (View.ld wu r0_11)

theorem dhT_apply (p : Fin 256) (d : Fin 1024) : dhT D A U wg wu wd (ix2 p d)
    = dh (dgateT D A U wd p) (dupT D A wd p) (fun d k => wg (ix2 d k)) (fun d k => wu (ix2 d k)) d := by
  have e3 := chunk_dh D A U wg wu wd 3 2304 rfl inb_S256x3072_S256x768_0_2304 inb_S3072x1024_S768x1024_2304_0 inb_S1024x3072_S1024x768_0_2304 (sum3 D A U wg wu wd) p d
  have e0 := chunk_dh D A U wg wu wd 0 0 rfl inb_S256x3072_S256x768_0_0 inb_S3072x1024_S768x1024_0_0 inb_S1024x3072_S1024x768_0_0 (k1_pay18 (F := Ideal)) p d
  have e1 := chunk_dh D A U wg wu wd 1 768 rfl inb_S256x3072_S256x768_0_768 inb_S3072x1024_S768x1024_768_0 inb_S1024x3072_S1024x768_0_768 (sum1 D A U wg wu wd) p d
  have e2 := chunk_dh D A U wg wu wd 2 1536 rfl inb_S256x3072_S256x768_0_1536 inb_S3072x1024_S768x1024_1536_0 inb_S1024x3072_S1024x768_0_1536 (sum2 D A U wg wu wd) p d
  refine e3.trans ?_
  rw [show sum3 D A U wg wu wd (ix2 p d) = _ from e2, show sum2 D A U wg wu wd (ix2 p d) = _ from e1, show sum1 D A U wg wu wd (ix2 p d) = _ from e0,
    pay_zero, zero_add]
  unfold dh
  rw [sum_col, sum_col]
  abel

/-- The forward product's four chunks, as the gradient call accumulates them again. -/
def y1 : Vec Ideal S256x1024 .f32 := k1_pay24 (View.ld A q0) (View.ld U q0) (View.ld wd r0_4)
def y2 : Vec Ideal S256x1024 .f32 := k1_pay34 (y1 A U wd) (View.ld A q1) (View.ld U q1) (View.ld wd r0_7)
def y3 : Vec Ideal S256x1024 .f32 := k1_pay44 (y2 A U wd) (View.ld A q2) (View.ld U q2) (View.ld wd r0_10)
def yT : Vec Ideal S256x1024 .f32 := k1_pay56 (y3 A U wd) (View.ld A q3) (View.ld U q3) (View.ld wd r0_13)

theorem yT_apply (p : Fin 256) (d : Fin 1024) : yT A U wd (ix2 p d)
    = down (fun k => A (ix2 p k)) (fun k => U (ix2 p k)) (fun k d => wd (ix2 k d)) d := by
  have e0 := chunk_y A U wd 0 0 rfl inb_S256x3072_S256x768_0_0 inb_S3072x1024_S768x1024_0_0 (k1_pay18 (F := Ideal)) p d
  have e1 := chunk_y A U wd 1 768 rfl inb_S256x3072_S256x768_0_768 inb_S3072x1024_S768x1024_768_0 (y1 A U wd) p d
  have e2 := chunk_y A U wd 2 1536 rfl inb_S256x3072_S256x768_0_1536 inb_S3072x1024_S768x1024_1536_0 (y2 A U wd) p d
  have e3 := chunk_y A U wd 3 2304 rfl inb_S256x3072_S256x768_0_2304 inb_S3072x1024_S768x1024_2304_0 (y3 A U wd) p d
  refine e3.trans ?_
  rw [show y3 A U wd (ix2 p d) = _ from e2, show y2 A U wd (ix2 p d) = _ from e1, show y1 A U wd (ix2 p d) = _ from e0, pay_zero, zero_add]
  unfold down
  rw [sum_col]
  rfl

end Chain

end Cert.FfnIdeal.Row

end
-- ==== Proof.FfnFwd.lean ====
/-
  The feed-forward's forward call over its 4096 rows in tiles of 512: the output row, and the gate and up products it saves.
-/
module

public import proofs.«01_k».proof.Proof.FfnTile

@[expose] public section

set_option maxRecDepth 16384

noncomputable section

namespace Cert.FfnIdeal.Fwd

open Cert.FfnIdeal Cert.FfnIdeal.Gen Cert.FfnIdeal.Row Idealize.ShloMosaic Idealize.ShloMosaic.TcCoe Idealize.SL.Sem
variable (V : (c : Dev nD) → (b : Ref sig .tc) → Buf (Elt Ideal) ((c : Thread nD τ).loc b))

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0])

/-! ## The operands of a tile -/

def row (t : Fin cfg0.N) (p : Fin 512) : Fin 4096 := ⟨t.val * 512 + p.val, by have : t.val < 8 := t.isLt; omega⟩

def xB (c : Dev nD) (t : Fin cfg0.N) : Vec Ideal S512x1024 .f32 := iblk0 V c 0 t
def gB (c : Dev nD) (t : Fin cfg0.N) : Vec Ideal S1x1024 .f32 := iblk0 V c 1 t
def shB (c : Dev nD) (t : Fin cfg0.N) : Vec Ideal S1x1024 .f32 := iblk0 V c 2 t
def scB (c : Dev nD) (t : Fin cfg0.N) : Vec Ideal S1x1024 .f32 := iblk0 V c 3 t
def gtB (c : Dev nD) (t : Fin cfg0.N) : Vec Ideal S1x1024 .f32 := iblk0 V c 4 t
def wgB (c : Dev nD) (t : Fin cfg0.N) : Vec Ideal S1024x3072 .bf16 := iblk0 V c 5 t
def wuB (c : Dev nD) (t : Fin cfg0.N) : Vec Ideal S1024x3072 .bf16 := iblk0 V c 6 t
def wdB (c : Dev nD) (t : Fin cfg0.N) : Vec Ideal S3072x1024 .bf16 := iblk0 V c 7 t

/-- The arrays the call finds, row by row. -/
def X (c : Dev nD) (r : Fin 4096) (d : Fin 1024) : EReal := V c main_arg0 (ix2 r d)
def G (c : Dev nD) (d : Fin 1024) : EReal := V c main_v0 (ix2 0 d)
def Sh (c : Dev nD) (d : Fin 1024) : EReal := V c main_arg2 (ix2 0 d)
def Sc (c : Dev nD) (d : Fin 1024) : EReal := V c main_arg3 (ix2 0 d)
def Gt (c : Dev nD) (d : Fin 1024) : EReal := V c main_arg4 (ix2 0 d)
def Wg (c : Dev nD) (d : Fin 1024) (k : Fin 3072) : EReal := V c main_v4 (ix2 d k)
def Wu (c : Dev nD) (d : Fin 1024) (k : Fin 3072) : EReal := V c main_v8 (ix2 d k)
def Wd (c : Dev nD) (k : Fin 3072) (d : Fin 1024) : EReal := V c main_v12 (ix2 k d)
def H (c : Dev nD) (r : Fin 4096) : Fin 1024 → EReal := hid (X V c r) (G V c) (Sh V c) (Sc V c)
def A (c : Dev nD) (r : Fin 4096) : Fin 3072 → EReal := pre (H V c r) (Wg V c)
def U (c : Dev nD) (r : Fin 4096) : Fin 3072 → EReal := pre (H V c r) (Wu V c)

theorem x_eq (c : Dev nD) (t : Fin cfg0.N) (p : Fin 512) (d : Fin 1024) : xB V c t (ix2 p d) = X V c (row t p) d := by
  unfold xB X row
  blk_ext [iblk0, idx t]
theorem g_eq (c : Dev nD) (t : Fin cfg0.N) (d : Fin 1024) : gB V c t (ix2 0 d) = G V c d := by
  unfold gB G
  blk_ext [iblk0, idx t]
theorem sh_eq (c : Dev nD) (t : Fin cfg0.N) (d : Fin 1024) : shB V c t (ix2 0 d) = Sh V c d := by
  unfold shB Sh
  blk_ext [iblk0, idx t]
theorem sc_eq (c : Dev nD) (t : Fin cfg0.N) (d : Fin 1024) : scB V c t (ix2 0 d) = Sc V c d := by
  unfold scB Sc
  blk_ext [iblk0, idx t]
theorem gt_eq (c : Dev nD) (t : Fin cfg0.N) (d : Fin 1024) : gtB V c t (ix2 0 d) = Gt V c d := by
  unfold gtB Gt
  blk_ext [iblk0, idx t]
theorem wg_eq (c : Dev nD) (t : Fin cfg0.N) (d : Fin 1024) (k : Fin 3072) : wgB V c t (ix2 d k) = Wg V c d k := by
  unfold wgB Wg
  blk_ext [iblk0, idx t]
theorem wu_eq (c : Dev nD) (t : Fin cfg0.N) (d : Fin 1024) (k : Fin 3072) : wuB V c t (ix2 d k) = Wu V c d k := by
  unfold wuB Wu
  blk_ext [iblk0, idx t]
theorem wd_eq (c : Dev nD) (t : Fin cfg0.N) (k : Fin 3072) (d : Fin 1024) : wdB V c t (ix2 k d) = Wd V c k d := by
  unfold wdB Wd
  blk_ext [iblk0, idx t]

/-! ## A tile's rows -/

def hB (c : Dev nD) (t : Fin cfg0.N) : Vec Ideal S512x1024 .bf16 := k0_pay1 (F := Ideal) (xB V c t) (gB V c t) (shB V c t) (scB V c t)

theorem h_eq (c : Dev nD) (t : Fin cfg0.N) (p : Fin 512) : (fun d => hB V c t (ix2 p d)) = H V c (row t p) := by
  funext d
  refine (pay_hid _ _ _ _ p d).trans ?_
  simp only [x_eq, g_eq, sh_eq, sc_eq]
  rfl

/-- A chunk of a product with a weight. -/
theorem chunk_pre (c : Dev nD) (t : Fin cfg0.N) (w : Vec Ideal S1024x3072 .bf16) (W : Fin 1024 → Fin 3072 → EReal) (hw : ∀ d k, w (ix2 d k) = W d k)
    (q : Fin 4) (o : ℕ) (ho : o = q.val * 768) (inb : ∀ a : Fin 2, (![0, o] : Fin 2 → ℕ) a + (![1024, 768] : Fin 2 → ℕ) a ≤ S1024x3072.size a)
    (p : Fin 512) (k : Fin 768) : k0_pay9 (F := Ideal) (hB V c t) (View.ld w (Rect.unit (s := S1024x3072) ![0, o] ![1024, 768] inb)) (ix2 p k)
      = pre (H V c (row t p)) W (col q k) := by
  refine (pay_pre _ _ p k).trans ?_
  have e : ∀ (h' : Fin 1024 → EReal) (w' : Fin 1024 → Fin 768 → EReal), h' = H V c (row t p) → w' = (fun d k => W d (col q k))
      → pre h' w' k = pre (H V c (row t p)) W (col q k) := by rintro _ _ rfl rfl; rfl
  exact e _ _ (h_eq V c t p) (funext fun d => funext fun k => (ld_weight w q o ho inb d k).trans (hw _ _))

theorem chunk_down (a u : Fin 768 → EReal) (w : Fin 768 → Fin 1024 → EReal) (A' U' : Fin 3072 → EReal) (W : Fin 3072 → Fin 1024 → EReal) (q : Fin 4)
    (ha : ∀ k, a k = A' (col q k)) (hu : ∀ k, u k = U' (col q k)) (hw : ∀ k d, w k d = W (col q k) d) (d : Fin 1024) :
    down a u w d = ∑ k, act A' U' (col q k) * W (col q k) d := by
  obtain rfl : a = fun k => A' (col q k) := funext ha
  obtain rfl : u = fun k => U' (col q k) := funext hu
  obtain rfl : w = fun k => W (col q k) := funext fun k => funext fun d => hw k d
  rfl

/-- The output's four chunks, as the call stores their sum. -/
theorem after_out_eq (c : Dev nD) (t : Fin cfg0.N) : (dat0 V c).after 8 t
    = k0_pay20 (F := Ideal) (xB V c t) (hB V c t)
        (k0_pay11 (hB V c t) k0_pay2 (k0_pay7 (hB V c t) (View.ld (wgB V c t) r0_2)) (k0_pay7 (hB V c t) (View.ld (wuB V c t) r0_2))
          (View.ld (wdB V c t) r0_4) (View.ld (wgB V c t) r0_5) (View.ld (wuB V c t) r0_5) (View.ld (wdB V c t) r0_7))
        (k0_pay7 (hB V c t) (View.ld (wgB V c t) r0_8)) (k0_pay7 (hB V c t) (View.ld (wuB V c t) r0_8)) (View.ld (wdB V c t) r0_10)
        (View.ld (wgB V c t) r0_11) (View.ld (wuB V c t) r0_11) (View.ld (wdB V c t) r0_13) (gtB V c t) := by
  rw [after0_8]
  unfold_out out0_8
  frame_out
  rfl

theorem after_out (c : Dev nD) (t : Fin cfg0.N) (p : Fin 512) (d : Fin 1024) :
    (dat0 V c).after 8 t (ix2 p d) = out (X V c (row t p)) (Gt V c) (A V c (row t p)) (U V c (row t p)) (Wd V c) d := by
  refine (congrFun (after_out_eq V c t) (ix2 p d)).trans ?_
  have ea := fun q o ho inb k => chunk_pre V c t (wgB V c t) (Wg V c) (wg_eq V c t) q o ho inb p k
  have eu := fun q o ho inb k => chunk_pre V c t (wuB V c t) (Wu V c) (wu_eq V c t) q o ho inb p k
  have ed := fun q o ho inb k d => (ld_cols (wdB V c t) q o ho inb k d).trans (wd_eq V c t _ d)
  have e0 := chunk_down (fun k => k0_pay7 (F := Ideal) (hB V c t) (View.ld (wgB V c t) r0_2) (ix2 p k)) (fun k => k0_pay7 (F := Ideal) (hB V c t) (View.ld (wuB V c t) r0_2) (ix2 p k))
    (fun k d => View.ld (wdB V c t) r0_4 (ix2 k d)) (A V c (row t p)) (U V c (row t p)) (Wd V c) 0 (ea 0 0 rfl _) (eu 0 0 rfl _) (ed 0 0 rfl _) d
  have e2 := chunk_down (fun k => k0_pay7 (F := Ideal) (hB V c t) (View.ld (wgB V c t) r0_8) (ix2 p k)) (fun k => k0_pay7 (F := Ideal) (hB V c t) (View.ld (wuB V c t) r0_8) (ix2 p k))
    (fun k d => View.ld (wdB V c t) r0_10 (ix2 k d)) (A V c (row t p)) (U V c (row t p)) (Wd V c) 2 (ea 2 1536 rfl _) (eu 2 1536 rfl _) (ed 2 1536 rfl _) d
  have e1 := chunk_down (pre (fun d => hB V c t (ix2 p d)) (fun d k => View.ld (wgB V c t) r0_5 (ix2 d k))) (pre (fun d => hB V c t (ix2 p d)) (fun d k => View.ld (wuB V c t) r0_5 (ix2 d k)))
    (fun k d => View.ld (wdB V c t) r0_7 (ix2 k d)) (A V c (row t p)) (U V c (row t p)) (Wd V c) 1 (fun k => (pay_pre _ _ p k).symm.trans (ea 1 768 rfl _ k))
    (fun k => (pay_pre _ _ p k).symm.trans (eu 1 768 rfl _ k)) (ed 1 768 rfl _) d
  have e3 := chunk_down (pre (fun d => hB V c t (ix2 p d)) (fun d k => View.ld (wgB V c t) r0_11 (ix2 d k))) (pre (fun d => hB V c t (ix2 p d)) (fun d k => View.ld (wuB V c t) r0_11 (ix2 d k)))
    (fun k d => View.ld (wdB V c t) r0_13 (ix2 k d)) (A V c (row t p)) (U V c (row t p)) (Wd V c) 3 (fun k => (pay_pre _ _ p k).symm.trans (ea 3 2304 rfl _ k))
    (fun k => (pay_pre _ _ p k).symm.trans (eu 3 2304 rfl _ k)) (ed 3 2304 rfl _) d
  refine (pay_out (xB V c t) (gtB V c t) (hB V c t) _ _ _ _ _ _ _ _ _ _ _ _ p d).trans ?_
  unfold out down
  rw [sum_col]
  exact congrArg₂ (· + ·) (x_eq V c t p d) (congrArg₂ (· * ·) (gt_eq V c t d) (congrArg₂ (· + ·) (congrArg₂ (· + ·) (congrArg₂ (· + ·) e0 e1) e2) e3))

theorem after_gate (c : Dev nD) (t : Fin cfg0.N) (p : Fin 512) (k : Fin 3072) : (dat0 V c).after 9 t (ix2 p k) = A V c (row t p) k := by
  rw [after0_9]
  unfold_out out0_9
  frame_out
  have ea := fun q o ho inb p k => chunk_pre V c t (wgB V c t) (Wg V c) (wg_eq V c t) q o ho inb p k
  exact stored512 _ _ _ _ (fun p k => A V c (row t p) k) (ea 0 0 rfl _) (ea 1 768 rfl _) (ea 2 1536 rfl _) (ea 3 2304 rfl _) p k

theorem after_up (c : Dev nD) (t : Fin cfg0.N) (p : Fin 512) (k : Fin 3072) : (dat0 V c).after 10 t (ix2 p k) = U V c (row t p) k := by
  rw [after0_10]
  unfold_out out0_10
  frame_out
  have eu := fun q o ho inb p k => chunk_pre V c t (wuB V c t) (Wu V c) (wu_eq V c t) q o ho inb p k
  exact stored512 _ _ _ _ (fun p k => U V c (row t p) k) (eu 0 0 rfl _) (eu 1 768 rfl _) (eu 2 1536 rfl _) (eu 3 2304 rfl _) p k

/-! ## The arrays after the call -/

theorem emb8 (t : Fin cfg0.N) (p : Fin 512) (d : Fin 1024) : ((cfg0.win 8).blk t).view.emb (ix2 p d) = (ix2 (row t p) d : S4096x1024.Idx) := by
  unfold row
  blk_ext [idx t]
theorem emb9 (t : Fin cfg0.N) (p : Fin 512) (k : Fin 3072) : ((cfg0.win 9).blk t).view.emb (ix2 p k) = (ix2 (row t p) k : S4096x3072.Idx) := by
  unfold row
  blk_ext [idx t]
theorem emb10 (t : Fin cfg0.N) (p : Fin 512) (k : Fin 3072) : ((cfg0.win 10).blk t).view.emb (ix2 p k) = (ix2 (row t p) k : S4096x3072.Idx) := by
  unfold row
  blk_ext [idx t]

def outArr (c : Dev nD) (i : S4096x1024.Idx) : EReal := out (X V c (i 0)) (Gt V c) (A V c (i 0)) (U V c (i 0)) (Wd V c) (i 1)
def gateArr (c : Dev nD) (i : S4096x3072.Idx) : EReal := A V c (i 0) (i 1)
def upArr (c : Dev nD) (i : S4096x3072.Idx) : EReal := U V c (i 0) (i 1)

theorem final_out (c : Dev nD) : (dat0 V c).arrAt 8 cfg0.N = outArr V c := by
  refine (dat0 V c).arrAt_eq_of_covers 8 _ (by decide +kernel) fun t hf y => ?_
  obtain ⟨p, d, rfl⟩ : ∃ (p : Fin 512) (d : Fin 1024), y = ix2 p d := ⟨y 0, y 1, eq_ix2 y⟩
  refine (after_out V c t p d).trans ?_
  rw [emb8]
  rfl
theorem final_gate (c : Dev nD) : (dat0 V c).arrAt 9 cfg0.N = gateArr V c := by
  refine (dat0 V c).arrAt_eq_of_covers 9 _ (by decide +kernel) fun t hf y => ?_
  obtain ⟨p, k, rfl⟩ : ∃ (p : Fin 512) (k : Fin 3072), y = ix2 p k := ⟨y 0, y 1, eq_ix2 y⟩
  refine (after_gate V c t p k).trans ?_
  rw [emb9]
  rfl
theorem final_up (c : Dev nD) : (dat0 V c).arrAt 10 cfg0.N = upArr V c := by
  refine (dat0 V c).arrAt_eq_of_covers 10 _ (by decide +kernel) fun t hf y => ?_
  obtain ⟨p, k, rfl⟩ : ∃ (p : Fin 512) (k : Fin 3072), y = ix2 p k := ⟨y 0, y 1, eq_ix2 y⟩
  refine (after_up V c t p k).trans ?_
  rw [emb10]
  rfl

end Cert.FfnIdeal.Fwd

end
-- ==== Proof.FfnBwd.lean ====
/-
  The feed-forward's gradient call over its 4096 rows in tiles of 256: the rows it stores, and the four rows it accumulates.
-/
module

public import proofs.«01_k».proof.Proof.FfnFwd

@[expose] public section

set_option maxRecDepth 16384

noncomputable section

namespace Cert.FfnIdeal.Bwd

open Cert.FfnIdeal Cert.FfnIdeal.Gen Cert.FfnIdeal.Row Idealize.ShloMosaic Idealize.ShloMosaic.TcCoe Idealize.SL.Sem
open Cert.FfnIdeal.Fwd (X G Sh Sc Gt Wg Wu Wd H)
variable (V : (c : Dev nD) → (b : Ref sig .tc) → Buf (Elt Ideal) ((c : Thread nD τ).loc b))

theorem idx : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![t.val, 0] ∧ win1_12.index t = ![t.val, 0] ∧ win1_13.index t = ![t.val, 0] ∧ win1_14.index t = ![t.val, 0]
    ∧ win1_15.index t = ![t.val, 0] ∧ win1_16.index t = ![t.val, 0] ∧ win1_17.index t = ![0, 0] ∧ win1_18.index t = ![0, 0]
    ∧ win1_19.index t = ![0, 0] ∧ win1_20.index t = ![0, 0] :=
  (by decide +kernel : ∀ t : Fin grid1.N, win1_0.index t = ![t.val, 0] ∧ win1_1.index t = ![t.val, 0] ∧ win1_2.index t = ![t.val, 0]
    ∧ win1_3.index t = ![t.val, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![t.val, 0] ∧ win1_12.index t = ![t.val, 0] ∧ win1_13.index t = ![t.val, 0] ∧ win1_14.index t = ![t.val, 0]
    ∧ win1_15.index t = ![t.val, 0] ∧ win1_16.index t = ![t.val, 0] ∧ win1_17.index t = ![0, 0] ∧ win1_18.index t = ![0, 0]
    ∧ win1_19.index t = ![0, 0] ∧ win1_20.index t = ![0, 0])

/-! ## The operands of a tile -/

def row (t : Fin cfg1.N) (p : Fin 256) : Fin 4096 := ⟨t.val * 256 + p.val, by have : t.val < 16 := t.isLt; omega⟩

def xB (c : Dev nD) (t : Fin cfg1.N) : Vec Ideal S256x1024 .f32 := iblk1 V c 0 t
def cB (c : Dev nD) (t : Fin cfg1.N) : Vec Ideal S256x1024 .f32 := iblk1 V c 1 t
def aB (c : Dev nD) (t : Fin cfg1.N) : Vec Ideal S256x3072 .bf16 := iblk1 V c 2 t
def uB (c : Dev nD) (t : Fin cfg1.N) : Vec Ideal S256x3072 .bf16 := iblk1 V c 3 t
def gB (c : Dev nD) (t : Fin cfg1.N) : Vec Ideal S1x1024 .f32 := iblk1 V c 4 t
def shB (c : Dev nD) (t : Fin cfg1.N) : Vec Ideal S1x1024 .f32 := iblk1 V c 5 t
def scB (c : Dev nD) (t : Fin cfg1.N) : Vec Ideal S1x1024 .f32 := iblk1 V c 6 t
def gtB (c : Dev nD) (t : Fin cfg1.N) : Vec Ideal S1x1024 .f32 := iblk1 V c 7 t
def wgB (c : Dev nD) (t : Fin cfg1.N) : Vec Ideal S1024x3072 .bf16 := iblk1 V c 8 t
def wuB (c : Dev nD) (t : Fin cfg1.N) : Vec Ideal S1024x3072 .bf16 := iblk1 V c 9 t
def wdB (c : Dev nD) (t : Fin cfg1.N) : Vec Ideal S3072x1024 .bf16 := iblk1 V c 10 t
def dB (c : Dev nD) (t : Fin cfg1.N) : Vec Ideal S256x1024 .bf16 := k1_pay17 (F := Ideal) (cB V c t) (gtB V c t)
def dhB (c : Dev nD) (t : Fin cfg1.N) : Vec Ideal S256x1024 .f32 := dhT (dB V c t) (aB V c t) (uB V c t) (wgB V c t) (wuB V c t) (wdB V c t)

/-- The cotangent and the saved products the call finds, and its row functions of them. -/
def C (c : Dev nD) (r : Fin 4096) (d : Fin 1024) : EReal := V c main_arg8 (ix2 r d)
def A (c : Dev nD) (r : Fin 4096) (k : Fin 3072) : EReal := V c main_v13_1 (ix2 r k)
def U (c : Dev nD) (r : Fin 4096) (k : Fin 3072) : EReal := V c main_v13_2 (ix2 r k)
def D (c : Dev nD) (r : Fin 4096) : Fin 1024 → EReal := gated (C V c r) (Gt V c)
def Dgate (c : Dev nD) (r : Fin 4096) : Fin 3072 → EReal := dgate (D V c r) (Wd V c) (A V c r) (U V c r)
def Dup (c : Dev nD) (r : Fin 4096) : Fin 3072 → EReal := dup (D V c r) (Wd V c) (A V c r)
def Dh (c : Dev nD) (r : Fin 4096) : Fin 1024 → EReal := dh (Dgate V c r) (Dup V c r) (Wg V c) (Wu V c)
def Dn (c : Dev nD) (r : Fin 4096) : Fin 1024 → EReal := dnrm (Dh V c r) (G V c) (Sc V c)

theorem x_eq (c : Dev nD) (t : Fin cfg1.N) (p : Fin 256) (d : Fin 1024) : xB V c t (ix2 p d) = X V c (row t p) d := by
  unfold xB X row
  blk_ext [iblk1, idx t]
theorem c_eq (c : Dev nD) (t : Fin cfg1.N) (p : Fin 256) (d : Fin 1024) : cB V c t (ix2 p d) = C V c (row t p) d := by
  unfold cB C row
  blk_ext [iblk1, idx t]
theorem a_eq (c : Dev nD) (t : Fin cfg1.N) (p : Fin 256) (k : Fin 3072) : aB V c t (ix2 p k) = A V c (row t p) k := by
  unfold aB A row
  blk_ext [iblk1, idx t]
theorem u_eq (c : Dev nD) (t : Fin cfg1.N) (p : Fin 256) (k : Fin 3072) : uB V c t (ix2 p k) = U V c (row t p) k := by
  unfold uB U row
  blk_ext [iblk1, idx t]
theorem g_eq (c : Dev nD) (t : Fin cfg1.N) (d : Fin 1024) : gB V c t (ix2 0 d) = G V c d := by
  unfold gB G
  blk_ext [iblk1, idx t]
theorem sh_eq (c : Dev nD) (t : Fin cfg1.N) (d : Fin 1024) : shB V c t (ix2 0 d) = Sh V c d := by
  unfold shB Sh
  blk_ext [iblk1, idx t]
theorem sc_eq (c : Dev nD) (t : Fin cfg1.N) (d : Fin 1024) : scB V c t (ix2 0 d) = Sc V c d := by
  unfold scB Sc
  blk_ext [iblk1, idx t]
theorem gt_eq (c : Dev nD) (t : Fin cfg1.N) (d : Fin 1024) : gtB V c t (ix2 0 d) = Gt V c d := by
  unfold gtB Gt
  blk_ext [iblk1, idx t]
theorem wg_eq (c : Dev nD) (t : Fin cfg1.N) (d : Fin 1024) (k : Fin 3072) : wgB V c t (ix2 d k) = Wg V c d k := by
  unfold wgB Wg
  blk_ext [iblk1, idx t]
theorem wu_eq (c : Dev nD) (t : Fin cfg1.N) (d : Fin 1024) (k : Fin 3072) : wuB V c t (ix2 d k) = Wu V c d k := by
  unfold wuB Wu
  blk_ext [iblk1, idx t]
theorem wd_eq (c : Dev nD) (t : Fin cfg1.N) (k : Fin 3072) (d : Fin 1024) : wdB V c t (ix2 k d) = Wd V c k d := by
  unfold wdB Wd
  blk_ext [iblk1, idx t]

theorem d_eq (c : Dev nD) (t : Fin cfg1.N) (p : Fin 256) (d : Fin 1024) : dB V c t (ix2 p d) = D V c (row t p) d := by
  refine (pay_dy _ _ p d).trans ?_
  simp only [c_eq, gt_eq]
  rfl
theorem dgate_eq (c : Dev nD) (t : Fin cfg1.N) (p : Fin 256) :
    dgateT (dB V c t) (aB V c t) (uB V c t) (wdB V c t) p = Dgate V c (row t p) := by
  funext k
  unfold dgateT
  simp only [d_eq, a_eq, u_eq, wd_eq]
  rfl
theorem dup_eq (c : Dev nD) (t : Fin cfg1.N) (p : Fin 256) : dupT (dB V c t) (aB V c t) (wdB V c t) p = Dup V c (row t p) := by
  funext k
  unfold dupT
  simp only [d_eq, a_eq, wd_eq]
  rfl
theorem dh_eq (c : Dev nD) (t : Fin cfg1.N) (p : Fin 256) (d : Fin 1024) : dhB V c t (ix2 p d) = Dh V c (row t p) d := by
  refine (dhT_apply _ _ _ _ _ _ p d).trans ?_
  rw [dgate_eq, dup_eq]
  simp only [wg_eq, wu_eq]
  rfl
theorem y_eq (c : Dev nD) (t : Fin cfg1.N) (p : Fin 256) (d : Fin 1024) :
    yT (aB V c t) (uB V c t) (wdB V c t) (ix2 p d) = down (A V c (row t p)) (U V c (row t p)) (Wd V c) d := by
  refine (yT_apply _ _ _ p d).trans ?_
  simp only [a_eq, u_eq, wd_eq]

/-! ## What a grid point leaves in each output -/

section Points

variable (c : Dev nD) (t : Fin cfg1.N)

/-- The gradient of the normalised row, as the call writes it. -/
def dnB : Vec Ideal S256x1024 .f32 :=
  k1_pay68 (k1_pay9 (gB V c t)) (k1_pay15 (scB V c t)) (sum3 (dB V c t) (aB V c t) (uB V c t) (wgB V c t) (wuB V c t) (wdB V c t))
    (k1_pay51 (View.ld (aB V c t) q3)) (k1_pay53 (View.ld (aB V c t) q3)) (k1_pay54 (View.ld (aB V c t) q3)) (k1_pay57 (dB V c t) (View.ld (wdB V c t) r0_13))
    (k1_pay58 (dB V c t) (View.ld (uB V c t) q3) (View.ld (wdB V c t) r0_13)) k1_pay59 (View.ld (wgB V c t) r0_11) (View.ld (wuB V c t) r0_11)

theorem dn_eq (p : Fin 256) (d : Fin 1024) : dnB V c t (ix2 p d) = Dn V c (row t p) d := by
  refine (pay_dn _ _ _ _ _ _ _ _ _ _ _ p d).trans ?_
  exact congrArg₂ (· * ·) (congrArg₂ (· * ·) (dh_eq V c t p d) (congrArg (1 + ·) (sc_eq V c t d))) (g_eq V c t d)

theorem outs_dx : (outsAt1 V c t.val t.isLt).1 = k1_pay1 (F := Ideal) (cB V c t) (xB V c t) (k1_pay11 (xB V c t)) (k1_pay12 (xB V c t)) (dnB V c t) := by
  by_cases h0 : t.val % 16 = 0
  · rw [outsAt1_A V c t h0]; frame_out; rfl
  · rw [outsAt1_B V c t h0]; frame_out; rfl

theorem outs_dy : (outsAt1 V c t.val t.isLt).2.2.2.1 = dB V c t := by
  by_cases h0 : t.val % 16 = 0
  · rw [outsAt1_A V c t h0]; frame_out; rfl
  · rw [outsAt1_B V c t h0]; frame_out; rfl

theorem outs_h : (outsAt1 V c t.val t.isLt).2.2.2.2.1 = k1_pay16 (F := Ideal) (xB V c t) (gB V c t) (shB V c t) (scB V c t) := by
  by_cases h0 : t.val % 16 = 0
  · rw [outsAt1_A V c t h0]; frame_out; rfl
  · rw [outsAt1_B V c t h0]; frame_out; rfl

theorem outs_dgate : (outsAt1 V c t.val t.isLt).2.1
    = View.canon (Val := Elt Ideal) (s := S256x3072) (e := .bf16) [⟨q3, k1_pay26 (F := Ideal) (dB V c t) (View.ld (aB V c t) q3) (View.ld (uB V c t) q3) (View.ld (wdB V c t) r0_13)⟩,
    ⟨q2, k1_pay26 (F := Ideal) (dB V c t) (View.ld (aB V c t) q2) (View.ld (uB V c t) q2) (View.ld (wdB V c t) r0_10)⟩,
    ⟨q1, k1_pay26 (F := Ideal) (dB V c t) (View.ld (aB V c t) q1) (View.ld (uB V c t) q1) (View.ld (wdB V c t) r0_7)⟩,
    ⟨q0, k1_pay26 (F := Ideal) (dB V c t) (View.ld (aB V c t) q0) (View.ld (uB V c t) q0) (View.ld (wdB V c t) r0_4)⟩] := by
  by_cases h0 : t.val % 16 = 0
  · rw [outsAt1_A V c t h0]; frame_out; rfl
  · rw [outsAt1_B V c t h0]; frame_out; rfl

theorem outs_dup : (outsAt1 V c t.val t.isLt).2.2.1
    = View.canon (Val := Elt Ideal) (s := S256x3072) (e := .bf16) [⟨q3, k1_pay27 (F := Ideal) (dB V c t) (View.ld (aB V c t) q3) (View.ld (wdB V c t) r0_13)⟩,
    ⟨q2, k1_pay27 (F := Ideal) (dB V c t) (View.ld (aB V c t) q2) (View.ld (wdB V c t) r0_10)⟩,
    ⟨q1, k1_pay27 (F := Ideal) (dB V c t) (View.ld (aB V c t) q1) (View.ld (wdB V c t) r0_7)⟩,
    ⟨q0, k1_pay27 (F := Ideal) (dB V c t) (View.ld (aB V c t) q0) (View.ld (wdB V c t) r0_4)⟩] := by
  by_cases h0 : t.val % 16 = 0
  · rw [outsAt1_A V c t h0]; frame_out; rfl
  · rw [outsAt1_B V c t h0]; frame_out; rfl

theorem outs_act : (outsAt1 V c t.val t.isLt).2.2.2.2.2.1
    = View.canon (Val := Elt Ideal) (s := S256x3072) (e := .bf16) [⟨q3, k1_pay23 (F := Ideal) (View.ld (aB V c t) q3) (View.ld (uB V c t) q3)⟩,
    ⟨q2, k1_pay23 (F := Ideal) (View.ld (aB V c t) q2) (View.ld (uB V c t) q2)⟩,
    ⟨q1, k1_pay23 (F := Ideal) (View.ld (aB V c t) q1) (View.ld (uB V c t) q1)⟩,
    ⟨q0, k1_pay23 (F := Ideal) (View.ld (aB V c t) q0) (View.ld (uB V c t) q0)⟩] := by
  by_cases h0 : t.val % 16 = 0
  · rw [outsAt1_A V c t h0]; frame_out; rfl
  · rw [outsAt1_B V c t h0]; frame_out; rfl

theorem at_dgate (p : Fin 256) (k : Fin 3072) : (outsAt1 V c t.val t.isLt).2.1 (ix2 p k) = Dgate V c (row t p) k := by
  refine (congrFun (outs_dgate V c t) (ix2 p k)).trans ?_
  refine (stored256 _ _ _ _ (dgateT (dB V c t) (aB V c t) (uB V c t) (wdB V c t))
    (fun p k => chunk_dgate (dB V c t) (aB V c t) (uB V c t) (wdB V c t) 0 0 rfl inb_S256x3072_S256x768_0_0 inb_S3072x1024_S768x1024_0_0 p k)
    (fun p k => chunk_dgate (dB V c t) (aB V c t) (uB V c t) (wdB V c t) 1 768 rfl inb_S256x3072_S256x768_0_768 inb_S3072x1024_S768x1024_768_0 p k)
    (fun p k => chunk_dgate (dB V c t) (aB V c t) (uB V c t) (wdB V c t) 2 1536 rfl inb_S256x3072_S256x768_0_1536 inb_S3072x1024_S768x1024_1536_0 p k)
    (fun p k => chunk_dgate (dB V c t) (aB V c t) (uB V c t) (wdB V c t) 3 2304 rfl inb_S256x3072_S256x768_0_2304 inb_S3072x1024_S768x1024_2304_0 p k) p k).trans ?_
  rw [dgate_eq]
theorem at_dup (p : Fin 256) (k : Fin 3072) : (outsAt1 V c t.val t.isLt).2.2.1 (ix2 p k) = Dup V c (row t p) k := by
  refine (congrFun (outs_dup V c t) (ix2 p k)).trans ?_
  refine (stored256 _ _ _ _ (dupT (dB V c t) (aB V c t) (wdB V c t))
    (fun p k => chunk_dup (dB V c t) (aB V c t) (wdB V c t) 0 0 rfl inb_S256x3072_S256x768_0_0 inb_S3072x1024_S768x1024_0_0 p k)
    (fun p k => chunk_dup (dB V c t) (aB V c t) (wdB V c t) 1 768 rfl inb_S256x3072_S256x768_0_768 inb_S3072x1024_S768x1024_768_0 p k)
    (fun p k => chunk_dup (dB V c t) (aB V c t) (wdB V c t) 2 1536 rfl inb_S256x3072_S256x768_0_1536 inb_S3072x1024_S768x1024_1536_0 p k)
    (fun p k => chunk_dup (dB V c t) (aB V c t) (wdB V c t) 3 2304 rfl inb_S256x3072_S256x768_0_2304 inb_S3072x1024_S768x1024_2304_0 p k) p k).trans ?_
  rw [dup_eq]
theorem at_act (p : Fin 256) (k : Fin 3072) : (outsAt1 V c t.val t.isLt).2.2.2.2.2.1 (ix2 p k) = act (A V c (row t p)) (U V c (row t p)) k := by
  refine (congrFun (outs_act V c t) (ix2 p k)).trans ?_
  refine (stored256 _ _ _ _ (actT (aB V c t) (uB V c t))
    (fun p k => chunk_act (aB V c t) (uB V c t) 0 0 rfl inb_S256x3072_S256x768_0_0 p k)
    (fun p k => chunk_act (aB V c t) (uB V c t) 1 768 rfl inb_S256x3072_S256x768_0_768 p k)
    (fun p k => chunk_act (aB V c t) (uB V c t) 2 1536 rfl inb_S256x3072_S256x768_0_1536 p k)
    (fun p k => chunk_act (aB V c t) (uB V c t) 3 2304 rfl inb_S256x3072_S256x768_0_2304 p k) p k).trans ?_
  unfold actT
  simp only [a_eq, u_eq]
theorem at_dy (p : Fin 256) (d : Fin 1024) : (outsAt1 V c t.val t.isLt).2.2.2.1 (ix2 p d) = D V c (row t p) d :=
  (congrFun (outs_dy V c t) (ix2 p d)).trans (d_eq V c t p d)
theorem at_h (p : Fin 256) (d : Fin 1024) : (outsAt1 V c t.val t.isLt).2.2.2.2.1 (ix2 p d) = H V c (row t p) d := by
  refine (congrFun (outs_h V c t) (ix2 p d)).trans ((pay_h _ _ _ _ p d).trans ?_)
  simp only [x_eq, g_eq, sh_eq, sc_eq]
  rfl
theorem at_dx (p : Fin 256) (d : Fin 1024) : (outsAt1 V c t.val t.isLt).1 (ix2 p d) = dx (X V c (row t p)) (C V c (row t p)) (Dn V c (row t p)) d := by
  refine (congrFun (outs_dx V c t) (ix2 p d)).trans ((pay_dx _ _ _ p d).trans ?_)
  simp only [x_eq, c_eq, dn_eq]

/-! One tile's addition to each accumulated row. -/

def addDg (r : Vec Ideal S1x1024 .f32) : Vec Ideal S1x1024 .f32 :=
  k1_pay2 (F := Ideal) (k1_pay67 (k1_pay13 (xB V c t)) (k1_pay15 (scB V c t)) (sum3 (dB V c t) (aB V c t) (uB V c t) (wgB V c t) (wuB V c t) (wdB V c t))
      (k1_pay51 (View.ld (aB V c t) q3)) (k1_pay53 (View.ld (aB V c t) q3)) (k1_pay54 (View.ld (aB V c t) q3)) (k1_pay57 (dB V c t) (View.ld (wdB V c t) r0_13))
      (k1_pay58 (dB V c t) (View.ld (uB V c t) q3) (View.ld (wdB V c t) r0_13)) k1_pay59 (View.ld (wgB V c t) r0_11) (View.ld (wuB V c t) r0_11)) r
def addDsh (r : Vec Ideal S1x1024 .f32) : Vec Ideal S1x1024 .f32 :=
  k1_pay3 (F := Ideal) (k1_pay64 (sum3 (dB V c t) (aB V c t) (uB V c t) (wgB V c t) (wuB V c t) (wdB V c t))
      (k1_pay51 (View.ld (aB V c t) q3)) (k1_pay53 (View.ld (aB V c t) q3)) (k1_pay54 (View.ld (aB V c t) q3)) (k1_pay57 (dB V c t) (View.ld (wdB V c t) r0_13))
      (k1_pay58 (dB V c t) (View.ld (uB V c t) q3) (View.ld (wdB V c t) r0_13)) k1_pay59 (View.ld (wgB V c t) r0_11) (View.ld (wuB V c t) r0_11)) r
def addDsc (r : Vec Ideal S1x1024 .f32) : Vec Ideal S1x1024 .f32 :=
  k1_pay4 (F := Ideal) (k1_pay65 (k1_pay14 (xB V c t) (gB V c t)) (sum3 (dB V c t) (aB V c t) (uB V c t) (wgB V c t) (wuB V c t) (wdB V c t))
      (k1_pay51 (View.ld (aB V c t) q3)) (k1_pay53 (View.ld (aB V c t) q3)) (k1_pay54 (View.ld (aB V c t) q3)) (k1_pay57 (dB V c t) (View.ld (wdB V c t) r0_13))
      (k1_pay58 (dB V c t) (View.ld (uB V c t) q3) (View.ld (wdB V c t) r0_13)) k1_pay59 (View.ld (wgB V c t) r0_11) (View.ld (wuB V c t) r0_11)) r
def addDgt (r : Vec Ideal S1x1024 .f32) : Vec Ideal S1x1024 .f32 :=
  k1_pay63 (F := Ideal) (cB V c t) (yT (aB V c t) (uB V c t) (wdB V c t)) r

def dgAt (r : Fin 4096) (d : Fin 1024) : EReal := nrm (X V c r) d * (Dh V c r d * (1 + Sc V c d))
def dshAt (r : Fin 4096) (d : Fin 1024) : EReal := Dh V c r d
def dscAt (r : Fin 4096) (d : Fin 1024) : EReal := nrm (X V c r) d * G V c d * Dh V c r d
def dgtAt (r : Fin 4096) (d : Fin 1024) : EReal := C V c r d * down (A V c r) (U V c r) (Wd V c) d

theorem nrm_eq (p : Fin 256) (d : Fin 1024) : nrm (fun d => xB V c t (ix2 p d)) d = nrm (X V c (row t p)) d :=
  congrArg (nrm · d) (funext fun d => x_eq V c t p d)

theorem addDg_apply (r : Vec Ideal S1x1024 .f32) (j : S1x1024.Idx) : addDg V c t r j = r j + ∑ p : Fin 256, dgAt V c (row t p) (j 1) :=
  (step_dg _ _ _ _ _ _ _ _ _ _ _ r j).trans (congrArg (r j + ·) (Finset.sum_congr rfl fun p _ =>
    congrArg₂ (· * ·) (nrm_eq V c t p (j 1)) (congrArg₂ (· * ·) (dh_eq V c t p (j 1)) (congrArg (1 + ·) (sc_eq V c t (j 1))))))
theorem addDsh_apply (r : Vec Ideal S1x1024 .f32) (j : S1x1024.Idx) : addDsh V c t r j = r j + ∑ p : Fin 256, dshAt V c (row t p) (j 1) :=
  (step_dsh _ _ _ _ _ _ _ _ _ r j).trans (congrArg (r j + ·) (Finset.sum_congr rfl fun p _ => dh_eq V c t p (j 1)))
theorem addDsc_apply (r : Vec Ideal S1x1024 .f32) (j : S1x1024.Idx) : addDsc V c t r j = r j + ∑ p : Fin 256, dscAt V c (row t p) (j 1) :=
  (step_dsc _ _ _ _ _ _ _ _ _ _ _ r j).trans (congrArg (r j + ·) (Finset.sum_congr rfl fun p _ =>
    congrArg₂ (· * ·) (congrArg₂ (· * ·) (nrm_eq V c t p (j 1)) (g_eq V c t (j 1))) (dh_eq V c t p (j 1))))
theorem addDgt_apply (r : Vec Ideal S1x1024 .f32) (j : S1x1024.Idx) : addDgt V c t r j = r j + ∑ p : Fin 256, dgtAt V c (row t p) (j 1) :=
  (step_dgt _ _ r j).trans (congrArg (r j + ·) (Finset.sum_congr rfl fun p _ => congrArg₂ (· * ·) (c_eq V c t p (j 1)) (y_eq V c t p (j 1))))

end Points

/-! ## The accumulated rows after the last tile -/

theorem acc_dg (c : Dev nD) (j : S1x1024.Idx) : (outsAt1 V c t1_15.val t1_15.isLt).2.2.2.2.2.2.1 j
    = Ideal.ofBits .f32 0x00000000#32 + ∑ t : Fin cfg1.N, ∑ p : Fin 256, dgAt V c (row t p) (j 1) := by
  refine (Pipeline.eq_sum_fin_of_reset_step_apply_last (fun n h => (outsAt1 V c n h).2.2.2.2.2.2.1) 16
    (fun _ => Ideal.ofBits .f32 0x00000000#32) (fun t j => ∑ p : Fin 256, dgAt V c (row t p) (j 1)) ?_ ?_ (by decide) t1_15 rfl j)
  · intro t h j
    rw [outsAt1_A V c t h]
    frame_out
    exact addDg_apply V c t _ j
  · intro t h j
    rw [outsAt1_B V c t h]
    frame_out
    exact addDg_apply V c t _ j

theorem acc_dsh (c : Dev nD) (j : S1x1024.Idx) : (outsAt1 V c t1_15.val t1_15.isLt).2.2.2.2.2.2.2.1 j
    = Ideal.ofBits .f32 0x00000000#32 + ∑ t : Fin cfg1.N, ∑ p : Fin 256, dshAt V c (row t p) (j 1) := by
  refine (Pipeline.eq_sum_fin_of_reset_step_apply_last (fun n h => (outsAt1 V c n h).2.2.2.2.2.2.2.1) 16
    (fun _ => Ideal.ofBits .f32 0x00000000#32) (fun t j => ∑ p : Fin 256, dshAt V c (row t p) (j 1)) ?_ ?_ (by decide) t1_15 rfl j)
  · intro t h j
    rw [outsAt1_A V c t h]
    frame_out
    exact addDsh_apply V c t _ j
  · intro t h j
    rw [outsAt1_B V c t h]
    frame_out
    exact addDsh_apply V c t _ j

theorem acc_dsc (c : Dev nD) (j : S1x1024.Idx) : (outsAt1 V c t1_15.val t1_15.isLt).2.2.2.2.2.2.2.2.1 j
    = Ideal.ofBits .f32 0x00000000#32 + ∑ t : Fin cfg1.N, ∑ p : Fin 256, dscAt V c (row t p) (j 1) := by
  refine (Pipeline.eq_sum_fin_of_reset_step_apply_last (fun n h => (outsAt1 V c n h).2.2.2.2.2.2.2.2.1) 16
    (fun _ => Ideal.ofBits .f32 0x00000000#32) (fun t j => ∑ p : Fin 256, dscAt V c (row t p) (j 1)) ?_ ?_ (by decide) t1_15 rfl j)
  · intro t h j
    rw [outsAt1_A V c t h]
    frame_out
    exact addDsc_apply V c t _ j
  · intro t h j
    rw [outsAt1_B V c t h]
    frame_out
    exact addDsc_apply V c t _ j

theorem acc_dgt (c : Dev nD) (j : S1x1024.Idx) : (outsAt1 V c t1_15.val t1_15.isLt).2.2.2.2.2.2.2.2.2 j
    = Ideal.ofBits .f32 0x00000000#32 + ∑ t : Fin cfg1.N, ∑ p : Fin 256, dgtAt V c (row t p) (j 1) := by
  refine (Pipeline.eq_sum_fin_of_reset_step_apply_last (fun n h => (outsAt1 V c n h).2.2.2.2.2.2.2.2.2) 16
    (fun _ => Ideal.ofBits .f32 0x00000000#32) (fun t j => ∑ p : Fin 256, dgtAt V c (row t p) (j 1)) ?_ ?_ (by decide) t1_15 rfl j)
  · intro t h j
    rw [outsAt1_A V c t h]
    frame_out
    exact addDgt_apply V c t _ j
  · intro t h j
    rw [outsAt1_B V c t h]
    frame_out
    exact addDgt_apply V c t _ j

/-! ## The arrays after the call -/

theorem emb11 (t : Fin cfg1.N) (p : Fin 256) (d : Fin 1024) : ((cfg1.win 11).blk t).view.emb (ix2 p d) = (ix2 (row t p) d : S4096x1024.Idx) := by
  unfold row
  blk_ext [idx t]
def dxArr (c : Dev nD) (i : S4096x1024.Idx) : EReal := dx (X V c (i 0)) (C V c (i 0)) (Dn V c (i 0)) (i 1)
theorem final_dx (c : Dev nD) : (dat1 V c).arrAt 11 cfg1.N = dxArr V c := by
  refine (dat1 V c).arrAt_eq_of_covers 11 _ (by decide +kernel) fun t hf y => ?_
  obtain ⟨p, d, rfl⟩ : ∃ (p : Fin 256) (d : Fin 1024), y = ix2 p d := ⟨y 0, y 1, eq_ix2 y⟩
  refine (congrFun (after1_11 V c t) (ix2 p d)).trans ((at_dx V c t p d).trans ?_)
  rw [emb11]
  rfl

theorem emb12 (t : Fin cfg1.N) (p : Fin 256) (d : Fin 3072) : ((cfg1.win 12).blk t).view.emb (ix2 p d) = (ix2 (row t p) d : S4096x3072.Idx) := by
  unfold row
  blk_ext [idx t]
def dgateArr (c : Dev nD) (i : S4096x3072.Idx) : EReal := Dgate V c (i 0) (i 1)
theorem final_dgate (c : Dev nD) : (dat1 V c).arrAt 12 cfg1.N = dgateArr V c := by
  refine (dat1 V c).arrAt_eq_of_covers 12 _ (by decide +kernel) fun t hf y => ?_
  obtain ⟨p, d, rfl⟩ : ∃ (p : Fin 256) (d : Fin 3072), y = ix2 p d := ⟨y 0, y 1, eq_ix2 y⟩
  refine (congrFun (after1_12 V c t) (ix2 p d)).trans ((at_dgate V c t p d).trans ?_)
  rw [emb12]
  rfl

theorem emb13 (t : Fin cfg1.N) (p : Fin 256) (d : Fin 3072) : ((cfg1.win 13).blk t).view.emb (ix2 p d) = (ix2 (row t p) d : S4096x3072.Idx) := by
  unfold row
  blk_ext [idx t]
def dupArr (c : Dev nD) (i : S4096x3072.Idx) : EReal := Dup V c (i 0) (i 1)
theorem final_dup (c : Dev nD) : (dat1 V c).arrAt 13 cfg1.N = dupArr V c := by
  refine (dat1 V c).arrAt_eq_of_covers 13 _ (by decide +kernel) fun t hf y => ?_
  obtain ⟨p, d, rfl⟩ : ∃ (p : Fin 256) (d : Fin 3072), y = ix2 p d := ⟨y 0, y 1, eq_ix2 y⟩
  refine (congrFun (after1_13 V c t) (ix2 p d)).trans ((at_dup V c t p d).trans ?_)
  rw [emb13]
  rfl

theorem emb14 (t : Fin cfg1.N) (p : Fin 256) (d : Fin 1024) : ((cfg1.win 14).blk t).view.emb (ix2 p d) = (ix2 (row t p) d : S4096x1024.Idx) := by
  unfold row
  blk_ext [idx t]
def dyArr (c : Dev nD) (i : S4096x1024.Idx) : EReal := D V c (i 0) (i 1)
theorem final_dy (c : Dev nD) : (dat1 V c).arrAt 14 cfg1.N = dyArr V c := by
  refine (dat1 V c).arrAt_eq_of_covers 14 _ (by decide +kernel) fun t hf y => ?_
  obtain ⟨p, d, rfl⟩ : ∃ (p : Fin 256) (d : Fin 1024), y = ix2 p d := ⟨y 0, y 1, eq_ix2 y⟩
  refine (congrFun (after1_14 V c t) (ix2 p d)).trans ((at_dy V c t p d).trans ?_)
  rw [emb14]
  rfl

theorem emb15 (t : Fin cfg1.N) (p : Fin 256) (d : Fin 1024) : ((cfg1.win 15).blk t).view.emb (ix2 p d) = (ix2 (row t p) d : S4096x1024.Idx) := by
  unfold row
  blk_ext [idx t]
def hArr (c : Dev nD) (i : S4096x1024.Idx) : EReal := H V c (i 0) (i 1)
theorem final_h (c : Dev nD) : (dat1 V c).arrAt 15 cfg1.N = hArr V c := by
  refine (dat1 V c).arrAt_eq_of_covers 15 _ (by decide +kernel) fun t hf y => ?_
  obtain ⟨p, d, rfl⟩ : ∃ (p : Fin 256) (d : Fin 1024), y = ix2 p d := ⟨y 0, y 1, eq_ix2 y⟩
  refine (congrFun (after1_15 V c t) (ix2 p d)).trans ((at_h V c t p d).trans ?_)
  rw [emb15]
  rfl

theorem emb16 (t : Fin cfg1.N) (p : Fin 256) (d : Fin 3072) : ((cfg1.win 16).blk t).view.emb (ix2 p d) = (ix2 (row t p) d : S4096x3072.Idx) := by
  unfold row
  blk_ext [idx t]
def actArr (c : Dev nD) (i : S4096x3072.Idx) : EReal := act (A V c (i 0)) (U V c (i 0)) (i 1)
theorem final_act (c : Dev nD) : (dat1 V c).arrAt 16 cfg1.N = actArr V c := by
  refine (dat1 V c).arrAt_eq_of_covers 16 _ (by decide +kernel) fun t hf y => ?_
  obtain ⟨p, d, rfl⟩ : ∃ (p : Fin 256) (d : Fin 3072), y = ix2 p d := ⟨y 0, y 1, eq_ix2 y⟩
  refine (congrFun (after1_16 V c t) (ix2 p d)).trans ((at_act V c t p d).trans ?_)
  rw [emb16]
  rfl

def dgArr (c : Dev nD) (i : S1x1024.Idx) : EReal := ∑ r : Fin 4096, dgAt V c r (i 1)
theorem final_dg (c : Dev nD) : (dat1 V c).arrAt 17 cfg1.N = dgArr V c := by
  refine (dat1 V c).arrAt_eq_of_after_last 17 t1_15 (by decide +kernel) _ fun j => ?_
  blk_simp
  refine (congrFun (after1_17 V c t1_15) j).trans ((acc_dg V c j).trans ?_)
  obtain ⟨d, rfl⟩ : ∃ d : Fin 1024, j = ix2 0 d := ⟨j 1, (eq_ix2 j).trans (congrArg (ix2 · (j 1)) (Subsingleton.elim (α := Fin 1) _ _))⟩
  unfold dgArr
  rw [Lit.sum_tiles 16 256 4096 rfl, Ideal.ofBits_zero_f32, zero_add]
  rfl

def dshArr (c : Dev nD) (i : S1x1024.Idx) : EReal := ∑ r : Fin 4096, dshAt V c r (i 1)
theorem final_dsh (c : Dev nD) : (dat1 V c).arrAt 18 cfg1.N = dshArr V c := by
  refine (dat1 V c).arrAt_eq_of_after_last 18 t1_15 (by decide +kernel) _ fun j => ?_
  blk_simp
  refine (congrFun (after1_18 V c t1_15) j).trans ((acc_dsh V c j).trans ?_)
  obtain ⟨d, rfl⟩ : ∃ d : Fin 1024, j = ix2 0 d := ⟨j 1, (eq_ix2 j).trans (congrArg (ix2 · (j 1)) (Subsingleton.elim (α := Fin 1) _ _))⟩
  unfold dshArr
  rw [Lit.sum_tiles 16 256 4096 rfl, Ideal.ofBits_zero_f32, zero_add]
  rfl

def dscArr (c : Dev nD) (i : S1x1024.Idx) : EReal := ∑ r : Fin 4096, dscAt V c r (i 1)
theorem final_dsc (c : Dev nD) : (dat1 V c).arrAt 19 cfg1.N = dscArr V c := by
  refine (dat1 V c).arrAt_eq_of_after_last 19 t1_15 (by decide +kernel) _ fun j => ?_
  blk_simp
  refine (congrFun (after1_19 V c t1_15) j).trans ((acc_dsc V c j).trans ?_)
  obtain ⟨d, rfl⟩ : ∃ d : Fin 1024, j = ix2 0 d := ⟨j 1, (eq_ix2 j).trans (congrArg (ix2 · (j 1)) (Subsingleton.elim (α := Fin 1) _ _))⟩
  unfold dscArr
  rw [Lit.sum_tiles 16 256 4096 rfl, Ideal.ofBits_zero_f32, zero_add]
  rfl

def dgtArr (c : Dev nD) (i : S1x1024.Idx) : EReal := ∑ r : Fin 4096, dgtAt V c r (i 1)
theorem final_dgt (c : Dev nD) : (dat1 V c).arrAt 20 cfg1.N = dgtArr V c := by
  refine (dat1 V c).arrAt_eq_of_after_last 20 t1_15 (by decide +kernel) _ fun j => ?_
  blk_simp
  refine (congrFun (after1_20 V c t1_15) j).trans ((acc_dgt V c j).trans ?_)
  obtain ⟨d, rfl⟩ : ∃ d : Fin 1024, j = ix2 0 d := ⟨j 1, (eq_ix2 j).trans (congrArg (ix2 · (j 1)) (Subsingleton.elim (α := Fin 1) _ _))⟩
  unfold dgtArr
  rw [Lit.sum_tiles 16 256 4096 rfl, Ideal.ofBits_zero_f32, zero_add]
  rfl

end Cert.FfnIdeal.Bwd

end
-- ==== Proof.FfnArgs.lean ====
/-
  The feed-forward layer and its gradient on all rows, over any set of hidden columns; and that zero columns, added to the
  weights after every 352 columns of a device's part, change none of its results.
-/
module

public import proofs.«01_k».proof.Proof.FfnMath

@[expose] public section

set_option maxRecDepth 16384

noncomputable section

namespace Cert.FfnIdeal.Row

open Idealize.ShloMosaic

/-- The arguments: rows, the four rows that scale and shift, the three weights, and the cotangent. -/
structure Args (K : Type) where
  X : Fin 4096 → Fin 1024 → EReal
  g : Fin 1024 → EReal
  sh : Fin 1024 → EReal
  sc : Fin 1024 → EReal
  gt : Fin 1024 → EReal
  wg : Fin 1024 → K → EReal
  wu : Fin 1024 → K → EReal
  wd : K → Fin 1024 → EReal
  C : Fin 4096 → Fin 1024 → EReal

namespace Args

section Values

variable {K : Type} [Fintype K] (a : Args K) (r : Fin 4096)

def H : Fin 1024 → EReal := hid (a.X r) a.g a.sh a.sc
def A : K → EReal := pre (a.H r) a.wg
def U : K → EReal := pre (a.H r) a.wu
def Y : Fin 1024 → EReal := out (a.X r) a.gt (a.A r) (a.U r) a.wd
def D : Fin 1024 → EReal := gated (a.C r) a.gt
def P : K → EReal := dgate (a.D r) a.wd (a.A r) (a.U r)
def Q : K → EReal := dup (a.D r) a.wd (a.A r)
def E : Fin 1024 → EReal := dh (a.P r) (a.Q r) a.wg a.wu
def N : Fin 1024 → EReal := dnrm (a.E r) a.g a.sc
def dX : Fin 1024 → EReal := dx (a.X r) (a.C r) (a.N r)
def dg (d : Fin 1024) : EReal := ∑ r, nrm (a.X r) d * (a.E r d * (1 + a.sc d))
def dsh (d : Fin 1024) : EReal := ∑ r, a.E r d
def dsc (d : Fin 1024) : EReal := ∑ r, nrm (a.X r) d * a.g d * a.E r d
def dgt (d : Fin 1024) : EReal := ∑ r, a.C r d * down (a.A r) (a.U r) a.wd d

end Values

/-! ## Zero columns -/

/-- Column `k` of the eight parts of 352, in the eight parts of 384. -/
def inner (k : Fin 2816) : Fin 3072 := ⟨384 * (k.val / 352) + k.val % 352, by have := k.isLt; omega⟩

theorem inner_inj : Function.Injective inner := fun i j h => by
  have e : 384 * (i.val / 352) + i.val % 352 = 384 * (j.val / 352) + j.val % 352 := congrArg Fin.val h
  exact Fin.ext (by omega)

theorem not_inner (c : Fin 3072) (h : c ∉ Set.range inner) : ¬c.val % 384 < 352 := fun hlt => h ⟨⟨352 * (c.val / 384) + c.val % 384, by have := c.isLt; omega⟩,
  Fin.ext (by show 384 * ((352 * (c.val / 384) + c.val % 384) / 352) + (352 * (c.val / 384) + c.val % 384) % 352 = c.val; omega)⟩

theorem sum_inner (f : Fin 3072 → EReal) (h : ∀ c, c ∉ Set.range inner → f c = 0) : ∑ c, f c = ∑ k, f (inner k) :=
  (Fintype.sum_of_injective inner inner_inj (fun k => f (inner k)) f h fun _ => rfl).symm

/-- The arguments `W` are `w` with zero columns in the weights. -/
structure Pads (W : Args (Fin 3072)) (w : Args (Fin 2816)) : Prop where
  X : W.X = w.X
  g : W.g = w.g
  sh : W.sh = w.sh
  sc : W.sc = w.sc
  gt : W.gt = w.gt
  C : W.C = w.C
  wg : ∀ d k, W.wg d (inner k) = w.wg d k
  wu : ∀ d k, W.wu d (inner k) = w.wu d k
  wd : ∀ k d, W.wd (inner k) d = w.wd k d
  wg0 : ∀ d c, c ∉ Set.range inner → W.wg d c = 0
  wu0 : ∀ d c, c ∉ Set.range inner → W.wu d c = 0
  wd0 : ∀ c d, c ∉ Set.range inner → W.wd c d = 0

namespace Pads

variable {W : Args (Fin 3072)} {w : Args (Fin 2816)} (h : Pads W w) (r : Fin 4096)
include h

theorem H_eq : W.H r = w.H r := by unfold Args.H; rw [h.X, h.g, h.sh, h.sc]
theorem A_eq (k : Fin 2816) : W.A r (inner k) = w.A r k := by
  unfold Args.A pre
  rw [h.H_eq]
  exact Finset.sum_congr rfl fun d _ => by rw [h.wg]
theorem U_eq (k : Fin 2816) : W.U r (inner k) = w.U r k := by
  unfold Args.U pre
  rw [h.H_eq]
  exact Finset.sum_congr rfl fun d _ => by rw [h.wu]
theorem act_eq (k : Fin 2816) : act (W.A r) (W.U r) (inner k) = act (w.A r) (w.U r) k := by
  unfold act
  rw [h.A_eq, h.U_eq]
theorem down_eq (d : Fin 1024) : down (W.A r) (W.U r) W.wd d = down (w.A r) (w.U r) w.wd d := by
  unfold down
  rw [sum_inner _ fun c hc => by rw [h.wd0 c d hc, mul_zero]]
  exact Finset.sum_congr rfl fun k _ => by rw [h.act_eq, h.wd]
theorem Y_eq : W.Y r = w.Y r := by
  funext d
  unfold Args.Y out
  rw [h.down_eq, h.X, h.gt]
theorem D_eq : W.D r = w.D r := by unfold Args.D; rw [h.C, h.gt]
theorem da_eq (k : Fin 2816) : da (W.D r) W.wd (inner k) = da (w.D r) w.wd k := by
  unfold da
  rw [h.D_eq]
  exact Finset.sum_congr rfl fun d _ => by rw [h.wd]
theorem P_eq (k : Fin 2816) : W.P r (inner k) = w.P r k := by
  unfold Args.P dgate
  rw [h.da_eq, h.A_eq, h.U_eq]
theorem Q_eq (k : Fin 2816) : W.Q r (inner k) = w.Q r k := by
  unfold Args.Q dup
  rw [h.da_eq, h.A_eq]
theorem E_eq : W.E r = w.E r := by
  funext d
  unfold Args.E dh
  rw [sum_inner _ fun c hc => by rw [h.wg0 d c hc, mul_zero], sum_inner (fun k => W.Q r k * W.wu d k) fun c hc => by rw [h.wu0 d c hc, mul_zero]]
  exact congrArg₂ (· + ·) (Finset.sum_congr rfl fun k _ => by rw [h.P_eq, h.wg]) (Finset.sum_congr rfl fun k _ => by rw [h.Q_eq, h.wu])
theorem N_eq : W.N r = w.N r := by unfold Args.N; rw [h.E_eq, h.g, h.sc]
theorem dX_eq : W.dX r = w.dX r := by unfold Args.dX; rw [h.N_eq, h.X, h.C]
theorem dg_eq : W.dg = w.dg := by
  funext d
  unfold Args.dg
  simp only [h.E_eq, h.X, h.sc]
theorem dsh_eq : W.dsh = w.dsh := by
  funext d
  unfold Args.dsh
  simp only [h.E_eq]
theorem dsc_eq : W.dsc = w.dsc := by
  funext d
  unfold Args.dsc
  simp only [h.E_eq, h.X, h.g]
theorem dgt_eq : W.dgt = w.dgt := by
  funext d
  unfold Args.dgt
  simp only [h.down_eq, h.C]

end Pads

end Args

end Cert.FfnIdeal.Row

end
-- ==== Proof.FfnReal.lean ====
/-
  The gate's derivative as the two programs bracket it: equal where the gradient of the activation is a real number, which it is
  at real arguments whatever the gate's weight.
-/
module

public import proofs.«01_k».proof.Proof.FfnArgs

@[expose] public section

set_option maxRecDepth 16384

noncomputable section

namespace Cert.FfnIdeal.Row

open Idealize.ShloMosaic

def IsReal (x : EReal) : Prop := ∃ r : ℝ, x = r

namespace IsReal

theorem mul {x y : EReal} : IsReal x → IsReal y → IsReal (x * y) := by
  rintro ⟨a, rfl⟩ ⟨b, rfl⟩
  exact ⟨a * b, (EReal.coe_mul a b).symm⟩
theorem add {x y : EReal} : IsReal x → IsReal y → IsReal (x + y) := by
  rintro ⟨a, rfl⟩ ⟨b, rfl⟩
  exact ⟨a + b, (EReal.coe_add a b).symm⟩
theorem sum {ι : Type} (s : Finset ι) (f : ι → EReal) (h : ∀ i, IsReal (f i)) : IsReal (∑ i ∈ s, f i) := by
  classical
  induction s using Finset.induction_on with
  | empty => exact ⟨0, rfl⟩
  | insert i s hi ih => rw [Finset.sum_insert hi]; exact (h i).add ih

end IsReal

/-- A sum of squares of reals is a real that is not negative. -/
theorem sum_sq (X : Fin 1024 → EReal) (h : ∀ d, IsReal (X d)) : ∃ r : ℝ, 0 ≤ r ∧ ∑ d, X d * X d = r := by
  choose x hx using h
  refine ⟨∑ d, x d * x d, Finset.sum_nonneg fun d _ => mul_self_nonneg _, ?_⟩
  rw [show (fun d => X d * X d) = fun d => ((x d * x d : ℝ) : EReal) from funext fun d => by rw [hx d, EReal.coe_mul]]
  exact (map_sum (⟨⟨Real.toEReal, EReal.coe_zero⟩, EReal.coe_add⟩ : ℝ →+ EReal) _ _).symm

theorem tiny_pos : ∃ r : ℝ, 0 < r ∧ tiny = r := by
  refine ⟨8796093 / 8796093022208, by norm_num, ?_⟩
  unfold tiny
  simp [Ideal.ofBits, Ideal.ieee, -EReal.coe_mul]; norm_num

theorem rs_real (X : Fin 1024 → EReal) (h : ∀ d, IsReal (X d)) : IsReal (rs X) := by
  obtain ⟨s, hs, es⟩ := sum_sq X h
  obtain ⟨t, ht, et⟩ := tiny_pos
  have e : ms X = ((s * (1 / 1024) + t : ℝ) : EReal) := by
    unfold ms width
    rw [es, et, Lit.f32_1024, Ideal.div_coe (by norm_num), EReal.coe_add, EReal.coe_mul]
  have hp : 0 < s * (1 / 1024) + t := by positivity
  refine ⟨(Real.sqrt (s * (1 / 1024) + t))⁻¹, ?_⟩
  unfold rs
  rw [e, Ideal.rsqrt_coe, if_neg (not_lt.mpr hp.le), if_neg hp.ne']

/-- The derivative of `x · logistic x`, bracketed the two ways. -/
theorem silu_grad (e a : EReal) (h : IsReal e) :
    e * Ideal.logistic a + a * e * (Ideal.logistic a * (1 - Ideal.logistic a)) = e * (Ideal.logistic a * (1 + a * (1 - Ideal.logistic a))) := by
  obtain ⟨e, rfl⟩ := h
  induction a using EReal.rec with
  | bot => simp
  | top =>
    have z : (1 : EReal) - 1 = 0 := EReal.sub_self (EReal.coe_ne_top 1) (EReal.coe_ne_bot 1)
    simp [z]
  | coe a =>
    rw [Ideal.logistic_coe]
    generalize (1 + Real.exp (-a))⁻¹ = s
    norm_cast
    ring

namespace Args

/-- Every argument but the gate's weight holds real numbers. -/
structure Finite {K : Type} (a : Args K) : Prop where
  X : ∀ r d, IsReal (a.X r d)
  g : ∀ d, IsReal (a.g d)
  sh : ∀ d, IsReal (a.sh d)
  sc : ∀ d, IsReal (a.sc d)
  gt : ∀ d, IsReal (a.gt d)
  wu : ∀ d k, IsReal (a.wu d k)
  wd : ∀ k d, IsReal (a.wd k d)
  C : ∀ r d, IsReal (a.C r d)

namespace Finite

variable {K : Type} [Fintype K] {a : Args K} (h : a.Finite) (r : Fin 4096) (k : K)
include h

theorem H (d : Fin 1024) : IsReal (a.H r d) :=
  (((((h.X r d).mul (rs_real _ (h.X r))).mul (h.g d)).mul (IsReal.add ⟨1, rfl⟩ (h.sc d))).add (h.sh d))
theorem U : IsReal (a.U r k) := IsReal.sum Finset.univ _ fun d => (h.H r d).mul (h.wu d k)
theorem da : IsReal (Row.da (a.D r) a.wd k) := IsReal.sum Finset.univ _ fun d => ((h.gt d).mul (h.C r d)).mul (h.wd k d)

theorem P_eq : Row.da (a.D r) a.wd k * a.U r k * Ideal.logistic (a.A r k)
      + a.A r k * (Row.da (a.D r) a.wd k * a.U r k) * (Ideal.logistic (a.A r k) * (1 - Ideal.logistic (a.A r k))) = a.P r k :=
  silu_grad _ _ ((h.da r k).mul (h.U r k))

end Finite

end Args

end Cert.FfnIdeal.Row

end
-- ==== Proof.FfnRef.lean ====
/-
  The stages of the feed-forward layer's derivative, as the functions of its arguments.
-/
module

public import proofs.«01_k».proof.Proof.Gen.FfnRefIdeal.Read
public import proofs.«01_k».proof.Proof.FfnReal

@[expose] public section

set_option maxRecDepth 16384

noncomputable section

namespace Cert.FfnRefIdeal.Rows

open Cert.FfnRefIdeal Cert.FfnRefIdeal.Gen Cert.FfnRefIdeal.Read Cert.FfnIdeal.Row Idealize.ShloMosaic

variable {x0 x8 : (⟨S4096x1024, .f32⟩ : BufTy).Contents (Elt Ideal)} {x1 : (⟨S1024, .f32⟩ : BufTy).Contents (Elt Ideal)}
  {x2 x3 x4 : (⟨S1x1024, .f32⟩ : BufTy).Contents (Elt Ideal)} {x5 x6 : (⟨S1024x2816, .f32⟩ : BufTy).Contents (Elt Ideal)}
  {x7 : (⟨S2816x1024, .f32⟩ : BufTy).Contents (Elt Ideal)}

variable (x0 x8 x1 x2 x3 x4 x5 x6 x7) in
/-- The arguments, entry by entry. -/
def args : Args (Fin 2816) where
  X r d := x0 (ix2 r d)
  g d := x1 (ix1 d)
  sh d := x2 (ix2 0 d)
  sc d := x3 (ix2 0 d)
  gt d := x4 (ix2 0 d)
  wg d k := x5 (ix2 d k)
  wu d k := x6 (ix2 d k)
  wd k d := x7 (ix2 k d)
  C r d := x8 (ix2 r d)

variable (r : Fin 4096) (d : Fin 1024) (k : Fin 2816)

theorem one_lit : (FloatOps.ofBits .f32 0x3F800000#32 : Ideal .f32) = (1 : EReal) := Ideal.ofBits_one_f32
theorem zero_lit : (FloatOps.ofBits .f32 0x00000000#32 : Ideal .f32) = (0 : EReal) := Ideal.ofBits_zero_f32

theorem at1 (j : Fin 1024) : idx_main_v1 (idx_main_v2 (ix2 r 0)) j = ix2 r j := funext fun a => match a with | ⟨0, _⟩ => rfl | ⟨1, _⟩ => rfl
theorem at11 : idx_main_v11 (ix2 r d) = ix2 r 0 := funext fun a => match a with | ⟨0, _⟩ => rfl | ⟨1, _⟩ => rfl
theorem at62 : idx_main_v62 (ix2 r d) = ix2 r 0 := funext fun a => match a with | ⟨0, _⟩ => rfl | ⟨1, _⟩ => rfl
theorem at14 : idx_main_v13 (idx_main_v14 (ix2 r d)) = ix1 d := funext fun a => match a with | ⟨0, _⟩ => rfl
theorem at56 : idx_main_v13 (idx_main_v56 (ix2 r d)) = ix1 d := funext fun a => match a with | ⟨0, _⟩ => rfl
theorem at18 : idx_main_v18 (ix2 r d) = ix2 0 d := funext fun a => match a with | ⟨0, _⟩ => rfl | ⟨1, _⟩ => rfl
theorem at51 : idx_main_v51 (ix2 r d) = ix2 0 d := funext fun a => match a with | ⟨0, _⟩ => rfl | ⟨1, _⟩ => rfl
theorem at20 : idx_main_v20 (ix2 r d) = ix2 0 d := funext fun a => match a with | ⟨0, _⟩ => rfl | ⟨1, _⟩ => rfl
theorem at27 : idx_main_v27 (ix2 r d) = ix2 0 d := funext fun a => match a with | ⟨0, _⟩ => rfl | ⟨1, _⟩ => rfl
theorem at31 : idx_main_v31 (ix2 r d) = ix2 0 d := funext fun a => match a with | ⟨0, _⟩ => rfl | ⟨1, _⟩ => rfl
theorem at22 (j : Fin 1024) : lidx_main_v22 (ix2 r k) j = ix2 r j := funext fun a => match a with | ⟨0, _⟩ => rfl | ⟨1, _⟩ => rfl
theorem at22' (j : Fin 1024) : ridx_main_v22 (ix2 r k) j = ix2 j k := funext fun a => match a with | ⟨0, _⟩ => rfl | ⟨1, _⟩ => rfl
theorem at23 (j : Fin 1024) : lidx_main_v23 (ix2 r k) j = ix2 r j := funext fun a => match a with | ⟨0, _⟩ => rfl | ⟨1, _⟩ => rfl
theorem at23' (j : Fin 1024) : ridx_main_v23 (ix2 r k) j = ix2 j k := funext fun a => match a with | ⟨0, _⟩ => rfl | ⟨1, _⟩ => rfl
theorem at26 (j : Fin 2816) : lidx_main_v26 (ix2 r d) j = ix2 r j := funext fun a => match a with | ⟨0, _⟩ => rfl | ⟨1, _⟩ => rfl
theorem at26' (j : Fin 2816) : ridx_main_v26 (ix2 r d) j = ix2 j d := funext fun a => match a with | ⟨0, _⟩ => rfl | ⟨1, _⟩ => rfl
theorem at37 (j : Fin 1024) : lidx_main_v37 (ix2 r k) j = ix2 r j := funext fun a => match a with | ⟨0, _⟩ => rfl | ⟨1, _⟩ => rfl
theorem at37' (j : Fin 1024) : idx_main_v36 (ridx_main_v37 (ix2 r k) j) = ix2 k j := funext fun a => match a with | ⟨0, _⟩ => rfl | ⟨1, _⟩ => rfl
theorem at42 (j : Fin 2816) : lidx_main_v42 (ix2 r d) j = ix2 r j := funext fun a => match a with | ⟨0, _⟩ => rfl | ⟨1, _⟩ => rfl
theorem at42' (j : Fin 2816) : idx_main_v41 (ridx_main_v42 (ix2 r d) j) = ix2 d j := funext fun a => match a with | ⟨0, _⟩ => rfl | ⟨1, _⟩ => rfl
theorem at44 (j : Fin 2816) : lidx_main_v44 (ix2 r d) j = ix2 r j := funext fun a => match a with | ⟨0, _⟩ => rfl | ⟨1, _⟩ => rfl
theorem at44' (j : Fin 2816) : idx_main_v43 (ridx_main_v44 (ix2 r d) j) = ix2 d j := funext fun a => match a with | ⟨0, _⟩ => rfl | ⟨1, _⟩ => rfl
theorem same30 (i : S4096x1024.Idx) : idx_main_v30 i = i := by
  have h0 : (i 0).val < 4096 := (i 0).isLt
  have h1 : (i 1).val < 1024 := (i 1).isLt
  funext a
  match a with
  | ⟨0, _⟩ => exact Fin.ext (by show ((i 0).val * 1024 + (i 1).val) / 1024 = (i 0).val; omega)
  | ⟨1, _⟩ => exact Fin.ext (by show ((i 0).val * 1024 + (i 1).val) % 1024 = (i 1).val; omega)
theorem at68 : idx_main_v67 (idx_main_v68 (ix2 r d)) 0 = ix2 r 0 := funext fun a => match a with | ⟨0, _⟩ => rfl | ⟨1, _⟩ => rfl
theorem at60 (j : Fin 1024) : idx_main_v60 (idx_main_v61 (ix2 r 0)) j = ix2 r j := funext fun a => match a with
  | ⟨0, _⟩ => Fin.ext (by show r.val * 1 + 0 = r.val; omega)
  | ⟨1, _⟩ => rfl
theorem at34 (j : Fin 4096) : idx_main_v34 (idx_main_v35 (ix2 0 d)) j = ix2 j d := funext fun a => match a with
  | ⟨0, _⟩ => rfl
  | ⟨1, _⟩ => Fin.ext (by show 0 * 1024 + d.val = d.val; omega)
theorem at46 (j : Fin 4096) : idx_main_v46 (idx_main_v47 (ix2 0 d)) j = ix2 j d := at34 d j
theorem at49 (j : Fin 4096) : idx_main_v49 (idx_main_v50 (ix2 0 d)) j = ix2 j d := at34 d j
theorem at54 (j : Fin 4096) : idx_main_v54 (idx_main_v55 (idx_main_v58 (idx_main_v79 (ix2 0 d)) 0)) j = ix2 j d := funext fun a => match a with
  | ⟨0, _⟩ => rfl
  | ⟨1, _⟩ => Fin.ext (by show 0 * 1024 + (0 * 1024 + d.val) = d.val; omega)

variable {a : Args (Fin 2816)} (ha : args x0 x8 x1 x2 x3 x4 x5 x6 x7 = a)
variable {r d k}
include ha

theorem r_ms : val_main_v6 (F := Ideal) x0 (ix2 r 0) = ms (a.X r) := by
  rw [val_main_v6_apply, val_main_v4_apply, val_main_v2_apply, val_main_v1_apply, val_main_v3_apply, val_main_v5_apply, val_main_cst_apply,
    val_main_cst_0_apply, val_main_cst_1_apply, zero_lit, zero_add]
  simp only [val_main_v0_apply, at1]
  subst ha
  rfl
theorem r_rs : val_main_v7 (F := Ideal) x0 (ix2 r 0) = rs (a.X r) := by
  rw [val_main_v7_apply, r_ms ha]; subst ha; rfl
theorem r_slope : val_main_v10 (F := Ideal) x0 (ix2 r 0) = minusHalf * Ideal.div (rs (a.X r)) (ms (a.X r)) := by
  rw [val_main_v10_apply, val_main_v9_apply, val_main_cst_2_apply, val_main_v8_apply, r_ms ha, r_rs ha]; subst ha; rfl
theorem r_nrm : val_main_v12 (F := Ideal) x0 (ix2 r d) = nrm (a.X r) d := by
  rw [val_main_v12_apply, val_main_v11_apply, at11, r_rs ha]; subst ha; rfl
theorem r_v15 : val_main_v15 (F := Ideal) x0 x1 (ix2 r d) = nrm (a.X r) d * a.g d := by
  rw [val_main_v15_apply, val_main_v14_apply, val_main_v13_apply, at14, r_nrm ha]; subst ha; rfl
theorem r_v17 : val_main_v17 (F := Ideal) x3 (ix2 0 d) = 1 + a.sc d := by
  rw [val_main_v17_apply, val_main_v16_apply, val_main_cst_3_apply, one_lit]; subst ha; rfl
theorem r_h : val_main_v21 (F := Ideal) x0 x1 x2 x3 (ix2 r d) = a.H r d := by
  rw [val_main_v21_apply, val_main_v19_apply, val_main_v18_apply, val_main_v20_apply, at18, at20, r_v15 ha, r_v17 ha]; subst ha; rfl
theorem r_A : val_main_v22 (F := Ideal) x0 x1 x2 x3 x5 (ix2 r k) = a.A r k := by
  rw [val_main_v22_apply]
  simp only [at22, at22', r_h ha]
  subst ha
  rfl
theorem r_U : val_main_v23 (F := Ideal) x0 x1 x2 x3 x6 (ix2 r k) = a.U r k := by
  rw [val_main_v23_apply]
  simp only [at23, at23', r_h ha]
  subst ha
  rfl
theorem r_sig : val_main_v24_2 (F := Ideal) x0 x1 x2 x3 x5 (ix2 r k) = Ideal.logistic (a.A r k) := by
  rw [val_main_v24_2_apply, val_main_call0_v4_apply, val_main_call0_cst_0_apply, val_main_call0_v3_apply, val_main_call0_v2_apply, val_main_call0_cst_apply,
    val_main_call0_v1_apply, val_main_call0_v0_apply, r_A ha, one_lit]; subst ha; rfl
theorem r_slp : val_main_v24_1 (F := Ideal) x0 x1 x2 x3 x5 (ix2 r k) = Ideal.logistic (a.A r k) * (1 - Ideal.logistic (a.A r k)) := by
  rw [val_main_v24_1_apply, val_main_call0_v7_apply, val_main_call0_v6_apply, val_main_call0_cst_1_apply, r_sig ha, one_lit]; subst ha; rfl
theorem r_silu : val_main_v24_0 (F := Ideal) x0 x1 x2 x3 x5 (ix2 r k) = a.A r k * Ideal.logistic (a.A r k) := by
  rw [val_main_v24_0_apply, r_sig ha, r_A ha]; subst ha; rfl
theorem r_act : val_main_v25 (F := Ideal) x0 x1 x2 x3 x5 x6 (ix2 r k) = act (a.A r) (a.U r) k := by
  rw [val_main_v25_apply, r_silu ha, r_U ha]; subst ha; rfl
theorem r_down : val_main_v26 (F := Ideal) x0 x1 x2 x3 x5 x6 x7 (ix2 r d) = down (a.A r) (a.U r) a.wd d := by
  rw [val_main_v26_apply]
  simp only [at26, at26', r_act ha]
  subst ha
  rfl
theorem r_out : val_main_v29 (F := Ideal) x0 x1 x2 x3 x4 x5 x6 x7 (ix2 r d) = a.Y r d := by
  rw [val_main_v29_apply, val_main_v28_apply, val_main_v27_apply, at27, r_down ha]; subst ha; rfl
theorem r_c : val_main_v30 (F := Ideal) x8 (ix2 r d) = a.C r d := by rw [val_main_v30_apply, same30]; subst ha; rfl
theorem r_D : val_main_v32 (F := Ideal) x4 x8 (ix2 r d) = a.D r d := by
  rw [val_main_v32_apply, val_main_v31_apply, at31, r_c ha]; subst ha; rfl
theorem r_da : val_main_v37 (F := Ideal) x4 x7 x8 (ix2 r k) = da (a.D r) a.wd k := by
  rw [val_main_v37_apply]
  simp only [val_main_v36_apply, at37, at37', r_D ha]
  subst ha
  rfl
theorem r_dup : val_main_v38 (F := Ideal) x0 x1 x2 x3 x4 x5 x7 x8 (ix2 r k) = a.Q r k := by
  rw [val_main_v38_apply, r_silu ha, r_da ha]
  exact mul_comm (a.A r k * Ideal.logistic (a.A r k)) (da (a.D r) a.wd k)
theorem r_dgate0 : val_main_v40 (F := Ideal) x0 x1 x2 x3 x4 x5 x6 x7 x8 (ix2 r k)
    = da (a.D r) a.wd k * a.U r k * Ideal.logistic (a.A r k) + a.A r k * (da (a.D r) a.wd k * a.U r k) * (Ideal.logistic (a.A r k) * (1 - Ideal.logistic (a.A r k))) := by
  rw [val_main_v40_apply, val_main_call1_v1_apply, val_main_call1_v2_apply, val_main_call1_v0_apply, val_main_v39_apply, r_sig ha,
    r_slp ha, r_U ha, r_da ha, r_A ha]
  subst ha
  rfl

/-! ## From the gate's gradient on, at real arguments -/

variable (hf : a.Finite)
include hf

theorem r_dgate : val_main_v40 (F := Ideal) x0 x1 x2 x3 x4 x5 x6 x7 x8 (ix2 r k) = a.P r k :=
  (r_dgate0 ha).trans (hf.P_eq r k)
theorem r_E : val_main_v45 (F := Ideal) x0 x1 x2 x3 x4 x5 x6 x7 x8 (ix2 r d) = a.E r d := by
  rw [val_main_v45_apply, val_main_v42_apply, val_main_v44_apply]
  simp only [val_main_v41_apply, val_main_v43_apply, at42, at42', at44, at44', r_dgate ha hf, r_dup ha]
  subst ha
  rfl
theorem r_v52 : val_main_v52 (F := Ideal) x0 x1 x2 x3 x4 x5 x6 x7 x8 (ix2 r d) = a.E r d * (1 + a.sc d) := by
  rw [val_main_v52_apply, val_main_v51_apply, at51, r_v17 ha, r_E ha hf]; rfl
theorem r_N : val_main_v57 (F := Ideal) x0 x1 x2 x3 x4 x5 x6 x7 x8 (ix2 r d) = a.N r d := by
  rw [val_main_v57_apply, val_main_v56_apply, val_main_v13_apply, at56, r_v52 ha hf]; subst ha; rfl
theorem r_coef : val_main_v68 (F := Ideal) x0 x1 x2 x3 x4 x5 x6 x7 x8 (ix2 r d) = coef (a.X r) (a.N r) := by
  rw [val_main_v68_apply, val_main_v67_apply, Fin.sum_univ_one, val_main_cst_11_apply, zero_lit, zero_add, at68, val_main_v66_apply, val_main_v65_apply,
    val_main_cst_10_apply, val_main_v64_apply, val_main_v61_apply, val_main_v60_apply, val_main_cst_9_apply, zero_lit, zero_add, r_slope ha]
  simp only [val_main_v59_apply, at60, r_N ha hf]
  subst ha
  rfl
theorem r_dx : val_main_v73 (F := Ideal) x0 x1 x2 x3 x4 x5 x6 x7 x8 (ix2 r d) = a.dX r d := by
  rw [val_main_v73_apply, val_main_v72_apply, val_main_v70_apply, val_main_v71_apply, val_main_v69_apply, val_main_v63_apply, val_main_v62_apply, at62,
    r_coef ha hf, r_N ha hf, r_rs ha]
  subst ha
  rfl
theorem r_dgt : val_main_v35 (F := Ideal) x0 x1 x2 x3 x5 x6 x7 x8 (ix2 0 d) = a.dgt d := by
  rw [val_main_v35_apply, val_main_v34_apply, val_main_cst_4_apply, zero_lit, zero_add]
  simp only [at34, val_main_v33_apply, r_down ha, r_c ha]
  rfl
theorem r_dsh : val_main_v47 (F := Ideal) x0 x1 x2 x3 x4 x5 x6 x7 x8 (ix2 0 d) = a.dsh d := by
  rw [val_main_v47_apply, val_main_v46_apply, val_main_cst_5_apply, zero_lit, zero_add]
  simp only [at46, r_E ha hf]
  rfl
theorem r_dsc : val_main_v50 (F := Ideal) x0 x1 x2 x3 x4 x5 x6 x7 x8 (ix2 0 d) = a.dsc d := by
  rw [val_main_v50_apply, val_main_v49_apply, val_main_cst_6_apply, zero_lit, zero_add]
  simp only [at49, val_main_v48_apply, r_E ha hf, r_v15 ha]
  rfl
theorem r_dg : val_main_v79 (F := Ideal) x0 x1 x2 x3 x4 x5 x6 x7 x8 (ix2 0 d) = a.dg d := by
  rw [val_main_v79_apply, val_main_v58_apply, Fin.sum_univ_one, val_main_cst_8_apply, zero_lit, zero_add, val_main_v55_apply, val_main_v54_apply, val_main_cst_7_apply, zero_lit, zero_add]
  simp only [at54, val_main_v53_apply, r_v52 ha hf, r_nrm ha]
  rfl

end Cert.FfnRefIdeal.Rows

end
-- ==== Proof.FfnHost.lean ====
/-
  The feed-forward layer's arrays: what its host lines hand the two calls, what the forward call hands the backward one, and
  the results, all in terms of the program's arguments.
-/
module

public import proofs.«01_k».proof.Proof.FfnBwd
public import proofs.«01_k».proof.Proof.FfnRef
public import Idealize.ShloMosaic.Lib.KernelVsHost

@[expose] public section

set_option maxRecDepth 16384

noncomputable section

namespace Cert.FfnIdeal.Result

open Cert.FfnIdeal Cert.FfnIdeal.Gen Cert.FfnIdeal.Row Idealize.ShloMosaic Idealize.ShloMosaic.TcCoe Idealize.SL.Sem
open Cert.FfnIdeal.Row.Args (inner not_inner)

/-! ## Eight parts of 352 columns in eight parts of 384 -/

/-- A weight's columns with 32 zeros after each 352. -/
def spread (x : Vec Ideal S1024x2816 .f32) : Vec Ideal S1024x3072 .bf16 :=
  shapeCast S1024x3072 (pad S1024x8x384 ![0, 0, 0] ![0, 0, 32] ![0, 0, 0]
    (truncf (F := Ideal) .bf16 (shapeCast S1024x8x352 x shapeCasts_S1024x2816_S1024x8x352 : Vec Ideal S1024x8x352 .f32) bitsLt_bf16_f32)
    (sitofp (F := Ideal) .bf16 (constantI S_ 32 0#32)) pads_S1024x8x352_S1024x8x384_000_000_0320 h_S_) shapeCasts_S1024x8x384_S1024x3072
/-- A weight's rows with 32 zero rows after each 352. -/
def spreadRows (x : Vec Ideal S2816x1024 .f32) : Vec Ideal S3072x1024 .bf16 :=
  shapeCast S3072x1024 (pad S8x384x1024 ![0, 0, 0] ![0, 32, 0] ![0, 0, 0]
    (truncf (F := Ideal) .bf16 (shapeCast S8x352x1024 x shapeCasts_S2816x1024_S8x352x1024 : Vec Ideal S8x352x1024 .f32) bitsLt_bf16_f32)
    (sitofp (F := Ideal) .bf16 (constantI S_ 32 0#32)) pads_S8x352x1024_S8x384x1024_000_0320_000 h_S_) shapeCasts_S8x384x1024_S3072x1024
/-- The columns that are not such zeros. -/
def narrow (x : Vec Ideal S4096x3072 .bf16) : Vec Ideal S4096x2816 .bf16 :=
  shapeCast S4096x2816 (extractStridedSlice S4096x8x352 ![0, 0, 0]
    (shapeCast S4096x8x384 x shapeCasts_S4096x3072_S4096x8x384 : Vec Ideal S4096x8x384 .bf16) slices_S4096x8x384_S4096x8x352_0_0_0 : Vec Ideal S4096x8x352 .bf16)
    shapeCasts_S4096x8x352_S4096x2816

theorem pad_zero : (sitofp (F := Ideal) .bf16 (constantI S_ 32 0#32)) (Shape.Idx.first h_S_) = (0 : EReal) := by
  show ((((0#32 : BitVec 32).toInt : ℝ)) : EReal) = 0
  norm_num

theorem spread_inner (x : Vec Ideal S1024x2816 .f32) (d : Fin 1024) (k : Fin 2816) : spread x (ix2 d (inner k)) = x (ix2 d k) := by
  have hk := k.isLt
  unfold spread
  refine (shapeCast_apply _ _ (ix2 d (inner k)) (ix3 d (⟨k.val / 352, by omega⟩ : Fin 8) (⟨k.val % 352, by omega⟩ : Fin 384)) ?_).trans ?_
  · rw [Shape.rowMajor_val_three, Shape.rowMajor_val_two]
    show (d.val * 8 + k.val / 352) * 384 + k.val % 352 = d.val * 3072 + (384 * (k.val / 352) + k.val % 352)
    omega
  refine (pad_apply_of_inside _ _ _ _ _ _ _ _ (ix3 d (⟨k.val / 352, by omega⟩ : Fin 8) (⟨k.val % 352, by omega⟩ : Fin 352)) ?_).trans ?_
  · intro a
    match a with
    | ⟨0, _⟩ => show d.val = 0 + d.val * (0 + 1); omega
    | ⟨1, _⟩ => show k.val / 352 = 0 + k.val / 352 * (0 + 1); omega
    | ⟨2, _⟩ => show k.val % 352 = 0 + k.val % 352 * (0 + 1); omega
  refine shapeCast_apply x _ _ (ix2 d k) ?_
  rw [Shape.rowMajor_val_three, Shape.rowMajor_val_two]
  show d.val * 2816 + k.val = (d.val * 8 + k.val / 352) * 352 + k.val % 352
  omega
theorem spread_zero (x : Vec Ideal S1024x2816 .f32) (d : Fin 1024) (k : Fin 3072) (h : k ∉ Set.range inner) : spread x (ix2 d k) = (0 : EReal) := by
  have hk := k.isLt
  unfold spread
  refine (shapeCast_apply _ _ (ix2 d k) (ix3 d (⟨k.val / 384, by omega⟩ : Fin 8) (⟨k.val % 384, by omega⟩ : Fin 384)) ?_).trans ?_
  · rw [Shape.rowMajor_val_three, Shape.rowMajor_val_two]
    show (d.val * 8 + k.val / 384) * 384 + k.val % 384 = d.val * 3072 + k.val
    omega
  refine (pad_apply_of_not_inside _ _ _ _ _ _ _ _ (2 : Fin 3) ?_).trans pad_zero
  rintro ⟨-, -, hlt⟩
  have hlt' : (k.val % 384 - 0) / (0 + 1) < 352 := hlt
  exact not_inner k h (by omega)

theorem spreadRows_inner (x : Vec Ideal S2816x1024 .f32) (k : Fin 2816) (d : Fin 1024) : spreadRows x (ix2 (inner k) d) = x (ix2 k d) := by
  have hk := k.isLt
  unfold spreadRows
  refine (shapeCast_apply _ _ (ix2 (inner k) d) (ix3 (⟨k.val / 352, by omega⟩ : Fin 8) (⟨k.val % 352, by omega⟩ : Fin 384) d) ?_).trans ?_
  · rw [Shape.rowMajor_val_three, Shape.rowMajor_val_two]
    show (k.val / 352 * 384 + k.val % 352) * 1024 + d.val = (384 * (k.val / 352) + k.val % 352) * 1024 + d.val
    omega
  refine (pad_apply_of_inside _ _ _ _ _ _ _ _ (ix3 (⟨k.val / 352, by omega⟩ : Fin 8) (⟨k.val % 352, by omega⟩ : Fin 352) d) ?_).trans ?_
  · intro a
    match a with
    | ⟨0, _⟩ => show k.val / 352 = 0 + k.val / 352 * (0 + 1); omega
    | ⟨1, _⟩ => show k.val % 352 = 0 + k.val % 352 * (0 + 1); omega
    | ⟨2, _⟩ => show d.val = 0 + d.val * (0 + 1); omega
  refine shapeCast_apply x _ _ (ix2 k d) ?_
  rw [Shape.rowMajor_val_three, Shape.rowMajor_val_two]
  show k.val * 1024 + d.val = (k.val / 352 * 352 + k.val % 352) * 1024 + d.val
  omega
theorem spreadRows_zero (x : Vec Ideal S2816x1024 .f32) (k : Fin 3072) (d : Fin 1024) (h : k ∉ Set.range inner) : spreadRows x (ix2 k d) = (0 : EReal) := by
  have hk := k.isLt
  unfold spreadRows
  refine (shapeCast_apply _ _ (ix2 k d) (ix3 (⟨k.val / 384, by omega⟩ : Fin 8) (⟨k.val % 384, by omega⟩ : Fin 384) d) ?_).trans ?_
  · rw [Shape.rowMajor_val_three, Shape.rowMajor_val_two]
    show (k.val / 384 * 384 + k.val % 384) * 1024 + d.val = k.val * 1024 + d.val
    omega
  refine (pad_apply_of_not_inside _ _ _ _ _ _ _ _ (1 : Fin 3) ?_).trans pad_zero
  rintro ⟨-, -, hlt⟩
  have hlt' : (k.val % 384 - 0) / (0 + 1) < 352 := hlt
  exact not_inner k h (by omega)

theorem narrow_apply (x : Vec Ideal S4096x3072 .bf16) (r : Fin 4096) (k : Fin 2816) : narrow x (ix2 r k) = x (ix2 r (inner k)) := by
  have hk := k.isLt
  unfold narrow
  refine (shapeCast_apply _ _ (ix2 r k) (ix3 r (⟨k.val / 352, by omega⟩ : Fin 8) (⟨k.val % 352, by omega⟩ : Fin 352)) ?_).trans ?_
  · rw [Shape.rowMajor_val_three, Shape.rowMajor_val_two]
    show (r.val * 8 + k.val / 352) * 352 + k.val % 352 = r.val * 2816 + k.val
    omega
  refine (extractStridedSlice_apply _ _ _ _ (ix3 r (⟨k.val / 352, by omega⟩ : Fin 8) (⟨k.val % 352, by omega⟩ : Fin 384)) ?_).trans ?_
  · intro a
    match a with
    | ⟨0, _⟩ => exact (Nat.zero_add _).symm
    | ⟨1, _⟩ => exact (Nat.zero_add _).symm
    | ⟨2, _⟩ => exact (Nat.zero_add _).symm
  refine shapeCast_apply x _ _ (ix2 r (inner k)) ?_
  rw [Shape.rowMajor_val_three, Shape.rowMajor_val_two]
  show r.val * 3072 + (384 * (k.val / 352) + k.val % 352) = (r.val * 8 + k.val / 352) * 384 + k.val % 352
  omega

/-! ## The arrays the calls find -/

variable (m : (ℓ : Loc nD τ sig) → Buf (Elt Ideal) ℓ) (ρ : Dev nD → PrngReg) (c : Dev nD)

/-- The arguments, entry by entry. -/
def given : Args (Fin 2816) := Cert.FfnRefIdeal.Rows.args (m ((c : Thread nD τ).loc main_arg0)) (m ((c : Thread nD τ).loc main_arg8)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What a call finds, entry by entry. -/
def wide (V : (c : Dev nD) → (b : Ref sig .tc) → Buf (Elt Ideal) ((c : Thread nD τ).loc b)) (c : Dev nD) : Args (Fin 3072) where
  X := Fwd.X V c
  g := Fwd.G V c
  sh := Fwd.Sh V c
  sc := Fwd.Sc V c
  gt := Fwd.Gt V c
  wg := Fwd.Wg V c
  wu := Fwd.Wu V c
  wd := Fwd.Wd V c
  C := Bwd.C V c

theorem at_g : V7 m ρ c main_v0 = shapeCast S1x1024 (m ((c : Thread nD τ).loc main_arg1)) shapeCasts_S1024_S1x1024 := by
  show StableHlo.after (hostOps0 ++ hostOps0_1 ++ hostOps0_2 ++ hostOps0_3 ++ hostOps0_4 ++ hostOps0_5 ++ hostOps0_6) (fun b => m (c, b)) _ = _
  simp only [List.append_assoc, List.cons_append, List.nil_append]
  entry_read
  rfl
theorem at_wg : V7 m ρ c main_v4 = spread (m ((c : Thread nD τ).loc main_arg5)) := by
  show StableHlo.after (hostOps0 ++ hostOps0_1 ++ hostOps0_2 ++ hostOps0_3 ++ hostOps0_4 ++ hostOps0_5 ++ hostOps0_6) (fun b => m (c, b)) _ = _
  simp only [List.append_assoc, List.cons_append, List.nil_append]
  entry_read
  rfl
theorem at_wu : V7 m ρ c main_v8 = spread (m ((c : Thread nD τ).loc main_arg6)) := by
  show StableHlo.after (hostOps0 ++ hostOps0_1 ++ hostOps0_2 ++ hostOps0_3 ++ hostOps0_4 ++ hostOps0_5 ++ hostOps0_6) (fun b => m (c, b)) _ = _
  simp only [List.append_assoc, List.cons_append, List.nil_append]
  entry_read
  rfl
theorem at_wd : V7 m ρ c main_v12 = spreadRows (m ((c : Thread nD τ).loc main_arg7)) := by
  show StableHlo.after (hostOps0 ++ hostOps0_1 ++ hostOps0_2 ++ hostOps0_3 ++ hostOps0_4 ++ hostOps0_5 ++ hostOps0_6) (fun b => m (c, b)) _ = _
  simp only [List.append_assoc, List.cons_append, List.nil_append]
  entry_read
  rfl

theorem in_x : Fwd.X (V7 m ρ) c = (given m c).X := funext fun r => funext fun d => congrFun (W7_args m ρ c main_arg0 (by decide)) (ix2 r d)
theorem in_g : Fwd.G (V7 m ρ) c = (given m c).g := funext fun d => (congrFun (at_g m ρ c) (ix2 0 d)).trans (shapeCast_apply _ _ (ix2 0 d) (ix1 d) (by
  rw [Shape.rowMajor_val_one, Shape.rowMajor_val_two]
  show d.val = 0 * 1024 + d.val
  omega))
theorem in_sh : Fwd.Sh (V7 m ρ) c = (given m c).sh := funext fun d => congrFun (W7_args m ρ c main_arg2 (by decide)) (ix2 0 d)
theorem in_sc : Fwd.Sc (V7 m ρ) c = (given m c).sc := funext fun d => congrFun (W7_args m ρ c main_arg3 (by decide)) (ix2 0 d)
theorem in_gt : Fwd.Gt (V7 m ρ) c = (given m c).gt := funext fun d => congrFun (W7_args m ρ c main_arg4 (by decide)) (ix2 0 d)
theorem in_c : Bwd.C (V7 m ρ) c = (given m c).C := funext fun r => funext fun d => congrFun (W7_args m ρ c main_arg8 (by decide)) (ix2 r d)
theorem in_wg : Fwd.Wg (V7 m ρ) c = fun d k => spread (m ((c : Thread nD τ).loc main_arg5)) (ix2 d k) := funext fun d => funext fun k => congrFun (at_wg m ρ c) (ix2 d k)
theorem in_wu : Fwd.Wu (V7 m ρ) c = fun d k => spread (m ((c : Thread nD τ).loc main_arg6)) (ix2 d k) := funext fun d => funext fun k => congrFun (at_wu m ρ c) (ix2 d k)
theorem in_wd : Fwd.Wd (V7 m ρ) c = fun k d => spreadRows (m ((c : Thread nD τ).loc main_arg7)) (ix2 k d) := funext fun k => funext fun d => congrFun (at_wd m ρ c) (ix2 k d)

/-- The forward call's weights are the arguments' with zero columns. -/
theorem pads : Args.Pads (wide (V7 m ρ) c) (given m c) := by
  unfold wide
  rw [in_x, in_g, in_sh, in_sc, in_gt, in_c, in_wg, in_wu, in_wd]
  exact ⟨rfl, rfl, rfl, rfl, rfl, rfl, spread_inner _, spread_inner _, spreadRows_inner _, spread_zero _, spread_zero _, spreadRows_zero _⟩

/-- The forward call changes none of the arrays it reads. -/
theorem wide8 : wide (V8 m ρ) c = wide (V7 m ρ) c := by
  have e (b : Ref sig .tc) (h : ∀ w : Fin cfg0.W, Pipeline.arrRef spec0 w = b → (cfg0.win w).isOut = false) : V8 m ρ c b = V7 m ρ c b := W8_of m ρ c b h
  have x : Fwd.X (V8 m ρ) c = Fwd.X (V7 m ρ) c := funext fun r => funext fun d => congrFun (e main_arg0 (by decide +kernel)) (ix2 r d)
  have g : Fwd.G (V8 m ρ) c = Fwd.G (V7 m ρ) c := funext fun d => congrFun (e main_v0 (by decide +kernel)) (ix2 0 d)
  have sh : Fwd.Sh (V8 m ρ) c = Fwd.Sh (V7 m ρ) c := funext fun d => congrFun (e main_arg2 (by decide +kernel)) (ix2 0 d)
  have sc : Fwd.Sc (V8 m ρ) c = Fwd.Sc (V7 m ρ) c := funext fun d => congrFun (e main_arg3 (by decide +kernel)) (ix2 0 d)
  have gt : Fwd.Gt (V8 m ρ) c = Fwd.Gt (V7 m ρ) c := funext fun d => congrFun (e main_arg4 (by decide +kernel)) (ix2 0 d)
  have wg : Fwd.Wg (V8 m ρ) c = Fwd.Wg (V7 m ρ) c := funext fun d => funext fun k => congrFun (e main_v4 (by decide +kernel)) (ix2 d k)
  have wu : Fwd.Wu (V8 m ρ) c = Fwd.Wu (V7 m ρ) c := funext fun d => funext fun k => congrFun (e main_v8 (by decide +kernel)) (ix2 d k)
  have wd : Fwd.Wd (V8 m ρ) c = Fwd.Wd (V7 m ρ) c := funext fun k => funext fun d => congrFun (e main_v12 (by decide +kernel)) (ix2 k d)
  have y : Bwd.C (V8 m ρ) c = Bwd.C (V7 m ρ) c := funext fun r => funext fun d => congrFun (e main_arg8 (by decide +kernel)) (ix2 r d)
  unfold wide
  rw [x, g, sh, sc, gt, wg, wu, wd, y]
theorem gate8 : Bwd.A (V8 m ρ) c = (wide (V7 m ρ) c).A :=
  funext fun r => funext fun k => congrFun ((W8_arr m ρ c 9).trans (Fwd.final_gate (V7 m ρ) c)) (ix2 r k)
theorem up8 : Bwd.U (V8 m ρ) c = (wide (V7 m ρ) c).U :=
  funext fun r => funext fun k => congrFun ((W8_arr m ρ c 10).trans (Fwd.final_up (V7 m ρ) c)) (ix2 r k)

/-! ## The backward call's rows -/

variable (r : Fin 4096)

theorem d8 : Bwd.D (V8 m ρ) c r = (given m c).D r := by
  rw [show Bwd.D (V8 m ρ) c r = (wide (V8 m ρ) c).D r from rfl, wide8, (pads m ρ c).D_eq]
theorem p8 : Bwd.Dgate (V8 m ρ) c r = (wide (V7 m ρ) c).P r := by
  rw [show Bwd.Dgate (V8 m ρ) c r = dgate ((wide (V8 m ρ) c).D r) (wide (V8 m ρ) c).wd (Bwd.A (V8 m ρ) c r) (Bwd.U (V8 m ρ) c r) from rfl, wide8, gate8, up8]
  rfl
theorem q8 : Bwd.Dup (V8 m ρ) c r = (wide (V7 m ρ) c).Q r := by
  rw [show Bwd.Dup (V8 m ρ) c r = dup ((wide (V8 m ρ) c).D r) (wide (V8 m ρ) c).wd (Bwd.A (V8 m ρ) c r) from rfl, wide8, gate8]
  rfl
theorem e8 : Bwd.Dh (V8 m ρ) c r = (given m c).E r := by
  rw [show Bwd.Dh (V8 m ρ) c r = dh (Bwd.Dgate (V8 m ρ) c r) (Bwd.Dup (V8 m ρ) c r) (wide (V8 m ρ) c).wg (wide (V8 m ρ) c).wu from rfl, wide8, p8, q8]
  exact (pads m ρ c).E_eq r
theorem x8 : Fwd.X (V8 m ρ) c = (given m c).X := (congrArg Args.X (wide8 m ρ c)).trans (pads m ρ c).X
theorem g8 : Fwd.G (V8 m ρ) c = (given m c).g := (congrArg Args.g (wide8 m ρ c)).trans (pads m ρ c).g
theorem sc8 : Fwd.Sc (V8 m ρ) c = (given m c).sc := (congrArg Args.sc (wide8 m ρ c)).trans (pads m ρ c).sc
theorem c8 : Bwd.C (V8 m ρ) c = (given m c).C := (congrArg Args.C (wide8 m ρ c)).trans (pads m ρ c).C
theorem n8 : Bwd.Dn (V8 m ρ) c r = (given m c).N r := by
  unfold Bwd.Dn
  rw [e8, g8, sc8]
  rfl
theorem h8 : Fwd.H (V8 m ρ) c r = (given m c).H r := by
  rw [show Fwd.H (V8 m ρ) c r = (wide (V8 m ρ) c).H r from rfl, wide8]
  exact (pads m ρ c).H_eq r
theorem down8 (d : Fin 1024) : down (Bwd.A (V8 m ρ) c r) (Bwd.U (V8 m ρ) c r) (Fwd.Wd (V8 m ρ) c) d = down ((given m c).A r) ((given m c).U r) (given m c).wd d := by
  rw [gate8, up8, show Fwd.Wd (V8 m ρ) c = (wide (V8 m ρ) c).wd from rfl, wide8]
  exact (pads m ρ c).down_eq r d

theorem out_wide (V : (c : Dev nD) → (b : Ref sig .tc) → Buf (Elt Ideal) ((c : Thread nD τ).loc b)) (i : S4096x1024.Idx) :
    Fwd.outArr V c i = (wide V c).Y (i 0) (i 1) := rfl
theorem dx8 : dx (Fwd.X (V8 m ρ) c r) (Bwd.C (V8 m ρ) c r) (Bwd.Dn (V8 m ρ) c r) = (given m c).dX r := by
  rw [x8, c8, n8]
  rfl
theorem act8 (k : Fin 2816) : act (Bwd.A (V8 m ρ) c r) (Bwd.U (V8 m ρ) c r) (inner k) = act ((given m c).A r) ((given m c).U r) k := by
  rw [gate8, up8]
  exact (pads m ρ c).act_eq r k

variable (d : Fin 1024)

theorem dg8 : ∑ r, Bwd.dgAt (V8 m ρ) c r d = (given m c).dg d :=
  Finset.sum_congr rfl fun r _ => by unfold Bwd.dgAt; rw [x8, e8, sc8]
theorem dsh8 : ∑ r, Bwd.dshAt (V8 m ρ) c r d = (given m c).dsh d :=
  Finset.sum_congr rfl fun r _ => by unfold Bwd.dshAt; rw [e8]
theorem dsc8 : ∑ r, Bwd.dscAt (V8 m ρ) c r d = (given m c).dsc d :=
  Finset.sum_congr rfl fun r _ => by unfold Bwd.dscAt; rw [x8, e8, g8]
theorem dgt8 : ∑ r, Bwd.dgtAt (V8 m ρ) c r d = (given m c).dgt d :=
  Finset.sum_congr rfl fun r _ => by unfold Bwd.dgtAt; rw [c8, down8]

/-! ## The results -/

/-- An array from its rows. -/
def rows {a b : ℕ} (f : Fin a → Fin b → EReal) : (⟨2, ![a, b]⟩ : Shape).Idx → EReal := fun i => f (i 0) (i 1)

theorem res_out : W10 m ρ c main_v13_0 = rows (given m c).Y := by
  have e : W9 m ρ c main_v13_0 = W8 m ρ c main_v13_0 := W9_of m ρ c main_v13_0 (by decide +kernel)
  refine (W10_of m ρ c main_v13_0 (by decide)).trans (e.trans ((W8_arr m ρ c 8).trans ((Fwd.final_out (V7 m ρ) c).trans ?_)))
  exact funext fun i => (out_wide c (V7 m ρ) i).trans (congrFun ((pads m ρ c).Y_eq (i 0)) (i 1))
theorem res_dx : W10 m ρ c main_v14_0 = rows (given m c).dX := by
  refine (W10_of m ρ c main_v14_0 (by decide)).trans ((W9_arr m ρ c 11).trans ((Bwd.final_dx (V8 m ρ) c).trans ?_))
  exact funext fun i => congrFun (dx8 m ρ c (i 0)) (i 1)
theorem res_dy : W10 m ρ c main_v14_3 = rows (given m c).D := by
  refine (W10_of m ρ c main_v14_3 (by decide)).trans ((W9_arr m ρ c 14).trans ((Bwd.final_dy (V8 m ρ) c).trans ?_))
  exact funext fun i => congrFun (d8 m ρ c (i 0)) (i 1)
theorem res_h : W10 m ρ c main_v14_4 = rows (given m c).H := by
  refine (W10_of m ρ c main_v14_4 (by decide)).trans ((W9_arr m ρ c 15).trans ((Bwd.final_h (V8 m ρ) c).trans ?_))
  exact funext fun i => congrFun (h8 m ρ c (i 0)) (i 1)
theorem res_dg : W10 m ρ c main_v14_6 = rows fun _ => (given m c).dg :=
  (W10_of m ρ c main_v14_6 (by decide)).trans ((W9_arr m ρ c 17).trans ((Bwd.final_dg (V8 m ρ) c).trans (funext fun i => dg8 m ρ c (i 1))))
theorem res_dsh : W10 m ρ c main_v14_7 = rows fun _ => (given m c).dsh :=
  (W10_of m ρ c main_v14_7 (by decide)).trans ((W9_arr m ρ c 18).trans ((Bwd.final_dsh (V8 m ρ) c).trans (funext fun i => dsh8 m ρ c (i 1))))
theorem res_dsc : W10 m ρ c main_v14_8 = rows fun _ => (given m c).dsc :=
  (W10_of m ρ c main_v14_8 (by decide)).trans ((W9_arr m ρ c 19).trans ((Bwd.final_dsc (V8 m ρ) c).trans (funext fun i => dsc8 m ρ c (i 1))))
theorem res_dgt : W10 m ρ c main_v14_9 = rows fun _ => (given m c).dgt :=
  (W10_of m ρ c main_v14_9 (by decide)).trans ((W9_arr m ρ c 20).trans ((Bwd.final_dgt (V8 m ρ) c).trans (funext fun i => dgt8 m ρ c (i 1))))

theorem cut_gate : W10 m ρ c main_v17 = narrow (W9 m ρ c main_v14_1) := by
  show StableHlo.after hostOps2 (W9 m ρ c) _ = _
  entry_read
  rfl
theorem cut_up : W10 m ρ c main_v20 = narrow (W9 m ρ c main_v14_2) := by
  show StableHlo.after hostOps2 (W9 m ρ c) _ = _
  entry_read
  rfl
theorem cut_act : W10 m ρ c main_v23 = narrow (W9 m ρ c main_v14_5) := by
  show StableHlo.after hostOps2 (W9 m ρ c) _ = _
  entry_read
  rfl

theorem res_dgate : W10 m ρ c main_v17 = rows (given m c).P := by
  have e : W9 m ρ c main_v14_1 = Bwd.dgateArr (V8 m ρ) c := (W9_arr m ρ c 12).trans (Bwd.final_dgate (V8 m ρ) c)
  refine (cut_gate m ρ c).trans ?_
  rw [e]
  funext i
  obtain ⟨r, k, rfl⟩ : ∃ (r : Fin 4096) (k : Fin 2816), i = ix2 r k := ⟨i 0, i 1, eq_ix2 i⟩
  exact (narrow_apply _ r k).trans ((congrFun (p8 m ρ c r) (inner k)).trans ((pads m ρ c).P_eq r k))
theorem res_dup : W10 m ρ c main_v20 = rows (given m c).Q := by
  have e : W9 m ρ c main_v14_2 = Bwd.dupArr (V8 m ρ) c := (W9_arr m ρ c 13).trans (Bwd.final_dup (V8 m ρ) c)
  refine (cut_up m ρ c).trans ?_
  rw [e]
  funext i
  obtain ⟨r, k, rfl⟩ : ∃ (r : Fin 4096) (k : Fin 2816), i = ix2 r k := ⟨i 0, i 1, eq_ix2 i⟩
  exact (narrow_apply _ r k).trans ((congrFun (q8 m ρ c r) (inner k)).trans ((pads m ρ c).Q_eq r k))
theorem res_act : W10 m ρ c main_v23 = rows fun r => act ((given m c).A r) ((given m c).U r) := by
  have e : W9 m ρ c main_v14_5 = Bwd.actArr (V8 m ρ) c := (W9_arr m ρ c 16).trans (Bwd.final_act (V8 m ρ) c)
  refine (cut_act m ρ c).trans ?_
  rw [e]
  funext i
  obtain ⟨r, k, rfl⟩ : ∃ (r : Fin 4096) (k : Fin 2816), i = ix2 r k := ⟨i 0, i 1, eq_ix2 i⟩
  exact (narrow_apply _ r k).trans (act8 m ρ c r k)

end Cert.FfnIdeal.Result

end
-- ==== Proof.FfnRun.lean ====
/-
  The feed-forward layer and its gradient as the program runs them: the host lines before, the two calls, the host lines after.
-/
module

public import proofs.«01_k».proof.Proof.FfnHost

@[expose] public section

set_option maxRecDepth 16384

noncomputable section

namespace Cert.FfnIdeal.Result

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyFloat

variable {F : FTy → Type} [FloatOps F] [Named F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every run ends with the result arrays at the contents that the last host lines leave, the arguments unchanged. -/
theorem runs : θ_run defs (onTc (τ := τ) (main (F := F))) ⟨m, fun _ => 0, ρ⟩ fun r => ∀ c : Dev nD,
      r.2.mem ((c : Thread nD τ).loc main_v13_0) = W10 m ρ c main_v13_0
      ∧ r.2.mem ((c : Thread nD τ).loc main_v14_0) = W10 m ρ c main_v14_0
      ∧ r.2.mem ((c : Thread nD τ).loc main_v17) = W10 m ρ c main_v17
      ∧ r.2.mem ((c : Thread nD τ).loc main_v20) = W10 m ρ c main_v20
      ∧ r.2.mem ((c : Thread nD τ).loc main_v14_3) = W10 m ρ c main_v14_3
      ∧ r.2.mem ((c : Thread nD τ).loc main_v14_4) = W10 m ρ c main_v14_4
      ∧ r.2.mem ((c : Thread nD τ).loc main_v23) = W10 m ρ c main_v23
      ∧ r.2.mem ((c : Thread nD τ).loc main_v14_6) = W10 m ρ c main_v14_6
      ∧ r.2.mem ((c : Thread nD τ).loc main_v14_7) = W10 m ρ c main_v14_7
      ∧ r.2.mem ((c : Thread nD τ).loc main_v14_8) = W10 m ρ c main_v14_8
      ∧ r.2.mem ((c : Thread nD τ).loc main_v14_9) = W10 m ρ c main_v14_9
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v13_0 (by decide)),
       h c _ (mem_uc main_v14_0 (by decide)),
       h c _ (mem_uc main_v17 (by decide)),
       h c _ (mem_uc main_v20 (by decide)),
       h c _ (mem_uc main_v14_3 (by decide)),
       h c _ (mem_uc main_v14_4 (by decide)),
       h c _ (mem_uc main_v23 (by decide)),
       h c _ (mem_uc main_v14_6 (by decide)),
       h c _ (mem_uc main_v14_7 (by decide)),
       h c _ (mem_uc main_v14_8 (by decide)),
       h c _ (mem_uc main_v14_9 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end AnyFloat

end Cert.FfnIdeal.Result

end
-- ==== Proof.FfnProof.lean ====
/-
  The feed-forward layer and its gradient: program and reference end with the same arrays, at finite arguments.
-/
module

public import proofs.«01_k».proof.Defs
public import proofs.«01_k».proof.Proof.FfnRun
public import proofs.«01_k».proof.Proof.Finite
public import proofs.«01_k».proof.Proof.Gen.Pre_feed_forward_finite
public import Idealize.ShloMosaic.Lib.Claim

@[expose] public section

set_option maxRecDepth 16384

noncomputable section

namespace Cert.FfnProof

open Idealize.ShloMosaic Idealize.ShloMosaic.TcCoe Idealize.SL.Sem
open Cert.FfnIdeal.Row Cert.FfnRefIdeal.Read
open Cert.FfnIdeal.Result (given rows)
open Cert.FfnRefIdeal.Rows (args)

instance : Subsingleton Cert.Pre_feed_forward_finite.S_.Idx := ⟨fun i j => funext fun a => a.elim0⟩

theorem and_one {s : Shape} (x y : IVec s 1) (i : s.Idx) : andi x y i = 1#1 ↔ x i = 1#1 ∧ y i = 1#1 := IntOp.andi_eq_one

/-- The precondition makes every argument but the gate's weight an array of reals. -/
theorem holds (x0 x8 : FVec Ideal Cert.Pre_feed_forward_finite.S4096x1024 .f32) (x1 : FVec Ideal Cert.Pre_feed_forward_finite.S1024 .f32)
    (x2 x3 x4 : FVec Ideal Cert.Pre_feed_forward_finite.S1x1024 .f32) (x5 x6 : FVec Ideal Cert.Pre_feed_forward_finite.S1024x2816 .f32)
    (x7 : FVec Ideal Cert.Pre_feed_forward_finite.S2816x1024 .f32)
    (h : Cert.Pre_feed_forward_finite.fn (F := Ideal) x0 x1 x2 x3 x4 x5 x6 x7 x8 = fun _ => 1#1) : (args x0 x8 x1 x2 x3 x4 x5 x6 x7).Finite := by
  have e := congrFun h (fun a => a.elim0)
  unfold Cert.Pre_feed_forward_finite.fn Cert.Pre_feed_forward_finite.fn_part1 Cert.Pre_feed_forward_finite.fn_part2 at e
  dsimp only at e
  simp only [and_one] at e
  obtain ⟨⟨⟨⟨⟨⟨⟨h0, h1⟩, h2⟩, h3⟩, h4⟩, h6⟩, h7⟩, h8⟩ := e
  exact ⟨fun r d => Finite.real_of_all _ _ _ _ _ _ _ h0 (ix2 r d), fun d => Finite.real_of_all _ _ _ _ _ _ _ h1 (ix1 d),
    fun d => Finite.real_of_all _ _ _ _ _ _ _ h2 (ix2 0 d), fun d => Finite.real_of_all _ _ _ _ _ _ _ h3 (ix2 0 d), fun d => Finite.real_of_all _ _ _ _ _ _ _ h4 (ix2 0 d),
    fun d k => Finite.real_of_all _ _ _ _ _ _ _ h6 (ix2 d k), fun k d => Finite.real_of_all _ _ _ _ _ _ _ h7 (ix2 k d), fun r d => Finite.real_of_all _ _ _ _ _ _ _ h8 (ix2 r d)⟩

/-- An array is its rows. -/
theorem of_rows {a b : ℕ} {x : (⟨2, ![a, b]⟩ : Shape).Idx → EReal} {f : Fin a → Fin b → EReal} (h : ∀ r k, x (ix2 r k) = f r k) : x = rows f :=
  funext fun i => (congrArg x (eq_ix2 i)).trans (h (i 0) (i 1))
theorem of_row {b : ℕ} {x : (⟨2, ![1, b]⟩ : Shape).Idx → EReal} {f : Fin b → EReal} (h : ∀ k, x (ix2 0 k) = f k) : x = rows fun _ => f :=
  of_rows fun r k => by rw [Subsingleton.elim r 0]; exact h k

section Reference

open Cert.FfnRefIdeal Cert.FfnRefIdeal.Gen Cert.FfnRefIdeal.Rows

/-- The reference's run with its results by rows. -/
theorem reference (m : (ℓ : Loc nD τ sig) → Buf (Elt Ideal) ℓ) (ρ : Dev nD → PrngReg) (a : Dev nD → Args (Fin 2816))
    (ha : ∀ c : Dev nD, args (m ((c : Thread nD τ).loc main_arg0)) (m ((c : Thread nD τ).loc main_arg8)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = a c) (hf : ∀ c, (a c).Finite) :
    θ_run defs (onTc (τ := τ) (main (F := Ideal))) ⟨m, fun _ => 0, ρ⟩ fun r => ∀ c : Dev nD,
      r.2.mem ((c : Thread nD τ).loc main_v29) = rows (a c).Y
      ∧ r.2.mem ((c : Thread nD τ).loc main_v73) = rows (a c).dX
      ∧ r.2.mem ((c : Thread nD τ).loc main_v74) = rows (a c).P
      ∧ r.2.mem ((c : Thread nD τ).loc main_v75) = rows (a c).Q
      ∧ r.2.mem ((c : Thread nD τ).loc main_v76) = rows (a c).D
      ∧ r.2.mem ((c : Thread nD τ).loc main_v77) = rows (a c).H
      ∧ r.2.mem ((c : Thread nD τ).loc main_v78) = (rows fun r => act ((a c).A r) ((a c).U r))
      ∧ r.2.mem ((c : Thread nD τ).loc main_v79) = (rows fun _ => (a c).dg)
      ∧ r.2.mem ((c : Thread nD τ).loc main_v47) = (rows fun _ => (a c).dsh)
      ∧ r.2.mem ((c : Thread nD τ).loc main_v50) = (rows fun _ => (a c).dsc)
      ∧ r.2.mem ((c : Thread nD τ).loc main_v35) = (rows fun _ => (a c).dgt)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ?_) (Value.run m ρ)
  obtain ⟨h0, h1, h2, h3, h4, h5, h6, h7, h8, h9, h10, hr⟩ := h c
  have e := ha c
  have f := hf c
  refine ⟨h0.trans ?_, h1.trans ?_, h2.trans ?_, h3.trans ?_, h4.trans ?_, h5.trans ?_, h6.trans ?_, h7.trans ?_, h8.trans ?_, h9.trans ?_, h10.trans ?_, hr⟩
  · exact (val_main_v29_eq _ _ _ _ _ _ _ _).trans (of_rows fun r d => r_out e)
  · exact (val_main_v73_eq m c).trans (of_rows fun r d => r_dx e f)
  · exact (val_main_v74_eq m c).trans (of_rows fun r d => r_dgate e f)
  · exact (val_main_v75_eq _ _ _ _ _ _ _ _).trans (of_rows fun r d => r_dup e)
  · exact (val_main_v76_eq _ _).trans (of_rows fun r d => r_D e)
  · exact (val_main_v77_eq _ _ _ _).trans (of_rows fun r d => r_h e)
  · exact (val_main_v78_eq _ _ _ _ _ _).trans (of_rows fun r d => r_act e)
  · exact (val_main_v79_eq m c).trans (of_row fun d => r_dg e f)
  · exact (val_main_v47_eq m c).trans (of_row fun d => r_dsh e f)
  · exact (val_main_v50_eq m c).trans (of_row fun d => r_dsc e f)
  · exact (val_main_v35_eq _ _ _ _ _ _ _ _).trans (of_row fun d => r_dgt e f)

end Reference

theorem algebraic : Cert.algebraic_FfnIdeal_FfnRefIdeal_pre_feed_forward_finite := by
  intro m g m' g' hpre hargs
  have hf (c : Dev Cert.FfnIdeal.nD) : (given m c).Finite := holds _ _ _ _ _ _ _ _ _ (hpre c)
  refine ⟨fun c => rows (given m c).Y, fun c => rows (given m c).dX, fun c => rows (given m c).P, fun c => rows (given m c).Q, fun c => rows (given m c).D,
    fun c => rows (given m c).H, fun c => rows fun r => act ((given m c).A r) ((given m c).U r), fun c => rows fun _ => (given m c).dg,
    fun c => rows fun _ => (given m c).dsh, fun c => rows fun _ => (given m c).dsc, fun c => rows fun _ => (given m c).dgt, ?_, ?_⟩
  · refine (θ_run Cert.FfnIdeal.defs _ _).mono (fun r h c => ?_) (Cert.FfnIdeal.Result.runs m g)
    obtain ⟨h0, h1, h2, h3, h4, h5, h6, h7, h8, h9, h10, hr⟩ := h c
    exact ⟨h0.trans (Cert.FfnIdeal.Result.res_out m g c), h1.trans (Cert.FfnIdeal.Result.res_dx m g c), h2.trans (Cert.FfnIdeal.Result.res_dgate m g c),
      h3.trans (Cert.FfnIdeal.Result.res_dup m g c), h4.trans (Cert.FfnIdeal.Result.res_dy m g c), h5.trans (Cert.FfnIdeal.Result.res_h m g c),
      h6.trans (Cert.FfnIdeal.Result.res_act m g c), h7.trans (Cert.FfnIdeal.Result.res_dg m g c), h8.trans (Cert.FfnIdeal.Result.res_dsh m g c),
      h9.trans (Cert.FfnIdeal.Result.res_dsc m g c), h10.trans (Cert.FfnIdeal.Result.res_dgt m g c), hr⟩
  · refine reference m' g' (given m) (fun c => ?_) hf
    obtain ⟨a0, a1, a2, a3, a4, a5, a6, a7, a8⟩ := hargs c
    rw [a0, a1, a2, a3, a4, a5, a6, a7, a8]
    rfl

end Cert.FfnProof

end
-- ==== Proof.RmsMath.lean ====
/-
  The gradient of the division of a vector by the root of its mean square, for vectors of any length: the functions that the kernels
  and the references of the query and of the keys compute at a model row, at a latent row and at a head.
-/
module

public import proofs.«01_k».proof.Defs
public import Idealize.ShloMosaic.Lib.Claim

@[expose] public section

noncomputable section

namespace Cert.Rms

open Idealize.ShloMosaic

def tiny : EReal := Ideal.ofBits .f32 0x358637BD#32
def minusHalf : EReal := Ideal.ofBits .f32 0xBF000000#32

variable {n : ℕ} (w : EReal) (X E : Fin n → EReal)

/-- The mean square of `X`, whose length reads `w`, with the small constant; its inverse root; and the derivative's common factor. -/
def ms : EReal := Ideal.div (∑ d, X d * X d) w + tiny
def rs : EReal := Ideal.rsqrt (ms w X)
def coef : EReal := Ideal.div ((∑ d, X d * E d) * (minusHalf * Ideal.div (rs w X) (ms w X))) w
/-- The derivative along `E`. -/
def back (d : Fin n) : EReal := E d * rs w X + X d * coef w X E + coef w X E * X d

def nrm (d : Fin n) : EReal := X d * rs w X

end Cert.Rms

end
-- ==== Proof.QHead.lean ====
/-
  One head of the query's gradient on a tile of 256 rows: the head's 128 lanes hold 64 lanes without position, 32 lanes that are
  rotated by it, and 32 lanes that are not used. Here are the tile's operations on the head, and what they leave at a lane.
-/
module

public import proofs.«01_k».proof.Proof.RmsMath
public import proofs.«01_k».proof.Proof.Literals
public import proofs.«01_k».proof.Proof.Gen.QIdeal
public import Idealize.ShloMosaic.Lib.Tactic
public import Idealize.ShloMosaic.Lib.Pointwise

@[expose] public section

set_option maxRecDepth 16384

noncomputable section

namespace Cert.Head

open Cert.QIdeal Idealize.ShloMosaic

/-! ## The operations -/

def zeros : FVec Ideal S256x128 .f32 := broadcast S256x128 (Scalar.ofBits (F := Ideal) .f32 0x00000000#32)
def lane : IVec S1x128 32 := iota .tc S1x128 32 [1] (by decide)
/-- The lanes without position, and the rotated ones. -/
def plain : IVec S256x128 1 :=
  broadcastTo S256x128 (shapeCast S1x128 (cmpi .slt lane (broadcast S1x128 64#32)) (by decide)) (by decide)
def turned : IVec S256x128 1 :=
  broadcastTo S256x128 (shapeCast S1x128 (andi (cmpi .sge lane (broadcast S1x128 64#32)) (cmpi .slt lane (broadcast S1x128 96#32)))
    (by decide)) (by decide)
/-- The quarter turn of the two halves of the rotated lanes. -/
def quarter : FVec Ideal S128x128 .f32 :=
  select (andi (andi (cmpi .sge (iota .tc S128x128 32 [1] (by decide)) (broadcast S128x128 64#32))
        (cmpi .slt (iota .tc S128x128 32 [1] (by decide)) (broadcast S128x128 80#32)))
      (cmpi .eq (iota .tc S128x128 32 [0] (by decide)) (addi (iota .tc S128x128 32 [1] (by decide)) (broadcast S128x128 16#32))))
    (broadcast S128x128 (Scalar.ofBits (F := Ideal) .f32 0xBF800000#32))
    (select (andi (andi (cmpi .sge (iota .tc S128x128 32 [1] (by decide)) (broadcast S128x128 80#32))
          (cmpi .slt (iota .tc S128x128 32 [1] (by decide)) (broadcast S128x128 96#32)))
        (cmpi .eq (iota .tc S128x128 32 [0] (by decide)) (subi (iota .tc S128x128 32 [1] (by decide)) (broadcast S128x128 16#32))))
      (broadcast S128x128 (Scalar.ofBits (F := Ideal) .f32 0x3F800000#32))
      (broadcast S128x128 (Scalar.ofBits (F := Ideal) .f32 0x00000000#32)))

/-- The sum of a row over the lanes, and the mean square of the lanes of a mask. -/
def rowSum (y : FVec Ideal S256x128 .f32) : FVec Ideal S256x1 .f32 :=
  shapeCast S256x1 (multiReduction .add [1] S256 y 0x00000000#32 (by decide) (.inl rfl) rfl) (by decide)
def meanSq (b : IVec S256x128 1) (w : BitVec 32) (x : FVec Ideal S256x128 .f32) : FVec Ideal S256x1 .f32 :=
  addf (divf (rowSum (select b (mulf x x) zeros)) (broadcast S256x1 (Scalar.ofBits (F := Ideal) .f32 w)))
    (broadcast S256x1 (Scalar.ofBits (F := Ideal) .f32 0x358637BD#32))
def spread (y : FVec Ideal S256x1 .f32) : FVec Ideal S256x128 .f32 :=
  broadcastTo S256x128 (shapeCast S256x1 y (by decide)) (by decide)
def turnedInv (x : FVec Ideal S256x128 .f32) : FVec Ideal S256x128 .f32 :=
  select turned (spread (rsqrt (meanSq turned 0x42000000#32 x))) zeros
def inv (x : FVec Ideal S256x128 .f32) : FVec Ideal S256x128 .f32 :=
  select plain (spread (rsqrt (meanSq plain 0x42800000#32 x))) (turnedInv x)
/-- The cotangent before the rotation. -/
def unturn (cs sn c : FVec Ideal S256x128 .f32) : FVec Ideal S256x128 .f32 :=
  addf (matmul dot_S256x128_S128x128_S256x128_1_1_0_0_n_n (some .fp32) (mulf c sn) quarter
    (constant (F := Ideal) S256x128 .f32 0x00000000#32)) (mulf c cs)
/-- A tile's part of the gain's gradient, where the lanes' inverse roots are `v`. -/
def gain (v x e : FVec Ideal S256x128 .f32) : FVec Ideal S1x128 .f32 :=
  shapeCast S1x128 (multiReduction .add [0] S128 (mulf (mulf x v) e) 0x00000000#32 (by decide) (.inl rfl) rfl) (by decide)
/-- The derivative's factor of a mask's lanes, from the sum `s` over them. -/
def factor (b : IVec S256x128 1) (w : BitVec 32) (x : FVec Ideal S256x128 .f32) (s : FVec Ideal S256x1 .f32) : FVec Ideal S256x128 .f32 :=
  select b (broadcastTo S256x128 (shapeCast S256x1 (multiReduction .add [1] S256
      (divf (mulf s (mulf (broadcast S256x1 (Scalar.ofBits (F := Ideal) .f32 0xBF000000#32)) (divf (rsqrt (meanSq b w x)) (meanSq b w x))))
        (broadcast S256x1 (Scalar.ofBits (F := Ideal) .f32 w))) 0x00000000#32 (by decide) (.inl rfl) rfl) (by decide)) (by decide)) zeros
/-- The gradient at the head's input, from the cotangent `e` of the normed lanes, the inverse roots `v` and the factor `k`. -/
def into (v x e k : FVec Ideal S256x128 .f32) : FVec Ideal S256x128 .f32 :=
  addf (addf (mulf e v) (mulf x k)) (mulf k x)
def factors (x e : FVec Ideal S256x128 .f32) : FVec Ideal S256x128 .f32 :=
  addf (factor plain 0x42800000#32 x (rowSum (select plain (mulf x e) zeros)))
    (factor turned 0x42000000#32 x (rowSum (select turned (select plain zeros (mulf x e)) zeros)))
/-- The cotangent times the gain. -/
def gained (g : FVec Ideal S1x128 .f32) (e : FVec Ideal S256x128 .f32) : FVec Ideal S256x128 .f32 :=
  mulf e (broadcastTo S256x128 g (by decide))

/-- The whole head: the gain's part and the gradient at the input. -/
def headGain (cs sn x c : FVec Ideal S256x128 .f32) : FVec Ideal S1x128 .f32 := gain (inv x) x (unturn cs sn c)
def headGrad (cs sn : FVec Ideal S256x128 .f32) (g : FVec Ideal S1x128 .f32) (x c : FVec Ideal S256x128 .f32) : FVec Ideal S256x128 .f32 :=
  into (inv x) x (gained g (unturn cs sn c)) (factors x (gained g (unturn cs sn c)))

/-! ## The lanes -/

/-- The lanes without position, the rotated ones, and the ones that are not used. -/
def pl (k : Fin 64) : Fin 128 := ⟨k.val, by have := k.isLt; omega⟩
def tl (k : Fin 32) : Fin 128 := ⟨64 + k.val, by have := k.isLt; omega⟩
def ul (k : Fin 32) : Fin 128 := ⟨96 + k.val, by have := k.isLt; omega⟩

theorem lanes (l : Fin 128) : (∃ k, l = pl k) ∨ (∃ k, l = tl k) ∨ ∃ k, l = ul k := by
  have := l.isLt
  by_cases h : l.val < 64
  · exact Or.inl ⟨⟨l.val, h⟩, rfl⟩
  · by_cases h' : l.val < 96
    · exact Or.inr (Or.inl ⟨⟨l.val - 64, by omega⟩, Fin.ext (by show l.val = 64 + (l.val - 64); omega)⟩)
    · exact Or.inr (Or.inr ⟨⟨l.val - 96, by omega⟩, Fin.ext (by show l.val = 96 + (l.val - 96); omega)⟩)

theorem sum_lanes {M : Type} [AddCommMonoid M] (f : Fin 128 → M) :
    ∑ l, f l = ∑ k, f (pl k) + (∑ k, f (tl k) + ∑ k, f (ul k)) := by
  rw [Fin.sum_univ_add (a := 64) (b := 64) f, Fin.sum_univ_add (a := 32) (b := 32) fun k => f (Fin.natAdd 64 k)]
  refine congrArg₂ (· + ·) rfl (congrArg₂ (· + ·) rfl (Finset.sum_congr rfl fun k _ => congrArg f (Fin.ext ?_)))
  show 64 + (32 + k.val) = 96 + k.val
  omega

theorem plain_word : ∀ l : Fin 128, IntOp.cmpi .slt (BitVec.ofNat 32 l.val) 64#32 = if l.val < 64 then 1#1 else 0#1 := by
  decide +kernel
theorem turned_word : ∀ l : Fin 128, IntOp.andi (IntOp.cmpi .sge (BitVec.ofNat 32 l.val) 64#32) (IntOp.cmpi .slt (BitVec.ofNat 32 l.val) 96#32)
    = if 64 ≤ l.val ∧ l.val < 96 then 1#1 else 0#1 := by
  decide +kernel
theorem minus_word : ∀ r c : Fin 128, IntOp.andi (IntOp.andi (IntOp.cmpi .sge (BitVec.ofNat 32 c.val) 64#32)
      (IntOp.cmpi .slt (BitVec.ofNat 32 c.val) 80#32)) (IntOp.cmpi .eq (BitVec.ofNat 32 r.val) (IntOp.addi (BitVec.ofNat 32 c.val) 16#32))
    = if 80 ≤ r.val ∧ r.val < 96 ∧ c.val + 16 = r.val then 1#1 else 0#1 := by
  decide +kernel
theorem plus_word : ∀ r c : Fin 128, IntOp.andi (IntOp.andi (IntOp.cmpi .sge (BitVec.ofNat 32 c.val) 80#32)
      (IntOp.cmpi .slt (BitVec.ofNat 32 c.val) 96#32)) (IntOp.cmpi .eq (BitVec.ofNat 32 r.val) (IntOp.subi (BitVec.ofNat 32 c.val) 16#32))
    = if 64 ≤ r.val ∧ r.val < 80 ∧ c.val = r.val + 16 then 1#1 else 0#1 := by
  decide +kernel

theorem plain_apply (p : Fin 256) (l : Fin 128) : plain (ix2 p l) = if l.val < 64 then 1#1 else 0#1 := by
  unfold plain lane
  pointwise
  exact plain_word l
theorem turned_apply (p : Fin 256) (l : Fin 128) : turned (ix2 p l) = if 64 ≤ l.val ∧ l.val < 96 then 1#1 else 0#1 := by
  unfold turned lane
  pointwise
  exact turned_word l
theorem zeros_apply (i : S256x128.Idx) : zeros i = 0 := by
  unfold zeros
  pointwise

theorem minus_one : Ideal.ofBits .f32 0xBF800000#32 = -1 := by
  have h : Ideal.ofBits .f32 0xBF800000#32 = ((-1 : ℝ) : EReal) := by
    simp [Ideal.ofBits, Ideal.ieee, -EReal.coe_mul]; norm_num
  rw [h]; rfl

theorem quarter_apply (r c : Fin 128) : quarter (ix2 r c) = if 80 ≤ r.val ∧ r.val < 96 ∧ c.val + 16 = r.val then -1
    else if 64 ≤ r.val ∧ r.val < 80 ∧ c.val = r.val + 16 then 1 else 0 := by
  unfold quarter
  pointwise
  rw [minus_word, plus_word, minus_one]
  split_ifs <;> rfl

theorem plain_pl (p : Fin 256) (k : Fin 64) : plain (ix2 p (pl k)) = 1#1 := (plain_apply p _).trans (if_pos k.isLt)
theorem plain_tl (p : Fin 256) (k : Fin 32) : plain (ix2 p (tl k)) = 0#1 :=
  (plain_apply p _).trans (if_neg (by show ¬(64 + k.val < 64); omega))
theorem plain_ul (p : Fin 256) (k : Fin 32) : plain (ix2 p (ul k)) = 0#1 :=
  (plain_apply p _).trans (if_neg (by show ¬(96 + k.val < 64); omega))
theorem turned_pl (p : Fin 256) (k : Fin 64) : turned (ix2 p (pl k)) = 0#1 :=
  (turned_apply p _).trans (if_neg (by have := k.isLt; show ¬(64 ≤ k.val ∧ _); omega))
theorem turned_tl (p : Fin 256) (k : Fin 32) : turned (ix2 p (tl k)) = 1#1 :=
  (turned_apply p _).trans (if_pos (by have := k.isLt; show 64 ≤ 64 + k.val ∧ 64 + k.val < 96; omega))
theorem turned_ul (p : Fin 256) (k : Fin 32) : turned (ix2 p (ul k)) = 0#1 :=
  (turned_apply p _).trans (if_neg (by show ¬(64 ≤ 96 + k.val ∧ 96 + k.val < 96); omega))

theorem sel_one {α : Type} (a b : α) : Scalar.select 1#1 a b = a := rfl
theorem sel_at {s : Shape} {α : Type} (b : IVec s 1) (y z : s.Idx → α) (i : s.Idx) : select b y z i = Scalar.select (b i) (y i) (z i) := rfl
theorem sel_zero {α : Type} (a b : α) : Scalar.select 0#1 a b = b := rfl

/-! ## The operations at a lane -/

theorem rowSum_apply (y : FVec Ideal S256x128 .f32) (p : Fin 256) : rowSum y (ix2 p 0) = ∑ l : Fin 128, y (ix2 p l) := by
  unfold rowSum
  pointwise

theorem rowSum_plain (y : FVec Ideal S256x128 .f32) (p : Fin 256) : rowSum (select plain y zeros) (ix2 p 0) = ∑ k, y (ix2 p (pl k)) := by
  rw [rowSum_apply, sum_lanes]
  simp only [sel_at, plain_pl, plain_tl, plain_ul, sel_one, sel_zero, zeros_apply, Finset.sum_const_zero, add_zero]
theorem rowSum_turned (y : FVec Ideal S256x128 .f32) (p : Fin 256) : rowSum (select turned y zeros) (ix2 p 0) = ∑ k, y (ix2 p (tl k)) := by
  rw [rowSum_apply, sum_lanes]
  simp only [sel_at, turned_pl, turned_tl, turned_ul, sel_one, sel_zero, zeros_apply, Finset.sum_const_zero, add_zero, zero_add]

def w64 : EReal := Ideal.ofBits .f32 0x42800000#32
def w32 : EReal := Ideal.ofBits .f32 0x42000000#32

variable (cs sn x c v e k : FVec Ideal S256x128 .f32) (g : FVec Ideal S1x128 .f32) (p : Fin 256)

/-- The two parts of a row of the head. -/
def plainRow (d : Fin 64) : EReal := x (ix2 p (pl d))
def turnedRow (d : Fin 32) : EReal := x (ix2 p (tl d))

theorem meanSq_plain : meanSq plain 0x42800000#32 x (ix2 p 0) = Rms.ms w64 (plainRow x p) := by
  unfold meanSq
  pointwise
  rw [rowSum_plain]
  rfl
theorem meanSq_turned : meanSq turned 0x42000000#32 x (ix2 p 0) = Rms.ms w32 (turnedRow x p) := by
  unfold meanSq
  pointwise
  rw [rowSum_turned]
  rfl

theorem turnedInv_apply (l : Fin 128) :
    turnedInv x (ix2 p l) = Scalar.select (turned (ix2 p l)) (Rms.rs w32 (turnedRow x p)) 0 := by
  unfold turnedInv spread
  pointwise
  rw [meanSq_turned, zeros_apply]
  rfl
theorem inv_apply (l : Fin 128) : inv x (ix2 p l) = Scalar.select (plain (ix2 p l)) (Rms.rs w64 (plainRow x p)) (turnedInv x (ix2 p l)) := by
  unfold inv spread
  pointwise
  rw [meanSq_plain]
  rfl

theorem factor_apply (b : IVec S256x128 1) (w : BitVec 32) (s : FVec Ideal S256x1 .f32) (l : Fin 128) : factor b w x s (ix2 p l)
    = Scalar.select (b (ix2 p l)) (Ideal.div (s (ix2 p 0) * (Rms.minusHalf * Ideal.div (Ideal.rsqrt (meanSq b w x (ix2 p 0)))
        (meanSq b w x (ix2 p 0)))) (Ideal.ofBits .f32 w)) 0 := by
  unfold factor
  pointwise
  rw [zeros_apply, Fin.sum_univ_one]
  rfl

/-- The cotangent of the rotated lanes before the rotation. -/
def unt (C : Fin 32 → EReal) (co si : Fin 16 → EReal) (d : Fin 32) : EReal :=
  if h : d.val < 16 then C ⟨16 + d.val, by omega⟩ * si ⟨d.val, h⟩ + C d * co ⟨d.val, h⟩
  else C d * co ⟨d.val - 16, by have := d.isLt; omega⟩ + -C ⟨d.val - 16, by have := d.isLt; omega⟩ * si ⟨d.val - 16, by have := d.isLt; omega⟩

theorem unturn_apply (l : Fin 128) : unturn cs sn c (ix2 p l)
    = ∑ k : Fin 128, c (ix2 p k) * sn (ix2 p k) * quarter (ix2 l k) + c (ix2 p l) * cs (ix2 p l) := by
  unfold unturn
  pointwise

theorem unturn_pl (d : Fin 64) : unturn cs sn c (ix2 p (pl d)) = c (ix2 p (pl d)) * cs (ix2 p (pl d)) := by
  rw [unturn_apply, Finset.sum_eq_zero fun k _ => ?_, zero_add]
  rw [quarter_apply, if_neg (by have := d.isLt; show ¬(80 ≤ d.val ∧ _); omega), if_neg (by have := d.isLt; show ¬(64 ≤ d.val ∧ _); omega), mul_zero]

theorem unturn_tl (C : Fin 32 → EReal) (co si : Fin 16 → EReal) (hC : ∀ d, c (ix2 p (tl d)) = C d)
    (hco : ∀ d : Fin 32, cs (ix2 p (tl d)) = co ⟨d.val % 16, Nat.mod_lt _ (by decide)⟩)
    (hsi : ∀ d : Fin 32, sn (ix2 p (tl d)) = si ⟨d.val % 16, Nat.mod_lt _ (by decide)⟩) (d : Fin 32) :
    unturn cs sn c (ix2 p (tl d)) = unt C co si d := by
  have hd := d.isLt
  rw [unturn_apply, hC, hco]
  unfold unt
  by_cases h : d.val < 16
  · rw [dif_pos h, Finset.sum_eq_single (tl ⟨16 + d.val, by omega⟩), quarter_apply, hC, hsi,
      if_neg (by show ¬(80 ≤ 64 + d.val ∧ _); omega), if_pos (by show 64 ≤ 64 + d.val ∧ 64 + d.val < 80 ∧ 64 + (16 + d.val) = 64 + d.val + 16; omega), mul_one]
    · refine congrArg₂ (· + ·) (congrArg (C ⟨16 + d.val, by omega⟩ * ·) (congrArg si (Fin.ext ?_))) (congrArg (C d * ·) (congrArg co (Fin.ext ?_)))
      · show (16 + d.val) % 16 = d.val
        omega
      · show d.val % 16 = d.val
        omega
    · intro k _ hk
      rw [quarter_apply, if_neg (by show ¬(80 ≤ 64 + d.val ∧ _); omega),
        if_neg (by
          rintro ⟨_, _, hk'⟩
          exact hk (Fin.ext (by rw [hk']; show 64 + d.val + 16 = 64 + (16 + d.val); omega))), mul_zero]
    · exact fun h => absurd (Finset.mem_univ _) h
  · rw [dif_neg h, Finset.sum_eq_single (tl ⟨d.val - 16, by omega⟩), quarter_apply, hC, hsi,
      if_pos (by show 80 ≤ 64 + d.val ∧ 64 + d.val < 96 ∧ 64 + (d.val - 16) + 16 = 64 + d.val; omega), mul_neg_one, add_comm,
      ← EReal.neg_mul]
    · refine congrArg₂ (· + ·) (congrArg (C d * ·) (congrArg co (Fin.ext ?_))) (congrArg (-C ⟨d.val - 16, by omega⟩ * ·) (congrArg si (Fin.ext ?_)))
      · show d.val % 16 = d.val - 16
        omega
      · show (d.val - 16) % 16 = d.val - 16
        omega
    · intro k _ hk
      rw [quarter_apply, if_neg (by
          rintro ⟨_, _, hk'⟩
          exact hk (Fin.ext (by
            have e : (k.val + 16 : ℕ) = 64 + d.val := hk'
            show k.val = 64 + (d.val - 16)
            omega))), if_neg (by show ¬(64 ≤ 64 + d.val ∧ 64 + d.val < 80 ∧ _); omega), mul_zero]
    · exact fun h => absurd (Finset.mem_univ _) h

/-! ## The head's gradient -/

theorem gained_apply (l : Fin 128) : gained g e (ix2 p l) = e (ix2 p l) * g (ix2 0 l) := by
  unfold gained
  pointwise
theorem into_apply (l : Fin 128) : into v x e k (ix2 p l)
    = e (ix2 p l) * v (ix2 p l) + x (ix2 p l) * k (ix2 p l) + k (ix2 p l) * x (ix2 p l) := by
  unfold into
  pointwise

theorem gain_apply (l : Fin 128) : gain v x e (ix2 0 l) = ∑ p : Fin 256, x (ix2 p l) * v (ix2 p l) * e (ix2 p l) := by
  unfold gain
  pointwise

theorem factor_plain (l : Fin 128) : factor plain 0x42800000#32 x (rowSum (select plain (mulf x e) zeros)) (ix2 p l)
    = Scalar.select (plain (ix2 p l)) (Rms.coef w64 (plainRow x p) (plainRow e p)) 0 := by
  rw [factor_apply, meanSq_plain, rowSum_plain]
  rfl
theorem factor_turned (l : Fin 128) : factor turned 0x42000000#32 x (rowSum (select turned (mulf x e) zeros)) (ix2 p l)
    = Scalar.select (turned (ix2 p l)) (Rms.coef w32 (turnedRow x p) (turnedRow e p)) 0 := by
  rw [factor_apply, meanSq_turned, rowSum_turned]
  rfl
theorem factor_turned' (l : Fin 128) : factor turned 0x42000000#32 x (rowSum (select turned (select plain zeros (mulf x e)) zeros)) (ix2 p l)
    = Scalar.select (turned (ix2 p l)) (Rms.coef w32 (turnedRow x p) (turnedRow e p)) 0 := by
  rw [factor_apply, meanSq_turned, rowSum_turned]
  simp only [sel_at, plain_tl, sel_zero]
  rfl
theorem factors_apply (l : Fin 128) : factors x e (ix2 p l)
    = Scalar.select (plain (ix2 p l)) (Rms.coef w64 (plainRow x p) (plainRow e p)) 0
      + Scalar.select (turned (ix2 p l)) (Rms.coef w32 (turnedRow x p) (turnedRow e p)) 0 := by
  rw [← factor_plain, ← factor_turned']
  rfl

theorem grad_pl (d : Fin 64) : into (inv x) x e (factors x e) (ix2 p (pl d)) = Rms.back w64 (plainRow x p) (plainRow e p) d := by
  rw [into_apply, inv_apply, factors_apply, plain_pl, turned_pl]
  simp only [sel_one, sel_zero, add_zero]
  rfl
theorem grad_tl (d : Fin 32) : into (inv x) x e (factors x e) (ix2 p (tl d)) = Rms.back w32 (turnedRow x p) (turnedRow e p) d := by
  rw [into_apply, inv_apply, factors_apply, turnedInv_apply, plain_tl, turned_tl]
  simp only [sel_one, sel_zero, zero_add]
  rfl
theorem grad_ul (d : Fin 32) : into (inv x) x e (factors x e) (ix2 p (ul d)) = 0 := by
  rw [into_apply, inv_apply, factors_apply, turnedInv_apply, plain_ul, turned_ul]
  simp only [sel_zero, add_zero, mul_zero, zero_mul]
theorem gain_pl (d : Fin 64) : gain (inv x) x e (ix2 0 (pl d)) = ∑ p : Fin 256, Rms.nrm w64 (plainRow x p) d * e (ix2 p (pl d)) := by
  rw [gain_apply]
  refine Finset.sum_congr rfl fun p _ => ?_
  rw [inv_apply, plain_pl, sel_one]
  rfl
theorem gain_tl (d : Fin 32) : gain (inv x) x e (ix2 0 (tl d)) = ∑ p : Fin 256, Rms.nrm w32 (turnedRow x p) d * e (ix2 p (tl d)) := by
  rw [gain_apply]
  refine Finset.sum_congr rfl fun p _ => ?_
  rw [inv_apply, turnedInv_apply, plain_tl, turned_tl, sel_one, sel_zero]
  rfl
theorem gain_ul (d : Fin 32) : gain (inv x) x e (ix2 0 (ul d)) = 0 := by
  rw [gain_apply]
  refine Finset.sum_eq_zero fun p _ => ?_
  rw [inv_apply, turnedInv_apply, plain_ul, turned_ul, sel_zero, sel_zero, mul_zero, zero_mul]

end Cert.Head

end
-- ==== Proof.QArgs.lean ====
/-
  The query and its gradient on all rows: the modulated norm of the model rows, the latent row and its norm, the sixteen heads with
  their two norms and the rotation, and back; and the sums over a head's columns.
-/
module

public import proofs.«01_k».proof.Proof.QHead
public import proofs.«01_k».proof.Proof.Literals

@[expose] public section

set_option maxRecDepth 16384

noncomputable section

namespace Cert.Query

open Cert.Head Idealize.ShloMosaic

def w1024 : EReal := Ideal.ofBits .f32 0x44800000#32
def w256 : EReal := Ideal.ofBits .f32 0x43800000#32

/-- A head's 96 columns: 64 without position, then 32 that are rotated. -/
def lN (d : Fin 64) : Fin 96 := ⟨d.val, by have := d.isLt; omega⟩
def lR (d : Fin 32) : Fin 96 := ⟨64 + d.val, by have := d.isLt; omega⟩
def col (h : Fin 16) (e : Fin 96) : Fin 1536 := ⟨h.val * 96 + e.val, by have := h.isLt; have := e.isLt; omega⟩

theorem lN_or_lR (e : Fin 96) : (∃ d, e = lN d) ∨ ∃ d, e = lR d := by
  have := e.isLt
  by_cases h : e.val < 64
  · exact Or.inl ⟨⟨e.val, h⟩, rfl⟩
  · exact Or.inr ⟨⟨e.val - 64, by omega⟩, Fin.ext (by show e.val = 64 + (e.val - 64); omega)⟩

theorem sum_col (f : Fin 1536 → EReal) : ∑ c, f c = ∑ h, (∑ d, f (col h (lN d)) + ∑ d, f (col h (lR d))) :=
  (Lit.sum_tiles 16 96 1536 rfl f).trans (Finset.sum_congr rfl fun h _ => Fin.sum_univ_add (a := 64) (b := 32) fun e => f (col h e))

/-- The arguments. -/
structure Args where
  X : Fin 4096 → Fin 1024 → EReal
  g : Fin 1024 → EReal
  sh : Fin 1024 → EReal
  sc : Fin 1024 → EReal
  qg : Fin 256 → EReal
  gN : Fin 64 → EReal
  gR : Fin 32 → EReal
  wd : Fin 1024 → Fin 256 → EReal
  wu : Fin 256 → Fin 1536 → EReal
  co : Fin 4096 → Fin 16 → EReal
  si : Fin 4096 → Fin 16 → EReal
  cN : Fin 4096 → Fin 16 → Fin 64 → EReal
  cR : Fin 4096 → Fin 16 → Fin 32 → EReal
  DX : Fin 4096 → Fin 1024 → EReal

namespace Args

variable (a : Args) (r : Fin 4096) (h : Fin 16)

def hid (d : Fin 1024) : EReal := Rms.nrm w1024 (a.X r) d * a.g d * (1 + a.sc d) + a.sh d
def lat (k : Fin 256) : EReal := ∑ d, a.hid r d * a.wd d k
def qn (k : Fin 256) : EReal := Rms.nrm w256 (a.lat r) k * a.qg k
def q (c : Fin 1536) : EReal := ∑ k, a.qn r k * a.wu k c
def qN (d : Fin 64) : EReal := a.q r (col h (lN d))
def qR (d : Fin 32) : EReal := a.q r (col h (lR d))
/-- The rotated lanes' cotangent before the rotation. -/
def eR : Fin 32 → EReal := unt (a.cR r h) (a.co r) (a.si r)
def dN : Fin 64 → EReal := Rms.back w64 (a.qN r h) fun d => a.cN r h d * a.gN d
def dR : Fin 32 → EReal := Rms.back w32 (a.qR r h) fun d => a.eR r h d * a.gR d
def dqn (k : Fin 256) : EReal := ∑ h, (∑ d, a.dN r h d * a.wu k (col h (lN d)) + ∑ d, a.dR r h d * a.wu k (col h (lR d)))
def dql : Fin 256 → EReal := Rms.back w256 (a.lat r) fun k => a.dqn r k * a.qg k
def dh (d : Fin 1024) : EReal := ∑ k, a.dql r k * a.wd d k
def dx (d : Fin 1024) : EReal := Rms.back w1024 (a.X r) (fun d => a.dh r d * (1 + a.sc d) * a.g d) d + a.DX r d
def dg (d : Fin 1024) : EReal := ∑ r, Rms.nrm w1024 (a.X r) d * (a.dh r d * (1 + a.sc d))
def dsh (d : Fin 1024) : EReal := ∑ r, a.dh r d
def dsc (d : Fin 1024) : EReal := ∑ r, Rms.nrm w1024 (a.X r) d * a.g d * a.dh r d
def dqg (k : Fin 256) : EReal := ∑ r, Rms.nrm w256 (a.lat r) k * a.dqn r k
def dgN (d : Fin 64) : EReal := ∑ r, ∑ h, Rms.nrm w64 (a.qN r h) d * a.cN r h d
def dgR (d : Fin 32) : EReal := ∑ r, ∑ h, Rms.nrm w32 (a.qR r h) d * a.eR r h d

end Args

end Cert.Query

end
-- ==== Proof.QTile.lean ====
/-
  The query's tile of 256 rows as operations on whole vectors: the two norms, the sixteen heads side by side, and back.
-/
module

public import proofs.«01_k».proof.Proof.QArgs
public import Idealize.ShloMosaic.Lib.Pipeline.ValueKit

@[expose] public section

set_option maxRecDepth 16384

noncomputable section

namespace Cert.Query.Tile

open Cert.QIdeal Cert.Head Idealize.ShloMosaic

/-- A block as the body reads it. -/
def again {s : Shape} {ft : FTy} (v : FVec Ideal s ft) : FVec Ideal s ft := shapeCast s v rfl

def col1 (w : BitVec 32) : FVec Ideal S256x1 .f32 := broadcast S256x1 (Scalar.ofBits (F := Ideal) .f32 w)
/-- A row's sum of a column of one. -/
def once (y : FVec Ideal S256x1 .f32) : FVec Ideal S256x1 .f32 :=
  shapeCast S256x1 (multiReduction .add [1] S256 y 0x00000000#32 (by decide) (.inl rfl) rfl) (by decide)
/-- The derivative's factor from the sum `s` of a row, its mean square `m` and the row's length. -/
def slope (w : BitVec 32) (s m : FVec Ideal S256x1 .f32) : FVec Ideal S256x1 .f32 :=
  once (divf (mulf s (mulf (col1 0xBF000000#32) (divf (rsqrt m) m))) (col1 w))

theorem once_apply (y : FVec Ideal S256x1 .f32) (p : Fin 256) : once y (ix2 p 0) = y (ix2 p 0) := by
  unfold once
  pointwise
  exact Fin.sum_univ_one fun d => y (ix2 p d)
theorem slope_apply (w : BitVec 32) (s m : FVec Ideal S256x1 .f32) (p : Fin 256) : slope w s m (ix2 p 0)
    = Ideal.div (s (ix2 p 0) * (Rms.minusHalf * Ideal.div (Ideal.rsqrt (m (ix2 p 0))) (m (ix2 p 0)))) (Ideal.ofBits .f32 w) := by
  unfold slope
  rw [once_apply]
  unfold col1
  pointwise
  rfl

/-! ## Rows of 1024 -/

def sum1024 (y : FVec Ideal S256x1024 .f32) : FVec Ideal S256x1 .f32 :=
  shapeCast S256x1 (multiReduction .add [1] S256 y 0x00000000#32 (by decide) (.inl rfl) rfl) (by decide)
def ms1024 (x : FVec Ideal S256x1024 .f32) : FVec Ideal S256x1 .f32 := addf (divf (sum1024 (mulf x x)) (col1 0x44800000#32)) (col1 0x358637BD#32)
def wide1024 (y : FVec Ideal S256x1 .f32) : FVec Ideal S256x1024 .f32 := broadcastTo S256x1024 y (by decide)
def tall1024 (g : FVec Ideal S1x1024 .f32) : FVec Ideal S256x1024 .f32 := broadcastTo S256x1024 g (by decide)
def nrm1024 (x : FVec Ideal S256x1024 .f32) : FVec Ideal S256x1024 .f32 := mulf x (wide1024 (rsqrt (ms1024 x)))
def back1024 (x e : FVec Ideal S256x1024 .f32) : FVec Ideal S256x1024 .f32 :=
  addf (addf (mulf e (wide1024 (rsqrt (ms1024 x)))) (mulf x (wide1024 (slope 0x44800000#32 (sum1024 (mulf x e)) (ms1024 x)))))
    (mulf (wide1024 (slope 0x44800000#32 (sum1024 (mulf x e)) (ms1024 x))) x)
def down1024 (y : FVec Ideal S256x1024 .f32) : FVec Ideal S1x1024 .f32 :=
  shapeCast S1x1024 (multiReduction .add [0] S1024 y 0x00000000#32 (by decide) (.inl rfl) rfl) (by decide)

theorem sum1024_apply (y : FVec Ideal S256x1024 .f32) (p : Fin 256) : sum1024 y (ix2 p 0) = ∑ d : Fin 1024, y (ix2 p d) := by
  unfold sum1024
  pointwise
theorem down1024_apply (y : FVec Ideal S256x1024 .f32) (d : Fin 1024) : down1024 y (ix2 0 d) = ∑ p : Fin 256, y (ix2 p d) := by
  unfold down1024
  pointwise
theorem wide1024_apply (y : FVec Ideal S256x1 .f32) (p : Fin 256) (d : Fin 1024) : wide1024 y (ix2 p d) = y (ix2 p 0) := by
  unfold wide1024
  pointwise
theorem tall1024_apply (g : FVec Ideal S1x1024 .f32) (p : Fin 256) (d : Fin 1024) : tall1024 g (ix2 p d) = g (ix2 0 d) := by
  unfold tall1024
  pointwise
theorem ms1024_apply (x : FVec Ideal S256x1024 .f32) (p : Fin 256) : ms1024 x (ix2 p 0) = Rms.ms w1024 fun d => x (ix2 p d) := by
  unfold ms1024 col1
  pointwise
  rw [sum1024_apply]
  rfl
theorem nrm1024_apply (x : FVec Ideal S256x1024 .f32) (p : Fin 256) (d : Fin 1024) : nrm1024 x (ix2 p d) = Rms.nrm w1024 (fun d => x (ix2 p d)) d := by
  unfold nrm1024
  pointwise
  rw [wide1024_apply]
  pointwise
  rw [ms1024_apply]
  rfl
theorem back1024_apply (x e : FVec Ideal S256x1024 .f32) (p : Fin 256) (d : Fin 1024) :
    back1024 x e (ix2 p d) = Rms.back w1024 (fun d => x (ix2 p d)) (fun d => e (ix2 p d)) d := by
  unfold back1024
  pointwise
  rw [wide1024_apply, wide1024_apply, slope_apply, ms1024_apply, sum1024_apply]
  pointwise
  rw [ms1024_apply]
  rfl

/-! ## Rows of 256 -/

def sum256 (y : FVec Ideal S256x256 .f32) : FVec Ideal S256x1 .f32 :=
  shapeCast S256x1 (multiReduction .add [1] S256 y 0x00000000#32 (by decide) (.inl rfl) rfl) (by decide)
def ms256 (x : FVec Ideal S256x256 .f32) : FVec Ideal S256x1 .f32 := addf (divf (sum256 (mulf x x)) (col1 0x43800000#32)) (col1 0x358637BD#32)
def wide256 (y : FVec Ideal S256x1 .f32) : FVec Ideal S256x256 .f32 := broadcastTo S256x256 y (by decide)
def tall256 (g : FVec Ideal S1x256 .f32) : FVec Ideal S256x256 .f32 := broadcastTo S256x256 g (by decide)
def nrm256 (x : FVec Ideal S256x256 .f32) : FVec Ideal S256x256 .f32 := mulf x (wide256 (rsqrt (ms256 x)))
def back256 (x e : FVec Ideal S256x256 .f32) : FVec Ideal S256x256 .f32 :=
  addf (addf (mulf e (wide256 (rsqrt (ms256 x)))) (mulf x (wide256 (slope 0x43800000#32 (sum256 (mulf x e)) (ms256 x)))))
    (mulf (wide256 (slope 0x43800000#32 (sum256 (mulf x e)) (ms256 x))) x)
def down256 (y : FVec Ideal S256x256 .f32) : FVec Ideal S1x256 .f32 :=
  shapeCast S1x256 (multiReduction .add [0] S256 y 0x00000000#32 (by decide) (.inl rfl) rfl) (by decide)

theorem sum256_apply (y : FVec Ideal S256x256 .f32) (p : Fin 256) : sum256 y (ix2 p 0) = ∑ d : Fin 256, y (ix2 p d) := by
  unfold sum256
  pointwise
theorem down256_apply (y : FVec Ideal S256x256 .f32) (d : Fin 256) : down256 y (ix2 0 d) = ∑ p : Fin 256, y (ix2 p d) := by
  unfold down256
  pointwise
theorem wide256_apply (y : FVec Ideal S256x1 .f32) (p : Fin 256) (d : Fin 256) : wide256 y (ix2 p d) = y (ix2 p 0) := by
  unfold wide256
  pointwise
theorem tall256_apply (g : FVec Ideal S1x256 .f32) (p : Fin 256) (d : Fin 256) : tall256 g (ix2 p d) = g (ix2 0 d) := by
  unfold tall256
  pointwise
theorem ms256_apply (x : FVec Ideal S256x256 .f32) (p : Fin 256) : ms256 x (ix2 p 0) = Rms.ms w256 fun d => x (ix2 p d) := by
  unfold ms256 col1
  pointwise
  rw [sum256_apply]
  rfl
theorem nrm256_apply (x : FVec Ideal S256x256 .f32) (p : Fin 256) (d : Fin 256) : nrm256 x (ix2 p d) = Rms.nrm w256 (fun d => x (ix2 p d)) d := by
  unfold nrm256
  pointwise
  rw [wide256_apply]
  pointwise
  rw [ms256_apply]
  rfl
theorem back256_apply (x e : FVec Ideal S256x256 .f32) (p : Fin 256) (d : Fin 256) :
    back256 x e (ix2 p d) = Rms.back w256 (fun d => x (ix2 p d)) (fun d => e (ix2 p d)) d := by
  unfold back256
  pointwise
  rw [wide256_apply, wide256_apply, slope_apply, ms256_apply, sum256_apply]
  pointwise
  rw [ms256_apply]
  rfl

/-! ## The heads' tiles side by side -/

abbrev T (n : ℕ) : Shape := ⟨2, ![256, n]⟩
def blank (n : ℕ) : FVec Ideal (T n) .f32 := broadcast (T n) (Scalar.ofBits (F := Ideal) .f32 0x00000000#32)

/-- Head `o / 128`'s tile. -/
def part (o : ℕ) (V : FVec Ideal S256x2048 .f32) (h : S256x2048.Slices ![0, o] S256x128 := by decide) : FVec Ideal S256x128 .f32 :=
  extractStridedSlice S256x128 ![0, o] V h

theorem part_apply (o : ℕ) (V : FVec Ideal S256x2048 .f32) (h : S256x2048.Slices ![0, o] S256x128) (p : Fin 256) (l : Fin 128)
    (c : Fin 2048) (hc : c.val = o + l.val) : part o V h (ix2 p l) = V (ix2 p c) := by
  unfold part
  refine extractStridedSlice_apply _ _ _ _ _ fun a => ?_
  match a with
  | ⟨0, _⟩ => exact (Nat.zero_add _).symm
  | ⟨1, _⟩ => exact hc

/-- A head's tile with zeros on both sides, and with zeros on one side. -/
def mid (a b c : ℕ) (d : FVec Ideal S256x128 .f32) (h : Shape.Concatenates [T a, S256x128] (T b) 1 := by decide)
    (h' : Shape.Concatenates [T b, T c] S256x2048 1 := by decide) : FVec Ideal S256x2048 .f32 :=
  concatenate S256x2048 1 [⟨T b, concatenate (T b) 1 [⟨T a, blank a⟩, ⟨S256x128, d⟩] h⟩, ⟨T c, blank c⟩] h'
theorem joins_left : Shape.Concatenates [S256x128, T 1920] S256x2048 1 := by decide
theorem joins_right : Shape.Concatenates [T 1920, S256x128] S256x2048 1 := by decide
def left (d : FVec Ideal S256x128 .f32) : FVec Ideal S256x2048 .f32 :=
  concatenate S256x2048 1 [⟨S256x128, d⟩, ⟨T 1920, blank 1920⟩] joins_left
def right (d : FVec Ideal S256x128 .f32) : FVec Ideal S256x2048 .f32 :=
  concatenate S256x2048 1 [⟨T 1920, blank 1920⟩, ⟨S256x128, d⟩] joins_right

theorem blank_apply (n : ℕ) (i : (T n).Idx) : blank n i = 0 := Ideal.ofBits_zero_f32

/-- What a head's tile puts at lane `l` of head `k`. -/
def only (h k : Fin 16) (y : EReal) : EReal := if h = k then y else 0

def lane16 (k : Fin 16) (l : Fin 128) : Fin 2048 := ⟨k.val * 128 + l.val, by have := k.isLt; have := l.isLt; omega⟩

theorem cat_left {n m t : ℕ} (x : FVec Ideal (T n) .f32) (y : FVec Ideal (T m) .f32) (h : Shape.Concatenates [T n, T m] (T t) 1)
    (p : Fin 256) (c : Fin t) (c' : Fin n) (hc : c'.val = c.val) :
    concatenate (T t) 1 [⟨T n, x⟩, ⟨T m, y⟩] h (ix2 p c) = x (ix2 p c') :=
  concatenate_pair_apply_left 1 x y h _ rfl _ fun b => match b with
    | ⟨0, _⟩ => rfl
    | ⟨1, _⟩ => hc
theorem cat_right {n m t : ℕ} (x : FVec Ideal (T n) .f32) (y : FVec Ideal (T m) .f32) (h : Shape.Concatenates [T n, T m] (T t) 1)
    (p : Fin 256) (c : Fin t) (c' : Fin m) (hc : c'.val + n = c.val) :
    concatenate (T t) 1 [⟨T n, x⟩, ⟨T m, y⟩] h (ix2 p c) = y (ix2 p c') :=
  concatenate_pair_apply_right 1 x y h _ rfl rfl _ (fun b => match b with
    | ⟨0, _⟩ => fun _ => rfl
    | ⟨1, _⟩ => fun hb => absurd rfl hb) hc

theorem lane16_val (k : Fin 16) (l : Fin 128) : (lane16 k l).val = k.val * 128 + l.val := rfl

theorem left_apply (d : FVec Ideal S256x128 .f32) (p : Fin 256) (k : Fin 16) (l : Fin 128) :
    left d (ix2 p (lane16 k l)) = only 0 k (d (ix2 p l)) := by
  have hl := l.isLt
  have := k.isLt
  have hv := lane16_val k l
  unfold left only
  by_cases hk : (0 : Fin 16) = k
  · have h0 : k.val = 0 := by rw [← hk]; rfl
    rw [if_pos hk]
    exact cat_left d (blank 1920) joins_left p _ l (by omega)
  · have h0 : k.val ≠ 0 := fun e => hk (Fin.ext e.symm)
    rw [if_neg hk]
    exact (cat_right d (blank 1920) joins_left p _ ⟨k.val * 128 + l.val - 128, by omega⟩ ((Nat.sub_add_cancel (by omega : _ ≤ k.val * 128 + l.val)).trans hv.symm)).trans (blank_apply _ _)
theorem right_apply (d : FVec Ideal S256x128 .f32) (p : Fin 256) (k : Fin 16) (l : Fin 128) :
    right d (ix2 p (lane16 k l)) = only 15 k (d (ix2 p l)) := by
  have hl := l.isLt
  have := k.isLt
  have hv := lane16_val k l
  unfold right only
  by_cases hk : (15 : Fin 16) = k
  · have h0 : k.val = 15 := by rw [← hk]; rfl
    rw [if_pos hk]
    exact cat_right (blank 1920) d joins_right p _ l (by omega)
  · have h0 : k.val ≠ 15 := fun e => hk (Fin.ext e.symm)
    rw [if_neg hk]
    exact (cat_left (blank 1920) d joins_right p _ ⟨k.val * 128 + l.val, by omega⟩ hv.symm).trans (blank_apply _ _)
theorem mid_apply (h : Fin 16) (a b c : ℕ) (ha : a = h.val * 128) (hb : b = a + 128) (hc : b + c = 2048) (d : FVec Ideal S256x128 .f32)
    (h1 : Shape.Concatenates [T a, S256x128] (T b) 1) (h2 : Shape.Concatenates [T b, T c] S256x2048 1) (p : Fin 256) (k : Fin 16) (l : Fin 128) :
    mid a b c d h1 h2 (ix2 p (lane16 k l)) = only h k (d (ix2 p l)) := by
  have hl := l.isLt
  have := k.isLt
  have := h.isLt
  have hv := lane16_val k l
  unfold mid only
  by_cases hlt : k.val * 128 + l.val < b
  · refine (cat_left _ (blank c) h2 p _ ⟨k.val * 128 + l.val, hlt⟩ hv.symm).trans ?_
    by_cases hk : h = k
    · have hv' : h.val = k.val := by rw [hk]
      rw [if_pos hk]
      exact cat_right (blank a) d h1 p _ l (by show l.val + a = k.val * 128 + l.val; omega)
    · have hne : h.val ≠ k.val := fun e => hk (Fin.ext e)
      rw [if_neg hk]
      exact (cat_left (blank a) d h1 p _ ⟨k.val * 128 + l.val, by omega⟩ rfl).trans (blank_apply _ _)
  · rw [if_neg fun e => by have : h.val = k.val := by rw [e]
                           omega]
    exact (cat_right _ (blank c) h2 p _ ⟨k.val * 128 + l.val - b, by omega⟩ ((Nat.sub_add_cancel (by omega : _ ≤ k.val * 128 + l.val)).trans hv.symm)).trans (blank_apply _ _)

/-- The sixteen heads' tiles side by side, as the sum of their placements from the last to the first. -/
def beside (d : Fin 16 → FVec Ideal S256x128 .f32) : FVec Ideal S256x2048 .f32 :=
  addf (addf (addf (addf (addf (addf (addf (addf (addf (addf (addf (addf (addf (addf (addf (right (d 15))
    (mid 1792 1920 128 (d 14)))
    (mid 1664 1792 256 (d 13)))
    (mid 1536 1664 384 (d 12)))
    (mid 1408 1536 512 (d 11)))
    (mid 1280 1408 640 (d 10)))
    (mid 1152 1280 768 (d 9)))
    (mid 1024 1152 896 (d 8)))
    (mid 896 1024 1024 (d 7)))
    (mid 768 896 1152 (d 6)))
    (mid 640 768 1280 (d 5)))
    (mid 512 640 1408 (d 4)))
    (mid 384 512 1536 (d 3)))
    (mid 256 384 1664 (d 2)))
    (mid 128 256 1792 (d 1)))
    (left (d 0))
/-- The sum of the sixteen heads' rows, from the last to the first. -/
def total (g : Fin 16 → FVec Ideal S1x128 .f32) : FVec Ideal S1x128 .f32 :=
  addf (addf (addf (addf (addf (addf (addf (addf (addf (addf (addf (addf (addf (addf (addf (g 15) (g 14)) (g 13)) (g 12)) (g 11)) (g 10)) (g 9)) (g 8)) (g 7)) (g 6)) (g 5)) (g 4)) (g 3)) (g 2)) (g 1)) (g 0)

/-- Sixteen terms added from the last to the first. -/
theorem sum_down (f : Fin 16 → EReal) : f 15 + f 14 + f 13 + f 12 + f 11 + f 10 + f 9 + f 8 + f 7 + f 6 + f 5 + f 4 + f 3 + f 2 + f 1 + f 0 = ∑ h, f h := by
  simp only [Fin.sum_univ_succ, Fin.sum_univ_zero]
  show _ = f 0 + (f 1 + (f 2 + (f 3 + (f 4 + (f 5 + (f 6 + (f 7 + (f 8 + (f 9 + (f 10 + (f 11 + (f 12 + (f 13 + (f 14 + (f 15 + 0)))))))))))))))
  rw [add_zero]
  ac_rfl

theorem total_apply (g : Fin 16 → FVec Ideal S1x128 .f32) (l : Fin 128) : total g (ix2 0 l) = ∑ h, g h (ix2 0 l) := by
  rw [← sum_down]
  rfl
theorem beside_apply (d : Fin 16 → FVec Ideal S256x128 .f32) (p : Fin 256) (k : Fin 16) (l : Fin 128) :
    beside d (ix2 p (lane16 k l)) = d k (ix2 p l) := by
  refine Eq.trans (b := ∑ h, only h k (d h (ix2 p l))) ?_ ?_
  · rw [← sum_down, ← right_apply, ← left_apply,
      ← mid_apply 14 1792 1920 128 rfl rfl rfl (d 14) (by decide) (by decide),
      ← mid_apply 13 1664 1792 256 rfl rfl rfl (d 13) (by decide) (by decide),
      ← mid_apply 12 1536 1664 384 rfl rfl rfl (d 12) (by decide) (by decide),
      ← mid_apply 11 1408 1536 512 rfl rfl rfl (d 11) (by decide) (by decide),
      ← mid_apply 10 1280 1408 640 rfl rfl rfl (d 10) (by decide) (by decide),
      ← mid_apply 9 1152 1280 768 rfl rfl rfl (d 9) (by decide) (by decide),
      ← mid_apply 8 1024 1152 896 rfl rfl rfl (d 8) (by decide) (by decide),
      ← mid_apply 7 896 1024 1024 rfl rfl rfl (d 7) (by decide) (by decide),
      ← mid_apply 6 768 896 1152 rfl rfl rfl (d 6) (by decide) (by decide),
      ← mid_apply 5 640 768 1280 rfl rfl rfl (d 5) (by decide) (by decide),
      ← mid_apply 4 512 640 1408 rfl rfl rfl (d 4) (by decide) (by decide),
      ← mid_apply 3 384 512 1536 rfl rfl rfl (d 3) (by decide) (by decide),
      ← mid_apply 2 256 384 1664 rfl rfl rfl (d 2) (by decide) (by decide),
      ← mid_apply 1 128 256 1792 rfl rfl rfl (d 1) (by decide) (by decide)]
    rfl
  · refine (Finset.sum_eq_single k (fun h _ hk => if_neg hk) fun hk => absurd (Finset.mem_univ k) hk).trans (if_pos rfl)

/-! ## The tile -/

section Tile

variable (x : FVec Ideal S256x1024 .f32) (cs sn : FVec Ideal S256x128 .f32) (ct : FVec Ideal S256x2048 .f32) (g sh sc : FVec Ideal S1x1024 .f32)
  (qg : FVec Ideal S1x256 .f32) (hg : FVec Ideal S1x128 .f32) (wd : FVec Ideal S1024x256 .bf16) (wu : FVec Ideal S256x2048 .bf16)
  (dxAdd : FVec Ideal S256x1024 .f32)

def scaled : FVec Ideal S256x1024 .f32 := mulf (nrm1024 x) (tall1024 g)
def more : FVec Ideal S1x1024 .f32 := addf (broadcast S1x1024 (Scalar.ofBits (F := Ideal) .f32 0x3F800000#32)) sc
def hidT : FVec Ideal S256x1024 .f32 := addf (mulf (scaled x g) (tall1024 (more sc))) (tall1024 sh)
def latT : FVec Ideal S256x256 .f32 :=
  addf (matmul dot_S256x1024_S1024x256_S256x256_1_0_0_1_n_n none (truncf (F := Ideal) .bf16 (hidT x g sh sc) (by decide)) wd
    (constant (F := Ideal) S256x256 .f32 0x00000000#32)) (broadcast S256x256 (Scalar.ofBits (F := Ideal) .f32 0x00000000#32))
def qnT : FVec Ideal S256x256 .f32 := mulf (nrm256 (latT x g sh sc wd)) (tall256 qg)
def qT : FVec Ideal S256x2048 .f32 :=
  addf (matmul dot_S256x256_S256x2048_S256x2048_1_0_0_1_n_n none (truncf (F := Ideal) .bf16 (qnT x g sh sc qg wd) (by decide)) wu
    (constant (F := Ideal) S256x2048 .f32 0x00000000#32)) (broadcast S256x2048 (Scalar.ofBits (F := Ideal) .f32 0x00000000#32))
/-- Where each head's tile lies. -/
theorem tiles : ∀ h : Fin 16, S256x2048.Slices ![0, h.val * 128] S256x128 := by decide

/-- The heads' gradients and gains, from their tiles of `V` and of the cotangent. -/
def heads (V : FVec Ideal S256x2048 .f32) (h : Fin 16) : FVec Ideal S256x128 .f32 :=
  headGrad cs sn hg (part (h.val * 128) V (tiles h)) (part (h.val * 128) ct (tiles h))
def gains (V : FVec Ideal S256x2048 .f32) (h : Fin 16) : FVec Ideal S1x128 .f32 :=
  headGain cs sn (part (h.val * 128) V (tiles h)) (part (h.val * 128) ct (tiles h))
def dqT : FVec Ideal S256x2048 .f32 := beside (heads cs sn ct hg (qT x g sh sc qg wd wu))
def dhgT : FVec Ideal S1x128 .f32 := total (gains cs sn ct (qT x g sh sc qg wd wu))

/-- Back from the gradient `D` of the heads. -/
def dqnT (D : FVec Ideal S256x2048 .f32) : FVec Ideal S256x256 .f32 :=
  matmul dot_S256x2048_S256x2048_S256x256_1_1_0_0_n_n none (truncf (F := Ideal) .bf16 D (by decide)) wu
    (constant (F := Ideal) S256x256 .f32 0x00000000#32)
def dqgT (D : FVec Ideal S256x2048 .f32) : FVec Ideal S1x256 .f32 := down256 (mulf (nrm256 (latT x g sh sc wd)) (dqnT wu D))
def dqlT (D : FVec Ideal S256x2048 .f32) : FVec Ideal S256x256 .f32 := back256 (latT x g sh sc wd) (mulf (dqnT wu D) (tall256 qg))
/-- Back from the gradient `L` of the latent rows. -/
def dhT (L : FVec Ideal S256x256 .f32) : FVec Ideal S256x1024 .f32 :=
  matmul dot_S256x256_S1024x256_S256x1024_1_1_0_0_n_n none (truncf (F := Ideal) .bf16 L (by decide)) wd
    (constant (F := Ideal) S256x1024 .f32 0x00000000#32)
/-- Back from the gradient `H` of the modulated rows. -/
def dshT (H : FVec Ideal S256x1024 .f32) : FVec Ideal S1x1024 .f32 := down1024 H
def dscT (H : FVec Ideal S256x1024 .f32) : FVec Ideal S1x1024 .f32 := down1024 (mulf (scaled x g) H)
def dgT (H : FVec Ideal S256x1024 .f32) : FVec Ideal S1x1024 .f32 := down1024 (mulf (nrm1024 x) (mulf H (tall1024 (more sc))))
def dxT (H : FVec Ideal S256x1024 .f32) : FVec Ideal S256x1024 .f32 :=
  addf (back1024 x (mulf (mulf H (tall1024 (more sc))) (tall1024 g))) dxAdd

end Tile

end Cert.Query.Tile

end
-- ==== Proof.QRows.lean ====
/-
  The query's tile of 256 rows, read row by row: what each operation of the tile leaves is the row's value of `Cert.Query.Args`.
-/
module

public import proofs.«01_k».proof.Proof.QTile

@[expose] public section

set_option maxRecDepth 16384

noncomputable section

namespace Cert.Query.Tile

open Cert.QIdeal Cert.Head Idealize.ShloMosaic

theorem again_eq {s : Shape} {ft : FTy} (v : FVec Ideal s ft) : again v = v := shapeCast_self v rfl

theorem sum_lane16 (f : Fin 2048 → EReal) : ∑ c, f c
    = ∑ h, (∑ d, f (lane16 h (pl d)) + (∑ d, f (lane16 h (tl d)) + ∑ d, f (lane16 h (ul d)))) :=
  (Lit.sum_tiles 16 128 2048 rfl f).trans (Finset.sum_congr rfl fun h _ => sum_lanes fun l => f (lane16 h l))

/-- The operands of a tile whose row `p` is the row `r p` of the arguments `a`. -/
structure Reads (a : Args) (r : Fin 256 → Fin 4096) (x : FVec Ideal S256x1024 .f32) (cs sn : FVec Ideal S256x128 .f32)
    (ct : FVec Ideal S256x2048 .f32) (g sh sc : FVec Ideal S1x1024 .f32) (qg : FVec Ideal S1x256 .f32) (hg : FVec Ideal S1x128 .f32)
    (wd : FVec Ideal S1024x256 .bf16) (wu : FVec Ideal S256x2048 .bf16) (dxAdd : FVec Ideal S256x1024 .f32) : Prop where
  x : ∀ p d, x (ix2 p d) = a.X (r p) d
  g : ∀ d, g (ix2 0 d) = a.g d
  sh : ∀ d, sh (ix2 0 d) = a.sh d
  sc : ∀ d, sc (ix2 0 d) = a.sc d
  qg : ∀ k, qg (ix2 0 k) = a.qg k
  gN : ∀ d, hg (ix2 0 (pl d)) = a.gN d
  gR : ∀ d, hg (ix2 0 (tl d)) = a.gR d
  one : ∀ p d, cs (ix2 p (pl d)) = 1
  co : ∀ p (d : Fin 32), cs (ix2 p (tl d)) = a.co (r p) ⟨d.val % 16, Nat.mod_lt _ (by decide)⟩
  si : ∀ p (d : Fin 32), sn (ix2 p (tl d)) = a.si (r p) ⟨d.val % 16, Nat.mod_lt _ (by decide)⟩
  cN : ∀ p h d, ct (ix2 p (lane16 h (pl d))) = a.cN (r p) h d
  cR : ∀ p h d, ct (ix2 p (lane16 h (tl d))) = a.cR (r p) h d
  wd : ∀ d k, wd (ix2 d k) = a.wd d k
  wN : ∀ k h d, wu (ix2 k (lane16 h (pl d))) = a.wu k (col h (lN d))
  wR : ∀ k h d, wu (ix2 k (lane16 h (tl d))) = a.wu k (col h (lR d))
  add : ∀ p d, dxAdd (ix2 p d) = a.DX (r p) d

namespace Reads

variable {a : Args} {r : Fin 256 → Fin 4096} {x : FVec Ideal S256x1024 .f32} {cs sn : FVec Ideal S256x128 .f32} {ct : FVec Ideal S256x2048 .f32}
  {g sh sc : FVec Ideal S1x1024 .f32} {qg : FVec Ideal S1x256 .f32} {hg : FVec Ideal S1x128 .f32} {wd : FVec Ideal S1024x256 .bf16}
  {wu : FVec Ideal S256x2048 .bf16} {dxAdd : FVec Ideal S256x1024 .f32} (R : Reads a r x cs sn ct g sh sc qg hg wd wu dxAdd)
include R

theorem xRow (p : Fin 256) : (fun d => x (ix2 p d)) = a.X (r p) := funext fun d => R.x p d

theorem scaled_eq (p : Fin 256) (d : Fin 1024) : scaled x g (ix2 p d) = Rms.nrm w1024 (a.X (r p)) d * a.g d := by
  unfold scaled
  pointwise
  rw [nrm1024_apply, tall1024_apply, R.xRow p, R.g d]
theorem more_eq (d : Fin 1024) : more sc (ix2 0 d) = 1 + a.sc d := by
  unfold more
  pointwise
  rw [R.sc d]
theorem hid_eq (p : Fin 256) (d : Fin 1024) : hidT x g sh sc (ix2 p d) = a.hid (r p) d := by
  unfold hidT
  pointwise
  rw [R.scaled_eq p d, tall1024_apply, tall1024_apply, R.more_eq d, R.sh d]
  rfl
theorem lat_eq (p : Fin 256) (k : Fin 256) : latT x g sh sc wd (ix2 p k) = a.lat (r p) k := by
  unfold latT
  pointwise
  simp only [R.hid_eq, R.wd]
  first | rfl | exact add_zero _
theorem latRow (p : Fin 256) : (fun d => latT x g sh sc wd (ix2 p d)) = a.lat (r p) := funext fun d => R.lat_eq p d
theorem qn_eq (p : Fin 256) (k : Fin 256) : qnT x g sh sc qg wd (ix2 p k) = a.qn (r p) k := by
  unfold qnT
  pointwise
  rw [nrm256_apply, tall256_apply, R.latRow p, R.qg k]
  rfl
theorem q_apply (p : Fin 256) (c : Fin 2048) : qT x g sh sc qg wd wu (ix2 p c) = ∑ k, a.qn (r p) k * wu (ix2 k c) := by
  unfold qT
  pointwise
  simp only [R.qn_eq]
theorem q_pl (p : Fin 256) (h : Fin 16) (d : Fin 64) : qT x g sh sc qg wd wu (ix2 p (lane16 h (pl d))) = a.qN (r p) h d := by
  rw [R.q_apply]
  simp only [R.wN]
  rfl
theorem q_tl (p : Fin 256) (h : Fin 16) (d : Fin 32) : qT x g sh sc qg wd wu (ix2 p (lane16 h (tl d))) = a.qR (r p) h d := by
  rw [R.q_apply]
  simp only [R.wR]
  rfl

/-! ## A head -/

theorem part_eq (V : FVec Ideal S256x2048 .f32) (p : Fin 256) (h : Fin 16) (l : Fin 128) :
    part (h.val * 128) V (tiles h) (ix2 p l) = V (ix2 p (lane16 h l)) := part_apply _ V _ p l _ rfl

theorem plain_q (p : Fin 256) (h : Fin 16) : plainRow (part (h.val * 128) (qT x g sh sc qg wd wu) (tiles h)) p = a.qN (r p) h :=
  funext fun d => (part_apply _ _ _ p _ _ rfl).trans (R.q_pl p h d)
theorem turned_q (p : Fin 256) (h : Fin 16) : turnedRow (part (h.val * 128) (qT x g sh sc qg wd wu) (tiles h)) p = a.qR (r p) h :=
  funext fun d => (part_apply _ _ _ p _ _ rfl).trans (R.q_tl p h d)
theorem unturn_N (p : Fin 256) (h : Fin 16) (d : Fin 64) : unturn cs sn (part (h.val * 128) ct (tiles h)) (ix2 p (pl d)) = a.cN (r p) h d := by
  rw [unturn_pl, R.one, mul_one]
  exact (part_apply _ _ _ p _ _ rfl).trans (R.cN p h d)
theorem unturn_R (p : Fin 256) (h : Fin 16) (d : Fin 32) : unturn cs sn (part (h.val * 128) ct (tiles h)) (ix2 p (tl d)) = a.eR (r p) h d :=
  unturn_tl cs sn _ p (a.cR (r p) h) (a.co (r p)) (a.si (r p)) (fun d => (part_apply _ _ _ p _ _ rfl).trans (R.cR p h d)) (R.co p) (R.si p) d
theorem plain_e (p : Fin 256) (h : Fin 16) : plainRow (gained hg (unturn cs sn (part (h.val * 128) ct (tiles h)))) p
    = fun d => a.cN (r p) h d * a.gN d :=
  funext fun d => (gained_apply _ _ p _).trans (by rw [R.unturn_N, R.gN])
theorem turned_e (p : Fin 256) (h : Fin 16) : turnedRow (gained hg (unturn cs sn (part (h.val * 128) ct (tiles h)))) p
    = fun d => a.eR (r p) h d * a.gR d :=
  funext fun d => (gained_apply _ _ p _).trans (by rw [R.unturn_R, R.gR])

theorem dq_pl (p : Fin 256) (h : Fin 16) (d : Fin 64) :
    beside (heads cs sn ct hg (qT x g sh sc qg wd wu)) (ix2 p (lane16 h (pl d))) = a.dN (r p) h d := by
  rw [beside_apply]
  unfold heads headGrad
  rw [grad_pl, R.plain_q, R.plain_e]
  rfl
theorem dq_tl (p : Fin 256) (h : Fin 16) (d : Fin 32) :
    beside (heads cs sn ct hg (qT x g sh sc qg wd wu)) (ix2 p (lane16 h (tl d))) = a.dR (r p) h d := by
  rw [beside_apply]
  unfold heads headGrad
  rw [grad_tl, R.turned_q, R.turned_e]
  rfl
omit R in
theorem dq_ul (V : FVec Ideal S256x2048 .f32) (p : Fin 256) (h : Fin 16) (d : Fin 32) :
    beside (heads cs sn ct hg V) (ix2 p (lane16 h (ul d))) = 0 := by
  rw [beside_apply]
  unfold heads headGrad
  rw [grad_ul]
theorem dgN_eq (d : Fin 64) : total (gains cs sn ct (qT x g sh sc qg wd wu)) (ix2 0 (pl d))
    = ∑ p, ∑ h, Rms.nrm w64 (a.qN (r p) h) d * a.cN (r p) h d := by
  rw [total_apply, Finset.sum_comm]
  refine Finset.sum_congr rfl fun h _ => ?_
  unfold gains headGain
  rw [gain_pl]
  exact Finset.sum_congr rfl fun p _ => by rw [R.plain_q, R.unturn_N]
theorem dgR_eq (d : Fin 32) : total (gains cs sn ct (qT x g sh sc qg wd wu)) (ix2 0 (tl d))
    = ∑ p, ∑ h, Rms.nrm w32 (a.qR (r p) h) d * a.eR (r p) h d := by
  rw [total_apply, Finset.sum_comm]
  refine Finset.sum_congr rfl fun h _ => ?_
  unfold gains headGain
  rw [gain_tl]
  exact Finset.sum_congr rfl fun p _ => by rw [R.turned_q, R.unturn_R]
omit R in
theorem dgU_eq (V : FVec Ideal S256x2048 .f32) (d : Fin 32) : total (gains cs sn ct V) (ix2 0 (ul d)) = 0 := by
  rw [total_apply]
  refine Finset.sum_eq_zero fun h _ => ?_
  unfold gains headGain
  exact gain_ul _ _ _

/-! ## Back to the model rows -/

theorem dqn_eq (p : Fin 256) (k : Fin 256) :
    dqnT wu (beside (heads cs sn ct hg (qT x g sh sc qg wd wu))) (ix2 p k) = a.dqn (r p) k := by
  unfold dqnT
  pointwise
  rw [sum_lane16]
  refine Finset.sum_congr rfl fun h _ => congrArg₂ (· + ·) (Finset.sum_congr rfl fun d _ => ?_) ?_
  · rw [R.dq_pl, R.wN]
  · refine (congrArg₂ (· + ·) (Finset.sum_congr rfl fun d _ => ?_) (Finset.sum_eq_zero fun d _ => ?_)).trans (add_zero _)
    · rw [R.dq_tl, R.wR]
    · rw [dq_ul, zero_mul]
theorem dqg_eq (k : Fin 256) : dqgT x g sh sc wd wu (beside (heads cs sn ct hg (qT x g sh sc qg wd wu))) (ix2 0 k)
    = ∑ p, Rms.nrm w256 (a.lat (r p)) k * a.dqn (r p) k := by
  unfold dqgT
  rw [down256_apply]
  refine Finset.sum_congr rfl fun p _ => ?_
  pointwise
  rw [nrm256_apply, R.latRow, R.dqn_eq]
theorem dql_eq (p : Fin 256) (k : Fin 256) : dqlT x g sh sc qg wd wu (beside (heads cs sn ct hg (qT x g sh sc qg wd wu))) (ix2 p k)
    = a.dql (r p) k := by
  unfold dqlT
  rw [back256_apply, R.latRow]
  refine congrArg (Rms.back w256 (a.lat (r p)) · k) (funext fun d => ?_)
  pointwise
  rw [R.dqn_eq, tall256_apply, R.qg]

omit R in
theorem dh_apply (L : FVec Ideal S256x256 .f32) (p : Fin 256) (d : Fin 1024) : dhT wd L (ix2 p d) = ∑ k, L (ix2 p k) * wd (ix2 d k) := by
  unfold dhT
  pointwise
theorem dh_eq (L : FVec Ideal S256x256 .f32) (hL : ∀ p k, L (ix2 p k) = a.dql (r p) k) (p : Fin 256) (d : Fin 1024) :
    dhT wd L (ix2 p d) = a.dh (r p) d := by
  rw [dh_apply]
  exact Finset.sum_congr rfl fun k _ => by rw [hL, R.wd]

variable {H : FVec Ideal S256x1024 .f32} (hH : ∀ p d, H (ix2 p d) = a.dh (r p) d)
include hH

theorem dsh_eq (d : Fin 1024) : dshT H (ix2 0 d) = ∑ p, a.dh (r p) d := by
  unfold dshT
  rw [down1024_apply]
  exact Finset.sum_congr rfl fun p _ => hH p d
theorem dsc_eq (d : Fin 1024) : dscT x g H (ix2 0 d) = ∑ p, Rms.nrm w1024 (a.X (r p)) d * a.g d * a.dh (r p) d := by
  unfold dscT
  rw [down1024_apply]
  refine Finset.sum_congr rfl fun p _ => ?_
  pointwise
  rw [R.scaled_eq, hH]
theorem dg_eq (d : Fin 1024) : dgT x sc H (ix2 0 d) = ∑ p, Rms.nrm w1024 (a.X (r p)) d * (a.dh (r p) d * (1 + a.sc d)) := by
  unfold dgT
  rw [down1024_apply]
  refine Finset.sum_congr rfl fun p _ => ?_
  pointwise
  rw [nrm1024_apply, R.xRow, hH, tall1024_apply, R.more_eq]
theorem dx_eq (p : Fin 256) (d : Fin 1024) : dxT x g sc dxAdd H (ix2 p d) = a.dx (r p) d := by
  unfold dxT
  pointwise
  rw [back1024_apply, R.xRow, R.add]
  refine congrArg (Rms.back w1024 (a.X (r p)) · d + a.DX (r p) d) (funext fun d => ?_)
  pointwise
  rw [hH, tall1024_apply, tall1024_apply, R.more_eq, R.g]

end Reads

end Cert.Query.Tile

end
-- ==== Proof.QOuts.lean ====
/-
  The query's gradient, as the kernel computes it tile by tile of 256 rows: the tiles and what each leaves.
-/
module

public import proofs.«01_k».proof.Proof.QRows
public import proofs.«01_k».proof.Proof.Gen.QIdeal.Value
public import Idealize.ShloMosaic.Lib.Claim
public import Idealize.ShloMosaic.Lib.Tactic.ValueTie

@[expose] public section

set_option maxRecDepth 16384

noncomputable section

namespace Cert.QIdeal.Result

open Cert.QIdeal Cert.QIdeal.Gen Cert.Query.Tile Idealize.ShloMosaic Idealize.ShloMosaic.TcCoe Idealize.SL.Sem
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] ∧ win0_17.index t = ![0, 0] ∧ win0_18.index t = ![0, 0] ∧ win0_19.index t = ![0, 0] ∧ win0_20.index t = ![0, 0] ∧ win0_21.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] ∧ win0_17.index t = ![0, 0] ∧ win0_18.index t = ![0, 0] ∧ win0_19.index t = ![0, 0] ∧ win0_20.index t = ![0, 0] ∧ win0_21.index t = ![0, 0])

/-! ## The operands of a tile -/

def xB (c : Dev nD) (t : Fin cfg0.N) : FVec Ideal S256x1024 .f32 := iblk m c 0 t
def csB (c : Dev nD) (t : Fin cfg0.N) : FVec Ideal S256x128 .f32 := again (iblk m c 1 t)
def snB (c : Dev nD) (t : Fin cfg0.N) : FVec Ideal S256x128 .f32 := again (iblk m c 2 t)
def ctB (c : Dev nD) (t : Fin cfg0.N) : FVec Ideal S256x2048 .f32 := again (iblk m c 3 t)
def addB (c : Dev nD) (t : Fin cfg0.N) : FVec Ideal S256x1024 .f32 := iblk m c 4 t
def gB (c : Dev nD) (t : Fin cfg0.N) : FVec Ideal S1x1024 .f32 := again (iblk m c 5 t)
def shB (c : Dev nD) (t : Fin cfg0.N) : FVec Ideal S1x1024 .f32 := iblk m c 6 t
def scB (c : Dev nD) (t : Fin cfg0.N) : FVec Ideal S1x1024 .f32 := iblk m c 7 t
def qgB (c : Dev nD) (t : Fin cfg0.N) : FVec Ideal S1x256 .f32 := again (iblk m c 8 t)
def hgB (c : Dev nD) (t : Fin cfg0.N) : FVec Ideal S1x128 .f32 := again (iblk m c 9 t)
def wdB (c : Dev nD) (t : Fin cfg0.N) : FVec Ideal S1024x256 .bf16 := again (iblk m c 10 t)
def wuB (c : Dev nD) (t : Fin cfg0.N) : FVec Ideal S256x2048 .bf16 := again (iblk m c 11 t)

/-! ## What a tile leaves -/

def hV (c : Dev nD) (t : Fin cfg0.N) : FVec Ideal S256x1024 .f32 := hidT (xB m c t) (gB m c t) (shB m c t) (scB m c t)
def lV (c : Dev nD) (t : Fin cfg0.N) : FVec Ideal S256x256 .f32 := latT (xB m c t) (gB m c t) (shB m c t) (scB m c t) (wdB m c t)
def nV (c : Dev nD) (t : Fin cfg0.N) : FVec Ideal S256x256 .f32 :=
  qnT (xB m c t) (gB m c t) (shB m c t) (scB m c t) (qgB m c t) (wdB m c t)
def qV (c : Dev nD) (t : Fin cfg0.N) : FVec Ideal S256x2048 .f32 :=
  qT (xB m c t) (gB m c t) (shB m c t) (scB m c t) (qgB m c t) (wdB m c t) (wuB m c t)
def dqV (c : Dev nD) (t : Fin cfg0.N) : FVec Ideal S256x2048 .f32 :=
  beside (heads (csB m c t) (snB m c t) (ctB m c t) (hgB m c t) (qV m c t))
def dhgV (c : Dev nD) (t : Fin cfg0.N) : FVec Ideal S1x128 .f32 := total (gains (csB m c t) (snB m c t) (ctB m c t) (qV m c t))
def dlV (c : Dev nD) (t : Fin cfg0.N) : FVec Ideal S256x256 .f32 :=
  dqlT (xB m c t) (gB m c t) (shB m c t) (scB m c t) (qgB m c t) (wdB m c t) (wuB m c t) (dqV m c t)
def dqgV (c : Dev nD) (t : Fin cfg0.N) : FVec Ideal S1x256 .f32 :=
  dqgT (xB m c t) (gB m c t) (shB m c t) (scB m c t) (wdB m c t) (wuB m c t) (dqV m c t)
def dhV (c : Dev nD) (t : Fin cfg0.N) : FVec Ideal S256x1024 .f32 := dhT (wdB m c t) (dlV m c t)
def dxV (c : Dev nD) (t : Fin cfg0.N) : FVec Ideal S256x1024 .f32 :=
  dxT (xB m c t) (gB m c t) (scB m c t) (addB m c t) (dhV m c t)
def dshV (c : Dev nD) (t : Fin cfg0.N) : FVec Ideal S1x1024 .f32 := dshT (dhV m c t)
def dscV (c : Dev nD) (t : Fin cfg0.N) : FVec Ideal S1x1024 .f32 := dscT (xB m c t) (gB m c t) (dhV m c t)
def dgV (c : Dev nD) (t : Fin cfg0.N) : FVec Ideal S1x1024 .f32 := dgT (xB m c t) (scB m c t) (dhV m c t)

theorem outs_h (c : Dev nD) (t : Fin cfg0.N) : (outsAt0 m c t.val t.isLt).2.2.2.1 = truncf (F := Ideal) .bf16 (hV m c t) (by decide) := by
  by_cases h0 : t.val % 16 = 0
  · rw [outsAt0_A m c t h0]
    frame_out
    rfl
  · rw [outsAt0_B m c t h0]
    frame_out
    rfl

theorem outs_n (c : Dev nD) (t : Fin cfg0.N) : (outsAt0 m c t.val t.isLt).2.2.2.2.1 = truncf (F := Ideal) .bf16 (nV m c t) (by decide) := by
  by_cases h0 : t.val % 16 = 0
  · rw [outsAt0_A m c t h0]
    frame_out
    rfl
  · rw [outsAt0_B m c t h0]
    frame_out
    rfl

theorem outs_q (c : Dev nD) (t : Fin cfg0.N) : (outsAt0 m c t.val t.isLt).2.2.1 = truncf (F := Ideal) .bf16 (dqV m c t) (by decide) := by
  by_cases h0 : t.val % 16 = 0
  · rw [outsAt0_A m c t h0]
    frame_out
    rfl
  · rw [outsAt0_B m c t h0]
    frame_out
    rfl

theorem outs_l (c : Dev nD) (t : Fin cfg0.N) : (outsAt0 m c t.val t.isLt).2.1 = truncf (F := Ideal) .bf16 (dlV m c t) (by decide) := by
  by_cases h0 : t.val % 16 = 0
  · rw [outsAt0_A m c t h0]
    frame_out
    rfl
  · rw [outsAt0_B m c t h0]
    frame_out
    rfl

theorem outs_x (c : Dev nD) (t : Fin cfg0.N) : (outsAt0 m c t.val t.isLt).1 = dxV m c t := by
  by_cases h0 : t.val % 16 = 0
  · rw [outsAt0_A m c t h0]
    frame_out
    rfl
  · rw [outsAt0_B m c t h0]
    frame_out
    rfl

/-! ## The accumulators -/

theorem grow {s : Shape} (a v : FVec Ideal s .f32) (j : s.Idx) : addf (again a) v j = a j + v j := by
  rw [again_eq]
  rfl

theorem acc_g (c : Dev nD) (j : S1x1024.Idx) : (outsAt0 m c t0_15.val t0_15.isLt).2.2.2.2.2.1 j
    = Ideal.ofBits .f32 0x00000000#32 + ∑ t : Fin cfg0.N, dgV m c t j := by
  refine (Pipeline.eq_sum_fin_of_reset_step_apply_last (fun n h => (outsAt0 m c n h).2.2.2.2.2.1) 16
    (fun _ => Ideal.ofBits .f32 0x00000000#32) (fun t j => dgV m c t j) ?_ ?_ (by decide) t0_15 rfl j)
  · intro t h j
    rw [outsAt0_A m c t h]
    frame_out
    exact grow _ (dgV m c t) j
  · intro t h j
    rw [outsAt0_B m c t h]
    frame_out
    exact grow _ (dgV m c t) j

theorem acc_sh (c : Dev nD) (j : S1x1024.Idx) : (outsAt0 m c t0_15.val t0_15.isLt).2.2.2.2.2.2.1 j
    = Ideal.ofBits .f32 0x00000000#32 + ∑ t : Fin cfg0.N, dshV m c t j := by
  refine (Pipeline.eq_sum_fin_of_reset_step_apply_last (fun n h => (outsAt0 m c n h).2.2.2.2.2.2.1) 16
    (fun _ => Ideal.ofBits .f32 0x00000000#32) (fun t j => dshV m c t j) ?_ ?_ (by decide) t0_15 rfl j)
  · intro t h j
    rw [outsAt0_A m c t h]
    frame_out
    exact grow _ (dshV m c t) j
  · intro t h j
    rw [outsAt0_B m c t h]
    frame_out
    exact grow _ (dshV m c t) j

theorem acc_sc (c : Dev nD) (j : S1x1024.Idx) : (outsAt0 m c t0_15.val t0_15.isLt).2.2.2.2.2.2.2.1 j
    = Ideal.ofBits .f32 0x00000000#32 + ∑ t : Fin cfg0.N, dscV m c t j := by
  refine (Pipeline.eq_sum_fin_of_reset_step_apply_last (fun n h => (outsAt0 m c n h).2.2.2.2.2.2.2.1) 16
    (fun _ => Ideal.ofBits .f32 0x00000000#32) (fun t j => dscV m c t j) ?_ ?_ (by decide) t0_15 rfl j)
  · intro t h j
    rw [outsAt0_A m c t h]
    frame_out
    exact grow _ (dscV m c t) j
  · intro t h j
    rw [outsAt0_B m c t h]
    frame_out
    exact grow _ (dscV m c t) j

theorem acc_qg (c : Dev nD) (j : S1x256.Idx) : (outsAt0 m c t0_15.val t0_15.isLt).2.2.2.2.2.2.2.2.1 j
    = Ideal.ofBits .f32 0x00000000#32 + ∑ t : Fin cfg0.N, dqgV m c t j := by
  refine (Pipeline.eq_sum_fin_of_reset_step_apply_last (fun n h => (outsAt0 m c n h).2.2.2.2.2.2.2.2.1) 16
    (fun _ => Ideal.ofBits .f32 0x00000000#32) (fun t j => dqgV m c t j) ?_ ?_ (by decide) t0_15 rfl j)
  · intro t h j
    rw [outsAt0_A m c t h]
    frame_out
    exact grow _ (dqgV m c t) j
  · intro t h j
    rw [outsAt0_B m c t h]
    frame_out
    exact grow _ (dqgV m c t) j

theorem acc_hg (c : Dev nD) (j : S1x128.Idx) : (outsAt0 m c t0_15.val t0_15.isLt).2.2.2.2.2.2.2.2.2 j
    = Ideal.ofBits .f32 0x00000000#32 + ∑ t : Fin cfg0.N, dhgV m c t j := by
  refine (Pipeline.eq_sum_fin_of_reset_step_apply_last (fun n h => (outsAt0 m c n h).2.2.2.2.2.2.2.2.2) 16
    (fun _ => Ideal.ofBits .f32 0x00000000#32) (fun t j => dhgV m c t j) ?_ ?_ (by decide) t0_15 rfl j)
  · intro t h j
    rw [outsAt0_A m c t h]
    frame_out
    exact grow _ (dhgV m c t) j
  · intro t h j
    rw [outsAt0_B m c t h]
    frame_out
    exact grow _ (dhgV m c t) j

end Cert.QIdeal.Result

end
-- ==== Proof.QHost.lean ====
/-
  The arrays that the query's call finds, entry by entry: sixteen heads of 96 columns with 32 zeros after each, the rotation's tables
  over a head's 128 lanes, and the two gains side by side.
-/
module

public import proofs.«01_k».proof.Proof.QArgs
public import proofs.«01_k».proof.Proof.QTile
public import Idealize.ShloMosaic.Lib.Pipeline.ValueKit
public import Idealize.ShloMosaic.Lib.KernelVsHost

@[expose] public section

set_option maxRecDepth 16384

noncomputable section

namespace Cert.Query.Host

open Cert.QIdeal Cert.QIdeal.Gen Cert.Head Cert.Query.Tile Idealize.ShloMosaic

/-! ## Heads of 96 columns in heads of 128 -/

abbrev H3 (n k : ℕ) : Shape := ⟨3, ![n, 16, k]⟩
abbrev H2 (n k : ℕ) : Shape := ⟨2, ![n, k]⟩

theorem padded_in {n : ℕ} (y : FVec Ideal (H3 n 96) .f32) (z : FVec Ideal S_ .f32) (hp : (H3 n 96).Pads (![0, 0, 0] : Fin 3 → ℕ) ![0, 0, 32] ![0, 0, 0] (H3 n 128))
    (hs) (hc) (r : Fin n) (h : Fin 16) (e : Fin 96) (l : Fin 128) (hl : l.val = e.val) :
    shapeCast (H2 n 2048) (pad (H3 n 128) ![0, 0, 0] ![0, 0, 32] ![0, 0, 0] y z hp hs) hc (ix2 r (lane16 h l)) = y (ix3 r h e) := by
  refine (shapeCast_apply _ _ (ix2 r (lane16 h l)) (ix3 r h l) ?_).trans ?_
  · rw [Shape.rowMajor_val_three, Shape.rowMajor_val_two]
    show (r.val * 16 + h.val) * 128 + l.val = r.val * 2048 + (h.val * 128 + l.val)
    omega
  refine pad_apply_of_inside _ _ _ _ _ _ _ _ (ix3 r h e) ?_
  intro a
  match a with
  | ⟨0, _⟩ => show r.val = 0 + r.val * (0 + 1); omega
  | ⟨1, _⟩ => show h.val = 0 + h.val * (0 + 1); omega
  | ⟨2, _⟩ => show l.val = 0 + e.val * (0 + 1); omega
theorem padded_out {n : ℕ} (y : FVec Ideal (H3 n 96) .f32) (z : FVec Ideal S_ .f32) (hp : (H3 n 96).Pads (![0, 0, 0] : Fin 3 → ℕ) ![0, 0, 32] ![0, 0, 0] (H3 n 128))
    (hs) (hc) (r : Fin n) (h : Fin 16) (d : Fin 32) :
    shapeCast (H2 n 2048) (pad (H3 n 128) ![0, 0, 0] ![0, 0, 32] ![0, 0, 0] y z hp hs) hc (ix2 r (lane16 h (ul d))) = z (Shape.Idx.first hs) := by
  refine (shapeCast_apply _ _ (ix2 r (lane16 h (ul d))) (ix3 r h (ul d)) ?_).trans ?_
  · rw [Shape.rowMajor_val_three, Shape.rowMajor_val_two]
    show (r.val * 16 + h.val) * 128 + (96 + d.val) = r.val * 2048 + (h.val * 128 + (96 + d.val))
    omega
  refine pad_apply_of_not_inside _ _ _ _ _ _ _ _ (2 : Fin 3) ?_
  rintro ⟨-, -, hlt⟩
  have hlt' : (96 + d.val - 0) / (0 + 1) < 96 := hlt
  omega
theorem split_apply {n : ℕ} (x : FVec Ideal (H2 n 1536) .f32) (hc) (r : Fin n) (h : Fin 16) (e : Fin 96) :
    shapeCast (H3 n 96) x hc (ix3 r h e) = x (ix2 r (col h e)) := by
  refine shapeCast_apply x _ _ (ix2 r (col h e)) ?_
  rw [Shape.rowMajor_val_three, Shape.rowMajor_val_two]
  show r.val * 1536 + (h.val * 96 + e.val) = (r.val * 16 + h.val) * 96 + e.val
  omega

def zero32 : FVec Ideal S_ .f32 := sitofp (F := Ideal) .f32 (constantI S_ 32 0#32)
theorem zero32_apply (i : S_.Idx) : zero32 i = 0 := by
  show ((((0#32 : BitVec 32).toInt : ℝ)) : EReal) = 0
  norm_num

/-- The up-projection with zero columns. -/
def wide (x : FVec Ideal S256x1536 .f32) : FVec Ideal S256x2048 .bf16 :=
  truncf (F := Ideal) .bf16 (shapeCast S256x2048 (pad S256x16x128 ![0, 0, 0] ![0, 0, 32] ![0, 0, 0]
    (shapeCast S256x16x96 x shapeCasts_S256x1536_S256x16x96 : FVec Ideal S256x16x96 .f32) zero32
    pads_S256x16x96_S256x16x128_000_000_0320 h_S_) shapeCasts_S256x16x128_S256x2048 : FVec Ideal S256x2048 .f32) bitsLt_bf16_f32
theorem wide_N (x : FVec Ideal S256x1536 .f32) (k : Fin 256) (h : Fin 16) (d : Fin 64) :
    wide x (ix2 k (lane16 h (pl d))) = x (ix2 k (col h (lN d))) :=
  (padded_in _ _ pads_S256x16x96_S256x16x128_000_000_0320 _ _ k h (lN d) (pl d) rfl).trans (split_apply x _ k h _)
theorem wide_R (x : FVec Ideal S256x1536 .f32) (k : Fin 256) (h : Fin 16) (d : Fin 32) :
    wide x (ix2 k (lane16 h (tl d))) = x (ix2 k (col h (lR d))) :=
  (padded_in _ _ pads_S256x16x96_S256x16x128_000_000_0320 _ _ k h (lR d) (tl d) rfl).trans (split_apply x _ k h _)

/-- The cotangent's two parts side by side with zero columns. -/
def both (x : FVec Ideal S4096x16x64 .f32) (y : FVec Ideal S4096x16x32 .f32) : FVec Ideal S4096x2048 .f32 :=
  shapeCast S4096x2048 (pad S4096x16x128 ![0, 0, 0] ![0, 0, 32] ![0, 0, 0]
    (concatenate S4096x16x96 2 [⟨S4096x16x64, x⟩, ⟨S4096x16x32, y⟩] concatenates_S4096x16x64_S4096x16x32_S4096x16x96_d2 : FVec Ideal S4096x16x96 .f32) zero32
    pads_S4096x16x96_S4096x16x128_000_000_0320 h_S_) shapeCasts_S4096x16x128_S4096x2048
theorem both_N (x : FVec Ideal S4096x16x64 .f32) (y : FVec Ideal S4096x16x32 .f32) (r : Fin 4096) (h : Fin 16) (d : Fin 64) :
    both x y (ix2 r (lane16 h (pl d))) = x (ix3 r h d) :=
  (padded_in _ _ pads_S4096x16x96_S4096x16x128_000_000_0320 _ _ r h (lN d) (pl d) rfl).trans (concatenate_pair_apply_left 2 x y
    concatenates_S4096x16x64_S4096x16x32_S4096x16x96_d2 (ix3 r h (lN d)) rfl (ix3 r h d) fun b => match b with
    | ⟨0, _⟩ => rfl
    | ⟨1, _⟩ => rfl
    | ⟨2, _⟩ => rfl)
theorem both_R (x : FVec Ideal S4096x16x64 .f32) (y : FVec Ideal S4096x16x32 .f32) (r : Fin 4096) (h : Fin 16) (d : Fin 32) :
    both x y (ix2 r (lane16 h (tl d))) = y (ix3 r h d) :=
  (padded_in _ _ pads_S4096x16x96_S4096x16x128_000_000_0320 _ _ r h (lR d) (tl d) rfl).trans (concatenate_pair_apply_right 2 x y
    concatenates_S4096x16x64_S4096x16x32_S4096x16x96_d2 (ix3 r h (lR d)) rfl rfl (ix3 r h d) (fun b => match b with
    | ⟨0, _⟩ => fun _ => rfl
    | ⟨1, _⟩ => fun _ => rfl
    | ⟨2, _⟩ => fun hb => absurd rfl hb) (Nat.add_comm d.val 64 : d.val + 64 = 64 + d.val))

/-! ## The tables and the gains -/

def filled (s : Shape) (w : BitVec 32) (h : S_.BroadcastsInDim s ![]) : FVec Ideal s .f32 := broadcastInDim s ![] h (constant (F := Ideal) S_ .f32 w)
/-- A table of 16 columns twice on the rotated lanes, and the word `w` on the lanes without position. -/
def table (w : BitVec 32) (x : FVec Ideal S4096x16 .f32) : FVec Ideal S4096x128 .f32 :=
  concatenate S4096x128 1 [⟨S4096x64, filled S4096x64 w bcast_S_S4096x64⟩, ⟨S4096x16, x⟩, ⟨S4096x16, x⟩,
    ⟨S4096x32, filled S4096x32 0x00000000#32 bcast_S_S4096x32⟩] concatenates_S4096x64_S4096x16_S4096x16_S4096x32_S4096x128_d1
theorem table_pl (w : BitVec 32) (x : FVec Ideal S4096x16 .f32) (r : Fin 4096) (d : Fin 64) :
    table w x (ix2 r (pl d)) = Ideal.ofBits .f32 w := by
  unfold table
  refine (concatenate_apply_piece 1 _ _ (ix2 r (pl d)) 0 (by simp) S4096x64 (filled S4096x64 w bcast_S_S4096x64) (by rfl) rfl 0 (by rfl) (ix2 r d)
    (fun b => ?_) (Nat.zero_add _)).trans rfl
  match b with
  | ⟨0, _⟩ => exact fun _ => rfl
  | ⟨1, _⟩ => exact fun hb => absurd rfl hb
theorem table_tl (w : BitVec 32) (x : FVec Ideal S4096x16 .f32) (r : Fin 4096) (d : Fin 32) :
    table w x (ix2 r (tl d)) = x (ix2 r ⟨d.val % 16, Nat.mod_lt _ (by decide)⟩) := by
  have hd := d.isLt
  unfold table
  by_cases h : d.val < 16
  · refine concatenate_apply_piece 1 _ _ (ix2 r (tl d)) 1 (by simp) S4096x16 x (by rfl) rfl 64 (by rfl) _ (fun b => ?_)
      (by show 64 + d.val % 16 = 64 + d.val; omega)
    match b with
    | ⟨0, _⟩ => exact fun _ => rfl
    | ⟨1, _⟩ => exact fun hb => absurd rfl hb
  · refine concatenate_apply_piece 1 _ _ (ix2 r (tl d)) 2 (by simp) S4096x16 x (by rfl) rfl 80 (by rfl) _ (fun b => ?_)
      (by show 80 + d.val % 16 = 64 + d.val; omega)
    match b with
    | ⟨0, _⟩ => exact fun _ => rfl
    | ⟨1, _⟩ => exact fun hb => absurd rfl hb

/-- The two gains side by side, then zeros. -/
def pair (x : FVec Ideal S64 .f32) (y : FVec Ideal S32 .f32) : FVec Ideal S1x128 .f32 :=
  shapeCast S1x128 (concatenate S128 0 [⟨S64, x⟩, ⟨S32, y⟩, ⟨S32, filled S32 0x00000000#32 bcast_S_S32⟩] concatenates_S64_S32_S32_S128_d0 : FVec Ideal S128 .f32)
    shapeCasts_S128_S1x128
theorem pair_flat (x : FVec Ideal S128 .f32) (hc) (l : Fin 128) : shapeCast S1x128 x hc (ix2 0 l) = x (ix1 l) := shapeCast_apply _ _ (ix2 0 l) (ix1 l) (by
  rw [Shape.rowMajor_val_one, Shape.rowMajor_val_two]
  show l.val = 0 * 128 + l.val
  omega)
theorem pair_pl (x : FVec Ideal S64 .f32) (y : FVec Ideal S32 .f32) (d : Fin 64) : pair x y (ix2 0 (pl d)) = x (ix1 d) := by
  refine (pair_flat _ _ _).trans (concatenate_apply_piece 0 _ _ (ix1 (pl d)) 0 (by simp) S64 x (by rfl) rfl 0 (by rfl) (ix1 d) (fun b => ?_) (Nat.zero_add _))
  match b with
  | ⟨0, _⟩ => exact fun hb => absurd rfl hb
theorem pair_tl (x : FVec Ideal S64 .f32) (y : FVec Ideal S32 .f32) (d : Fin 32) : pair x y (ix2 0 (tl d)) = y (ix1 d) := by
  refine (pair_flat _ _ _).trans (concatenate_apply_piece 0 _ _ (ix1 (tl d)) 1 (by simp) S32 y (by rfl) rfl 64 (by rfl) (ix1 d) (fun b => ?_) rfl)
  match b with
  | ⟨0, _⟩ => exact fun hb => absurd rfl hb

end Cert.Query.Host

end
-- ==== Proof.QRef.lean ====
/-
  The stages of the query's derivative, as the functions of its arguments.
-/
module

public import proofs.«01_k».proof.Proof.Gen.QRefIdeal.Read
public import proofs.«01_k».proof.Proof.QArgs
public import Idealize.ShloMosaic.Lib.KernelVsHost

@[expose] public section

set_option maxRecDepth 16384

noncomputable section

namespace Cert.QRefIdeal.Rows

open Cert.QRefIdeal Cert.QRefIdeal.Gen Cert.QRefIdeal.Read Cert.Query Cert.Head Idealize.ShloMosaic

/-- The two halves of the rotated lanes. -/
def lowHalf (d : Fin 16) : Fin 32 := ⟨d.val, by have := d.isLt; omega⟩
def highHalf (d : Fin 16) : Fin 32 := ⟨16 + d.val, by have := d.isLt; omega⟩

/-- The host's sum over the first two of three axes. -/
theorem sum_rows {m n l : ℕ} (hr : (⟨3, ![m, n, l]⟩ : Shape).ReducesTo [0, 1] ⟨1, ![l]⟩) (hu : 0 < S_.numel)
    (v : FVec Ideal ⟨3, ![m, n, l]⟩ .f32) (z : FVec Ideal S_ .f32) (j : Fin l) :
    Host.reduceAdd v z hr hu (ix1 j) = z (Shape.Idx.first hu) + ∑ p : Fin m, ∑ q : Fin n, v (ix3 p q j) := by
  refine congrArg (z (Shape.Idx.first hu) + ·) ?_
  rw [← Finset.sum_product']
  refine Finset.sum_bij' (fun i _ => ((i 0 : Fin m), (i 1 : Fin n))) (fun k _ => ix3 k.1 k.2 j) (fun i _ => Finset.mem_univ _)
    (fun k _ => Finset.mem_filter.2 ⟨Finset.mem_univ _, funext fun a => match a with | ⟨0, _⟩ => rfl⟩)
    (fun i hi => ?_) (fun k _ => rfl) (fun i hi => ?_)
  all_goals
    have e : (i 2 : Fin l) = j := congrFun (Finset.mem_filter.1 hi).2 0
  · exact funext fun a => match a with | ⟨0, _⟩ => rfl | ⟨1, _⟩ => rfl | ⟨2, _⟩ => e.symm
  · exact congrArg v (funext fun a => match a with | ⟨0, _⟩ => rfl | ⟨1, _⟩ => rfl | ⟨2, _⟩ => e)

variable {x0 x13 : (⟨S4096x1024, .f32⟩ : BufTy).Contents (Elt Ideal)} {x1 : (⟨S1024, .f32⟩ : BufTy).Contents (Elt Ideal)}
  {x2 x3 : (⟨S1x1024, .f32⟩ : BufTy).Contents (Elt Ideal)} {x4 : (⟨S256, .f32⟩ : BufTy).Contents (Elt Ideal)}
  {x5 : (⟨S64, .f32⟩ : BufTy).Contents (Elt Ideal)} {x6 : (⟨S32, .f32⟩ : BufTy).Contents (Elt Ideal)}
  {x7 : (⟨S1024x256, .f32⟩ : BufTy).Contents (Elt Ideal)} {x8 : (⟨S256x1536, .f32⟩ : BufTy).Contents (Elt Ideal)}
  {x9 x10 : (⟨S4096x16, .f32⟩ : BufTy).Contents (Elt Ideal)} {x11 : (⟨S4096x16x64, .f32⟩ : BufTy).Contents (Elt Ideal)}
  {x12 : (⟨S4096x16x32, .f32⟩ : BufTy).Contents (Elt Ideal)}

variable (x0 x1 x2 x3 x4 x5 x6 x7 x8 x9 x10 x11 x12 x13) in
/-- The arguments, entry by entry. -/
def args : Args where
  X r d := x0 (ix2 r d)
  g d := x1 (ix1 d)
  sh d := x2 (ix2 0 d)
  sc d := x3 (ix2 0 d)
  qg k := x4 (ix1 k)
  gN d := x5 (ix1 d)
  gR d := x6 (ix1 d)
  wd d k := x7 (ix2 d k)
  wu k c := x8 (ix2 k c)
  co r d := x9 (ix2 r d)
  si r d := x10 (ix2 r d)
  cN r h d := x11 (ix3 r h d)
  cR r h d := x12 (ix3 r h d)
  DX r d := x13 (ix2 r d)

variable (r : Fin 4096) (d : Fin 1024) (k : Fin 256) (h : Fin 16)

theorem one_lit : (FloatOps.ofBits .f32 0x3F800000#32 : Ideal .f32) = (1 : EReal) := Ideal.ofBits_one_f32
theorem zero_lit : (FloatOps.ofBits .f32 0x00000000#32 : Ideal .f32) = (0 : EReal) := Ideal.ofBits_zero_f32

theorem at1 (j : Fin 1024) : idx_main_v1 (idx_main_v2 (ix2 r 0)) j = ix2 r j := funext fun a => match a with
  | ⟨0, _⟩ => rfl
  | ⟨1, _⟩ => rfl
theorem at24 (j : Fin 256) : idx_main_v24 (idx_main_v25 (ix2 r 0)) j = ix2 r j := funext fun a => match a with
  | ⟨0, _⟩ => rfl
  | ⟨1, _⟩ => rfl
theorem at11 : idx_main_v11 (ix2 r d) = ix2 r 0 := funext fun a => match a with
  | ⟨0, _⟩ => rfl
  | ⟨1, _⟩ => rfl
theorem at186 : idx_main_v186 (ix2 r d) = ix2 r 0 := funext fun a => match a with
  | ⟨0, _⟩ => rfl
  | ⟨1, _⟩ => rfl
theorem at34 : idx_main_v34 (ix2 r k) = ix2 r 0 := funext fun a => match a with
  | ⟨0, _⟩ => rfl
  | ⟨1, _⟩ => rfl
theorem at157 : idx_main_v157 (ix2 r k) = ix2 r 0 := funext fun a => match a with
  | ⟨0, _⟩ => rfl
  | ⟨1, _⟩ => rfl
theorem at14 : idx_main_v13 (idx_main_v14 (ix2 r d)) = ix1 d := funext fun a => match a with
  | ⟨0, _⟩ => rfl
theorem at180 : idx_main_v13 (idx_main_v180 (ix2 r d)) = ix1 d := funext fun a => match a with
  | ⟨0, _⟩ => rfl
theorem at37 : idx_main_v36 (idx_main_v37 (ix2 r k)) = ix1 k := funext fun a => match a with
  | ⟨0, _⟩ => rfl
theorem at151 : idx_main_v36 (idx_main_v151 (ix2 r k)) = ix1 k := funext fun a => match a with
  | ⟨0, _⟩ => rfl
theorem at18 : idx_main_v18 (ix2 r d) = ix2 0 d := funext fun a => match a with
  | ⟨0, _⟩ => rfl
  | ⟨1, _⟩ => rfl
theorem at20 : idx_main_v20 (ix2 r d) = ix2 0 d := funext fun a => match a with
  | ⟨0, _⟩ => rfl
  | ⟨1, _⟩ => rfl
theorem at175 : idx_main_v175 (ix2 r d) = ix2 0 d := funext fun a => match a with
  | ⟨0, _⟩ => rfl
  | ⟨1, _⟩ => rfl
theorem at22 (j : Fin 1024) : lidx_main_v22 (ix2 r k) j = ix2 r j := funext fun a => match a with
  | ⟨0, _⟩ => rfl
  | ⟨1, _⟩ => rfl
theorem at22' (j : Fin 1024) : ridx_main_v22 (ix2 r k) j = ix2 j k := funext fun a => match a with
  | ⟨0, _⟩ => rfl
  | ⟨1, _⟩ => rfl
theorem at39 (c : Fin 1536) (j : Fin 256) : lidx_main_v39 (ix2 r c) j = ix2 r j := funext fun a => match a with
  | ⟨0, _⟩ => rfl
  | ⟨1, _⟩ => rfl
theorem at39' (c : Fin 1536) (j : Fin 256) : ridx_main_v39 (ix2 r c) j = ix2 j c := funext fun a => match a with
  | ⟨0, _⟩ => rfl
  | ⟨1, _⟩ => rfl
theorem at40 (e : Fin 96) : idx_main_v40 (ix3 r h e) = ix2 r (col h e) := funext fun a => match a with
  | ⟨0, _⟩ => Fin.ext (by have := h.isLt; have := e.isLt; show ((r.val * 16 + h.val) * 96 + e.val) / 1536 = r.val; omega)
  | ⟨1, _⟩ => Fin.ext (by have := h.isLt; have := e.isLt; show ((r.val * 16 + h.val) * 96 + e.val) % 1536 = h.val * 96 + e.val; omega)
theorem at145 (e : Fin 96) : idx_main_v145 (ix2 r (col h e)) = ix3 r h e := funext fun a => match a with
  | ⟨0, _⟩ => Fin.ext (by have := h.isLt; have := e.isLt; show (r.val * 1536 + (h.val * 96 + e.val)) / 1536 = r.val; omega)
  | ⟨1, _⟩ => Fin.ext (by have := h.isLt; have := e.isLt; show (r.val * 1536 + (h.val * 96 + e.val)) / 96 % 16 = h.val; omega)
  | ⟨2, _⟩ => Fin.ext (by have := h.isLt; have := e.isLt; show (r.val * 1536 + (h.val * 96 + e.val)) % 96 = e.val; omega)
theorem at41 (d : Fin 64) : idx_main_v41 (ix3 r h d) = ix3 r h (lN d) := funext fun a => match a with
  | ⟨0, _⟩ => rfl
  | ⟨1, _⟩ => rfl
  | ⟨2, _⟩ => rfl
theorem at42 (d : Fin 32) : idx_main_v42 (ix3 r h d) = ix3 r h (lR d) := funext fun a => match a with
  | ⟨0, _⟩ => rfl
  | ⟨1, _⟩ => rfl
  | ⟨2, _⟩ => rfl
theorem at44 (d : Fin 64) : idx_main_v44 (idx_main_v45 (ix3 r h 0)) d = ix3 r h d := funext fun a => match a with
  | ⟨0, _⟩ => rfl
  | ⟨1, _⟩ => rfl
  | ⟨2, _⟩ => rfl
theorem at60 (d : Fin 32) : idx_main_v60 (idx_main_v61 (ix3 r h 0)) d = ix3 r h d := funext fun a => match a with
  | ⟨0, _⟩ => rfl
  | ⟨1, _⟩ => rfl
  | ⟨2, _⟩ => rfl
theorem at54 (d : Fin 64) : idx_main_v54 (ix3 r h d) = ix3 r h 0 := funext fun a => match a with
  | ⟨0, _⟩ => rfl
  | ⟨1, _⟩ => rfl
  | ⟨2, _⟩ => rfl
theorem at133 (d : Fin 64) : idx_main_v133 (ix3 r h d) = ix3 r h 0 := funext fun a => match a with
  | ⟨0, _⟩ => rfl
  | ⟨1, _⟩ => rfl
  | ⟨2, _⟩ => rfl
theorem at70 (d : Fin 32) : idx_main_v70 (ix3 r h d) = ix3 r h 0 := funext fun a => match a with
  | ⟨0, _⟩ => rfl
  | ⟨1, _⟩ => rfl
  | ⟨2, _⟩ => rfl
theorem at113 (d : Fin 32) : idx_main_v113 (ix3 r h d) = ix3 r h 0 := funext fun a => match a with
  | ⟨0, _⟩ => rfl
  | ⟨1, _⟩ => rfl
  | ⟨2, _⟩ => rfl
theorem at127 (d : Fin 64) : idx_main_v56 (idx_main_v127 (ix3 r h d)) = ix1 d := funext fun a => match a with
  | ⟨0, _⟩ => rfl
theorem at107 (d : Fin 32) : idx_main_v72 (idx_main_v107 (ix3 r h d)) = ix1 d := funext fun a => match a with
  | ⟨0, _⟩ => rfl
theorem at92 (d : Fin 16) : idx_main_v77 (idx_main_v92 (ix3 r h d)) = ix2 r d := funext fun a => match a with
  | ⟨0, _⟩ => rfl
  | ⟨1, _⟩ => rfl
theorem at100 (d : Fin 16) : idx_main_v77 (idx_main_v100 (ix3 r h d)) = ix2 r d := funext fun a => match a with
  | ⟨0, _⟩ => rfl
  | ⟨1, _⟩ => rfl
theorem at94 (d : Fin 16) : idx_main_v78 (idx_main_v94 (ix3 r h d)) = ix2 r d := funext fun a => match a with
  | ⟨0, _⟩ => rfl
  | ⟨1, _⟩ => rfl
theorem at97 (d : Fin 16) : idx_main_v78 (idx_main_v97 (ix3 r h d)) = ix2 r d := funext fun a => match a with
  | ⟨0, _⟩ => rfl
  | ⟨1, _⟩ => rfl
theorem at90 (d : Fin 16) : idx_main_v90 (ix3 r h d) = ix3 r h (lowHalf d) := funext fun a => match a with
  | ⟨0, _⟩ => rfl
  | ⟨1, _⟩ => rfl
  | ⟨2, _⟩ => rfl
theorem at91 (d : Fin 16) : idx_main_v91 (ix3 r h d) = ix3 r h (highHalf d) := funext fun a => match a with
  | ⟨0, _⟩ => rfl
  | ⟨1, _⟩ => rfl
  | ⟨2, _⟩ => rfl
theorem at111 (d : Fin 32) : idx_main_v111 (idx_main_v112 (ix3 r h 0)) d = ix3 r h d := funext fun a => match a with
  | ⟨0, _⟩ => Fin.ext (by have := h.isLt; show ((r.val * 16 + h.val) * 1 + 0) / 16 = r.val; omega)
  | ⟨1, _⟩ => Fin.ext (by have := h.isLt; show ((r.val * 16 + h.val) * 1 + 0) % 16 = h.val; omega)
  | ⟨2, _⟩ => rfl
theorem at131 (d : Fin 64) : idx_main_v131 (idx_main_v132 (ix3 r h 0)) d = ix3 r h d := funext fun a => match a with
  | ⟨0, _⟩ => Fin.ext (by have := h.isLt; show ((r.val * 16 + h.val) * 1 + 0) / 16 = r.val; omega)
  | ⟨1, _⟩ => Fin.ext (by have := h.isLt; show ((r.val * 16 + h.val) * 1 + 0) % 16 = h.val; omega)
  | ⟨2, _⟩ => rfl
theorem at118 (d : Fin 32) : idx_main_v118 (idx_main_v119 (ix3 r h d)) 0 = ix3 r h 0 := funext fun a => match a with
  | ⟨0, _⟩ => rfl
  | ⟨1, _⟩ => rfl
  | ⟨2, _⟩ => rfl
theorem at138 (d : Fin 64) : idx_main_v138 (idx_main_v139 (ix3 r h d)) 0 = ix3 r h 0 := funext fun a => match a with
  | ⟨0, _⟩ => rfl
  | ⟨1, _⟩ => rfl
  | ⟨2, _⟩ => rfl
theorem at147 (j : Fin 1536) : lidx_main_v147 (ix2 r k) j = ix2 r j := funext fun a => match a with
  | ⟨0, _⟩ => rfl
  | ⟨1, _⟩ => rfl
theorem at147' (j : Fin 1536) : idx_main_v146 (ridx_main_v147 (ix2 r k) j) = ix2 k j := funext fun a => match a with
  | ⟨0, _⟩ => rfl
  | ⟨1, _⟩ => rfl
theorem at169 (j : Fin 256) : lidx_main_v169 (ix2 r d) j = ix2 r j := funext fun a => match a with
  | ⟨0, _⟩ => rfl
  | ⟨1, _⟩ => rfl
theorem at169' (j : Fin 256) : idx_main_v168 (ridx_main_v169 (ix2 r d) j) = ix2 d j := funext fun a => match a with
  | ⟨0, _⟩ => rfl
  | ⟨1, _⟩ => rfl
theorem at155 (j : Fin 256) : idx_main_v155 (idx_main_v156 (ix2 r 0)) j = ix2 r j := funext fun a => match a with
  | ⟨0, _⟩ => Fin.ext (by show r.val * 1 + 0 = r.val; omega)
  | ⟨1, _⟩ => rfl
theorem at184 (j : Fin 1024) : idx_main_v184 (idx_main_v185 (ix2 r 0)) j = ix2 r j := funext fun a => match a with
  | ⟨0, _⟩ => Fin.ext (by show r.val * 1 + 0 = r.val; omega)
  | ⟨1, _⟩ => rfl
theorem at162 : idx_main_v162 (idx_main_v163 (ix2 r k)) 0 = ix2 r 0 := funext fun a => match a with
  | ⟨0, _⟩ => rfl
  | ⟨1, _⟩ => rfl
theorem at191 : idx_main_v191 (idx_main_v192 (ix2 r d)) 0 = ix2 r 0 := funext fun a => match a with
  | ⟨0, _⟩ => rfl
  | ⟨1, _⟩ => rfl
theorem at170 (j : Fin 4096) : idx_main_v170 (idx_main_v171 (ix2 0 d)) j = ix2 j d := funext fun a => match a with
  | ⟨0, _⟩ => rfl
  | ⟨1, _⟩ => Fin.ext (by show 0 * 1024 + d.val = d.val; omega)
theorem at173 (j : Fin 4096) : idx_main_v173 (idx_main_v174 (ix2 0 d)) j = ix2 j d := funext fun a => match a with
  | ⟨0, _⟩ => rfl
  | ⟨1, _⟩ => Fin.ext (by show 0 * 1024 + d.val = d.val; omega)
theorem at178 (j : Fin 4096) : idx_main_v178 (idx_main_v179 (idx_main_v182 (idx_main_v208 (ix2 0 d)) 0)) j = ix2 j d := funext fun a => match a with
  | ⟨0, _⟩ => rfl
  | ⟨1, _⟩ => Fin.ext (by show 0 * 1024 + (0 * 1024 + d.val) = d.val; omega)
theorem at149 (j : Fin 4096) : idx_main_v149 (idx_main_v150 (idx_main_v153 (idx_main_v209 (ix2 0 k)) 0)) j = ix2 j k := funext fun a => match a with
  | ⟨0, _⟩ => rfl
  | ⟨1, _⟩ => Fin.ext (by show 0 * 256 + (0 * 256 + k.val) = k.val; omega)
theorem at106 (d : Fin 32) : idx_main_v106 (ix3 0 0 d) = ix1 d := funext fun a => match a with
  | ⟨0, _⟩ => Fin.ext (by show (0 * 1 + 0) * 32 + d.val = d.val; omega)
theorem at126 (d : Fin 64) : idx_main_v126 (ix3 0 0 d) = ix1 d := funext fun a => match a with
  | ⟨0, _⟩ => Fin.ext (by show (0 * 1 + 0) * 64 + d.val = d.val; omega)

variable {a : Args} (ha : args x0 x13 x1 x2 x3 x4 x5 x6 x7 x8 x9 x10 x11 x12 = a)
variable {r d k h} {c : Fin 1536} {n : Fin 64} {t : Fin 32} {s : Fin 16}
include ha

theorem r6 : val_main_v6 (F := Ideal) x0 (ix2 r 0) = Rms.ms w1024 (a.X r) := by
  rw [val_main_v6_apply, val_main_v4_apply, val_main_v2_apply, val_main_v1_apply, val_main_v3_apply, val_main_v5_apply, val_main_cst_apply, val_main_cst_0_apply, val_main_cst_1_apply, zero_lit, zero_add]
  simp only [val_main_v0_apply, at1]
  subst ha
  rfl
theorem r7 : val_main_v7 (F := Ideal) x0 (ix2 r 0) = Rms.rs w1024 (a.X r) := by
  rw [val_main_v7_apply, r6 ha]
  subst ha
  rfl
theorem r10 : val_main_v10 (F := Ideal) x0 (ix2 r 0) = Rms.minusHalf * Ideal.div (Rms.rs w1024 (a.X r)) (Rms.ms w1024 (a.X r)) := by
  rw [val_main_v10_apply, val_main_v9_apply, val_main_cst_2_apply, val_main_v8_apply, r6 ha, r7 ha]
  subst ha
  rfl
theorem r12 : val_main_v12 (F := Ideal) x0 (ix2 r d) = Rms.nrm w1024 (a.X r) d := by
  rw [val_main_v12_apply, val_main_v11_apply, at11, r7 ha]
  subst ha
  rfl
theorem r15 : val_main_v15 (F := Ideal) x0 x1 (ix2 r d) = Rms.nrm w1024 (a.X r) d * a.g d := by
  rw [val_main_v15_apply, val_main_v14_apply, val_main_v13_apply, at14, r12 ha]
  subst ha
  rfl
theorem r17 : val_main_v17 (F := Ideal) x3 (ix2 0 d) = 1 + a.sc d := by
  rw [val_main_v17_apply, val_main_v16_apply, val_main_cst_3_apply, one_lit]
  subst ha
  rfl
theorem r21 : val_main_v21 (F := Ideal) x0 x1 x2 x3 (ix2 r d) = a.hid r d := by
  rw [val_main_v21_apply, val_main_v19_apply, val_main_v18_apply, val_main_v20_apply, at18, at20, r15 ha, r17 ha]
  subst ha
  rfl
theorem r22 : val_main_v22 (F := Ideal) x0 x1 x2 x3 x7 (ix2 r k) = a.lat r k := by
  rw [val_main_v22_apply]
  simp only [at22, at22', r21 ha]
  subst ha
  rfl
theorem r29 : val_main_v29 (F := Ideal) x0 x1 x2 x3 x7 (ix2 r 0) = Rms.ms w256 (a.lat r) := by
  rw [val_main_v29_apply, val_main_v27_apply, val_main_v25_apply, val_main_v24_apply, val_main_v26_apply, val_main_v28_apply, val_main_cst_4_apply, val_main_cst_5_apply, val_main_cst_6_apply, zero_lit, zero_add]
  simp only [val_main_v23_apply, at24, r22 ha]
  rfl
theorem r30 : val_main_v30 (F := Ideal) x0 x1 x2 x3 x7 (ix2 r 0) = Rms.rs w256 (a.lat r) := by
  rw [val_main_v30_apply, r29 ha]
  rfl
theorem r33 : val_main_v33 (F := Ideal) x0 x1 x2 x3 x7 (ix2 r 0) = Rms.minusHalf * Ideal.div (Rms.rs w256 (a.lat r)) (Rms.ms w256 (a.lat r)) := by
  rw [val_main_v33_apply, val_main_v32_apply, val_main_cst_7_apply, val_main_v31_apply, r29 ha, r30 ha]
  rfl
theorem r35 : val_main_v35 (F := Ideal) x0 x1 x2 x3 x7 (ix2 r k) = Rms.nrm w256 (a.lat r) k := by
  rw [val_main_v35_apply, val_main_v34_apply, at34, r30 ha, r22 ha]
  rfl
theorem r38 : val_main_v38 (F := Ideal) x0 x1 x2 x3 x4 x7 (ix2 r k) = a.qn r k := by
  rw [val_main_v38_apply, val_main_v37_apply, val_main_v36_apply, at37, r35 ha]
  subst ha
  rfl
theorem r39 : val_main_v39 (F := Ideal) x0 x1 x2 x3 x4 x7 x8 (ix2 r c) = a.q r c := by
  rw [val_main_v39_apply]
  simp only [at39, at39', r38 ha]
  subst ha
  rfl
theorem r41 : val_main_v41 (F := Ideal) x0 x1 x2 x3 x4 x7 x8 (ix3 r h n) = a.qN r h n := by
  rw [val_main_v41_apply, val_main_v40_apply, at41, at40, r39 ha]
  rfl
theorem r42 : val_main_v42 (F := Ideal) x0 x1 x2 x3 x4 x7 x8 (ix3 r h t) = a.qR r h t := by
  rw [val_main_v42_apply, val_main_v40_apply, at42, at40, r39 ha]
  rfl
theorem r49 : val_main_v49 (F := Ideal) x0 x1 x2 x3 x4 x7 x8 (ix3 r h 0) = Rms.ms w64 (a.qN r h) := by
  rw [val_main_v49_apply, val_main_v47_apply, val_main_v45_apply, val_main_v44_apply, val_main_v46_apply, val_main_v48_apply, val_main_cst_8_apply, val_main_cst_9_apply, val_main_cst_10_apply, zero_lit, zero_add]
  simp only [val_main_v43_apply, at44, r41 ha]
  rfl
theorem r50 : val_main_v50 (F := Ideal) x0 x1 x2 x3 x4 x7 x8 (ix3 r h 0) = Rms.rs w64 (a.qN r h) := by
  rw [val_main_v50_apply, r49 ha]
  rfl
theorem r53 : val_main_v53 (F := Ideal) x0 x1 x2 x3 x4 x7 x8 (ix3 r h 0) = Rms.minusHalf * Ideal.div (Rms.rs w64 (a.qN r h)) (Rms.ms w64 (a.qN r h)) := by
  rw [val_main_v53_apply, val_main_v52_apply, val_main_cst_11_apply, val_main_v51_apply, r49 ha, r50 ha]
  rfl
theorem r55 : val_main_v55 (F := Ideal) x0 x1 x2 x3 x4 x7 x8 (ix3 r h n) = Rms.nrm w64 (a.qN r h) n := by
  rw [val_main_v55_apply, val_main_v54_apply, at54, r50 ha, r41 ha]
  rfl
theorem r65 : val_main_v65 (F := Ideal) x0 x1 x2 x3 x4 x7 x8 (ix3 r h 0) = Rms.ms w32 (a.qR r h) := by
  rw [val_main_v65_apply, val_main_v63_apply, val_main_v61_apply, val_main_v60_apply, val_main_v62_apply, val_main_v64_apply, val_main_cst_12_apply, val_main_cst_13_apply, val_main_cst_14_apply, zero_lit, zero_add]
  simp only [val_main_v59_apply, at60, r42 ha]
  rfl
theorem r66 : val_main_v66 (F := Ideal) x0 x1 x2 x3 x4 x7 x8 (ix3 r h 0) = Rms.rs w32 (a.qR r h) := by
  rw [val_main_v66_apply, r65 ha]
  rfl
theorem r69 : val_main_v69 (F := Ideal) x0 x1 x2 x3 x4 x7 x8 (ix3 r h 0) = Rms.minusHalf * Ideal.div (Rms.rs w32 (a.qR r h)) (Rms.ms w32 (a.qR r h)) := by
  rw [val_main_v69_apply, val_main_v68_apply, val_main_cst_15_apply, val_main_v67_apply, r65 ha, r66 ha]
  rfl
theorem r71 : val_main_v71 (F := Ideal) x0 x1 x2 x3 x4 x7 x8 (ix3 r h t) = Rms.nrm w32 (a.qR r h) t := by
  rw [val_main_v71_apply, val_main_v70_apply, at70, r66 ha, r42 ha]
  rfl
theorem r102 : val_main_v102 (F := Ideal) x9 x10 x12 (ix3 r h s) = a.cR r h (highHalf s) * a.si r s + a.cR r h (lowHalf s) * a.co r s := by
  rw [val_main_v102_apply, val_main_v95_apply, val_main_v91_apply, val_main_v94_apply, val_main_v78_apply, val_main_v101_apply, val_main_v90_apply, val_main_v100_apply, val_main_v77_apply, at91, at94, at90, at100]
  subst ha
  rfl
theorem r99 : val_main_v99 (F := Ideal) x9 x10 x12 (ix3 r h s) = a.cR r h (highHalf s) * a.co r s + -a.cR r h (lowHalf s) * a.si r s := by
  rw [val_main_v99_apply, val_main_v93_apply, val_main_v91_apply, val_main_v92_apply, val_main_v77_apply, val_main_v98_apply, val_main_v96_apply, val_main_v90_apply, val_main_v97_apply, val_main_v78_apply, at91, at92, at90, at97]
  subst ha
  rfl
theorem r103 : val_main_v103 (F := Ideal) x9 x10 x12 (ix3 r h t) = a.eR r h t := by
  unfold val_main_v103
  pointwise
  unfold Args.eR unt
  by_cases ht : t.val < 16
  · rw [dif_pos ht, dif_pos ht]
    exact r102 ha
  · rw [dif_neg ht, dif_neg ht]
    refine (r99 ha).trans (congrArg (fun y => y * _ + _) (congrArg (a.cR r h) (Fin.ext ?_)))
    show 16 + (t.val - 16) = t.val
    omega
theorem r108 : val_main_v108 (F := Ideal) x6 x9 x10 x12 (ix3 r h t) = a.eR r h t * a.gR t := by
  rw [val_main_v108_apply, val_main_v107_apply, val_main_v72_apply, at107, r103 ha]
  subst ha
  rfl
theorem r128 : val_main_v128 (F := Ideal) x5 x11 (ix3 r h n) = a.cN r h n * a.gN n := by
  rw [val_main_v128_apply, val_main_v127_apply, val_main_v56_apply, at127]
  subst ha
  rfl
theorem r119 : val_main_v119 (F := Ideal) x0 x1 x2 x3 x4 x6 x7 x8 x9 x10 x12 (ix3 r h t) = Rms.coef w32 (a.qR r h) (fun d => a.eR r h d * a.gR d) := by
  rw [val_main_v119_apply, val_main_v118_apply, Fin.sum_univ_one, val_main_cst_20_apply, zero_lit, zero_add, at118, val_main_v117_apply, val_main_v116_apply, val_main_cst_19_apply, val_main_v115_apply, val_main_v112_apply, val_main_v111_apply, val_main_cst_18_apply, zero_lit, zero_add, r69 ha]
  simp only [val_main_v110_apply, at111, r108 ha, r42 ha]
  rfl
theorem r123 : val_main_v123 (F := Ideal) x0 x1 x2 x3 x4 x6 x7 x8 x9 x10 x12 (ix3 r h t) = a.dR r h t := by
  rw [val_main_v123_apply, val_main_v121_apply, val_main_v114_apply, val_main_v113_apply, val_main_v120_apply, val_main_v122_apply, at113, r119 ha, r108 ha, r66 ha, r42 ha]
  rfl
theorem r139 : val_main_v139 (F := Ideal) x0 x1 x2 x3 x4 x5 x7 x8 x11 (ix3 r h n) = Rms.coef w64 (a.qN r h) (fun d => a.cN r h d * a.gN d) := by
  rw [val_main_v139_apply, val_main_v138_apply, Fin.sum_univ_one, val_main_cst_25_apply, zero_lit, zero_add, at138, val_main_v137_apply, val_main_v136_apply, val_main_cst_24_apply, val_main_v135_apply, val_main_v132_apply, val_main_v131_apply, val_main_cst_23_apply, zero_lit, zero_add, r53 ha]
  simp only [val_main_v130_apply, at131, r128 ha, r41 ha]
  rfl
theorem r143 : val_main_v143 (F := Ideal) x0 x1 x2 x3 x4 x5 x7 x8 x11 (ix3 r h n) = a.dN r h n := by
  rw [val_main_v143_apply, val_main_v141_apply, val_main_v134_apply, val_main_v133_apply, val_main_v140_apply, val_main_v142_apply, at133, r139 ha, r128 ha, r50 ha, r41 ha]
  rfl
theorem r144N : val_main_v144 (F := Ideal) x0 x1 x2 x3 x4 x5 x6 x7 x8 x9 x10 x11 x12 (ix3 r h (lN n)) = a.dN r h n := by
  unfold val_main_v144
  pointwise
  rw [dif_pos (show (lN n).val < 64 from n.isLt)]
  exact r143 ha
theorem r144R : val_main_v144 (F := Ideal) x0 x1 x2 x3 x4 x5 x6 x7 x8 x9 x10 x11 x12 (ix3 r h (lR t)) = a.dR r h t := by
  unfold val_main_v144
  pointwise
  rw [dif_neg (show ¬(lR t).val < 64 by show ¬64 + t.val < 64; omega)]
  refine Eq.trans (congrArg _ (congrArg (ix3 r h) (Fin.ext ?_))) (r123 ha)
  show 64 + t.val - 64 = t.val
  omega
theorem r145N : val_main_v145 (F := Ideal) x0 x1 x2 x3 x4 x5 x6 x7 x8 x9 x10 x11 x12 (ix2 r (col h (lN n))) = a.dN r h n := by
  rw [val_main_v145_apply, at145, r144N ha]
theorem r145R : val_main_v145 (F := Ideal) x0 x1 x2 x3 x4 x5 x6 x7 x8 x9 x10 x11 x12 (ix2 r (col h (lR t))) = a.dR r h t := by
  rw [val_main_v145_apply, at145, r144R ha]
theorem r147 : val_main_v147 (F := Ideal) x0 x1 x2 x3 x4 x5 x6 x7 x8 x9 x10 x11 x12 (ix2 r k) = a.dqn r k := by
  rw [val_main_v147_apply, sum_col]
  simp only [val_main_v146_apply, at147, at147', r145N ha, r145R ha]
  subst ha
  rfl
theorem r152 : val_main_v152 (F := Ideal) x0 x1 x2 x3 x4 x5 x6 x7 x8 x9 x10 x11 x12 (ix2 r k) = a.dqn r k * a.qg k := by
  rw [val_main_v152_apply, val_main_v151_apply, val_main_v36_apply, at151, r147 ha]
  subst ha
  rfl
theorem r163 : val_main_v163 (F := Ideal) x0 x1 x2 x3 x4 x5 x6 x7 x8 x9 x10 x11 x12 (ix2 r k) = Rms.coef w256 (a.lat r) (fun k => a.dqn r k * a.qg k) := by
  rw [val_main_v163_apply, val_main_v162_apply, Fin.sum_univ_one, val_main_cst_30_apply, zero_lit, zero_add, at162, val_main_v161_apply, val_main_v160_apply, val_main_cst_29_apply, val_main_v159_apply, val_main_v156_apply, val_main_v155_apply, val_main_cst_28_apply, zero_lit, zero_add, r33 ha]
  simp only [val_main_v154_apply, at155, r152 ha, r22 ha]
  rfl
theorem r167 : val_main_v167 (F := Ideal) x0 x1 x2 x3 x4 x5 x6 x7 x8 x9 x10 x11 x12 (ix2 r k) = a.dql r k := by
  rw [val_main_v167_apply, val_main_v165_apply, val_main_v158_apply, val_main_v157_apply, val_main_v164_apply, val_main_v166_apply, at157, r163 ha, r152 ha, r30 ha, r22 ha]
  rfl
theorem r169 : val_main_v169 (F := Ideal) x0 x1 x2 x3 x4 x5 x6 x7 x8 x9 x10 x11 x12 (ix2 r d) = a.dh r d := by
  rw [val_main_v169_apply]
  simp only [val_main_v168_apply, at169, at169', r167 ha]
  subst ha
  rfl
theorem r176 : val_main_v176 (F := Ideal) x0 x1 x2 x3 x4 x5 x6 x7 x8 x9 x10 x11 x12 (ix2 r d) = a.dh r d * (1 + a.sc d) := by
  rw [val_main_v176_apply, val_main_v175_apply, at175, r17 ha, r169 ha]
  rfl
theorem r181 : val_main_v181 (F := Ideal) x0 x1 x2 x3 x4 x5 x6 x7 x8 x9 x10 x11 x12 (ix2 r d) = a.dh r d * (1 + a.sc d) * a.g d := by
  rw [val_main_v181_apply, val_main_v180_apply, val_main_v13_apply, at180, r176 ha]
  subst ha
  rfl
theorem r192 : val_main_v192 (F := Ideal) x0 x1 x2 x3 x4 x5 x6 x7 x8 x9 x10 x11 x12 (ix2 r d) = Rms.coef w1024 (a.X r) (fun d => a.dh r d * (1 + a.sc d) * a.g d) := by
  rw [val_main_v192_apply, val_main_v191_apply, Fin.sum_univ_one, val_main_cst_37_apply, zero_lit, zero_add, at191, val_main_v190_apply, val_main_v189_apply, val_main_cst_36_apply, val_main_v188_apply, val_main_v185_apply, val_main_v184_apply, val_main_cst_35_apply, zero_lit, zero_add, r10 ha]
  simp only [val_main_v183_apply, at184, r181 ha]
  subst ha
  rfl
theorem r203 : val_main_v203 (F := Ideal) x0 x1 x2 x3 x4 x5 x6 x7 x8 x9 x10 x11 x12 x13 (ix2 r d) = a.dx r d := by
  rw [val_main_v203_apply, val_main_v196_apply, val_main_v194_apply, val_main_v187_apply, val_main_v186_apply, val_main_v193_apply, val_main_v195_apply, at186, r192 ha, r181 ha, r7 ha]
  subst ha
  rfl
theorem r171 : val_main_v171 (F := Ideal) x0 x1 x2 x3 x4 x5 x6 x7 x8 x9 x10 x11 x12 (ix2 0 d) = a.dsh d := by
  rw [val_main_v171_apply, val_main_v170_apply, val_main_cst_31_apply, zero_lit, zero_add]
  simp only [at170, r169 ha]
  rfl
theorem r174 : val_main_v174 (F := Ideal) x0 x1 x2 x3 x4 x5 x6 x7 x8 x9 x10 x11 x12 (ix2 0 d) = a.dsc d := by
  rw [val_main_v174_apply, val_main_v173_apply, val_main_cst_32_apply, zero_lit, zero_add]
  simp only [val_main_v172_apply, at173, r169 ha, r15 ha]
  rfl
theorem r208 : val_main_v208 (F := Ideal) x0 x1 x2 x3 x4 x5 x6 x7 x8 x9 x10 x11 x12 (ix2 0 d) = a.dg d := by
  rw [val_main_v208_apply, val_main_v182_apply, Fin.sum_univ_one, val_main_cst_34_apply, zero_lit, zero_add, val_main_v179_apply, val_main_v178_apply, val_main_cst_33_apply, zero_lit, zero_add]
  simp only [val_main_v177_apply, at178, r176 ha, r12 ha]
  rfl
theorem r209 : val_main_v209 (F := Ideal) x0 x1 x2 x3 x4 x5 x6 x7 x8 x9 x10 x11 x12 (ix2 0 k) = a.dqg k := by
  rw [val_main_v209_apply, val_main_v153_apply, Fin.sum_univ_one, val_main_cst_27_apply, zero_lit, zero_add, val_main_v150_apply, val_main_v149_apply, val_main_cst_26_apply, zero_lit, zero_add]
  simp only [val_main_v148_apply, at149, r147 ha, r35 ha]
  rfl
theorem r105 : val_main_v105 (F := Ideal) x0 x1 x2 x3 x4 x7 x8 x9 x10 x12 (ix1 t) = a.dgR t := by
  unfold val_main_v105
  refine (sum_rows _ _ _ _ _).trans ?_
  rw [val_main_cst_16_apply, zero_lit, zero_add]
  refine Finset.sum_congr rfl fun r _ => Finset.sum_congr rfl fun h _ => ?_
  rw [val_main_v104_apply, r71 ha, r103 ha]
  rfl
theorem r109 : val_main_v109 (F := Ideal) x0 x1 x2 x3 x4 x7 x8 x9 x10 x12 (ix1 t) = a.dgR t := by
  unfold val_main_v109
  refine (sum_rows _ _ _ _ _).trans ?_
  rw [val_main_cst_17_apply, zero_lit, zero_add, Fin.sum_univ_one, Fin.sum_univ_one, val_main_v106_apply, at106, r105 ha]
theorem r125 : val_main_v125 (F := Ideal) x0 x1 x2 x3 x4 x7 x8 x11 (ix1 n) = a.dgN n := by
  unfold val_main_v125
  refine (sum_rows _ _ _ _ _).trans ?_
  rw [val_main_cst_21_apply, zero_lit, zero_add]
  refine Finset.sum_congr rfl fun r _ => Finset.sum_congr rfl fun h _ => ?_
  rw [val_main_v124_apply, r55 ha, show x11 (ix3 r h n) = a.cN r h n by subst ha; rfl]
  rfl
theorem r129 : val_main_v129 (F := Ideal) x0 x1 x2 x3 x4 x7 x8 x11 (ix1 n) = a.dgN n := by
  unfold val_main_v129
  refine (sum_rows _ _ _ _ _).trans ?_
  rw [val_main_cst_22_apply, zero_lit, zero_add, Fin.sum_univ_one, Fin.sum_univ_one, val_main_v126_apply, at126, r125 ha]

end Cert.QRefIdeal.Rows

end
-- ==== Proof.QReads.lean ====
/-
  The blocks that a tile of the query's call reads, entry by entry, and that they are the rows of the arguments.
-/
module

public import proofs.«01_k».proof.Proof.QOuts
public import proofs.«01_k».proof.Proof.QHost
public import proofs.«01_k».proof.Proof.QRef
public import Idealize.ShloMosaic.Lib.StableHlo.RunRead

@[expose] public section

set_option maxRecDepth 16384

noncomputable section

namespace Cert.QIdeal.Result

open Cert.QIdeal Cert.QIdeal.Gen Cert.Head Cert.Query Cert.Query.Tile Cert.Query.Host Idealize.ShloMosaic Idealize.ShloMosaic.TcCoe Idealize.SL.Sem
variable (m : (ℓ : Loc nD τ sig) → Buf (Elt Ideal) ℓ) (c : Dev nD)

/-- The arguments, entry by entry. -/
def given : Args := Cert.QRefIdeal.Rows.args (m ((c : Thread nD τ).loc main_arg0)) (m ((c : Thread nD τ).loc main_arg13)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-! ## The arrays the call finds -/

theorem at_cos : V m c main_v13 = table 0x3F800000#32 (m ((c : Thread nD τ).loc main_arg9)) := by
  simp only [V, List.flatten_cons, List.flatten_nil, List.cons_append, List.nil_append]
  after_reads_simp
  rfl
theorem at_sin : V m c main_v16 = table 0x00000000#32 (m ((c : Thread nD τ).loc main_arg10)) := by
  simp only [V, List.flatten_cons, List.flatten_nil, List.cons_append, List.nil_append]
  after_reads_simp
  rfl
theorem at_ct : V m c main_v8 = both (m ((c : Thread nD τ).loc main_arg11)) (m ((c : Thread nD τ).loc main_arg12)) := by
  simp only [V, List.flatten_cons, List.flatten_nil, List.cons_append, List.nil_append]
  entry_read
  rfl
theorem at_gain : V m c main_v2 = pair (m ((c : Thread nD τ).loc main_arg5)) (m ((c : Thread nD τ).loc main_arg6)) := by
  simp only [V, List.flatten_cons, List.flatten_nil, List.cons_append, List.nil_append]
  after_reads_simp
  rfl
theorem at_wu : V m c main_v18 = wide (m ((c : Thread nD τ).loc main_arg8)) := by
  simp only [V, List.flatten_cons, List.flatten_nil, List.cons_append, List.nil_append]
  entry_read
  rfl

theorem at_g : V m c main_v9 = shapeCast S1x1024 (m ((c : Thread nD τ).loc main_arg1)) shapeCasts_S1024_S1x1024 := by
  simp only [V, List.flatten_cons, List.flatten_nil, List.cons_append, List.nil_append]
  entry_read
  rfl
theorem at_qg : V m c main_v10 = shapeCast S1x256 (m ((c : Thread nD τ).loc main_arg4)) shapeCasts_S256_S1x256 := by
  simp only [V, List.flatten_cons, List.flatten_nil, List.cons_append, List.nil_append]
  entry_read
  rfl

/-! ## The blocks -/

def row (t : Fin cfg0.N) (p : Fin 256) : Fin 4096 := ⟨t.val * 256 + p.val, by have : t.val < 16 := t.isLt; omega⟩

variable (t : Fin cfg0.N)

theorem x_eq (p : Fin 256) (d : Fin 1024) : xB m c t (ix2 p d) = m ((c : Thread nD τ).loc main_arg0) (ix2 (row t p) d) := by
  unfold xB row
  blk_ext [iblk, V, idx t]
theorem cs_eq (p : Fin 256) (l : Fin 128) : csB m c t (ix2 p l) = V m c main_v13 (ix2 (row t p) l) := by
  unfold csB row
  rw [again_eq]
  blk_ext [iblk, idx t]
theorem sn_eq (p : Fin 256) (l : Fin 128) : snB m c t (ix2 p l) = V m c main_v16 (ix2 (row t p) l) := by
  unfold snB row
  rw [again_eq]
  blk_ext [iblk, idx t]
theorem ct_eq (p : Fin 256) (l : Fin 2048) : ctB m c t (ix2 p l) = V m c main_v8 (ix2 (row t p) l) := by
  unfold ctB row
  rw [again_eq]
  blk_ext [iblk, idx t]
theorem add_eq (p : Fin 256) (d : Fin 1024) : addB m c t (ix2 p d) = m ((c : Thread nD τ).loc main_arg13) (ix2 (row t p) d) := by
  unfold addB row
  blk_ext [iblk, V, idx t]
theorem g_eq (d : Fin 1024) : gB m c t (ix2 0 d) = m ((c : Thread nD τ).loc main_arg1) (ix1 d) := by
  have e : gB m c t (ix2 0 d) = V m c main_v9 (ix2 0 d) := by
    unfold gB
    rw [again_eq]
    blk_ext [iblk, idx t]
  rw [e, at_g]
  refine shapeCast_apply _ _ (ix2 0 d) (ix1 d) ?_
  rw [Shape.rowMajor_val_one, Shape.rowMajor_val_two]
  show d.val = 0 * 1024 + d.val
  omega
theorem sh_eq (d : Fin 1024) : shB m c t (ix2 0 d) = m ((c : Thread nD τ).loc main_arg2) (ix2 0 d) := by
  unfold shB
  blk_ext [iblk, V, idx t]
theorem sc_eq (d : Fin 1024) : scB m c t (ix2 0 d) = m ((c : Thread nD τ).loc main_arg3) (ix2 0 d) := by
  unfold scB
  blk_ext [iblk, V, idx t]
theorem qg_eq (k : Fin 256) : qgB m c t (ix2 0 k) = m ((c : Thread nD τ).loc main_arg4) (ix1 k) := by
  have e : qgB m c t (ix2 0 k) = V m c main_v10 (ix2 0 k) := by
    unfold qgB
    rw [again_eq]
    blk_ext [iblk, idx t]
  rw [e, at_qg]
  refine shapeCast_apply _ _ (ix2 0 k) (ix1 k) ?_
  rw [Shape.rowMajor_val_one, Shape.rowMajor_val_two]
  show k.val = 0 * 256 + k.val
  omega
theorem hg_eq (l : Fin 128) : hgB m c t (ix2 0 l) = V m c main_v2 (ix2 0 l) := by
  unfold hgB
  rw [again_eq]
  blk_ext [iblk, idx t]
theorem wd_eq (d : Fin 1024) (k : Fin 256) : wdB m c t (ix2 d k) = m ((c : Thread nD τ).loc main_arg7) (ix2 d k) := by
  unfold wdB
  rw [again_eq]
  blk_point [iblk, V, idx t]
theorem wu_eq (k : Fin 256) (l : Fin 2048) : wuB m c t (ix2 k l) = V m c main_v18 (ix2 k l) := by
  unfold wuB
  rw [again_eq]
  blk_ext [iblk, idx t]

theorem reads : Reads (given m c) (row t) (xB m c t) (csB m c t) (snB m c t) (ctB m c t) (gB m c t) (shB m c t) (scB m c t) (qgB m c t)
    (hgB m c t) (wdB m c t) (wuB m c t) (addB m c t) where
  x := x_eq m c t
  g := g_eq m c t
  sh := sh_eq m c t
  sc := sc_eq m c t
  qg := qg_eq m c t
  gN d := by rw [hg_eq, at_gain]; exact pair_pl _ _ d
  gR d := by rw [hg_eq, at_gain]; exact pair_tl _ _ d
  one p d := by rw [cs_eq, at_cos]; exact (table_pl _ _ _ d).trans Ideal.ofBits_one_f32
  co p d := by rw [cs_eq, at_cos]; exact table_tl _ _ _ d
  si p d := by rw [sn_eq, at_sin]; exact table_tl _ _ _ d
  cN p h d := by rw [ct_eq, at_ct]; exact both_N _ _ _ h d
  cR p h d := by rw [ct_eq, at_ct]; exact both_R _ _ _ h d
  wd := wd_eq m c t
  wN k h d := by rw [wu_eq, at_wu]; exact wide_N _ k h d
  wR k h d := by rw [wu_eq, at_wu]; exact wide_R _ k h d
  add := add_eq m c t

end Cert.QIdeal.Result

end
-- ==== Proof.QGrad.lean ====
/-
  The query's gradient, as the kernel computes it tile by tile of 256 rows, is the derivative of its forward lines, result by result.
-/
module

public import proofs.«01_k».proof.Proof.QReads
public import proofs.«01_k».proof.Proof.Literals
public import proofs.«01_k».proof.Defs

@[expose] public section

set_option maxRecDepth 16384

noncomputable section

namespace Cert.QRefIdeal.Rows

open Cert.QRefIdeal Cert.QRefIdeal.Gen Cert.QRefIdeal.Read Cert.Query Cert.Query.Tile Cert.Query.Host Cert.Head Idealize.ShloMosaic
variable {x0 x13 : (⟨S4096x1024, .f32⟩ : BufTy).Contents (Elt Ideal)} {x1 : (⟨S1024, .f32⟩ : BufTy).Contents (Elt Ideal)}
  {x2 x3 : (⟨S1x1024, .f32⟩ : BufTy).Contents (Elt Ideal)} {x4 : (⟨S256, .f32⟩ : BufTy).Contents (Elt Ideal)}
  {x5 : (⟨S64, .f32⟩ : BufTy).Contents (Elt Ideal)} {x6 : (⟨S32, .f32⟩ : BufTy).Contents (Elt Ideal)}
  {x7 : (⟨S1024x256, .f32⟩ : BufTy).Contents (Elt Ideal)} {x8 : (⟨S256x1536, .f32⟩ : BufTy).Contents (Elt Ideal)}
  {x9 x10 : (⟨S4096x16, .f32⟩ : BufTy).Contents (Elt Ideal)} {x11 : (⟨S4096x16x64, .f32⟩ : BufTy).Contents (Elt Ideal)}
  {x12 : (⟨S4096x16x32, .f32⟩ : BufTy).Contents (Elt Ideal)}
variable {a : Args} (ha : args x0 x13 x1 x2 x3 x4 x5 x6 x7 x8 x9 x10 x11 x12 = a)
variable {r : Fin 4096} {h : Fin 16} {n : Fin 64} {t : Fin 32}

/-! ## The head's cotangent with zero lanes, and the two gains' gradients side by side -/

theorem pad0 : val_main_call0_v0 (F := Ideal) (Shape.Idx.first h_S_) = 0 := by
  unfold val_main_call0_v0
  exact zero32_apply _
theorem pad1 : val_main_call1_v0 (F := Ideal) (Shape.Idx.first h_S_) = 0 := by
  unfold val_main_call1_v0
  exact zero32_apply _

theorem r199U : val_main_v199 (F := Ideal) x0 x1 x2 x3 x4 x5 x6 x7 x8 x9 x10 x11 x12 (ix2 r (lane16 h (ul t))) = 0 := by
  unfold val_main_v199 val_main_v198
  exact (padded_out _ _ pads_S4096x16x96_S4096x16x128_000_000_0320 _ _ r h t).trans pad0
theorem r202U : val_main_v202 (F := Ideal) x0 x1 x2 x3 x4 x7 x8 x9 x10 x11 x12 (ix2 0 (ul t)) = 0 := by
  unfold val_main_v202 val_main_v201
  refine (pair_flat _ _ _).trans ((pad_apply_of_not_inside _ _ _ _ _ _ _ _ (0 : Fin 1) ?_).trans pad1)
  rintro ⟨-, -, hlt⟩
  have hlt' : (96 + t.val - 0) / (0 + 1) < 96 := hlt
  omega

include ha
theorem r199N : val_main_v199 (F := Ideal) x0 x1 x2 x3 x4 x5 x6 x7 x8 x9 x10 x11 x12 (ix2 r (lane16 h (pl n))) = a.dN r h n := by
  unfold val_main_v199 val_main_v198 val_main_v197
  exact (padded_in _ _ pads_S4096x16x96_S4096x16x128_000_000_0320 _ _ r h (lN n) (pl n) rfl).trans ((split_apply _ _ r h _).trans (r145N ha))
theorem r199R : val_main_v199 (F := Ideal) x0 x1 x2 x3 x4 x5 x6 x7 x8 x9 x10 x11 x12 (ix2 r (lane16 h (tl t))) = a.dR r h t := by
  unfold val_main_v199 val_main_v198 val_main_v197
  exact (padded_in _ _ pads_S4096x16x96_S4096x16x128_000_000_0320 _ _ r h (lR t) (tl t) rfl).trans ((split_apply _ _ r h _).trans (r145R ha))
theorem r202_in (l : Fin 128) (e : Fin 96) (he : l.val = e.val) : val_main_v202 (F := Ideal) x0 x1 x2 x3 x4 x7 x8 x9 x10 x11 x12 (ix2 0 l) = val_main_v200 (F := Ideal) x0 x1 x2 x3 x4 x7 x8 x9 x10 x11 x12 (ix1 e) := by
  unfold val_main_v202 val_main_v201
  refine (pair_flat _ _ _).trans (pad_apply_of_inside _ _ _ _ _ _ _ _ (ix1 e) ?_)
  intro b
  match b with
  | ⟨0, _⟩ => show l.val = 0 + e.val * (0 + 1); omega
theorem r202N : val_main_v202 (F := Ideal) x0 x1 x2 x3 x4 x7 x8 x9 x10 x11 x12 (ix2 0 (pl n)) = a.dgN n := by
  rw [r202_in ha (pl n) (lN n) rfl]
  unfold val_main_v200
  refine (concatenate_apply_piece 0 _ _ (ix1 (lN n)) 0 (by simp) S64 _ (by rfl) rfl 0 (by rfl) (ix1 n) (fun b => ?_) (Nat.zero_add _)).trans (r129 ha)
  match b with
  | ⟨0, _⟩ => exact fun hb => absurd rfl hb
theorem r202R : val_main_v202 (F := Ideal) x0 x1 x2 x3 x4 x7 x8 x9 x10 x11 x12 (ix2 0 (tl t)) = a.dgR t := by
  rw [r202_in ha (tl t) (lR t) rfl]
  unfold val_main_v200
  refine (concatenate_apply_piece 0 _ _ (ix1 (lR t)) 1 (by simp) S32 _ (by rfl) rfl 64 (by rfl) (ix1 t) (fun b => ?_) rfl).trans (r109 ha)
  match b with
  | ⟨0, _⟩ => exact fun hb => absurd rfl hb

end Cert.QRefIdeal.Rows

namespace Cert.QIdeal.Result

open Cert.QIdeal Cert.QIdeal.Gen Cert.Head Cert.Query Cert.Query.Tile Idealize.ShloMosaic Idealize.ShloMosaic.TcCoe Idealize.SL.Sem
open Cert.QRefIdeal.Read Cert.QRefIdeal.Rows
variable (m : (ℓ : Loc nD τ sig) → Buf (Elt Ideal) ℓ)

/-! ## The results that hold a row for a row -/

theorem heads_of (l : Fin 2048) : ∃ (h : Fin 16) (k : Fin 128), l = lane16 h k :=
  ⟨⟨l.val / 128, by have := l.isLt; omega⟩, ⟨l.val % 128, Nat.mod_lt _ (by decide)⟩,
    Fin.ext (by show l.val = l.val / 128 * 128 + l.val % 128; omega)⟩
theorem dh_eq (c : Dev nD) (t : Fin cfg0.N) (p : Fin 256) (d : Fin 1024) : dhV m c t (ix2 p d) = (given m c).dh (row t p) d :=
  (reads m c t).dh_eq _ (fun p k => (reads m c t).dql_eq p k) p d

theorem emb12 (t : Fin cfg0.N) (p : Fin 256) (d : Fin 1024) : ((cfg0.win 12).blk t).view.emb (ix2 p d) = (ix2 (row t p) d : S4096x1024.Idx) := by
  unfold row
  blk_ext [idx t]
theorem emb13 (t : Fin cfg0.N) (p : Fin 256) (d : Fin 256) : ((cfg0.win 13).blk t).view.emb (ix2 p d) = (ix2 (row t p) d : S4096x256.Idx) := by
  unfold row
  blk_ext [idx t]
theorem emb14 (t : Fin cfg0.N) (p : Fin 256) (d : Fin 2048) : ((cfg0.win 14).blk t).view.emb (ix2 p d) = (ix2 (row t p) d : S4096x2048.Idx) := by
  unfold row
  blk_ext [idx t]
theorem emb15 (t : Fin cfg0.N) (p : Fin 256) (d : Fin 1024) : ((cfg0.win 15).blk t).view.emb (ix2 p d) = (ix2 (row t p) d : S4096x1024.Idx) := by
  unfold row
  blk_ext [idx t]
theorem emb16 (t : Fin cfg0.N) (p : Fin 256) (d : Fin 256) : ((cfg0.win 16).blk t).view.emb (ix2 p d) = (ix2 (row t p) d : S4096x256.Idx) := by
  unfold row
  blk_ext [idx t]

theorem final_dx (c : Dev nD) : (dats m 0 c).arrAt 12 cfg0.N
    = val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 12 _ (by decide +kernel) fun t hf y => ?_
  obtain ⟨p, d, rfl⟩ : ∃ (p : Fin 256) (d : Fin 1024), y = ix2 p d := ⟨y 0, y 1, eq_ix2 y⟩
  refine (congrFun (after0_12 m c t) (ix2 p d)).trans ?_
  rw [outs_x, emb12]
  rw [r203 (a := given m c) rfl]
  exact (reads m c t).dx_eq (fun p d => dh_eq m c t p d) p d

theorem final_dql (c : Dev nD) : (dats m 0 c).arrAt 13 cfg0.N
    = val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t hf y => ?_
  obtain ⟨p, d, rfl⟩ : ∃ (p : Fin 256) (d : Fin 256), y = ix2 p d := ⟨y 0, y 1, eq_ix2 y⟩
  refine (congrFun (after0_13 m c t) (ix2 p d)).trans ?_
  rw [outs_l, emb13]
  rw [val_main_v204_apply, r167 (a := given m c) rfl]
  exact (reads m c t).dql_eq p d

theorem final_dq (c : Dev nD) : (dats m 0 c).arrAt 14 cfg0.N
    = val_main_v205 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t hf y => ?_
  obtain ⟨p, d, rfl⟩ : ∃ (p : Fin 256) (d : Fin 2048), y = ix2 p d := ⟨y 0, y 1, eq_ix2 y⟩
  refine (congrFun (after0_14 m c t) (ix2 p d)).trans ?_
  rw [outs_q, emb14]
  rw [val_main_v205_apply]
  obtain ⟨h, k, rfl⟩ := heads_of d
  obtain ⟨k, rfl⟩ | ⟨k, rfl⟩ | ⟨k, rfl⟩ := lanes k
  · rw [r199N (a := given m c) rfl]
    exact (reads m c t).dq_pl p h k
  · rw [r199R (a := given m c) rfl]
    exact (reads m c t).dq_tl p h k
  · rw [r199U]
    exact Reads.dq_ul _ p h k

theorem final_h (c : Dev nD) : (dats m 0 c).arrAt 15 cfg0.N
    = val_main_v206 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 15 _ (by decide +kernel) fun t hf y => ?_
  obtain ⟨p, d, rfl⟩ : ∃ (p : Fin 256) (d : Fin 1024), y = ix2 p d := ⟨y 0, y 1, eq_ix2 y⟩
  refine (congrFun (after0_15 m c t) (ix2 p d)).trans ?_
  rw [outs_h, emb15]
  rw [val_main_v206_apply, r21 (a := given m c) rfl]
  exact (reads m c t).hid_eq p d

theorem final_qn (c : Dev nD) : (dats m 0 c).arrAt 16 cfg0.N
    = val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (dats m 0 c).arrAt_eq_of_covers 16 _ (by decide +kernel) fun t hf y => ?_
  obtain ⟨p, d, rfl⟩ : ∃ (p : Fin 256) (d : Fin 256), y = ix2 p d := ⟨y 0, y 1, eq_ix2 y⟩
  refine (congrFun (after0_16 m c t) (ix2 p d)).trans ?_
  rw [outs_n, emb16]
  rw [val_main_v207_apply, r38 (a := given m c) rfl]
  exact (reads m c t).qn_eq p d

/-! ## The results that a tile adds to -/

theorem gather (f : Fin 4096 → EReal) (v : Fin cfg0.N → EReal) (h : ∀ t, v t = ∑ p, f (row t p)) :
    Ideal.ofBits .f32 0x00000000#32 + ∑ t, v t = ∑ r, f r := by
  rw [Ideal.ofBits_zero_f32, zero_add, Lit.sum_tiles 16 256 4096 rfl]
  exact Finset.sum_congr rfl fun t _ => h t

theorem final_dg (c : Dev nD) : (dats m 0 c).arrAt 17 cfg0.N
    = val_main_v208 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_after_last 17 t0_15 (by decide +kernel) _ fun j => ?_
  blk_simp
  refine (congrFun (after0_17 m c t0_15) j).trans ?_
  refine (acc_g m c j).trans ?_
  obtain ⟨d, rfl⟩ : ∃ d : Fin 1024, j = ix2 0 d := ⟨j 1, (eq_ix2 j).trans (congrArg (ix2 · (j 1)) (Subsingleton.elim (α := Fin 1) _ _))⟩
  exact (gather (fun r => Rms.nrm w1024 ((given m c).X r) d * ((given m c).dh r d * (1 + (given m c).sc d))) _ fun t => (reads m c t).dg_eq (fun p d => dh_eq m c t p d) d).trans (r208 (a := given m c) rfl).symm

theorem final_dsh (c : Dev nD) : (dats m 0 c).arrAt 18 cfg0.N
    = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_after_last 18 t0_15 (by decide +kernel) _ fun j => ?_
  blk_simp
  refine (congrFun (after0_18 m c t0_15) j).trans ?_
  refine (acc_sh m c j).trans ?_
  obtain ⟨d, rfl⟩ : ∃ d : Fin 1024, j = ix2 0 d := ⟨j 1, (eq_ix2 j).trans (congrArg (ix2 · (j 1)) (Subsingleton.elim (α := Fin 1) _ _))⟩
  exact (gather (fun r => (given m c).dh r d) _ fun t => (reads m c t).dsh_eq (fun p d => dh_eq m c t p d) d).trans (r171 (a := given m c) rfl).symm

theorem final_dsc (c : Dev nD) : (dats m 0 c).arrAt 19 cfg0.N
    = val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_after_last 19 t0_15 (by decide +kernel) _ fun j => ?_
  blk_simp
  refine (congrFun (after0_19 m c t0_15) j).trans ?_
  refine (acc_sc m c j).trans ?_
  obtain ⟨d, rfl⟩ : ∃ d : Fin 1024, j = ix2 0 d := ⟨j 1, (eq_ix2 j).trans (congrArg (ix2 · (j 1)) (Subsingleton.elim (α := Fin 1) _ _))⟩
  exact (gather (fun r => Rms.nrm w1024 ((given m c).X r) d * (given m c).g d * (given m c).dh r d) _ fun t => (reads m c t).dsc_eq (fun p d => dh_eq m c t p d) d).trans (r174 (a := given m c) rfl).symm

theorem final_dqg (c : Dev nD) : (dats m 0 c).arrAt 20 cfg0.N
    = val_main_v209 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_after_last 20 t0_15 (by decide +kernel) _ fun j => ?_
  blk_simp
  refine (congrFun (after0_20 m c t0_15) j).trans ?_
  refine (acc_qg m c j).trans ?_
  obtain ⟨d, rfl⟩ : ∃ d : Fin 256, j = ix2 0 d := ⟨j 1, (eq_ix2 j).trans (congrArg (ix2 · (j 1)) (Subsingleton.elim (α := Fin 1) _ _))⟩
  exact (gather (fun r => Rms.nrm w256 ((given m c).lat r) d * (given m c).dqn r d) _ fun t => (reads m c t).dqg_eq d).trans (r209 (a := given m c) rfl).symm

theorem final_dhg (c : Dev nD) : (dats m 0 c).arrAt 21 cfg0.N
    = val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_after_last 21 t0_15 (by decide +kernel) _ fun j => ?_
  blk_simp
  refine (congrFun (after0_21 m c t0_15) j).trans ?_
  refine (acc_hg m c j).trans ?_
  obtain ⟨l, rfl⟩ : ∃ l : Fin 128, j = ix2 0 l := ⟨j 1, (eq_ix2 j).trans (congrArg (ix2 · (j 1)) (Subsingleton.elim (α := Fin 1) _ _))⟩
  obtain ⟨d, rfl⟩ | ⟨d, rfl⟩ | ⟨d, rfl⟩ := lanes l
  · exact (gather (fun r => ∑ h, Rms.nrm w64 ((given m c).qN r h) d * (given m c).cN r h d) _ fun t => (reads m c t).dgN_eq d).trans (r202N (a := given m c) (x13 := (m ((c : Thread nD τ).loc main_arg13))) (x5 := (m ((c : Thread nD τ).loc main_arg5))) (x6 := (m ((c : Thread nD τ).loc main_arg6))) rfl).symm
  · exact (gather (fun r => ∑ h, Rms.nrm w32 ((given m c).qR r h) d * (given m c).eR r h d) _ fun t => (reads m c t).dgR_eq d).trans (r202R (a := given m c) (x13 := (m ((c : Thread nD τ).loc main_arg13))) (x5 := (m ((c : Thread nD τ).loc main_arg5))) (x6 := (m ((c : Thread nD τ).loc main_arg6))) rfl).symm
  · exact (gather (fun _ => 0) _ fun t => (Reads.dgU_eq _ d).trans Finset.sum_const_zero.symm).trans (Finset.sum_const_zero.trans r202U.symm)

/-- The kernel's run with its results named by the reference's stages, and the arguments unchanged. -/
theorem run (ρ : Dev nD → PrngReg) : θ_run defs (onTc (τ := τ) (main (F := Ideal))) ⟨m, fun _ => 0, ρ⟩ fun r => ∀ c : Dev nD,
    r.2.mem ((c : Thread nD τ).loc main_v19_0) = val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    ∧ r.2.mem ((c : Thread nD τ).loc main_v19_1) = val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    ∧ r.2.mem ((c : Thread nD τ).loc main_v19_2) = val_main_v205 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    ∧ r.2.mem ((c : Thread nD τ).loc main_v19_3) = val_main_v206 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_v19_4) = val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))
    ∧ r.2.mem ((c : Thread nD τ).loc main_v19_5) = val_main_v208 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    ∧ r.2.mem ((c : Thread nD τ).loc main_v19_6) = val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    ∧ r.2.mem ((c : Thread nD τ).loc main_v19_7) = val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    ∧ r.2.mem ((c : Thread nD τ).loc main_v19_8) = val_main_v209 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    ∧ r.2.mem ((c : Thread nD τ).loc main_v19_9) = val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13) :=
  (θ_run defs _ _).mono (fun r h c => by
    obtain ⟨h0, h1, h2, h3, h4, h5, h6, h7, h8, h9, hr⟩ := h c
    exact ⟨h0.trans (final_dx m c), h1.trans (final_dql m c), h2.trans (final_dq m c), h3.trans (final_h m c), h4.trans (final_qn m c), h5.trans (final_dg m c), h6.trans (final_dsh m c), h7.trans (final_dsc m c), h8.trans (final_dqg m c), h9.trans (final_dhg m c), hr⟩) (Value.run_blocks m ρ)

end Cert.QIdeal.Result

namespace Cert.QRefIdeal.Staged

open Cert.QRefIdeal Cert.QRefIdeal.Gen Cert.QRefIdeal.Read Idealize.ShloMosaic Idealize.SL.Sem

set_option maxHeartbeats 2000000 in
/-- The reference's run with its results named by its stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v203) = val_main_v203 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v204) = val_main_v204 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v205) = val_main_v205 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v206) = val_main_v206 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v207) = val_main_v207 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v208) = val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v171) = val_main_v171 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v174) = val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v209) = val_main_v209 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v202) = val_main_v202 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => by
    obtain ⟨h0, h1, h2, h3, h4, h5, h6, h7, h8, h9, hr⟩ := h c
    exact ⟨h0.trans (val_main_v203_eq (StableHlo.launchContents m c)), h1.trans (val_main_v204_eq (StableHlo.launchContents m c)), h2.trans (val_main_v205_eq (StableHlo.launchContents m c)), h3.trans (val_main_v206_eq (StableHlo.launchContents m c)), h4.trans (val_main_v207_eq (StableHlo.launchContents m c)), h5.trans (val_main_v208_eq (StableHlo.launchContents m c)), h6.trans (val_main_v171_eq (StableHlo.launchContents m c)), h7.trans (val_main_v174_eq (StableHlo.launchContents m c)), h8.trans (val_main_v209_eq (StableHlo.launchContents m c)), h9.trans (val_main_v202_eq (StableHlo.launchContents m c)), hr⟩) (Value.run m ρ)

end Cert.QRefIdeal.Staged

namespace Cert.QProof

open Idealize.ShloMosaic Idealize.SL.Sem

set_option maxHeartbeats 2000000 in
/-- The kernel and the derivative end with equal results. -/
theorem algebraic : Cert.algebraic_QIdeal_QRefIdeal := by
  intro m g m' g' _ hargs
  refine ⟨_, _, _, _, _, _, _, _, _, _, Cert.QIdeal.Result.run m g, ?_⟩
  refine (θ_run Cert.QRefIdeal.defs _ _).mono (fun r h c => ?_) (Cert.QRefIdeal.Staged.run m' g')
  obtain ⟨h0, h1, h2, h3, h4, h5, h6, h7, h8, h9, hr⟩ := h c
  obtain ⟨a0, a1, a2, a3, a4, a5, a6, a7, a8, a9, a10, a11, a12, a13⟩ := hargs c
  exact ⟨h0.trans (by rw [a0, a1, a2, a3, a4, a5, a6, a7, a8, a9, a10, a11, a12, a13]),
      h1.trans (by rw [a0, a1, a2, a3, a4, a5, a6, a7, a8, a9, a10, a11, a12]),
      h2.trans (by rw [a0, a1, a2, a3, a4, a5, a6, a7, a8, a9, a10, a11, a12]),
      h3.trans (by rw [a0, a1, a2, a3]),
      h4.trans (by rw [a0, a1, a2, a3, a4, a7]),
      h5.trans (by rw [a0, a1, a2, a3, a4, a5, a6, a7, a8, a9, a10, a11, a12]),
      h6.trans (by rw [a0, a1, a2, a3, a4, a5, a6, a7, a8, a9, a10, a11, a12]),
      h7.trans (by rw [a0, a1, a2, a3, a4, a5, a6, a7, a8, a9, a10, a11, a12]),
      h8.trans (by rw [a0, a1, a2, a3, a4, a5, a6, a7, a8, a9, a10, a11, a12]),
      h9.trans (by rw [a0, a1, a2, a3, a4, a7, a8, a9, a10, a11, a12]), hr⟩

end Cert.QProof

end
-- ==== Proof.Forward.lean ====
/-
  The forward segments of the attention's output projection and of the gated linear unit, each with its gate and residual, as the
  kernel computes them tile by tile of 256 rows, are the references'.
-/
module

public import proofs.«01_k».proof.Defs
public import proofs.«01_k».proof.Proof.Gen.OFwdIdeal.Value
public import proofs.«01_k».proof.Proof.Gen.OFwdRefIdeal.Read
public import proofs.«01_k».proof.Proof.Gen.GFwdIdeal.Value
public import proofs.«01_k».proof.Proof.Gen.GFwdRefIdeal.Read
public import proofs.«01_k».proof.Proof.GluMath
public import Idealize.ShloMosaic.Lib.Tactic
public import Idealize.ShloMosaic.Lib.Pointwise
public import Idealize.ShloMosaic.Lib.Pipeline.ValueKit
public import Idealize.ShloMosaic.Lib.Claim
public import Idealize.ShloMosaic.Lib.Tactic.ValueTie

@[expose] public section

set_option maxRecDepth 16384

noncomputable section

/-! ## The output projection -/

namespace Cert.OFwdIdeal.Result

open Cert.OFwdIdeal Cert.OFwdIdeal.Gen Idealize.ShloMosaic Idealize.ShloMosaic.TcCoe Idealize.SL.Sem
open Cert.OFwdRefIdeal.Read
variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0])

def row (t : Fin cfg0.N) (p : Fin 256) : Fin 4096 := ⟨t.val * 256 + p.val, by have : t.val < 16 := t.isLt; omega⟩

def xBlk (c : Dev nD) (t : Fin cfg0.N) : Vec Ideal S256x1024 .f32 := iblk m c 0 t
def oBlk (c : Dev nD) (t : Fin cfg0.N) : Vec Ideal S256x1024 .f32 := iblk m c 1 t
def gBlk (c : Dev nD) (t : Fin cfg0.N) : Vec Ideal S1x1024 .f32 := iblk m c 2 t
def wBlk (c : Dev nD) (t : Fin cfg0.N) : Vec Ideal S1024x1024 .bf16 := iblk m c 3 t

theorem x_eq (c : Dev nD) (t : Fin cfg0.N) (p : Fin 256) (d : Fin 1024) :
    xBlk m c t (ix2 p d) = m ((c : Thread nD τ).loc main_arg0) (ix2 (row t p) d) := by
  unfold xBlk row
  blk_ext [iblk, V, idx t]
theorem o_eq (c : Dev nD) (t : Fin cfg0.N) (p : Fin 256) (d : Fin 1024) :
    oBlk m c t (ix2 p d) = m ((c : Thread nD τ).loc main_arg1) (ix2 (row t p) d) := by
  unfold oBlk row
  blk_ext [iblk, V, idx t]
theorem g_eq (c : Dev nD) (t : Fin cfg0.N) (d : Fin 1024) :
    gBlk m c t (ix2 0 d) = m ((c : Thread nD τ).loc main_arg2) (ix2 0 d) := by
  unfold gBlk
  blk_ext [iblk, V, idx t]
theorem w_eq (c : Dev nD) (t : Fin cfg0.N) (x d : Fin 1024) :
    wBlk m c t (ix2 x d) = m ((c : Thread nD τ).loc main_arg3) (ix2 x d) := by
  unfold wBlk
  blk_point [iblk, V, idx t]

theorem emb (t : Fin cfg0.N) (p : Fin 256) (d : Fin 1024) : ((cfg0.win 4).blk t).view.emb (ix2 p d) = (ix2 (row t p) d : S4096x1024.Idx) := by
  unfold row
  blk_ext [idx t]

theorem out (c : Dev nD) (t : Fin cfg0.N) : out0_4 (F := Ideal) (iblk m c 0 t) (iblk m c 1 t) (iblk m c 2 t) (iblk m c 3 t)
    = k0_pay1 (xBlk m c t) (oBlk m c t) (gBlk m c t) (wBlk m c t) := by
  frame_out; rfl

/-- A row of the tile: the residual and the gate times the row's product with the weight. -/
theorem pay (x o : Vec Ideal S256x1024 .f32) (g : Vec Ideal S1x1024 .f32) (w : Vec Ideal S1024x1024 .bf16) (p : Fin 256) (d : Fin 1024) :
    k0_pay1 (F := Ideal) x o g w (ix2 p d) = x (ix2 p d) + g (ix2 0 d) * ∑ k : Fin 1024, o (ix2 p k) * w (ix2 k d) := by
  unfold_payloads
  pointwise
  try rfl

theorem lrow (r : Fin 4096) (d x : Fin 1024) : lidx_main_v0 (ix2 r d) x = ix2 r x :=
  funext fun a => match a with | ⟨0, _⟩ => rfl | ⟨1, _⟩ => rfl
theorem rcol (r : Fin 4096) (d x : Fin 1024) : ridx_main_v0 (ix2 r d) x = ix2 x d :=
  funext fun a => match a with | ⟨0, _⟩ => rfl | ⟨1, _⟩ => rfl
theorem igate (r : Fin 4096) (d : Fin 1024) : idx_main_v1 (ix2 r d) = ix2 0 d :=
  funext fun a => match a with | ⟨0, _⟩ => rfl | ⟨1, _⟩ => rfl

theorem final (c : Dev nD) : (dats m 0 c).arrAt 4 cfg0.N
    = val_main_v3 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  obtain ⟨p, d, rfl⟩ : ∃ (p : Fin 256) (d : Fin 1024), y = ix2 p d := ⟨y 0, y 1, eq_ix2 y⟩
  refine (congrFun (after0_4 m c t) (ix2 p d)).trans ?_
  rw [out, emb, val_main_v3_apply, val_main_v2_apply, val_main_v1_apply, val_main_v0_apply, igate]
  refine (pay (xBlk m c t) (oBlk m c t) (gBlk m c t) (wBlk m c t) p d).trans ?_
  simp only [x_eq, o_eq, g_eq, w_eq, lrow, rcol]
  rfl

/-- The kernel's run with its result named by the reference's stage, and the arguments unchanged. -/
theorem run (ρ : Dev nD → PrngReg) : θ_run defs (onTc (τ := τ) (main (F := Ideal))) ⟨m, fun _ => 0, ρ⟩ fun r => ∀ c : Dev nD,
    r.2.mem ((c : Thread nD τ).loc main_v1) = val_main_v3 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨(h c).1.trans (final m c), (h c).2⟩) (Value.run_blocks m ρ)

end Cert.OFwdIdeal.Result

namespace Cert.OFwdRefIdeal.Staged

open Cert.OFwdRefIdeal Cert.OFwdRefIdeal.Gen Cert.OFwdRefIdeal.Read Idealize.ShloMosaic Idealize.SL.Sem

/-- The reference's run with its result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v3_eq _ _ _ _), (h c).2⟩) (Cert.OFwdRefIdeal.Value.run m ρ)

end Cert.OFwdRefIdeal.Staged

namespace Cert.OFwdProof

open Idealize.ShloMosaic

/-- The kernel and the forward pass end with equal results. -/
theorem algebraic : Cert.algebraic_OFwdIdeal_OFwdRefIdeal := by
  pair_intro
  · run_from Cert.OFwdIdeal.Result.run m g
  · run_from Cert.OFwdRefIdeal.Staged.run m' g'

end Cert.OFwdProof

/-! ## The gated linear unit -/

namespace Cert.GFwdIdeal.Result

open Cert.GFwdIdeal Cert.GFwdIdeal.Gen Idealize.ShloMosaic Idealize.ShloMosaic.TcCoe Idealize.SL.Sem
open Cert.GluIdeal.Row (half cube slope th cdf sg)
open Cert.GFwdRefIdeal.Read
variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![t.val, 0])

def row (t : Fin cfg0.N) (p : Fin 256) : Fin 4096 := ⟨t.val * 256 + p.val, by have : t.val < 16 := t.isLt; omega⟩

def xBlk (c : Dev nD) (t : Fin cfg0.N) : Vec Ideal S256x1024 .f32 := iblk m c 0 t
def yBlk (c : Dev nD) (t : Fin cfg0.N) : Vec Ideal S256x1024 .f32 := iblk m c 1 t
def gBlk (c : Dev nD) (t : Fin cfg0.N) : Vec Ideal S1x1024 .f32 := iblk m c 2 t
def bBlk (c : Dev nD) (t : Fin cfg0.N) : Vec Ideal S1x1024 .f32 := iblk m c 3 t
def wBlk (c : Dev nD) (t : Fin cfg0.N) : Vec Ideal S1024x1024 .bf16 := iblk m c 4 t

theorem x_eq (c : Dev nD) (t : Fin cfg0.N) (p : Fin 256) (d : Fin 1024) :
    xBlk m c t (ix2 p d) = m ((c : Thread nD τ).loc main_arg0) (ix2 (row t p) d) := by
  unfold xBlk row
  blk_ext [iblk, V, idx t]
theorem y_eq (c : Dev nD) (t : Fin cfg0.N) (p : Fin 256) (d : Fin 1024) :
    yBlk m c t (ix2 p d) = m ((c : Thread nD τ).loc main_arg1) (ix2 (row t p) d) := by
  unfold yBlk row
  blk_ext [iblk, V, idx t]
theorem g_eq (c : Dev nD) (t : Fin cfg0.N) (d : Fin 1024) :
    gBlk m c t (ix2 0 d) = m ((c : Thread nD τ).loc main_arg2) (ix2 0 d) := by
  unfold gBlk
  blk_ext [iblk, V, idx t]
theorem b_eq (c : Dev nD) (t : Fin cfg0.N) (d : Fin 1024) :
    bBlk m c t (ix2 0 d) = m ((c : Thread nD τ).loc main_arg3) (ix1 d) := by
  unfold bBlk
  blk_point [iblk, V, idx t]
theorem w_eq (c : Dev nD) (t : Fin cfg0.N) (x d : Fin 1024) :
    wBlk m c t (ix2 x d) = m ((c : Thread nD τ).loc main_arg4) (ix2 x d) := by
  unfold wBlk
  blk_point [iblk, V, idx t]

theorem emb (t : Fin cfg0.N) (p : Fin 256) (d : Fin 1024) : ((cfg0.win 5).blk t).view.emb (ix2 p d) = (ix2 (row t p) d : S4096x1024.Idx) := by
  unfold row
  blk_ext [idx t]

theorem out (c : Dev nD) (t : Fin cfg0.N) :
    out0_5 (F := Ideal) (iblk m c 0 t) (iblk m c 1 t) (iblk m c 2 t) (iblk m c 3 t) (iblk m c 4 t)
      = k0_pay1 (xBlk m c t) (yBlk m c t) (gBlk m c t) (bBlk m c t) (wBlk m c t) := by
  frame_out; rfl

/-- A row of the tile: the residual and the gate times the activated row through its sigmoid. -/
theorem pay (x y : Vec Ideal S256x1024 .f32) (g b : Vec Ideal S1x1024 .f32) (w : Vec Ideal S1024x1024 .bf16) (p : Fin 256) (d : Fin 1024) :
    k0_pay1 (F := Ideal) x y g b w (ix2 p d) = x (ix2 p d) + g (ix2 0 d) * (y (ix2 p d) * cdf (y (ix2 p d))
      * sg (fun k => y (ix2 p k)) (fun k => b (ix2 0 k)) (fun k j => w (ix2 k j)) d) := by
  unfold_payloads
  pointwise
  rfl

section Reference

variable (X0 X1 : (⟨S4096x1024, .f32⟩ : BufTy).Contents (Elt Ideal)) (X2 : (⟨S1x1024, .f32⟩ : BufTy).Contents (Elt Ideal))
  (X3 : (⟨S1024, .f32⟩ : BufTy).Contents (Elt Ideal)) (X4 : (⟨S1024x1024, .f32⟩ : BufTy).Contents (Elt Ideal))

theorem ref_th (i : S4096x1024.Idx) : val_main_v7 (F := Ideal) X1 i = th (X1 i) := by
  rw [val_main_v7_apply, val_main_v6_apply, val_main_v5_apply, val_main_v4_apply, val_main_v3_apply, val_main_v2_apply,
    val_main_v1_apply, val_main_v0_apply]
  exact congrArg (fun z => Ideal.tanh (slope * (X1 i + cube * z))) (mul_comm _ _)

theorem ref_g (i : S4096x1024.Idx) : val_main_v12 (F := Ideal) X1 i = X1 i * cdf (X1 i) := by
  rw [val_main_v12_apply, val_main_v11_apply, val_main_v9_apply, ref_th, val_main_v8_apply, val_main_v10_apply]
  exact congrArg (fun z => X1 i * (half * (z + th (X1 i)))) Ideal.ofBits_one_f32

theorem lrow (r : Fin 4096) (d x : Fin 1024) : lidx_main_v13 (ix2 r d) x = ix2 r x :=
  funext fun a => match a with | ⟨0, _⟩ => rfl | ⟨1, _⟩ => rfl
theorem rcol (r : Fin 4096) (d x : Fin 1024) : ridx_main_v13 (ix2 r d) x = ix2 x d :=
  funext fun a => match a with | ⟨0, _⟩ => rfl | ⟨1, _⟩ => rfl
theorem ibias (r : Fin 4096) (d : Fin 1024) : idx_main_v14 (idx_main_v15 (ix2 r d)) = ix1 d :=
  funext fun a => match a with | ⟨0, _⟩ => rfl
theorem igate (r : Fin 4096) (d : Fin 1024) : idx_main_v24 (ix2 r d) = ix2 0 d :=
  funext fun a => match a with | ⟨0, _⟩ => rfl | ⟨1, _⟩ => rfl

theorem ref_sg (r : Fin 4096) (d : Fin 1024) : val_main_v22 (F := Ideal) X1 X3 X4 (ix2 r d)
    = sg (fun x => X1 (ix2 r x)) (fun x => X3 (ix1 x)) (fun x k => X4 (ix2 x k)) d := by
  rw [val_main_v22_apply, val_main_v21_apply, val_main_v20_apply, val_main_v19_apply, val_main_v18_apply, val_main_v17_apply,
    val_main_v16_apply, val_main_v15_apply, val_main_v14_apply, val_main_v13_apply, ibias]
  simp only [ref_g, lrow, rcol]
  rw [val_main_cst_4_apply, val_main_cst_3_apply, Ideal.ofBits_def, Ideal.ofBits_one_f32]
  rfl

theorem ref_out (r : Fin 4096) (d : Fin 1024) : val_main_v26 (F := Ideal) X0 X1 X2 X3 X4 (ix2 r d)
    = X0 (ix2 r d) + X2 (ix2 0 d) * (X1 (ix2 r d) * cdf (X1 (ix2 r d))
      * sg (fun x => X1 (ix2 r x)) (fun x => X3 (ix1 x)) (fun x k => X4 (ix2 x k)) d) := by
  rw [val_main_v26_apply, val_main_v25_apply, val_main_v24_apply, val_main_v23_apply, ref_sg, ref_g, igate]
  rfl

end Reference

theorem final (c : Dev nD) : (dats m 0 c).arrAt 5 cfg0.N
    = val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨p, d, rfl⟩ : ∃ (p : Fin 256) (d : Fin 1024), y = ix2 p d := ⟨y 0, y 1, eq_ix2 y⟩
  refine (congrFun (after0_5 m c t) (ix2 p d)).trans ?_
  rw [out, emb, ref_out]
  refine (pay (xBlk m c t) (yBlk m c t) (gBlk m c t) (bBlk m c t) (wBlk m c t) p d).trans ?_
  simp only [x_eq, y_eq, g_eq, b_eq, w_eq]

/-- The kernel's run with its result named by the reference's stage, and the arguments unchanged. -/
theorem run (ρ : Dev nD → PrngReg) : θ_run defs (onTc (τ := τ) (main (F := Ideal))) ⟨m, fun _ => 0, ρ⟩ fun r => ∀ c : Dev nD,
    r.2.mem ((c : Thread nD τ).loc main_v2) = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨(h c).1.trans (final m c), (h c).2⟩) (Value.run_blocks m ρ)

end Cert.GFwdIdeal.Result

namespace Cert.GFwdRefIdeal.Staged

open Cert.GFwdRefIdeal Cert.GFwdRefIdeal.Gen Cert.GFwdRefIdeal.Read Idealize.ShloMosaic Idealize.SL.Sem

/-- The reference's run with its result named by its last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v26_eq _ _ _ _ _), (h c).2⟩) (Cert.GFwdRefIdeal.Value.run m ρ)

end Cert.GFwdRefIdeal.Staged

namespace Cert.GFwdProof

open Idealize.ShloMosaic

/-- The kernel and the forward pass end with equal results. -/
theorem algebraic : Cert.algebraic_GFwdIdeal_GFwdRefIdeal := by
  pair_intro
  · run_from Cert.GFwdIdeal.Result.run m g
  · run_from Cert.GFwdRefIdeal.Staged.run m' g'

end Cert.GFwdProof

end
-- ==== Proof.lean ====
/-
  Everything this certificate claims, assembled.
-/
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attention_finite
public import proofs.«01_k».proof.Proof.Gen.O
public import proofs.«01_k».proof.Proof.Gen.O.Skeleton
public import proofs.«01_k».proof.Proof.Gen.O.Launch
public import proofs.«01_k».proof.Proof.Gen.O.Points
public import proofs.«01_k».proof.Proof.Gen.O.Frame
public import proofs.«01_k».proof.Proof.Gen.OIdeal
public import proofs.«01_k».proof.Proof.Gen.OIdeal.Skeleton
public import proofs.«01_k».proof.Proof.Gen.OIdeal.Launch
public import proofs.«01_k».proof.Proof.Gen.OIdeal.Points
public import proofs.«01_k».proof.Proof.Gen.OIdeal.Frame
public import proofs.«01_k».proof.Proof.Gen.OIdeal.Value
public import proofs.«01_k».proof.Proof.Gen.ORefIdeal
public import proofs.«01_k».proof.Proof.Gen.ORefIdeal.Run
public import proofs.«01_k».proof.Proof.Gen.ORefIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_feed_forward_finite
public import proofs.«01_k».proof.Proof.Gen.Q
public import proofs.«01_k».proof.Proof.Gen.Q.Skeleton
public import proofs.«01_k».proof.Proof.Gen.Q.Launch
public import proofs.«01_k».proof.Proof.Gen.Q.Points
public import proofs.«01_k».proof.Proof.Gen.Q.Frame
public import proofs.«01_k».proof.Proof.Gen.QIdeal
public import proofs.«01_k».proof.Proof.Gen.QIdeal.Skeleton
public import proofs.«01_k».proof.Proof.Gen.QIdeal.Launch
public import proofs.«01_k».proof.Proof.Gen.QIdeal.Points
public import proofs.«01_k».proof.Proof.Gen.QIdeal.Frame
public import proofs.«01_k».proof.Proof.Gen.QIdeal.Value
public import proofs.«01_k».proof.Proof.Gen.QRefIdeal
public import proofs.«01_k».proof.Proof.Gen.QRefIdeal.Run
public import proofs.«01_k».proof.Proof.Gen.QRefIdeal.Read
public import proofs.«01_k».proof.Proof.Gen.OFwd
public import proofs.«01_k».proof.Proof.Gen.OFwd.Skeleton
public import proofs.«01_k».proof.Proof.Gen.OFwd.Launch
public import proofs.«01_k».proof.Proof.Gen.OFwd.Points
public import proofs.«01_k».proof.Proof.Gen.OFwd.Frame
public import proofs.«01_k».proof.Proof.Gen.OFwdIdeal
public import proofs.«01_k».proof.Proof.Gen.OFwdIdeal.Skeleton
public import proofs.«01_k».proof.Proof.Gen.OFwdIdeal.Launch
public import proofs.«01_k».proof.Proof.Gen.OFwdIdeal.Points
public import proofs.«01_k».proof.Proof.Gen.OFwdIdeal.Frame
public import proofs.«01_k».proof.Proof.Gen.OFwdIdeal.Value
public import proofs.«01_k».proof.Proof.Gen.OFwdRefIdeal
public import proofs.«01_k».proof.Proof.Gen.OFwdRefIdeal.Run
public import proofs.«01_k».proof.Proof.Gen.OFwdRefIdeal.Read
public import proofs.«01_k».proof.Proof.Gen.GFwd
public import proofs.«01_k».proof.Proof.Gen.GFwd.Skeleton
public import proofs.«01_k».proof.Proof.Gen.GFwd.Launch
public import proofs.«01_k».proof.Proof.Gen.GFwd.Points
public import proofs.«01_k».proof.Proof.Gen.GFwd.Frame
public import proofs.«01_k».proof.Proof.Gen.GFwdIdeal
public import proofs.«01_k».proof.Proof.Gen.GFwdIdeal.Skeleton
public import proofs.«01_k».proof.Proof.Gen.GFwdIdeal.Launch
public import proofs.«01_k».proof.Proof.Gen.GFwdIdeal.Points
public import proofs.«01_k».proof.Proof.Gen.GFwdIdeal.Frame
public import proofs.«01_k».proof.Proof.Gen.GFwdIdeal.Value
public import proofs.«01_k».proof.Proof.Gen.GFwdRefIdeal
public import proofs.«01_k».proof.Proof.Gen.GFwdRefIdeal.Run
public import proofs.«01_k».proof.Proof.Gen.GFwdRefIdeal.Read
public import proofs.«01_k».proof.Proof.Loss
public import proofs.«01_k».proof.Proof.AttnProof
public import proofs.«01_k».proof.Proof.OutGrad
public import proofs.«01_k».proof.Proof.GluGrad
public import proofs.«01_k».proof.Proof.PrepGrad
public import proofs.«01_k».proof.Proof.FfnProof
public import proofs.«01_k».proof.Proof.QGrad
public import proofs.«01_k».proof.Proof.Forward
public import Idealize.ShloMosaic.Adequacy
public import Idealize.ShloMosaic.Lib.Quiescent
public import Idealize.ShloMosaic.Init

@[expose] public section

noncomputable section

namespace Cert.Proof

open Idealize.ShloMosaic Idealize.SL.Sem

theorem claim : Cert.Claim := ⟨Cert.Loss.Gen.facts, Cert.LossIdeal.Gen.facts, Cert.LossRefIdeal.Gen.facts,
  Cert.Attn.Gen.facts, Cert.AttnIdeal.Gen.facts, Cert.AttnRefIdeal.Gen.facts,
  Cert.O.Gen.facts, Cert.OIdeal.Gen.facts, Cert.ORefIdeal.Gen.facts,
  Cert.Glu.Gen.facts, Cert.GluIdeal.Gen.facts, Cert.GluRefIdeal.Gen.facts,
  Cert.Prep.Gen.facts, Cert.PrepIdeal.Gen.facts, Cert.PrepRefIdeal.Gen.facts,
  Cert.Ffn.Gen.facts, Cert.FfnIdeal.Gen.facts, Cert.FfnRefIdeal.Gen.facts,
  Cert.Q.Gen.facts, Cert.QIdeal.Gen.facts, Cert.QRefIdeal.Gen.facts,
  Cert.OFwd.Gen.facts, Cert.OFwdIdeal.Gen.facts, Cert.OFwdRefIdeal.Gen.facts,
  Cert.GFwd.Gen.facts, Cert.GFwdIdeal.Gen.facts, Cert.GFwdRefIdeal.Gen.facts,
  Cert.Pre_attention_finite.Gen.facts, Cert.Pre_feed_forward_finite.Gen.facts,
  fun m ρ _ => Cert.Loss.Gen.frame m ρ, fun m ρ _ => Cert.LossIdeal.Gen.frame m ρ,
  fun m ρ _ => (θ_run Cert.LossRefIdeal.defs _ _).mono (fun r h => ⟨fun c => (h c).2.2, sem_eq_zero_of_no_sems (by decide) r.2⟩) (Cert.LossRefIdeal.Value.run m ρ),
  fun m ρ _ => Cert.Attn.Gen.frame m ρ, fun m ρ _ => Cert.AttnIdeal.Gen.frame m ρ, fun m ρ _ => Cert.AttnIdeal.Gen.frame m ρ,
  fun m ρ _ => (θ_run Cert.AttnRefIdeal.defs _ _).mono (fun r h => ⟨fun c => (h c).2.2.2.2.2, sem_eq_zero_of_no_sems (by decide) r.2⟩) (Cert.AttnRefIdeal.Value.run m ρ),
  fun m ρ _ => (θ_run Cert.AttnRefIdeal.defs _ _).mono (fun r h => ⟨fun c => (h c).2.2.2.2.2, sem_eq_zero_of_no_sems (by decide) r.2⟩) (Cert.AttnRefIdeal.Value.run m ρ),
  fun m ρ _ => Cert.O.Gen.frame m ρ, fun m ρ _ => Cert.OIdeal.Gen.frame m ρ,
  fun m ρ _ => (θ_run Cert.ORefIdeal.defs _ _).mono (fun r h => ⟨fun c => (h c).2.2.2.2.2, sem_eq_zero_of_no_sems (by decide) r.2⟩) (Cert.ORefIdeal.Value.run m ρ),
  fun m ρ _ => Cert.Glu.Gen.frame m ρ, fun m ρ _ => Cert.GluIdeal.Gen.frame m ρ,
  fun m ρ _ => (θ_run Cert.GluRefIdeal.defs _ _).mono (fun r h => ⟨fun c => (h c).2.2.2.2.2.2, sem_eq_zero_of_no_sems (by decide) r.2⟩) (Cert.GluRefIdeal.Value.run m ρ),
  fun m ρ _ => Cert.Prep.Gen.frame m ρ, fun m ρ _ => Cert.PrepIdeal.Gen.frame m ρ,
  fun m ρ _ => (θ_run Cert.PrepRefIdeal.defs _ _).mono (fun r h => ⟨fun c => (h c).2.2.2.2.2, sem_eq_zero_of_no_sems (by decide) r.2⟩) (Cert.PrepRefIdeal.Value.run m ρ),
  fun m ρ _ => Cert.Ffn.Gen.frame m ρ, fun m ρ _ => Cert.FfnIdeal.Gen.frame m ρ, fun m ρ _ => Cert.FfnIdeal.Gen.frame m ρ,
  fun m ρ _ => (θ_run Cert.FfnRefIdeal.defs _ _).mono (fun r h => ⟨fun c => (h c).2.2.2.2.2.2.2.2.2.2.2, sem_eq_zero_of_no_sems (by decide) r.2⟩) (Cert.FfnRefIdeal.Value.run m ρ),
  fun m ρ _ => (θ_run Cert.FfnRefIdeal.defs _ _).mono (fun r h => ⟨fun c => (h c).2.2.2.2.2.2.2.2.2.2.2, sem_eq_zero_of_no_sems (by decide) r.2⟩) (Cert.FfnRefIdeal.Value.run m ρ),
  fun m ρ _ => Cert.Q.Gen.frame m ρ, fun m ρ _ => Cert.QIdeal.Gen.frame m ρ,
  fun m ρ _ => (θ_run Cert.QRefIdeal.defs _ _).mono (fun r h => ⟨fun c => (h c).2.2.2.2.2.2.2.2.2.2, sem_eq_zero_of_no_sems (by decide) r.2⟩) (Cert.QRefIdeal.Value.run m ρ),
  fun m ρ _ => Cert.OFwd.Gen.frame m ρ, fun m ρ _ => Cert.OFwdIdeal.Gen.frame m ρ,
  fun m ρ _ => (θ_run Cert.OFwdRefIdeal.defs _ _).mono (fun r h => ⟨fun c => (h c).2, sem_eq_zero_of_no_sems (by decide) r.2⟩) (Cert.OFwdRefIdeal.Value.run m ρ),
  fun m ρ _ => Cert.GFwd.Gen.frame m ρ, fun m ρ _ => Cert.GFwdIdeal.Gen.frame m ρ,
  fun m ρ _ => (θ_run Cert.GFwdRefIdeal.defs _ _).mono (fun r h => ⟨fun c => (h c).2, sem_eq_zero_of_no_sems (by decide) r.2⟩) (Cert.GFwdRefIdeal.Value.run m ρ),
  trivial,
  Cert.LossProof.algebraic,
  ⟨IdealRules.named_const.statement Cert.AttnIdeal.κ "mask" .f32 0xF149F2CA#32 _ rfl,
   IdealRules.named_const.statement Cert.AttnIdeal.κ "exp2_scale" .f32 0x3E16C740#32 _ rfl,
   IdealRules.named_const.statement Cert.AttnIdeal.κ "scale" .f32 0x3DD105EC#32 _ rfl,
   IdealRules.named_const.statement Cert.AttnIdeal.κ "log2e" .f32 0x3FB8AA3B#32 _ rfl⟩,
  Cert.AttnProof.algebraic,
  trivial,
  Cert.OProof.algebraic,
  trivial,
  Cert.GluProof.algebraic,
  trivial,
  Cert.PrepProof.algebraic,
  trivial,
  Cert.FfnProof.algebraic,
  trivial,
  Cert.QProof.algebraic,
  trivial,
  Cert.OFwdProof.algebraic,
  trivial,
  Cert.GFwdProof.algebraic⟩

end Cert.Proof

end
